-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_all_finite [hPre_all_finite : Cert.Pre_all_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_all_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_all_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.1 = (fun _ => 1#1)
    ∧ (Cert.Pre_all_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2.1 = (fun _ => 1#1)
    ∧ (Cert.Pre_all_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_all_finite [hPre_all_finite : Cert.Pre_all_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_all_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_all_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.1 = (fun _ => 1#1)
    ∧ (Cert.Pre_all_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2.1 = (fun _ => 1#1)
    ∧ (Cert.Pre_all_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel11 (m : (ℓ : Loc Cert.Kernel11.nD Cert.Kernel11.τ Cert.Kernel11.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_all_finite [hKernel5Ideal : Cert.Kernel5Ideal.Facts] [hPre_all_finite : Cert.Pre_all_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_all_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_all_finite [hReference5Ideal : Cert.Reference5Ideal.Facts] [hPre_all_finite : Cert.Pre_all_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_all_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v3_1)) (v3 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v3_1) = v2 c
          ∧ r.2.mem ((c.tc : Thread Cert.KernelIdeal.nD Cert.KernelIdeal.τ).loc Cert.KernelIdeal.main_v3_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_v45) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)) (v3 : (c : Dev Cert.Kernel2Ideal.nD) → Buf (Elt Ideal) ((c.tc : Thread Cert.Kernel2Ideal.nD Cert.Kernel2Ideal.τ).loc Cert.Kernel2Ideal.main_v2_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_v2_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v0) = v1 c
          ∧ r.2.mem ((c.tc : Thread Cert.Reference2Ideal.nD Cert.Reference2Ideal.τ).loc Cert.Reference2Ideal.main_v1) = v2 c
          ∧ r.2.mem ((c.tc : Thread Cert.Reference2Ideal.nD Cert.Reference2Ideal.τ).loc Cert.Reference2Ideal.main_v25) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v79) = v0 c
          ∧ r.2.mem ((c.tc : Thread Cert.Reference4Ideal.nD Cert.Reference4Ideal.τ).loc Cert.Reference4Ideal.main_v61) = v1 c
          ∧ r.2.mem ((c.tc : Thread Cert.Reference4Ideal.nD Cert.Reference4Ideal.τ).loc Cert.Reference4Ideal.main_v41) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  IdealRules.named_const.Statement Cert.Kernel5Ideal.κ "never" .f32 0xC2D00000#32 ⊥

def algebraic_Kernel5Ideal_Reference5Ideal_pre_all_finite [hKernel5Ideal : Cert.Kernel5Ideal.Facts] [hReference5Ideal : Cert.Reference5Ideal.Facts] [hPre_all_finite : Cert.Pre_all_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_all_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v4_0)) (v2 : (c : Dev Cert.Kernel5Ideal.nD) → Buf (Elt Ideal) ((c.tc : Thread Cert.Kernel5Ideal.nD Cert.Kernel5Ideal.τ).loc Cert.Kernel5Ideal.main_v4_1)) (v3 : (c : Dev Cert.Kernel5Ideal.nD) → Buf (Elt Ideal) ((c.tc : Thread Cert.Kernel5Ideal.nD Cert.Kernel5Ideal.τ).loc Cert.Kernel5Ideal.main_v4_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v4_0) = v1 c
          ∧ r.2.mem ((c.tc : Thread Cert.Kernel5Ideal.nD Cert.Kernel5Ideal.τ).loc Cert.Kernel5Ideal.main_v4_1) = v2 c
          ∧ r.2.mem ((c.tc : Thread Cert.Kernel5Ideal.nD Cert.Kernel5Ideal.τ).loc Cert.Kernel5Ideal.main_v4_2) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_v52) = v1 c
          ∧ r.2.mem ((c.tc : Thread Cert.Reference5Ideal.nD Cert.Reference5Ideal.τ).loc Cert.Reference5Ideal.main_v50) = v2 c
          ∧ r.2.mem ((c.tc : Thread Cert.Reference5Ideal.nD Cert.Reference5Ideal.τ).loc Cert.Reference5Ideal.main_v48) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_2)) (v2 : (c : Dev Cert.Kernel6Ideal.nD) → Buf (Elt Ideal) ((c.tc : Thread Cert.Kernel6Ideal.nD Cert.Kernel6Ideal.τ).loc Cert.Kernel6Ideal.main_v2_0)) (v3 : (c : Dev Cert.Kernel6Ideal.nD) → Buf (Elt Ideal) ((c.tc : Thread Cert.Kernel6Ideal.nD Cert.Kernel6Ideal.τ).loc Cert.Kernel6Ideal.main_v2_1)) (v4 : (c : Dev Cert.Kernel6Ideal.nD) → Buf (Elt Ideal) ((c.tc : Thread Cert.Kernel6Ideal.nD Cert.Kernel6Ideal.τ).loc Cert.Kernel6Ideal.main_v2_2)) (v5 : (c : Dev Cert.Kernel6Ideal.nD) → Buf (Elt Ideal) ((c.tc : Thread Cert.Kernel6Ideal.nD Cert.Kernel6Ideal.τ).loc Cert.Kernel6Ideal.main_v2_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_2) = v1 c
          ∧ r.2.mem ((c.tc : Thread Cert.Kernel6Ideal.nD Cert.Kernel6Ideal.τ).loc Cert.Kernel6Ideal.main_v2_0) = v2 c
          ∧ r.2.mem ((c.tc : Thread Cert.Kernel6Ideal.nD Cert.Kernel6Ideal.τ).loc Cert.Kernel6Ideal.main_v2_1) = v3 c
          ∧ r.2.mem ((c.tc : Thread Cert.Kernel6Ideal.nD Cert.Kernel6Ideal.τ).loc Cert.Kernel6Ideal.main_v2_2) = v4 c
          ∧ r.2.mem ((c.tc : Thread Cert.Kernel6Ideal.nD Cert.Kernel6Ideal.τ).loc Cert.Kernel6Ideal.main_v2_3) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v77) = v0 c
          ∧ r.2.mem ((c.tc : Thread Cert.Reference6Ideal.nD Cert.Reference6Ideal.τ).loc Cert.Reference6Ideal.main_v90) = v1 c
          ∧ r.2.mem ((c.tc : Thread Cert.Reference6Ideal.nD Cert.Reference6Ideal.τ).loc Cert.Reference6Ideal.main_v91) = v2 c
          ∧ r.2.mem ((c.tc : Thread Cert.Reference6Ideal.nD Cert.Reference6Ideal.τ).loc Cert.Reference6Ideal.main_v73) = v3 c
          ∧ r.2.mem ((c.tc : Thread Cert.Reference6Ideal.nD Cert.Reference6Ideal.τ).loc Cert.Reference6Ideal.main_v92) = v4 c
          ∧ r.2.mem ((c.tc : Thread Cert.Reference6Ideal.nD Cert.Reference6Ideal.τ).loc Cert.Reference6Ideal.main_v20) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v3_0)) (v2 : (c : Dev Cert.Kernel7Ideal.nD) → Buf (Elt Ideal) ((c.tc : Thread Cert.Kernel7Ideal.nD Cert.Kernel7Ideal.τ).loc Cert.Kernel7Ideal.main_v3_2)) (v3 : (c : Dev Cert.Kernel7Ideal.nD) → Buf (Elt Ideal) ((c.tc : Thread Cert.Kernel7Ideal.nD Cert.Kernel7Ideal.τ).loc Cert.Kernel7Ideal.main_v4_0)) (v4 : (c : Dev Cert.Kernel7Ideal.nD) → Buf (Elt Ideal) ((c.tc : Thread Cert.Kernel7Ideal.nD Cert.Kernel7Ideal.τ).loc Cert.Kernel7Ideal.main_v4_1)) (v5 : (c : Dev Cert.Kernel7Ideal.nD) → Buf (Elt Ideal) ((c.tc : Thread Cert.Kernel7Ideal.nD Cert.Kernel7Ideal.τ).loc Cert.Kernel7Ideal.main_v4_2)) (v6 : (c : Dev Cert.Kernel7Ideal.nD) → Buf (Elt Ideal) ((c.tc : Thread Cert.Kernel7Ideal.nD Cert.Kernel7Ideal.τ).loc Cert.Kernel7Ideal.main_v5_0)) (v7 : (c : Dev Cert.Kernel7Ideal.nD) → Buf (Elt Ideal) ((c.tc : Thread Cert.Kernel7Ideal.nD Cert.Kernel7Ideal.τ).loc Cert.Kernel7Ideal.main_v5_1)) (v8 : (c : Dev Cert.Kernel7Ideal.nD) → Buf (Elt Ideal) ((c.tc : Thread Cert.Kernel7Ideal.nD Cert.Kernel7Ideal.τ).loc Cert.Kernel7Ideal.main_v5_2)) (v9 : (c : Dev Cert.Kernel7Ideal.nD) → Buf (Elt Ideal) ((c.tc : Thread Cert.Kernel7Ideal.nD Cert.Kernel7Ideal.τ).loc Cert.Kernel7Ideal.main_v5_3)) (v10 : (c : Dev Cert.Kernel7Ideal.nD) → Buf (Elt Ideal) ((c.tc : Thread Cert.Kernel7Ideal.nD Cert.Kernel7Ideal.τ).loc Cert.Kernel7Ideal.main_v5_4)) (v11 : (c : Dev Cert.Kernel7Ideal.nD) → Buf (Elt Ideal) ((c.tc : Thread Cert.Kernel7Ideal.nD Cert.Kernel7Ideal.τ).loc Cert.Kernel7Ideal.main_v5_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v3_0) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_v4_0) = v3 c
          ∧ r.2.mem ((c.tc : Thread Cert.Kernel7Ideal.nD Cert.Kernel7Ideal.τ).loc Cert.Kernel7Ideal.main_v4_1) = v4 c
          ∧ r.2.mem ((c.tc : Thread Cert.Kernel7Ideal.nD Cert.Kernel7Ideal.τ).loc Cert.Kernel7Ideal.main_v4_2) = v5 c
          ∧ r.2.mem ((c.tc : Thread Cert.Kernel7Ideal.nD Cert.Kernel7Ideal.τ).loc Cert.Kernel7Ideal.main_v5_0) = v6 c
          ∧ r.2.mem ((c.tc : Thread Cert.Kernel7Ideal.nD Cert.Kernel7Ideal.τ).loc Cert.Kernel7Ideal.main_v5_1) = v7 c
          ∧ r.2.mem ((c.tc : Thread Cert.Kernel7Ideal.nD Cert.Kernel7Ideal.τ).loc Cert.Kernel7Ideal.main_v5_2) = v8 c
          ∧ r.2.mem ((c.tc : Thread Cert.Kernel7Ideal.nD Cert.Kernel7Ideal.τ).loc Cert.Kernel7Ideal.main_v5_3) = v9 c
          ∧ r.2.mem ((c.tc : Thread Cert.Kernel7Ideal.nD Cert.Kernel7Ideal.τ).loc Cert.Kernel7Ideal.main_v5_4) = v10 c
          ∧ r.2.mem ((c.tc : Thread Cert.Kernel7Ideal.nD Cert.Kernel7Ideal.τ).loc Cert.Kernel7Ideal.main_v5_5) = v11 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v179) = v0 c
          ∧ r.2.mem ((c.tc : Thread Cert.Reference7Ideal.nD Cert.Reference7Ideal.τ).loc Cert.Reference7Ideal.main_v180) = v1 c
          ∧ r.2.mem ((c.tc : Thread Cert.Reference7Ideal.nD Cert.Reference7Ideal.τ).loc Cert.Reference7Ideal.main_v193) = v2 c
          ∧ r.2.mem ((c.tc : Thread Cert.Reference7Ideal.nD Cert.Reference7Ideal.τ).loc Cert.Reference7Ideal.main_v95) = v3 c
          ∧ r.2.mem ((c.tc : Thread Cert.Reference7Ideal.nD Cert.Reference7Ideal.τ).loc Cert.Reference7Ideal.main_v194) = v4 c
          ∧ r.2.mem ((c.tc : Thread Cert.Reference7Ideal.nD Cert.Reference7Ideal.τ).loc Cert.Reference7Ideal.main_v46) = v5 c
          ∧ r.2.mem ((c.tc : Thread Cert.Reference7Ideal.nD Cert.Reference7Ideal.τ).loc Cert.Reference7Ideal.main_v195) = v6 c
          ∧ r.2.mem ((c.tc : Thread Cert.Reference7Ideal.nD Cert.Reference7Ideal.τ).loc Cert.Reference7Ideal.main_v196) = v7 c
          ∧ r.2.mem ((c.tc : Thread Cert.Reference7Ideal.nD Cert.Reference7Ideal.τ).loc Cert.Reference7Ideal.main_v173) = v8 c
          ∧ r.2.mem ((c.tc : Thread Cert.Reference7Ideal.nD Cert.Reference7Ideal.τ).loc Cert.Reference7Ideal.main_v175) = v9 c
          ∧ r.2.mem ((c.tc : Thread Cert.Reference7Ideal.nD Cert.Reference7Ideal.τ).loc Cert.Reference7Ideal.main_v159) = v10 c
          ∧ r.2.mem ((c.tc : Thread Cert.Reference7Ideal.nD Cert.Reference7Ideal.τ).loc Cert.Reference7Ideal.main_v178) = v11 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)) (v2 : (c : Dev Cert.Kernel8Ideal.nD) → Buf (Elt Ideal) ((c.tc : Thread Cert.Kernel8Ideal.nD Cert.Kernel8Ideal.τ).loc Cert.Kernel8Ideal.main_v3_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_v3_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_v26) = v1 c
          ∧ r.2.mem ((c.tc : Thread Cert.Reference8Ideal.nD Cert.Reference8Ideal.τ).loc Cert.Reference8Ideal.main_v27) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v6_0)) (v1 : (c : Dev Cert.Kernel9Ideal.nD) → Buf (Elt Ideal) ((c.tc : Thread Cert.Kernel9Ideal.nD Cert.Kernel9Ideal.τ).loc Cert.Kernel9Ideal.main_v6_1)) (v2 : (c : Dev Cert.Kernel9Ideal.nD) → Buf (Elt Ideal) ((c.tc : Thread Cert.Kernel9Ideal.nD Cert.Kernel9Ideal.τ).loc Cert.Kernel9Ideal.main_v6_2)) (v3 : (c : Dev Cert.Kernel9Ideal.nD) → Buf (Elt Ideal) ((c.tc : Thread Cert.Kernel9Ideal.nD Cert.Kernel9Ideal.τ).loc Cert.Kernel9Ideal.main_v6_3)) (v4 : (c : Dev Cert.Kernel9Ideal.nD) → Buf (Elt Ideal) ((c.tc : Thread Cert.Kernel9Ideal.nD Cert.Kernel9Ideal.τ).loc Cert.Kernel9Ideal.main_v6_4)) (v5 : (c : Dev Cert.Kernel9Ideal.nD) → Buf (Elt Ideal) ((c.tc : Thread Cert.Kernel9Ideal.nD Cert.Kernel9Ideal.τ).loc Cert.Kernel9Ideal.main_v6_5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6_0) = v0 c
          ∧ r.2.mem ((c.tc : Thread Cert.Kernel9Ideal.nD Cert.Kernel9Ideal.τ).loc Cert.Kernel9Ideal.main_v6_1) = v1 c
          ∧ r.2.mem ((c.tc : Thread Cert.Kernel9Ideal.nD Cert.Kernel9Ideal.τ).loc Cert.Kernel9Ideal.main_v6_2) = v2 c
          ∧ r.2.mem ((c.tc : Thread Cert.Kernel9Ideal.nD Cert.Kernel9Ideal.τ).loc Cert.Kernel9Ideal.main_v6_3) = v3 c
          ∧ r.2.mem ((c.tc : Thread Cert.Kernel9Ideal.nD Cert.Kernel9Ideal.τ).loc Cert.Kernel9Ideal.main_v6_4) = v4 c
          ∧ r.2.mem ((c.tc : Thread Cert.Kernel9Ideal.nD Cert.Kernel9Ideal.τ).loc Cert.Kernel9Ideal.main_v6_5) = v5 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v42) = v0 c
          ∧ r.2.mem ((c.tc : Thread Cert.Reference9Ideal.nD Cert.Reference9Ideal.τ).loc Cert.Reference9Ideal.main_v55) = v1 c
          ∧ r.2.mem ((c.tc : Thread Cert.Reference9Ideal.nD Cert.Reference9Ideal.τ).loc Cert.Reference9Ideal.main_v56) = v2 c
          ∧ r.2.mem ((c.tc : Thread Cert.Reference9Ideal.nD Cert.Reference9Ideal.τ).loc Cert.Reference9Ideal.main_v57) = v3 c
          ∧ r.2.mem ((c.tc : Thread Cert.Reference9Ideal.nD Cert.Reference9Ideal.τ).loc Cert.Reference9Ideal.main_v58) = v4 c
          ∧ r.2.mem ((c.tc : Thread Cert.Reference9Ideal.nD Cert.Reference9Ideal.τ).loc Cert.Reference9Ideal.main_v29) = v5 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel11 : Cert.Kernel11.Facts) (hPre_all_finite : Cert.Pre_all_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_all_finite (hKernel5Ideal := hKernel5Ideal) (hPre_all_finite := hPre_all_finite)
    ∧ quiescent_Reference5Ideal (hReference5Ideal := hReference5Ideal)
    ∧ quiescent_Reference5Ideal_pre_all_finite (hReference5Ideal := hReference5Ideal) (hPre_all_finite := hPre_all_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel11 (hKernel11 := hKernel11)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_all_finite (hKernel5Ideal := hKernel5Ideal) (hReference5Ideal := hReference5Ideal) (hPre_all_finite := hPre_all_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_all_finite.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S8192x1024 .f32) (main_arg2 : FVec F S8192x1024 .f32) (main_arg3 : FVec F S8192x1024 .f32) : IVec S8192x1024 1 × IVec S8192x1024 1 × IVec S8192x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Kernel.lean ====
abbrev S8192x1024 : Shape := ⟨2, ![8192, 1024]⟩
abbrev S8192x256 : Shape := ⟨2, ![8192, 256]⟩
abbrev S1024x1024 : Shape := ⟨2, ![1024, 1024]⟩
abbrev S256x1024 : Shape := ⟨2, ![256, 1024]⟩
abbrev S512x1024 : Shape := ⟨2, ![512, 1024]⟩
abbrev S512x256 : Shape := ⟨2, ![512, 256]⟩

abbrev nBuf : Space → Nat
  | .hbm => 13
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024x1024, .f32⟩
  | .hbm, ⟨3, _⟩ => ⟨S256x1024, .f32⟩
  | .hbm, ⟨4, _⟩ => ⟨S8192x1024, .f32⟩
  | .hbm, ⟨5, _⟩ => ⟨S1024x1024, .bf16⟩
  | .hbm, ⟨6, _⟩ => ⟨S256x1024, .bf16⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | .hbm, ⟨12, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1024x1024, .bf16⟩
  | .local _ .vmem, ⟨5, _⟩ => ⟨S256x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1024x1024, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S8192x1024 : Shape := ⟨2, ![8192, 1024]⟩
abbrev S8192x256 : Shape := ⟨2, ![8192, 256]⟩
abbrev S1024x1024 : Shape := ⟨2, ![1024, 1024]⟩
abbrev S256x1024 : Shape := ⟨2, ![256, 1024]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024x1024, .f32⟩
  | .hbm, ⟨3, _⟩ => ⟨S256x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== Kernel2.lean ====
abbrev S8192x1024 : Shape := ⟨2, ![8192, 1024]⟩
abbrev S8192x256 : Shape := ⟨2, ![8192, 256]⟩
abbrev S1024x1024 : Shape := ⟨2, ![1024, 1024]⟩
abbrev S256x1024 : Shape := ⟨2, ![256, 1024]⟩
abbrev S1x1 : Shape := ⟨2, ![1, 1]⟩
abbrev S512x1024 : Shape := ⟨2, ![512, 1024]⟩
abbrev S512x256 : Shape := ⟨2, ![512, 256]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 11
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1024x1024, .f32⟩
  | .hbm, ⟨4, _⟩ => ⟨S256x1024, .f32⟩
  | .hbm, ⟨5, _⟩ => ⟨S1024x1024, .bf16⟩
  | .hbm, ⟨6, _⟩ => ⟨S256x1024, .bf16⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S256x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_22 : BitVec 32 := 0#32
  let v36 : BitVec 1 := Scalar.cmpi .ne v35 c0_i32_22
  v36

def k0_cond2 (i : grid0.Coords) : BitVec 1 :=
  let arg0 : BitVec 32 := BitVec.ofNat 32 (i 0).val
  let c0_i32_23 : BitVec 32 := 0#32
  let v37 : BitVec 1 := Scalar.cmpi .sgt arg0 c0_i32_23
  let v38 : BitVec 32 := Scalar.extui v37
  let c0_i32_24 : BitVec 32 := 0#32
  let v39 : BitVec 1 := Scalar.cmpi .ne v38 c0_i32_24
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S8192x1024 : Shape := ⟨2, ![8192, 1024]⟩
abbrev S8192x256 : Shape := ⟨2, ![8192, 256]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S1x1 : Shape := ⟨2, ![1, 1]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1024x1024, .f32⟩
  | .hbm, ⟨4, _⟩ => ⟨S256x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S8192x1024, .f32⟩
  | .hbm, ⟨39, _⟩ => ⟨S8192x1024, .f32⟩
  | .hbm, ⟨40, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_cst_6 : Ref sig .tc := ⟨.hbm, 31, rfl⟩
abbrev main_cst_7 : Ref sig .tc := ⟨.hbm, 32, rfl⟩
abbrev main_v19 : Ref sig .tc := ⟨.hbm, 33, rfl⟩
abbrev main_v20 : Ref sig .tc := ⟨.hbm, 34, rfl⟩
abbrev main_cst_8 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S512x1024 : Shape := ⟨2, ![512, 1024]⟩
abbrev S4x1024x256 : Shape := ⟨3, ![4, 1024, 256]⟩
abbrev S512x256 : Shape := ⟨2, ![512, 256]⟩
abbrev S1x1024x256 : Shape := ⟨3, ![1, 1024, 256]⟩
abbrev S1024x256 : Shape := ⟨2, ![1024, 256]⟩
abbrev S512 : Shape := ⟨1, ![512]⟩
abbrev S512x1 : Shape := ⟨2, ![512, 1]⟩
abbrev S1024 : Shape := ⟨1, ![1024]⟩

abbrev nBuf : Space → Nat
  | .hbm => 12
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1024x8x256, .f32⟩
  | .hbm, ⟨7, _⟩ => ⟨S8x1024x256, .f32⟩
  | .hbm, ⟨8, _⟩ => ⟨S8x1024x256, .bf16⟩
  | .hbm, ⟨9, _⟩ => ⟨S8192x1024, .bf16⟩
  | .hbm, ⟨10, _⟩ => ⟨S8192x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S8x1024x256, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v91 : BitVec 1 := Scalar.cmpi .eq arg0 c0_i32
  let v92 : BitVec 32 := Scalar.extui v91
  let c0_i32_31 : BitVec 32 := 0#32
  let v93 : BitVec 1 := Scalar.cmpi .ne v92 c0_i32_31
  v93

def k0_cond2 (i : grid0.Coords) : BitVec 1 :=
  let arg0 : BitVec 32 := BitVec.ofNat 32 (i 0).val
  let c0_i32_32 : BitVec 32 := 0#32
  let v94 : BitVec 1 := Scalar.cmpi .sgt arg0 c0_i32_32
  let v95 : BitVec 32 := Scalar.extui v94
  let c0_i32_33 : BitVec 32 := 0#32
  let v96 : BitVec 1 := Scalar.cmpi .ne v95 c0_i32_33
  v96

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S8192x1024 : Shape := ⟨2, ![8192, 1024]⟩
abbrev S1x1024 : Shape := ⟨2, ![1, 1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x2048, .f32⟩
  | .hbm, ⟨26, _⟩ => ⟨S8192x1024, .f32⟩
  | .hbm, ⟨27, _⟩ => ⟨S8192x1024, .f32⟩
  | .hbm, ⟨28, _⟩ => ⟨S8192x2048, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S256x1024 : Shape := ⟨2, ![256, 1024]⟩
abbrev S4x1024x256 : Shape := ⟨3, ![4, 1024, 256]⟩
abbrev S256x256 : Shape := ⟨2, ![256, 256]⟩
abbrev S1x1024x256 : Shape := ⟨3, ![1, 1024, 256]⟩
abbrev S1024x256 : Shape := ⟨2, ![1024, 256]⟩
abbrev S256 : Shape := ⟨1, ![256]⟩
abbrev S256x1 : Shape := ⟨2, ![256, 1]⟩
abbrev S1024 : Shape := ⟨1, ![1024]⟩

abbrev nBuf : Space → Nat
  | .hbm => 20
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x2048, .f32⟩
  | .hbm, ⟨4, _⟩ => ⟨S1024x2048, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S1024x8x256, .f32⟩
  | .hbm, ⟨11, _⟩ => ⟨S8x1024x256, .f32⟩
  | .hbm, ⟨12, _⟩ => ⟨S8x1024x256, .bf16⟩
  | .hbm, ⟨13, _⟩ => ⟨S1024x8x256, .f32⟩
  | .hbm, ⟨14, _⟩ => ⟨S8x1024x256, .f32⟩
  | .hbm, ⟨15, _⟩ => ⟨S8x1024x256, .bf16⟩
  | .hbm, ⟨16, _⟩ => ⟨S8192x1024, .bf16⟩
  | .hbm, ⟨17, _⟩ => ⟨S8192x1024, .f32⟩
  | .hbm, ⟨18, _⟩ => ⟨S1x1024, .f32⟩
  | .hbm, ⟨19, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | .local _ .vmem, ⟨14, _⟩ => ⟨S8x1024x256, .bf16⟩
  | .local _ .vmem, ⟨15, _⟩ => ⟨S8x1024x256, .bf16⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v177 : BitVec 1 := Scalar.cmpi .eq arg0 c0_i32
  let v178 : BitVec 32 := Scalar.extui v177
  let c0_i32_58 : BitVec 32 := 0#32
  let v179 : BitVec 1 := Scalar.cmpi .ne v178 c0_i32_58
  v179

def k0_cond2 (i : grid0.Coords) : BitVec 1 :=
  let arg0 : BitVec 32 := BitVec.ofNat 32 (i 0).val
  let c0_i32_59 : BitVec 32 := 0#32
  let v180 : BitVec 1 := Scalar.cmpi .sgt arg0 c0_i32_59
  let v181 : BitVec 32 := Scalar.extui v180
  let c0_i32_60 : BitVec 32 := 0#32
  let v182 : BitVec 1 := Scalar.cmpi .ne v181 c0_i32_60
  v182

def k0_cond3 (i : grid0.Coords) : BitVec 1 :=
  let arg0 : BitVec 32 := BitVec.ofNat 32 (i 0).val
  let c0_i32_61 : BitVec 32 := 0#32
  let v183 : BitVec 1 := Scalar.cmpi .eq arg0 c0_i32_61
  let v184 : BitVec 32 := Scalar.extui v183
  let c0_i32_62 : BitVec 32 := 0#32
  let v185 : BitVec 1 := Scalar.cmpi .ne v184 c0_i32_62
  v185

def k0_cond4 (i : grid0.Coords) : BitVec 1 :=
  let arg0 : BitVec 32 := BitVec.ofNat 32 (i 0).val
  let c0_i32_63 : BitVec 32 := 0#32
  let v186 : BitVec 1 := Scalar.cmpi .sgt arg0 c0_i32_63
  let v187 : BitVec 32 := Scalar.extui v186
  let c0_i32_64 : BitVec 32 := 0#32
  let v188 : BitVec 1 := Scalar.cmpi .ne v187 c0_i32_64
  v188

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference4Ideal.lean ====
abbrev S8192x1024 : Shape := ⟨2, ![8192, 1024]⟩
abbrev S1x1024 : Shape := ⟨2, ![1, 1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S1024 : Shape := ⟨1, ![1024]⟩

abbrev nBuf : Space → Nat
  | .hbm => 106
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x2048, .f32⟩
  | .hbm, ⟨4, _⟩ => ⟨S1024x2048, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x2048, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x2048, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x2048, .f32⟩
  | .hbm, ⟨55, _⟩ => ⟨S8192x2048, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1, .f32⟩
  | .hbm, ⟨95, _⟩ => ⟨S_, .f32⟩
  | .hbm, ⟨96, _⟩ => ⟨S8192x1, .f32⟩
  | .hbm, ⟨97, _⟩ => ⟨S8192x1, .f32⟩
  | .hbm, ⟨98, _⟩ => ⟨S_, .f32⟩
  | .hbm, ⟨99, _⟩ => ⟨S8192, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_13 : Ref sig .tc := ⟨.hbm, 95, rfl⟩
abbrev main_v71 : Ref sig .tc := ⟨.hbm, 96, rfl⟩
abbrev main_v72 : Ref sig .tc := ⟨.hbm, 97, rfl⟩
abbrev main_cst_14 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩

abbrev nD : Nat := 1
abbrev τ : Topo := Topo.v7x

variable {F : FTy → Type} [FloatOps F]
-- ==== Kernel5.lean ====
abbrev S8192x1024 : Shape := ⟨2, ![8192, 1024]⟩
abbrev S256x256 : Shape := ⟨2, ![256, 256]⟩
abbrev S8192x256 : Shape := ⟨2, ![8192, 256]⟩
abbrev S1x256 : Shape := ⟨2, ![1, 256]⟩
abbrev S256x1 : Shape := ⟨2, ![256, 1]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 12
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .local _ .vmem, ⟨0, _⟩ => ⟨S256x256, .bf16⟩
  | .local _ .vmem, ⟨1, _⟩ => ⟨S256x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .bf16⟩
  | .local _ .vmem, ⟨11, _⟩ => ⟨S256x256, .bf16⟩
  | .local _ .vmem, ⟨12, _⟩ => ⟨S8192x256, .bf16⟩
  | .local _ .vmem, ⟨13, _⟩ => ⟨S8192x256, .bf16⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S8192x256, .f32⟩
  | .local _ .vmem, ⟨23, _⟩ => ⟨S8192x256, .f32⟩
  | .local _ .vmem, ⟨24, _⟩ => ⟨S8192x256, .f32⟩
  | .local _ .vmem, ⟨25, _⟩ => ⟨S8192x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c256_i32_12 : BitVec 32 := 256#32
  let v51 : BitVec 32 := Scalar.muli arg1 c256_i32_12
  v51
def k0_off1 (i : grid0.Coords) : Fin 2 → Nat :=
  let arg1 : BitVec 32 := BitVec.ofNat 32 (i 1).val
  let c256_i32_12 : BitVec 32 := 256#32
  let v51 : BitVec 32 := Scalar.muli arg1 c256_i32_12
  let v52 : BitVec 32 := v51
  let v53 : Index := Scalar.indexCast v52
  let c0_13 : Index := 0#32
  ![v53.toNat, 0]
def k0_mult2 (arg7 : BitVec 32) : BitVec 32 :=
  let c256_i32_82 : BitVec 32 := 256#32
  let v274 : BitVec 32 := Scalar.muli arg7 c256_i32_82
  v274

def k0_off2 (arg7 : BitVec 32) : Fin 2 → Nat :=
  let c256_i32_82 : BitVec 32 := 256#32
  let v274 : BitVec 32 := Scalar.muli arg7 c256_i32_82
  let v275 : BitVec 32 := v274
  let v276 : Index := Scalar.indexCast v275
  let c0_83 : Index := 0#32
  ![v276.toNat, 0]

def k0_chk1 (arg7 : BitVec 32) : Prop :=
  (256 ∣ (k0_mult2 arg7).toNat) ∧
  (∀ a, (k0_off2 arg7) a + S256x256.size a ≤ S8192x256.size a)
theorem k0_mult2_dvd : ∀ (arg7 : BitVec 32) (k0_hw1 : k0_chk1 arg7), 256 ∣ (k0_mult2 arg7).toNat := fun arg7 k0_hw1 => k0_hw1.1
theorem k0_off2_inb : ∀ (arg7 : BitVec 32) (k0_hw1 : k0_chk1 arg7), ∀ a, (k0_off2 arg7) a + S256x256.size a ≤ S8192x256.size a := fun arg7 k0_hw1 => k0_hw1.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 32], ![false, false]⟩

def k1_mult1 (i : grid1.Coords) : BitVec 32 :=
  let arg1 : BitVec 32 := BitVec.ofNat 32 (i 1).val
  let c256_i32_32 : BitVec 32 := 256#32
  let v111 : BitVec 32 := Scalar.muli arg1 c256_i32_32
  v111
def k1_off1 (i : grid1.Coords) : Fin 2 → Nat :=
  let arg1 : BitVec 32 := BitVec.ofNat 32 (i 1).val
  let c256_i32_32 : BitVec 32 := 256#32
  let v111 : BitVec 32 := Scalar.muli arg1 c256_i32_32
  let v112 : BitVec 32 := v111
  let v113 : Index := Scalar.indexCast v112
  let c0_33 : Index := 0#32
  ![v113.toNat, 0]
def k1_mult2 (arg11 : BitVec 32) : BitVec 32 :=
  let c256_i32_133 : BitVec 32 := 256#32
  let v430 : BitVec 32 := Scalar.muli arg11 c256_i32_133
  v430

def k1_off2 (arg11 : BitVec 32) : Fin 2 → Nat :=
  let c256_i32_133 : BitVec 32 := 256#32
  let v430 : BitVec 32 := Scalar.muli arg11 c256_i32_133
  let v431 : BitVec 32 := v430
  let v432 : Index := Scalar.indexCast v431
  let c0_134 : Index := 0#32
  ![v432.toNat, 0]

def k1_chk1 (arg11 : BitVec 32) : Prop :=
  (256 ∣ (k1_mult2 arg11).toNat) ∧
  (∀ a, (k1_off2 arg11) a + S256x256.size a ≤ S8192x256.size a)
theorem k1_mult2_dvd : ∀ (arg11 : BitVec 32) (k1_hw1 : k1_chk1 arg11), 256 ∣ (k1_mult2 arg11).toNat := fun arg11 k1_hw1 => k1_hw1.1
theorem k1_off2_inb : ∀ (arg11 : BitVec 32) (k1_hw1 : k1_chk1 arg11), ∀ a, (k1_off2 arg11) a + S256x256.size a ≤ S8192x256.size a := fun arg11 k1_hw1 => k1_hw1.2

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S8192x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S8192x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S8192x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== Kernel5Ideal.lean ====
variable {F : FTy → Type} [FloatOps F] [Named F]
def κ : String → Option EReal := fun
  | "never" => some ⊥
  | _ => none
-- ==== Reference5Ideal.lean ====
abbrev S8192x1024 : Shape := ⟨2, ![8192, 1024]⟩
abbrev S8192x16x64 : Shape := ⟨3, ![8192, 16, 64]⟩
abbrev S16x8192x64 : Shape := ⟨3, ![16, 8192, 64]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩

abbrev nBuf : Space → Nat
  | .hbm => 177
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x16x64, .f32⟩
  | 5 => ⟨S16x8192x64, .f32⟩
  | 6 => ⟨S8192x16x64, .f32⟩
  | 7 => ⟨S16x8192x64, .f32⟩
  | 8 => ⟨S8192x16x64, .f32⟩
  | 9 => ⟨S16x8192x64, .f32⟩
  | 10 => ⟨S16x8192x8192, .f32⟩
  | 11 => ⟨S_, .f32⟩
  | 12 => ⟨S16x8192x8192, .f32⟩
  | 13 => ⟨S16x8192x8192, .f32⟩
  | 14 => ⟨S8192, .i32⟩
  | 15 => ⟨S1x8192, .i32⟩
  | 16 => ⟨S8192, .i32⟩
  | 17 => ⟨S8192x1, .i32⟩
  | 18 => ⟨S8192x8192, .i32⟩
  | 19 => ⟨S8192x8192, .i32⟩
  | 20 => ⟨S8192x8192, .i1⟩
  | 21 => ⟨S16x8192x8192, .f32⟩
  | 22 => ⟨S16x8192x8192, .f32⟩
  | 23 => ⟨S_, .f32⟩
  | 24 => ⟨S16x8192x8192, .f32⟩
  | 25 => ⟨S16x8192x8192, .f32⟩
  | 26 => ⟨S16x8192x8192, .f32⟩
  | 27 => ⟨S16x8192x8192, .f32⟩
  | 28 => ⟨S16x8192x8192, .i1⟩
  | 29 => ⟨S16x8192x8192, .f32⟩
  | 30 => ⟨S16x8192x8192, .f32⟩
  | 31 => ⟨S16x8192x8192, .f32⟩
  | 32 => ⟨S16x8192x8192, .f32⟩
  | 33 => ⟨S16x8192x8192, .f32⟩
  | 34 => ⟨S16x8192x8192, .f32⟩
  | 35 => ⟨S16x8192x8192, .f32⟩
  | 36 => ⟨S16x8192x8192, .f32⟩
  | 37 => ⟨S_, .f32⟩
  | 38 => ⟨S16x8192x8192, .f32⟩
  | 39 => ⟨S16x8192x8192, .i1⟩
  | 40 => ⟨S_, .f32⟩
  | 41 => ⟨S16x8192x8192, .f32⟩
  | 42 => ⟨S16x8192x8192, .f32⟩
  | 43 => ⟨S_, .f32⟩
  | 44 => ⟨S16x8192x8192, .f32⟩
  | 45 => ⟨S16x8192x8192, .i1⟩
  | 46 => ⟨S_, .f32⟩
  | 47 => ⟨S16x8192x8192, .f32⟩
  | 48 => ⟨S16x8192x8192, .f32⟩
  | 49 => ⟨S16x8192x8192, .f32⟩
  | 50 => ⟨S16x8192x8192, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S16x8192x8192, .f32⟩
  | 59 => ⟨S16x8192x8192, .i1⟩
  | 60 => ⟨S_, .f32⟩
  | 61 => ⟨S16x8192x8192, .f32⟩
  | 62 => ⟨S16x8192x8192, .f32⟩
  | 63 => ⟨S16x8192x8192, .f32⟩
  | 64 => ⟨S16x8192x8192, .f32⟩
  | 65 => ⟨S16x8192x8192, .f32⟩
  | 66 => ⟨S_, .f32⟩
  | 67 => ⟨S16x8192x8192, .f32⟩
  | 68 => ⟨S16x8192x8192, .f32⟩
  | 69 => ⟨S16x8192x8192, .f32⟩
  | 70 => ⟨S_, .f32⟩
  | 71 => ⟨S_, .f32⟩
  | 72 => ⟨S16x8192x8192, .i1⟩
  | 73 => ⟨S16x8192x8192, .f32⟩
  | 74 => ⟨S16x8192x8192, .f32⟩
  | 75 => ⟨S_, .f32⟩
  | 76 => ⟨S16x8192x8192, .f32⟩
  | 77 => ⟨S_, .f32⟩
  | 78 => ⟨S_, .f32⟩
  | 79 => ⟨S16x8192x8192, .f32⟩
  | 80 => ⟨S16x8192x8192, .f32⟩
  | 81 => ⟨S16x8192x8192, .f32⟩
  | 82 => ⟨S_, .f32⟩
  | 83 => ⟨S16x8192x8192, .f32⟩
  | 84 => ⟨S16x8192x8192, .f32⟩
  | 85 => ⟨S16x8192x8192, .f32⟩
  | 86 => ⟨S16x8192x8192, .f32⟩
  | 87 => ⟨S16x8192x8192, .i1⟩
  | 88 => ⟨S16x8192x8192, .f32⟩
  | 89 => ⟨S16x8192x8192, .f32⟩
  | 90 => ⟨S16x8192x8192, .f32⟩
  | 91 => ⟨S16x8192x8192, .f32⟩
  | 92 => ⟨S16x8192x8192, .f32⟩
  | 93 => ⟨S16x8192x8192, .f32⟩
  | 94 => ⟨S16x8192x8192, .f32⟩
  | 95 => ⟨S16x8192x8192, .f32⟩
  | 96 => ⟨S_, .f32⟩
  | 97 => ⟨S16x8192x8192, .f32⟩
  | 98 => ⟨S16x8192x8192, .i1⟩
  | 99 => ⟨S_, .f32⟩
  | 100 => ⟨S16x8192x8192, .f32⟩
  | 101 => ⟨S16x8192x8192, .f32⟩
  | 102 => ⟨S_, .f32⟩
  | 103 => ⟨S16x8192x8192, .f32⟩
  | 104 => ⟨S16x8192x8192, .i1⟩
  | 105 => ⟨S_, .f32⟩
  | 106 => ⟨S16x8192x8192, .f32⟩
  | 107 => ⟨S16x8192x8192, .f32⟩
  | 108 => ⟨S16x8192x8192, .f32⟩
  | 109 => ⟨S16x8192x8192, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S16x8192x8192, .f32⟩
  | 118 => ⟨S16x8192x8192, .i1⟩
  | 119 => ⟨S_, .f32⟩
  | 120 => ⟨S16x8192x8192, .f32⟩
  | 121 => ⟨S16x8192x8192, .f32⟩
  | 122 => ⟨S16x8192x8192, .f32⟩
  | 123 => ⟨S16x8192x8192, .f32⟩
  | 124 => ⟨S16x8192x8192, .f32⟩
  | 125 => ⟨S_, .f32⟩
  | 126 => ⟨S16x8192x8192, .f32⟩
  | 127 => ⟨S16x8192x8192, .f32⟩
  | _ => ⟨S8192x1024, .f32⟩

abbrev hbmTy0_1 (i : Nat) : BufTy := match i % 128 with
  | 0 => ⟨S16x8192x8192, .f32⟩
  | 1 => ⟨S16x8192x8192, .f32⟩
  | 2 => ⟨S16x8192x8192, .f32⟩
  | 3 => ⟨S_, .f32⟩
  | 4 => ⟨S_, .f32⟩
  | 5 => ⟨S16x8192x8192, .i1⟩
  | 6 => ⟨S16x8192x8192, .f32⟩
  | 7 => ⟨S16x8192x8192, .f32⟩
  | 8 => ⟨S_, .f32⟩
  | 9 => ⟨S16x8192x8192, .f32⟩
  | 10 => ⟨S16x8192x64, .f32⟩
  | 11 => ⟨S8192x16x64, .f32⟩
  | 12 => ⟨S8192x1024, .f32⟩
  | 13 => ⟨S8192x16x64, .f32⟩
  | 14 => ⟨S16x8192x64, .f32⟩
  | 15 => ⟨S16x64x8192, .f32⟩
  | 16 => ⟨S16x8192x64, .f32⟩
  | 17 => ⟨S16x8192x8192, .f32⟩
  | 18 => ⟨S_, .f32⟩
  | 19 => ⟨S16x8192x8192, .f32⟩
  | 20 => ⟨S16x8192x8192, .f32⟩
  | 21 => ⟨S16x8192x8192, .f32⟩
  | 22 => ⟨S16x8192x8192, .f32⟩
  | 23 => ⟨S16x8192x8192, .f32⟩
  | 24 => ⟨S16x8192x8192, .f32⟩
  | 25 => ⟨S16x8192x8192, .f32⟩
  | 26 => ⟨S_, .f32⟩
  | 27 => ⟨S_, .f32⟩
  | 28 => ⟨S16x8192x8192, .f32⟩
  | 29 => ⟨S16x8192x8192, .f32⟩
  | 30 => ⟨S_, .f32⟩
  | 31 => ⟨S16x8192x8192, .f32⟩
  | 32 => ⟨S16x8192x8192, .f32⟩
  | 33 => ⟨S16x8192x8192, .f32⟩
  | 34 => ⟨S16x8192x8192, .f32⟩
  | 35 => ⟨S16x8192x8192, .f32⟩
  | 36 => ⟨S16x8192x8192, .f32⟩
  | 37 => ⟨S16x8192x8192, .f32⟩
  | 38 => ⟨S_, .f32⟩
  | 39 => ⟨S16x8192x8192, .f32⟩
  | 40 => ⟨S16x8192x8192, .f32⟩
  | 41 => ⟨S16x8192x64, .f32⟩
  | 42 => ⟨S16x8192x64, .f32⟩
  | 43 => ⟨S8192x16x64, .f32⟩
  | 44 => ⟨S8192x1024, .f32⟩
  | 45 => ⟨S8192x16x64, .f32⟩
  | 46 => ⟨S8192x1024, .f32⟩
  | 47 => ⟨S8192x16x64, .f32⟩
  | 48 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v17_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v17_2 : Ref sig .tc := ⟨.hbm, 68, rfl⟩
abbrev main_v17_0 : Ref sig .tc := ⟨.hbm, 69, rfl⟩
abbrev main_cst_0 : Ref sig .tc := ⟨.hbm, 70, rfl⟩
abbrev main_call1_v0 : Ref sig .tc := ⟨.hbm, 71, rfl⟩
abbrev main_v18_1 : Ref sig .tc := ⟨.hbm, 72, rfl⟩
abbrev main_call1_v2 : Ref sig .tc := ⟨.hbm, 73, rfl⟩
abbrev main_v18_0 : Ref sig .tc := ⟨.hbm, 74, rfl⟩
abbrev main_call1_cst : Ref sig .tc := ⟨.hbm, 75, rfl⟩
abbrev main_v18_2 : Ref sig .tc := ⟨.hbm, 76, rfl⟩
abbrev main_call2_cst : Ref sig .tc := ⟨.hbm, 77, rfl⟩
abbrev main_call2_v0 : Ref sig .tc := ⟨.hbm, 78, rfl⟩
abbrev main_v19 : Ref sig .tc := ⟨.hbm, 79, rfl⟩
abbrev main_v20 : Ref sig .tc := ⟨.hbm, 80, rfl⟩
abbrev main_call3_v0 : Ref sig .tc := ⟨.hbm, 81, rfl⟩
abbrev main_call3_call0_cst : Ref sig .tc := ⟨.hbm, 82, rfl⟩
abbrev main_call3_call0_v0 : Ref sig .tc := ⟨.hbm, 83, rfl⟩
abbrev main_call3_call0_v1 : Ref sig .tc := ⟨.hbm, 84, rfl⟩
abbrev main_call3_call0_v2 : Ref sig .tc := ⟨.hbm, 85, rfl⟩
abbrev main_call3_call0_v3 : Ref sig .tc := ⟨.hbm, 86, rfl⟩
abbrev main_call3_call0_v4 : Ref sig .tc := ⟨.hbm, 87, rfl⟩
abbrev main_call3_call0_v5 : Ref sig .tc := ⟨.hbm, 88, rfl⟩
abbrev main_call3_call0_v6 : Ref sig .tc := ⟨.hbm, 89, rfl⟩
abbrev main_call3_call0_v7 : Ref sig .tc := ⟨.hbm, 90, rfl⟩
abbrev main_call3_call0_v8 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_v11 : Ref sig .tc := ⟨.hbm, 94, rfl⟩
abbrev main_call3_v1_0 : Ref sig .tc := ⟨.hbm, 95, rfl⟩
abbrev main_call3_call0_cst_0 : Ref sig .tc := ⟨.hbm, 96, rfl⟩
abbrev main_call3_call0_v13 : Ref sig .tc := ⟨.hbm, 97, rfl⟩
abbrev main_call3_call0_v14 : Ref sig .tc := ⟨.hbm, 98, rfl⟩
abbrev main_call3_call0_cst_1 : Ref sig .tc := ⟨.hbm, 99, rfl⟩
abbrev main_call3_call0_v15 : Ref sig .tc := ⟨.hbm, 100, rfl⟩
abbrev main_call3_call0_v16 : Ref sig .tc := ⟨.hbm, 101, rfl⟩
abbrev main_call3_call0_cst_2 : Ref sig .tc := ⟨.hbm, 102, rfl⟩
abbrev main_call3_call0_v17 : Ref sig .tc := ⟨.hbm, 103, rfl⟩
abbrev main_call3_call0_v18 : Ref sig .tc := ⟨.hbm, 104, rfl⟩
abbrev main_call3_call0_cst_3 : Ref sig .tc := ⟨.hbm, 105, rfl⟩
abbrev main_call3_call0_v19 : Ref sig .tc := ⟨.hbm, 106, rfl⟩
abbrev main_call3_call0_v20 : Ref sig .tc := ⟨.hbm, 107, rfl⟩
abbrev main_call3_call0_v21 : Ref sig .tc := ⟨.hbm, 108, rfl⟩
abbrev main_v21_1 : Ref sig .tc := ⟨.hbm, 109, rfl⟩
abbrev main_call3_call0_cst_4 : Ref sig .tc := ⟨.hbm, 110, rfl⟩
abbrev main_call3_call0_cst_5 : Ref sig .tc := ⟨.hbm, 111, rfl⟩
abbrev main_call3_call0_v23 : Ref sig .tc := ⟨.hbm, 112, rfl⟩
abbrev main_call3_call0_cst_6 : Ref sig .tc := ⟨.hbm, 113, rfl⟩
abbrev main_call3_call0_cst_7 : Ref sig .tc := ⟨.hbm, 114, rfl⟩
abbrev main_call3_call0_v24 : Ref sig .tc := ⟨.hbm, 115, rfl⟩
abbrev main_call3_call0_cst_8 : Ref sig .tc := ⟨.hbm, 116, rfl⟩
abbrev main_call3_call0_v25 : Ref sig .tc := ⟨.hbm, 117, rfl⟩
abbrev main_call3_call0_v26 : Ref sig .tc := ⟨.hbm, 118, rfl⟩
abbrev main_call3_call0_cst_9 : Ref sig .tc := ⟨.hbm, 119, rfl⟩
abbrev main_call3_call0_v27 : Ref sig .tc := ⟨.hbm, 120, rfl⟩
abbrev main_call3_call0_v28 : Ref sig .tc := ⟨.hbm, 121, rfl⟩
abbrev main_call3_call0_v29 : Ref sig .tc := ⟨.hbm, 122, rfl⟩
abbrev main_call3_call0_v30 : Ref sig .tc := ⟨.hbm, 123, rfl⟩
abbrev main_call3_call0_v31 : Ref sig .tc := ⟨.hbm, 124, rfl⟩
abbrev main_call3_call0_cst_10 : Ref sig .tc := ⟨.hbm, 125, rfl⟩
abbrev main_call3_call0_v32 : Ref sig .tc := ⟨.hbm, 126, rfl⟩
abbrev main_v21_2 : Ref sig .tc := ⟨.hbm, 127, rfl⟩
abbrev main_v21_0 : Ref sig .tc := ⟨.hbm, 128, rfl⟩
abbrev main_v22 : Ref sig .tc := ⟨.hbm, 129, rfl⟩
abbrev main_v23 : Ref sig .tc := ⟨.hbm, 130, rfl⟩
abbrev main_cst_1 : Ref sig .tc := ⟨.hbm, 131, rfl⟩
abbrev main_call4_v0 : Ref sig .tc := ⟨.hbm, 132, rfl⟩
abbrev main_v24_1 : Ref sig .tc := ⟨.hbm, 133, rfl⟩
abbrev main_call4_v2 : Ref sig .tc := ⟨.hbm, 134, rfl⟩
abbrev main_v24_0 : Ref sig .tc := ⟨.hbm, 135, rfl⟩
abbrev main_call4_cst : Ref sig .tc := ⟨.hbm, 136, rfl⟩
abbrev main_v24_2 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_call5_cst : Ref sig .tc := ⟨.hbm, 146, rfl⟩
abbrev main_call5_v0 : Ref sig .tc := ⟨.hbm, 147, rfl⟩
abbrev main_v33 : Ref sig .tc := ⟨.hbm, 148, rfl⟩
abbrev main_v34 : Ref sig .tc := ⟨.hbm, 149, rfl⟩
abbrev main_call6_v0 : Ref sig .tc := ⟨.hbm, 150, rfl⟩
abbrev main_call6_v1 : Ref sig .tc := ⟨.hbm, 151, rfl⟩
abbrev main_v35 : Ref sig .tc := ⟨.hbm, 152, rfl⟩
abbrev main_v36 : Ref sig .tc := ⟨.hbm, 153, rfl⟩
abbrev main_call7_cst : Ref sig .tc := ⟨.hbm, 154, rfl⟩
abbrev main_call7_v0 : Ref sig .tc := ⟨.hbm, 155, rfl⟩
abbrev main_v37 : Ref sig .tc := ⟨.hbm, 156, rfl⟩
abbrev main_v38 : Ref sig .tc := ⟨.hbm, 157, rfl⟩
abbrev main_call8_cst : Ref sig .tc := ⟨.hbm, 158, rfl⟩
abbrev main_call8_v0 : Ref sig .tc := ⟨.hbm, 159, rfl⟩
abbrev main_v39 : Ref sig .tc := ⟨.hbm, 160, rfl⟩
abbrev main_call9_v0 : Ref sig .tc := ⟨.hbm, 161, rfl⟩
abbrev main_call9_v1 : Ref sig .tc := ⟨.hbm, 162, rfl⟩
abbrev main_v40 : Ref sig .tc := ⟨.hbm, 163, rfl⟩
abbrev main_v41 : Ref sig .tc := ⟨.hbm, 164, rfl⟩
abbrev main_v42 : Ref sig .tc := ⟨.hbm, 165, rfl⟩
abbrev main_cst_2 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 31
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024x1024, .f32⟩
  | .hbm, ⟨5, _⟩ => ⟨S8192x1024, .f32⟩
  | .hbm, ⟨6, _⟩ => ⟨S1024x1024, .bf16⟩
  | .hbm, ⟨7, _⟩ => ⟨S8192x1024, .bf16⟩
  | .hbm, ⟨8, _⟩ => ⟨S8192x1024, .f32⟩
  | .hbm, ⟨9, _⟩ => ⟨S8192x1024, .f32⟩
  | .hbm, ⟨10, _⟩ => ⟨S8192x1024, .bf16⟩
  | .hbm, ⟨11, _⟩ => ⟨S8192x1024, .f32⟩
  | .hbm, ⟨12, _⟩ => ⟨S8192x1024, .bf16⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S1024x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | .local _ .vmem, ⟨27, _⟩ => ⟨S512x1024, .f32⟩
  | .local _ .vmem, ⟨28, _⟩ => ⟨S512x1024, .bf16⟩
  | .local _ .vmem, ⟨29, _⟩ => ⟨S512x1024, .bf16⟩
  | .local _ .vmem, ⟨30, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def k1_cond1 (i : grid1.Coords) : BitVec 1 :=
  let arg0 : BitVec 32 := BitVec.ofNat 32 (i 0).val
  let c0_i32 : BitVec 32 := 0#32
  let v71 : BitVec 1 := Scalar.cmpi .eq arg0 c0_i32
  let v72 : BitVec 32 := Scalar.extui v71
  let c0_i32_32 : BitVec 32 := 0#32
  let v73 : BitVec 1 := Scalar.cmpi .ne v72 c0_i32_32
  v73

def k1_cond2 (i : grid1.Coords) : BitVec 1 :=
  let arg0 : BitVec 32 := BitVec.ofNat 32 (i 0).val
  let c0_i32_33 : BitVec 32 := 0#32
  let v74 : BitVec 1 := Scalar.cmpi .sgt arg0 c0_i32_33
  let v75 : BitVec 32 := Scalar.extui v74
  let c0_i32_34 : BitVec 32 := 0#32
  let v76 : BitVec 1 := Scalar.cmpi .ne v75 c0_i32_34
  v76

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== Reference6Ideal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 148
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S1x1024, .f32⟩
  | 4 => ⟨S1024x1024, .f32⟩
  | 5 => ⟨S8192x1024, .f32⟩
  | 6 => ⟨S8192x1024, .f32⟩
  | 7 => ⟨S8192x1024, .f32⟩
  | 8 => ⟨S_, .f32⟩
  | 9 => ⟨S8192x1024, .f32⟩
  | 10 => ⟨S8192x1024, .f32⟩
  | 11 => ⟨S_, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192x1, .f32⟩
  | 28 => ⟨S8192x1, .f32⟩
  | 29 => ⟨S_, .f32⟩
  | 30 => ⟨S8192x1, .f32⟩
  | 31 => ⟨S8192x1, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S_, .f32⟩
  | 38 => ⟨S1024, .f32⟩
  | 39 => ⟨S1x1024, .f32⟩
  | 40 => ⟨S8192x1024, .f32⟩
  | 41 => ⟨S8192x1024, .f32⟩
  | 42 => ⟨S8192x1024, .f32⟩
  | 43 => ⟨S_, .f32⟩
  | 44 => ⟨S8192, .f32⟩
  | 45 => ⟨S8192x1, .f32⟩
  | 46 => ⟨S8192x1024, .f32⟩
  | 47 => ⟨S8192x1024, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S8192x1024, .f32⟩
  | 61 => ⟨S_, .f32⟩
  | 62 => ⟨S8192x1024, .f32⟩
  | 63 => ⟨S8192x1024, .f32⟩
  | 64 => ⟨S_, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S_, .f32⟩
  | 76 => ⟨S8192, .f32⟩
  | 77 => ⟨S8192x1, .f32⟩
  | 78 => ⟨S_, .f32⟩
  | 79 => ⟨S8192x1, .f32⟩
  | 80 => ⟨S8192x1, .f32⟩
  | 81 => ⟨S_, .f32⟩
  | 82 => ⟨S8192x1, .f32⟩
  | 83 => ⟨S8192x1, .f32⟩
  | 84 => ⟨S8192x1, .f32⟩
  | 85 => ⟨S8192x1, .f32⟩
  | 86 => ⟨S_, .f32⟩
  | 87 => ⟨S8192x1, .f32⟩
  | 88 => ⟨S8192x1, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S_, .f32⟩
  | 97 => ⟨S8192, .f32⟩
  | 98 => ⟨S8192x1, .f32⟩
  | 99 => ⟨S8192x1024, .f32⟩
  | 100 => ⟨S8192x1024, .f32⟩
  | 101 => ⟨S8192x1, .f32⟩
  | 102 => ⟨S_, .f32⟩
  | 103 => ⟨S8192x1, .f32⟩
  | 104 => ⟨S8192x1, .f32⟩
  | 105 => ⟨S_, .f32⟩
  | 106 => ⟨S8192, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S_, .f32⟩
  | 122 => ⟨S8192x1024, .f32⟩
  | 123 => ⟨S8192x1024, .f32⟩
  | 124 => ⟨S_, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .bf16⟩
  | 2 => ⟨S8192x1024, .f32⟩
  | 3 => ⟨S_, .f32⟩
  | 4 => ⟨S8192, .f32⟩
  | 5 => ⟨S8192x1, .f32⟩
  | 6 => ⟨S_, .f32⟩
  | 7 => ⟨S8192x1, .f32⟩
  | 8 => ⟨S8192x1, .f32⟩
  | 9 => ⟨S_, .f32⟩
  | 10 => ⟨S8192x1, .f32⟩
  | 11 => ⟨S8192x1, .f32⟩
  | 12 => ⟨S8192x1, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S8192x1024, .bf16⟩
  | 19 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_v37_2 : Ref sig .tc := ⟨.hbm, 66, rfl⟩
abbrev main_call1_cst_1 : Ref sig .tc := ⟨.hbm, 67, rfl⟩
abbrev main_call1_v6 : Ref sig .tc := ⟨.hbm, 68, rfl⟩
abbrev main_call1_v7 : Ref sig .tc := ⟨.hbm, 69, rfl⟩
abbrev main_v37_1 : Ref sig .tc := ⟨.hbm, 70, rfl⟩
abbrev main_v37_0 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_7 : Ref sig .tc := ⟨.hbm, 75, rfl⟩
abbrev main_v41 : Ref sig .tc := ⟨.hbm, 76, rfl⟩
abbrev main_v42 : Ref sig .tc := ⟨.hbm, 77, rfl⟩
abbrev main_cst_8 : Ref sig .tc := ⟨.hbm, 78, rfl⟩
abbrev main_v43 : Ref sig .tc := ⟨.hbm, 79, rfl⟩
abbrev main_v44 : Ref sig .tc := ⟨.hbm, 80, rfl⟩
abbrev main_cst_9 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_10 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_11 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_12 : Ref sig .tc := ⟨.hbm, 102, rfl⟩
abbrev main_v63 : Ref sig .tc := ⟨.hbm, 103, rfl⟩
abbrev main_v64 : Ref sig .tc := ⟨.hbm, 104, rfl⟩
abbrev main_cst_13 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_v74 : Ref sig .tc := ⟨.hbm, 118, rfl⟩
abbrev main_call3_v0 : Ref sig .tc := ⟨.hbm, 119, rfl⟩
abbrev main_call3_v1 : Ref sig .tc := ⟨.hbm, 120, rfl⟩
abbrev main_call3_cst : Ref sig .tc := ⟨.hbm, 121, rfl⟩
abbrev main_call3_v2 : Ref sig .tc := ⟨.hbm, 122, rfl⟩
abbrev main_call3_v3 : Ref sig .tc := ⟨.hbm, 123, rfl⟩
abbrev main_call3_cst_0 : Ref sig .tc := ⟨.hbm, 124, rfl⟩
abbrev main_call3_v4 : Ref sig .tc := ⟨.hbm, 125, rfl⟩
abbrev main_call3_v5 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_cst_14 : Ref sig .tc := ⟨.hbm, 131, rfl⟩
abbrev main_v79 : Ref sig .tc := ⟨.hbm, 132, rfl⟩
abbrev main_v80 : Ref sig .tc := ⟨.hbm, 133, rfl⟩
abbrev main_cst_15 : Ref sig .tc := ⟨.hbm, 134, rfl⟩
abbrev main_v81 : Ref sig .tc := ⟨.hbm, 135, rfl⟩
abbrev main_v82 : Ref sig .tc := ⟨.hbm, 136, rfl⟩
abbrev main_cst_16 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩

abbrev nD : Nat := 1
abbrev τ : Topo := Topo.v7x

variable {F : FTy → Type} [FloatOps F]
-- ==== Kernel7.lean ====
abbrev S8192x1024 : Shape := ⟨2, ![8192, 1024]⟩
abbrev S1x1024 : Shape := ⟨2, ![1, 1024]⟩
abbrev S1024x1024 : Shape := ⟨2, ![1024, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S512 : Shape := ⟨1, ![512]⟩
abbrev S512x1 : Shape := ⟨2, ![512, 1]⟩
abbrev S1024 : Shape := ⟨1, ![1024]⟩

abbrev nBuf : Space → Nat
  | .hbm => 26
  | .vmem => 64
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x1024, .f32⟩
  | .hbm, ⟨8, _⟩ => ⟨S1024x1024, .f32⟩
  | .hbm, ⟨9, _⟩ => ⟨S8192x1024, .f32⟩
  | .hbm, ⟨10, _⟩ => ⟨S1024x1024, .bf16⟩
  | .hbm, ⟨11, _⟩ => ⟨S1024x1024, .bf16⟩
  | .hbm, ⟨12, _⟩ => ⟨S8192x1024, .bf16⟩
  | .hbm, ⟨13, _⟩ => ⟨S8192x1024, .f32⟩
  | .hbm, ⟨14, _⟩ => ⟨S8192x1024, .bf16⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S1x1024, .f32⟩
  | .hbm, ⟨20, _⟩ => ⟨S8192x1024, .bf16⟩
  | .hbm, ⟨21, _⟩ => ⟨S8192x1024, .bf16⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1024x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | .local _ .vmem, ⟨34, _⟩ => ⟨S1x1024, .f32⟩
  | .local _ .vmem, ⟨35, _⟩ => ⟨S1024x1024, .bf16⟩
  | .local _ .vmem, ⟨36, _⟩ => ⟨S512x1024, .f32⟩
  | .local _ .vmem, ⟨37, _⟩ => ⟨S512x1024, .f32⟩
  | .local _ .vmem, ⟨38, _⟩ => ⟨S512x1024, .bf16⟩
  | .local _ .vmem, ⟨39, _⟩ => ⟨S512x1024, .bf16⟩
  | .local _ .vmem, ⟨40, _⟩ => ⟨S1x1024, .f32⟩
  | .local _ .vmem, ⟨41, _⟩ => ⟨S256x1024, .f32⟩
  | .local _ .vmem, ⟨42, _⟩ => ⟨S256x1024, .f32⟩
  | .local _ .vmem, ⟨43, _⟩ => ⟨S256x1024, .f32⟩
  | .local _ .vmem, ⟨44, _⟩ => ⟨S256x1024, .f32⟩
  | .local _ .vmem, ⟨45, _⟩ => ⟨S256x1024, .f32⟩
  | .local _ .vmem, ⟨46, _⟩ => ⟨S256x1024, .f32⟩
  | .local _ .vmem, ⟨47, _⟩ => ⟨S256x1024, .f32⟩
  | .local _ .vmem, ⟨48, _⟩ => ⟨S256x1024, .f32⟩
  | .local _ .vmem, ⟨49, _⟩ => ⟨S256x1024, .f32⟩
  | .local _ .vmem, ⟨50, _⟩ => ⟨S256x1024, .f32⟩
  | .local _ .vmem, ⟨51, _⟩ => ⟨S1x1024, .f32⟩
  | .local _ .vmem, ⟨52, _⟩ => ⟨S1x1024, .f32⟩
  | .local _ .vmem, ⟨53, _⟩ => ⟨S1024x1024, .bf16⟩
  | .local _ .vmem, ⟨54, _⟩ => ⟨S256x1024, .bf16⟩
  | .local _ .vmem, ⟨55, _⟩ => ⟨S256x1024, .bf16⟩
  | .local _ .vmem, ⟨56, _⟩ => ⟨S256x1024, .bf16⟩
  | .local _ .vmem, ⟨57, _⟩ => ⟨S256x1024, .bf16⟩
  | .local _ .vmem, ⟨58, _⟩ => ⟨S256x1024, .f32⟩
  | .local _ .vmem, ⟨59, _⟩ => ⟨S256x1024, .f32⟩
  | .local _ .vmem, ⟨60, _⟩ => ⟨S256x1024, .f32⟩
  | .local _ .vmem, ⟨61, _⟩ => ⟨S256x1024, .f32⟩
  | .local _ .vmem, ⟨62, _⟩ => ⟨S1x1024, .f32⟩
  | .local _ .vmem, ⟨63, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v5_0 : Ref sig .tc := ⟨.hbm, 20, rfl⟩
abbrev main_v5_1 : Ref sig .tc := ⟨.hbm, 21, rfl⟩
abbrev main_v5_2 : Ref sig .tc := ⟨.hbm, 22, rfl⟩
abbrev main_v5_3 : Ref sig .tc := ⟨.hbm, 23, rfl⟩
abbrev main_v5_4 : Ref sig .tc := ⟨.hbm, 24, rfl⟩
abbrev main_v5_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc1_stg11_0 : Ref sig .tc := ⟨.vmem, 28, rfl⟩
abbrev cc1_stg11_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg5_1 : Ref sig .tc := ⟨.vmem, 39, rfl⟩
abbrev cc2_stg6_0 : Ref sig .tc := ⟨.vmem, 40, rfl⟩
abbrev cc3_stg0_0 : Ref sig .tc := ⟨.vmem, 41, rfl⟩
abbrev cc3_stg0_1 : Ref sig .tc := ⟨.vmem, 42, rfl⟩
abbrev cc3_stg1_0 : Ref sig .tc := ⟨.vmem, 43, rfl⟩
abbrev cc3_stg1_1 : Ref sig .tc := ⟨.vmem, 44, rfl⟩
abbrev cc3_stg2_0 : Ref sig .tc := ⟨.vmem, 45, rfl⟩
abbrev cc3_stg2_1 : Ref sig .tc := ⟨.vmem, 46, rfl⟩
abbrev cc3_stg3_0 : Ref sig .tc := ⟨.vmem, 47, rfl⟩
abbrev cc3_stg3_1 : Ref sig .tc := ⟨.vmem, 48, rfl⟩
abbrev cc3_stg4_0 : Ref sig .tc := ⟨.vmem, 49, rfl⟩
abbrev cc3_stg4_1 : Ref sig .tc := ⟨.vmem, 50, rfl⟩
abbrev cc3_stg5_0 : Ref sig .tc := ⟨.vmem, 51, rfl⟩
abbrev cc3_stg6_0 : Ref sig .tc := ⟨.vmem, 52, rfl⟩
abbrev cc3_stg7_0 : Ref sig .tc := ⟨.vmem, 53, rfl⟩
abbrev cc3_stg8_0 : Ref sig .tc := ⟨.vmem, 54, rfl⟩
abbrev cc3_stg8_1 : Ref sig .tc := ⟨.vmem, 55, rfl⟩
abbrev cc3_stg9_0 : Ref sig .tc := ⟨.vmem, 56, rfl⟩
abbrev cc3_stg9_1 : Ref sig .tc := ⟨.vmem, 57, rfl⟩
abbrev cc3_stg10_0 : Ref sig .tc := ⟨.vmem, 58, rfl⟩
abbrev cc3_stg10_1 : Ref sig .tc := ⟨.vmem, 59, rfl⟩
abbrev cc3_stg11_0 : Ref sig .tc := ⟨.vmem, 60, rfl⟩
abbrev cc3_stg11_1 : Ref sig .tc := ⟨.vmem, 61, rfl⟩
abbrev cc3_stg12_0 : Ref sig .tc := ⟨.vmem, 62, rfl⟩
abbrev cc3_stg13_0 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc1_sem10_0 : DmaSem sig := 26
abbrev cc1_sem10_1 : DmaSem sig := 27
abbrev cc1_sem11_0 : DmaSem sig := 28
abbrev cc1_sem11_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem3_0 : DmaSem sig := 35
abbrev cc2_sem4_0 : DmaSem sig := 36
abbrev cc2_sem4_1 : DmaSem sig := 37
abbrev cc2_sem5_0 : DmaSem sig := 38
abbrev cc2_sem5_1 : DmaSem sig := 39
abbrev cc2_sem6_0 : DmaSem sig := 40
abbrev cc3_sem0_0 : DmaSem sig := 41
abbrev cc3_sem0_1 : DmaSem sig := 42
abbrev cc3_sem1_0 : DmaSem sig := 43
abbrev cc3_sem1_1 : DmaSem sig := 44
abbrev cc3_sem2_0 : DmaSem sig := 45
abbrev cc3_sem2_1 : DmaSem sig := 46
abbrev cc3_sem3_0 : DmaSem sig := 47
abbrev cc3_sem3_1 : DmaSem sig := 48
abbrev cc3_sem4_0 : DmaSem sig := 49
abbrev cc3_sem4_1 : DmaSem sig := 50
abbrev cc3_sem5_0 : DmaSem sig := 51
abbrev cc3_sem6_0 : DmaSem sig := 52
abbrev cc3_sem7_0 : DmaSem sig := 53
abbrev cc3_sem8_0 : DmaSem sig := 54
abbrev cc3_sem8_1 : DmaSem sig := 55
abbrev cc3_sem9_0 : DmaSem sig := 56
abbrev cc3_sem9_1 : DmaSem sig := 57
abbrev cc3_sem10_0 : DmaSem sig := 58
abbrev cc3_sem10_1 : DmaSem sig := 59
abbrev cc3_sem11_0 : DmaSem sig := 60
abbrev cc3_sem11_1 : DmaSem sig := 61
abbrev cc3_sem12_0 : DmaSem sig := 62
abbrev cc3_sem13_0 : DmaSem sig := 63

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![16], ![false]⟩

def k2_cond1 (i : grid2.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_19 : BitVec 32 := 0#32
  let v45 : BitVec 1 := Scalar.cmpi .ne v44 c0_i32_19
  v45

def k2_cond2 (i : grid2.Coords) : BitVec 1 :=
  let arg0 : BitVec 32 := BitVec.ofNat 32 (i 0).val
  let c0_i32_20 : BitVec 32 := 0#32
  let v46 : BitVec 1 := Scalar.cmpi .sgt arg0 c0_i32_20
  let v47 : BitVec 32 := Scalar.extui v46
  let c0_i32_21 : BitVec 32 := 0#32
  let v48 : BitVec 1 := Scalar.cmpi .ne v47 c0_i32_21
  v48

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![32], ![false]⟩

def k3_cond1 (i : grid3.Coords) : BitVec 1 :=
  let arg0 : BitVec 32 := BitVec.ofNat 32 (i 0).val
  let c0_i32 : BitVec 32 := 0#32
  let v111 : BitVec 1 := Scalar.cmpi .eq arg0 c0_i32
  let v112 : BitVec 32 := Scalar.extui v111
  let c0_i32_48 : BitVec 32 := 0#32
  let v113 : BitVec 1 := Scalar.cmpi .ne v112 c0_i32_48
  v113

def k3_cond2 (i : grid3.Coords) : BitVec 1 :=
  let arg0 : BitVec 32 := BitVec.ofNat 32 (i 0).val
  let c0_i32_49 : BitVec 32 := 0#32
  let v114 : BitVec 1 := Scalar.cmpi .sgt arg0 c0_i32_49
  let v115 : BitVec 32 := Scalar.extui v114
  let c0_i32_50 : BitVec 32 := 0#32
  let v116 : BitVec 1 := Scalar.cmpi .ne v115 c0_i32_50
  v116

def k3_cond3 (i : grid3.Coords) : BitVec 1 :=
  let arg0 : BitVec 32 := BitVec.ofNat 32 (i 0).val
  let c0_i32_51 : BitVec 32 := 0#32
  let v117 : BitVec 1 := Scalar.cmpi .eq arg0 c0_i32_51
  let v118 : BitVec 32 := Scalar.extui v117
  let c0_i32_52 : BitVec 32 := 0#32
  let v119 : BitVec 1 := Scalar.cmpi .ne v118 c0_i32_52
  v119

def k3_cond4 (i : grid3.Coords) : BitVec 1 :=
  let arg0 : BitVec 32 := BitVec.ofNat 32 (i 0).val
  let c0_i32_53 : BitVec 32 := 0#32
  let v120 : BitVec 1 := Scalar.cmpi .sgt arg0 c0_i32_53
  let v121 : BitVec 32 := Scalar.extui v120
  let c0_i32_54 : BitVec 32 := 0#32
  let v122 : BitVec 1 := Scalar.cmpi .ne v121 c0_i32_54
  v122

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1024x1024 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S256x1024 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S256x1024 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S256x1024 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S256x1024 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 1 → Memref sig .tc .vmem S1x1024 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x1024 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]
-- ==== Reference7Ideal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 280
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S1x1024, .f32⟩
  | 5 => ⟨S1x1024, .f32⟩
  | 6 => ⟨S1x1024, .f32⟩
  | 7 => ⟨S1024x1024, .f32⟩
  | 8 => ⟨S1024x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S_, .f32⟩
  | 16 => ⟨S8192x1024, .f32⟩
  | 17 => ⟨S8192x1024, .f32⟩
  | 18 => ⟨S8192x1024, .f32⟩
  | 19 => ⟨S_, .f32⟩
  | 20 => ⟨S8192x1024, .f32⟩
  | 21 => ⟨S8192x1024, .f32⟩
  | 22 => ⟨S8192x1024, .f32⟩
  | 23 => ⟨S_, .f32⟩
  | 24 => ⟨S8192x1024, .f32⟩
  | 25 => ⟨S8192x1024, .f32⟩
  | 26 => ⟨S_, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S_, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S_, .f32⟩
  | 45 => ⟨S8192x1024, .f32⟩
  | 46 => ⟨S8192x1024, .f32⟩
  | 47 => ⟨S_, .f32⟩
  | 48 => ⟨S8192x1024, .f32⟩
  | 49 => ⟨S8192x1024, .f32⟩
  | 50 => ⟨S8192x1024, .f32⟩
  | 51 => ⟨S8192x1024, .f32⟩
  | 52 => ⟨S8192x1024, .f32⟩
  | 53 => ⟨S8192x1024, .f32⟩
  | 54 => ⟨S_, .f32⟩
  | 55 => ⟨S8192, .f32⟩
  | 56 => ⟨S8192x1, .f32⟩
  | 57 => ⟨S_, .f32⟩
  | 58 => ⟨S8192x1, .f32⟩
  | 59 => ⟨S8192x1, .f32⟩
  | 60 => ⟨S_, .f32⟩
  | 61 => ⟨S8192x1, .f32⟩
  | 62 => ⟨S8192x1, .f32⟩
  | 63 => ⟨S8192x1, .f32⟩
  | 64 => ⟨S8192x1, .f32⟩
  | 65 => ⟨S_, .f32⟩
  | 66 => ⟨S8192x1, .f32⟩
  | 67 => ⟨S8192x1, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S_, .f32⟩
  | 74 => ⟨S1024, .f32⟩
  | 75 => ⟨S1x1024, .f32⟩
  | 76 => ⟨S8192x1024, .f32⟩
  | 77 => ⟨S8192x1024, .f32⟩
  | 78 => ⟨S8192x1024, .f32⟩
  | 79 => ⟨S_, .f32⟩
  | 80 => ⟨S8192, .f32⟩
  | 81 => ⟨S8192x1, .f32⟩
  | 82 => ⟨S8192x1024, .f32⟩
  | 83 => ⟨S8192x1024, .f32⟩
  | 84 => ⟨S8192x1, .f32⟩
  | 85 => ⟨S_, .f32⟩
  | 86 => ⟨S8192x1, .f32⟩
  | 87 => ⟨S8192x1, .f32⟩
  | 88 => ⟨S_, .f32⟩
  | 89 => ⟨S8192, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S_, .f32⟩
  | 98 => ⟨S8192, .f32⟩
  | 99 => ⟨S8192x1, .f32⟩
  | 100 => ⟨S_, .f32⟩
  | 101 => ⟨S8192x1, .f32⟩
  | 102 => ⟨S8192x1, .f32⟩
  | 103 => ⟨S_, .f32⟩
  | 104 => ⟨S8192x1, .f32⟩
  | 105 => ⟨S8192x1, .f32⟩
  | 106 => ⟨S8192x1, .f32⟩
  | 107 => ⟨S8192x1, .f32⟩
  | 108 => ⟨S_, .f32⟩
  | 109 => ⟨S8192x1, .f32⟩
  | 110 => ⟨S8192x1, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S8192x1024, .f32⟩
  | 118 => ⟨S_, .f32⟩
  | 119 => ⟨S8192, .f32⟩
  | 120 => ⟨S8192x1, .f32⟩
  | 121 => ⟨S8192x1024, .f32⟩
  | 122 => ⟨S8192x1024, .f32⟩
  | 123 => ⟨S8192x1, .f32⟩
  | 124 => ⟨S_, .f32⟩
  | 125 => ⟨S8192x1, .f32⟩
  | 126 => ⟨S8192x1, .f32⟩
  | 127 => ⟨S_, .f32⟩
  | _ => ⟨S8192x1024, .f32⟩

abbrev hbmTy0_1 (i : Nat) : BufTy := match i % 128 with
  | 0 => ⟨S8192, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S_, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S_, .f32⟩
  | 18 => ⟨S8192x1024, .f32⟩
  | 19 => ⟨S8192x1024, .f32⟩
  | 20 => ⟨S8192x1024, .f32⟩
  | 21 => ⟨S8192x1024, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S_, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S8192x1024, .f32⟩
  | 41 => ⟨S_, .f32⟩
  | 42 => ⟨S8192x1024, .f32⟩
  | 43 => ⟨S8192x1024, .f32⟩
  | 44 => ⟨S_, .f32⟩
  | 45 => ⟨S8192x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S_, .f32⟩
  | 56 => ⟨S8192x1024, .f32⟩
  | 57 => ⟨S8192x1024, .f32⟩
  | 58 => ⟨S8192x1024, .f32⟩
  | 59 => ⟨S_, .f32⟩
  | 60 => ⟨S8192x1024, .f32⟩
  | 61 => ⟨S8192x1024, .f32⟩
  | 62 => ⟨S_, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S_, .f32⟩
  | 72 => ⟨S8192x1024, .f32⟩
  | 73 => ⟨S8192x1024, .f32⟩
  | 74 => ⟨S_, .f32⟩
  | 75 => ⟨S8192x1024, .f32⟩
  | 76 => ⟨S8192x1024, .f32⟩
  | 77 => ⟨S_, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S8192x1024, .f32⟩
  | 84 => ⟨S_, .f32⟩
  | 85 => ⟨S8192x1024, .f32⟩
  | 86 => ⟨S8192x1024, .f32⟩
  | 87 => ⟨S_, .f32⟩
  | 88 => ⟨S8192x1024, .f32⟩
  | 89 => ⟨S8192x1024, .f32⟩
  | 90 => ⟨S_, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S_, .f32⟩
  | 106 => ⟨S1024, .f32⟩
  | 107 => ⟨S1x1024, .f32⟩
  | 108 => ⟨S8192x1024, .f32⟩
  | 109 => ⟨S8192x1024, .f32⟩
  | 110 => ⟨S8192x1024, .f32⟩
  | 111 => ⟨S8192x1024, .f32⟩
  | 112 => ⟨S_, .f32⟩
  | 113 => ⟨S8192x1024, .f32⟩
  | 114 => ⟨S8192x1024, .f32⟩
  | 115 => ⟨S8192x1024, .f32⟩
  | 116 => ⟨S_, .f32⟩
  | 117 => ⟨S8192x1024, .f32⟩
  | 118 => ⟨S8192x1024, .f32⟩
  | 119 => ⟨S8192x1024, .f32⟩
  | 120 => ⟨S_, .f32⟩
  | 121 => ⟨S8192x1024, .f32⟩
  | 122 => ⟨S8192x1024, .f32⟩
  | 123 => ⟨S8192x1024, .f32⟩
  | 124 => ⟨S8192x1024, .f32⟩
  | 125 => ⟨S8192x1024, .f32⟩
  | 126 => ⟨S8192x1024, .f32⟩
  | 127 => ⟨S8192x1024, .f32⟩
  | _ => ⟨S8192x1024, .f32⟩

abbrev hbmTy0_2 (i : Nat) : BufTy := match i % 128 with
  | 0 => ⟨S_, .f32⟩
  | 1 => ⟨S1024, .f32⟩
  | 2 => ⟨S1x1024, .f32⟩
  | 3 => ⟨S8192x1024, .bf16⟩
  | 4 => ⟨S8192x1024, .bf16⟩
  | 5 => ⟨S8192x1024, .f32⟩
  | 6 => ⟨S_, .f32⟩
  | 7 => ⟨S8192, .f32⟩
  | 8 => ⟨S8192x1, .f32⟩
  | 9 => ⟨S_, .f32⟩
  | 10 => ⟨S8192x1, .f32⟩
  | 11 => ⟨S8192x1, .f32⟩
  | 12 => ⟨S_, .f32⟩
  | 13 => ⟨S8192x1, .f32⟩
  | 14 => ⟨S8192x1, .f32⟩
  | 15 => ⟨S8192x1, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S8192x1024, .bf16⟩
  | 22 => ⟨S8192x1024, .bf16⟩
  | 23 => ⟨S8192x1024, .bf16⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_5 : Ref sig .tc := ⟨.hbm, 54, rfl⟩
abbrev main_v30 : Ref sig .tc := ⟨.hbm, 55, rfl⟩
abbrev main_v31 : Ref sig .tc := ⟨.hbm, 56, rfl⟩
abbrev main_cst_6 : Ref sig .tc := ⟨.hbm, 57, rfl⟩
abbrev main_v32 : Ref sig .tc := ⟨.hbm, 58, rfl⟩
abbrev main_v33 : Ref sig .tc := ⟨.hbm, 59, rfl⟩
abbrev main_cst_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_8 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_10 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_11 : Ref sig .tc := ⟨.hbm, 85, rfl⟩
abbrev main_v55 : Ref sig .tc := ⟨.hbm, 86, rfl⟩
abbrev main_v56 : Ref sig .tc := ⟨.hbm, 87, rfl⟩
abbrev main_cst_12 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_13 : Ref sig .tc := ⟨.hbm, 97, rfl⟩
abbrev main_v65 : Ref sig .tc := ⟨.hbm, 98, rfl⟩
abbrev main_v66 : Ref sig .tc := ⟨.hbm, 99, rfl⟩
abbrev main_cst_14 : Ref sig .tc := ⟨.hbm, 100, rfl⟩
abbrev main_v67 : Ref sig .tc := ⟨.hbm, 101, rfl⟩
abbrev main_v68 : Ref sig .tc := ⟨.hbm, 102, rfl⟩
abbrev main_cst_15 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_16 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_17 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_18 : Ref sig .tc := ⟨.hbm, 124, rfl⟩
abbrev main_v87 : Ref sig .tc := ⟨.hbm, 125, rfl⟩
abbrev main_v88 : Ref sig .tc := ⟨.hbm, 126, rfl⟩
abbrev main_cst_19 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_20 : Ref sig .tc := ⟨.hbm, 139, rfl⟩
abbrev main_v100 : Ref sig .tc := ⟨.hbm, 140, rfl⟩
abbrev main_v101 : Ref sig .tc := ⟨.hbm, 141, rfl⟩
abbrev main_cst_21 : Ref sig .tc := ⟨.hbm, 142, rfl⟩
abbrev main_v102 : Ref sig .tc := ⟨.hbm, 143, rfl⟩
abbrev main_v103 : Ref sig .tc := ⟨.hbm, 144, rfl⟩
abbrev main_cst_22 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_call1_v0 : Ref sig .tc := ⟨.hbm, 150, rfl⟩
abbrev main_call1_v1 : Ref sig .tc := ⟨.hbm, 151, rfl⟩
abbrev main_call1_cst : Ref sig .tc := ⟨.hbm, 152, rfl⟩
abbrev main_call1_v2 : Ref sig .tc := ⟨.hbm, 153, rfl⟩
abbrev main_call1_v3 : Ref sig .tc := ⟨.hbm, 154, rfl⟩
abbrev main_call1_cst_0 : Ref sig .tc := ⟨.hbm, 155, rfl⟩
abbrev main_call1_v4 : Ref sig .tc := ⟨.hbm, 156, rfl⟩
abbrev main_call1_v5 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_cst_23 : Ref sig .tc := ⟨.hbm, 169, rfl⟩
abbrev main_v119 : Ref sig .tc := ⟨.hbm, 170, rfl⟩
abbrev main_v120 : Ref sig .tc := ⟨.hbm, 171, rfl⟩
abbrev main_cst_24 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_25 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_cst_26 : Ref sig .tc := ⟨.hbm, 180, rfl⟩
abbrev main_v127 : Ref sig .tc := ⟨.hbm, 181, rfl⟩
abbrev main_v128 : Ref sig .tc := ⟨.hbm, 182, rfl⟩
abbrev main_cst_27 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_cst_28 : Ref sig .tc := ⟨.hbm, 187, rfl⟩
abbrev main_v132 : Ref sig .tc := ⟨.hbm, 188, rfl⟩
abbrev main_v133 : Ref sig .tc := ⟨.hbm, 189, rfl⟩
abbrev main_cst_29 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_cst_30 : Ref sig .tc := ⟨.hbm, 199, rfl⟩
abbrev main_v142 : Ref sig .tc := ⟨.hbm, 200, rfl⟩
abbrev main_v143 : Ref sig .tc := ⟨.hbm, 201, rfl⟩
abbrev main_cst_31 : Ref sig .tc := ⟨.hbm, 202, rfl⟩
abbrev main_v144 : Ref sig .tc := ⟨.hbm, 203, rfl⟩
abbrev main_v145 : Ref sig .tc := ⟨.hbm, 204, rfl⟩
abbrev main_cst_32 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_call2_v0 : Ref sig .tc := ⟨.hbm, 210, rfl⟩
abbrev main_call2_v1 : Ref sig .tc := ⟨.hbm, 211, rfl⟩
abbrev main_call2_cst : Ref sig .tc := ⟨.hbm, 212, rfl⟩
abbrev main_call2_v2 : Ref sig .tc := ⟨.hbm, 213, rfl⟩
abbrev main_call2_v3 : Ref sig .tc := ⟨.hbm, 214, rfl⟩
abbrev main_call2_cst_0 : Ref sig .tc := ⟨.hbm, 215, rfl⟩
abbrev main_call2_v4 : Ref sig .tc := ⟨.hbm, 216, rfl⟩
abbrev main_v150_2 : Ref sig .tc := ⟨.hbm, 217, rfl⟩
abbrev main_call2_cst_1 : Ref sig .tc := ⟨.hbm, 218, rfl⟩
abbrev main_call2_v6 : Ref sig .tc := ⟨.hbm, 219, rfl⟩
abbrev main_call2_v7 : Ref sig .tc := ⟨.hbm, 220, rfl⟩
abbrev main_v150_1 : Ref sig .tc := ⟨.hbm, 221, rfl⟩
abbrev main_v150_0 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_call3_v0 : Ref sig .tc := ⟨.hbm, 226, rfl⟩
abbrev main_call3_v1 : Ref sig .tc := ⟨.hbm, 227, rfl⟩
abbrev main_call3_v2 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_cst_33 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_cst_34 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_cst_35 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_cst_36 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_cst_37 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩
abbrev main_cst_38 : Ref sig .tc := ⟨.hbm, 262, rfl⟩
abbrev main_v182 : Ref sig .tc := ⟨.hbm, 263, rfl⟩
abbrev main_v183 : Ref sig .tc := ⟨.hbm, 264, rfl⟩
abbrev main_cst_39 : Ref sig .tc := ⟨.hbm, 265, rfl⟩
abbrev main_v184 : Ref sig .tc := ⟨.hbm, 266, rfl⟩
abbrev main_v185 : Ref sig .tc := ⟨.hbm, 267, rfl⟩
abbrev main_cst_40 : Ref sig .tc := ⟨.hbm, 268, rfl⟩
abbrev main_v186 : Ref sig .tc := ⟨.hbm, 269, rfl⟩
abbrev main_v187 : Ref sig .tc := ⟨.hbm, 270, rfl⟩
abbrev main_v188 : Ref sig .tc := ⟨.hbm, 271, rfl⟩
abbrev main_v189 : Ref sig .tc := ⟨.hbm, 272, rfl⟩
abbrev main_v190 : Ref sig .tc := ⟨.hbm, 273, rfl⟩
abbrev main_v191 : Ref sig .tc := ⟨.hbm, 274, rfl⟩
abbrev main_v192 : Ref sig .tc := ⟨.hbm, 275, rfl⟩
abbrev main_v193 : Ref sig .tc := ⟨.hbm, 276, rfl⟩
abbrev main_v194 : Ref sig .tc := ⟨.hbm, 277, rfl⟩
abbrev main_v195 : Ref sig .tc := ⟨.hbm, 278, rfl⟩
abbrev main_v196 : Ref sig .tc := ⟨.hbm, 279, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S512x1024 : Shape := ⟨2, ![512, 1024]⟩
abbrev S512 : Shape := ⟨1, ![512]⟩
abbrev S512x1 : Shape := ⟨2, ![512, 1]⟩
abbrev S4x1024x256 : Shape := ⟨3, ![4, 1024, 256]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 9
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S1024x8x256, .f32⟩
  | .hbm, ⟨4, _⟩ => ⟨S8x1024x256, .f32⟩
  | .hbm, ⟨5, _⟩ => ⟨S8x1024x256, .bf16⟩
  | .hbm, ⟨6, _⟩ => ⟨S8192x1024, .bf16⟩
  | .hbm, ⟨7, _⟩ => ⟨S8192x1024, .f32⟩
  | .hbm, ⟨8, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x256, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S8192x1024 : Shape := ⟨2, ![8192, 1024]⟩
abbrev S1x1024 : Shape := ⟨2, ![1, 1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x2048, .f32⟩
  | .hbm, ⟨35, _⟩ => ⟨S8192x1024, .f32⟩
  | .hbm, ⟨36, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S512x1024 : Shape := ⟨2, ![512, 1024]⟩
abbrev S512 : Shape := ⟨1, ![512]⟩
abbrev S512x1 : Shape := ⟨2, ![512, 1]⟩
abbrev S4x1024x256 : Shape := ⟨3, ![4, 1024, 256]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 17
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x2048, .f32⟩
  | .hbm, ⟨4, _⟩ => ⟨S1024x2048, .f32⟩
  | .hbm, ⟨5, _⟩ => ⟨S1024x8x256, .f32⟩
  | .hbm, ⟨6, _⟩ => ⟨S8x1024x256, .f32⟩
  | .hbm, ⟨7, _⟩ => ⟨S8x1024x256, .bf16⟩
  | .hbm, ⟨8, _⟩ => ⟨S1024x8x256, .f32⟩
  | .hbm, ⟨9, _⟩ => ⟨S8x1024x256, .f32⟩
  | .hbm, ⟨10, _⟩ => ⟨S8x1024x256, .bf16⟩
  | .hbm, ⟨11, _⟩ => ⟨S8192x1024, .bf16⟩
  | .hbm, ⟨12, _⟩ => ⟨S8192x1024, .bf16⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S8x1024x256, .bf16⟩
  | .local _ .vmem, ⟨5, _⟩ => ⟨S8x1024x256, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev main_v6_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference9Ideal.lean ====
abbrev S8192x1024 : Shape := ⟨2, ![8192, 1024]⟩
abbrev S1x1024 : Shape := ⟨2, ![1, 1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x2048, .f32⟩
  | .hbm, ⟨4, _⟩ => ⟨S1024x2048, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x2048, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x2048, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .bf16⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .bf16⟩
  | .hbm, ⟨73, _⟩ => ⟨S8192x1024, .bf16⟩
  | .hbm, ⟨74, _⟩ => ⟨S8192x1024, .bf16⟩
  | .hbm, ⟨75, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Kernel10.lean ====
abbrev S8192x1024 : Shape := ⟨2, ![8192, 1024]⟩
abbrev S64x64 : Shape := ⟨2, ![64, 64]⟩
abbrev S64x64x16 : Shape := ⟨3, ![64, 64, 16]⟩
abbrev S64x16x64 : Shape := ⟨3, ![64, 16, 64]⟩
abbrev S8x8 : Shape := ⟨2, ![8, 8]⟩
abbrev S_ : Shape := ⟨0, ![]⟩
abbrev S1x64x64x16 : Shape := ⟨4, ![1, 64, 64, 16]⟩
abbrev S2x64x64x16 : Shape := ⟨4, ![2, 64, 64, 16]⟩
abbrev S2x8x8x64x16 : Shape := ⟨5, ![2, 8, 8, 64, 16]⟩
abbrev S8x8x16x2x64 : Shape := ⟨5, ![8, 8, 16, 2, 64]⟩
abbrev S8x8x16x2x1x64 : Shape := ⟨6, ![8, 8, 16, 2, 1, 64]⟩
abbrev S1x8x1x1x8x1 : Shape := ⟨6, ![1, 8, 1, 1, 8, 1]⟩
abbrev S8x8x16x2x8x64 : Shape := ⟨6, ![8, 8, 16, 2, 8, 64]⟩
abbrev S8x128x1024 : Shape := ⟨3, ![8, 128, 1024]⟩
abbrev S1x64x16x64 : Shape := ⟨4, ![1, 64, 16, 64]⟩
abbrev S2x64x16x64 : Shape := ⟨4, ![2, 64, 16, 64]⟩
abbrev S2x8x8x16x64 : Shape := ⟨5, ![2, 8, 8, 16, 64]⟩
abbrev S8x2x8x64x16 : Shape := ⟨5, ![8, 2, 8, 64, 16]⟩
abbrev S8x2x8x64x1x16 : Shape := ⟨6, ![8, 2, 8, 64, 1, 16]⟩
abbrev S1x1x8x1x8x1 : Shape := ⟨6, ![1, 1, 8, 1, 8, 1]⟩
abbrev S8x2x8x64x8x16 : Shape := ⟨6, ![8, 2, 8, 64, 8, 16]⟩
abbrev S8x1024x128 : Shape := ⟨3, ![8, 1024, 128]⟩
abbrev S8192x64x16 : Shape := ⟨3, ![8192, 64, 16]⟩
abbrev S64x64x8192 : Shape := ⟨3, ![64, 64, 8192]⟩
abbrev S8192x64x64 : Shape := ⟨3, ![8192, 64, 64]⟩
abbrev S4096x64x64 : Shape := ⟨3, ![4096, 64, 64]⟩
abbrev S2048x64x64 : Shape := ⟨3, ![2048, 64, 64]⟩
abbrev S1024x64x64 : Shape := ⟨3, ![1024, 64, 64]⟩
abbrev S512x64x64 : Shape := ⟨3, ![512, 64, 64]⟩
abbrev S256x64x64 : Shape := ⟨3, ![256, 64, 64]⟩
abbrev S128x64x64 : Shape := ⟨3, ![128, 64, 64]⟩
abbrev S64x64x64 : Shape := ⟨3, ![64, 64, 64]⟩
abbrev S32x64x64 : Shape := ⟨3, ![32, 64, 64]⟩
abbrev S16x64x64 : Shape := ⟨3, ![16, 64, 64]⟩
abbrev S8x64x64 : Shape := ⟨3, ![8, 64, 64]⟩
abbrev S4x64x64 : Shape := ⟨3, ![4, 64, 64]⟩
abbrev S2x64x64 : Shape := ⟨3, ![2, 64, 64]⟩
abbrev S1x64x64 : Shape := ⟨3, ![1, 64, 64]⟩
abbrev S0x64x64 : Shape := ⟨3, ![0, 64, 64]⟩
abbrev S3x64x64 : Shape := ⟨3, ![3, 64, 64]⟩
abbrev S7x64x64 : Shape := ⟨3, ![7, 64, 64]⟩
abbrev S15x64x64 : Shape := ⟨3, ![15, 64, 64]⟩
abbrev S31x64x64 : Shape := ⟨3, ![31, 64, 64]⟩
abbrev S63x64x64 : Shape := ⟨3, ![63, 64, 64]⟩
abbrev S127x64x64 : Shape := ⟨3, ![127, 64, 64]⟩
abbrev S255x64x64 : Shape := ⟨3, ![255, 64, 64]⟩
abbrev S511x64x64 : Shape := ⟨3, ![511, 64, 64]⟩
abbrev S1023x64x64 : Shape := ⟨3, ![1023, 64, 64]⟩
abbrev S2047x64x64 : Shape := ⟨3, ![2047, 64, 64]⟩
abbrev S4095x64x64 : Shape := ⟨3, ![4095, 64, 64]⟩
abbrev S32x8x4x128 : Shape := ⟨4, ![32, 8, 4, 128]⟩
abbrev S32x4x8x128 : Shape := ⟨4, ![32, 4, 8, 128]⟩
abbrev S32x8x8x128 : Shape := ⟨4, ![32, 8, 8, 128]⟩
abbrev S8x4x128 : Shape := ⟨3, ![8, 4, 128]⟩
abbrev S4x8x128 : Shape := ⟨3, ![4, 8, 128]⟩
abbrev S256x1024 : Shape := ⟨2, ![256, 1024]⟩
abbrev S1x8x8x128 : Shape := ⟨4, ![1, 8, 8, 128]⟩
abbrev S8x2048x128 : Shape := ⟨3, ![8, 2048, 128]⟩
abbrev S8x8x128 : Shape := ⟨3, ![8, 8, 128]⟩
abbrev S256x128 : Shape := ⟨2, ![256, 128]⟩
abbrev S1x128x1024 : Shape := ⟨3, ![1, 128, 1024]⟩
abbrev S128x1024 : Shape := ⟨2, ![128, 1024]⟩
abbrev S1x256x128 : Shape := ⟨3, ![1, 256, 128]⟩
abbrev S1x8x128 : Shape := ⟨3, ![1, 8, 128]⟩
abbrev S8x128 : Shape := ⟨2, ![8, 128]⟩
abbrev S1x1x8x128 : Shape := ⟨4, ![1, 1, 8, 128]⟩
abbrev S1x1024x128 : Shape := ⟨3, ![1, 1024, 128]⟩
abbrev S1024x128 : Shape := ⟨2, ![1024, 128]⟩
abbrev S1x2040x128 : Shape := ⟨3, ![1, 2040, 128]⟩
abbrev S2040x128 : Shape := ⟨2, ![2040, 128]⟩
abbrev S255x8x128 : Shape := ⟨3, ![255, 8, 128]⟩
abbrev S8x1x16x2x1x64 : Shape := ⟨6, ![8, 1, 16, 2, 1, 64]⟩
abbrev S8x16x2x64 : Shape := ⟨4, ![8, 16, 2, 64]⟩
abbrev S8x1x16x2x64 : Shape := ⟨5, ![8, 1, 16, 2, 64]⟩
abbrev S8x2x1x64x1x16 : Shape := ⟨6, ![8, 2, 1, 64, 1, 16]⟩
abbrev S8x2x64x16 : Shape := ⟨4, ![8, 2, 64, 16]⟩
abbrev S8x1x2x64x16 : Shape := ⟨5, ![8, 1, 2, 64, 16]⟩
abbrev S8x8x2x64x16 : Shape := ⟨5, ![8, 8, 2, 64, 16]⟩

abbrev nBuf : Space → Nat
  | .hbm => 1058
  | .vmem => 21
  | .smem => 0
  | _ => 0

abbrev hbmTy0_0 (i : Nat) : BufTy := match i % 128 with
  | 0 => ⟨S8192x1024, .f32⟩
  | 1 => ⟨S8192x1024, .f32⟩
  | 2 => ⟨S64x64, .f32⟩
  | 3 => ⟨S64x64, .f32⟩
  | 4 => ⟨S64x64x16, .f32⟩
  | 5 => ⟨S64x64x16, .f32⟩
  | 6 => ⟨S64x16x64, .f32⟩
  | 7 => ⟨S64x16x64, .f32⟩
  | 8 => ⟨S8192x1024, .f32⟩
  | 9 => ⟨S8x8, .i32⟩
  | 10 => ⟨S8x8, .i32⟩
  | 11 => ⟨S_, .i32⟩
  | 12 => ⟨S8x8, .i32⟩
  | 13 => ⟨S8x8, .i32⟩
  | 14 => ⟨S8x8, .i1⟩
  | 15 => ⟨S8x8, .f32⟩
  | 16 => ⟨S1x64x64x16, .f32⟩
  | 17 => ⟨S1x64x64x16, .f32⟩
  | 18 => ⟨S2x64x64x16, .f32⟩
  | 19 => ⟨S2x8x8x64x16, .f32⟩
  | 20 => ⟨S8x8x16x2x64, .f32⟩
  | 21 => ⟨S8x8x16x2x1x64, .f32⟩
  | 22 => ⟨S1x8x1x1x8x1, .f32⟩
  | 23 => ⟨S8x8x16x2x8x64, .f32⟩
  | 24 => ⟨S8x8x16x2x8x64, .f32⟩
  | 25 => ⟨S8x8x16x2x8x64, .f32⟩
  | 26 => ⟨S8x128x1024, .f32⟩
  | 27 => ⟨S64x16x64, .f32⟩
  | 28 => ⟨S1x64x16x64, .f32⟩
  | 29 => ⟨S1x64x16x64, .f32⟩
  | 30 => ⟨S2x64x16x64, .f32⟩
  | 31 => ⟨S2x8x8x16x64, .f32⟩
  | 32 => ⟨S8x2x8x64x16, .f32⟩
  | 33 => ⟨S8x2x8x64x1x16, .f32⟩
  | 34 => ⟨S1x1x8x1x8x1, .f32⟩
  | 35 => ⟨S8x2x8x64x8x16, .f32⟩
  | 36 => ⟨S8x2x8x64x8x16, .f32⟩
  | 37 => ⟨S8x2x8x64x8x16, .f32⟩
  | 38 => ⟨S8x1024x128, .f32⟩
  | 39 => ⟨S8192x64x16, .f32⟩
  | 40 => ⟨S64x64x8192, .f32⟩
  | 41 => ⟨S8192x64x64, .f32⟩
  | 42 => ⟨S64x64x8192, .f32⟩
  | 43 => ⟨S8192x64x64, .f32⟩
  | 44 => ⟨S8192x64x64, .f32⟩
  | 45 => ⟨S8192x64x64, .f32⟩
  | 46 => ⟨S4096x64x64, .f32⟩
  | 47 => ⟨S4096x64x64, .f32⟩
  | 48 => ⟨S4096x64x64, .f32⟩
  | 49 => ⟨S4096x64x64, .f32⟩
  | 50 => ⟨S4096x64x64, .f32⟩
  | 51 => ⟨S4096x64x64, .f32⟩
  | 52 => ⟨S4096x64x64, .f32⟩
  | 53 => ⟨S4096x64x64, .f32⟩
  | 54 => ⟨S4096x64x64, .f32⟩
  | 55 => ⟨S4096x64x64, .f32⟩
  | 56 => ⟨S4096x64x64, .f32⟩
  | 57 => ⟨S4096x64x64, .f32⟩
  | 58 => ⟨S4096x64x64, .f32⟩
  | 59 => ⟨S4096x64x64, .f32⟩
  | 60 => ⟨S4096x64x64, .f32⟩
  | 61 => ⟨S4096x64x64, .f32⟩
  | 62 => ⟨S4096x64x64, .f32⟩
  | 63 => ⟨S4096x64x64, .f32⟩
  | 64 => ⟨S4096x64x64, .f32⟩
  | 65 => ⟨S4096x64x64, .f32⟩
  | 66 => ⟨S4096x64x64, .f32⟩
  | 67 => ⟨S4096x64x64, .f32⟩
  | 68 => ⟨S2048x64x64, .f32⟩
  | 69 => ⟨S2048x64x64, .f32⟩
  | 70 => ⟨S2048x64x64, .f32⟩
  | 71 => ⟨S2048x64x64, .f32⟩
  | 72 => ⟨S2048x64x64, .f32⟩
  | 73 => ⟨S2048x64x64, .f32⟩
  | 74 => ⟨S2048x64x64, .f32⟩
  | 75 => ⟨S2048x64x64, .f32⟩
  | 76 => ⟨S2048x64x64, .f32⟩
  | 77 => ⟨S2048x64x64, .f32⟩
  | 78 => ⟨S2048x64x64, .f32⟩
  | 79 => ⟨S2048x64x64, .f32⟩
  | 80 => ⟨S2048x64x64, .f32⟩
  | 81 => ⟨S2048x64x64, .f32⟩
  | 82 => ⟨S2048x64x64, .f32⟩
  | 83 => ⟨S2048x64x64, .f32⟩
  | 84 => ⟨S2048x64x64, .f32⟩
  | 85 => ⟨S2048x64x64, .f32⟩
  | 86 => ⟨S2048x64x64, .f32⟩
  | 87 => ⟨S2048x64x64, .f32⟩
  | 88 => ⟨S2048x64x64, .f32⟩
  | 89 => ⟨S2048x64x64, .f32⟩
  | 90 => ⟨S1024x64x64, .f32⟩
  | 91 => ⟨S1024x64x64, .f32⟩
  | 92 => ⟨S1024x64x64, .f32⟩
  | 93 => ⟨S1024x64x64, .f32⟩
  | 94 => ⟨S1024x64x64, .f32⟩
  | 95 => ⟨S1024x64x64, .f32⟩
  | 96 => ⟨S1024x64x64, .f32⟩
  | 97 => ⟨S1024x64x64, .f32⟩
  | 98 => ⟨S1024x64x64, .f32⟩
  | 99 => ⟨S1024x64x64, .f32⟩
  | 100 => ⟨S1024x64x64, .f32⟩
  | 101 => ⟨S1024x64x64, .f32⟩
  | 102 => ⟨S1024x64x64, .f32⟩
  | 103 => ⟨S1024x64x64, .f32⟩
  | 104 => ⟨S1024x64x64, .f32⟩
  | 105 => ⟨S1024x64x64, .f32⟩
  | 106 => ⟨S1024x64x64, .f32⟩
  | 107 => ⟨S1024x64x64, .f32⟩
  | 108 => ⟨S1024x64x64, .f32⟩
  | 109 => ⟨S1024x64x64, .f32⟩
  | 110 => ⟨S1024x64x64, .f32⟩
  | 111 => ⟨S1024x64x64, .f32⟩
  | 112 => ⟨S512x64x64, .f32⟩
  | 113 => ⟨S512x64x64, .f32⟩
  | 114 => ⟨S512x64x64, .f32⟩
  | 115 => ⟨S512x64x64, .f32⟩
  | 116 => ⟨S512x64x64, .f32⟩
  | 117 => ⟨S512x64x64, .f32⟩
  | 118 => ⟨S512x64x64, .f32⟩
  | 119 => ⟨S512x64x64, .f32⟩
  | 120 => ⟨S512x64x64, .f32⟩
  | 121 => ⟨S512x64x64, .f32⟩
  | 122 => ⟨S512x64x64, .f32⟩
  | 123 => ⟨S512x64x64, .f32⟩
  | 124 => ⟨S512x64x64, .f32⟩
  | 125 => ⟨S512x64x64, .f32⟩
  | 126 => ⟨S512x64x64, .f32⟩
  | 127 => ⟨S512x64x64, .f32⟩
  | _ => ⟨S8192x1024, .f32⟩

abbrev hbmTy0_1 (i : Nat) : BufTy := match i % 128 with
  | 0 => ⟨S512x64x64, .f32⟩
  | 1 => ⟨S512x64x64, .f32⟩
  | 2 => ⟨S512x64x64, .f32⟩
  | 3 => ⟨S512x64x64, .f32⟩
  | 4 => ⟨S512x64x64, .f32⟩
  | 5 => ⟨S512x64x64, .f32⟩
  | 6 => ⟨S256x64x64, .f32⟩
  | 7 => ⟨S256x64x64, .f32⟩
  | 8 => ⟨S256x64x64, .f32⟩
  | 9 => ⟨S256x64x64, .f32⟩
  | 10 => ⟨S256x64x64, .f32⟩
  | 11 => ⟨S256x64x64, .f32⟩
  | 12 => ⟨S256x64x64, .f32⟩
  | 13 => ⟨S256x64x64, .f32⟩
  | 14 => ⟨S256x64x64, .f32⟩
  | 15 => ⟨S256x64x64, .f32⟩
  | 16 => ⟨S256x64x64, .f32⟩
  | 17 => ⟨S256x64x64, .f32⟩
  | 18 => ⟨S256x64x64, .f32⟩
  | 19 => ⟨S256x64x64, .f32⟩
  | 20 => ⟨S256x64x64, .f32⟩
  | 21 => ⟨S256x64x64, .f32⟩
  | 22 => ⟨S256x64x64, .f32⟩
  | 23 => ⟨S256x64x64, .f32⟩
  | 24 => ⟨S256x64x64, .f32⟩
  | 25 => ⟨S256x64x64, .f32⟩
  | 26 => ⟨S256x64x64, .f32⟩
  | 27 => ⟨S256x64x64, .f32⟩
  | 28 => ⟨S128x64x64, .f32⟩
  | 29 => ⟨S128x64x64, .f32⟩
  | 30 => ⟨S128x64x64, .f32⟩
  | 31 => ⟨S128x64x64, .f32⟩
  | 32 => ⟨S128x64x64, .f32⟩
  | 33 => ⟨S128x64x64, .f32⟩
  | 34 => ⟨S128x64x64, .f32⟩
  | 35 => ⟨S128x64x64, .f32⟩
  | 36 => ⟨S128x64x64, .f32⟩
  | 37 => ⟨S128x64x64, .f32⟩
  | 38 => ⟨S128x64x64, .f32⟩
  | 39 => ⟨S128x64x64, .f32⟩
  | 40 => ⟨S128x64x64, .f32⟩
  | 41 => ⟨S128x64x64, .f32⟩
  | 42 => ⟨S128x64x64, .f32⟩
  | 43 => ⟨S128x64x64, .f32⟩
  | 44 => ⟨S128x64x64, .f32⟩
  | 45 => ⟨S128x64x64, .f32⟩
  | 46 => ⟨S128x64x64, .f32⟩
  | 47 => ⟨S128x64x64, .f32⟩
  | 48 => ⟨S128x64x64, .f32⟩
  | 49 => ⟨S128x64x64, .f32⟩
  | 50 => ⟨S64x64x64, .f32⟩
  | 51 => ⟨S64x64x64, .f32⟩
  | 52 => ⟨S64x64x64, .f32⟩
  | 53 => ⟨S64x64x64, .f32⟩
  | 54 => ⟨S64x64x64, .f32⟩
  | 55 => ⟨S64x64x64, .f32⟩
  | 56 => ⟨S64x64x64, .f32⟩
  | 57 => ⟨S64x64x64, .f32⟩
  | 58 => ⟨S64x64x64, .f32⟩
  | 59 => ⟨S64x64x64, .f32⟩
  | 60 => ⟨S64x64x64, .f32⟩
  | 61 => ⟨S64x64x64, .f32⟩
  | 62 => ⟨S64x64x64, .f32⟩
  | 63 => ⟨S64x64x64, .f32⟩
  | 64 => ⟨S64x64x64, .f32⟩
  | 65 => ⟨S64x64x64, .f32⟩
  | 66 => ⟨S64x64x64, .f32⟩
  | 67 => ⟨S64x64x64, .f32⟩
  | 68 => ⟨S64x64x64, .f32⟩
  | 69 => ⟨S64x64x64, .f32⟩
  | 70 => ⟨S64x64x64, .f32⟩
  | 71 => ⟨S64x64x64, .f32⟩
  | 72 => ⟨S32x64x64, .f32⟩
  | 73 => ⟨S32x64x64, .f32⟩
  | 74 => ⟨S32x64x64, .f32⟩
  | 75 => ⟨S32x64x64, .f32⟩
  | 76 => ⟨S32x64x64, .f32⟩
  | 77 => ⟨S32x64x64, .f32⟩
  | 78 => ⟨S32x64x64, .f32⟩
  | 79 => ⟨S32x64x64, .f32⟩
  | 80 => ⟨S32x64x64, .f32⟩
  | 81 => ⟨S32x64x64, .f32⟩
  | 82 => ⟨S32x64x64, .f32⟩
  | 83 => ⟨S32x64x64, .f32⟩
  | 84 => ⟨S32x64x64, .f32⟩
  | 85 => ⟨S32x64x64, .f32⟩
  | 86 => ⟨S32x64x64, .f32⟩
  | 87 => ⟨S32x64x64, .f32⟩
  | 88 => ⟨S32x64x64, .f32⟩
  | 89 => ⟨S32x64x64, .f32⟩
  | 90 => ⟨S32x64x64, .f32⟩
  | 91 => ⟨S32x64x64, .f32⟩
  | 92 => ⟨S32x64x64, .f32⟩
  | 93 => ⟨S32x64x64, .f32⟩
  | 94 => ⟨S16x64x64, .f32⟩
  | 95 => ⟨S16x64x64, .f32⟩
  | 96 => ⟨S16x64x64, .f32⟩
  | 97 => ⟨S16x64x64, .f32⟩
  | 98 => ⟨S16x64x64, .f32⟩
  | 99 => ⟨S16x64x64, .f32⟩
  | 100 => ⟨S16x64x64, .f32⟩
  | 101 => ⟨S16x64x64, .f32⟩
  | 102 => ⟨S16x64x64, .f32⟩
  | 103 => ⟨S16x64x64, .f32⟩
  | 104 => ⟨S16x64x64, .f32⟩
  | 105 => ⟨S16x64x64, .f32⟩
  | 106 => ⟨S16x64x64, .f32⟩
  | 107 => ⟨S16x64x64, .f32⟩
  | 108 => ⟨S16x64x64, .f32⟩
  | 109 => ⟨S16x64x64, .f32⟩
  | 110 => ⟨S16x64x64, .f32⟩
  | 111 => ⟨S16x64x64, .f32⟩
  | 112 => ⟨S16x64x64, .f32⟩
  | 113 => ⟨S16x64x64, .f32⟩
  | 114 => ⟨S16x64x64, .f32⟩
  | 115 => ⟨S16x64x64, .f32⟩
  | 116 => ⟨S8x64x64, .f32⟩
  | 117 => ⟨S8x64x64, .f32⟩
  | 118 => ⟨S8x64x64, .f32⟩
  | 119 => ⟨S8x64x64, .f32⟩
  | 120 => ⟨S8x64x64, .f32⟩
  | 121 => ⟨S8x64x64, .f32⟩
  | 122 => ⟨S8x64x64, .f32⟩
  | 123 => ⟨S8x64x64, .f32⟩
  | 124 => ⟨S8x64x64, .f32⟩
  | 125 => ⟨S8x64x64, .f32⟩
  | 126 => ⟨S8x64x64, .f32⟩
  | 127 => ⟨S8x64x64, .f32⟩
  | _ => ⟨S8192x1024, .f32⟩

abbrev hbmTy0_2 (i : Nat) : BufTy := match i % 128 with
  | 0 => ⟨S8x64x64, .f32⟩
  | 1 => ⟨S8x64x64, .f32⟩
  | 2 => ⟨S8x64x64, .f32⟩
  | 3 => ⟨S8x64x64, .f32⟩
  | 4 => ⟨S8x64x64, .f32⟩
  | 5 => ⟨S8x64x64, .f32⟩
  | 6 => ⟨S8x64x64, .f32⟩
  | 7 => ⟨S8x64x64, .f32⟩
  | 8 => ⟨S8x64x64, .f32⟩
  | 9 => ⟨S8x64x64, .f32⟩
  | 10 => ⟨S4x64x64, .f32⟩
  | 11 => ⟨S4x64x64, .f32⟩
  | 12 => ⟨S4x64x64, .f32⟩
  | 13 => ⟨S4x64x64, .f32⟩
  | 14 => ⟨S4x64x64, .f32⟩
  | 15 => ⟨S4x64x64, .f32⟩
  | 16 => ⟨S4x64x64, .f32⟩
  | 17 => ⟨S4x64x64, .f32⟩
  | 18 => ⟨S4x64x64, .f32⟩
  | 19 => ⟨S4x64x64, .f32⟩
  | 20 => ⟨S4x64x64, .f32⟩
  | 21 => ⟨S4x64x64, .f32⟩
  | 22 => ⟨S4x64x64, .f32⟩
  | 23 => ⟨S4x64x64, .f32⟩
  | 24 => ⟨S4x64x64, .f32⟩
  | 25 => ⟨S4x64x64, .f32⟩
  | 26 => ⟨S4x64x64, .f32⟩
  | 27 => ⟨S4x64x64, .f32⟩
  | 28 => ⟨S4x64x64, .f32⟩
  | 29 => ⟨S4x64x64, .f32⟩
  | 30 => ⟨S4x64x64, .f32⟩
  | 31 => ⟨S4x64x64, .f32⟩
  | 32 => ⟨S2x64x64, .f32⟩
  | 33 => ⟨S2x64x64, .f32⟩
  | 34 => ⟨S2x64x64, .f32⟩
  | 35 => ⟨S2x64x64, .f32⟩
  | 36 => ⟨S2x64x64, .f32⟩
  | 37 => ⟨S2x64x64, .f32⟩
  | 38 => ⟨S2x64x64, .f32⟩
  | 39 => ⟨S2x64x64, .f32⟩
  | 40 => ⟨S2x64x64, .f32⟩
  | 41 => ⟨S2x64x64, .f32⟩
  | 42 => ⟨S2x64x64, .f32⟩
  | 43 => ⟨S2x64x64, .f32⟩
  | 44 => ⟨S2x64x64, .f32⟩
  | 45 => ⟨S2x64x64, .f32⟩
  | 46 => ⟨S2x64x64, .f32⟩
  | 47 => ⟨S2x64x64, .f32⟩
  | 48 => ⟨S2x64x64, .f32⟩
  | 49 => ⟨S2x64x64, .f32⟩
  | 50 => ⟨S2x64x64, .f32⟩
  | 51 => ⟨S2x64x64, .f32⟩
  | 52 => ⟨S2x64x64, .f32⟩
  | 53 => ⟨S2x64x64, .f32⟩
  | 54 => ⟨S1x64x64, .f32⟩
  | 55 => ⟨S1x64x64, .f32⟩
  | 56 => ⟨S1x64x64, .f32⟩
  | 57 => ⟨S1x64x64, .f32⟩
  | 58 => ⟨S1x64x64, .f32⟩
  | 59 => ⟨S1x64x64, .f32⟩
  | 60 => ⟨S1x64x64, .f32⟩
  | 61 => ⟨S1x64x64, .f32⟩
  | 62 => ⟨S1x64x64, .f32⟩
  | 63 => ⟨S1x64x64, .f32⟩
  | 64 => ⟨S1x64x64, .f32⟩
  | 65 => ⟨S1x64x64, .f32⟩
  | 66 => ⟨S1x64x64, .f32⟩
  | 67 => ⟨S1x64x64, .f32⟩
  | 68 => ⟨S1x64x64, .f32⟩
  | 69 => ⟨S1x64x64, .f32⟩
  | 70 => ⟨S1x64x64, .f32⟩
  | 71 => ⟨S1x64x64, .f32⟩
  | 72 => ⟨S1x64x64, .f32⟩
  | 73 => ⟨S1x64x64, .f32⟩
  | 74 => ⟨S1x64x64, .f32⟩
  | 75 => ⟨S1x64x64, .f32⟩
  | 76 => ⟨S0x64x64, .f32⟩
  | 77 => ⟨S0x64x64, .f32⟩
  | 78 => ⟨S0x64x64, .f32⟩
  | 79 => ⟨S0x64x64, .f32⟩
  | 80 => ⟨S0x64x64, .f32⟩
  | 81 => ⟨S0x64x64, .f32⟩
  | 82 => ⟨S0x64x64, .f32⟩
  | 83 => ⟨S0x64x64, .f32⟩
  | 84 => ⟨S0x64x64, .f32⟩
  | 85 => ⟨S0x64x64, .f32⟩
  | 86 => ⟨S0x64x64, .f32⟩
  | 87 => ⟨S0x64x64, .f32⟩
  | 88 => ⟨S0x64x64, .f32⟩
  | 89 => ⟨S0x64x64, .f32⟩
  | 90 => ⟨S0x64x64, .f32⟩
  | 91 => ⟨S0x64x64, .f32⟩
  | 92 => ⟨S0x64x64, .f32⟩
  | 93 => ⟨S0x64x64, .f32⟩
  | 94 => ⟨S0x64x64, .f32⟩
  | 95 => ⟨S0x64x64, .f32⟩
  | 96 => ⟨S0x64x64, .f32⟩
  | 97 => ⟨S0x64x64, .f32⟩
  | 98 => ⟨S1x64x64, .f32⟩
  | 99 => ⟨S1x64x64, .f32⟩
  | 100 => ⟨S1x64x64, .f32⟩
  | 101 => ⟨S1x64x64, .f32⟩
  | 102 => ⟨S1x64x64, .f32⟩
  | 103 => ⟨S1x64x64, .f32⟩
  | 104 => ⟨S1x64x64, .f32⟩
  | 105 => ⟨S1x64x64, .f32⟩
  | 106 => ⟨S_, .f32⟩
  | 107 => ⟨S2x64x64, .f32⟩
  | 108 => ⟨S_, .f32⟩
  | 109 => ⟨S2x64x64, .f32⟩
  | 110 => ⟨S2x64x64, .f32⟩
  | 111 => ⟨S_, .f32⟩
  | 112 => ⟨S2x64x64, .f32⟩
  | 113 => ⟨S_, .f32⟩
  | 114 => ⟨S2x64x64, .f32⟩
  | 115 => ⟨S2x64x64, .f32⟩
  | 116 => ⟨S_, .f32⟩
  | 117 => ⟨S2x64x64, .f32⟩
  | 118 => ⟨S_, .f32⟩
  | 119 => ⟨S2x64x64, .f32⟩
  | 120 => ⟨S2x64x64, .f32⟩
  | 121 => ⟨S_, .f32⟩
  | 122 => ⟨S2x64x64, .f32⟩
  | 123 => ⟨S_, .f32⟩
  | 124 => ⟨S2x64x64, .f32⟩
  | 125 => ⟨S2x64x64, .f32⟩
  | 126 => ⟨S1x64x64, .f32⟩
  | 127 => ⟨S1x64x64, .f32⟩
  | _ => ⟨S8192x1024, .f32⟩

abbrev hbmTy0_3 (i : Nat) : BufTy := match i % 128 with
  | 0 => ⟨S1x64x64, .f32⟩
  | 1 => ⟨S1x64x64, .f32⟩
  | 2 => ⟨S1x64x64, .f32⟩
  | 3 => ⟨S1x64x64, .f32⟩
  | 4 => ⟨S1x64x64, .f32⟩
  | 5 => ⟨S1x64x64, .f32⟩
  | 6 => ⟨S1x64x64, .f32⟩
  | 7 => ⟨S1x64x64, .f32⟩
  | 8 => ⟨S1x64x64, .f32⟩
  | 9 => ⟨S1x64x64, .f32⟩
  | 10 => ⟨S1x64x64, .f32⟩
  | 11 => ⟨S1x64x64, .f32⟩
  | 12 => ⟨S1x64x64, .f32⟩
  | 13 => ⟨S1x64x64, .f32⟩
  | 14 => ⟨S1x64x64, .f32⟩
  | 15 => ⟨S1x64x64, .f32⟩
  | 16 => ⟨S1x64x64, .f32⟩
  | 17 => ⟨S1x64x64, .f32⟩
  | 18 => ⟨S1x64x64, .f32⟩
  | 19 => ⟨S1x64x64, .f32⟩
  | 20 => ⟨S1x64x64, .f32⟩
  | 21 => ⟨S2x64x64, .f32⟩
  | 22 => ⟨S1x64x64, .f32⟩
  | 23 => ⟨S2x64x64, .f32⟩
  | 24 => ⟨S1x64x64, .f32⟩
  | 25 => ⟨S2x64x64, .f32⟩
  | 26 => ⟨S1x64x64, .f32⟩
  | 27 => ⟨S2x64x64, .f32⟩
  | 28 => ⟨S_, .f32⟩
  | 29 => ⟨S4x64x64, .f32⟩
  | 30 => ⟨S_, .f32⟩
  | 31 => ⟨S4x64x64, .f32⟩
  | 32 => ⟨S4x64x64, .f32⟩
  | 33 => ⟨S_, .f32⟩
  | 34 => ⟨S4x64x64, .f32⟩
  | 35 => ⟨S_, .f32⟩
  | 36 => ⟨S4x64x64, .f32⟩
  | 37 => ⟨S4x64x64, .f32⟩
  | 38 => ⟨S_, .f32⟩
  | 39 => ⟨S4x64x64, .f32⟩
  | 40 => ⟨S_, .f32⟩
  | 41 => ⟨S4x64x64, .f32⟩
  | 42 => ⟨S4x64x64, .f32⟩
  | 43 => ⟨S_, .f32⟩
  | 44 => ⟨S4x64x64, .f32⟩
  | 45 => ⟨S_, .f32⟩
  | 46 => ⟨S4x64x64, .f32⟩
  | 47 => ⟨S4x64x64, .f32⟩
  | 48 => ⟨S3x64x64, .f32⟩
  | 49 => ⟨S3x64x64, .f32⟩
  | 50 => ⟨S3x64x64, .f32⟩
  | 51 => ⟨S3x64x64, .f32⟩
  | 52 => ⟨S3x64x64, .f32⟩
  | 53 => ⟨S3x64x64, .f32⟩
  | 54 => ⟨S3x64x64, .f32⟩
  | 55 => ⟨S3x64x64, .f32⟩
  | 56 => ⟨S3x64x64, .f32⟩
  | 57 => ⟨S3x64x64, .f32⟩
  | 58 => ⟨S3x64x64, .f32⟩
  | 59 => ⟨S3x64x64, .f32⟩
  | 60 => ⟨S3x64x64, .f32⟩
  | 61 => ⟨S3x64x64, .f32⟩
  | 62 => ⟨S3x64x64, .f32⟩
  | 63 => ⟨S3x64x64, .f32⟩
  | 64 => ⟨S3x64x64, .f32⟩
  | 65 => ⟨S3x64x64, .f32⟩
  | 66 => ⟨S3x64x64, .f32⟩
  | 67 => ⟨S3x64x64, .f32⟩
  | 68 => ⟨S3x64x64, .f32⟩
  | 69 => ⟨S3x64x64, .f32⟩
  | 70 => ⟨S1x64x64, .f32⟩
  | 71 => ⟨S4x64x64, .f32⟩
  | 72 => ⟨S1x64x64, .f32⟩
  | 73 => ⟨S4x64x64, .f32⟩
  | 74 => ⟨S1x64x64, .f32⟩
  | 75 => ⟨S4x64x64, .f32⟩
  | 76 => ⟨S1x64x64, .f32⟩
  | 77 => ⟨S4x64x64, .f32⟩
  | 78 => ⟨S_, .f32⟩
  | 79 => ⟨S8x64x64, .f32⟩
  | 80 => ⟨S_, .f32⟩
  | 81 => ⟨S8x64x64, .f32⟩
  | 82 => ⟨S8x64x64, .f32⟩
  | 83 => ⟨S_, .f32⟩
  | 84 => ⟨S8x64x64, .f32⟩
  | 85 => ⟨S_, .f32⟩
  | 86 => ⟨S8x64x64, .f32⟩
  | 87 => ⟨S8x64x64, .f32⟩
  | 88 => ⟨S_, .f32⟩
  | 89 => ⟨S8x64x64, .f32⟩
  | 90 => ⟨S_, .f32⟩
  | 91 => ⟨S8x64x64, .f32⟩
  | 92 => ⟨S8x64x64, .f32⟩
  | 93 => ⟨S_, .f32⟩
  | 94 => ⟨S8x64x64, .f32⟩
  | 95 => ⟨S_, .f32⟩
  | 96 => ⟨S8x64x64, .f32⟩
  | 97 => ⟨S8x64x64, .f32⟩
  | 98 => ⟨S7x64x64, .f32⟩
  | 99 => ⟨S7x64x64, .f32⟩
  | 100 => ⟨S7x64x64, .f32⟩
  | 101 => ⟨S7x64x64, .f32⟩
  | 102 => ⟨S7x64x64, .f32⟩
  | 103 => ⟨S7x64x64, .f32⟩
  | 104 => ⟨S7x64x64, .f32⟩
  | 105 => ⟨S7x64x64, .f32⟩
  | 106 => ⟨S7x64x64, .f32⟩
  | 107 => ⟨S7x64x64, .f32⟩
  | 108 => ⟨S7x64x64, .f32⟩
  | 109 => ⟨S7x64x64, .f32⟩
  | 110 => ⟨S7x64x64, .f32⟩
  | 111 => ⟨S7x64x64, .f32⟩
  | 112 => ⟨S7x64x64, .f32⟩
  | 113 => ⟨S7x64x64, .f32⟩
  | 114 => ⟨S7x64x64, .f32⟩
  | 115 => ⟨S7x64x64, .f32⟩
  | 116 => ⟨S7x64x64, .f32⟩
  | 117 => ⟨S7x64x64, .f32⟩
  | 118 => ⟨S7x64x64, .f32⟩
  | 119 => ⟨S7x64x64, .f32⟩
  | 120 => ⟨S1x64x64, .f32⟩
  | 121 => ⟨S8x64x64, .f32⟩
  | 122 => ⟨S1x64x64, .f32⟩
  | 123 => ⟨S8x64x64, .f32⟩
  | 124 => ⟨S1x64x64, .f32⟩
  | 125 => ⟨S8x64x64, .f32⟩
  | 126 => ⟨S1x64x64, .f32⟩
  | 127 => ⟨S8x64x64, .f32⟩
  | _ => ⟨S8192x1024, .f32⟩

abbrev hbmTy0_4 (i : Nat) : BufTy := match i % 128 with
  | 0 => ⟨S_, .f32⟩
  | 1 => ⟨S16x64x64, .f32⟩
  | 2 => ⟨S_, .f32⟩
  | 3 => ⟨S16x64x64, .f32⟩
  | 4 => ⟨S16x64x64, .f32⟩
  | 5 => ⟨S_, .f32⟩
  | 6 => ⟨S16x64x64, .f32⟩
  | 7 => ⟨S_, .f32⟩
  | 8 => ⟨S16x64x64, .f32⟩
  | 9 => ⟨S16x64x64, .f32⟩
  | 10 => ⟨S_, .f32⟩
  | 11 => ⟨S16x64x64, .f32⟩
  | 12 => ⟨S_, .f32⟩
  | 13 => ⟨S16x64x64, .f32⟩
  | 14 => ⟨S16x64x64, .f32⟩
  | 15 => ⟨S_, .f32⟩
  | 16 => ⟨S16x64x64, .f32⟩
  | 17 => ⟨S_, .f32⟩
  | 18 => ⟨S16x64x64, .f32⟩
  | 19 => ⟨S16x64x64, .f32⟩
  | 20 => ⟨S15x64x64, .f32⟩
  | 21 => ⟨S15x64x64, .f32⟩
  | 22 => ⟨S15x64x64, .f32⟩
  | 23 => ⟨S15x64x64, .f32⟩
  | 24 => ⟨S15x64x64, .f32⟩
  | 25 => ⟨S15x64x64, .f32⟩
  | 26 => ⟨S15x64x64, .f32⟩
  | 27 => ⟨S15x64x64, .f32⟩
  | 28 => ⟨S15x64x64, .f32⟩
  | 29 => ⟨S15x64x64, .f32⟩
  | 30 => ⟨S15x64x64, .f32⟩
  | 31 => ⟨S15x64x64, .f32⟩
  | 32 => ⟨S15x64x64, .f32⟩
  | 33 => ⟨S15x64x64, .f32⟩
  | 34 => ⟨S15x64x64, .f32⟩
  | 35 => ⟨S15x64x64, .f32⟩
  | 36 => ⟨S15x64x64, .f32⟩
  | 37 => ⟨S15x64x64, .f32⟩
  | 38 => ⟨S15x64x64, .f32⟩
  | 39 => ⟨S15x64x64, .f32⟩
  | 40 => ⟨S15x64x64, .f32⟩
  | 41 => ⟨S15x64x64, .f32⟩
  | 42 => ⟨S1x64x64, .f32⟩
  | 43 => ⟨S16x64x64, .f32⟩
  | 44 => ⟨S1x64x64, .f32⟩
  | 45 => ⟨S16x64x64, .f32⟩
  | 46 => ⟨S1x64x64, .f32⟩
  | 47 => ⟨S16x64x64, .f32⟩
  | 48 => ⟨S1x64x64, .f32⟩
  | 49 => ⟨S16x64x64, .f32⟩
  | 50 => ⟨S_, .f32⟩
  | 51 => ⟨S32x64x64, .f32⟩
  | 52 => ⟨S_, .f32⟩
  | 53 => ⟨S32x64x64, .f32⟩
  | 54 => ⟨S32x64x64, .f32⟩
  | 55 => ⟨S_, .f32⟩
  | 56 => ⟨S32x64x64, .f32⟩
  | 57 => ⟨S_, .f32⟩
  | 58 => ⟨S32x64x64, .f32⟩
  | 59 => ⟨S32x64x64, .f32⟩
  | 60 => ⟨S_, .f32⟩
  | 61 => ⟨S32x64x64, .f32⟩
  | 62 => ⟨S_, .f32⟩
  | 63 => ⟨S32x64x64, .f32⟩
  | 64 => ⟨S32x64x64, .f32⟩
  | 65 => ⟨S_, .f32⟩
  | 66 => ⟨S32x64x64, .f32⟩
  | 67 => ⟨S_, .f32⟩
  | 68 => ⟨S32x64x64, .f32⟩
  | 69 => ⟨S32x64x64, .f32⟩
  | 70 => ⟨S31x64x64, .f32⟩
  | 71 => ⟨S31x64x64, .f32⟩
  | 72 => ⟨S31x64x64, .f32⟩
  | 73 => ⟨S31x64x64, .f32⟩
  | 74 => ⟨S31x64x64, .f32⟩
  | 75 => ⟨S31x64x64, .f32⟩
  | 76 => ⟨S31x64x64, .f32⟩
  | 77 => ⟨S31x64x64, .f32⟩
  | 78 => ⟨S31x64x64, .f32⟩
  | 79 => ⟨S31x64x64, .f32⟩
  | 80 => ⟨S31x64x64, .f32⟩
  | 81 => ⟨S31x64x64, .f32⟩
  | 82 => ⟨S31x64x64, .f32⟩
  | 83 => ⟨S31x64x64, .f32⟩
  | 84 => ⟨S31x64x64, .f32⟩
  | 85 => ⟨S31x64x64, .f32⟩
  | 86 => ⟨S31x64x64, .f32⟩
  | 87 => ⟨S31x64x64, .f32⟩
  | 88 => ⟨S31x64x64, .f32⟩
  | 89 => ⟨S31x64x64, .f32⟩
  | 90 => ⟨S31x64x64, .f32⟩
  | 91 => ⟨S31x64x64, .f32⟩
  | 92 => ⟨S1x64x64, .f32⟩
  | 93 => ⟨S32x64x64, .f32⟩
  | 94 => ⟨S1x64x64, .f32⟩
  | 95 => ⟨S32x64x64, .f32⟩
  | 96 => ⟨S1x64x64, .f32⟩
  | 97 => ⟨S32x64x64, .f32⟩
  | 98 => ⟨S1x64x64, .f32⟩
  | 99 => ⟨S32x64x64, .f32⟩
  | 100 => ⟨S_, .f32⟩
  | 101 => ⟨S64x64x64, .f32⟩
  | 102 => ⟨S_, .f32⟩
  | 103 => ⟨S64x64x64, .f32⟩
  | 104 => ⟨S64x64x64, .f32⟩
  | 105 => ⟨S_, .f32⟩
  | 106 => ⟨S64x64x64, .f32⟩
  | 107 => ⟨S_, .f32⟩
  | 108 => ⟨S64x64x64, .f32⟩
  | 109 => ⟨S64x64x64, .f32⟩
  | 110 => ⟨S_, .f32⟩
  | 111 => ⟨S64x64x64, .f32⟩
  | 112 => ⟨S_, .f32⟩
  | 113 => ⟨S64x64x64, .f32⟩
  | 114 => ⟨S64x64x64, .f32⟩
  | 115 => ⟨S_, .f32⟩
  | 116 => ⟨S64x64x64, .f32⟩
  | 117 => ⟨S_, .f32⟩
  | 118 => ⟨S64x64x64, .f32⟩
  | 119 => ⟨S64x64x64, .f32⟩
  | 120 => ⟨S63x64x64, .f32⟩
  | 121 => ⟨S63x64x64, .f32⟩
  | 122 => ⟨S63x64x64, .f32⟩
  | 123 => ⟨S63x64x64, .f32⟩
  | 124 => ⟨S63x64x64, .f32⟩
  | 125 => ⟨S63x64x64, .f32⟩
  | 126 => ⟨S63x64x64, .f32⟩
  | 127 => ⟨S63x64x64, .f32⟩
  | _ => ⟨S8192x1024, .f32⟩

abbrev hbmTy0_5 (i : Nat) : BufTy := match i % 128 with
  | 0 => ⟨S63x64x64, .f32⟩
  | 1 => ⟨S63x64x64, .f32⟩
  | 2 => ⟨S63x64x64, .f32⟩
  | 3 => ⟨S63x64x64, .f32⟩
  | 4 => ⟨S63x64x64, .f32⟩
  | 5 => ⟨S63x64x64, .f32⟩
  | 6 => ⟨S63x64x64, .f32⟩
  | 7 => ⟨S63x64x64, .f32⟩
  | 8 => ⟨S63x64x64, .f32⟩
  | 9 => ⟨S63x64x64, .f32⟩
  | 10 => ⟨S63x64x64, .f32⟩
  | 11 => ⟨S63x64x64, .f32⟩
  | 12 => ⟨S63x64x64, .f32⟩
  | 13 => ⟨S63x64x64, .f32⟩
  | 14 => ⟨S1x64x64, .f32⟩
  | 15 => ⟨S64x64x64, .f32⟩
  | 16 => ⟨S1x64x64, .f32⟩
  | 17 => ⟨S64x64x64, .f32⟩
  | 18 => ⟨S1x64x64, .f32⟩
  | 19 => ⟨S64x64x64, .f32⟩
  | 20 => ⟨S1x64x64, .f32⟩
  | 21 => ⟨S64x64x64, .f32⟩
  | 22 => ⟨S_, .f32⟩
  | 23 => ⟨S128x64x64, .f32⟩
  | 24 => ⟨S_, .f32⟩
  | 25 => ⟨S128x64x64, .f32⟩
  | 26 => ⟨S128x64x64, .f32⟩
  | 27 => ⟨S_, .f32⟩
  | 28 => ⟨S128x64x64, .f32⟩
  | 29 => ⟨S_, .f32⟩
  | 30 => ⟨S128x64x64, .f32⟩
  | 31 => ⟨S128x64x64, .f32⟩
  | 32 => ⟨S_, .f32⟩
  | 33 => ⟨S128x64x64, .f32⟩
  | 34 => ⟨S_, .f32⟩
  | 35 => ⟨S128x64x64, .f32⟩
  | 36 => ⟨S128x64x64, .f32⟩
  | 37 => ⟨S_, .f32⟩
  | 38 => ⟨S128x64x64, .f32⟩
  | 39 => ⟨S_, .f32⟩
  | 40 => ⟨S128x64x64, .f32⟩
  | 41 => ⟨S128x64x64, .f32⟩
  | 42 => ⟨S127x64x64, .f32⟩
  | 43 => ⟨S127x64x64, .f32⟩
  | 44 => ⟨S127x64x64, .f32⟩
  | 45 => ⟨S127x64x64, .f32⟩
  | 46 => ⟨S127x64x64, .f32⟩
  | 47 => ⟨S127x64x64, .f32⟩
  | 48 => ⟨S127x64x64, .f32⟩
  | 49 => ⟨S127x64x64, .f32⟩
  | 50 => ⟨S127x64x64, .f32⟩
  | 51 => ⟨S127x64x64, .f32⟩
  | 52 => ⟨S127x64x64, .f32⟩
  | 53 => ⟨S127x64x64, .f32⟩
  | 54 => ⟨S127x64x64, .f32⟩
  | 55 => ⟨S127x64x64, .f32⟩
  | 56 => ⟨S127x64x64, .f32⟩
  | 57 => ⟨S127x64x64, .f32⟩
  | 58 => ⟨S127x64x64, .f32⟩
  | 59 => ⟨S127x64x64, .f32⟩
  | 60 => ⟨S127x64x64, .f32⟩
  | 61 => ⟨S127x64x64, .f32⟩
  | 62 => ⟨S127x64x64, .f32⟩
  | 63 => ⟨S127x64x64, .f32⟩
  | 64 => ⟨S1x64x64, .f32⟩
  | 65 => ⟨S128x64x64, .f32⟩
  | 66 => ⟨S1x64x64, .f32⟩
  | 67 => ⟨S128x64x64, .f32⟩
  | 68 => ⟨S1x64x64, .f32⟩
  | 69 => ⟨S128x64x64, .f32⟩
  | 70 => ⟨S1x64x64, .f32⟩
  | 71 => ⟨S128x64x64, .f32⟩
  | 72 => ⟨S_, .f32⟩
  | 73 => ⟨S256x64x64, .f32⟩
  | 74 => ⟨S_, .f32⟩
  | 75 => ⟨S256x64x64, .f32⟩
  | 76 => ⟨S256x64x64, .f32⟩
  | 77 => ⟨S_, .f32⟩
  | 78 => ⟨S256x64x64, .f32⟩
  | 79 => ⟨S_, .f32⟩
  | 80 => ⟨S256x64x64, .f32⟩
  | 81 => ⟨S256x64x64, .f32⟩
  | 82 => ⟨S_, .f32⟩
  | 83 => ⟨S256x64x64, .f32⟩
  | 84 => ⟨S_, .f32⟩
  | 85 => ⟨S256x64x64, .f32⟩
  | 86 => ⟨S256x64x64, .f32⟩
  | 87 => ⟨S_, .f32⟩
  | 88 => ⟨S256x64x64, .f32⟩
  | 89 => ⟨S_, .f32⟩
  | 90 => ⟨S256x64x64, .f32⟩
  | 91 => ⟨S256x64x64, .f32⟩
  | 92 => ⟨S255x64x64, .f32⟩
  | 93 => ⟨S255x64x64, .f32⟩
  | 94 => ⟨S255x64x64, .f32⟩
  | 95 => ⟨S255x64x64, .f32⟩
  | 96 => ⟨S255x64x64, .f32⟩
  | 97 => ⟨S255x64x64, .f32⟩
  | 98 => ⟨S255x64x64, .f32⟩
  | 99 => ⟨S255x64x64, .f32⟩
  | 100 => ⟨S255x64x64, .f32⟩
  | 101 => ⟨S255x64x64, .f32⟩
  | 102 => ⟨S255x64x64, .f32⟩
  | 103 => ⟨S255x64x64, .f32⟩
  | 104 => ⟨S255x64x64, .f32⟩
  | 105 => ⟨S255x64x64, .f32⟩
  | 106 => ⟨S255x64x64, .f32⟩
  | 107 => ⟨S255x64x64, .f32⟩
  | 108 => ⟨S255x64x64, .f32⟩
  | 109 => ⟨S255x64x64, .f32⟩
  | 110 => ⟨S255x64x64, .f32⟩
  | 111 => ⟨S255x64x64, .f32⟩
  | 112 => ⟨S255x64x64, .f32⟩
  | 113 => ⟨S255x64x64, .f32⟩
  | 114 => ⟨S1x64x64, .f32⟩
  | 115 => ⟨S256x64x64, .f32⟩
  | 116 => ⟨S1x64x64, .f32⟩
  | 117 => ⟨S256x64x64, .f32⟩
  | 118 => ⟨S1x64x64, .f32⟩
  | 119 => ⟨S256x64x64, .f32⟩
  | 120 => ⟨S1x64x64, .f32⟩
  | 121 => ⟨S256x64x64, .f32⟩
  | 122 => ⟨S_, .f32⟩
  | 123 => ⟨S512x64x64, .f32⟩
  | 124 => ⟨S_, .f32⟩
  | 125 => ⟨S512x64x64, .f32⟩
  | 126 => ⟨S512x64x64, .f32⟩
  | 127 => ⟨S_, .f32⟩
  | _ => ⟨S8192x1024, .f32⟩

abbrev hbmTy0_6 (i : Nat) : BufTy := match i % 128 with
  | 0 => ⟨S512x64x64, .f32⟩
  | 1 => ⟨S_, .f32⟩
  | 2 => ⟨S512x64x64, .f32⟩
  | 3 => ⟨S512x64x64, .f32⟩
  | 4 => ⟨S_, .f32⟩
  | 5 => ⟨S512x64x64, .f32⟩
  | 6 => ⟨S_, .f32⟩
  | 7 => ⟨S512x64x64, .f32⟩
  | 8 => ⟨S512x64x64, .f32⟩
  | 9 => ⟨S_, .f32⟩
  | 10 => ⟨S512x64x64, .f32⟩
  | 11 => ⟨S_, .f32⟩
  | 12 => ⟨S512x64x64, .f32⟩
  | 13 => ⟨S512x64x64, .f32⟩
  | 14 => ⟨S511x64x64, .f32⟩
  | 15 => ⟨S511x64x64, .f32⟩
  | 16 => ⟨S511x64x64, .f32⟩
  | 17 => ⟨S511x64x64, .f32⟩
  | 18 => ⟨S511x64x64, .f32⟩
  | 19 => ⟨S511x64x64, .f32⟩
  | 20 => ⟨S511x64x64, .f32⟩
  | 21 => ⟨S511x64x64, .f32⟩
  | 22 => ⟨S511x64x64, .f32⟩
  | 23 => ⟨S511x64x64, .f32⟩
  | 24 => ⟨S511x64x64, .f32⟩
  | 25 => ⟨S511x64x64, .f32⟩
  | 26 => ⟨S511x64x64, .f32⟩
  | 27 => ⟨S511x64x64, .f32⟩
  | 28 => ⟨S511x64x64, .f32⟩
  | 29 => ⟨S511x64x64, .f32⟩
  | 30 => ⟨S511x64x64, .f32⟩
  | 31 => ⟨S511x64x64, .f32⟩
  | 32 => ⟨S511x64x64, .f32⟩
  | 33 => ⟨S511x64x64, .f32⟩
  | 34 => ⟨S511x64x64, .f32⟩
  | 35 => ⟨S511x64x64, .f32⟩
  | 36 => ⟨S1x64x64, .f32⟩
  | 37 => ⟨S512x64x64, .f32⟩
  | 38 => ⟨S1x64x64, .f32⟩
  | 39 => ⟨S512x64x64, .f32⟩
  | 40 => ⟨S1x64x64, .f32⟩
  | 41 => ⟨S512x64x64, .f32⟩
  | 42 => ⟨S1x64x64, .f32⟩
  | 43 => ⟨S512x64x64, .f32⟩
  | 44 => ⟨S_, .f32⟩
  | 45 => ⟨S1024x64x64, .f32⟩
  | 46 => ⟨S_, .f32⟩
  | 47 => ⟨S1024x64x64, .f32⟩
  | 48 => ⟨S1024x64x64, .f32⟩
  | 49 => ⟨S_, .f32⟩
  | 50 => ⟨S1024x64x64, .f32⟩
  | 51 => ⟨S_, .f32⟩
  | 52 => ⟨S1024x64x64, .f32⟩
  | 53 => ⟨S1024x64x64, .f32⟩
  | 54 => ⟨S_, .f32⟩
  | 55 => ⟨S1024x64x64, .f32⟩
  | 56 => ⟨S_, .f32⟩
  | 57 => ⟨S1024x64x64, .f32⟩
  | 58 => ⟨S1024x64x64, .f32⟩
  | 59 => ⟨S_, .f32⟩
  | 60 => ⟨S1024x64x64, .f32⟩
  | 61 => ⟨S_, .f32⟩
  | 62 => ⟨S1024x64x64, .f32⟩
  | 63 => ⟨S1024x64x64, .f32⟩
  | 64 => ⟨S1023x64x64, .f32⟩
  | 65 => ⟨S1023x64x64, .f32⟩
  | 66 => ⟨S1023x64x64, .f32⟩
  | 67 => ⟨S1023x64x64, .f32⟩
  | 68 => ⟨S1023x64x64, .f32⟩
  | 69 => ⟨S1023x64x64, .f32⟩
  | 70 => ⟨S1023x64x64, .f32⟩
  | 71 => ⟨S1023x64x64, .f32⟩
  | 72 => ⟨S1023x64x64, .f32⟩
  | 73 => ⟨S1023x64x64, .f32⟩
  | 74 => ⟨S1023x64x64, .f32⟩
  | 75 => ⟨S1023x64x64, .f32⟩
  | 76 => ⟨S1023x64x64, .f32⟩
  | 77 => ⟨S1023x64x64, .f32⟩
  | 78 => ⟨S1023x64x64, .f32⟩
  | 79 => ⟨S1023x64x64, .f32⟩
  | 80 => ⟨S1023x64x64, .f32⟩
  | 81 => ⟨S1023x64x64, .f32⟩
  | 82 => ⟨S1023x64x64, .f32⟩
  | 83 => ⟨S1023x64x64, .f32⟩
  | 84 => ⟨S1023x64x64, .f32⟩
  | 85 => ⟨S1023x64x64, .f32⟩
  | 86 => ⟨S1x64x64, .f32⟩
  | 87 => ⟨S1024x64x64, .f32⟩
  | 88 => ⟨S1x64x64, .f32⟩
  | 89 => ⟨S1024x64x64, .f32⟩
  | 90 => ⟨S1x64x64, .f32⟩
  | 91 => ⟨S1024x64x64, .f32⟩
  | 92 => ⟨S1x64x64, .f32⟩
  | 93 => ⟨S1024x64x64, .f32⟩
  | 94 => ⟨S_, .f32⟩
  | 95 => ⟨S2048x64x64, .f32⟩
  | 96 => ⟨S_, .f32⟩
  | 97 => ⟨S2048x64x64, .f32⟩
  | 98 => ⟨S2048x64x64, .f32⟩
  | 99 => ⟨S_, .f32⟩
  | 100 => ⟨S2048x64x64, .f32⟩
  | 101 => ⟨S_, .f32⟩
  | 102 => ⟨S2048x64x64, .f32⟩
  | 103 => ⟨S2048x64x64, .f32⟩
  | 104 => ⟨S_, .f32⟩
  | 105 => ⟨S2048x64x64, .f32⟩
  | 106 => ⟨S_, .f32⟩
  | 107 => ⟨S2048x64x64, .f32⟩
  | 108 => ⟨S2048x64x64, .f32⟩
  | 109 => ⟨S_, .f32⟩
  | 110 => ⟨S2048x64x64, .f32⟩
  | 111 => ⟨S_, .f32⟩
  | 112 => ⟨S2048x64x64, .f32⟩
  | 113 => ⟨S2048x64x64, .f32⟩
  | 114 => ⟨S2047x64x64, .f32⟩
  | 115 => ⟨S2047x64x64, .f32⟩
  | 116 => ⟨S2047x64x64, .f32⟩
  | 117 => ⟨S2047x64x64, .f32⟩
  | 118 => ⟨S2047x64x64, .f32⟩
  | 119 => ⟨S2047x64x64, .f32⟩
  | 120 => ⟨S2047x64x64, .f32⟩
  | 121 => ⟨S2047x64x64, .f32⟩
  | 122 => ⟨S2047x64x64, .f32⟩
  | 123 => ⟨S2047x64x64, .f32⟩
  | 124 => ⟨S2047x64x64, .f32⟩
  | 125 => ⟨S2047x64x64, .f32⟩
  | 126 => ⟨S2047x64x64, .f32⟩
  | 127 => ⟨S2047x64x64, .f32⟩
  | _ => ⟨S8192x1024, .f32⟩

abbrev hbmTy0_7 (i : Nat) : BufTy := match i % 128 with
  | 0 => ⟨S2047x64x64, .f32⟩
  | 1 => ⟨S2047x64x64, .f32⟩
  | 2 => ⟨S2047x64x64, .f32⟩
  | 3 => ⟨S2047x64x64, .f32⟩
  | 4 => ⟨S2047x64x64, .f32⟩
  | 5 => ⟨S2047x64x64, .f32⟩
  | 6 => ⟨S2047x64x64, .f32⟩
  | 7 => ⟨S2047x64x64, .f32⟩
  | 8 => ⟨S1x64x64, .f32⟩
  | 9 => ⟨S2048x64x64, .f32⟩
  | 10 => ⟨S1x64x64, .f32⟩
  | 11 => ⟨S2048x64x64, .f32⟩
  | 12 => ⟨S1x64x64, .f32⟩
  | 13 => ⟨S2048x64x64, .f32⟩
  | 14 => ⟨S1x64x64, .f32⟩
  | 15 => ⟨S2048x64x64, .f32⟩
  | 16 => ⟨S_, .f32⟩
  | 17 => ⟨S4096x64x64, .f32⟩
  | 18 => ⟨S_, .f32⟩
  | 19 => ⟨S4096x64x64, .f32⟩
  | 20 => ⟨S4096x64x64, .f32⟩
  | 21 => ⟨S_, .f32⟩
  | 22 => ⟨S4096x64x64, .f32⟩
  | 23 => ⟨S_, .f32⟩
  | 24 => ⟨S4096x64x64, .f32⟩
  | 25 => ⟨S4096x64x64, .f32⟩
  | 26 => ⟨S_, .f32⟩
  | 27 => ⟨S4096x64x64, .f32⟩
  | 28 => ⟨S_, .f32⟩
  | 29 => ⟨S4096x64x64, .f32⟩
  | 30 => ⟨S4096x64x64, .f32⟩
  | 31 => ⟨S_, .f32⟩
  | 32 => ⟨S4096x64x64, .f32⟩
  | 33 => ⟨S_, .f32⟩
  | 34 => ⟨S4096x64x64, .f32⟩
  | 35 => ⟨S4096x64x64, .f32⟩
  | 36 => ⟨S4095x64x64, .f32⟩
  | 37 => ⟨S4095x64x64, .f32⟩
  | 38 => ⟨S4095x64x64, .f32⟩
  | 39 => ⟨S4095x64x64, .f32⟩
  | 40 => ⟨S4095x64x64, .f32⟩
  | 41 => ⟨S4095x64x64, .f32⟩
  | 42 => ⟨S4095x64x64, .f32⟩
  | 43 => ⟨S4095x64x64, .f32⟩
  | 44 => ⟨S4095x64x64, .f32⟩
  | 45 => ⟨S4095x64x64, .f32⟩
  | 46 => ⟨S4095x64x64, .f32⟩
  | 47 => ⟨S4095x64x64, .f32⟩
  | 48 => ⟨S4095x64x64, .f32⟩
  | 49 => ⟨S4095x64x64, .f32⟩
  | 50 => ⟨S4095x64x64, .f32⟩
  | 51 => ⟨S4095x64x64, .f32⟩
  | 52 => ⟨S4095x64x64, .f32⟩
  | 53 => ⟨S4095x64x64, .f32⟩
  | 54 => ⟨S4095x64x64, .f32⟩
  | 55 => ⟨S4095x64x64, .f32⟩
  | 56 => ⟨S4095x64x64, .f32⟩
  | 57 => ⟨S4095x64x64, .f32⟩
  | 58 => ⟨S1x64x64, .f32⟩
  | 59 => ⟨S4096x64x64, .f32⟩
  | 60 => ⟨S1x64x64, .f32⟩
  | 61 => ⟨S4096x64x64, .f32⟩
  | 62 => ⟨S1x64x64, .f32⟩
  | 63 => ⟨S4096x64x64, .f32⟩
  | 64 => ⟨S1x64x64, .f32⟩
  | 65 => ⟨S4096x64x64, .f32⟩
  | 66 => ⟨S_, .f32⟩
  | 67 => ⟨S8192x64x64, .f32⟩
  | 68 => ⟨S_, .f32⟩
  | 69 => ⟨S8192x64x64, .f32⟩
  | 70 => ⟨S8192x64x64, .f32⟩
  | 71 => ⟨S_, .f32⟩
  | 72 => ⟨S8192x64x64, .f32⟩
  | 73 => ⟨S_, .f32⟩
  | 74 => ⟨S8192x64x64, .f32⟩
  | 75 => ⟨S8192x64x64, .f32⟩
  | 76 => ⟨S_, .f32⟩
  | 77 => ⟨S8192x64x64, .f32⟩
  | 78 => ⟨S_, .f32⟩
  | 79 => ⟨S8192x64x64, .f32⟩
  | 80 => ⟨S8192x64x64, .f32⟩
  | 81 => ⟨S_, .f32⟩
  | 82 => ⟨S8192x64x64, .f32⟩
  | 83 => ⟨S_, .f32⟩
  | 84 => ⟨S8192x64x64, .f32⟩
  | 85 => ⟨S8192x64x64, .f32⟩
  | 86 => ⟨S_, .f32⟩
  | 87 => ⟨S1x64x64, .f32⟩
  | 88 => ⟨S31x64x64, .f32⟩
  | 89 => ⟨S32x64x64, .f32⟩
  | 90 => ⟨S32x8x4x128, .f32⟩
  | 91 => ⟨S32x4x8x128, .f32⟩
  | 92 => ⟨S_, .f32⟩
  | 93 => ⟨S1x64x64, .f32⟩
  | 94 => ⟨S31x64x64, .f32⟩
  | 95 => ⟨S32x64x64, .f32⟩
  | 96 => ⟨S32x8x4x128, .f32⟩
  | 97 => ⟨S32x4x8x128, .f32⟩
  | 98 => ⟨S32x8x8x128, .f32⟩
  | 99 => ⟨S8x128x1024, .bf16⟩
  | 100 => ⟨S8x1024x128, .bf16⟩
  | 101 => ⟨S8x4x128, .f32⟩
  | 102 => ⟨S4x8x128, .f32⟩
  | 103 => ⟨S8x4x128, .f32⟩
  | 104 => ⟨S4x8x128, .f32⟩
  | 105 => ⟨S8192x1024, .bf16⟩
  | 106 => ⟨S8x128x1024, .f32⟩
  | 107 => ⟨S8x1024x128, .f32⟩
  | 108 => ⟨S4x8x128, .f32⟩
  | 109 => ⟨S4x8x128, .f32⟩
  | 110 => ⟨S8x8x16x2x8x64, .f32⟩
  | 111 => ⟨S8x1x16x2x1x64, .f32⟩
  | 112 => ⟨S8x16x2x64, .f32⟩
  | 113 => ⟨S8x1x16x2x1x64, .f32⟩
  | 114 => ⟨S8x16x2x64, .f32⟩
  | 115 => ⟨S8x1x16x2x1x64, .f32⟩
  | 116 => ⟨S8x16x2x64, .f32⟩
  | 117 => ⟨S8x1x16x2x1x64, .f32⟩
  | 118 => ⟨S8x16x2x64, .f32⟩
  | 119 => ⟨S8x1x16x2x1x64, .f32⟩
  | 120 => ⟨S8x16x2x64, .f32⟩
  | 121 => ⟨S8x1x16x2x1x64, .f32⟩
  | 122 => ⟨S8x16x2x64, .f32⟩
  | 123 => ⟨S8x1x16x2x1x64, .f32⟩
  | 124 => ⟨S8x16x2x64, .f32⟩
  | 125 => ⟨S8x1x16x2x1x64, .f32⟩
  | 126 => ⟨S8x16x2x64, .f32⟩
  | 127 => ⟨S8x1x16x2x64, .f32⟩
  | _ => ⟨S8192x1024, .f32⟩

abbrev hbmTy0_8 (i : Nat) : BufTy := match i % 128 with
  | 0 => ⟨S8x1x16x2x64, .f32⟩
  | 1 => ⟨S8x1x16x2x64, .f32⟩
  | 2 => ⟨S8x1x16x2x64, .f32⟩
  | 3 => ⟨S8x1x16x2x64, .f32⟩
  | 4 => ⟨S8x1x16x2x64, .f32⟩
  | 5 => ⟨S8x1x16x2x64, .f32⟩
  | 6 => ⟨S8x1x16x2x64, .f32⟩
  | 7 => ⟨S8x8x16x2x64, .f32⟩
  | 8 => ⟨S8x2x8x64x8x16, .f32⟩
  | 9 => ⟨S8x2x1x64x1x16, .f32⟩
  | 10 => ⟨S8x2x64x16, .f32⟩
  | 11 => ⟨S8x2x1x64x1x16, .f32⟩
  | 12 => ⟨S8x2x64x16, .f32⟩
  | 13 => ⟨S8x2x1x64x1x16, .f32⟩
  | 14 => ⟨S8x2x64x16, .f32⟩
  | 15 => ⟨S8x2x1x64x1x16, .f32⟩
  | 16 => ⟨S8x2x64x16, .f32⟩
  | 17 => ⟨S8x2x1x64x1x16, .f32⟩
  | 18 => ⟨S8x2x64x16, .f32⟩
  | 19 => ⟨S8x2x1x64x1x16, .f32⟩
  | 20 => ⟨S8x2x64x16, .f32⟩
  | 21 => ⟨S8x2x1x64x1x16, .f32⟩
  | 22 => ⟨S8x2x64x16, .f32⟩
  | 23 => ⟨S8x2x1x64x1x16, .f32⟩
  | 24 => ⟨S8x2x64x16, .f32⟩
  | 25 => ⟨S8x1x2x64x16, .f32⟩
  | 26 => ⟨S8x1x2x64x16, .f32⟩
  | 27 => ⟨S8x1x2x64x16, .f32⟩
  | 28 => ⟨S8x1x2x64x16, .f32⟩
  | 29 => ⟨S8x1x2x64x16, .f32⟩
  | 30 => ⟨S8x1x2x64x16, .f32⟩
  | 31 => ⟨S8x1x2x64x16, .f32⟩
  | 32 => ⟨S8x1x2x64x16, .f32⟩
  | 33 => ⟨S8x8x2x64x16, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S8192x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x8x8x128, .f32⟩
  | .local _ .vmem, ⟨7, _⟩ => ⟨S1x8x8x128, .f32⟩
  | .local _ .vmem, ⟨8, _⟩ => ⟨S8x128x1024, .bf16⟩
  | .local _ .vmem, ⟨9, _⟩ => ⟨S8x1024x128, .bf16⟩
  | .local _ .vmem, ⟨10, _⟩ => ⟨S4x8x128, .f32⟩
  | .local _ .vmem, ⟨11, _⟩ => ⟨S4x8x128, .f32⟩
  | .local _ .vmem, ⟨12, _⟩ => ⟨S256x1024, .bf16⟩
  | .local _ .vmem, ⟨13, _⟩ => ⟨S256x1024, .bf16⟩
  | .local _ .vmem, ⟨14, _⟩ => ⟨S8x128x1024, .f32⟩
  | .local _ .vmem, ⟨15, _⟩ => ⟨S8x1024x128, .f32⟩
  | .local _ .vmem, ⟨16, _⟩ => ⟨S4x8x128, .f32⟩
  | .local _ .vmem, ⟨17, _⟩ => ⟨S4x8x128, .f32⟩
  | .local _ .vmem, ⟨18, _⟩ => ⟨S8x2048x128, .f32⟩
  | .local _ .vmem, ⟨19, _⟩ => ⟨S8x2048x128, .f32⟩
  | .local _ .vmem, ⟨20, _⟩ => ⟨S8x8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_v241 : Ref sig .tc := ⟨.hbm, 251, rfl⟩
abbrev main_v242 : Ref sig .tc := ⟨.hbm, 252, rfl⟩
abbrev main_v243 : Ref sig .tc := ⟨.hbm, 253, rfl⟩
abbrev main_v244 : Ref sig .tc := ⟨.hbm, 254, rfl⟩
abbrev main_v245 : Ref sig .tc := ⟨.hbm, 255, rfl⟩
abbrev main_v246 : Ref sig .tc := ⟨.hbm, 256, rfl⟩
abbrev main_v247 : Ref sig .tc := ⟨.hbm, 257, rfl⟩
abbrev main_v248 : Ref sig .tc := ⟨.hbm, 258, rfl⟩
abbrev main_v249 : Ref sig .tc := ⟨.hbm, 259, rfl⟩
abbrev main_v250 : Ref sig .tc := ⟨.hbm, 260, rfl⟩
abbrev main_v251 : Ref sig .tc := ⟨.hbm, 261, rfl⟩
abbrev main_v252 : Ref sig .tc := ⟨.hbm, 262, rfl⟩
abbrev main_v253 : Ref sig .tc := ⟨.hbm, 263, rfl⟩
abbrev main_v254 : Ref sig .tc := ⟨.hbm, 264, rfl⟩
abbrev main_v255 : Ref sig .tc := ⟨.hbm, 265, rfl⟩
abbrev main_v256 : Ref sig .tc := ⟨.hbm, 266, rfl⟩
abbrev main_v257 : Ref sig .tc := ⟨.hbm, 267, rfl⟩
abbrev main_v258 : Ref sig .tc := ⟨.hbm, 268, rfl⟩
abbrev main_v259 : Ref sig .tc := ⟨.hbm, 269, rfl⟩
abbrev main_v260 : Ref sig .tc := ⟨.hbm, 270, rfl⟩
abbrev main_v261 : Ref sig .tc := ⟨.hbm, 271, rfl⟩
abbrev main_v262 : Ref sig .tc := ⟨.hbm, 272, rfl⟩
abbrev main_v263 : Ref sig .tc := ⟨.hbm, 273, rfl⟩
abbrev main_v264 : Ref sig .tc := ⟨.hbm, 274, rfl⟩
abbrev main_v265 : Ref sig .tc := ⟨.hbm, 275, rfl⟩
abbrev main_v266 : Ref sig .tc := ⟨.hbm, 276, rfl⟩
abbrev main_v267 : Ref sig .tc := ⟨.hbm, 277, rfl⟩
abbrev main_v268 : Ref sig .tc := ⟨.hbm, 278, rfl⟩
abbrev main_v269 : Ref sig .tc := ⟨.hbm, 279, rfl⟩
abbrev main_v270 : Ref sig .tc := ⟨.hbm, 280, rfl⟩
abbrev main_v271 : Ref sig .tc := ⟨.hbm, 281, rfl⟩
abbrev main_v272 : Ref sig .tc := ⟨.hbm, 282, rfl⟩
abbrev main_v273 : Ref sig .tc := ⟨.hbm, 283, rfl⟩
abbrev main_v274 : Ref sig .tc := ⟨.hbm, 284, rfl⟩
abbrev main_v275 : Ref sig .tc := ⟨.hbm, 285, rfl⟩
abbrev main_v276 : Ref sig .tc := ⟨.hbm, 286, rfl⟩
abbrev main_v277 : Ref sig .tc := ⟨.hbm, 287, rfl⟩
abbrev main_v278 : Ref sig .tc := ⟨.hbm, 288, rfl⟩
abbrev main_v279 : Ref sig .tc := ⟨.hbm, 289, rfl⟩
abbrev main_v280 : Ref sig .tc := ⟨.hbm, 290, rfl⟩
abbrev main_v281 : Ref sig .tc := ⟨.hbm, 291, rfl⟩
abbrev main_v282 : Ref sig .tc := ⟨.hbm, 292, rfl⟩
abbrev main_v283 : Ref sig .tc := ⟨.hbm, 293, rfl⟩
abbrev main_v284 : Ref sig .tc := ⟨.hbm, 294, rfl⟩
abbrev main_v285 : Ref sig .tc := ⟨.hbm, 295, rfl⟩
abbrev main_v286 : Ref sig .tc := ⟨.hbm, 296, rfl⟩
abbrev main_v287 : Ref sig .tc := ⟨.hbm, 297, rfl⟩
abbrev main_v288 : Ref sig .tc := ⟨.hbm, 298, rfl⟩
abbrev main_v289 : Ref sig .tc := ⟨.hbm, 299, rfl⟩
abbrev main_v290 : Ref sig .tc := ⟨.hbm, 300, rfl⟩
abbrev main_v291 : Ref sig .tc := ⟨.hbm, 301, rfl⟩
abbrev main_v292 : Ref sig .tc := ⟨.hbm, 302, rfl⟩
abbrev main_v293 : Ref sig .tc := ⟨.hbm, 303, rfl⟩
abbrev main_v294 : Ref sig .tc := ⟨.hbm, 304, rfl⟩
abbrev main_v295 : Ref sig .tc := ⟨.hbm, 305, rfl⟩
abbrev main_v296 : Ref sig .tc := ⟨.hbm, 306, rfl⟩
abbrev main_v297 : Ref sig .tc := ⟨.hbm, 307, rfl⟩
abbrev main_v298 : Ref sig .tc := ⟨.hbm, 308, rfl⟩
abbrev main_v299 : Ref sig .tc := ⟨.hbm, 309, rfl⟩
abbrev main_v300 : Ref sig .tc := ⟨.hbm, 310, rfl⟩
abbrev main_v301 : Ref sig .tc := ⟨.hbm, 311, rfl⟩
abbrev main_v302 : Ref sig .tc := ⟨.hbm, 312, rfl⟩
abbrev main_v303 : Ref sig .tc := ⟨.hbm, 313, rfl⟩
abbrev main_v304 : Ref sig .tc := ⟨.hbm, 314, rfl⟩
abbrev main_v305 : Ref sig .tc := ⟨.hbm, 315, rfl⟩
abbrev main_v306 : Ref sig .tc := ⟨.hbm, 316, rfl⟩
abbrev main_v307 : Ref sig .tc := ⟨.hbm, 317, rfl⟩
abbrev main_v308 : Ref sig .tc := ⟨.hbm, 318, rfl⟩
abbrev main_v309 : Ref sig .tc := ⟨.hbm, 319, rfl⟩
abbrev main_v310 : Ref sig .tc := ⟨.hbm, 320, rfl⟩
abbrev main_v311 : Ref sig .tc := ⟨.hbm, 321, rfl⟩
abbrev main_v312 : Ref sig .tc := ⟨.hbm, 322, rfl⟩
abbrev main_v313 : Ref sig .tc := ⟨.hbm, 323, rfl⟩
abbrev main_v314 : Ref sig .tc := ⟨.hbm, 324, rfl⟩
abbrev main_v315 : Ref sig .tc := ⟨.hbm, 325, rfl⟩
abbrev main_v316 : Ref sig .tc := ⟨.hbm, 326, rfl⟩
abbrev main_v317 : Ref sig .tc := ⟨.hbm, 327, rfl⟩
abbrev main_v318 : Ref sig .tc := ⟨.hbm, 328, rfl⟩
abbrev main_v319 : Ref sig .tc := ⟨.hbm, 329, rfl⟩
abbrev main_v320 : Ref sig .tc := ⟨.hbm, 330, rfl⟩
abbrev main_v321 : Ref sig .tc := ⟨.hbm, 331, rfl⟩
abbrev main_v322 : Ref sig .tc := ⟨.hbm, 332, rfl⟩
abbrev main_v323 : Ref sig .tc := ⟨.hbm, 333, rfl⟩
abbrev main_v324 : Ref sig .tc := ⟨.hbm, 334, rfl⟩
abbrev main_v325 : Ref sig .tc := ⟨.hbm, 335, rfl⟩
abbrev main_v326 : Ref sig .tc := ⟨.hbm, 336, rfl⟩
abbrev main_v327 : Ref sig .tc := ⟨.hbm, 337, rfl⟩
abbrev main_v328 : Ref sig .tc := ⟨.hbm, 338, rfl⟩
abbrev main_v329 : Ref sig .tc := ⟨.hbm, 339, rfl⟩
abbrev main_v330 : Ref sig .tc := ⟨.hbm, 340, rfl⟩
abbrev main_v331 : Ref sig .tc := ⟨.hbm, 341, rfl⟩
abbrev main_v332 : Ref sig .tc := ⟨.hbm, 342, rfl⟩
abbrev main_v333 : Ref sig .tc := ⟨.hbm, 343, rfl⟩
abbrev main_v334 : Ref sig .tc := ⟨.hbm, 344, rfl⟩
abbrev main_v335 : Ref sig .tc := ⟨.hbm, 345, rfl⟩
abbrev main_v336 : Ref sig .tc := ⟨.hbm, 346, rfl⟩
abbrev main_v337 : Ref sig .tc := ⟨.hbm, 347, rfl⟩
abbrev main_v338 : Ref sig .tc := ⟨.hbm, 348, rfl⟩
abbrev main_v339 : Ref sig .tc := ⟨.hbm, 349, rfl⟩
abbrev main_v340 : Ref sig .tc := ⟨.hbm, 350, rfl⟩
abbrev main_v341 : Ref sig .tc := ⟨.hbm, 351, rfl⟩
abbrev main_v342 : Ref sig .tc := ⟨.hbm, 352, rfl⟩
abbrev main_v343 : Ref sig .tc := ⟨.hbm, 353, rfl⟩
abbrev main_v344 : Ref sig .tc := ⟨.hbm, 354, rfl⟩
abbrev main_v345 : Ref sig .tc := ⟨.hbm, 355, rfl⟩
abbrev main_v346 : Ref sig .tc := ⟨.hbm, 356, rfl⟩
abbrev main_v347 : Ref sig .tc := ⟨.hbm, 357, rfl⟩
abbrev main_v348 : Ref sig .tc := ⟨.hbm, 358, rfl⟩
abbrev main_v349 : Ref sig .tc := ⟨.hbm, 359, rfl⟩
abbrev main_v350 : Ref sig .tc := ⟨.hbm, 360, rfl⟩
abbrev main_v351 : Ref sig .tc := ⟨.hbm, 361, rfl⟩
abbrev main_cst : Ref sig .tc := ⟨.hbm, 362, rfl⟩
abbrev main_v352 : Ref sig .tc := ⟨.hbm, 363, rfl⟩
abbrev main_cst_0 : Ref sig .tc := ⟨.hbm, 364, rfl⟩
abbrev main_v353 : Ref sig .tc := ⟨.hbm, 365, rfl⟩
abbrev main_v354 : Ref sig .tc := ⟨.hbm, 366, rfl⟩
abbrev main_cst_1 : Ref sig .tc := ⟨.hbm, 367, rfl⟩
abbrev main_v355 : Ref sig .tc := ⟨.hbm, 368, rfl⟩
abbrev main_cst_2 : Ref sig .tc := ⟨.hbm, 369, rfl⟩
abbrev main_v356 : Ref sig .tc := ⟨.hbm, 370, rfl⟩
abbrev main_v357 : Ref sig .tc := ⟨.hbm, 371, rfl⟩
abbrev main_cst_3 : Ref sig .tc := ⟨.hbm, 372, rfl⟩
abbrev main_v358 : Ref sig .tc := ⟨.hbm, 373, rfl⟩
abbrev main_cst_4 : Ref sig .tc := ⟨.hbm, 374, rfl⟩
abbrev main_v359 : Ref sig .tc := ⟨.hbm, 375, rfl⟩
abbrev main_v360 : Ref sig .tc := ⟨.hbm, 376, rfl⟩
abbrev main_cst_5 : Ref sig .tc := ⟨.hbm, 377, rfl⟩
abbrev main_v361 : Ref sig .tc := ⟨.hbm, 378, rfl⟩
abbrev main_cst_6 : Ref sig .tc := ⟨.hbm, 379, rfl⟩
abbrev main_v362 : Ref sig .tc := ⟨.hbm, 380, rfl⟩
abbrev main_v363 : Ref sig .tc := ⟨.hbm, 381, rfl⟩
abbrev main_v364 : Ref sig .tc := ⟨.hbm, 382, rfl⟩
abbrev main_v365 : Ref sig .tc := ⟨.hbm, 383, rfl⟩
abbrev main_v366 : Ref sig .tc := ⟨.hbm, 384, rfl⟩
abbrev main_v367 : Ref sig .tc := ⟨.hbm, 385, rfl⟩
abbrev main_v368 : Ref sig .tc := ⟨.hbm, 386, rfl⟩
abbrev main_v369 : Ref sig .tc := ⟨.hbm, 387, rfl⟩
abbrev main_v370 : Ref sig .tc := ⟨.hbm, 388, rfl⟩
abbrev main_v371 : Ref sig .tc := ⟨.hbm, 389, rfl⟩
abbrev main_v372 : Ref sig .tc := ⟨.hbm, 390, rfl⟩
abbrev main_v373 : Ref sig .tc := ⟨.hbm, 391, rfl⟩
abbrev main_v374 : Ref sig .tc := ⟨.hbm, 392, rfl⟩
abbrev main_v375 : Ref sig .tc := ⟨.hbm, 393, rfl⟩
abbrev main_v376 : Ref sig .tc := ⟨.hbm, 394, rfl⟩
abbrev main_v377 : Ref sig .tc := ⟨.hbm, 395, rfl⟩
abbrev main_v378 : Ref sig .tc := ⟨.hbm, 396, rfl⟩
abbrev main_v379 : Ref sig .tc := ⟨.hbm, 397, rfl⟩
abbrev main_v380 : Ref sig .tc := ⟨.hbm, 398, rfl⟩
abbrev main_v381 : Ref sig .tc := ⟨.hbm, 399, rfl⟩
abbrev main_v382 : Ref sig .tc := ⟨.hbm, 400, rfl⟩
abbrev main_v383 : Ref sig .tc := ⟨.hbm, 401, rfl⟩
abbrev main_v384 : Ref sig .tc := ⟨.hbm, 402, rfl⟩
abbrev main_v385 : Ref sig .tc := ⟨.hbm, 403, rfl⟩
abbrev main_v386 : Ref sig .tc := ⟨.hbm, 404, rfl⟩
abbrev main_v387 : Ref sig .tc := ⟨.hbm, 405, rfl⟩
abbrev main_v388 : Ref sig .tc := ⟨.hbm, 406, rfl⟩
abbrev main_v389 : Ref sig .tc := ⟨.hbm, 407, rfl⟩
abbrev main_v390 : Ref sig .tc := ⟨.hbm, 408, rfl⟩
abbrev main_v391 : Ref sig .tc := ⟨.hbm, 409, rfl⟩
abbrev main_v392 : Ref sig .tc := ⟨.hbm, 410, rfl⟩
abbrev main_v393 : Ref sig .tc := ⟨.hbm, 411, rfl⟩
abbrev main_cst_7 : Ref sig .tc := ⟨.hbm, 412, rfl⟩
abbrev main_v394 : Ref sig .tc := ⟨.hbm, 413, rfl⟩
abbrev main_cst_8 : Ref sig .tc := ⟨.hbm, 414, rfl⟩
abbrev main_v395 : Ref sig .tc := ⟨.hbm, 415, rfl⟩
abbrev main_v396 : Ref sig .tc := ⟨.hbm, 416, rfl⟩
abbrev main_cst_9 : Ref sig .tc := ⟨.hbm, 417, rfl⟩
abbrev main_v397 : Ref sig .tc := ⟨.hbm, 418, rfl⟩
abbrev main_cst_10 : Ref sig .tc := ⟨.hbm, 419, rfl⟩
abbrev main_v398 : Ref sig .tc := ⟨.hbm, 420, rfl⟩
abbrev main_v399 : Ref sig .tc := ⟨.hbm, 421, rfl⟩
abbrev main_cst_11 : Ref sig .tc := ⟨.hbm, 422, rfl⟩
abbrev main_v400 : Ref sig .tc := ⟨.hbm, 423, rfl⟩
abbrev main_cst_12 : Ref sig .tc := ⟨.hbm, 424, rfl⟩
abbrev main_v401 : Ref sig .tc := ⟨.hbm, 425, rfl⟩
abbrev main_v402 : Ref sig .tc := ⟨.hbm, 426, rfl⟩
abbrev main_cst_13 : Ref sig .tc := ⟨.hbm, 427, rfl⟩
abbrev main_v403 : Ref sig .tc := ⟨.hbm, 428, rfl⟩
abbrev main_cst_14 : Ref sig .tc := ⟨.hbm, 429, rfl⟩
abbrev main_v404 : Ref sig .tc := ⟨.hbm, 430, rfl⟩
abbrev main_v405 : Ref sig .tc := ⟨.hbm, 431, rfl⟩
abbrev main_v406 : Ref sig .tc := ⟨.hbm, 432, rfl⟩
abbrev main_v407 : Ref sig .tc := ⟨.hbm, 433, rfl⟩
abbrev main_v408 : Ref sig .tc := ⟨.hbm, 434, rfl⟩
abbrev main_v409 : Ref sig .tc := ⟨.hbm, 435, rfl⟩
abbrev main_v410 : Ref sig .tc := ⟨.hbm, 436, rfl⟩
abbrev main_v411 : Ref sig .tc := ⟨.hbm, 437, rfl⟩
abbrev main_v412 : Ref sig .tc := ⟨.hbm, 438, rfl⟩
abbrev main_v413 : Ref sig .tc := ⟨.hbm, 439, rfl⟩
abbrev main_v414 : Ref sig .tc := ⟨.hbm, 440, rfl⟩
abbrev main_v415 : Ref sig .tc := ⟨.hbm, 441, rfl⟩
abbrev main_v416 : Ref sig .tc := ⟨.hbm, 442, rfl⟩
abbrev main_v417 : Ref sig .tc := ⟨.hbm, 443, rfl⟩
abbrev main_v418 : Ref sig .tc := ⟨.hbm, 444, rfl⟩
abbrev main_v419 : Ref sig .tc := ⟨.hbm, 445, rfl⟩
abbrev main_v420 : Ref sig .tc := ⟨.hbm, 446, rfl⟩
abbrev main_v421 : Ref sig .tc := ⟨.hbm, 447, rfl⟩
abbrev main_v422 : Ref sig .tc := ⟨.hbm, 448, rfl⟩
abbrev main_v423 : Ref sig .tc := ⟨.hbm, 449, rfl⟩
abbrev main_v424 : Ref sig .tc := ⟨.hbm, 450, rfl⟩
abbrev main_v425 : Ref sig .tc := ⟨.hbm, 451, rfl⟩
abbrev main_v426 : Ref sig .tc := ⟨.hbm, 452, rfl⟩
abbrev main_v427 : Ref sig .tc := ⟨.hbm, 453, rfl⟩
abbrev main_v428 : Ref sig .tc := ⟨.hbm, 454, rfl⟩
abbrev main_v429 : Ref sig .tc := ⟨.hbm, 455, rfl⟩
abbrev main_v430 : Ref sig .tc := ⟨.hbm, 456, rfl⟩
abbrev main_v431 : Ref sig .tc := ⟨.hbm, 457, rfl⟩
abbrev main_v432 : Ref sig .tc := ⟨.hbm, 458, rfl⟩
abbrev main_v433 : Ref sig .tc := ⟨.hbm, 459, rfl⟩
abbrev main_v434 : Ref sig .tc := ⟨.hbm, 460, rfl⟩
abbrev main_v435 : Ref sig .tc := ⟨.hbm, 461, rfl⟩
abbrev main_cst_15 : Ref sig .tc := ⟨.hbm, 462, rfl⟩
abbrev main_v436 : Ref sig .tc := ⟨.hbm, 463, rfl⟩
abbrev main_cst_16 : Ref sig .tc := ⟨.hbm, 464, rfl⟩
abbrev main_v437 : Ref sig .tc := ⟨.hbm, 465, rfl⟩
abbrev main_v438 : Ref sig .tc := ⟨.hbm, 466, rfl⟩
abbrev main_cst_17 : Ref sig .tc := ⟨.hbm, 467, rfl⟩
abbrev main_v439 : Ref sig .tc := ⟨.hbm, 468, rfl⟩
abbrev main_cst_18 : Ref sig .tc := ⟨.hbm, 469, rfl⟩
abbrev main_v440 : Ref sig .tc := ⟨.hbm, 470, rfl⟩
abbrev main_v441 : Ref sig .tc := ⟨.hbm, 471, rfl⟩
abbrev main_cst_19 : Ref sig .tc := ⟨.hbm, 472, rfl⟩
abbrev main_v442 : Ref sig .tc := ⟨.hbm, 473, rfl⟩
abbrev main_cst_20 : Ref sig .tc := ⟨.hbm, 474, rfl⟩
abbrev main_v443 : Ref sig .tc := ⟨.hbm, 475, rfl⟩
abbrev main_v444 : Ref sig .tc := ⟨.hbm, 476, rfl⟩
abbrev main_cst_21 : Ref sig .tc := ⟨.hbm, 477, rfl⟩
abbrev main_v445 : Ref sig .tc := ⟨.hbm, 478, rfl⟩
abbrev main_cst_22 : Ref sig .tc := ⟨.hbm, 479, rfl⟩
abbrev main_v446 : Ref sig .tc := ⟨.hbm, 480, rfl⟩
abbrev main_v447 : Ref sig .tc := ⟨.hbm, 481, rfl⟩
abbrev main_v448 : Ref sig .tc := ⟨.hbm, 482, rfl⟩
abbrev main_v449 : Ref sig .tc := ⟨.hbm, 483, rfl⟩
abbrev main_v450 : Ref sig .tc := ⟨.hbm, 484, rfl⟩
abbrev main_v451 : Ref sig .tc := ⟨.hbm, 485, rfl⟩
abbrev main_v452 : Ref sig .tc := ⟨.hbm, 486, rfl⟩
abbrev main_v453 : Ref sig .tc := ⟨.hbm, 487, rfl⟩
abbrev main_v454 : Ref sig .tc := ⟨.hbm, 488, rfl⟩
abbrev main_v455 : Ref sig .tc := ⟨.hbm, 489, rfl⟩
abbrev main_v456 : Ref sig .tc := ⟨.hbm, 490, rfl⟩
abbrev main_v457 : Ref sig .tc := ⟨.hbm, 491, rfl⟩
abbrev main_v458 : Ref sig .tc := ⟨.hbm, 492, rfl⟩
abbrev main_v459 : Ref sig .tc := ⟨.hbm, 493, rfl⟩
abbrev main_v460 : Ref sig .tc := ⟨.hbm, 494, rfl⟩
abbrev main_v461 : Ref sig .tc := ⟨.hbm, 495, rfl⟩
abbrev main_v462 : Ref sig .tc := ⟨.hbm, 496, rfl⟩
abbrev main_v463 : Ref sig .tc := ⟨.hbm, 497, rfl⟩
abbrev main_v464 : Ref sig .tc := ⟨.hbm, 498, rfl⟩
abbrev main_v465 : Ref sig .tc := ⟨.hbm, 499, rfl⟩
abbrev main_v466 : Ref sig .tc := ⟨.hbm, 500, rfl⟩
abbrev main_v467 : Ref sig .tc := ⟨.hbm, 501, rfl⟩
abbrev main_v468 : Ref sig .tc := ⟨.hbm, 502, rfl⟩
abbrev main_v469 : Ref sig .tc := ⟨.hbm, 503, rfl⟩
abbrev main_v470 : Ref sig .tc := ⟨.hbm, 504, rfl⟩
abbrev main_v471 : Ref sig .tc := ⟨.hbm, 505, rfl⟩
abbrev main_v472 : Ref sig .tc := ⟨.hbm, 506, rfl⟩
abbrev main_v473 : Ref sig .tc := ⟨.hbm, 507, rfl⟩
abbrev main_v474 : Ref sig .tc := ⟨.hbm, 508, rfl⟩
abbrev main_v475 : Ref sig .tc := ⟨.hbm, 509, rfl⟩
abbrev main_v476 : Ref sig .tc := ⟨.hbm, 510, rfl⟩
abbrev main_v477 : Ref sig .tc := ⟨.hbm, 511, rfl⟩
abbrev main_cst_23 : Ref sig .tc := ⟨.hbm, 512, rfl⟩
abbrev main_v478 : Ref sig .tc := ⟨.hbm, 513, rfl⟩
abbrev main_cst_24 : Ref sig .tc := ⟨.hbm, 514, rfl⟩
abbrev main_v479 : Ref sig .tc := ⟨.hbm, 515, rfl⟩
abbrev main_v480 : Ref sig .tc := ⟨.hbm, 516, rfl⟩
abbrev main_cst_25 : Ref sig .tc := ⟨.hbm, 517, rfl⟩
abbrev main_v481 : Ref sig .tc := ⟨.hbm, 518, rfl⟩
abbrev main_cst_26 : Ref sig .tc := ⟨.hbm, 519, rfl⟩
abbrev main_v482 : Ref sig .tc := ⟨.hbm, 520, rfl⟩
abbrev main_v483 : Ref sig .tc := ⟨.hbm, 521, rfl⟩
abbrev main_cst_27 : Ref sig .tc := ⟨.hbm, 522, rfl⟩
abbrev main_v484 : Ref sig .tc := ⟨.hbm, 523, rfl⟩
abbrev main_cst_28 : Ref sig .tc := ⟨.hbm, 524, rfl⟩
abbrev main_v485 : Ref sig .tc := ⟨.hbm, 525, rfl⟩
abbrev main_v486 : Ref sig .tc := ⟨.hbm, 526, rfl⟩
abbrev main_cst_29 : Ref sig .tc := ⟨.hbm, 527, rfl⟩
abbrev main_v487 : Ref sig .tc := ⟨.hbm, 528, rfl⟩
abbrev main_cst_30 : Ref sig .tc := ⟨.hbm, 529, rfl⟩
abbrev main_v488 : Ref sig .tc := ⟨.hbm, 530, rfl⟩
abbrev main_v489 : Ref sig .tc := ⟨.hbm, 531, rfl⟩
abbrev main_v490 : Ref sig .tc := ⟨.hbm, 532, rfl⟩
abbrev main_v491 : Ref sig .tc := ⟨.hbm, 533, rfl⟩
abbrev main_v492 : Ref sig .tc := ⟨.hbm, 534, rfl⟩
abbrev main_v493 : Ref sig .tc := ⟨.hbm, 535, rfl⟩
abbrev main_v494 : Ref sig .tc := ⟨.hbm, 536, rfl⟩
abbrev main_v495 : Ref sig .tc := ⟨.hbm, 537, rfl⟩
abbrev main_v496 : Ref sig .tc := ⟨.hbm, 538, rfl⟩
abbrev main_v497 : Ref sig .tc := ⟨.hbm, 539, rfl⟩
abbrev main_v498 : Ref sig .tc := ⟨.hbm, 540, rfl⟩
abbrev main_v499 : Ref sig .tc := ⟨.hbm, 541, rfl⟩
abbrev main_v500 : Ref sig .tc := ⟨.hbm, 542, rfl⟩
abbrev main_v501 : Ref sig .tc := ⟨.hbm, 543, rfl⟩
abbrev main_v502 : Ref sig .tc := ⟨.hbm, 544, rfl⟩
abbrev main_v503 : Ref sig .tc := ⟨.hbm, 545, rfl⟩
abbrev main_v504 : Ref sig .tc := ⟨.hbm, 546, rfl⟩
abbrev main_v505 : Ref sig .tc := ⟨.hbm, 547, rfl⟩
abbrev main_v506 : Ref sig .tc := ⟨.hbm, 548, rfl⟩
abbrev main_v507 : Ref sig .tc := ⟨.hbm, 549, rfl⟩
abbrev main_v508 : Ref sig .tc := ⟨.hbm, 550, rfl⟩
abbrev main_v509 : Ref sig .tc := ⟨.hbm, 551, rfl⟩
abbrev main_v510 : Ref sig .tc := ⟨.hbm, 552, rfl⟩
abbrev main_v511 : Ref sig .tc := ⟨.hbm, 553, rfl⟩
abbrev main_v512 : Ref sig .tc := ⟨.hbm, 554, rfl⟩
abbrev main_v513 : Ref sig .tc := ⟨.hbm, 555, rfl⟩
abbrev main_v514 : Ref sig .tc := ⟨.hbm, 556, rfl⟩
abbrev main_v515 : Ref sig .tc := ⟨.hbm, 557, rfl⟩
abbrev main_v516 : Ref sig .tc := ⟨.hbm, 558, rfl⟩
abbrev main_v517 : Ref sig .tc := ⟨.hbm, 559, rfl⟩
abbrev main_v518 : Ref sig .tc := ⟨.hbm, 560, rfl⟩
abbrev main_v519 : Ref sig .tc := ⟨.hbm, 561, rfl⟩
abbrev main_cst_31 : Ref sig .tc := ⟨.hbm, 562, rfl⟩
abbrev main_v520 : Ref sig .tc := ⟨.hbm, 563, rfl⟩
abbrev main_cst_32 : Ref sig .tc := ⟨.hbm, 564, rfl⟩
abbrev main_v521 : Ref sig .tc := ⟨.hbm, 565, rfl⟩
abbrev main_v522 : Ref sig .tc := ⟨.hbm, 566, rfl⟩
abbrev main_cst_33 : Ref sig .tc := ⟨.hbm, 567, rfl⟩
abbrev main_v523 : Ref sig .tc := ⟨.hbm, 568, rfl⟩
abbrev main_cst_34 : Ref sig .tc := ⟨.hbm, 569, rfl⟩
abbrev main_v524 : Ref sig .tc := ⟨.hbm, 570, rfl⟩
abbrev main_v525 : Ref sig .tc := ⟨.hbm, 571, rfl⟩
abbrev main_cst_35 : Ref sig .tc := ⟨.hbm, 572, rfl⟩
abbrev main_v526 : Ref sig .tc := ⟨.hbm, 573, rfl⟩
abbrev main_cst_36 : Ref sig .tc := ⟨.hbm, 574, rfl⟩
abbrev main_v527 : Ref sig .tc := ⟨.hbm, 575, rfl⟩
abbrev main_v528 : Ref sig .tc := ⟨.hbm, 576, rfl⟩
abbrev main_cst_37 : Ref sig .tc := ⟨.hbm, 577, rfl⟩
abbrev main_v529 : Ref sig .tc := ⟨.hbm, 578, rfl⟩
abbrev main_cst_38 : Ref sig .tc := ⟨.hbm, 579, rfl⟩
abbrev main_v530 : Ref sig .tc := ⟨.hbm, 580, rfl⟩
abbrev main_v531 : Ref sig .tc := ⟨.hbm, 581, rfl⟩
abbrev main_v532 : Ref sig .tc := ⟨.hbm, 582, rfl⟩
abbrev main_v533 : Ref sig .tc := ⟨.hbm, 583, rfl⟩
abbrev main_v534 : Ref sig .tc := ⟨.hbm, 584, rfl⟩
abbrev main_v535 : Ref sig .tc := ⟨.hbm, 585, rfl⟩
abbrev main_v536 : Ref sig .tc := ⟨.hbm, 586, rfl⟩
abbrev main_v537 : Ref sig .tc := ⟨.hbm, 587, rfl⟩
abbrev main_v538 : Ref sig .tc := ⟨.hbm, 588, rfl⟩
abbrev main_v539 : Ref sig .tc := ⟨.hbm, 589, rfl⟩
abbrev main_v540 : Ref sig .tc := ⟨.hbm, 590, rfl⟩
abbrev main_v541 : Ref sig .tc := ⟨.hbm, 591, rfl⟩
abbrev main_v542 : Ref sig .tc := ⟨.hbm, 592, rfl⟩
abbrev main_v543 : Ref sig .tc := ⟨.hbm, 593, rfl⟩
abbrev main_v544 : Ref sig .tc := ⟨.hbm, 594, rfl⟩
abbrev main_v545 : Ref sig .tc := ⟨.hbm, 595, rfl⟩
abbrev main_v546 : Ref sig .tc := ⟨.hbm, 596, rfl⟩
abbrev main_v547 : Ref sig .tc := ⟨.hbm, 597, rfl⟩
abbrev main_v548 : Ref sig .tc := ⟨.hbm, 598, rfl⟩
abbrev main_v549 : Ref sig .tc := ⟨.hbm, 599, rfl⟩
abbrev main_v550 : Ref sig .tc := ⟨.hbm, 600, rfl⟩
abbrev main_v551 : Ref sig .tc := ⟨.hbm, 601, rfl⟩
abbrev main_v552 : Ref sig .tc := ⟨.hbm, 602, rfl⟩
abbrev main_v553 : Ref sig .tc := ⟨.hbm, 603, rfl⟩
abbrev main_v554 : Ref sig .tc := ⟨.hbm, 604, rfl⟩
abbrev main_v555 : Ref sig .tc := ⟨.hbm, 605, rfl⟩
abbrev main_v556 : Ref sig .tc := ⟨.hbm, 606, rfl⟩
abbrev main_v557 : Ref sig .tc := ⟨.hbm, 607, rfl⟩
abbrev main_v558 : Ref sig .tc := ⟨.hbm, 608, rfl⟩
abbrev main_v559 : Ref sig .tc := ⟨.hbm, 609, rfl⟩
abbrev main_v560 : Ref sig .tc := ⟨.hbm, 610, rfl⟩
abbrev main_v561 : Ref sig .tc := ⟨.hbm, 611, rfl⟩
abbrev main_cst_39 : Ref sig .tc := ⟨.hbm, 612, rfl⟩
abbrev main_v562 : Ref sig .tc := ⟨.hbm, 613, rfl⟩
abbrev main_cst_40 : Ref sig .tc := ⟨.hbm, 614, rfl⟩
abbrev main_v563 : Ref sig .tc := ⟨.hbm, 615, rfl⟩
abbrev main_v564 : Ref sig .tc := ⟨.hbm, 616, rfl⟩
abbrev main_cst_41 : Ref sig .tc := ⟨.hbm, 617, rfl⟩
abbrev main_v565 : Ref sig .tc := ⟨.hbm, 618, rfl⟩
abbrev main_cst_42 : Ref sig .tc := ⟨.hbm, 619, rfl⟩
abbrev main_v566 : Ref sig .tc := ⟨.hbm, 620, rfl⟩
abbrev main_v567 : Ref sig .tc := ⟨.hbm, 621, rfl⟩
abbrev main_cst_43 : Ref sig .tc := ⟨.hbm, 622, rfl⟩
abbrev main_v568 : Ref sig .tc := ⟨.hbm, 623, rfl⟩
abbrev main_cst_44 : Ref sig .tc := ⟨.hbm, 624, rfl⟩
abbrev main_v569 : Ref sig .tc := ⟨.hbm, 625, rfl⟩
abbrev main_v570 : Ref sig .tc := ⟨.hbm, 626, rfl⟩
abbrev main_cst_45 : Ref sig .tc := ⟨.hbm, 627, rfl⟩
abbrev main_v571 : Ref sig .tc := ⟨.hbm, 628, rfl⟩
abbrev main_cst_46 : Ref sig .tc := ⟨.hbm, 629, rfl⟩
abbrev main_v572 : Ref sig .tc := ⟨.hbm, 630, rfl⟩
abbrev main_v573 : Ref sig .tc := ⟨.hbm, 631, rfl⟩
abbrev main_v574 : Ref sig .tc := ⟨.hbm, 632, rfl⟩
abbrev main_v575 : Ref sig .tc := ⟨.hbm, 633, rfl⟩
abbrev main_v576 : Ref sig .tc := ⟨.hbm, 634, rfl⟩
abbrev main_v577 : Ref sig .tc := ⟨.hbm, 635, rfl⟩
abbrev main_v578 : Ref sig .tc := ⟨.hbm, 636, rfl⟩
abbrev main_v579 : Ref sig .tc := ⟨.hbm, 637, rfl⟩
abbrev main_v580 : Ref sig .tc := ⟨.hbm, 638, rfl⟩
abbrev main_v581 : Ref sig .tc := ⟨.hbm, 639, rfl⟩
abbrev main_v582 : Ref sig .tc := ⟨.hbm, 640, rfl⟩
abbrev main_v583 : Ref sig .tc := ⟨.hbm, 641, rfl⟩
abbrev main_v584 : Ref sig .tc := ⟨.hbm, 642, rfl⟩
abbrev main_v585 : Ref sig .tc := ⟨.hbm, 643, rfl⟩
abbrev main_v586 : Ref sig .tc := ⟨.hbm, 644, rfl⟩
abbrev main_v587 : Ref sig .tc := ⟨.hbm, 645, rfl⟩
abbrev main_v588 : Ref sig .tc := ⟨.hbm, 646, rfl⟩
abbrev main_v589 : Ref sig .tc := ⟨.hbm, 647, rfl⟩
abbrev main_v590 : Ref sig .tc := ⟨.hbm, 648, rfl⟩
abbrev main_v591 : Ref sig .tc := ⟨.hbm, 649, rfl⟩
abbrev main_v592 : Ref sig .tc := ⟨.hbm, 650, rfl⟩
abbrev main_v593 : Ref sig .tc := ⟨.hbm, 651, rfl⟩
abbrev main_v594 : Ref sig .tc := ⟨.hbm, 652, rfl⟩
abbrev main_v595 : Ref sig .tc := ⟨.hbm, 653, rfl⟩
abbrev main_v596 : Ref sig .tc := ⟨.hbm, 654, rfl⟩
abbrev main_v597 : Ref sig .tc := ⟨.hbm, 655, rfl⟩
abbrev main_v598 : Ref sig .tc := ⟨.hbm, 656, rfl⟩
abbrev main_v599 : Ref sig .tc := ⟨.hbm, 657, rfl⟩
abbrev main_v600 : Ref sig .tc := ⟨.hbm, 658, rfl⟩
abbrev main_v601 : Ref sig .tc := ⟨.hbm, 659, rfl⟩
abbrev main_v602 : Ref sig .tc := ⟨.hbm, 660, rfl⟩
abbrev main_v603 : Ref sig .tc := ⟨.hbm, 661, rfl⟩
abbrev main_cst_47 : Ref sig .tc := ⟨.hbm, 662, rfl⟩
abbrev main_v604 : Ref sig .tc := ⟨.hbm, 663, rfl⟩
abbrev main_cst_48 : Ref sig .tc := ⟨.hbm, 664, rfl⟩
abbrev main_v605 : Ref sig .tc := ⟨.hbm, 665, rfl⟩
abbrev main_v606 : Ref sig .tc := ⟨.hbm, 666, rfl⟩
abbrev main_cst_49 : Ref sig .tc := ⟨.hbm, 667, rfl⟩
abbrev main_v607 : Ref sig .tc := ⟨.hbm, 668, rfl⟩
abbrev main_cst_50 : Ref sig .tc := ⟨.hbm, 669, rfl⟩
abbrev main_v608 : Ref sig .tc := ⟨.hbm, 670, rfl⟩
abbrev main_v609 : Ref sig .tc := ⟨.hbm, 671, rfl⟩
abbrev main_cst_51 : Ref sig .tc := ⟨.hbm, 672, rfl⟩
abbrev main_v610 : Ref sig .tc := ⟨.hbm, 673, rfl⟩
abbrev main_cst_52 : Ref sig .tc := ⟨.hbm, 674, rfl⟩
abbrev main_v611 : Ref sig .tc := ⟨.hbm, 675, rfl⟩
abbrev main_v612 : Ref sig .tc := ⟨.hbm, 676, rfl⟩
abbrev main_cst_53 : Ref sig .tc := ⟨.hbm, 677, rfl⟩
abbrev main_v613 : Ref sig .tc := ⟨.hbm, 678, rfl⟩
abbrev main_cst_54 : Ref sig .tc := ⟨.hbm, 679, rfl⟩
abbrev main_v614 : Ref sig .tc := ⟨.hbm, 680, rfl⟩
abbrev main_v615 : Ref sig .tc := ⟨.hbm, 681, rfl⟩
abbrev main_v616 : Ref sig .tc := ⟨.hbm, 682, rfl⟩
abbrev main_v617 : Ref sig .tc := ⟨.hbm, 683, rfl⟩
abbrev main_v618 : Ref sig .tc := ⟨.hbm, 684, rfl⟩
abbrev main_v619 : Ref sig .tc := ⟨.hbm, 685, rfl⟩
abbrev main_v620 : Ref sig .tc := ⟨.hbm, 686, rfl⟩
abbrev main_v621 : Ref sig .tc := ⟨.hbm, 687, rfl⟩
abbrev main_v622 : Ref sig .tc := ⟨.hbm, 688, rfl⟩
abbrev main_v623 : Ref sig .tc := ⟨.hbm, 689, rfl⟩
abbrev main_v624 : Ref sig .tc := ⟨.hbm, 690, rfl⟩
abbrev main_v625 : Ref sig .tc := ⟨.hbm, 691, rfl⟩
abbrev main_v626 : Ref sig .tc := ⟨.hbm, 692, rfl⟩
abbrev main_v627 : Ref sig .tc := ⟨.hbm, 693, rfl⟩
abbrev main_v628 : Ref sig .tc := ⟨.hbm, 694, rfl⟩
abbrev main_v629 : Ref sig .tc := ⟨.hbm, 695, rfl⟩
abbrev main_v630 : Ref sig .tc := ⟨.hbm, 696, rfl⟩
abbrev main_v631 : Ref sig .tc := ⟨.hbm, 697, rfl⟩
abbrev main_v632 : Ref sig .tc := ⟨.hbm, 698, rfl⟩
abbrev main_v633 : Ref sig .tc := ⟨.hbm, 699, rfl⟩
abbrev main_v634 : Ref sig .tc := ⟨.hbm, 700, rfl⟩
abbrev main_v635 : Ref sig .tc := ⟨.hbm, 701, rfl⟩
abbrev main_v636 : Ref sig .tc := ⟨.hbm, 702, rfl⟩
abbrev main_v637 : Ref sig .tc := ⟨.hbm, 703, rfl⟩
abbrev main_v638 : Ref sig .tc := ⟨.hbm, 704, rfl⟩
abbrev main_v639 : Ref sig .tc := ⟨.hbm, 705, rfl⟩
abbrev main_v640 : Ref sig .tc := ⟨.hbm, 706, rfl⟩
abbrev main_v641 : Ref sig .tc := ⟨.hbm, 707, rfl⟩
abbrev main_v642 : Ref sig .tc := ⟨.hbm, 708, rfl⟩
abbrev main_v643 : Ref sig .tc := ⟨.hbm, 709, rfl⟩
abbrev main_v644 : Ref sig .tc := ⟨.hbm, 710, rfl⟩
abbrev main_v645 : Ref sig .tc := ⟨.hbm, 711, rfl⟩
abbrev main_cst_55 : Ref sig .tc := ⟨.hbm, 712, rfl⟩
abbrev main_v646 : Ref sig .tc := ⟨.hbm, 713, rfl⟩
abbrev main_cst_56 : Ref sig .tc := ⟨.hbm, 714, rfl⟩
abbrev main_v647 : Ref sig .tc := ⟨.hbm, 715, rfl⟩
abbrev main_v648 : Ref sig .tc := ⟨.hbm, 716, rfl⟩
abbrev main_cst_57 : Ref sig .tc := ⟨.hbm, 717, rfl⟩
abbrev main_v649 : Ref sig .tc := ⟨.hbm, 718, rfl⟩
abbrev main_cst_58 : Ref sig .tc := ⟨.hbm, 719, rfl⟩
abbrev main_v650 : Ref sig .tc := ⟨.hbm, 720, rfl⟩
abbrev main_v651 : Ref sig .tc := ⟨.hbm, 721, rfl⟩
abbrev main_cst_59 : Ref sig .tc := ⟨.hbm, 722, rfl⟩
abbrev main_v652 : Ref sig .tc := ⟨.hbm, 723, rfl⟩
abbrev main_cst_60 : Ref sig .tc := ⟨.hbm, 724, rfl⟩
abbrev main_v653 : Ref sig .tc := ⟨.hbm, 725, rfl⟩
abbrev main_v654 : Ref sig .tc := ⟨.hbm, 726, rfl⟩
abbrev main_cst_61 : Ref sig .tc := ⟨.hbm, 727, rfl⟩
abbrev main_v655 : Ref sig .tc := ⟨.hbm, 728, rfl⟩
abbrev main_cst_62 : Ref sig .tc := ⟨.hbm, 729, rfl⟩
abbrev main_v656 : Ref sig .tc := ⟨.hbm, 730, rfl⟩
abbrev main_v657 : Ref sig .tc := ⟨.hbm, 731, rfl⟩
abbrev main_v658 : Ref sig .tc := ⟨.hbm, 732, rfl⟩
abbrev main_v659 : Ref sig .tc := ⟨.hbm, 733, rfl⟩
abbrev main_v660 : Ref sig .tc := ⟨.hbm, 734, rfl⟩
abbrev main_v661 : Ref sig .tc := ⟨.hbm, 735, rfl⟩
abbrev main_v662 : Ref sig .tc := ⟨.hbm, 736, rfl⟩
abbrev main_v663 : Ref sig .tc := ⟨.hbm, 737, rfl⟩
abbrev main_v664 : Ref sig .tc := ⟨.hbm, 738, rfl⟩
abbrev main_v665 : Ref sig .tc := ⟨.hbm, 739, rfl⟩
abbrev main_v666 : Ref sig .tc := ⟨.hbm, 740, rfl⟩
abbrev main_v667 : Ref sig .tc := ⟨.hbm, 741, rfl⟩
abbrev main_v668 : Ref sig .tc := ⟨.hbm, 742, rfl⟩
abbrev main_v669 : Ref sig .tc := ⟨.hbm, 743, rfl⟩
abbrev main_v670 : Ref sig .tc := ⟨.hbm, 744, rfl⟩
abbrev main_v671 : Ref sig .tc := ⟨.hbm, 745, rfl⟩
abbrev main_v672 : Ref sig .tc := ⟨.hbm, 746, rfl⟩
abbrev main_v673 : Ref sig .tc := ⟨.hbm, 747, rfl⟩
abbrev main_v674 : Ref sig .tc := ⟨.hbm, 748, rfl⟩
abbrev main_v675 : Ref sig .tc := ⟨.hbm, 749, rfl⟩
abbrev main_v676 : Ref sig .tc := ⟨.hbm, 750, rfl⟩
abbrev main_v677 : Ref sig .tc := ⟨.hbm, 751, rfl⟩
abbrev main_v678 : Ref sig .tc := ⟨.hbm, 752, rfl⟩
abbrev main_v679 : Ref sig .tc := ⟨.hbm, 753, rfl⟩
abbrev main_v680 : Ref sig .tc := ⟨.hbm, 754, rfl⟩
abbrev main_v681 : Ref sig .tc := ⟨.hbm, 755, rfl⟩
abbrev main_v682 : Ref sig .tc := ⟨.hbm, 756, rfl⟩
abbrev main_v683 : Ref sig .tc := ⟨.hbm, 757, rfl⟩
abbrev main_v684 : Ref sig .tc := ⟨.hbm, 758, rfl⟩
abbrev main_v685 : Ref sig .tc := ⟨.hbm, 759, rfl⟩
abbrev main_v686 : Ref sig .tc := ⟨.hbm, 760, rfl⟩
abbrev main_v687 : Ref sig .tc := ⟨.hbm, 761, rfl⟩
abbrev main_cst_63 : Ref sig .tc := ⟨.hbm, 762, rfl⟩
abbrev main_v688 : Ref sig .tc := ⟨.hbm, 763, rfl⟩
abbrev main_cst_64 : Ref sig .tc := ⟨.hbm, 764, rfl⟩
abbrev main_v689 : Ref sig .tc := ⟨.hbm, 765, rfl⟩
abbrev main_v690 : Ref sig .tc := ⟨.hbm, 766, rfl⟩
abbrev main_cst_65 : Ref sig .tc := ⟨.hbm, 767, rfl⟩
abbrev main_v691 : Ref sig .tc := ⟨.hbm, 768, rfl⟩
abbrev main_cst_66 : Ref sig .tc := ⟨.hbm, 769, rfl⟩
abbrev main_v692 : Ref sig .tc := ⟨.hbm, 770, rfl⟩
abbrev main_v693 : Ref sig .tc := ⟨.hbm, 771, rfl⟩
abbrev main_cst_67 : Ref sig .tc := ⟨.hbm, 772, rfl⟩
abbrev main_v694 : Ref sig .tc := ⟨.hbm, 773, rfl⟩
abbrev main_cst_68 : Ref sig .tc := ⟨.hbm, 774, rfl⟩
abbrev main_v695 : Ref sig .tc := ⟨.hbm, 775, rfl⟩
abbrev main_v696 : Ref sig .tc := ⟨.hbm, 776, rfl⟩
abbrev main_cst_69 : Ref sig .tc := ⟨.hbm, 777, rfl⟩
abbrev main_v697 : Ref sig .tc := ⟨.hbm, 778, rfl⟩
abbrev main_cst_70 : Ref sig .tc := ⟨.hbm, 779, rfl⟩
abbrev main_v698 : Ref sig .tc := ⟨.hbm, 780, rfl⟩
abbrev main_v699 : Ref sig .tc := ⟨.hbm, 781, rfl⟩
abbrev main_v700 : Ref sig .tc := ⟨.hbm, 782, rfl⟩
abbrev main_v701 : Ref sig .tc := ⟨.hbm, 783, rfl⟩
abbrev main_v702 : Ref sig .tc := ⟨.hbm, 784, rfl⟩
abbrev main_v703 : Ref sig .tc := ⟨.hbm, 785, rfl⟩
abbrev main_v704 : Ref sig .tc := ⟨.hbm, 786, rfl⟩
abbrev main_v705 : Ref sig .tc := ⟨.hbm, 787, rfl⟩
abbrev main_v706 : Ref sig .tc := ⟨.hbm, 788, rfl⟩
abbrev main_v707 : Ref sig .tc := ⟨.hbm, 789, rfl⟩
abbrev main_v708 : Ref sig .tc := ⟨.hbm, 790, rfl⟩
abbrev main_v709 : Ref sig .tc := ⟨.hbm, 791, rfl⟩
abbrev main_v710 : Ref sig .tc := ⟨.hbm, 792, rfl⟩
abbrev main_v711 : Ref sig .tc := ⟨.hbm, 793, rfl⟩
abbrev main_v712 : Ref sig .tc := ⟨.hbm, 794, rfl⟩
abbrev main_v713 : Ref sig .tc := ⟨.hbm, 795, rfl⟩
abbrev main_v714 : Ref sig .tc := ⟨.hbm, 796, rfl⟩
abbrev main_v715 : Ref sig .tc := ⟨.hbm, 797, rfl⟩
abbrev main_v716 : Ref sig .tc := ⟨.hbm, 798, rfl⟩
abbrev main_v717 : Ref sig .tc := ⟨.hbm, 799, rfl⟩
abbrev main_v718 : Ref sig .tc := ⟨.hbm, 800, rfl⟩
abbrev main_v719 : Ref sig .tc := ⟨.hbm, 801, rfl⟩
abbrev main_v720 : Ref sig .tc := ⟨.hbm, 802, rfl⟩
abbrev main_v721 : Ref sig .tc := ⟨.hbm, 803, rfl⟩
abbrev main_v722 : Ref sig .tc := ⟨.hbm, 804, rfl⟩
abbrev main_v723 : Ref sig .tc := ⟨.hbm, 805, rfl⟩
abbrev main_v724 : Ref sig .tc := ⟨.hbm, 806, rfl⟩
abbrev main_v725 : Ref sig .tc := ⟨.hbm, 807, rfl⟩
abbrev main_v726 : Ref sig .tc := ⟨.hbm, 808, rfl⟩
abbrev main_v727 : Ref sig .tc := ⟨.hbm, 809, rfl⟩
abbrev main_v728 : Ref sig .tc := ⟨.hbm, 810, rfl⟩
abbrev main_v729 : Ref sig .tc := ⟨.hbm, 811, rfl⟩
abbrev main_cst_71 : Ref sig .tc := ⟨.hbm, 812, rfl⟩
abbrev main_v730 : Ref sig .tc := ⟨.hbm, 813, rfl⟩
abbrev main_cst_72 : Ref sig .tc := ⟨.hbm, 814, rfl⟩
abbrev main_v731 : Ref sig .tc := ⟨.hbm, 815, rfl⟩
abbrev main_v732 : Ref sig .tc := ⟨.hbm, 816, rfl⟩
abbrev main_cst_73 : Ref sig .tc := ⟨.hbm, 817, rfl⟩
abbrev main_v733 : Ref sig .tc := ⟨.hbm, 818, rfl⟩
abbrev main_cst_74 : Ref sig .tc := ⟨.hbm, 819, rfl⟩
abbrev main_v734 : Ref sig .tc := ⟨.hbm, 820, rfl⟩
abbrev main_v735 : Ref sig .tc := ⟨.hbm, 821, rfl⟩
abbrev main_cst_75 : Ref sig .tc := ⟨.hbm, 822, rfl⟩
abbrev main_v736 : Ref sig .tc := ⟨.hbm, 823, rfl⟩
abbrev main_cst_76 : Ref sig .tc := ⟨.hbm, 824, rfl⟩
abbrev main_v737 : Ref sig .tc := ⟨.hbm, 825, rfl⟩
abbrev main_v738 : Ref sig .tc := ⟨.hbm, 826, rfl⟩
abbrev main_cst_77 : Ref sig .tc := ⟨.hbm, 827, rfl⟩
abbrev main_v739 : Ref sig .tc := ⟨.hbm, 828, rfl⟩
abbrev main_cst_78 : Ref sig .tc := ⟨.hbm, 829, rfl⟩
abbrev main_v740 : Ref sig .tc := ⟨.hbm, 830, rfl⟩
abbrev main_v741 : Ref sig .tc := ⟨.hbm, 831, rfl⟩
abbrev main_v742 : Ref sig .tc := ⟨.hbm, 832, rfl⟩
abbrev main_v743 : Ref sig .tc := ⟨.hbm, 833, rfl⟩
abbrev main_v744 : Ref sig .tc := ⟨.hbm, 834, rfl⟩
abbrev main_v745 : Ref sig .tc := ⟨.hbm, 835, rfl⟩
abbrev main_v746 : Ref sig .tc := ⟨.hbm, 836, rfl⟩
abbrev main_v747 : Ref sig .tc := ⟨.hbm, 837, rfl⟩
abbrev main_v748 : Ref sig .tc := ⟨.hbm, 838, rfl⟩
abbrev main_v749 : Ref sig .tc := ⟨.hbm, 839, rfl⟩
abbrev main_v750 : Ref sig .tc := ⟨.hbm, 840, rfl⟩
abbrev main_v751 : Ref sig .tc := ⟨.hbm, 841, rfl⟩
abbrev main_v752 : Ref sig .tc := ⟨.hbm, 842, rfl⟩
abbrev main_v753 : Ref sig .tc := ⟨.hbm, 843, rfl⟩
abbrev main_v754 : Ref sig .tc := ⟨.hbm, 844, rfl⟩
abbrev main_v755 : Ref sig .tc := ⟨.hbm, 845, rfl⟩
abbrev main_v756 : Ref sig .tc := ⟨.hbm, 846, rfl⟩
abbrev main_v757 : Ref sig .tc := ⟨.hbm, 847, rfl⟩
abbrev main_v758 : Ref sig .tc := ⟨.hbm, 848, rfl⟩
abbrev main_v759 : Ref sig .tc := ⟨.hbm, 849, rfl⟩
abbrev main_v760 : Ref sig .tc := ⟨.hbm, 850, rfl⟩
abbrev main_v761 : Ref sig .tc := ⟨.hbm, 851, rfl⟩
abbrev main_v762 : Ref sig .tc := ⟨.hbm, 852, rfl⟩
abbrev main_v763 : Ref sig .tc := ⟨.hbm, 853, rfl⟩
abbrev main_v764 : Ref sig .tc := ⟨.hbm, 854, rfl⟩
abbrev main_v765 : Ref sig .tc := ⟨.hbm, 855, rfl⟩
abbrev main_v766 : Ref sig .tc := ⟨.hbm, 856, rfl⟩
abbrev main_v767 : Ref sig .tc := ⟨.hbm, 857, rfl⟩
abbrev main_v768 : Ref sig .tc := ⟨.hbm, 858, rfl⟩
abbrev main_v769 : Ref sig .tc := ⟨.hbm, 859, rfl⟩
abbrev main_v770 : Ref sig .tc := ⟨.hbm, 860, rfl⟩
abbrev main_v771 : Ref sig .tc := ⟨.hbm, 861, rfl⟩
abbrev main_cst_79 : Ref sig .tc := ⟨.hbm, 862, rfl⟩
abbrev main_v772 : Ref sig .tc := ⟨.hbm, 863, rfl⟩
abbrev main_cst_80 : Ref sig .tc := ⟨.hbm, 864, rfl⟩
abbrev main_v773 : Ref sig .tc := ⟨.hbm, 865, rfl⟩
abbrev main_v774 : Ref sig .tc := ⟨.hbm, 866, rfl⟩
abbrev main_cst_81 : Ref sig .tc := ⟨.hbm, 867, rfl⟩
abbrev main_v775 : Ref sig .tc := ⟨.hbm, 868, rfl⟩
abbrev main_cst_82 : Ref sig .tc := ⟨.hbm, 869, rfl⟩
abbrev main_v776 : Ref sig .tc := ⟨.hbm, 870, rfl⟩
abbrev main_v777 : Ref sig .tc := ⟨.hbm, 871, rfl⟩
abbrev main_cst_83 : Ref sig .tc := ⟨.hbm, 872, rfl⟩
abbrev main_v778 : Ref sig .tc := ⟨.hbm, 873, rfl⟩
abbrev main_cst_84 : Ref sig .tc := ⟨.hbm, 874, rfl⟩
abbrev main_v779 : Ref sig .tc := ⟨.hbm, 875, rfl⟩
abbrev main_v780 : Ref sig .tc := ⟨.hbm, 876, rfl⟩
abbrev main_cst_85 : Ref sig .tc := ⟨.hbm, 877, rfl⟩
abbrev main_v781 : Ref sig .tc := ⟨.hbm, 878, rfl⟩
abbrev main_cst_86 : Ref sig .tc := ⟨.hbm, 879, rfl⟩
abbrev main_v782 : Ref sig .tc := ⟨.hbm, 880, rfl⟩
abbrev main_v783 : Ref sig .tc := ⟨.hbm, 881, rfl⟩
abbrev main_v784 : Ref sig .tc := ⟨.hbm, 882, rfl⟩
abbrev main_v785 : Ref sig .tc := ⟨.hbm, 883, rfl⟩
abbrev main_v786 : Ref sig .tc := ⟨.hbm, 884, rfl⟩
abbrev main_v787 : Ref sig .tc := ⟨.hbm, 885, rfl⟩
abbrev main_v788 : Ref sig .tc := ⟨.hbm, 886, rfl⟩
abbrev main_v789 : Ref sig .tc := ⟨.hbm, 887, rfl⟩
abbrev main_v790 : Ref sig .tc := ⟨.hbm, 888, rfl⟩
abbrev main_v791 : Ref sig .tc := ⟨.hbm, 889, rfl⟩
abbrev main_v792 : Ref sig .tc := ⟨.hbm, 890, rfl⟩
abbrev main_v793 : Ref sig .tc := ⟨.hbm, 891, rfl⟩
abbrev main_v794 : Ref sig .tc := ⟨.hbm, 892, rfl⟩
abbrev main_v795 : Ref sig .tc := ⟨.hbm, 893, rfl⟩
abbrev main_v796 : Ref sig .tc := ⟨.hbm, 894, rfl⟩
abbrev main_v797 : Ref sig .tc := ⟨.hbm, 895, rfl⟩
abbrev main_v798 : Ref sig .tc := ⟨.hbm, 896, rfl⟩
abbrev main_v799 : Ref sig .tc := ⟨.hbm, 897, rfl⟩
abbrev main_v800 : Ref sig .tc := ⟨.hbm, 898, rfl⟩
abbrev main_v801 : Ref sig .tc := ⟨.hbm, 899, rfl⟩
abbrev main_v802 : Ref sig .tc := ⟨.hbm, 900, rfl⟩
abbrev main_v803 : Ref sig .tc := ⟨.hbm, 901, rfl⟩
abbrev main_v804 : Ref sig .tc := ⟨.hbm, 902, rfl⟩
abbrev main_v805 : Ref sig .tc := ⟨.hbm, 903, rfl⟩
abbrev main_v806 : Ref sig .tc := ⟨.hbm, 904, rfl⟩
abbrev main_v807 : Ref sig .tc := ⟨.hbm, 905, rfl⟩
abbrev main_v808 : Ref sig .tc := ⟨.hbm, 906, rfl⟩
abbrev main_v809 : Ref sig .tc := ⟨.hbm, 907, rfl⟩
abbrev main_v810 : Ref sig .tc := ⟨.hbm, 908, rfl⟩
abbrev main_v811 : Ref sig .tc := ⟨.hbm, 909, rfl⟩
abbrev main_v812 : Ref sig .tc := ⟨.hbm, 910, rfl⟩
abbrev main_v813 : Ref sig .tc := ⟨.hbm, 911, rfl⟩
abbrev main_cst_87 : Ref sig .tc := ⟨.hbm, 912, rfl⟩
abbrev main_v814 : Ref sig .tc := ⟨.hbm, 913, rfl⟩
abbrev main_cst_88 : Ref sig .tc := ⟨.hbm, 914, rfl⟩
abbrev main_v815 : Ref sig .tc := ⟨.hbm, 915, rfl⟩
abbrev main_v816 : Ref sig .tc := ⟨.hbm, 916, rfl⟩
abbrev main_cst_89 : Ref sig .tc := ⟨.hbm, 917, rfl⟩
abbrev main_v817 : Ref sig .tc := ⟨.hbm, 918, rfl⟩
abbrev main_cst_90 : Ref sig .tc := ⟨.hbm, 919, rfl⟩
abbrev main_v818 : Ref sig .tc := ⟨.hbm, 920, rfl⟩
abbrev main_v819 : Ref sig .tc := ⟨.hbm, 921, rfl⟩
abbrev main_cst_91 : Ref sig .tc := ⟨.hbm, 922, rfl⟩
abbrev main_v820 : Ref sig .tc := ⟨.hbm, 923, rfl⟩
abbrev main_cst_92 : Ref sig .tc := ⟨.hbm, 924, rfl⟩
abbrev main_v821 : Ref sig .tc := ⟨.hbm, 925, rfl⟩
abbrev main_v822 : Ref sig .tc := ⟨.hbm, 926, rfl⟩
abbrev main_cst_93 : Ref sig .tc := ⟨.hbm, 927, rfl⟩
abbrev main_v823 : Ref sig .tc := ⟨.hbm, 928, rfl⟩
abbrev main_cst_94 : Ref sig .tc := ⟨.hbm, 929, rfl⟩
abbrev main_v824 : Ref sig .tc := ⟨.hbm, 930, rfl⟩
abbrev main_v825 : Ref sig .tc := ⟨.hbm, 931, rfl⟩
abbrev main_v826 : Ref sig .tc := ⟨.hbm, 932, rfl⟩
abbrev main_v827 : Ref sig .tc := ⟨.hbm, 933, rfl⟩
abbrev main_v828 : Ref sig .tc := ⟨.hbm, 934, rfl⟩
abbrev main_v829 : Ref sig .tc := ⟨.hbm, 935, rfl⟩
abbrev main_v830 : Ref sig .tc := ⟨.hbm, 936, rfl⟩
abbrev main_v831 : Ref sig .tc := ⟨.hbm, 937, rfl⟩
abbrev main_v832 : Ref sig .tc := ⟨.hbm, 938, rfl⟩
abbrev main_v833 : Ref sig .tc := ⟨.hbm, 939, rfl⟩
abbrev main_v834 : Ref sig .tc := ⟨.hbm, 940, rfl⟩
abbrev main_v835 : Ref sig .tc := ⟨.hbm, 941, rfl⟩
abbrev main_v836 : Ref sig .tc := ⟨.hbm, 942, rfl⟩
abbrev main_v837 : Ref sig .tc := ⟨.hbm, 943, rfl⟩
abbrev main_v838 : Ref sig .tc := ⟨.hbm, 944, rfl⟩
abbrev main_v839 : Ref sig .tc := ⟨.hbm, 945, rfl⟩
abbrev main_v840 : Ref sig .tc := ⟨.hbm, 946, rfl⟩
abbrev main_v841 : Ref sig .tc := ⟨.hbm, 947, rfl⟩
abbrev main_v842 : Ref sig .tc := ⟨.hbm, 948, rfl⟩
abbrev main_v843 : Ref sig .tc := ⟨.hbm, 949, rfl⟩
abbrev main_v844 : Ref sig .tc := ⟨.hbm, 950, rfl⟩
abbrev main_v845 : Ref sig .tc := ⟨.hbm, 951, rfl⟩
abbrev main_v846 : Ref sig .tc := ⟨.hbm, 952, rfl⟩
abbrev main_v847 : Ref sig .tc := ⟨.hbm, 953, rfl⟩
abbrev main_v848 : Ref sig .tc := ⟨.hbm, 954, rfl⟩
abbrev main_v849 : Ref sig .tc := ⟨.hbm, 955, rfl⟩
abbrev main_v850 : Ref sig .tc := ⟨.hbm, 956, rfl⟩
abbrev main_v851 : Ref sig .tc := ⟨.hbm, 957, rfl⟩
abbrev main_v852 : Ref sig .tc := ⟨.hbm, 958, rfl⟩
abbrev main_v853 : Ref sig .tc := ⟨.hbm, 959, rfl⟩
abbrev main_v854 : Ref sig .tc := ⟨.hbm, 960, rfl⟩
abbrev main_v855 : Ref sig .tc := ⟨.hbm, 961, rfl⟩
abbrev main_cst_95 : Ref sig .tc := ⟨.hbm, 962, rfl⟩
abbrev main_v856 : Ref sig .tc := ⟨.hbm, 963, rfl⟩
abbrev main_cst_96 : Ref sig .tc := ⟨.hbm, 964, rfl⟩
abbrev main_v857 : Ref sig .tc := ⟨.hbm, 965, rfl⟩
abbrev main_v858 : Ref sig .tc := ⟨.hbm, 966, rfl⟩
abbrev main_cst_97 : Ref sig .tc := ⟨.hbm, 967, rfl⟩
abbrev main_v859 : Ref sig .tc := ⟨.hbm, 968, rfl⟩
abbrev main_cst_98 : Ref sig .tc := ⟨.hbm, 969, rfl⟩
abbrev main_v860 : Ref sig .tc := ⟨.hbm, 970, rfl⟩
abbrev main_v861 : Ref sig .tc := ⟨.hbm, 971, rfl⟩
abbrev main_cst_99 : Ref sig .tc := ⟨.hbm, 972, rfl⟩
abbrev main_v862 : Ref sig .tc := ⟨.hbm, 973, rfl⟩
abbrev main_cst_100 : Ref sig .tc := ⟨.hbm, 974, rfl⟩
abbrev main_v863 : Ref sig .tc := ⟨.hbm, 975, rfl⟩
abbrev main_v864 : Ref sig .tc := ⟨.hbm, 976, rfl⟩
abbrev main_cst_101 : Ref sig .tc := ⟨.hbm, 977, rfl⟩
abbrev main_v865 : Ref sig .tc := ⟨.hbm, 978, rfl⟩
abbrev main_cst_102 : Ref sig .tc := ⟨.hbm, 979, rfl⟩
abbrev main_v866 : Ref sig .tc := ⟨.hbm, 980, rfl⟩
abbrev main_v867 : Ref sig .tc := ⟨.hbm, 981, rfl⟩
abbrev main_cst_103 : Ref sig .tc := ⟨.hbm, 982, rfl⟩
abbrev main_v868 : Ref sig .tc := ⟨.hbm, 983, rfl⟩
abbrev main_v869 : Ref sig .tc := ⟨.hbm, 984, rfl⟩
abbrev main_v870 : Ref sig .tc := ⟨.hbm, 985, rfl⟩
abbrev main_v871 : Ref sig .tc := ⟨.hbm, 986, rfl⟩
abbrev main_v872 : Ref sig .tc := ⟨.hbm, 987, rfl⟩
abbrev main_cst_104 : Ref sig .tc := ⟨.hbm, 988, rfl⟩
abbrev main_v873 : Ref sig .tc := ⟨.hbm, 989, rfl⟩
abbrev main_v874 : Ref sig .tc := ⟨.hbm, 990, rfl⟩
abbrev main_v875 : Ref sig .tc := ⟨.hbm, 991, rfl⟩
abbrev main_v876 : Ref sig .tc := ⟨.hbm, 992, rfl⟩
abbrev main_v877 : Ref sig .tc := ⟨.hbm, 993, rfl⟩
abbrev main_v878 : Ref sig .tc := ⟨.hbm, 994, rfl⟩
abbrev main_v879 : Ref sig .tc := ⟨.hbm, 995, rfl⟩
abbrev main_v880 : Ref sig .tc := ⟨.hbm, 996, rfl⟩
abbrev main_v881 : Ref sig .tc := ⟨.hbm, 997, rfl⟩
abbrev main_v882 : Ref sig .tc := ⟨.hbm, 998, rfl⟩
abbrev main_v883 : Ref sig .tc := ⟨.hbm, 999, rfl⟩
abbrev main_v884 : Ref sig .tc := ⟨.hbm, 1000, rfl⟩
abbrev main_v885_0 : Ref sig .tc := ⟨.hbm, 1001, rfl⟩
abbrev main_v885_1 : Ref sig .tc := ⟨.hbm, 1002, rfl⟩
abbrev main_v885_2 : Ref sig .tc := ⟨.hbm, 1003, rfl⟩
abbrev main_v885_3 : Ref sig .tc := ⟨.hbm, 1004, rfl⟩
abbrev main_v885_4 : Ref sig .tc := ⟨.hbm, 1005, rfl⟩
abbrev main_v886 : Ref sig .tc := ⟨.hbm, 1006, rfl⟩
abbrev main_v887 : Ref sig .tc := ⟨.hbm, 1007, rfl⟩
abbrev main_v888 : Ref sig .tc := ⟨.hbm, 1008, rfl⟩
abbrev main_v889 : Ref sig .tc := ⟨.hbm, 1009, rfl⟩
abbrev main_v890 : Ref sig .tc := ⟨.hbm, 1010, rfl⟩
abbrev main_v891 : Ref sig .tc := ⟨.hbm, 1011, rfl⟩
abbrev main_v892 : Ref sig .tc := ⟨.hbm, 1012, rfl⟩
abbrev main_v893 : Ref sig .tc := ⟨.hbm, 1013, rfl⟩
abbrev main_v894 : Ref sig .tc := ⟨.hbm, 1014, rfl⟩
abbrev main_v895 : Ref sig .tc := ⟨.hbm, 1015, rfl⟩
abbrev main_v896 : Ref sig .tc := ⟨.hbm, 1016, rfl⟩
abbrev main_v897 : Ref sig .tc := ⟨.hbm, 1017, rfl⟩
abbrev main_v898 : Ref sig .tc := ⟨.hbm, 1018, rfl⟩
abbrev main_v899 : Ref sig .tc := ⟨.hbm, 1019, rfl⟩
abbrev main_v900 : Ref sig .tc := ⟨.hbm, 1020, rfl⟩
abbrev main_v901 : Ref sig .tc := ⟨.hbm, 1021, rfl⟩
abbrev main_v902 : Ref sig .tc := ⟨.hbm, 1022, rfl⟩
abbrev main_v903 : Ref sig .tc := ⟨.hbm, 1023, rfl⟩
abbrev main_v904 : Ref sig .tc := ⟨.hbm, 1024, rfl⟩
abbrev main_v905 : Ref sig .tc := ⟨.hbm, 1025, rfl⟩
abbrev main_v906 : Ref sig .tc := ⟨.hbm, 1026, rfl⟩
abbrev main_v907 : Ref sig .tc := ⟨.hbm, 1027, rfl⟩
abbrev main_v908 : Ref sig .tc := ⟨.hbm, 1028, rfl⟩
abbrev main_v909 : Ref sig .tc := ⟨.hbm, 1029, rfl⟩
abbrev main_v910 : Ref sig .tc := ⟨.hbm, 1030, rfl⟩
abbrev main_v911 : Ref sig .tc := ⟨.hbm, 1031, rfl⟩
abbrev main_v912 : Ref sig .tc := ⟨.hbm, 1032, rfl⟩
abbrev main_v913 : Ref sig .tc := ⟨.hbm, 1033, rfl⟩
abbrev main_v914 : Ref sig .tc := ⟨.hbm, 1034, rfl⟩
abbrev main_v915 : Ref sig .tc := ⟨.hbm, 1035, rfl⟩
abbrev main_v916 : Ref sig .tc := ⟨.hbm, 1036, rfl⟩
abbrev main_v917 : Ref sig .tc := ⟨.hbm, 1037, rfl⟩
abbrev main_v918 : Ref sig .tc := ⟨.hbm, 1038, rfl⟩
abbrev main_v919 : Ref sig .tc := ⟨.hbm, 1039, rfl⟩
abbrev main_v920 : Ref sig .tc := ⟨.hbm, 1040, rfl⟩
abbrev main_v921 : Ref sig .tc := ⟨.hbm, 1041, rfl⟩
abbrev main_v922 : Ref sig .tc := ⟨.hbm, 1042, rfl⟩
abbrev main_v923 : Ref sig .tc := ⟨.hbm, 1043, rfl⟩
abbrev main_v924 : Ref sig .tc := ⟨.hbm, 1044, rfl⟩
abbrev main_v925 : Ref sig .tc := ⟨.hbm, 1045, rfl⟩
abbrev main_v926 : Ref sig .tc := ⟨.hbm, 1046, rfl⟩
abbrev main_v927 : Ref sig .tc := ⟨.hbm, 1047, rfl⟩
abbrev main_v928 : Ref sig .tc := ⟨.hbm, 1048, rfl⟩
abbrev main_v929 : Ref sig .tc := ⟨.hbm, 1049, rfl⟩
abbrev main_v930 : Ref sig .tc := ⟨.hbm, 1050, rfl⟩
abbrev main_v931 : Ref sig .tc := ⟨.hbm, 1051, rfl⟩
abbrev main_v932 : Ref sig .tc := ⟨.hbm, 1052, rfl⟩
abbrev main_v933 : Ref sig .tc := ⟨.hbm, 1053, rfl⟩
abbrev main_v934 : Ref sig .tc := ⟨.hbm, 1054, rfl⟩
abbrev main_v935 : Ref sig .tc := ⟨.hbm, 1055, rfl⟩
abbrev main_v936 : Ref sig .tc := ⟨.hbm, 1056, rfl⟩
abbrev main_v937 : Ref sig .tc := ⟨.hbm, 1057, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_276 : BitVec 32 := 0#32
  let c256_i32 : BitVec 32 := 256#32
  let v327 : BitVec 32 := Scalar.addi c0_i32_276 c256_i32
  let c1_i32 : BitVec 32 := 1#32
  ⟨c0_i32_276, v327, c1_i32⟩
def k0_mult1 (k0_t1 : Fin k0_t1_loop.trips) : BitVec 32 :=
  let c0_i32_276 : BitVec 32 := 0#32
  let c1_i32 : BitVec 32 := 1#32
  let arg17 : BitVec 32 := Scf.iv c0_i32_276 c1_i32 k0_t1
  let c8_i32 : BitVec 32 := 8#32
  let v1299 : BitVec 32 := Scalar.muli arg17 c8_i32
  v1299
def k0_off1 (k0_t1 : Fin k0_t1_loop.trips) : Fin 3 → Nat :=
  let c0_1234 : Index := 0#32
  let c0_i32_276 : BitVec 32 := 0#32
  let c1_i32 : BitVec 32 := 1#32
  let arg17 : BitVec 32 := Scf.iv c0_i32_276 c1_i32 k0_t1
  let c8_i32 : BitVec 32 := 8#32
  let v1299 : BitVec 32 := Scalar.muli arg17 c8_i32
  let v1300 : BitVec 32 := v1299
  let v1304 : Index := Scalar.indexCast v1300
  let c0_1235 : Index := 0#32
  ![0, v1304.toNat, 0]
def k0_off2 (k0_t1 : Fin k0_t1_loop.trips) : Fin 3 → Nat :=
  let c4_1236 : Index := 4#32
  let c0_i32_276 : BitVec 32 := 0#32
  let c1_i32 : BitVec 32 := 1#32
  let arg17 : BitVec 32 := Scf.iv c0_i32_276 c1_i32 k0_t1
  let c8_i32 : BitVec 32 := 8#32
  let v1299 : BitVec 32 := Scalar.muli arg17 c8_i32
  let v1300 : BitVec 32 := v1299
  let v1311 : Index := Scalar.indexCast v1300
  let c0_1237 : Index := 0#32
  ![4, v1311.toNat, 0]
def k0_mult2 (k0_t1 : Fin k0_t1_loop.trips) : BitVec 32 :=
  let c0_i32_276 : BitVec 32 := 0#32
  let c1_i32 : BitVec 32 := 1#32
  let arg17 : BitVec 32 := Scf.iv c0_i32_276 c1_i32 k0_t1
  let c8_i32_1242 : BitVec 32 := 8#32
  let v1323 : BitVec 32 := Scalar.muli arg17 c8_i32_1242
  v1323
def k0_off3 (k0_t1 : Fin k0_t1_loop.trips) : Fin 3 → Nat :=
  let c1_1243 : Index := 1#32
  let c0_i32_276 : BitVec 32 := 0#32
  let c1_i32 : BitVec 32 := 1#32
  let arg17 : BitVec 32 := Scf.iv c0_i32_276 c1_i32 k0_t1
  let c8_i32_1242 : BitVec 32 := 8#32
  let v1323 : BitVec 32 := Scalar.muli arg17 c8_i32_1242
  let v1324 : BitVec 32 := v1323
  let v1328 : Index := Scalar.indexCast v1324
  let c0_1244 : Index := 0#32
  ![1, v1328.toNat, 0]
def k0_off4 (k0_t1 : Fin k0_t1_loop.trips) : Fin 3 → Nat :=
  let c5_1245 : Index := 5#32
  let c0_i32_276 : BitVec 32 := 0#32
  let c1_i32 : BitVec 32 := 1#32
  let arg17 : BitVec 32 := Scf.iv c0_i32_276 c1_i32 k0_t1
  let c8_i32_1242 : BitVec 32 := 8#32
  let v1323 : BitVec 32 := Scalar.muli arg17 c8_i32_1242
  let v1324 : BitVec 32 := v1323
  let v1335 : Index := Scalar.indexCast v1324
  let c0_1246 : Index := 0#32
  ![5, v1335.toNat, 0]
def k0_mult3 (k0_t1 : Fin k0_t1_loop.trips) : BitVec 32 :=
  let c0_i32_276 : BitVec 32 := 0#32
  let c1_i32 : BitVec 32 := 1#32
  let arg17 : BitVec 32 := Scf.iv c0_i32_276 c1_i32 k0_t1
  let c8_i32_1251 : BitVec 32 := 8#32
  let v1347 : BitVec 32 := Scalar.muli arg17 c8_i32_1251
  v1347
def k0_off5 (k0_t1 : Fin k0_t1_loop.trips) : Fin 3 → Nat :=
  let c2_1252 : Index := 2#32
  let c0_i32_276 : BitVec 32 := 0#32
  let c1_i32 : BitVec 32 := 1#32
  let arg17 : BitVec 32 := Scf.iv c0_i32_276 c1_i32 k0_t1
  let c8_i32_1251 : BitVec 32 := 8#32
  let v1347 : BitVec 32 := Scalar.muli arg17 c8_i32_1251
  let v1348 : BitVec 32 := v1347
  let v1352 : Index := Scalar.indexCast v1348
  let c0_1253 : Index := 0#32
  ![2, v1352.toNat, 0]
def k0_off6 (k0_t1 : Fin k0_t1_loop.trips) : Fin 3 → Nat :=
  let c6_1254 : Index := 6#32
  let c0_i32_276 : BitVec 32 := 0#32
  let c1_i32 : BitVec 32 := 1#32
  let arg17 : BitVec 32 := Scf.iv c0_i32_276 c1_i32 k0_t1
  let c8_i32_1251 : BitVec 32 := 8#32
  let v1347 : BitVec 32 := Scalar.muli arg17 c8_i32_1251
  let v1348 : BitVec 32 := v1347
  let v1359 : Index := Scalar.indexCast v1348
  let c0_1255 : Index := 0#32
  ![6, v1359.toNat, 0]
def k0_mult4 (k0_t1 : Fin k0_t1_loop.trips) : BitVec 32 :=
  let c0_i32_276 : BitVec 32 := 0#32
  let c1_i32 : BitVec 32 := 1#32
  let arg17 : BitVec 32 := Scf.iv c0_i32_276 c1_i32 k0_t1
  let c8_i32_1260 : BitVec 32 := 8#32
  let v1371 : BitVec 32 := Scalar.muli arg17 c8_i32_1260
  v1371
def k0_off7 (k0_t1 : Fin k0_t1_loop.trips) : Fin 3 → Nat :=
  let c3_1261 : Index := 3#32
  let c0_i32_276 : BitVec 32 := 0#32
  let c1_i32 : BitVec 32 := 1#32
  let arg17 : BitVec 32 := Scf.iv c0_i32_276 c1_i32 k0_t1
  let c8_i32_1260 : BitVec 32 := 8#32
  let v1371 : BitVec 32 := Scalar.muli arg17 c8_i32_1260
  let v1372 : BitVec 32 := v1371
  let v1376 : Index := Scalar.indexCast v1372
  let c0_1262 : Index := 0#32
  ![3, v1376.toNat, 0]
def k0_off8 (k0_t1 : Fin k0_t1_loop.trips) : Fin 3 → Nat :=
  let c7_1263 : Index := 7#32
  let c0_i32_276 : BitVec 32 := 0#32
  let c1_i32 : BitVec 32 := 1#32
  let arg17 : BitVec 32 := Scf.iv c0_i32_276 c1_i32 k0_t1
  let c8_i32_1260 : BitVec 32 := 8#32
  let v1371 : BitVec 32 := Scalar.muli arg17 c8_i32_1260
  let v1372 : BitVec 32 := v1371
  let v1383 : Index := Scalar.indexCast v1372
  let c0_1264 : Index := 0#32
  ![7, v1383.toNat, 0]
@[reducible] def k0_t2_loop : Scf.Loop 32 :=
  let c0_i32_526 : BitVec 32 := 0#32
  let c256_i32_527 : BitVec 32 := 256#32
  let v633 : BitVec 32 := Scalar.addi c0_i32_526 c256_i32_527
  let c1_i32_528 : BitVec 32 := 1#32
  ⟨c0_i32_526, v633, c1_i32_528⟩
def k0_mult5 (k0_t2 : Fin k0_t2_loop.trips) : BitVec 32 :=
  let c255_i32 : BitVec 32 := 255#32
  let c0_i32_526 : BitVec 32 := 0#32
  let c1_i32_528 : BitVec 32 := 1#32
  let arg17 : BitVec 32 := Scf.iv c0_i32_526 c1_i32_528 k0_t2
  let v1299 : BitVec 32 := Scalar.subi c255_i32 arg17
  let c8_i32 : BitVec 32 := 8#32
  let v1300 : BitVec 32 := Scalar.muli v1299 c8_i32
  v1300
def k0_off9 (k0_t2 : Fin k0_t2_loop.trips) : Fin 3 → Nat :=
  let c0_1234 : Index := 0#32
  let c255_i32 : BitVec 32 := 255#32
  let c0_i32_526 : BitVec 32 := 0#32
  let c1_i32_528 : BitVec 32 := 1#32
  let arg17 : BitVec 32 := Scf.iv c0_i32_526 c1_i32_528 k0_t2
  let v1299 : BitVec 32 := Scalar.subi c255_i32 arg17
  let c8_i32 : BitVec 32 := 8#32
  let v1300 : BitVec 32 := Scalar.muli v1299 c8_i32
  let v1301 : BitVec 32 := v1300
  let v1302 : Index := Scalar.indexCast v1301
  let c0_1235 : Index := 0#32
  ![0, v1302.toNat, 0]
def k0_off10 (k0_t2 : Fin k0_t2_loop.trips) : Fin 3 → Nat :=
  let c4_1236 : Index := 4#32
  let c255_i32 : BitVec 32 := 255#32
  let c0_i32_526 : BitVec 32 := 0#32
  let c1_i32_528 : BitVec 32 := 1#32
  let arg17 : BitVec 32 := Scf.iv c0_i32_526 c1_i32_528 k0_t2
  let v1299 : BitVec 32 := Scalar.subi c255_i32 arg17
  let c8_i32 : BitVec 32 := 8#32
  let v1300 : BitVec 32 := Scalar.muli v1299 c8_i32
  let v1301 : BitVec 32 := v1300
  let v1309 : Index := Scalar.indexCast v1301
  let c0_1237 : Index := 0#32
  ![4, v1309.toNat, 0]
def k0_off11 (k0_t2 : Fin k0_t2_loop.trips) : Fin 3 → Nat :=
  let c1_1242 : Index := 1#32
  let c255_i32 : BitVec 32 := 255#32
  let c0_i32_526 : BitVec 32 := 0#32
  let c1_i32_528 : BitVec 32 := 1#32
  let arg17 : BitVec 32 := Scf.iv c0_i32_526 c1_i32_528 k0_t2
  let v1299 : BitVec 32 := Scalar.subi c255_i32 arg17
  let c8_i32 : BitVec 32 := 8#32
  let v1300 : BitVec 32 := Scalar.muli v1299 c8_i32
  let v1301 : BitVec 32 := v1300
  let v1324 : Index := Scalar.indexCast v1301
  let c0_1243 : Index := 0#32
  ![1, v1324.toNat, 0]
def k0_off12 (k0_t2 : Fin k0_t2_loop.trips) : Fin 3 → Nat :=
  let c5_1244 : Index := 5#32
  let c255_i32 : BitVec 32 := 255#32
  let c0_i32_526 : BitVec 32 := 0#32
  let c1_i32_528 : BitVec 32 := 1#32
  let arg17 : BitVec 32 := Scf.iv c0_i32_526 c1_i32_528 k0_t2
  let v1299 : BitVec 32 := Scalar.subi c255_i32 arg17
  let c8_i32 : BitVec 32 := 8#32
  let v1300 : BitVec 32 := Scalar.muli v1299 c8_i32
  let v1301 : BitVec 32 := v1300
  let v1331 : Index := Scalar.indexCast v1301
  let c0_1245 : Index := 0#32
  ![5, v1331.toNat, 0]
def k0_off13 (k0_t2 : Fin k0_t2_loop.trips) : Fin 3 → Nat :=
  let c2_1250 : Index := 2#32
  let c255_i32 : BitVec 32 := 255#32
  let c0_i32_526 : BitVec 32 := 0#32
  let c1_i32_528 : BitVec 32 := 1#32
  let arg17 : BitVec 32 := Scf.iv c0_i32_526 c1_i32_528 k0_t2
  let v1299 : BitVec 32 := Scalar.subi c255_i32 arg17
  let c8_i32 : BitVec 32 := 8#32
  let v1300 : BitVec 32 := Scalar.muli v1299 c8_i32
  let v1301 : BitVec 32 := v1300
  let v1346 : Index := Scalar.indexCast v1301
  let c0_1251 : Index := 0#32
  ![2, v1346.toNat, 0]
def k0_off14 (k0_t2 : Fin k0_t2_loop.trips) : Fin 3 → Nat :=
  let c6_1252 : Index := 6#32
  let c255_i32 : BitVec 32 := 255#32
  let c0_i32_526 : BitVec 32 := 0#32
  let c1_i32_528 : BitVec 32 := 1#32
  let arg17 : BitVec 32 := Scf.iv c0_i32_526 c1_i32_528 k0_t2
  let v1299 : BitVec 32 := Scalar.subi c255_i32 arg17
  let c8_i32 : BitVec 32 := 8#32
  let v1300 : BitVec 32 := Scalar.muli v1299 c8_i32
  let v1301 : BitVec 32 := v1300
  let v1353 : Index := Scalar.indexCast v1301
  let c0_1253 : Index := 0#32
  ![6, v1353.toNat, 0]
def k0_off15 (k0_t2 : Fin k0_t2_loop.trips) : Fin 3 → Nat :=
  let c3_1258 : Index := 3#32
  let c255_i32 : BitVec 32 := 255#32
  let c0_i32_526 : BitVec 32 := 0#32
  let c1_i32_528 : BitVec 32 := 1#32
  let arg17 : BitVec 32 := Scf.iv c0_i32_526 c1_i32_528 k0_t2
  let v1299 : BitVec 32 := Scalar.subi c255_i32 arg17
  let c8_i32 : BitVec 32 := 8#32
  let v1300 : BitVec 32 := Scalar.muli v1299 c8_i32
  let v1301 : BitVec 32 := v1300
  let v1368 : Index := Scalar.indexCast v1301
  let c0_1259 : Index := 0#32
  ![3, v1368.toNat, 0]
def k0_off16 (k0_t2 : Fin k0_t2_loop.trips) : Fin 3 → Nat :=
  let c7_1260 : Index := 7#32
  let c255_i32 : BitVec 32 := 255#32
  let c0_i32_526 : BitVec 32 := 0#32
  let c1_i32_528 : BitVec 32 := 1#32
  let arg17 : BitVec 32 := Scf.iv c0_i32_526 c1_i32_528 k0_t2
  let v1299 : BitVec 32 := Scalar.subi c255_i32 arg17
  let c8_i32 : BitVec 32 := 8#32
  let v1300 : BitVec 32 := Scalar.muli v1299 c8_i32
  let v1301 : BitVec 32 := v1300
  let v1375 : Index := Scalar.indexCast v1301
  let c0_1261 : Index := 0#32
  ![7, v1375.toNat, 0]
def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Kernel11.lean ====
abbrev S8192x1024 : Shape := ⟨2, ![8192, 1024]⟩
abbrev S64x64 : Shape := ⟨2, ![64, 64]⟩
abbrev S64x64x16 : Shape := ⟨3, ![64, 64, 16]⟩
abbrev S64x16x64 : Shape := ⟨3, ![64, 16, 64]⟩
abbrev S8x8 : Shape := ⟨2, ![8, 8]⟩
abbrev S_ : Shape := ⟨0, ![]⟩
abbrev S1x64x64x16 : Shape := ⟨4, ![1, 64, 64, 16]⟩
abbrev S2x64x64x16 : Shape := ⟨4, ![2, 64, 64, 16]⟩
abbrev S2x8x8x64x16 : Shape := ⟨5, ![2, 8, 8, 64, 16]⟩
abbrev S8x8x16x2x64 : Shape := ⟨5, ![8, 8, 16, 2, 64]⟩
abbrev S8x8x16x2x1x64 : Shape := ⟨6, ![8, 8, 16, 2, 1, 64]⟩
abbrev S1x8x1x1x8x1 : Shape := ⟨6, ![1, 8, 1, 1, 8, 1]⟩
abbrev S8x8x16x2x8x64 : Shape := ⟨6, ![8, 8, 16, 2, 8, 64]⟩
abbrev S8x128x1024 : Shape := ⟨3, ![8, 128, 1024]⟩
abbrev S1x64x16x64 : Shape := ⟨4, ![1, 64, 16, 64]⟩
abbrev S2x64x16x64 : Shape := ⟨4, ![2, 64, 16, 64]⟩
abbrev S2x8x8x16x64 : Shape := ⟨5, ![2, 8, 8, 16, 64]⟩
abbrev S8x2x8x64x16 : Shape := ⟨5, ![8, 2, 8, 64, 16]⟩
abbrev S8x2x8x64x1x16 : Shape := ⟨6, ![8, 2, 8, 64, 1, 16]⟩
abbrev S1x1x8x1x8x1 : Shape := ⟨6, ![1, 1, 8, 1, 8, 1]⟩
abbrev S8x2x8x64x8x16 : Shape := ⟨6, ![8, 2, 8, 64, 8, 16]⟩
abbrev S8x1024x128 : Shape := ⟨3, ![8, 1024, 128]⟩
abbrev S8x4x128 : Shape := ⟨3, ![8, 4, 128]⟩
abbrev S4x8x128 : Shape := ⟨3, ![4, 8, 128]⟩
abbrev S32x8x8x128 : Shape := ⟨4, ![32, 8, 8, 128]⟩
abbrev S256x1024 : Shape := ⟨2, ![256, 1024]⟩
abbrev S1x8x8x128 : Shape := ⟨4, ![1, 8, 8, 128]⟩
abbrev S8x2048x128 : Shape := ⟨3, ![8, 2048, 128]⟩
abbrev S8x8x128 : Shape := ⟨3, ![8, 8, 128]⟩
abbrev S256x128 : Shape := ⟨2, ![256, 128]⟩
abbrev S1x128x1024 : Shape := ⟨3, ![1, 128, 1024]⟩
abbrev S128x1024 : Shape := ⟨2, ![128, 1024]⟩
abbrev S1x256x128 : Shape := ⟨3, ![1, 256, 128]⟩
abbrev S1x8x128 : Shape := ⟨3, ![1, 8, 128]⟩
abbrev S8x128 : Shape := ⟨2, ![8, 128]⟩
abbrev S1x1024x128 : Shape := ⟨3, ![1, 1024, 128]⟩
abbrev S1024x128 : Shape := ⟨2, ![1024, 128]⟩

abbrev nBuf : Space → Nat
  | .hbm => 45
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S64x64, .f32⟩
  | .hbm, ⟨2, _⟩ => ⟨S64x64, .f32⟩
  | .hbm, ⟨3, _⟩ => ⟨S64x64x16, .f32⟩
  | .hbm, ⟨4, _⟩ => ⟨S64x64x16, .f32⟩
  | .hbm, ⟨5, _⟩ => ⟨S64x16x64, .f32⟩
  | .hbm, ⟨6, _⟩ => ⟨S64x16x64, .f32⟩
  | .hbm, ⟨7, _⟩ => ⟨S8x8, .i32⟩
  | .hbm, ⟨8, _⟩ => ⟨S8x8, .i32⟩
  | .hbm, ⟨9, _⟩ => ⟨S_, .i32⟩
  | .hbm, ⟨10, _⟩ => ⟨S8x8, .i32⟩
  | .hbm, ⟨11, _⟩ => ⟨S8x8, .i32⟩
  | .hbm, ⟨12, _⟩ => ⟨S8x8, .i1⟩
  | .hbm, ⟨13, _⟩ => ⟨S8x8, .f32⟩
  | .hbm, ⟨14, _⟩ => ⟨S1x64x64x16, .f32⟩
  | .hbm, ⟨15, _⟩ => ⟨S1x64x64x16, .f32⟩
  | .hbm, ⟨16, _⟩ => ⟨S2x64x64x16, .f32⟩
  | .hbm, ⟨17, _⟩ => ⟨S2x8x8x64x16, .f32⟩
  | .hbm, ⟨18, _⟩ => ⟨S8x8x16x2x64, .f32⟩
  | .hbm, ⟨19, _⟩ => ⟨S8x8x16x2x1x64, .f32⟩
  | .hbm, ⟨20, _⟩ => ⟨S1x8x1x1x8x1, .f32⟩
  | .hbm, ⟨21, _⟩ => ⟨S8x8x16x2x8x64, .f32⟩
  | .hbm, ⟨22, _⟩ => ⟨S8x8x16x2x8x64, .f32⟩
  | .hbm, ⟨23, _⟩ => ⟨S8x8x16x2x8x64, .f32⟩
  | .hbm, ⟨24, _⟩ => ⟨S8x128x1024, .f32⟩
  | .hbm, ⟨25, _⟩ => ⟨S64x16x64, .f32⟩
  | .hbm, ⟨26, _⟩ => ⟨S1x64x16x64, .f32⟩
  | .hbm, ⟨27, _⟩ => ⟨S1x64x16x64, .f32⟩
  | .hbm, ⟨28, _⟩ => ⟨S2x64x16x64, .f32⟩
  | .hbm, ⟨29, _⟩ => ⟨S2x8x8x16x64, .f32⟩
  | .hbm, ⟨30, _⟩ => ⟨S8x2x8x64x16, .f32⟩
  | .hbm, ⟨31, _⟩ => ⟨S8x2x8x64x1x16, .f32⟩
  | .hbm, ⟨32, _⟩ => ⟨S1x1x8x1x8x1, .f32⟩
  | .hbm, ⟨33, _⟩ => ⟨S8x2x8x64x8x16, .f32⟩
  | .hbm, ⟨34, _⟩ => ⟨S8x2x8x64x8x16, .f32⟩
  | .hbm, ⟨35, _⟩ => ⟨S8x2x8x64x8x16, .f32⟩
  | .hbm, ⟨36, _⟩ => ⟨S8x1024x128, .f32⟩
  | .hbm, ⟨37, _⟩ => ⟨S8x128x1024, .bf16⟩
  | .hbm, ⟨38, _⟩ => ⟨S8x1024x128, .bf16⟩
  | .hbm, ⟨39, _⟩ => ⟨S8x4x128, .f32⟩
  | .hbm, ⟨40, _⟩ => ⟨S4x8x128, .f32⟩
  | .hbm, ⟨41, _⟩ => ⟨S8x4x128, .f32⟩
  | .hbm, ⟨42, _⟩ => ⟨S4x8x128, .f32⟩
  | .hbm, ⟨43, _⟩ => ⟨S8192x1024, .f32⟩
  | .hbm, ⟨44, _⟩ => ⟨S32x8x8x128, .f32⟩
  | .local _ .vmem, ⟨0, _⟩ => ⟨S256x1024, .f32⟩
  | .local _ .vmem, ⟨1, _⟩ => ⟨S256x1024, .f32⟩
  | .local _ .vmem, ⟨2, _⟩ => ⟨S8x128x1024, .bf16⟩
  | .local _ .vmem, ⟨3, _⟩ => ⟨S8x1024x128, .bf16⟩
  | .local _ .vmem, ⟨4, _⟩ => ⟨S4x8x128, .f32⟩
  | .local _ .vmem, ⟨5, _⟩ => ⟨S4x8x128, .f32⟩
  | .local _ .vmem, ⟨6, _⟩ => ⟨S256x1024, .f32⟩
  | .local _ .vmem, ⟨7, _⟩ => ⟨S256x1024, .f32⟩
  | .local _ .vmem, ⟨8, _⟩ => ⟨S1x8x8x128, .f32⟩
  | .local _ .vmem, ⟨9, _⟩ => ⟨S1x8x8x128, .f32⟩
  | .local _ .vmem, ⟨10, _⟩ => ⟨S8x2048x128, .f32⟩
  | .local _ .vmem, ⟨11, _⟩ => ⟨S8x8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35_0 : Ref sig .tc := ⟨.hbm, 43, rfl⟩
abbrev main_v35_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_273 : BitVec 32 := 0#32
  let c256_i32 : BitVec 32 := 256#32
  let v329 : BitVec 32 := Scalar.addi c0_i32_273 c256_i32
  let c1_i32 : BitVec 32 := 1#32
  ⟨c0_i32_273, v329, c1_i32⟩
def k0_mult1 (k0_t1 : Fin k0_t1_loop.trips) : BitVec 32 :=
  let c0_i32_273 : BitVec 32 := 0#32
  let c1_i32 : BitVec 32 := 1#32
  let arg10 : BitVec 32 := Scf.iv c0_i32_273 c1_i32 k0_t1
  let c8_i32 : BitVec 32 := 8#32
  let v531 : BitVec 32 := Scalar.muli arg10 c8_i32
  v531
def k0_off1 (k0_t1 : Fin k0_t1_loop.trips) : Fin 3 → Nat :=
  let c0_532 : Index := 0#32
  let c0_i32_273 : BitVec 32 := 0#32
  let c1_i32 : BitVec 32 := 1#32
  let arg10 : BitVec 32 := Scf.iv c0_i32_273 c1_i32 k0_t1
  let c8_i32 : BitVec 32 := 8#32
  let v531 : BitVec 32 := Scalar.muli arg10 c8_i32
  let v532 : BitVec 32 := v531
  let v536 : Index := Scalar.indexCast v532
  let c0_533 : Index := 0#32
  ![0, v536.toNat, 0]
def k0_off2 (k0_t1 : Fin k0_t1_loop.trips) : Fin 3 → Nat :=
  let c4_534 : Index := 4#32
  let c0_i32_273 : BitVec 32 := 0#32
  let c1_i32 : BitVec 32 := 1#32
  let arg10 : BitVec 32 := Scf.iv c0_i32_273 c1_i32 k0_t1
  let c8_i32 : BitVec 32 := 8#32
  let v531 : BitVec 32 := Scalar.muli arg10 c8_i32
  let v532 : BitVec 32 := v531
  let v543 : Index := Scalar.indexCast v532
  let c0_535 : Index := 0#32
  ![4, v543.toNat, 0]
def k0_mult2 (k0_t1 : Fin k0_t1_loop.trips) : BitVec 32 :=
  let c0_i32_273 : BitVec 32 := 0#32
  let c1_i32 : BitVec 32 := 1#32
  let arg10 : BitVec 32 := Scf.iv c0_i32_273 c1_i32 k0_t1
  let c8_i32_540 : BitVec 32 := 8#32
  let v555 : BitVec 32 := Scalar.muli arg10 c8_i32_540
  v555
def k0_off3 (k0_t1 : Fin k0_t1_loop.trips) : Fin 3 → Nat :=
  let c1_541 : Index := 1#32
  let c0_i32_273 : BitVec 32 := 0#32
  let c1_i32 : BitVec 32 := 1#32
  let arg10 : BitVec 32 := Scf.iv c0_i32_273 c1_i32 k0_t1
  let c8_i32_540 : BitVec 32 := 8#32
  let v555 : BitVec 32 := Scalar.muli arg10 c8_i32_540
  let v556 : BitVec 32 := v555
  let v560 : Index := Scalar.indexCast v556
  let c0_542 : Index := 0#32
  ![1, v560.toNat, 0]
def k0_off4 (k0_t1 : Fin k0_t1_loop.trips) : Fin 3 → Nat :=
  let c5_543 : Index := 5#32
  let c0_i32_273 : BitVec 32 := 0#32
  let c1_i32 : BitVec 32 := 1#32
  let arg10 : BitVec 32 := Scf.iv c0_i32_273 c1_i32 k0_t1
  let c8_i32_540 : BitVec 32 := 8#32
  let v555 : BitVec 32 := Scalar.muli arg10 c8_i32_540
  let v556 : BitVec 32 := v555
  let v567 : Index := Scalar.indexCast v556
  let c0_544 : Index := 0#32
  ![5, v567.toNat, 0]
def k0_mult3 (k0_t1 : Fin k0_t1_loop.trips) : BitVec 32 :=
  let c0_i32_273 : BitVec 32 := 0#32
  let c1_i32 : BitVec 32 := 1#32
  let arg10 : BitVec 32 := Scf.iv c0_i32_273 c1_i32 k0_t1
  let c8_i32_549 : BitVec 32 := 8#32
  let v579 : BitVec 32 := Scalar.muli arg10 c8_i32_549
  v579
def k0_off5 (k0_t1 : Fin k0_t1_loop.trips) : Fin 3 → Nat :=
  let c2_550 : Index := 2#32
  let c0_i32_273 : BitVec 32 := 0#32
  let c1_i32 : BitVec 32 := 1#32
  let arg10 : BitVec 32 := Scf.iv c0_i32_273 c1_i32 k0_t1
  let c8_i32_549 : BitVec 32 := 8#32
  let v579 : BitVec 32 := Scalar.muli arg10 c8_i32_549
  let v580 : BitVec 32 := v579
  let v584 : Index := Scalar.indexCast v580
  let c0_551 : Index := 0#32
  ![2, v584.toNat, 0]
def k0_off6 (k0_t1 : Fin k0_t1_loop.trips) : Fin 3 → Nat :=
  let c6_552 : Index := 6#32
  let c0_i32_273 : BitVec 32 := 0#32
  let c1_i32 : BitVec 32 := 1#32
  let arg10 : BitVec 32 := Scf.iv c0_i32_273 c1_i32 k0_t1
  let c8_i32_549 : BitVec 32 := 8#32
  let v579 : BitVec 32 := Scalar.muli arg10 c8_i32_549
  let v580 : BitVec 32 := v579
  let v591 : Index := Scalar.indexCast v580
  let c0_553 : Index := 0#32
  ![6, v591.toNat, 0]
def k0_mult4 (k0_t1 : Fin k0_t1_loop.trips) : BitVec 32 :=
  let c0_i32_273 : BitVec 32 := 0#32
  let c1_i32 : BitVec 32 := 1#32
  let arg10 : BitVec 32 := Scf.iv c0_i32_273 c1_i32 k0_t1
  let c8_i32_558 : BitVec 32 := 8#32
  let v603 : BitVec 32 := Scalar.muli arg10 c8_i32_558
  v603
def k0_off7 (k0_t1 : Fin k0_t1_loop.trips) : Fin 3 → Nat :=
  let c3_559 : Index := 3#32
  let c0_i32_273 : BitVec 32 := 0#32
  let c1_i32 : BitVec 32 := 1#32
  let arg10 : BitVec 32 := Scf.iv c0_i32_273 c1_i32 k0_t1
  let c8_i32_558 : BitVec 32 := 8#32
  let v603 : BitVec 32 := Scalar.muli arg10 c8_i32_558
  let v604 : BitVec 32 := v603
  let v608 : Index := Scalar.indexCast v604
  let c0_560 : Index := 0#32
  ![3, v608.toNat, 0]
def k0_off8 (k0_t1 : Fin k0_t1_loop.trips) : Fin 3 → Nat :=
  let c7_561 : Index := 7#32
  let c0_i32_273 : BitVec 32 := 0#32
  let c1_i32 : BitVec 32 := 1#32
  let arg10 : BitVec 32 := Scf.iv c0_i32_273 c1_i32 k0_t1
  let c8_i32_558 : BitVec 32 := 8#32
  let v603 : BitVec 32 := Scalar.muli arg10 c8_i32_558
  let v604 : BitVec 32 := v603
  let v615 : Index := Scalar.indexCast v604
  let c0_562 : Index := 0#32
  ![7, v615.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Proof.Calls.lean ====
/-
  What a whole buffer's load reads, for any straight call; blocks of rows; and sums over a call's points.
-/
module

public import Idealize.ShloMosaic.Lib.Ring
public import Idealize.ShloMosaic.Lib.Pointwise

@[expose] public section

namespace Cert.Proof.Calls

open Idealize.ShloMosaic

/-- A load of a whole buffer reads what the buffer holds. -/
theorem load_whole {sig : RefSig} {F : FTy → Type} {sp : Space} {S : Shape} {e : EltTy} (a : Memref sig .tc sp S e) (f : a.view.ty.Contents (Elt F))
    (off : Fin S.rank → ℕ) (hz : ∀ i, off i = 0) (inb : ∀ i, off i + S.size i ≤ S.size i) :
    a.view.readAt (Elt F) (Rect.unit (s := S) off S.size inb).toLoadRect f = a.view.read (Elt F) f := by
  funext y
  show a.view.read (Elt F) f _ = _
  refine congrArg (a.view.read (Elt F) f) (funext fun i => Fin.ext ?_)
  show off i + 1 * (y i).val = (y i).val
  rw [hz i, Nat.one_mul, Nat.zero_add]

theorem off2 : ∀ i : Fin 2, (![0, 0] : Fin 2 → ℕ) i = 0
  | ⟨0, _⟩ => rfl
  | ⟨1, _⟩ => rfl

/-- Row `r` of block `t`: row `t * b + r` of the array. -/
abbrev row {n b T : ℕ} (hT : T = n * b) (t : Fin n) (r : Fin b) : Fin T :=
  ⟨t.val * b + r.val, by
    have := Nat.mul_le_mul_right b t.isLt
    rw [Nat.succ_mul] at this
    omega⟩
/-- Block `t` of an array's rows. -/
abbrev rows {n b T D : ℕ} {α : Type} (hT : T = n * b) (t : Fin n) (X : (⟨2, ![T, D]⟩ : Shape).Idx → α) : (⟨2, ![b, D]⟩ : Shape).Idx → α :=
  fun j => X (ix2 (row hT t (j 0)) (j 1))

theorem rows_of {n b T D : ℕ} {α : Type} (hT : T = n * b) (t : Fin n) (X : (⟨2, ![T, D]⟩ : Shape).Idx → α)
    (e : (⟨2, ![b, D]⟩ : Shape).Idx → (⟨2, ![T, D]⟩ : Shape).Idx) {p q : ℕ} (hp : p = t.val) (hq : q = 0)
    (h0 : ∀ j, (e j 0).val = p * b + 1 * (j 0).val) (h1 : ∀ j, (e j 1).val = q * D + 1 * (j 1).val) : (fun j => X (e j)) = rows hT t X := by
  subst hp hq
  funext j
  refine congrArg X (funext fun a => Fin.ext ?_)
  match a with
  | ⟨0, _⟩ => exact (h0 j).trans (by rw [Nat.one_mul]; rfl)
  | ⟨1, _⟩ => exact (h1 j).trans (by rw [Nat.zero_mul, Nat.zero_add, Nat.one_mul]; rfl)
/-- A block that is the whole array. -/
theorem whole_of {A D : ℕ} {α : Type} (X : (⟨2, ![A, D]⟩ : Shape).Idx → α)
    (e : (⟨2, ![A, D]⟩ : Shape).Idx → (⟨2, ![A, D]⟩ : Shape).Idx) {p q : ℕ} (hp : p = 0) (hq : q = 0)
    (h0 : ∀ j, (e j 0).val = p * A + 1 * (j 0).val) (h1 : ∀ j, (e j 1).val = q * D + 1 * (j 1).val) : (fun j => X (e j)) = X := by
  subst hp hq
  funext j
  refine congrArg X (funext fun a => Fin.ext ?_)
  match a with
  | ⟨0, _⟩ => exact (h0 j).trans (by rw [Nat.zero_mul, Nat.zero_add, Nat.one_mul]; rfl)
  | ⟨1, _⟩ => exact (h1 j).trans (by rw [Nat.zero_mul, Nat.zero_add, Nat.one_mul]; rfl)

/-- A sum that starts at the first point's part and takes one part more at each later point. -/
theorem sum_points {N : ℕ} {α : Type} (f : (n : ℕ) → n < N → α → EReal) (part : Fin N → α → EReal) (h0 : ∀ h, f 0 h = part ⟨0, h⟩)
    (hs : ∀ n h, f (n + 1) h = fun i => f n (Nat.lt_of_succ_lt h) i + part ⟨n + 1, h⟩ i) :
    ∀ n h, f n h = fun i => ∑ s : Fin (n + 1), part ⟨s.val, lt_of_le_of_lt (Nat.le_of_lt_succ s.isLt) h⟩ i
  | 0, h => by rw [h0 h]; funext i; rw [Fin.sum_univ_one]; rfl
  | n + 1, h => by
    rw [hs n h]
    funext i
    rw [Fin.sum_univ_castSucc, sum_points f part h0 hs n]
    rfl

end Cert.Proof.Calls

end
-- ==== Proof.PleValue.lean ====
/-
  What the two gate calls leave: the forward call's three results and the backward call's three results, each read
  index by index off the arrays the call was given.
-/
module

public import proofs.«01_k».proof.Defs
public import proofs.«01_k».proof.Proof.Gen.KernelIdeal.Frame
public import proofs.«01_k».proof.Proof.Calls
public import Idealize.ShloMosaic.Lib.Pipeline.ValueKit

@[expose] public section

set_option maxRecDepth 16384

noncomputable section

namespace Cert.KernelIdeal.Ple

open Cert.Proof.Calls (rows_of whole_of)
open Cert.KernelIdeal Gen
open Idealize.ShloMosaic TcCoe Idealize.SL.Sem
open Pipeline (Dat)

theorem hz : (![0, 0] : Fin 2 → Nat) = fun _ => 0 := funext fun a => by fin_cases a <;> rfl

variable (V : (c : Dev nD) → (b : Ref sig .tc) → Buf (Elt Ideal) ((c : Thread nD τ).loc b)) (c : Dev nD)

/-- Row `512 t + r` of an array of 8192 rows: row `r` of block `t`. -/
abbrev row (t : Fin 16) (r : Fin 512) : Fin 8192 := ⟨t.val * 512 + r.val, by omega⟩

/-- Block `t` of an array of 8192 rows: rows `512 t` to `512 t + 511`. -/
abbrev rows {D : Nat} {e : EltTy} (t : Fin 16) (X : Vec Ideal ⟨2, ![8192, D]⟩ e) : Vec Ideal ⟨2, ![512, D]⟩ e :=
  fun j => X (ix2 (row t (j 0)) (j 1))

/-! ## The blocks: of `x`, `p`, the cotangent and the saved arrays 512 rows at a time, of the weights the whole -/

theorem ix0_0 (t : Fin cfg0.N) : win0_0.index t 0 = t.val ∧ win0_0.index t 1 = 0 := by
  revert t; decide +kernel
theorem blk0_0 (t : Fin cfg0.N) : (iblk0 V c 0 t : Vec Ideal S512x1024 .f32) = rows (D := 1024) t (V c main_arg0) :=
  rows_of (D := 1024) (n := 16) (b := 512) (T := 8192) rfl t (V c main_arg0) ((cfg0.win 0).blk t).view.emb (ix0_0 t).1 (ix0_0 t).2 (fun _ => rfl) fun _ => rfl

theorem ix0_1 (t : Fin cfg0.N) : win0_1.index t 0 = t.val ∧ win0_1.index t 1 = 0 := by
  revert t; decide +kernel
theorem blk0_1 (t : Fin cfg0.N) : (iblk0 V c 1 t : Vec Ideal S512x256 .f32) = rows (D := 256) t (V c main_arg1) :=
  rows_of (D := 256) (n := 16) (b := 512) (T := 8192) rfl t (V c main_arg1) ((cfg0.win 1).blk t).view.emb (ix0_1 t).1 (ix0_1 t).2 (fun _ => rfl) fun _ => rfl

theorem ix0_2 (t : Fin cfg0.N) : win0_2.index t 0 = 0 ∧ win0_2.index t 1 = 0 := by
  revert t; decide +kernel
theorem blk0_2 (t : Fin cfg0.N) : (iblk0 V c 2 t : Vec Ideal S1024x1024 .bf16) = (V c main_v0 : Vec Ideal S1024x1024 .bf16) :=
  whole_of (V c main_v0) ((cfg0.win 2).blk t).view.emb (ix0_2 t).1 (ix0_2 t).2 (fun _ => rfl) fun _ => rfl

theorem ix0_3 (t : Fin cfg0.N) : win0_3.index t 0 = 0 ∧ win0_3.index t 1 = 0 := by
  revert t; decide +kernel
theorem blk0_3 (t : Fin cfg0.N) : (iblk0 V c 3 t : Vec Ideal S256x1024 .bf16) = (V c main_v1 : Vec Ideal S256x1024 .bf16) :=
  whole_of (V c main_v1) ((cfg0.win 3).blk t).view.emb (ix0_3 t).1 (ix0_3 t).2 (fun _ => rfl) fun _ => rfl

theorem ix1_0 (t : Fin cfg1.N) : win1_0.index t 0 = t.val ∧ win1_0.index t 1 = 0 := by
  revert t; decide +kernel
theorem blk1_0 (t : Fin cfg1.N) : (iblk1 V c 0 t : Vec Ideal S512x1024 .f32) = rows (D := 1024) t (V c main_arg4) :=
  rows_of (D := 1024) (n := 16) (b := 512) (T := 8192) rfl t (V c main_arg4) ((cfg1.win 0).blk t).view.emb (ix1_0 t).1 (ix1_0 t).2 (fun _ => rfl) fun _ => rfl

theorem ix1_1 (t : Fin cfg1.N) : win1_1.index t 0 = t.val ∧ win1_1.index t 1 = 0 := by
  revert t; decide +kernel
theorem blk1_1 (t : Fin cfg1.N) : (iblk1 V c 1 t : Vec Ideal S512x1024 .f32) = rows (D := 1024) t (V c main_v2_1) :=
  rows_of (D := 1024) (n := 16) (b := 512) (T := 8192) rfl t (V c main_v2_1) ((cfg1.win 1).blk t).view.emb (ix1_1 t).1 (ix1_1 t).2 (fun _ => rfl) fun _ => rfl

theorem ix1_2 (t : Fin cfg1.N) : win1_2.index t 0 = t.val ∧ win1_2.index t 1 = 0 := by
  revert t; decide +kernel
theorem blk1_2 (t : Fin cfg1.N) : (iblk1 V c 2 t : Vec Ideal S512x1024 .f32) = rows (D := 1024) t (V c main_v2_2) :=
  rows_of (D := 1024) (n := 16) (b := 512) (T := 8192) rfl t (V c main_v2_2) ((cfg1.win 2).blk t).view.emb (ix1_2 t).1 (ix1_2 t).2 (fun _ => rfl) fun _ => rfl

theorem ix1_3 (t : Fin cfg1.N) : win1_3.index t 0 = 0 ∧ win1_3.index t 1 = 0 := by
  revert t; decide +kernel
theorem blk1_3 (t : Fin cfg1.N) : (iblk1 V c 3 t : Vec Ideal S1024x1024 .bf16) = (V c main_v0 : Vec Ideal S1024x1024 .bf16) :=
  whole_of (V c main_v0) ((cfg1.win 3).blk t).view.emb (ix1_3 t).1 (ix1_3 t).2 (fun _ => rfl) fun _ => rfl

theorem ix0_4 (t : Fin cfg0.N) : win0_4.index t 0 = t.val ∧ win0_4.index t 1 = 0 := by
  revert t; decide +kernel
theorem read0_4 (G : Vec Ideal S8192x1024 .f32) (t : Fin cfg0.N) :
    ((cfg0.win 4).blk t).view.read (Elt Ideal) G = rows (D := 1024) t G :=
  rows_of (D := 1024) (n := 16) (b := 512) (T := 8192) rfl t G ((cfg0.win 4).blk t).view.emb (ix0_4 t).1 (ix0_4 t).2 (fun _ => rfl) fun _ => rfl
theorem tiles0_4 (i : S8192x1024.Idx) : ∃ t : Fin cfg0.N, (cfg0.win 4).flush t = true ∧ i ∈ ((cfg0.win 4).blk t).view.set :=
  (by decide +kernel : (cfg0.win 4).Covers).cover _ (Memref.isWhole_whole _) i

theorem ix0_5 (t : Fin cfg0.N) : win0_5.index t 0 = t.val ∧ win0_5.index t 1 = 0 := by
  revert t; decide +kernel
theorem read0_5 (G : Vec Ideal S8192x1024 .f32) (t : Fin cfg0.N) :
    ((cfg0.win 5).blk t).view.read (Elt Ideal) G = rows (D := 1024) t G :=
  rows_of (D := 1024) (n := 16) (b := 512) (T := 8192) rfl t G ((cfg0.win 5).blk t).view.emb (ix0_5 t).1 (ix0_5 t).2 (fun _ => rfl) fun _ => rfl
theorem tiles0_5 (i : S8192x1024.Idx) : ∃ t : Fin cfg0.N, (cfg0.win 5).flush t = true ∧ i ∈ ((cfg0.win 5).blk t).view.set :=
  (by decide +kernel : (cfg0.win 5).Covers).cover _ (Memref.isWhole_whole _) i

theorem ix0_6 (t : Fin cfg0.N) : win0_6.index t 0 = t.val ∧ win0_6.index t 1 = 0 := by
  revert t; decide +kernel
theorem read0_6 (G : Vec Ideal S8192x1024 .f32) (t : Fin cfg0.N) :
    ((cfg0.win 6).blk t).view.read (Elt Ideal) G = rows (D := 1024) t G :=
  rows_of (D := 1024) (n := 16) (b := 512) (T := 8192) rfl t G ((cfg0.win 6).blk t).view.emb (ix0_6 t).1 (ix0_6 t).2 (fun _ => rfl) fun _ => rfl
theorem tiles0_6 (i : S8192x1024.Idx) : ∃ t : Fin cfg0.N, (cfg0.win 6).flush t = true ∧ i ∈ ((cfg0.win 6).blk t).view.set :=
  (by decide +kernel : (cfg0.win 6).Covers).cover _ (Memref.isWhole_whole _) i

theorem ix1_4 (t : Fin cfg1.N) : win1_4.index t 0 = t.val ∧ win1_4.index t 1 = 0 := by
  revert t; decide +kernel
theorem read1_4 (G : Vec Ideal S8192x1024 .f32) (t : Fin cfg1.N) :
    ((cfg1.win 4).blk t).view.read (Elt Ideal) G = rows (D := 1024) t G :=
  rows_of (D := 1024) (n := 16) (b := 512) (T := 8192) rfl t G ((cfg1.win 4).blk t).view.emb (ix1_4 t).1 (ix1_4 t).2 (fun _ => rfl) fun _ => rfl
theorem tiles1_4 (i : S8192x1024.Idx) : ∃ t : Fin cfg1.N, (cfg1.win 4).flush t = true ∧ i ∈ ((cfg1.win 4).blk t).view.set :=
  (by decide +kernel : (cfg1.win 4).Covers).cover _ (Memref.isWhole_whole _) i

theorem ix1_5 (t : Fin cfg1.N) : win1_5.index t 0 = t.val ∧ win1_5.index t 1 = 0 := by
  revert t; decide +kernel
theorem read1_5 (G : Vec Ideal S8192x1024 .bf16) (t : Fin cfg1.N) :
    ((cfg1.win 5).blk t).view.read (Elt Ideal) G = rows (D := 1024) t G :=
  rows_of (D := 1024) (n := 16) (b := 512) (T := 8192) rfl t G ((cfg1.win 5).blk t).view.emb (ix1_5 t).1 (ix1_5 t).2 (fun _ => rfl) fun _ => rfl
theorem tiles1_5 (i : S8192x1024.Idx) : ∃ t : Fin cfg1.N, (cfg1.win 5).flush t = true ∧ i ∈ ((cfg1.win 5).blk t).view.set :=
  (by decide +kernel : (cfg1.win 5).Covers).cover _ (Memref.isWhole_whole _) i

theorem ix1_6 (t : Fin cfg1.N) : win1_6.index t 0 = t.val ∧ win1_6.index t 1 = 0 := by
  revert t; decide +kernel
theorem read1_6 (G : Vec Ideal S8192x1024 .bf16) (t : Fin cfg1.N) :
    ((cfg1.win 6).blk t).view.read (Elt Ideal) G = rows (D := 1024) t G :=
  rows_of (D := 1024) (n := 16) (b := 512) (T := 8192) rfl t G ((cfg1.win 6).blk t).view.emb (ix1_6 t).1 (ix1_6 t).2 (fun _ => rfl) fun _ => rfl
theorem tiles1_6 (i : S8192x1024.Idx) : ∃ t : Fin cfg1.N, (cfg1.win 6).flush t = true ∧ i ∈ ((cfg1.win 6).blk t).view.set :=
  (by decide +kernel : (cfg1.win 6).Covers).cover _ (Memref.isWhole_whole _) i

/-! ## The values, index by index -/

/-- The logistic, as the kernel spells it. -/
abbrev sg (x : EReal) : EReal := Ideal.div 1 (1 + Ideal.exp (0 - x))
/-- The gate's input `x · wg`. -/
abbrev PG (X : Vec Ideal S8192x1024 .f32) (W : Vec Ideal S1024x1024 .bf16) : Vec Ideal S8192x1024 .f32 :=
  fun i => ∑ k : Fin 1024, X (ix2 (i 0) k) * W (ix2 k (i 1))
/-- The gated product `p · wp`. -/
abbrev PP (X : Vec Ideal S8192x256 .f32) (W : Vec Ideal S256x1024 .bf16) : Vec Ideal S8192x1024 .f32 :=
  fun i => ∑ k : Fin 256, X (ix2 (i 0) k) * W (ix2 k (i 1))
/-- The layer's output `x + σ(pg) · pp`. -/
abbrev Y (X : Vec Ideal S8192x1024 .f32) (pg pp : Vec Ideal S8192x1024 .f32) : Vec Ideal S8192x1024 .f32 :=
  fun i => X i + sg (pg i) * pp i
/-- The gradient of the gate's input. -/
abbrev DPG (d pg pp : Vec Ideal S8192x1024 .f32) : Vec Ideal S8192x1024 .bf16 :=
  fun i => d i * pp i * sg (pg i) * (1 - sg (pg i))
/-- The gradient of the gated product. -/
abbrev DPP (d pg : Vec Ideal S8192x1024 .f32) : Vec Ideal S8192x1024 .bf16 := fun i => d i * sg (pg i)
/-- The gradient of `x`: the cotangent, and the gate's gradient through the transposed weight. -/
abbrev DX (d pg pp : Vec Ideal S8192x1024 .f32) (W : Vec Ideal S1024x1024 .bf16) : Vec Ideal S8192x1024 .f32 :=
  fun i => d i + ∑ k : Fin 1024, DPG d pg pp (ix2 (i 0) k) * W (ix2 (i 1) k)

theorem final0_5 : (dat0 V c).arrAt 5 cfg0.N = PG (V c main_arg0) (V c main_v0) := by
  refine (dat0 V c).arrAt_eq_of_cover 5 (PG (V c main_arg0) (V c main_v0)) (fun t _ => ?_) tiles0_5
  rw [read0_5]
  show (cfg0.win 5).cut (grid0.coords t) ((dat0 V c).after 5 t) = _
  rw [after0_5]
  unfold out0_5
  rw [View.canon_unit_zero hz, View.ld_unit_zero hz, View.ld_unit_zero hz, blk0_0, blk0_2]
  funext j
  idx_vars j
  show k0_pay1 _ _ (ix2 j0 j1) = _
  pointwise [k0_pay1] <;> rfl

theorem final0_6 : (dat0 V c).arrAt 6 cfg0.N = PP (V c main_arg1) (V c main_v1) := by
  refine (dat0 V c).arrAt_eq_of_cover 6 (PP (V c main_arg1) (V c main_v1)) (fun t _ => ?_) tiles0_6
  rw [read0_6]
  show (cfg0.win 6).cut (grid0.coords t) ((dat0 V c).after 6 t) = _
  rw [after0_6]
  unfold out0_6
  rw [View.canon_unit_zero hz, View.ld_unit_zero hz, View.ld_unit_zero hz, blk0_1, blk0_3]
  funext j
  idx_vars j
  show k0_pay2 _ _ (ix2 j0 j1) = _
  pointwise [k0_pay2] <;> rfl

theorem final0_4 : (dat0 V c).arrAt 4 cfg0.N = Y (V c main_arg0) (PG (V c main_arg0) (V c main_v0)) (PP (V c main_arg1) (V c main_v1)) := by
  refine (dat0 V c).arrAt_eq_of_cover 4 (Y (V c main_arg0) (PG (V c main_arg0) (V c main_v0)) (PP (V c main_arg1) (V c main_v1))) (fun t _ => ?_) tiles0_4
  rw [read0_4]
  show (cfg0.win 4).cut (grid0.coords t) ((dat0 V c).after 4 t) = _
  rw [after0_4]
  unfold out0_4
  rw [View.canon_unit_zero hz, View.ld_unit_zero hz, View.ld_unit_zero hz, View.ld_unit_zero hz, View.ld_unit_zero hz, blk0_0, blk0_1, blk0_2, blk0_3]
  funext j
  idx_vars j
  show k0_pay3 _ _ _ _ (ix2 j0 j1) = _
  pointwise [k0_pay3, k0_pay1, k0_pay2] <;> rfl

theorem final1_5 : (dat1 V c).arrAt 5 cfg1.N = DPG (V c main_arg4) (V c main_v2_1) (V c main_v2_2) := by
  refine (dat1 V c).arrAt_eq_of_cover 5 (DPG (V c main_arg4) (V c main_v2_1) (V c main_v2_2)) (fun t _ => ?_) tiles1_5
  rw [read1_5]
  show (cfg1.win 5).cut (grid1.coords t) ((dat1 V c).after 5 t) = _
  rw [after1_5]
  unfold out1_5
  rw [View.canon_unit_zero hz, View.ld_unit_zero hz, View.ld_unit_zero hz, View.ld_unit_zero hz, blk1_0, blk1_1, blk1_2]
  funext j
  idx_vars j
  show k1_pay2 _ _ _ (ix2 j0 j1) = _
  pointwise [k1_pay2, k1_pay1] <;> rfl

theorem final1_6 : (dat1 V c).arrAt 6 cfg1.N = DPP (V c main_arg4) (V c main_v2_1) := by
  refine (dat1 V c).arrAt_eq_of_cover 6 (DPP (V c main_arg4) (V c main_v2_1)) (fun t _ => ?_) tiles1_6
  rw [read1_6]
  show (cfg1.win 6).cut (grid1.coords t) ((dat1 V c).after 6 t) = _
  rw [after1_6]
  unfold out1_6
  rw [View.canon_unit_zero hz, View.ld_unit_zero hz, View.ld_unit_zero hz, blk1_0, blk1_1]
  funext j
  idx_vars j
  show k1_pay4 _ _ (ix2 j0 j1) = _
  pointwise [k1_pay4, k1_pay1] <;> rfl

theorem final1_4 : (dat1 V c).arrAt 4 cfg1.N = DX (V c main_arg4) (V c main_v2_1) (V c main_v2_2) (V c main_v0) := by
  refine (dat1 V c).arrAt_eq_of_cover 4 (DX (V c main_arg4) (V c main_v2_1) (V c main_v2_2) (V c main_v0)) (fun t _ => ?_) tiles1_4
  rw [read1_4]
  show (cfg1.win 4).cut (grid1.coords t) ((dat1 V c).after 4 t) = _
  rw [after1_4]
  unfold out1_4
  rw [View.canon_unit_zero hz, View.ld_unit_zero hz, View.ld_unit_zero hz, View.ld_unit_zero hz, View.ld_unit_zero hz, blk1_0, blk1_1, blk1_2, blk1_3]
  funext j
  idx_vars j
  show k1_pay3 _ _ _ _ (ix2 j0 j1) = _
  pointwise [k1_pay3, k1_pay2, k1_pay1] <;> rfl

end Cert.KernelIdeal.Ple
-- ==== Proof.PleRun.lean ====
/-
  The gate program's run, read at its results: every buffer ends at the last boundary's contents, and those contents
  are the two calls' values of the arguments.
-/
module

public import proofs.«01_k».proof.Proof.PleValue

@[expose] public section

set_option maxRecDepth 16384

noncomputable section

namespace Cert.KernelIdeal.Ple

open Cert.KernelIdeal Gen
open Idealize.ShloMosaic TcCoe Tactic
open Idealize.SL RA BI BIBase Laws ProofMode Sem
open Rounds
open Pipeline (Dat)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The launch over the segments, every buffer read against the last boundary. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

variable (c : Dev nD)

/-- The weights as the calls read them: the host's casts, which change nothing over the reals. -/
theorem v0_eq : (V1 m ρ c main_v0 : S1024x1024.Idx → EReal) = m ((c : Thread nD τ).loc main_arg2) := by
  show (StableHlo.after hostOps0 (W0 m ρ c) (Proc.devRef .tc main_v0) : S1024x1024.Idx → EReal) = _
  after_results_simp <;> rfl

theorem v1_eq : (V1 m ρ c main_v1 : S256x1024.Idx → EReal) = m ((c : Thread nD τ).loc main_arg3) := by
  show (StableHlo.after hostOps0 (W0 m ρ c) (Proc.devRef .tc main_v1) : S256x1024.Idx → EReal) = _
  after_results_simp <;> rfl

theorem arg1_eq (a : Ref sig .tc) (ha : a ∈ argRefs) : V1 m ρ c a = m ((c : Thread nD τ).loc a) := W1_args m ρ c a ha
theorem arg2_eq (a : Ref sig .tc) (ha : a ∈ argRefs) : V2 m ρ c a = m ((c : Thread nD τ).loc a) := W2_args m ρ c a ha

/-- The gate's input and the gated product of the arguments. -/
abbrev pg : Vec Ideal S8192x1024 .f32 := PG (m ((c : Thread nD τ).loc main_arg0)) (m ((c : Thread nD τ).loc main_arg2))
abbrev pp : Vec Ideal S8192x1024 .f32 := PP (m ((c : Thread nD τ).loc main_arg1)) (m ((c : Thread nD τ).loc main_arg3))

theorem pg_eq : V2 m ρ c main_v2_1 = pg m c := by
  refine ((hF0 m ρ c 5).symm.trans (final0_5 (V1 m ρ) c)).trans ?_
  rw [arg1_eq m ρ c main_arg0 (by decide)]
  exact congrArg (PG _) (v0_eq m ρ c)
theorem pp_eq : V2 m ρ c main_v2_2 = pp m c := by
  refine ((hF0 m ρ c 6).symm.trans (final0_6 (V1 m ρ) c)).trans ?_
  rw [arg1_eq m ρ c main_arg1 (by decide)]
  exact congrArg (PP _) (v1_eq m ρ c)
theorem w_eq : (V2 m ρ c main_v0 : S1024x1024.Idx → EReal) = m ((c : Thread nD τ).loc main_arg2) :=
  (W2_of m ρ c main_v0 (by decide)).trans (v0_eq m ρ c)

/-- The layer's output. -/
theorem y_eq : W3 m ρ c main_v2_0 = Y (m ((c : Thread nD τ).loc main_arg0)) (pg m c) (pp m c) := by
  refine (W3_of m ρ c main_v2_0 (by decide)).trans (((hF0 m ρ c 4).symm.trans (final0_4 (V1 m ρ) c)).trans ?_)
  rw [arg1_eq m ρ c main_arg0 (by decide), arg1_eq m ρ c main_arg1 (by decide)]
  exact congrArg₂ (fun a b => Y _ (PG _ a) (PP _ b)) (v0_eq m ρ c) (v1_eq m ρ c)
/-- The three gradients. -/
theorem dpg_eq : W3 m ρ c main_v3_1 = DPG (m ((c : Thread nD τ).loc main_arg4)) (pg m c) (pp m c) := by
  refine ((W3_arr m ρ c 5).trans (final1_5 (V2 m ρ) c)).trans ?_
  rw [arg2_eq m ρ c main_arg4 (by decide), pg_eq, pp_eq]
theorem dpp_eq : W3 m ρ c main_v3_2 = DPP (m ((c : Thread nD τ).loc main_arg4)) (pg m c) := by
  refine ((W3_arr m ρ c 6).trans (final1_6 (V2 m ρ) c)).trans ?_
  rw [arg2_eq m ρ c main_arg4 (by decide), pg_eq]
theorem dx_eq : W3 m ρ c main_v3_0 = DX (m ((c : Thread nD τ).loc main_arg4)) (pg m c) (pp m c) (m ((c : Thread nD τ).loc main_arg2)) := by
  refine ((W3_arr m ρ c 4).trans (final1_4 (V2 m ρ) c)).trans ?_
  rw [arg2_eq m ρ c main_arg4 (by decide), pg_eq, pp_eq]
  exact congrArg (DX _ _ _) (w_eq m ρ c)

/-- The run at its four results and five arguments. -/
theorem run : θ_run defs (onTc (τ := τ) (main (F := Ideal))) ⟨m, fun _ => 0, ρ⟩ (fun r => ∀ c : Dev nD,
      r.2.mem ((c.tc : Thread nD τ).loc main_v2_0) = Y (m ((c : Thread nD τ).loc main_arg0)) (pg m c) (pp m c)
      ∧ r.2.mem ((c.tc : Thread nD τ).loc main_v3_0) = DX (m ((c : Thread nD τ).loc main_arg4)) (pg m c) (pp m c) (m ((c : Thread nD τ).loc main_arg2))
      ∧ r.2.mem ((c.tc : Thread nD τ).loc main_v3_1) = DPG (m ((c : Thread nD τ).loc main_arg4)) (pg m c) (pp m c)
      ∧ r.2.mem ((c.tc : Thread nD τ).loc main_v3_2) = DPP (m ((c : Thread nD τ).loc main_arg4)) (pg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨
      (h c _ (mem_uc main_v2_0 (by decide))).trans (y_eq m ρ c),
      (h c _ (mem_uc main_v3_0 (by decide))).trans (dx_eq m ρ c),
      (h c _ (mem_uc main_v3_1 (by decide))).trans (dpg_eq m ρ c),
      (h c _ (mem_uc main_v3_2 (by decide))).trans (dpp_eq m ρ c),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c)⟩) (run_all m ρ)

end Cert.KernelIdeal.Ple
-- ==== Proof.PleClaims.lean ====
/-
  The gate's claims: the kernel's four results are the reference's, index by index over the extended reals.
-/
module

public import proofs.«01_k».proof.Proof.PleRun
public import proofs.«01_k».proof.Proof.Gen.Kernel.Frame
public import proofs.«01_k».proof.Proof.Gen.ReferenceIdeal.Run

@[expose] public section

set_option maxRecDepth 16384

noncomputable section

namespace Cert.Proof.Ple

open Idealize.ShloMosaic TcCoe Idealize.SL.Sem

theorem algebraic : Cert.algebraic_KernelIdeal_ReferenceIdeal := by
  intro m ρ m' ρ' _ hagree
  refine ⟨_, _, _, _, Cert.KernelIdeal.Ple.run m ρ, ?_⟩
  refine (θ_run Cert.ReferenceIdeal.defs _ _).mono (fun r h c => ?_) (Cert.ReferenceIdeal.Value.run (F := Ideal) m' ρ')
  obtain ⟨h0, h1, h2, h3, h4⟩ := h c
  obtain ⟨a0, a1, a2, a3, a4⟩ := hagree c
  refine ⟨h0.trans ?_, h1.trans ?_, h2.trans ?_, h3.trans ?_, h4⟩
  · rw [a0, a1, a2, a3]
    funext j
    idx_vars j
    pointwise
    simp only [Cert.KernelIdeal.Ple.Y, Cert.KernelIdeal.Ple.DX, Cert.KernelIdeal.Ple.DPG, Cert.KernelIdeal.Ple.DPP, Cert.KernelIdeal.Ple.pg, Cert.KernelIdeal.Ple.pp,
      Cert.KernelIdeal.Ple.PG, Cert.KernelIdeal.Ple.PP, Cert.KernelIdeal.Ple.sg, zero_sub, ix2_0, ix2_1]
  · rw [a0, a1, a2, a3, a4]
    funext j
    idx_vars j
    pointwise
    simp only [Cert.KernelIdeal.Ple.Y, Cert.KernelIdeal.Ple.DX, Cert.KernelIdeal.Ple.DPG, Cert.KernelIdeal.Ple.DPP, Cert.KernelIdeal.Ple.pg, Cert.KernelIdeal.Ple.pp,
      Cert.KernelIdeal.Ple.PG, Cert.KernelIdeal.Ple.PP, Cert.KernelIdeal.Ple.sg, zero_sub, ix2_0, ix2_1]
    simp only [mul_assoc]
  · rw [a0, a1, a2, a3, a4]
    funext j
    idx_vars j
    pointwise
    simp only [Cert.KernelIdeal.Ple.Y, Cert.KernelIdeal.Ple.DX, Cert.KernelIdeal.Ple.DPG, Cert.KernelIdeal.Ple.DPP, Cert.KernelIdeal.Ple.pg, Cert.KernelIdeal.Ple.pp,
      Cert.KernelIdeal.Ple.PG, Cert.KernelIdeal.Ple.PP, Cert.KernelIdeal.Ple.sg, zero_sub, ix2_0, ix2_1]
    simp only [mul_assoc]
  · rw [a0, a2, a4]
    funext j
    idx_vars j
    pointwise
    simp only [Cert.KernelIdeal.Ple.Y, Cert.KernelIdeal.Ple.DX, Cert.KernelIdeal.Ple.DPG, Cert.KernelIdeal.Ple.DPP, Cert.KernelIdeal.Ple.pg, Cert.KernelIdeal.Ple.pp,
      Cert.KernelIdeal.Ple.PG, Cert.KernelIdeal.Ple.PP, Cert.KernelIdeal.Ple.sg, zero_sub, ix2_0, ix2_1]
    exact mul_comm _ _

end Cert.Proof.Ple
-- ==== Proof.LossValue.lean ====
/-
  What the loss call leaves: the gradient of the last layer's output, the two products it keeps for the gate's gradient,
  and the loss summed over its sixteen blocks of rows.
-/
module

public import proofs.«01_k».proof.Defs
public import proofs.«01_k».proof.Proof.Gen.Kernel2Ideal.Value
public import proofs.«01_k».proof.Proof.Calls
public import Idealize.ShloMosaic.Lib.Pipeline.ValueKit

@[expose] public section

set_option maxRecDepth 16384

noncomputable section

namespace Cert.Kernel2Ideal.Loss

open Cert.Proof.Calls (rows_of whole_of)
open Cert.Kernel2Ideal Gen
open Idealize.ShloMosaic TcCoe Idealize.SL.Sem
open Pipeline (Dat)

theorem hz : (![0, 0] : Fin 2 → Nat) = fun _ => 0 := funext fun a => by fin_cases a <;> rfl

variable (m : (ℓ : Loc nD τ sig) → Buf (Elt Ideal) ℓ) (c : Dev nD)

/-- Row `512 t + r` of an array of 8192 rows: row `r` of block `t`. -/
abbrev row (t : Fin 16) (r : Fin 512) : Fin 8192 := ⟨t.val * 512 + r.val, by omega⟩

/-- Block `t` of an array of 8192 rows: rows `512 t` to `512 t + 511`. -/
abbrev rows {D : Nat} {e : EltTy} (t : Fin 16) (X : Vec Ideal ⟨2, ![8192, D]⟩ e) : Vec Ideal ⟨2, ![512, D]⟩ e :=
  fun j => X (ix2 (row t (j 0)) (j 1))

theorem ix_0 (t : Fin cfg0.N) : win0_0.index t 0 = t.val ∧ win0_0.index t 1 = 0 := by
  revert t; decide +kernel
theorem blk_0 (t : Fin cfg0.N) : (iblk m c 0 t : Vec Ideal S512x1024 .f32) = rows (D := 1024) t (V m c main_arg0) :=
  rows_of (D := 1024) (n := 16) (b := 512) (T := 8192) rfl t (V m c main_arg0) ((cfg0.win 0).blk t).view.emb (ix_0 t).1 (ix_0 t).2 (fun _ => rfl) fun _ => rfl

theorem ix_1 (t : Fin cfg0.N) : win0_1.index t 0 = t.val ∧ win0_1.index t 1 = 0 := by
  revert t; decide +kernel
theorem blk_1 (t : Fin cfg0.N) : (iblk m c 1 t : Vec Ideal S512x256 .f32) = rows (D := 256) t (V m c main_arg1) :=
  rows_of (D := 256) (n := 16) (b := 512) (T := 8192) rfl t (V m c main_arg1) ((cfg0.win 1).blk t).view.emb (ix_1 t).1 (ix_1 t).2 (fun _ => rfl) fun _ => rfl

theorem ix_2 (t : Fin cfg0.N) : win0_2.index t 0 = t.val ∧ win0_2.index t 1 = 0 := by
  revert t; decide +kernel
theorem blk_2 (t : Fin cfg0.N) : (iblk m c 2 t : Vec Ideal S512x1024 .f32) = rows (D := 1024) t (V m c main_arg2) :=
  rows_of (D := 1024) (n := 16) (b := 512) (T := 8192) rfl t (V m c main_arg2) ((cfg0.win 2).blk t).view.emb (ix_2 t).1 (ix_2 t).2 (fun _ => rfl) fun _ => rfl

theorem ix_3 (t : Fin cfg0.N) : win0_3.index t 0 = 0 ∧ win0_3.index t 1 = 0 := by
  revert t; decide +kernel
theorem blk_3 (t : Fin cfg0.N) : (iblk m c 3 t : Vec Ideal S1024x1024 .bf16) = (V m c main_v0 : Vec Ideal S1024x1024 .bf16) :=
  whole_of (V m c main_v0) ((cfg0.win 3).blk t).view.emb (ix_3 t).1 (ix_3 t).2 (fun _ => rfl) fun _ => rfl

theorem ix_4 (t : Fin cfg0.N) : win0_4.index t 0 = 0 ∧ win0_4.index t 1 = 0 := by
  revert t; decide +kernel
theorem blk_4 (t : Fin cfg0.N) : (iblk m c 4 t : Vec Ideal S256x1024 .bf16) = (V m c main_v1 : Vec Ideal S256x1024 .bf16) :=
  whole_of (V m c main_v1) ((cfg0.win 4).blk t).view.emb (ix_4 t).1 (ix_4 t).2 (fun _ => rfl) fun _ => rfl

theorem ix_5 (t : Fin cfg0.N) : win0_5.index t 0 = t.val ∧ win0_5.index t 1 = 0 := by
  revert t; decide +kernel
theorem read_5 (G : Vec Ideal S8192x1024 .f32) (t : Fin cfg0.N) :
    ((cfg0.win 5).blk t).view.read (Elt Ideal) G = rows (D := 1024) t G :=
  rows_of (D := 1024) (n := 16) (b := 512) (T := 8192) rfl t G ((cfg0.win 5).blk t).view.emb (ix_5 t).1 (ix_5 t).2 (fun _ => rfl) fun _ => rfl
theorem tiles_5 (i : S8192x1024.Idx) : ∃ t : Fin cfg0.N, (cfg0.win 5).flush t = true ∧ i ∈ ((cfg0.win 5).blk t).view.set :=
  (by decide +kernel : (cfg0.win 5).Covers).cover _ (Memref.isWhole_whole _) i

theorem ix_6 (t : Fin cfg0.N) : win0_6.index t 0 = t.val ∧ win0_6.index t 1 = 0 := by
  revert t; decide +kernel
theorem read_6 (G : Vec Ideal S8192x1024 .f32) (t : Fin cfg0.N) :
    ((cfg0.win 6).blk t).view.read (Elt Ideal) G = rows (D := 1024) t G :=
  rows_of (D := 1024) (n := 16) (b := 512) (T := 8192) rfl t G ((cfg0.win 6).blk t).view.emb (ix_6 t).1 (ix_6 t).2 (fun _ => rfl) fun _ => rfl
theorem tiles_6 (i : S8192x1024.Idx) : ∃ t : Fin cfg0.N, (cfg0.win 6).flush t = true ∧ i ∈ ((cfg0.win 6).blk t).view.set :=
  (by decide +kernel : (cfg0.win 6).Covers).cover _ (Memref.isWhole_whole _) i

theorem ix_7 (t : Fin cfg0.N) : win0_7.index t 0 = t.val ∧ win0_7.index t 1 = 0 := by
  revert t; decide +kernel
theorem read_7 (G : Vec Ideal S8192x1024 .f32) (t : Fin cfg0.N) :
    ((cfg0.win 7).blk t).view.read (Elt Ideal) G = rows (D := 1024) t G :=
  rows_of (D := 1024) (n := 16) (b := 512) (T := 8192) rfl t G ((cfg0.win 7).blk t).view.emb (ix_7 t).1 (ix_7 t).2 (fun _ => rfl) fun _ => rfl
theorem tiles_7 (i : S8192x1024.Idx) : ∃ t : Fin cfg0.N, (cfg0.win 7).flush t = true ∧ i ∈ ((cfg0.win 7).blk t).view.set :=
  (by decide +kernel : (cfg0.win 7).Covers).cover _ (Memref.isWhole_whole _) i

/-- Output 5 after point `t`: its payload of the point's blocks. -/
theorem after_5 (t : Fin cfg0.N) : (outsAt0 m c t.val t.isLt).1 = k0_pay5 (iblk m c 0 t) (iblk m c 1 t) (iblk m c 2 t) (iblk m c 3 t) (iblk m c 4 t) := by
  have hN : cfg0.N = 16 := N_0
  have hl := t.isLt
  by_cases h0 : t.val % 16 = 0
  on_goal 1 => rw [outsAt0_A m c t h0 (by omega)]; dsimp only; unfold out0_A_5; rw [View.read_writes_eq_canon _ _ _ (fun y => cover0_A_5 (y := y) ..)]; unfold kernelRun0_A
  on_goal 2 => rw [outsAt0_B m c t h0 (by omega)]; dsimp only; unfold out0_B_5; rw [View.read_writes_eq_canon _ _ _ (fun y => cover0_B_5 (y := y) ..)]; unfold kernelRun0_B
  all_goals
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S512x1024) hz, View.ld_unit_zero (S := S512x256) hz, View.ld_unit_zero (S := S1024x1024) hz, View.ld_unit_zero (S := S256x1024) hz, View.ld_unit_zero (S := S1x1) hz]

/-- Output 6 after point `t`: its payload of the point's blocks. -/
theorem after_6 (t : Fin cfg0.N) : (outsAt0 m c t.val t.isLt).2.1 = k0_pay2 (iblk m c 0 t) (iblk m c 3 t) := by
  have hN : cfg0.N = 16 := N_0
  have hl := t.isLt
  by_cases h0 : t.val % 16 = 0
  on_goal 1 => rw [outsAt0_A m c t h0 (by omega)]; dsimp only; unfold out0_A_6; rw [View.read_writes_eq_canon _ _ _ (fun y => cover0_A_6 (y := y) ..)]; unfold kernelRun0_A
  on_goal 2 => rw [outsAt0_B m c t h0 (by omega)]; dsimp only; unfold out0_B_6; rw [View.read_writes_eq_canon _ _ _ (fun y => cover0_B_6 (y := y) ..)]; unfold kernelRun0_B
  all_goals
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S512x1024) hz, View.ld_unit_zero (S := S512x256) hz, View.ld_unit_zero (S := S1024x1024) hz, View.ld_unit_zero (S := S256x1024) hz, View.ld_unit_zero (S := S1x1) hz]

/-- Output 7 after point `t`: its payload of the point's blocks. -/
theorem after_7 (t : Fin cfg0.N) : (outsAt0 m c t.val t.isLt).2.2.1 = k0_pay3 (iblk m c 1 t) (iblk m c 4 t) := by
  have hN : cfg0.N = 16 := N_0
  have hl := t.isLt
  by_cases h0 : t.val % 16 = 0
  on_goal 1 => rw [outsAt0_A m c t h0 (by omega)]; dsimp only; unfold out0_A_7; rw [View.read_writes_eq_canon _ _ _ (fun y => cover0_A_7 (y := y) ..)]; unfold kernelRun0_A
  on_goal 2 => rw [outsAt0_B m c t h0 (by omega)]; dsimp only; unfold out0_B_7; rw [View.read_writes_eq_canon _ _ _ (fun y => cover0_B_7 (y := y) ..)]; unfold kernelRun0_B
  all_goals
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S512x1024) hz, View.ld_unit_zero (S := S512x256) hz, View.ld_unit_zero (S := S1024x1024) hz, View.ld_unit_zero (S := S256x1024) hz, View.ld_unit_zero (S := S1x1) hz]

/-- What point `t` adds to output 8. -/
abbrev part_8 (t : Fin cfg0.N) : Vec Ideal S1x1 .f32 := k0_pay6 (iblk m c 0 t) (iblk m c 1 t) (iblk m c 2 t) (iblk m c 3 t) (iblk m c 4 t)

theorem first_8 (t : Fin cfg0.N) (h0 : t.val % 16 = 0) : (outsAt0 m c t.val t.isLt).2.2.2 = part_8 m c t := by
  have hN : cfg0.N = 16 := N_0
  have hl := t.isLt
  rw [outsAt0_A m c t h0 (by omega)]
  dsimp only
  unfold out0_A_8
  rw [View.read_writes_eq_canon _ _ _ (fun y => cover0_A_8 (y := y) ..)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S512x1024) hz, View.ld_unit_zero (S := S512x256) hz, View.ld_unit_zero (S := S1024x1024) hz, View.ld_unit_zero (S := S256x1024) hz, View.ld_unit_zero (S := S1x1) hz]

theorem next_8 (t : Fin cfg0.N) (h0 : ¬t.val % 16 = 0) : (outsAt0 m c t.val t.isLt).2.2.2 =
    (addf (F := Ideal) (s := S1x1) (φ := .f32) (outsAt0 m c (t.val - 1) (Nat.lt_of_le_of_lt (Nat.sub_le _ _) t.isLt)).2.2.2 (part_8 m c t) : Vec Ideal S1x1 .f32) := by
  have hN : cfg0.N = 16 := N_0
  have hl := t.isLt
  rw [outsAt0_B m c t h0 (by omega)]
  dsimp only
  unfold out0_B_8
  rw [View.read_writes_eq_canon _ _ _ (fun y => cover0_B_8 (y := y) ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S512x1024) hz, View.ld_unit_zero (S := S512x256) hz, View.ld_unit_zero (S := S1024x1024) hz, View.ld_unit_zero (S := S256x1024) hz, View.ld_unit_zero (S := S1x1) hz]
  unfold k0_pay1
  simp only [shapeCast_self]

/-- Output 8 after point `n`: the sum of the first `n + 1` points' parts. -/
theorem sum_8 : ∀ (n : ℕ) (h : n < cfg0.N), (outsAt0 m c n h).2.2.2 =
    fun i => ∑ s : Fin (n + 1), part_8 m c ⟨s.val, lt_of_le_of_lt (Nat.le_of_lt_succ s.isLt) h⟩ i
  | 0, h => by
    rw [first_8 m c ⟨0, h⟩ rfl]
    funext i
    rw [Fin.sum_univ_one]
    rfl
  | n + 1, h => by
    have hN : cfg0.N = 16 := N_0
    have e := next_8 m c ⟨n + 1, h⟩ (by dsimp only; omega)
    rw [e]
    funext i
    rw [Fin.sum_univ_castSucc]
    show (outsAt0 m c n _).2.2.2 i + _ = _
    rw [sum_8 n]
    rfl

/-! ## The values, index by index -/

/-- The logistic, as the kernel spells it. -/
abbrev sg (x : EReal) : EReal := Ideal.div 1 (1 + Ideal.exp (0 - x))
/-- The gate's input `x · wg`. -/
abbrev PG (X : Vec Ideal S8192x1024 .f32) (W : Vec Ideal S1024x1024 .bf16) : Vec Ideal S8192x1024 .f32 :=
  fun i => ∑ k : Fin 1024, X (ix2 (i 0) k) * W (ix2 k (i 1))
/-- The gated product `p · wp`. -/
abbrev PP (X : Vec Ideal S8192x256 .f32) (W : Vec Ideal S256x1024 .bf16) : Vec Ideal S8192x1024 .f32 :=
  fun i => ∑ k : Fin 256, X (ix2 (i 0) k) * W (ix2 k (i 1))
/-- What the last layer's output misses the target by. -/
abbrev ERR (X tgt : Vec Ideal S8192x1024 .f32) (pg pp : Vec Ideal S8192x1024 .f32) : Vec Ideal S8192x1024 .f32 :=
  fun i => X i + sg (pg i) * pp i - tgt i

theorem final_6 : (dats m 0 c).arrAt 6 cfg0.N = PG (V m c main_arg0) (V m c main_v0) := by
  refine (dats m 0 c).arrAt_eq_of_cover 6 (PG (V m c main_arg0) (V m c main_v0)) (fun t _ => ?_) tiles_6
  rw [read_6]
  show (cfg0.win 6).cut (grid0.coords t) ((dats m 0 c).after 6 t) = _
  rw [after0_6, after_6, blk_0, blk_3]
  funext j
  idx_vars j
  show k0_pay2 _ _ (ix2 j0 j1) = _
  pointwise [k0_pay2] <;> rfl

theorem final_7 : (dats m 0 c).arrAt 7 cfg0.N = PP (V m c main_arg1) (V m c main_v1) := by
  refine (dats m 0 c).arrAt_eq_of_cover 7 (PP (V m c main_arg1) (V m c main_v1)) (fun t _ => ?_) tiles_7
  rw [read_7]
  show (cfg0.win 7).cut (grid0.coords t) ((dats m 0 c).after 7 t) = _
  rw [after0_7, after_7, blk_1, blk_4]
  funext j
  idx_vars j
  show k0_pay3 _ _ (ix2 j0 j1) = _
  pointwise [k0_pay3] <;> rfl

theorem final_5 : (dats m 0 c).arrAt 5 cfg0.N = fun i => ERR (V m c main_arg0) (V m c main_arg2) (PG (V m c main_arg0) (V m c main_v0)) (PP (V m c main_arg1) (V m c main_v1)) i * Ideal.ofBits .f32 0x3A800000#32 := by
  refine (dats m 0 c).arrAt_eq_of_cover 5 (fun i => ERR (V m c main_arg0) (V m c main_arg2) (PG (V m c main_arg0) (V m c main_v0)) (PP (V m c main_arg1) (V m c main_v1)) i * Ideal.ofBits .f32 0x3A800000#32) (fun t _ => ?_) tiles_5
  rw [read_5]
  show (cfg0.win 5).cut (grid0.coords t) ((dats m 0 c).after 5 t) = _
  rw [after0_5, after_5, blk_0, blk_1, blk_2, blk_3, blk_4]
  funext j
  idx_vars j
  show k0_pay5 _ _ _ _ _ (ix2 j0 j1) = _
  pointwise [k0_pay5, k0_pay4, k0_pay2, k0_pay3] <;> rfl

/-- Output 8 at the end: the sum of all the points' parts. -/
abbrev total_8 : Vec Ideal S1x1 .f32 := fun i => ∑ s : Fin 16, part_8 m c s i

theorem final_8 : (dats m 0 c).arrAt 8 cfg0.N = total_8 m c := by
  have hN : cfg0.N = 16 := N_0
  refine (dats m 0 c).arrAt_eq_of_cover 8 (total_8 m c) (fun t hf => ?_) ((by decide +kernel : (cfg0.win 8).Covers).cover _ (Memref.isWhole_whole _))
  · have h3 : t.val = 15 := by have := (flush0_8 t).mp hf; have := t.isLt; omega
    obtain rfl : t = t0_15 := Fin.ext h3
    show (cfg0.win 8).cut (grid0.coords _) ((dats m 0 c).after 8 _) = _
    rw [after0_8, sum_8]
    have hz' : (fun a => win0_8.index t0_15 a * main_v2_3.ty.shape.size a) = fun _ => 0 := funext fun a => by fin_cases a <;> decide +kernel
    exact (Memref.read_access_unit_zero (Elt Ideal) main_v2_3 hz' (fun a => by rw [congrFun hz' a]; simp) _).symm

theorem part_val (t : Fin cfg0.N) (j0 j1 : Fin 1) : part_8 m c t (ix2 j0 j1) =
    Ideal.ofBits .f32 0x3A000000#32 * ∑ r : Fin 512, ∑ k : Fin 1024,
      ERR (V m c main_arg0) (V m c main_arg2) (PG (V m c main_arg0) (V m c main_v0)) (PP (V m c main_arg1) (V m c main_v1)) (ix2 (row t r) k) * ERR (V m c main_arg0) (V m c main_arg2) (PG (V m c main_arg0) (V m c main_v0)) (PP (V m c main_arg1) (V m c main_v1)) (ix2 (row t r) k) := by
  unfold part_8
  rw [blk_0, blk_1, blk_2, blk_3, blk_4]
  pointwise [k0_pay6, k0_pay4, k0_pay2, k0_pay3]
  rfl

end Cert.Kernel2Ideal.Loss
-- ==== Proof.Sums.lean ====
/-
  Finite sums of extended reals: a sum cut into blocks, and a constant moved across a sum; and the constants the
  programs print, as the numbers they are.
-/
module

public import Idealize.ShloMosaic.Lib.Pointwise

@[expose] public section

noncomputable section

namespace Cert.Sums

open Idealize.ShloMosaic

/-- A sum over `n` blocks of `b` entries each is the sum over all of them. -/
theorem sum_blocks {M : Type} [AddCommMonoid M] {n b T : ℕ} (hT : T = n * b) (f : Fin T → M)
    (hx : ∀ (s : Fin n) (r : Fin b), s.val * b + r.val < T) :
    ∑ x : Fin T, f x = ∑ s : Fin n, ∑ r : Fin b, f ⟨s.val * b + r.val, hx s r⟩ := by
  subst hT
  rw [← Fintype.sum_prod_type' (f := fun s r => f ⟨s.val * b + r.val, hx s r⟩), ← (finProdFinEquiv (m := n) (n := b)).sum_comp]
  refine Finset.sum_congr rfl fun p _ => congrArg f (Fin.ext ?_)
  show p.2.val + b * p.1.val = p.1.val * b + p.2.val
  rw [Nat.mul_comm, Nat.add_comm]

/-- A number that is not negative moves into a sum of extended reals. -/
theorem mul_sum {ι : Type} (s : Finset ι) (a : ℝ) (ha : 0 ≤ a) (f : ι → EReal) :
    (a : EReal) * ∑ i ∈ s, f i = ∑ i ∈ s, (a : EReal) * f i := by
  induction s using Finset.cons_induction with
  | empty => simp
  | cons i s hi ih =>
    rw [Finset.sum_cons, Finset.sum_cons, EReal.left_distrib_of_nonneg_of_ne_top (by exact_mod_cast ha) (EReal.coe_ne_top a), ih]

/-- The same on the other side. -/
theorem sum_mul {ι : Type} (s : Finset ι) (a : ℝ) (ha : 0 ≤ a) (f : ι → EReal) :
    (∑ i ∈ s, f i) * (a : EReal) = ∑ i ∈ s, f i * (a : EReal) := by
  rw [mul_comm, mul_sum s a ha]
  exact Finset.sum_congr rfl fun i _ => mul_comm _ _

theorem c_half : Ideal.ofBits .f32 0x3F000000#32 = ((1 / 2 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_three : Ideal.ofBits .f32 0x40400000#32 = ((3 : ℝ) : EReal) := by
  simp [Ideal.ofBits, Ideal.ieee, -EReal.coe_mul]; norm_num
theorem c_1024 : Ideal.ofBits .f32 0x44800000#32 = ((1024 : ℝ) : EReal) := by
  simp [Ideal.ofBits, Ideal.ieee, -EReal.coe_mul]; norm_num
theorem c_inv1024 : Ideal.ofBits .f32 0x3A800000#32 = ((1 / 1024 : ℝ) : EReal) := by
  simp [Ideal.ofBits, Ideal.ieee, -EReal.coe_mul]; norm_num
theorem c_inv2048 : Ideal.ofBits .f32 0x3A000000#32 = ((1 / 2048 : ℝ) : EReal) := by
  simp [Ideal.ofBits, Ideal.ieee, -EReal.coe_mul]; norm_num
theorem c_eighth : Ideal.ofBits .f32 0x3E000000#32 = ((1 / 8 : ℝ) : EReal) := by
  simp [Ideal.ofBits, Ideal.ieee, -EReal.coe_mul]; norm_num
theorem c_inf : Ideal.ofBits .f32 0x7F800000#32 = (⊤ : EReal) := by
  simp [Ideal.ofBits, Ideal.ieee]

end Cert.Sums

end
-- ==== Proof.LossClaims.lean ====
/-
  The loss call's claim: its four results are the reference's, index by index over the extended reals.
-/
module

public import proofs.«01_k».proof.Proof.LossValue
public import proofs.«01_k».proof.Proof.Sums
public import proofs.«01_k».proof.Proof.Gen.Reference2Ideal.Run

@[expose] public section

set_option maxRecDepth 16384

noncomputable section

namespace Cert.Proof.Loss

open Idealize.ShloMosaic TcCoe Idealize.SL.Sem
open Cert.Kernel2Ideal Gen Loss

variable (m : (ℓ : Loc nD τ sig) → Buf (Elt Ideal) ℓ) (ρ : Dev nD → PrngReg)

theorem cast_wg (c : Dev nD) : (V m c main_v0 : S1024x1024.Idx → EReal) = m ((c : Thread nD τ).loc main_arg3) := by
  show (StableHlo.after hostOps0 (fun b => m (c, b)) (Proc.devRef .tc main_v0) : S1024x1024.Idx → EReal) = _
  after_results_simp <;> rfl
theorem cast_wp (c : Dev nD) : (V m c main_v1 : S256x1024.Idx → EReal) = m ((c : Thread nD τ).loc main_arg4) := by
  show (StableHlo.after hostOps0 (fun b => m (c, b)) (Proc.devRef .tc main_v1) : S256x1024.Idx → EReal) = _
  after_results_simp <;> rfl

/-- Half the sum over the rows of the rows' mean squares is the sum over the sixteen blocks of rows of the block's
    squares, each block's at `1 / 2048`. -/
theorem loss_eq (e : Fin 8192 → Fin 1024 → EReal) :
    Ideal.ofBits .f32 0x3F000000#32 * ∑ x, Ideal.div (∑ k, e x k * e x k) (Ideal.ofBits .f32 0x44800000#32)
      = ∑ s : Fin 16, Ideal.ofBits .f32 0x3A000000#32 * ∑ r : Fin 512, ∑ k, e (row s r) k * e (row s r) k := by
  rw [Sums.c_half, Sums.c_1024, Sums.c_inv2048, Sums.sum_blocks (n := 16) (b := 512) (by norm_num) _ (fun s r => by omega),
    Sums.mul_sum _ _ (by norm_num)]
  refine Finset.sum_congr rfl fun s _ => ?_
  rw [Sums.mul_sum _ _ (by norm_num), Sums.mul_sum _ _ (by norm_num)]
  refine Finset.sum_congr rfl fun r _ => ?_
  rw [Ideal.div_coe (by norm_num), mul_comm, mul_assoc, mul_comm, ← EReal.coe_mul]
  norm_num

theorem algebraic : Cert.algebraic_Kernel2Ideal_Reference2Ideal := by
  intro m ρ m' ρ' _ hagree
  refine ⟨_, _, _, _, Cert.Kernel2Ideal.Value.run_blocks m ρ, ?_⟩
  refine (θ_run Cert.Reference2Ideal.defs _ _).mono (fun r h c => ?_) (Cert.Reference2Ideal.Value.run (F := Ideal) m' ρ')
  obtain ⟨h0, h1, h2, h3, h4⟩ := h c
  obtain ⟨a0, a1, a2, a3, a4⟩ := hagree c
  clear hagree
  have w0 := cast_wg m c
  have w1 := cast_wp m c
  refine ⟨h0.trans ?_, h1.trans ?_, h2.trans ?_, h3.trans ?_, h4⟩
  · rw [final_5, a0, a1, a2, a3, a4, w0, w1, V_main_arg0, V_main_arg1, V_main_arg2]
    funext j
    idx_vars j
    pointwise
    simp only [Sums.c_half, Sums.c_two, Sums.c_1024, Sums.c_inv1024, ERR, PG, PP, sg, zero_sub, ix2_0, ix2_1]
    generalize (_ - _ : EReal) = e
    rw [Ideal.div_coe (by norm_num), mul_comm, mul_right_comm, ← mul_assoc, mul_comm e, ← EReal.coe_mul, ← EReal.coe_mul]
    norm_num
  · rw [final_6, a0, a3, w0, V_main_arg0]
    funext j
    idx_vars j
    pointwise
    rfl
  · rw [final_7, a1, a4, w1, V_main_arg1]
    funext j
    idx_vars j
    pointwise
    rfl
  · rw [final_8, a0, a1, a2, a3, a4]
    funext j
    idx_vars j
    refine Eq.trans ?_ (Finset.sum_congr rfl fun s _ => (part_val m c s j0 j1).symm)
    rw [w0, w1, V_main_arg0, V_main_arg1, V_main_arg2]
    pointwise
    refine Eq.trans ?_ (loss_eq fun x k => ERR (m ((c : Thread nD τ).loc main_arg0)) (m ((c : Thread nD τ).loc main_arg2))
      (PG (m ((c : Thread nD τ).loc main_arg0)) (m ((c : Thread nD τ).loc main_arg3)))
      (PP (m ((c : Thread nD τ).loc main_arg1)) (m ((c : Thread nD τ).loc main_arg4))) (ix2 x k))
    simp only [ERR, PG, PP, sg, zero_sub, ix2_0, ix2_1]

end Cert.Proof.Loss
-- ==== Proof.NormDefs.lean ====
/-
  The gradient of a root-mean-square norm over rows of 1024 entries, as both programs compute it, row by row; and the sums
  over four and eight column blocks of 256.
-/
module

public import proofs.«01_k».proof.Proof.Sums

@[expose] public section

set_option maxRecDepth 16384

noncomputable section

namespace Cert.Proof.Norm

open Idealize.ShloMosaic

/-- The mean square of a row, and the small constant. -/
abbrev ms (x : Fin 1024 → EReal) : EReal :=
  Ideal.div (∑ k, x k * x k) (Ideal.ofBits .f32 0x44800000#32) + Ideal.ofBits .f32 0x358637BD#32
/-- The factor a row is normed by. -/
abbrev rs (x : Fin 1024 → EReal) : EReal := Ideal.rsqrt (ms x)
/-- What a row's mean square contributes to the gradient at each entry, up to that entry. -/
abbrev coef (x g h : Fin 1024 → EReal) : EReal :=
  ∑ _ : Fin 1, Ideal.div ((∑ k, x k * (h k * g k)) * (Ideal.ofBits .f32 0xBF000000#32 * Ideal.div (rs x) (ms x)))
    (Ideal.ofBits .f32 0x44800000#32)
/-- The gradient of a row's norm with scale `g` at cotangent `h`. -/
abbrev dx (x g h : Fin 1024 → EReal) (d : Fin 1024) : EReal := h d * g d * rs x + x d * coef x g h + coef x g h * x d
/-- A row's share of the gradient of the scale. -/
abbrev dg (x h : Fin 1024 → EReal) (d : Fin 1024) : EReal := x d * rs x * h d

/-- The gradient of a row normed twice, with two scales and two cotangents. -/
abbrev dx2 (x g g' h h' : Fin 1024 → EReal) (d : Fin 1024) : EReal :=
  dx x g' h' d + h d * g d * rs x + x d * coef x g h + coef x g h * x d

/-- A row's cotangent through weights in column blocks `b` to `b + 3` of eight. -/
abbrev dh4 (y : Fin 1024 → EReal) (w : Fin 8 → Fin 256 → EReal) (b : Fin 5) : EReal :=
  ∑ k : Fin 256, y ⟨k.val, by omega⟩ * w ⟨b.val, by omega⟩ k + ∑ k : Fin 256, y ⟨256 + k.val, by omega⟩ * w ⟨b.val + 1, by omega⟩ k
    + ∑ k : Fin 256, y ⟨512 + k.val, by omega⟩ * w ⟨b.val + 2, by omega⟩ k + ∑ k : Fin 256, y ⟨768 + k.val, by omega⟩ * w ⟨b.val + 3, by omega⟩ k
/-- … and through all eight, the first four of one row and the last four of another. -/
abbrev dh8 (y z : Fin 1024 → EReal) (w : Fin 8 → Fin 256 → EReal) : EReal := dh4 y w 0 + dh4 z w 4

/-- A sum over 1024 columns, by blocks of 256. -/
theorem sum_1024 (y v : Fin 1024 → EReal) (w : Fin 8 → Fin 256 → EReal) (b : Fin 5)
    (hw : ∀ (j : Fin 4) (k : Fin 256), v ⟨j.val * 256 + k.val, by omega⟩ = w ⟨b.val + j.val, by omega⟩ k) :
    ∑ k, y k * v k = dh4 y w b := by
  rw [Sums.sum_blocks (n := 4) (b := 256) (by norm_num) _ (fun s r => by omega), Fin.sum_univ_four]
  simp only [hw]
  simp

/-- The sum over the first 1024 of 2048 columns and the one over the last 1024, by blocks of 256. -/
theorem sum_2048 (y z : Fin 1024 → EReal) (v : Fin 2048 → EReal) (w : Fin 8 → Fin 256 → EReal)
    (hw : ∀ (j : Fin 8) (k : Fin 256), w j k = v ⟨j.val * 256 + k.val, by omega⟩) :
    ∑ k : Fin 1024, y k * v ⟨k.val, by omega⟩ + ∑ k : Fin 1024, z k * v ⟨1024 + k.val, by omega⟩ = dh8 y z w := by
  rw [sum_1024 y (fun k => v ⟨k.val, by omega⟩) w 0 fun j k => by rw [hw]; exact congrArg v (Fin.ext (by simp)),
    sum_1024 z (fun k => v ⟨1024 + k.val, by omega⟩) w 4 fun j k => by
      rw [hw]; exact congrArg v (Fin.ext (by show 1024 + (j.val * 256 + k.val) = (4 + j.val) * 256 + k.val; ring))]

/-- A row normed, with scale `g`. -/
abbrev nx (x g : Fin 1024 → EReal) (d : Fin 1024) : EReal := x d * rs x * g d
/-- A row through weights in four column blocks of 256. -/
abbrev pj (h : Fin 1024 → EReal) (w : Fin 4 → Fin 1024 → Fin 256 → EReal) (d : Fin 1024) : EReal :=
  ∑ k, h k * w ⟨d.val / 256, by omega⟩ k ⟨d.val % 256, by omega⟩
/-- Every row of an array normed, with scale `g`. -/
abbrev H (x : (⟨2, ![8192, 1024]⟩ : Shape).Idx → EReal) (g : (⟨2, ![1, 1024]⟩ : Shape).Idx → EReal) : (⟨2, ![8192, 1024]⟩ : Shape).Idx → EReal :=
  fun i => nx (fun k => x (ix2 (i 0) k)) (fun k => g (ix2 0 k)) (i 1)
/-- … and through column blocks `4 b` to `4 b + 3` of eight. -/
abbrev PJ (x : (⟨2, ![8192, 1024]⟩ : Shape).Idx → EReal) (g : (⟨2, ![1, 1024]⟩ : Shape).Idx → EReal)
    (w : (⟨3, ![8, 1024, 256]⟩ : Shape).Idx → EReal) (b : Fin 2) : (⟨2, ![8192, 1024]⟩ : Shape).Idx → EReal :=
  fun i => pj (nx (fun k => x (ix2 (i 0) k)) fun k => g (ix2 0 k)) (fun j k q => w (ix3 ⟨4 * b.val + j.val, by omega⟩ k q)) (i 1)

/-- The four blocks' products side by side. -/
theorem pj_ite (h : Fin 1024 → EReal) (w : Fin 4 → Fin 1024 → Fin 256 → EReal) (d : Fin 1024) :
    (if h0 : d.val < 256 then ∑ k, h k * w 0 k ⟨d.val, h0⟩
      else if h1 : d.val - 256 < 256 then ∑ k, h k * w 1 k ⟨d.val - 256, h1⟩
      else if h2 : d.val - 256 - 256 < 256 then ∑ k, h k * w 2 k ⟨d.val - 256 - 256, h2⟩
      else ∑ k, h k * w 3 k ⟨d.val - 256 - 256 - 256, by omega⟩) = pj h w d := by
  have e : ∀ (j : Fin 4) (q : Fin 256), d.val = j.val * 256 + q.val → ∑ k, h k * w j k q = pj h w d := fun j q hd =>
    Finset.sum_congr rfl fun k _ => congrArg₂ (fun a b => h k * w a k b) (Fin.ext (by dsimp only; omega)) (Fin.ext (by dsimp only; omega))
  split
  · exact e 0 _ (by simp)
  · split
    · exact e 1 _ (by dsimp only; omega)
    · split
      · exact e 2 _ (by dsimp only; omega)
      · exact e 3 _ (by dsimp only; omega)

/-- The product with blocks of columns is the one with the columns. -/
theorem pj_cols (h : Fin 1024 → EReal) (w : Fin 4 → Fin 1024 → Fin 256 → EReal) (v : Fin 1024 → Fin 2048 → EReal) (o : Fin 1025)
    (hw : ∀ j k q, w j k q = v k ⟨o.val + (j.val * 256 + q.val), by omega⟩) (d : Fin 1024) :
    ∑ k, h k * v k ⟨o.val + d.val, by omega⟩ = pj h w d :=
  Finset.sum_congr rfl fun k _ => by
    rw [hw]
    exact congrArg (fun q => h k * v k q) (Fin.ext (by dsimp only; omega))

end Cert.Proof.Norm
-- ==== Proof.AinValue.lean ====
/-
  What the gradient call of the first layer's norm and projection leaves: the gradient of the layer's input, and the
  gradient of the norm's scale summed over the sixteen blocks of rows.
-/
module

public import proofs.«01_k».proof.Defs
public import proofs.«01_k».proof.Proof.Gen.Kernel3Ideal.Value
public import proofs.«01_k».proof.Proof.NormDefs
public import proofs.«01_k».proof.Proof.Calls
public import Idealize.ShloMosaic.Lib.Pipeline.ValueKit

@[expose] public section

set_option maxRecDepth 16384

noncomputable section

namespace Cert.Kernel3Ideal.Ain

open Cert.Proof.Calls (rows_of whole_of)
open Cert.Kernel3Ideal Gen
open Idealize.ShloMosaic TcCoe Idealize.SL.Sem
open Pipeline (Dat)

theorem hz : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (c : Dev nD)

/-- Row `512 t + r` of an array of 8192 rows: row `r` of block `t`. -/
abbrev row (t : Fin 16) (r : Fin 512) : Fin 8192 := ⟨t.val * 512 + r.val, by omega⟩

/-- Block `t` of an array of 8192 rows: rows `512 t` to `512 t + 511`. -/
abbrev rows {D : Nat} {e : EltTy} (t : Fin 16) (X : Vec Ideal ⟨2, ![8192, D]⟩ e) : Vec Ideal ⟨2, ![512, D]⟩ e :=
  fun j => X (ix2 (row t (j 0)) (j 1))

theorem ix_0 (t : Fin cfg0.N) : win0_0.index t 0 = t.val ∧ win0_0.index t 1 = 0 := by
  revert t; decide +kernel
theorem blk_0 (t : Fin cfg0.N) : (iblk m c 0 t : Vec Ideal S512x1024 .f32) = rows (D := 1024) t (V m c main_arg0) :=
  rows_of (D := 1024) (n := 16) (b := 512) (T := 8192) rfl t (V m c main_arg0) ((cfg0.win 0).blk t).view.emb (ix_0 t).1 (ix_0 t).2 (fun _ => rfl) fun _ => rfl

theorem ix_1 (t : Fin cfg0.N) : win0_1.index t 0 = t.val ∧ win0_1.index t 1 = 0 := by
  revert t; decide +kernel
theorem blk_1 (t : Fin cfg0.N) : (iblk m c 1 t : Vec Ideal S512x1024 .f32) = rows (D := 1024) t (V m c main_arg3) :=
  rows_of (D := 1024) (n := 16) (b := 512) (T := 8192) rfl t (V m c main_arg3) ((cfg0.win 1).blk t).view.emb (ix_1 t).1 (ix_1 t).2 (fun _ => rfl) fun _ => rfl

theorem ix_2 (t : Fin cfg0.N) : win0_2.index t 0 = t.val ∧ win0_2.index t 1 = 0 := by
  revert t; decide +kernel
theorem blk_2 (t : Fin cfg0.N) : (iblk m c 2 t : Vec Ideal S512x1024 .f32) = rows (D := 1024) t (V m c main_arg4) :=
  rows_of (D := 1024) (n := 16) (b := 512) (T := 8192) rfl t (V m c main_arg4) ((cfg0.win 2).blk t).view.emb (ix_2 t).1 (ix_2 t).2 (fun _ => rfl) fun _ => rfl

theorem ix_3 (t : Fin cfg0.N) : win0_3.index t 0 = t.val ∧ win0_3.index t 1 = 0 := by
  revert t; decide +kernel
theorem blk_3 (t : Fin cfg0.N) : (iblk m c 3 t : Vec Ideal S512x1024 .bf16) = rows (D := 1024) t (V m c main_v3) :=
  rows_of (D := 1024) (n := 16) (b := 512) (T := 8192) rfl t (V m c main_v3) ((cfg0.win 3).blk t).view.emb (ix_3 t).1 (ix_3 t).2 (fun _ => rfl) fun _ => rfl

theorem ix_4 (t : Fin cfg0.N) : win0_4.index t 0 = 0 ∧ win0_4.index t 1 = 0 := by
  revert t; decide +kernel
theorem blk_4 (t : Fin cfg0.N) : (iblk m c 4 t : Vec Ideal S1x1024 .f32) = (V m c main_arg1 : Vec Ideal S1x1024 .f32) :=
  whole_of (V m c main_arg1) ((cfg0.win 4).blk t).view.emb (ix_4 t).1 (ix_4 t).2 (fun _ => rfl) fun _ => rfl

theorem ix_5 : ∀ t : Fin cfg0.N, win0_5.index t = fun _ => 0 := by decide +kernel
theorem blk_5 (t : Fin cfg0.N) : (iblk m c 5 t : Vec Ideal S8x1024x256 .bf16) = V m c main_v2 :=
  Memref.read_access_unit_zero (Elt Ideal) main_v2 (by rw [ix_5 t]; exact funext fun a => Nat.zero_mul _) (fun a => by rw [ix_5 t]; simp) _

theorem ix_6 (t : Fin cfg0.N) : win0_6.index t 0 = t.val ∧ win0_6.index t 1 = 0 := by
  revert t; decide +kernel
theorem read_6 (G : Vec Ideal S8192x1024 .f32) (t : Fin cfg0.N) :
    ((cfg0.win 6).blk t).view.read (Elt Ideal) G = rows (D := 1024) t G :=
  rows_of (D := 1024) (n := 16) (b := 512) (T := 8192) rfl t G ((cfg0.win 6).blk t).view.emb (ix_6 t).1 (ix_6 t).2 (fun _ => rfl) fun _ => rfl
theorem tiles_6 (i : S8192x1024.Idx) : ∃ t : Fin cfg0.N, (cfg0.win 6).flush t = true ∧ i ∈ ((cfg0.win 6).blk t).view.set :=
  (by decide +kernel : (cfg0.win 6).Covers).cover _ (Memref.isWhole_whole _) i

/-- The cotangent of the norm's output at a block of rows: the two products' gradients added, each summed over the four
    column blocks of its weights. -/
abbrev pdh (v2 : Vec Ideal S512x1024 .f32) (v3 : Vec Ideal S512x1024 .bf16) (v7 : Vec Ideal S8x1024x256 .bf16) :
    Vec Ideal S512x1024 .f32 := k0_pay9 (k0_pay4 v2 v7) (k0_pay5 v7) (k0_pay6 v3) (k0_pay7 v3 v7) k0_pay8

abbrev pdx (v0 v1 v2 : Vec Ideal S512x1024 .f32) (v3 : Vec Ideal S512x1024 .bf16) (v6 : Vec Ideal S1x1024 .f32)
    (v7 : Vec Ideal S8x1024x256 .bf16) : Vec Ideal S512x1024 .f32 :=
  k0_pay1 v1 (k0_pay15 v0 v6 (k0_pay4 v2 v7) (k0_pay5 v7) (k0_pay6 v3) (k0_pay7 v3 v7) k0_pay8)
    (k0_pay16 v0 v6 (k0_pay4 v2 v7) (k0_pay5 v7) (k0_pay6 v3) (k0_pay7 v3 v7) k0_pay8)

abbrev pdg (v0 v2 : Vec Ideal S512x1024 .f32) (v3 : Vec Ideal S512x1024 .bf16)
    (v7 : Vec Ideal S8x1024x256 .bf16) : Vec Ideal S1x1024 .f32 :=
  k0_pay12 v0 (k0_pay4 v2 v7) (k0_pay5 v7) (k0_pay6 v3) (k0_pay7 v3 v7) k0_pay8

/-- Output 6 after point `t`: its payload of the point's blocks. -/
theorem after_6 (t : Fin cfg0.N) : (outsAt0 m c t.val t.isLt).1 = pdx (iblk m c 0 t) (iblk m c 1 t) (iblk m c 2 t) (iblk m c 3 t) (iblk m c 4 t) (iblk m c 5 t) := by
  have hN : cfg0.N = 16 := N_0
  have hl := t.isLt
  by_cases h0 : t.val % 16 = 0
  on_goal 1 => rw [outsAt0_A m c t h0 (by omega)]; dsimp only; unfold out0_A_6; rw [View.read_writes_eq_canon _ _ _ (fun y => cover0_A_6 (y := y) ..)]; unfold kernelRun0_A
  on_goal 2 => rw [outsAt0_B m c t h0 (by omega)]; dsimp only; unfold out0_B_6; rw [View.read_writes_eq_canon _ _ _ (fun y => cover0_B_6 (y := y) ..)]; unfold kernelRun0_B
  all_goals
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S512x1024) hz, View.ld_unit_zero (S := S8x1024x256) hz3, View.ld_unit_zero (S := S1x1024) hz]

/-- What point `t` adds to output 7. -/
abbrev part_7 (t : Fin cfg0.N) : Vec Ideal S1x1024 .f32 := pdg (iblk m c 0 t) (iblk m c 2 t) (iblk m c 3 t) (iblk m c 5 t)

theorem first_7 (t : Fin cfg0.N) (h0 : t.val % 16 = 0) : (outsAt0 m c t.val t.isLt).2 = part_7 m c t := by
  have hN : cfg0.N = 16 := N_0
  have hl := t.isLt
  rw [outsAt0_A m c t h0 (by omega)]
  dsimp only
  unfold out0_A_7
  rw [View.read_writes_eq_canon _ _ _ (fun y => cover0_A_7 (y := y) ..)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S512x1024) hz, View.ld_unit_zero (S := S8x1024x256) hz3, View.ld_unit_zero (S := S1x1024) hz]

theorem next_7 (t : Fin cfg0.N) (h0 : ¬t.val % 16 = 0) : (outsAt0 m c t.val t.isLt).2 =
    (addf (F := Ideal) (s := S1x1024) (φ := .f32) (outsAt0 m c (t.val - 1) (Nat.lt_of_le_of_lt (Nat.sub_le _ _) t.isLt)).2 (part_7 m c t) : Vec Ideal S1x1024 .f32) := by
  have hN : cfg0.N = 16 := N_0
  have hl := t.isLt
  rw [outsAt0_B m c t h0 (by omega)]
  dsimp only
  unfold out0_B_7
  rw [View.read_writes_eq_canon _ _ _ (fun y => cover0_B_7 (y := y) ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S512x1024) hz, View.ld_unit_zero (S := S8x1024x256) hz3, View.ld_unit_zero (S := S1x1024) hz]
  unfold k0_pay2
  simp only [shapeCast_self]

/-- Output 7 after point `n`: the sum of the first `n + 1` points' parts. -/
theorem sum_7 : ∀ (n : ℕ) (h : n < cfg0.N), (outsAt0 m c n h).2 =
    fun i => ∑ s : Fin (n + 1), part_7 m c ⟨s.val, lt_of_le_of_lt (Nat.le_of_lt_succ s.isLt) h⟩ i
  | 0, h => by
    rw [first_7 m c ⟨0, h⟩ rfl]
    funext i
    rw [Fin.sum_univ_one]
    rfl
  | n + 1, h => by
    have hN : cfg0.N = 16 := N_0
    have e := next_7 m c ⟨n + 1, h⟩ (by dsimp only; omega)
    rw [e]
    funext i
    rw [Fin.sum_univ_castSucc]
    show (outsAt0 m c n _).2 i + _ = _
    rw [sum_7 n]
    rfl

/-- Output 7 at the end: the sum of all the points' parts. -/
abbrev total_7 : Vec Ideal S1x1024 .f32 := fun i => ∑ s : Fin 16, part_7 m c s i

theorem final_7 : (dats m 0 c).arrAt 7 cfg0.N = total_7 m c := by
  have hN : cfg0.N = 16 := N_0
  refine (dats m 0 c).arrAt_eq_of_cover 7 (total_7 m c) (fun t hf => ?_) ((by decide +kernel : (cfg0.win 7).Covers).cover _ (Memref.isWhole_whole _))
  · have h3 : t.val = 15 := by have := (flush0_7 t).mp hf; have := t.isLt; omega
    obtain rfl : t = t0_15 := Fin.ext h3
    show (cfg0.win 7).cut (grid0.coords _) ((dats m 0 c).after 7 _) = _
    rw [after0_7, sum_7]
    have hz' : (fun a => win0_7.index t0_15 a * main_v4_1.ty.shape.size a) = fun _ => 0 := funext fun a => by fin_cases a <;> decide +kernel
    exact (Memref.read_access_unit_zero (Elt Ideal) main_v4_1 hz' (fun a => by rw [congrFun hz' a]; simp) _).symm

open Cert.Proof in
theorem pdh_val (v2 : Vec Ideal S512x1024 .f32) (v3 : Vec Ideal S512x1024 .bf16) (v7 : Vec Ideal S8x1024x256 .bf16)
    (r : Fin 512) (d : Fin 1024) : k0_pay9 (k0_pay4 v2 v7) (k0_pay5 v7) (k0_pay6 v3) (k0_pay7 v3 v7) k0_pay8 (ix2 r d)
      = Norm.dh8 (fun k => v2 (ix2 r k)) (fun k => v3 (ix2 r k)) fun j k => v7 (ix3 j d k) := by
  pointwise [k0_pay9, k0_pay4, k0_pay5, k0_pay6, k0_pay7, k0_pay8, k0_pay3]
  rfl

/-- The cotangent of the norm's output. -/
abbrev DH (du : Vec Ideal S8192x1024 .f32) (dga : Vec Ideal S8192x1024 .bf16) (w : Vec Ideal S8x1024x256 .bf16)
    (r : Fin 8192) (d : Fin 1024) : EReal :=
  Cert.Proof.Norm.dh8 (fun k => du (ix2 r k)) (fun k => dga (ix2 r k)) fun j k => w (ix3 j d k)

/-- The gradient of the layer's input: what came around the layer, and what comes through its norm. -/
abbrev DX (x dx1 du : Vec Ideal S8192x1024 .f32) (dga : Vec Ideal S8192x1024 .bf16) (g : Vec Ideal S1x1024 .f32)
    (w : Vec Ideal S8x1024x256 .bf16) : Vec Ideal S8192x1024 .f32 :=
  fun i => dx1 i + Cert.Proof.Norm.dx (fun k => x (ix2 (i 0) k)) (fun k => g (ix2 0 k)) (DH du dga w (i 0)) (i 1)

theorem final_6 : (dats m 0 c).arrAt 6 cfg0.N =
    DX (V m c main_arg0) (V m c main_arg3) (V m c main_arg4) (V m c main_v3) (V m c main_arg1) (V m c main_v2) := by
  refine (dats m 0 c).arrAt_eq_of_cover 6 (DX (V m c main_arg0) (V m c main_arg3) (V m c main_arg4) (V m c main_v3) (V m c main_arg1) (V m c main_v2))
    (fun t _ => ?_) tiles_6
  rw [read_6]
  show (cfg0.win 6).cut (grid0.coords t) ((dats m 0 c).after 6 t) = _
  rw [after0_6, after_6, blk_0, blk_1, blk_2, blk_3, blk_4, blk_5]
  funext j
  idx_vars j
  show pdx _ _ _ _ _ _ (ix2 j0 j1) = _
  unfold pdx
  pointwise [k0_pay1, k0_pay15, k0_pay16, k0_pay14, k0_pay13, k0_pay11, k0_pay10]
  simp only [pdh_val]
  rfl

open Cert.Proof in
theorem part_val (t : Fin cfg0.N) (j0 : Fin 1) (j1 : Fin 1024) : part_7 m c t (ix2 j0 j1) =
    ∑ r : Fin 512, Norm.dg (fun k => V m c main_arg0 (ix2 (row t r) k)) (DH (V m c main_arg4) (V m c main_v3) (V m c main_v2) (row t r)) j1 := by
  unfold part_7
  rw [blk_0, blk_2, blk_3, blk_5]
  unfold pdg
  pointwise [k0_pay12, k0_pay11, k0_pay10]
  simp only [pdh_val]
  rfl

end Cert.Kernel3Ideal.Ain
-- ==== Proof.AinClaims.lean ====
/-
  The claim of the gradient call of the first layer's norm and projection: both its results are the reference's, index by
  index over the extended reals.
-/
module

public import proofs.«01_k».proof.Proof.AinValue
public import proofs.«01_k».proof.Proof.Gen.Reference3Ideal.Run

@[expose] public section

set_option maxRecDepth 16384

noncomputable section

namespace Cert.Proof.Ain

open Idealize.ShloMosaic TcCoe Idealize.SL.Sem
open Cert.Kernel3Ideal Gen Ain

variable (m : (ℓ : Loc nD τ sig) → Buf (Elt Ideal) ℓ) (ρ : Dev nD → PrngReg)

theorem cast_dga (c : Dev nD) : (V m c main_v3 : S8192x1024.Idx → EReal) = m ((c : Thread nD τ).loc main_arg5) := by
  show (StableHlo.after hostOps0 (fun b => m (c, b)) (Proc.devRef .tc main_v3) : S8192x1024.Idx → EReal) = _
  after_results_simp <;> rfl
theorem w_blocks (c : Dev nD) (j : Fin 8) (d : Fin 1024) (k : Fin 256) : (V m c main_v2 : S8x1024x256.Idx → EReal) (ix3 j d k)
    = (m ((c : Thread nD τ).loc main_arg2) : S1024x2048.Idx → EReal) (ix2 d ⟨j.val * 256 + k.val, by omega⟩) := by
  show (StableHlo.after hostOps0 (fun b => m (c, b)) (Proc.devRef .tc main_v2) : S8x1024x256.Idx → EReal) (ix3 j d k) = _
  after_results_simp
  pointwise

theorem dh_eq (c : Dev nD) (du dga : Vec Ideal S8192x1024 .f32) (r : Fin 8192) (d : Fin 1024) :
    ∑ k : Fin 1024, du (ix2 r k) * (m ((c : Thread nD τ).loc main_arg2) : S1024x2048.Idx → EReal) (ix2 d ⟨k.val, by omega⟩)
      + ∑ k : Fin 1024, dga (ix2 r k) * (m ((c : Thread nD τ).loc main_arg2) : S1024x2048.Idx → EReal) (ix2 d ⟨1024 + k.val, by omega⟩)
      = DH du dga (V m c main_v2) r d :=
  Norm.sum_2048 _ _ (fun k => (m ((c : Thread nD τ).loc main_arg2) : S1024x2048.Idx → EReal) (ix2 d k)) _ fun j k => w_blocks m c j d k

theorem algebraic : Cert.algebraic_Kernel3Ideal_Reference3Ideal := by
  intro m ρ m' ρ' _ hagree
  refine ⟨_, _, Cert.Kernel3Ideal.Value.run_blocks m ρ, ?_⟩
  refine (θ_run Cert.Reference3Ideal.defs _ _).mono (fun r h c => ?_) (Cert.Reference3Ideal.Value.run (F := Ideal) m' ρ')
  obtain ⟨h0, h1, h2⟩ := h c
  obtain ⟨a0, a1, a2, a3, a4, a5⟩ := hagree c
  clear hagree
  have w0 := cast_dga m c
  refine ⟨h0.trans ?_, h1.trans ?_, h2⟩
  · unfold Cert.Reference3Ideal.Value.res_main_v39
    rw [final_6, a0, a1, a2, a3, a4, a5, w0, V_main_arg0, V_main_arg1, V_main_arg3, V_main_arg4]
    funext j
    idx_vars j
    pointwise
    simp only [dh_eq m c (m ((c : Thread nD τ).loc main_arg4)) (m ((c : Thread nD τ).loc main_arg5))]
    rfl
  · rw [final_7, a0, a2, a4, a5]
    funext j
    idx_vars j
    refine Eq.trans ?_ (Finset.sum_congr rfl fun s _ => (part_val m c s j0 j1).symm)
    rw [w0, V_main_arg0, V_main_arg4]
    pointwise
    rw [Sums.sum_blocks (n := 16) (b := 512) (by norm_num) _ (fun s r => by omega)]
    simp only [dh_eq m c (m ((c : Thread nD τ).loc main_arg4)) (m ((c : Thread nD τ).loc main_arg5))]

end Cert.Proof.Ain
-- ==== Proof.BinValue.lean ====
/-
  What the gradient call of the second layer's two norms and projections leaves: the gradient of the layer's input, and
  the gradients of the two norms' scales, each summed over the thirty-two blocks of rows.
-/
module

public import proofs.«01_k».proof.Defs
public import proofs.«01_k».proof.Proof.Gen.Kernel4Ideal.Value
public import proofs.«01_k».proof.Proof.NormDefs
public import proofs.«01_k».proof.Proof.Calls
public import Idealize.ShloMosaic.Lib.Pipeline.ValueKit

@[expose] public section

set_option maxRecDepth 16384

noncomputable section

namespace Cert.Kernel4Ideal.Bin

open Cert.Proof.Calls (rows_of whole_of)
open Cert.Kernel4Ideal Gen
open Idealize.ShloMosaic TcCoe Idealize.SL.Sem
open Pipeline (Dat)

theorem hz : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (c : Dev nD)

/-- Row `256 t + r` of an array of 8192 rows: row `r` of block `t`. -/
abbrev row (t : Fin 32) (r : Fin 256) : Fin 8192 := ⟨t.val * 256 + r.val, by omega⟩

/-- Block `t` of an array of 8192 rows: rows `256 t` to `256 t + 255`. -/
abbrev rows {D : Nat} {e : EltTy} (t : Fin 32) (X : Vec Ideal ⟨2, ![8192, D]⟩ e) : Vec Ideal ⟨2, ![256, D]⟩ e :=
  fun j => X (ix2 (row t (j 0)) (j 1))

theorem ix_0 (t : Fin cfg0.N) : win0_0.index t 0 = t.val ∧ win0_0.index t 1 = 0 := by
  revert t; decide +kernel
theorem blk_0 (t : Fin cfg0.N) : (iblk m c 0 t : Vec Ideal S256x1024 .f32) = rows (D := 1024) t (V m c main_arg0) :=
  rows_of (D := 1024) (n := 32) (b := 256) (T := 8192) rfl t (V m c main_arg0) ((cfg0.win 0).blk t).view.emb (ix_0 t).1 (ix_0 t).2 (fun _ => rfl) fun _ => rfl

theorem ix_1 (t : Fin cfg0.N) : win0_1.index t 0 = t.val ∧ win0_1.index t 1 = 0 := by
  revert t; decide +kernel
theorem blk_1 (t : Fin cfg0.N) : (iblk m c 1 t : Vec Ideal S256x1024 .f32) = rows (D := 1024) t (V m c main_arg5) :=
  rows_of (D := 1024) (n := 32) (b := 256) (T := 8192) rfl t (V m c main_arg5) ((cfg0.win 1).blk t).view.emb (ix_1 t).1 (ix_1 t).2 (fun _ => rfl) fun _ => rfl

theorem ix_2 (t : Fin cfg0.N) : win0_2.index t 0 = t.val ∧ win0_2.index t 1 = 0 := by
  revert t; decide +kernel
theorem blk_2 (t : Fin cfg0.N) : (iblk m c 2 t : Vec Ideal S256x1024 .f32) = rows (D := 1024) t (V m c main_arg6) :=
  rows_of (D := 1024) (n := 32) (b := 256) (T := 8192) rfl t (V m c main_arg6) ((cfg0.win 2).blk t).view.emb (ix_2 t).1 (ix_2 t).2 (fun _ => rfl) fun _ => rfl

theorem ix_3 (t : Fin cfg0.N) : win0_3.index t 0 = t.val ∧ win0_3.index t 1 = 0 := by
  revert t; decide +kernel
theorem blk_3 (t : Fin cfg0.N) : (iblk m c 3 t : Vec Ideal S256x1024 .f32) = rows (D := 1024) t (V m c main_arg7) :=
  rows_of (D := 1024) (n := 32) (b := 256) (T := 8192) rfl t (V m c main_arg7) ((cfg0.win 3).blk t).view.emb (ix_3 t).1 (ix_3 t).2 (fun _ => rfl) fun _ => rfl

theorem ix_4 (t : Fin cfg0.N) : win0_4.index t 0 = t.val ∧ win0_4.index t 1 = 0 := by
  revert t; decide +kernel
theorem blk_4 (t : Fin cfg0.N) : (iblk m c 4 t : Vec Ideal S256x1024 .f32) = rows (D := 1024) t (V m c main_arg8) :=
  rows_of (D := 1024) (n := 32) (b := 256) (T := 8192) rfl t (V m c main_arg8) ((cfg0.win 4).blk t).view.emb (ix_4 t).1 (ix_4 t).2 (fun _ => rfl) fun _ => rfl

theorem ix_5 (t : Fin cfg0.N) : win0_5.index t 0 = t.val ∧ win0_5.index t 1 = 0 := by
  revert t; decide +kernel
theorem blk_5 (t : Fin cfg0.N) : (iblk m c 5 t : Vec Ideal S256x1024 .bf16) = rows (D := 1024) t (V m c main_v6) :=
  rows_of (D := 1024) (n := 32) (b := 256) (T := 8192) rfl t (V m c main_v6) ((cfg0.win 5).blk t).view.emb (ix_5 t).1 (ix_5 t).2 (fun _ => rfl) fun _ => rfl

theorem ix_6 (t : Fin cfg0.N) : win0_6.index t 0 = 0 ∧ win0_6.index t 1 = 0 := by
  revert t; decide +kernel
theorem blk_6 (t : Fin cfg0.N) : (iblk m c 6 t : Vec Ideal S1x1024 .f32) = (V m c main_arg1 : Vec Ideal S1x1024 .f32) :=
  whole_of (V m c main_arg1) ((cfg0.win 6).blk t).view.emb (ix_6 t).1 (ix_6 t).2 (fun _ => rfl) fun _ => rfl

theorem ix_7 (t : Fin cfg0.N) : win0_7.index t 0 = 0 ∧ win0_7.index t 1 = 0 := by
  revert t; decide +kernel
theorem blk_7 (t : Fin cfg0.N) : (iblk m c 7 t : Vec Ideal S1x1024 .f32) = (V m c main_arg2 : Vec Ideal S1x1024 .f32) :=
  whole_of (V m c main_arg2) ((cfg0.win 7).blk t).view.emb (ix_7 t).1 (ix_7 t).2 (fun _ => rfl) fun _ => rfl

theorem ix_8 : ∀ t : Fin cfg0.N, win0_8.index t = fun _ => 0 := by decide +kernel
theorem blk_8 (t : Fin cfg0.N) : (iblk m c 8 t : Vec Ideal S8x1024x256 .bf16) = V m c main_v2 :=
  Memref.read_access_unit_zero (Elt Ideal) main_v2 (by rw [ix_8 t]; exact funext fun a => Nat.zero_mul _) (fun a => by rw [ix_8 t]; simp) _

theorem ix_9 : ∀ t : Fin cfg0.N, win0_9.index t = fun _ => 0 := by decide +kernel
theorem blk_9 (t : Fin cfg0.N) : (iblk m c 9 t : Vec Ideal S8x1024x256 .bf16) = V m c main_v5 :=
  Memref.read_access_unit_zero (Elt Ideal) main_v5 (by rw [ix_9 t]; exact funext fun a => Nat.zero_mul _) (fun a => by rw [ix_9 t]; simp) _

theorem ix_10 (t : Fin cfg0.N) : win0_10.index t 0 = t.val ∧ win0_10.index t 1 = 0 := by
  revert t; decide +kernel
theorem read_10 (G : Vec Ideal S8192x1024 .f32) (t : Fin cfg0.N) :
    ((cfg0.win 10).blk t).view.read (Elt Ideal) G = rows (D := 1024) t G :=
  rows_of (D := 1024) (n := 32) (b := 256) (T := 8192) rfl t G ((cfg0.win 10).blk t).view.emb (ix_10 t).1 (ix_10 t).2 (fun _ => rfl) fun _ => rfl
theorem tiles_10 (i : S8192x1024.Idx) : ∃ t : Fin cfg0.N, (cfg0.win 10).flush t = true ∧ i ∈ ((cfg0.win 10).blk t).view.set :=
  (by decide +kernel : (cfg0.win 10).Covers).cover _ (Memref.isWhole_whole _) i

/-- The cotangent of the key and value norm's output at a block of rows. -/
abbrev pk (v2 v3 : Vec Ideal S256x1024 .f32) (v10 : Vec Ideal S8x1024x256 .bf16) : Vec Ideal S256x1024 .f32 :=
  k0_pay10 v3 (k0_pay4 v10) (k0_pay6 v10) (k0_pay8 v2 v10) (k0_pay9 v2)
/-- The cotangent of the query and gate norm's output at a block of rows. -/
abbrev pq (v4 : Vec Ideal S256x1024 .f32) (v5 : Vec Ideal S256x1024 .bf16) (v12 : Vec Ideal S8x1024x256 .bf16) :
    Vec Ideal S256x1024 .f32 :=
  k0_pay16 (k0_pay3 v5) (k0_pay5 v12) (k0_pay13 v4 (k0_pay5 v12)) (k0_pay14 v4) (k0_pay15 (k0_pay5 v12))
    (constant S256x1024 .f32 0x00000000#32)

abbrev pdx (v0 v1 v2 v3 v4 : Vec Ideal S256x1024 .f32) (v5 : Vec Ideal S256x1024 .bf16) (v8 v9 : Vec Ideal S1x1024 .f32)
    (v10 v12 : Vec Ideal S8x1024x256 .bf16) : Vec Ideal S256x1024 .f32 :=
  k0_pay26 v0 v1 v8 v9 (pk v2 v3 v10) (pq v4 v5 v12) (k0_pay18 v0) (k0_pay19 v0) (k0_pay22 v0) (k0_pay23 v0)

abbrev pdgk (v0 v2 v3 : Vec Ideal S256x1024 .f32) (v10 : Vec Ideal S8x1024x256 .bf16) : Vec Ideal S1x1024 .f32 :=
  k0_pay25 (pk v2 v3 v10) (k0_pay20 v0)

abbrev pdgp (v0 v4 : Vec Ideal S256x1024 .f32) (v5 : Vec Ideal S256x1024 .bf16) (v12 : Vec Ideal S8x1024x256 .bf16) :
    Vec Ideal S1x1024 .f32 := k0_pay24 v0 (pq v4 v5 v12) (k0_pay22 v0)

abbrev t0_31 : Fin cfg0.N := ⟨31, by have := N_0; show 31 < grid0.N; omega⟩

/-- Output 10 after point `t`: its payload of the point's blocks. -/
theorem after_10 (t : Fin cfg0.N) : (outsAt0 m c t.val t.isLt).1 = pdx (iblk m c 0 t) (iblk m c 1 t) (iblk m c 2 t) (iblk m c 3 t) (iblk m c 4 t) (iblk m c 5 t) (iblk m c 6 t) (iblk m c 7 t) (iblk m c 8 t) (iblk m c 9 t) := by
  have hN : cfg0.N = 32 := N_0
  have hl := t.isLt
  by_cases h0 : t.val % 32 = 0
  on_goal 1 => rw [outsAt0_A m c t h0 (by omega) h0 (by omega)]; dsimp only; unfold out0_A_10; rw [View.read_writes_eq_canon _ _ _ (fun y => cover0_A_10 (y := y) ..)]; unfold kernelRun0_A
  on_goal 2 => rw [outsAt0_B m c t h0 (by omega) h0 (by omega)]; dsimp only; unfold out0_B_10; rw [View.read_writes_eq_canon _ _ _ (fun y => cover0_B_10 (y := y) ..)]; unfold kernelRun0_B
  all_goals
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, View.ld_unit_zero (S := S256x1024) hz, View.ld_unit_zero (S := S8x1024x256) hz3, View.ld_unit_zero (S := S1x1024) hz]

/-- What point `t` adds to output 11. -/
abbrev part_11 (t : Fin cfg0.N) : Vec Ideal S1x1024 .f32 := pdgk (iblk m c 0 t) (iblk m c 2 t) (iblk m c 3 t) (iblk m c 8 t)

theorem first_11 (t : Fin cfg0.N) (h0 : t.val % 32 = 0) : (outsAt0 m c t.val t.isLt).2.1 = part_11 m c t := by
  have hN : cfg0.N = 32 := N_0
  have hl := t.isLt
  rw [outsAt0_A m c t h0 (by omega) h0 (by omega)]
  dsimp only
  unfold out0_A_11
  rw [View.read_writes_eq_canon _ _ _ (fun y => cover0_A_11 (y := y) ..)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, View.ld_unit_zero (S := S256x1024) hz, View.ld_unit_zero (S := S8x1024x256) hz3, View.ld_unit_zero (S := S1x1024) hz]

theorem next_11 (t : Fin cfg0.N) (h0 : ¬t.val % 32 = 0) : (outsAt0 m c t.val t.isLt).2.1 =
    (addf (F := Ideal) (s := S1x1024) (φ := .f32) (outsAt0 m c (t.val - 1) (Nat.lt_of_le_of_lt (Nat.sub_le _ _) t.isLt)).2.1 (part_11 m c t) : Vec Ideal S1x1024 .f32) := by
  have hN : cfg0.N = 32 := N_0
  have hl := t.isLt
  rw [outsAt0_B m c t h0 (by omega) h0 (by omega)]
  dsimp only
  unfold out0_B_11
  rw [View.read_writes_eq_canon _ _ _ (fun y => cover0_B_11 (y := y) ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, View.ld_unit_zero (S := S256x1024) hz, View.ld_unit_zero (S := S8x1024x256) hz3, View.ld_unit_zero (S := S1x1024) hz]
  unfold k0_pay1
  simp only [shapeCast_self]

/-- Output 11 after point `n`: the sum of the first `n + 1` points' parts. -/
theorem sum_11 : ∀ (n : ℕ) (h : n < cfg0.N), (outsAt0 m c n h).2.1 =
    fun i => ∑ s : Fin (n + 1), part_11 m c ⟨s.val, lt_of_le_of_lt (Nat.le_of_lt_succ s.isLt) h⟩ i
  | 0, h => by
    rw [first_11 m c ⟨0, h⟩ rfl]
    funext i
    rw [Fin.sum_univ_one]
    rfl
  | n + 1, h => by
    have hN : cfg0.N = 32 := N_0
    have e := next_11 m c ⟨n + 1, h⟩ (by dsimp only; omega)
    rw [e]
    funext i
    rw [Fin.sum_univ_castSucc]
    show (outsAt0 m c n _).2.1 i + _ = _
    rw [sum_11 n]
    rfl

/-- What point `t` adds to output 12. -/
abbrev part_12 (t : Fin cfg0.N) : Vec Ideal S1x1024 .f32 := pdgp (iblk m c 0 t) (iblk m c 4 t) (iblk m c 5 t) (iblk m c 9 t)

theorem first_12 (t : Fin cfg0.N) (h0 : t.val % 32 = 0) : (outsAt0 m c t.val t.isLt).2.2 = part_12 m c t := by
  have hN : cfg0.N = 32 := N_0
  have hl := t.isLt
  rw [outsAt0_A m c t h0 (by omega) h0 (by omega)]
  dsimp only
  unfold out0_A_12
  rw [View.read_writes_eq_canon _ _ _ (fun y => cover0_A_12 (y := y) ..)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, View.ld_unit_zero (S := S256x1024) hz, View.ld_unit_zero (S := S8x1024x256) hz3, View.ld_unit_zero (S := S1x1024) hz]

theorem next_12 (t : Fin cfg0.N) (h0 : ¬t.val % 32 = 0) : (outsAt0 m c t.val t.isLt).2.2 =
    (addf (F := Ideal) (s := S1x1024) (φ := .f32) (outsAt0 m c (t.val - 1) (Nat.lt_of_le_of_lt (Nat.sub_le _ _) t.isLt)).2.2 (part_12 m c t) : Vec Ideal S1x1024 .f32) := by
  have hN : cfg0.N = 32 := N_0
  have hl := t.isLt
  rw [outsAt0_B m c t h0 (by omega) h0 (by omega)]
  dsimp only
  unfold out0_B_12
  rw [View.read_writes_eq_canon _ _ _ (fun y => cover0_B_12 (y := y) ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, View.ld_unit_zero (S := S256x1024) hz, View.ld_unit_zero (S := S8x1024x256) hz3, View.ld_unit_zero (S := S1x1024) hz]
  unfold k0_pay2
  simp only [shapeCast_self]

/-- Output 12 after point `n`: the sum of the first `n + 1` points' parts. -/
theorem sum_12 : ∀ (n : ℕ) (h : n < cfg0.N), (outsAt0 m c n h).2.2 =
    fun i => ∑ s : Fin (n + 1), part_12 m c ⟨s.val, lt_of_le_of_lt (Nat.le_of_lt_succ s.isLt) h⟩ i
  | 0, h => by
    rw [first_12 m c ⟨0, h⟩ rfl]
    funext i
    rw [Fin.sum_univ_one]
    rfl
  | n + 1, h => by
    have hN : cfg0.N = 32 := N_0
    have e := next_12 m c ⟨n + 1, h⟩ (by dsimp only; omega)
    rw [e]
    funext i
    rw [Fin.sum_univ_castSucc]
    show (outsAt0 m c n _).2.2 i + _ = _
    rw [sum_12 n]
    rfl

/-- Output 11 at the end: the sum of all the points' parts. -/
abbrev total_11 : Vec Ideal S1x1024 .f32 := fun i => ∑ s : Fin 32, part_11 m c s i

theorem final_11 : (dats m 0 c).arrAt 11 cfg0.N = total_11 m c := by
  have hN : cfg0.N = 32 := N_0
  refine (dats m 0 c).arrAt_eq_of_cover 11 (total_11 m c) (fun t hf => ?_) ((by decide +kernel : (cfg0.win 11).Covers).cover _ (Memref.isWhole_whole _))
  · have h3 : t.val = 31 := by have := (flush0_11 t).mp hf; have := t.isLt; omega
    obtain rfl : t = t0_31 := Fin.ext h3
    show (cfg0.win 11).cut (grid0.coords _) ((dats m 0 c).after 11 _) = _
    rw [after0_11, sum_11]
    have hz' : (fun a => win0_11.index t0_31 a * main_v7_1.ty.shape.size a) = fun _ => 0 := funext fun a => by fin_cases a <;> decide +kernel
    exact (Memref.read_access_unit_zero (Elt Ideal) main_v7_1 hz' (fun a => by rw [congrFun hz' a]; simp) _).symm

/-- Output 12 at the end: the sum of all the points' parts. -/
abbrev total_12 : Vec Ideal S1x1024 .f32 := fun i => ∑ s : Fin 32, part_12 m c s i

theorem final_12 : (dats m 0 c).arrAt 12 cfg0.N = total_12 m c := by
  have hN : cfg0.N = 32 := N_0
  refine (dats m 0 c).arrAt_eq_of_cover 12 (total_12 m c) (fun t hf => ?_) ((by decide +kernel : (cfg0.win 12).Covers).cover _ (Memref.isWhole_whole _))
  · have h3 : t.val = 31 := by have := (flush0_12 t).mp hf; have := t.isLt; omega
    obtain rfl : t = t0_31 := Fin.ext h3
    show (cfg0.win 12).cut (grid0.coords _) ((dats m 0 c).after 12 _) = _
    rw [after0_12, sum_12]
    have hz' : (fun a => win0_12.index t0_31 a * main_v7_2.ty.shape.size a) = fun _ => 0 := funext fun a => by fin_cases a <;> decide +kernel
    exact (Memref.read_access_unit_zero (Elt Ideal) main_v7_2 hz' (fun a => by rw [congrFun hz' a]; simp) _).symm

open Cert.Proof in
theorem pk_val (v2 v3 : Vec Ideal S256x1024 .f32) (v10 : Vec Ideal S8x1024x256 .bf16) (r : Fin 256) (d : Fin 1024) :
    k0_pay10 v3 (k0_pay4 v10) (k0_pay6 v10) (k0_pay8 v2 v10) (k0_pay9 v2) (ix2 r d)
      = Norm.dh8 (fun k => v2 (ix2 r k)) (fun k => v3 (ix2 r k)) fun j k => v10 (ix3 j d k) := by
  pointwise [k0_pay10, k0_pay4, k0_pay6, k0_pay8, k0_pay9, k0_pay7]
  rfl

open Cert.Proof in
theorem pq_val (v4 : Vec Ideal S256x1024 .f32) (v5 : Vec Ideal S256x1024 .bf16) (v12 : Vec Ideal S8x1024x256 .bf16)
    (r : Fin 256) (d : Fin 1024) : k0_pay16 (k0_pay3 v5) (k0_pay5 v12) (k0_pay13 v4 (k0_pay5 v12)) (k0_pay14 v4)
      (k0_pay15 (k0_pay5 v12)) (constant S256x1024 .f32 0x00000000#32) (ix2 r d)
      = Norm.dh8 (fun k => v4 (ix2 r k)) (fun k => v5 (ix2 r k)) fun j k => v12 (ix3 j d k) := by
  pointwise [k0_pay16, k0_pay3, k0_pay5, k0_pay13, k0_pay14, k0_pay15, k0_pay11, k0_pay12]
  rfl

/-- The cotangent of a norm's output. -/
abbrev DH (y : Vec Ideal S8192x1024 .f32) (z : S8192x1024.Idx → EReal) (w : Vec Ideal S8x1024x256 .bf16)
    (r : Fin 8192) (d : Fin 1024) : EReal :=
  Cert.Proof.Norm.dh8 (fun k => y (ix2 r k)) (fun k => z (ix2 r k)) fun j k => w (ix3 j d k)

/-- The gradient of the layer's input: what came around the layer, and what comes through its two norms. -/
abbrev DX (x dx3 dk dv dq : Vec Ideal S8192x1024 .f32) (dgb : Vec Ideal S8192x1024 .bf16) (gk gp : Vec Ideal S1x1024 .f32)
    (wkv win : Vec Ideal S8x1024x256 .bf16) : Vec Ideal S8192x1024 .f32 :=
  fun i => dx3 i + Cert.Proof.Norm.dx2 (fun k => x (ix2 (i 0) k)) (fun k => gk (ix2 0 k)) (fun k => gp (ix2 0 k))
    (DH dk dv wkv (i 0)) (DH dq dgb win (i 0)) (i 1)

theorem final_10 : (dats m 0 c).arrAt 10 cfg0.N =
    DX (V m c main_arg0) (V m c main_arg5) (V m c main_arg6) (V m c main_arg7) (V m c main_arg8) (V m c main_v6) (V m c main_arg1) (V m c main_arg2) (V m c main_v2) (V m c main_v5) := by
  refine (dats m 0 c).arrAt_eq_of_cover 10 (DX (V m c main_arg0) (V m c main_arg5) (V m c main_arg6) (V m c main_arg7) (V m c main_arg8) (V m c main_v6) (V m c main_arg1) (V m c main_arg2) (V m c main_v2) (V m c main_v5))
    (fun t _ => ?_) tiles_10
  rw [read_10]
  show (cfg0.win 10).cut (grid0.coords t) ((dats m 0 c).after 10 t) = _
  rw [after0_10, after_10, blk_0, blk_1, blk_2, blk_3, blk_4, blk_5, blk_6, blk_7, blk_8, blk_9]
  funext j
  idx_vars j
  show pdx _ _ _ _ _ _ _ _ _ _ (ix2 j0 j1) = _
  unfold pdx
  pointwise [k0_pay26, k0_pay17, k0_pay18, k0_pay19, k0_pay20, k0_pay21, k0_pay22, k0_pay23]
  simp only [pk_val, pq_val]
  rfl

open Cert.Proof in
theorem part_k (t : Fin cfg0.N) (j0 : Fin 1) (j1 : Fin 1024) : part_11 m c t (ix2 j0 j1) =
    ∑ r : Fin 256, Norm.dg (fun k => V m c main_arg0 (ix2 (row t r) k)) (DH (V m c main_arg6) (V m c main_arg7) (V m c main_v2) (row t r)) j1 := by
  unfold part_11
  rw [blk_0, blk_2, blk_3, blk_8]
  unfold pdgk
  pointwise [k0_pay25, k0_pay20, k0_pay18, k0_pay17]
  simp only [pk_val]
  rfl

open Cert.Proof in
theorem part_p (t : Fin cfg0.N) (j0 : Fin 1) (j1 : Fin 1024) : part_12 m c t (ix2 j0 j1) =
    ∑ r : Fin 256, Norm.dg (fun k => V m c main_arg0 (ix2 (row t r) k)) (DH (V m c main_arg8) (V m c main_v6) (V m c main_v5) (row t r)) j1 := by
  unfold part_12
  rw [blk_0, blk_4, blk_5, blk_9]
  unfold pdgp
  pointwise [k0_pay24, k0_pay22, k0_pay21]
  simp only [pq_val]
  rfl

end Cert.Kernel4Ideal.Bin
-- ==== Proof.BinClaims.lean ====
/-
  The claim of the gradient call of the second layer's two norms and projections: its three results are the reference's, index by
  index over the extended reals.
-/
module

public import proofs.«01_k».proof.Proof.BinValue
public import proofs.«01_k».proof.Proof.Gen.Reference4Ideal.Run

@[expose] public section

set_option maxRecDepth 16384

noncomputable section

namespace Cert.Proof.Bin

open Idealize.ShloMosaic TcCoe Idealize.SL.Sem
open Cert.Kernel4Ideal Gen Bin

variable (m : (ℓ : Loc nD τ sig) → Buf (Elt Ideal) ℓ) (ρ : Dev nD → PrngReg)

theorem cast_dgb (c : Dev nD) : (V m c main_v6 : S8192x1024.Idx → EReal) = m ((c : Thread nD τ).loc main_arg9) := by
  show (StableHlo.after hostOps0 (fun b => m (c, b)) (Proc.devRef .tc main_v6) : S8192x1024.Idx → EReal) = _
  after_results_simp <;> rfl
theorem wkv_blocks (c : Dev nD) (j : Fin 8) (d : Fin 1024) (k : Fin 256) : (V m c main_v2 : S8x1024x256.Idx → EReal) (ix3 j d k)
    = (m ((c : Thread nD τ).loc main_arg3) : S1024x2048.Idx → EReal) (ix2 d ⟨j.val * 256 + k.val, by omega⟩) := by
  show (StableHlo.after hostOps0 (fun b => m (c, b)) (Proc.devRef .tc main_v2) : S8x1024x256.Idx → EReal) (ix3 j d k) = _
  after_results_simp
  pointwise
theorem win_blocks (c : Dev nD) (j : Fin 8) (d : Fin 1024) (k : Fin 256) : (V m c main_v5 : S8x1024x256.Idx → EReal) (ix3 j d k)
    = (m ((c : Thread nD τ).loc main_arg4) : S1024x2048.Idx → EReal) (ix2 d ⟨j.val * 256 + k.val, by omega⟩) := by
  show (StableHlo.after hostOps0 (fun b => m (c, b)) (Proc.devRef .tc main_v5) : S8x1024x256.Idx → EReal) (ix3 j d k) = _
  after_results_simp
  pointwise

theorem dhk_eq (c : Dev nD) (y z : Vec Ideal S8192x1024 .f32) (r : Fin 8192) (d : Fin 1024) :
    ∑ k : Fin 1024, y (ix2 r k) * (m ((c : Thread nD τ).loc main_arg3) : S1024x2048.Idx → EReal) (ix2 d ⟨k.val, by omega⟩)
      + ∑ k : Fin 1024, z (ix2 r k) * (m ((c : Thread nD τ).loc main_arg3) : S1024x2048.Idx → EReal) (ix2 d ⟨1024 + k.val, by omega⟩)
      = DH y z (V m c main_v2) r d :=
  Norm.sum_2048 _ _ (fun k => (m ((c : Thread nD τ).loc main_arg3) : S1024x2048.Idx → EReal) (ix2 d k)) _ fun j k => wkv_blocks m c j d k
theorem dhp_eq (c : Dev nD) (y z : Vec Ideal S8192x1024 .f32) (r : Fin 8192) (d : Fin 1024) :
    ∑ k : Fin 1024, y (ix2 r k) * (m ((c : Thread nD τ).loc main_arg4) : S1024x2048.Idx → EReal) (ix2 d ⟨k.val, by omega⟩)
      + ∑ k : Fin 1024, z (ix2 r k) * (m ((c : Thread nD τ).loc main_arg4) : S1024x2048.Idx → EReal) (ix2 d ⟨1024 + k.val, by omega⟩)
      = DH y z (V m c main_v5) r d :=
  Norm.sum_2048 _ _ (fun k => (m ((c : Thread nD τ).loc main_arg4) : S1024x2048.Idx → EReal) (ix2 d k)) _ fun j k => win_blocks m c j d k

set_option maxHeartbeats 2000000 in
theorem algebraic : Cert.algebraic_Kernel4Ideal_Reference4Ideal := by
  intro m ρ m' ρ' _ hagree
  refine ⟨_, _, _, Cert.Kernel4Ideal.Value.run_blocks m ρ, ?_⟩
  refine (θ_run Cert.Reference4Ideal.defs _ _).mono (fun r h c => ?_) (Cert.Reference4Ideal.Value.run (F := Ideal) m' ρ')
  obtain ⟨h0, h1, h2, h3⟩ := h c
  obtain ⟨a0, a1, a2, a3, a4, a5, a6, a7, a8, a9⟩ := hagree c
  clear hagree
  have w0 := cast_dgb m c
  refine ⟨h0.trans ?_, h1.trans ?_, h2.trans ?_, h3⟩
  · rw [final_10, w0, V_main_arg0, V_main_arg1, V_main_arg2, V_main_arg5, V_main_arg6, V_main_arg7, V_main_arg8]
    unfold Cert.Reference4Ideal.Value.res_main_v79
    rw [a0, a1, a2, a3, a4, a5, a6, a7, a8, a9]
    funext j
    idx_vars j
    pointwise
    simp only [dhk_eq m c (m ((c : Thread nD τ).loc main_arg6)) (m ((c : Thread nD τ).loc main_arg7)),
      dhp_eq m c (m ((c : Thread nD τ).loc main_arg8)) (m ((c : Thread nD τ).loc main_arg9))]
    rfl
  · rw [final_11, a0, a3, a6, a7]
    funext j
    idx_vars j
    refine Eq.trans ?_ (Finset.sum_congr rfl fun s _ => (part_k m c s j0 j1).symm)
    rw [V_main_arg0, V_main_arg6, V_main_arg7]
    pointwise
    rw [Sums.sum_blocks (n := 32) (b := 256) (by norm_num) _ (fun s r => by omega)]
    simp only [dhk_eq m c (m ((c : Thread nD τ).loc main_arg6)) (m ((c : Thread nD τ).loc main_arg7))]
  · rw [final_12, a0, a4, a8, a9]
    funext j
    idx_vars j
    refine Eq.trans ?_ (Finset.sum_congr rfl fun s _ => (part_p m c s j0 j1).symm)
    rw [w0, V_main_arg0, V_main_arg8]
    pointwise
    rw [Sums.sum_blocks (n := 32) (b := 256) (by norm_num) _ (fun s r => by omega)]
    simp only [dhp_eq m c (m ((c : Thread nD τ).loc main_arg8)) (m ((c : Thread nD τ).loc main_arg9))]

end Cert.Proof.Bin
-- ==== Proof.AttnDefs.lean ====
/-
  The attention calls as functions of their blocks: what one block of columns does to the carried state.
-/
module

public import proofs.«01_k».proof.Proof.Gen.Kernel5Ideal.Skeleton
public import proofs.«01_k».proof.Proof.Gen.Kernel5Ideal.Regions
public import proofs.«01_k».proof.Proof.Gen.Kernel5Ideal.Points
public import Idealize.ShloMosaic.Lib.VecWindow
public import Idealize.ShloMosaic.Lib.WholeRead

@[expose] public section

set_option maxRecDepth 16384

noncomputable section

namespace Cert.Kernel5Ideal.Attn

open Cert.Kernel5Ideal Gen
open Idealize.ShloMosaic TcCoe

variable {F : FTy → Type} [FloatOps F] [Named F]

/-- Block `j` of 256 rows. -/
def blkAt {α : Type} (X : S8192x256.Idx → α) (j : ℕ) : S256x256.Idx → α :=
  fun y => X (fun a => match a with
    | ⟨0, _⟩ => (Fin.ofNat 8192 (256 * j + (y 0).val) : Fin 8192)
    | ⟨1, _⟩ => (y 1 : Fin 256))

/-- `X` with `w` over block `j` of 256 rows. -/
def putAt {α : Type} (X : S8192x256.Idx → α) (j : ℕ) (w : S256x256.Idx → α) : S8192x256.Idx → α :=
  VecWindow.put X ![256 * j, 0] S256x256.size w

/-- The loop's counter with `n` blocks to go: `n - 1`. -/
def ctr (n : ℕ) : BitVec 32 := BitVec.ofNat 32 n - 1#32

/-- What the forward loop reads and does not change. -/
abbrev Cf (F : FTy → Type) : Type := FVec F S256x256 .bf16 × FVec F S256x256 .bf16 × FVec F S256x256 .bf16 × FVec F S256x256 .bf16 × FVec F S256x256 .bf16

/-- What it carries from one block of columns to the one before. -/
abbrev Sf (F : FTy → Type) : Type := FVec F S256x1 .f32 × FVec F S256x256 .f32 × FVec F S256x256 .f32 × FVec F S256x1 .f32 × FVec F S256x256 .f32 × FVec F S256x256 .f32 × FVec F S256x1 .f32 × FVec F S256x256 .f32 × FVec F S256x256 .f32 × FVec F S256x1 .f32 × FVec F S256x256 .f32 × FVec F S256x256 .f32

/-- The block on the diagonal: what the loop starts with. -/
def fPre (v28 : Vec F S256x256 .bf16) (v54 : Vec F S256x256 .bf16) (v57 : Vec F S256x256 .bf16) : Cf F × Sf F :=
  let v2 : IVec S256x256 1 := k0_pay15
  let v6 : FVec F S256x256 .bf16 := k0_pay16 (F := F)
  let v12 : IVec S1x256 1 := k0_pay17
  let v17 : IVec S1x256 1 := k0_pay18
  let v22 : IVec S1x256 1 := k0_pay19
  let v27 : IVec S1x256 1 := k0_pay20
  let v29 : FVec F S256x256 .bf16 := k0_pay21 v28
  let v33 : FVec F S256x256 .bf16 := k0_pay22 v28
  let v37 : FVec F S256x256 .bf16 := k0_pay23 v28
  let v41 : FVec F S256x256 .bf16 := k0_pay24 v28
  let v42 : FVec F S256x256 .bf16 := k0_pay25 (F := F)
  let v43 : IVec S1x256 1 := k0_pay26
  let cst_27 : F .f32 := Scalar.ofBits .f32 0x00000000#32
  let v45 : FVec F S256x256 .bf16 := k0_pay27 v29 v42 v43
  let v46 : FVec F S256x256 .f32 := k0_pay28 (F := F)
  let v47 : FVec F S256x1 .f32 := k0_pay29 (F := F)
  let v48 : FVec F S256x1 .f32 := k0_pay30 (F := F)
  let v49 : FVec F S256x1 .f32 := k0_pay31 (F := F)
  let v50 : FVec F S256x1 .f32 := k0_pay32 (F := F)
  let v58 : FVec F S256x256 .bf16 := k0_pay34 v57
  let v61 : FVec F S256x256 .f32 := k0_pay35 v33 v54
  let v64 : FVec F S256x256 .f32 := k0_pay36 v37 v54
  let v67 : FVec F S256x256 .f32 := k0_pay37 v41 v54
  let v70 : FVec F S256x256 .f32 := k0_pay38 v29 v42 v43 v54
  let v82 : FVec F S256x256 .f32 := k0_pay39 v33 v54
  let v120 : FVec F S256x256 .f32 := k0_pay40 v2 v82
  let v122 : FVec F S256x256 .f32 := k0_pay41 v2 v64 cst_27
  let v124 : FVec F S256x256 .f32 := k0_pay42 v2 v67
  let v126 : FVec F S256x256 .f32 := k0_pay43 v2 v70
  let v127 : FVec F S256x256 .bf16 := k0_pay44 v2 v82
  let v164 : FVec F S256x256 .f32 := k0_pay45 v6 v48 v64 v122
  let v169 : FVec F S256x256 .f32 := k0_pay46 v6 v49 v67 v124
  let v174 : FVec F S256x256 .f32 := k0_pay47 v6 v50 v70 v126
  let v176 : FVec F S256x256 .f32 := k0_pay48 v2 v6 v47 v61 v120 v127
  let v177 : FVec F S256x256 .f32 := k0_pay49 (F := F)
  let v198 : FVec F S256x256 .bf16 := k0_pay57 v2 v174
  let v201 : FVec F S256x1 .f32 := k0_pay58 v47 v120
  let v203 : FVec F S256x256 .f32 := k0_pay59 v46 v58 v176
  let v205 : FVec F S256x256 .f32 := k0_pay60 v46 v58 v176
  let v208 : FVec F S256x1 .f32 := k0_pay61 v48 v122
  let v210 : FVec F S256x256 .f32 := k0_pay62 v2 v46 v58 v164 v177
  let v212 : FVec F S256x256 .f32 := k0_pay63 v2 v46 v58 v164 v177
  let v215 : FVec F S256x1 .f32 := k0_pay64 v49 v124
  let v217 : FVec F S256x256 .f32 := k0_pay65 v2 v46 v58 v169
  let v219 : FVec F S256x256 .f32 := k0_pay66 v2 v46 v58 v169
  let v222 : FVec F S256x1 .f32 := k0_pay67 v50 v126
  let v224 : FVec F S256x256 .f32 := k0_pay68 v2 v46 v58 v174
  ((v33, v37, v41, v45, v6), (v201, v203, v205, v208, v210, v212, v215, v217, v219, v222, v224, k0_pay69 v46 v58 v198))

/-- What the body writes of the loop's last state. -/
def fOut0 (st : Sf F) : FVec F S256x256 .f32 :=
  let v12 : IVec S1x256 1 := k0_pay17
  let v17 : IVec S1x256 1 := k0_pay18
  let v22 : IVec S1x256 1 := k0_pay19
  let v27 : IVec S1x256 1 := k0_pay20
  let v228_1 : FVec F S256x1 .f32 := st.1
  let v228_2 : FVec F S256x256 .f32 := st.2.1
  let v228_3 : FVec F S256x256 .f32 := st.2.2.1
  let v228_4 : FVec F S256x1 .f32 := st.2.2.2.1
  let v228_5 : FVec F S256x256 .f32 := st.2.2.2.2.1
  let v228_6 : FVec F S256x256 .f32 := st.2.2.2.2.2.1
  let v228_7 : FVec F S256x1 .f32 := st.2.2.2.2.2.2.1
  let v228_8 : FVec F S256x256 .f32 := st.2.2.2.2.2.2.2.1
  let v228_9 : FVec F S256x256 .f32 := st.2.2.2.2.2.2.2.2.1
  let v228_10 : FVec F S256x1 .f32 := st.2.2.2.2.2.2.2.2.2.1
  let v228_11 : FVec F S256x256 .f32 := st.2.2.2.2.2.2.2.2.2.2.1
  let v228_12 : FVec F S256x256 .f32 := st.2.2.2.2.2.2.2.2.2.2.2
  let v266 : FVec F S256x256 .f32 := k0_pay71 v12 v17 v22 v228_3 v228_6 v228_9
  let v268 : IVec S256x256 1 := k0_pay72 v27
  let v269 : FVec F S256x256 .f32 := k0_pay73 (F := F)
  (k0_pay70 v12 v17 v22 v27 v228_2 v228_5 v228_8 v228_11)

/-- What the body writes of the loop's last state. -/
def fOut1 (st : Sf F) : FVec F S256x256 .f32 :=
  let v12 : IVec S1x256 1 := k0_pay17
  let v17 : IVec S1x256 1 := k0_pay18
  let v22 : IVec S1x256 1 := k0_pay19
  let v27 : IVec S1x256 1 := k0_pay20
  let v228_1 : FVec F S256x1 .f32 := st.1
  let v228_2 : FVec F S256x256 .f32 := st.2.1
  let v228_3 : FVec F S256x256 .f32 := st.2.2.1
  let v228_4 : FVec F S256x1 .f32 := st.2.2.2.1
  let v228_5 : FVec F S256x256 .f32 := st.2.2.2.2.1
  let v228_6 : FVec F S256x256 .f32 := st.2.2.2.2.2.1
  let v228_7 : FVec F S256x1 .f32 := st.2.2.2.2.2.2.1
  let v228_8 : FVec F S256x256 .f32 := st.2.2.2.2.2.2.2.1
  let v228_9 : FVec F S256x256 .f32 := st.2.2.2.2.2.2.2.2.1
  let v228_10 : FVec F S256x1 .f32 := st.2.2.2.2.2.2.2.2.2.1
  let v228_11 : FVec F S256x256 .f32 := st.2.2.2.2.2.2.2.2.2.2.1
  let v228_12 : FVec F S256x256 .f32 := st.2.2.2.2.2.2.2.2.2.2.2
  let v266 : FVec F S256x256 .f32 := k0_pay71 v12 v17 v22 v228_3 v228_6 v228_9
  let v268 : IVec S256x256 1 := k0_pay72 v27
  let v269 : FVec F S256x256 .f32 := k0_pay73 (F := F)
  (k0_pay1 v228_12 v266 v268 v269)

/-- Whether any weight may still be above the smallest number. -/
def fAlive (st : Sf F) : BitVec 1 :=
  let arg8 : FVec F S256x1 .f32 := st.1
  let arg9 : FVec F S256x256 .f32 := st.2.1
  let arg10 : FVec F S256x256 .f32 := st.2.2.1
  let arg11 : FVec F S256x1 .f32 := st.2.2.2.1
  let arg12 : FVec F S256x256 .f32 := st.2.2.2.2.1
  let arg13 : FVec F S256x256 .f32 := st.2.2.2.2.2.1
  let arg14 : FVec F S256x1 .f32 := st.2.2.2.2.2.2.1
  let arg15 : FVec F S256x256 .f32 := st.2.2.2.2.2.2.2.1
  let arg16 : FVec F S256x256 .f32 := st.2.2.2.2.2.2.2.2.1
  let arg17 : FVec F S256x1 .f32 := st.2.2.2.2.2.2.2.2.2.1
  let arg18 : FVec F S256x256 .f32 := st.2.2.2.2.2.2.2.2.2.2.1
  let arg19 : FVec F S256x256 .f32 := st.2.2.2.2.2.2.2.2.2.2.2
  let cst_83 : F .f32 := Named.named κ "never" 0xC2D00000#32
  let v278 : BitVec 1 := Scalar.cmpf .ogt (k0_pay2 arg8) cst_83
  let cst_85 : F .f32 := Named.named κ "never" 0xC2D00000#32
  let v283 : BitVec 1 := Scalar.cmpf .ogt (k0_pay3 arg11) cst_85
  let v284 : BitVec 1 := Scalar.ori v278 v283
  let cst_87 : F .f32 := Named.named κ "never" 0xC2D00000#32
  let v289 : BitVec 1 := Scalar.cmpf .ogt (k0_pay4 arg14) cst_87
  let v290 : BitVec 1 := Scalar.ori v284 v289
  let cst_89 : F .f32 := Named.named κ "never" 0xC2D00000#32
  let v295 : BitVec 1 := Scalar.cmpf .ogt (k0_pay5 arg17) cst_89
  let v296 : BitVec 1 := Scalar.ori v290 v295
  v296

/-- One block of columns below the diagonal. -/
def fStep (cs : Cf F) (v277 : Vec F S256x256 .bf16) (v280 : Vec F S256x256 .bf16) (st : Sf F) : Sf F :=
  let v33 : FVec F S256x256 .bf16 := cs.1
  let v37 : FVec F S256x256 .bf16 := cs.2.1
  let v41 : FVec F S256x256 .bf16 := cs.2.2.1
  let v45 : FVec F S256x256 .bf16 := cs.2.2.2.1
  let v6 : FVec F S256x256 .bf16 := cs.2.2.2.2
  let arg8 : FVec F S256x1 .f32 := st.1
  let arg9 : FVec F S256x256 .f32 := st.2.1
  let arg10 : FVec F S256x256 .f32 := st.2.2.1
  let arg11 : FVec F S256x1 .f32 := st.2.2.2.1
  let arg12 : FVec F S256x256 .f32 := st.2.2.2.2.1
  let arg13 : FVec F S256x256 .f32 := st.2.2.2.2.2.1
  let arg14 : FVec F S256x1 .f32 := st.2.2.2.2.2.2.1
  let arg15 : FVec F S256x256 .f32 := st.2.2.2.2.2.2.2.1
  let arg16 : FVec F S256x256 .f32 := st.2.2.2.2.2.2.2.2.1
  let arg17 : FVec F S256x1 .f32 := st.2.2.2.2.2.2.2.2.2.1
  let arg18 : FVec F S256x256 .f32 := st.2.2.2.2.2.2.2.2.2.2.1
  let arg19 : FVec F S256x256 .f32 := st.2.2.2.2.2.2.2.2.2.2.2
  let v281 : FVec F S256x256 .bf16 := k0_pay75 v280
  let v284 : FVec F S256x256 .f32 := k0_pay76 v33 v277
  let v287 : FVec F S256x256 .f32 := k0_pay77 v37 v277
  let v290 : FVec F S256x256 .f32 := k0_pay78 v41 v277
  let v293 : FVec F S256x256 .f32 := k0_pay79 v45 v277
  let v305 : FVec F S256x256 .f32 := k0_pay80 v33 v277
  let v307 : FVec F S256x256 .f32 := k0_pay81 v37 v277
  let v311 : FVec F S256x256 .f32 := k0_pay82 v37 v277
  let v312 : FVec F S256x256 .f32 := k0_pay83 (F := F)
  let cst_111 : FVec F S256x256 .f32 := constant S256x256 .f32 0x00000000#32
  let v317 : FVec F S256x256 .f32 := k0_pay84 v307 v311 v312
  let v329 : FVec F S256x256 .f32 := k0_pay85 v290
  let v341 : FVec F S256x256 .f32 := k0_pay86 v293
  let v346 : FVec F S256x256 .bf16 := k0_pay87 v307 v311 v312
  let v349 : FVec F S256x256 .bf16 := k0_pay88 v307 v311 v312
  let v350 : FVec F S256x256 .bf16 := k0_pay89 v290
  let v353 : FVec F S256x256 .bf16 := k0_pay90 v290
  let v354 : FVec F S256x256 .bf16 := k0_pay91 v293
  let v357 : FVec F S256x256 .bf16 := k0_pay92 v293
  let v360 : FVec F S256x256 .f32 := k0_pay93 v6 v305
  let v394 : FVec F S256x256 .bf16 := k0_pay99 v6 arg11 v287 v317 v346 v349 cst_111
  let v397 : FVec F S256x256 .bf16 := k0_pay100 v6 arg11 v287 v317 v346 v349 cst_111
  let v398 : FVec F S256x256 .bf16 := k0_pay101 v6 arg14 v290 v329 v350 v353
  let v401 : FVec F S256x256 .bf16 := k0_pay102 v6 arg14 v290 v329 v350 v353
  let v402 : FVec F S256x256 .bf16 := k0_pay103 v6 arg17 v293 v341 v354 v357
  let v405 : FVec F S256x256 .bf16 := k0_pay104 v6 arg17 v293 v341 v354 v357
  let v408 : FVec F S256x1 .f32 := k0_pay105 arg8 v305
  let v410 : FVec F S256x256 .f32 := k0_pay106 arg8 arg9 v281 v284 v305 v360
  let v412 : FVec F S256x256 .f32 := k0_pay107 arg8 arg10 v281 v284 v305 v360
  ((v408, v410, v412, k0_pay6 arg11 v317, k0_pay7 arg12 v281 v394, k0_pay8 arg13 v281 v397, k0_pay9 arg14 v329, k0_pay10 arg15 v281 v398, k0_pay11 arg16 v281 v401, k0_pay12 arg17 v341, k0_pay13 arg18 v281 v402, k0_pay14 arg19 v281 v405))

/-- What the backward loop reads and does not change. -/
abbrev Cb (F : FTy → Type) : Type := FVec F S256x256 .bf16 × FVec F S256x256 .bf16 × FVec F S256x256 .bf16 × FVec F S256x256 .bf16 × FVec F S256x256 .bf16 × FVec F S256x256 .bf16 × FVec F S256x256 .bf16 × FVec F S256x256 .bf16 × FVec F S256x256 .bf16 × FVec F S256x256 .bf16 × FVec F S256x1 .f32 × FVec F S256x1 .f32 × FVec F S256x1 .f32 × FVec F S256x1 .f32

/-- What it carries from one block of columns to the one before. -/
abbrev Sb (F : FTy → Type) : Type := FVec F S256x1 .f32 × FVec F S256x1 .f32 × FVec F S256x256 .f32 × FVec F S256x1 .f32 × FVec F S256x1 .f32 × FVec F S256x256 .f32 × FVec F S256x1 .f32 × FVec F S256x1 .f32 × FVec F S256x256 .f32 × FVec F S256x1 .f32 × FVec F S256x1 .f32 × FVec F S256x256 .f32

/-- The block on the diagonal: what the loop starts with. -/
def bPre (v35 : Vec F S256x256 .bf16) (v37 : Vec F S256x256 .f32) (v40 : Vec F S256x256 .f32) (v42 : Vec F S256x256 .f32) (v114 : Vec F S256x256 .bf16) (v117 : Vec F S256x256 .bf16) (v394 : Vec F S256x256 .f32) (v400 : Vec F S256x256 .f32) : Cb F × Sb F × FVec F S256x256 .f32 × FVec F S256x256 .f32 :=
  let v5 : IVec S256x256 1 := k1_pay8
  let v9 : FVec F S256x256 .bf16 := k1_pay9 (F := F)
  let v13 : FVec F S256x256 .bf16 := k1_pay10 (F := F)
  let v19 : IVec S1x256 1 := k1_pay11
  let v24 : IVec S1x256 1 := k1_pay12
  let v29 : IVec S1x256 1 := k1_pay13
  let v34 : IVec S1x256 1 := k1_pay14
  let v36 : FVec F S256x256 .bf16 := k1_pay15 v35
  let v39 : FVec F S256x256 .f32 := k1_pay16 v37
  let cst_21 : F .f32 := Scalar.ofBits .f32 0x00000000#32
  let v45 : FVec F S256x256 .f32 := k1_pay17 v39 v40 v42
  let v49 : FVec F S256x256 .bf16 := k1_pay18 v19 v36
  let v53 : FVec F S256x256 .bf16 := k1_pay19 v24 v36
  let v57 : FVec F S256x256 .bf16 := k1_pay20 v29 v36
  let v61 : FVec F S256x256 .bf16 := k1_pay21 v34 v36
  let v66 : FVec F S256x256 .bf16 := k1_pay22 v19 v37
  let v71 : FVec F S256x256 .bf16 := k1_pay23 v24 v37
  let v76 : FVec F S256x256 .bf16 := k1_pay24 v29 v37
  let v81 : FVec F S256x256 .bf16 := k1_pay25 v34 v37
  let v87 : FVec F S256x1 .f32 := k1_pay26 v19 v39 v40 v42
  let cst_41 : FVec F S256x256 .f32 := constant S256x256 .f32 0x00000000#32
  let v93 : FVec F S256x1 .f32 := k1_pay27 v24 v45 cst_21
  let v99 : FVec F S256x1 .f32 := k1_pay28 v29 v45
  let v105 : FVec F S256x1 .f32 := k1_pay29 v34 v45
  let v106 : FVec F S256x1 .f32 := k1_pay30 (F := F)
  let v107 : FVec F S256x256 .f32 := k1_pay31 (F := F)
  let v108 : FVec F S256x256 .f32 := k1_pay32 (F := F)
  let v109 : FVec F S256x256 .f32 := k1_pay33 (F := F)
  let v110 : FVec F S256x256 .f32 := k1_pay34 (F := F)
  let v115 : FVec F S256x256 .bf16 := k1_pay35 v114
  let v118 : FVec F S256x256 .bf16 := k1_pay36 v117
  let v121 : FVec F S256x256 .f32 := k1_pay37 v49 v114
  let v124 : FVec F S256x256 .f32 := k1_pay38 v53 v114
  let v127 : FVec F S256x256 .f32 := k1_pay39 v57 v114
  let v130 : FVec F S256x256 .f32 := k1_pay40 v61 v115 cst_41
  let v142 : FVec F S256x256 .f32 := k1_pay41 v121
  let v154 : FVec F S256x256 .f32 := k1_pay42 v124
  let v166 : FVec F S256x256 .f32 := k1_pay43 v127
  let v168 : FVec F S256x256 .f32 := k1_pay44 v61 v115 cst_41
  let v172 : FVec F S256x256 .f32 := k1_pay45 v61 v115 cst_41
  let v180 : FVec F S256x256 .f32 := k1_pay46 v5 v142
  let v182 : FVec F S256x256 .f32 := k1_pay47 v5 v154
  let v184 : FVec F S256x256 .f32 := k1_pay48 v5 v166
  let v186 : FVec F S256x256 .f32 := k1_pay49 v5 v168 v172
  let v208 : FVec F S256x256 .f32 := k1_pay50 v5 v9 v154
  let v211 : FVec F S256x256 .f32 := k1_pay51 v5 v9 v166
  let v214 : FVec F S256x256 .f32 := k1_pay52 v5 v9 v168 v172
  let v218 : FVec F S256x256 .f32 := k1_pay53 v5 v9 v106 v121 v142
  let v236 : FVec F S256x256 .f32 := k1_pay54 v5 v218
  let v238 : FVec F S256x256 .f32 := k1_pay55 v5 v106 v124 v182 v208
  let v240 : FVec F S256x256 .f32 := k1_pay56 v5 v106 v127 v184 v211
  let v242 : FVec F S256x256 .f32 := k1_pay57 v5 v106 v130 v186 v214
  let v247 : FVec F S256x256 .f32 := k1_pay58 v5 v66 v118 v218
  let v248 : FVec F S256x256 .f32 := k1_pay59 v5 v71 v106 v118 v124 v182 v208
  let v249 : FVec F S256x256 .f32 := k1_pay60 v5 v76 v106 v118 v127 v184 v211
  let v250 : FVec F S256x256 .f32 := k1_pay61 v5 v81 v106 v118 v130 v186 v214
  let v255 : FVec F S256x256 .bf16 := k1_pay63 v5 v71 v106 v118 v124 v182 v208
  let v258 : FVec F S256x256 .bf16 := k1_pay64 v5 v71 v106 v118 v124 v182 v208
  let v259 : FVec F S256x256 .bf16 := k1_pay65 v5 v76 v106 v118 v127 v184 v211
  let v262 : FVec F S256x256 .bf16 := k1_pay66 v5 v76 v106 v118 v127 v184 v211
  let v263 : FVec F S256x256 .bf16 := k1_pay67 v5 v81 v106 v118 v130 v186 v214
  let v266 : FVec F S256x256 .bf16 := k1_pay68 v5 v81 v106 v118 v130 v186 v214
  let v267 : FVec F S256x256 .f32 := k1_pay69 v5 v13 v66 v118 v218
  let v268 : FVec F S256x256 .f32 := k1_pay70 v5 v13 v66 v118 v218
  let v275 : FVec F S256x256 .f32 := k1_pay71 v13 v259 v262
  let v278 : FVec F S256x256 .f32 := k1_pay72 v13 v263 v266
  let v293 : FVec F S256x256 .bf16 := k1_pay73 v5 v87 v106 v121 v180 v247 v267 v268
  let v308 : FVec F S256x256 .bf16 := k1_pay74 v5 v13 v93 v106 v124 v182 v248 v255 v258
  let v310 : FVec F S256x256 .f32 := k1_pay75 v127 v184
  let v313 : FVec F S256x256 .f32 := k1_pay76 v127 v184 v249
  let v315 : FVec F S256x256 .f32 := k1_pay77 v99 v106
  let v323 : FVec F S256x256 .bf16 := k1_pay78 v5 v275 v310 v313 v315
  let v338 : FVec F S256x256 .bf16 := k1_pay79 v5 v105 v106 v130 v186 v250 v278
  let v347 : FVec F S256x256 .f32 := k1_pay80 v5 v49 v53 v57 v61 v105 v106 v130 v186 v250 v275 v278 v293 v308 v310 v313 v315
  let v360 : FVec F S256x256 .f32 := k1_pay81 v66 v71 v76 v81 v236 v238 v240 v242
  let v398 : Vec F S256x256 .f32 := v394
  let v363 : FVec F S256x1 .f32 := k1_pay82 v106 v180
  let v366 : FVec F S256x1 .f32 := k1_pay83 v106 v247
  let v368 : FVec F S256x256 .f32 := k1_pay84 v107 v115 v293
  let v371 : FVec F S256x1 .f32 := k1_pay85 v106 v182
  let v374 : FVec F S256x1 .f32 := k1_pay86 v106 v248
  let v376 : FVec F S256x256 .f32 := k1_pay87 v108 v115 v308
  let v379 : FVec F S256x1 .f32 := k1_pay88 v106 v184
  let v382 : FVec F S256x1 .f32 := k1_pay89 v106 v249
  let v384 : FVec F S256x256 .f32 := k1_pay90 v109 v115 v323
  let v387 : FVec F S256x1 .f32 := k1_pay91 v106 v186
  let v390 : FVec F S256x1 .f32 := k1_pay92 v106 v250
  let v392 : FVec F S256x256 .f32 := k1_pay93 v110 v115 v338
  let v402 : FVec F S256x256 .f32 := k1_pay95 v360 v400
  let v404 : Vec F S256x256 .f32 := v400
  ((v49, v53, v57, v61, v9, v66, v71, v76, v81, v13, v87, v93, v99, v105), (v363, v366, v368, v371, v374, v376, v379, v382, v384, v387, v390, v392), (k1_pay94 v347 v394), v402)

/-- What the body writes of the loop's last state. -/
def bOut0 (st : Sb F) : FVec F S256x256 .f32 :=
  let v19 : IVec S1x256 1 := k1_pay11
  let v24 : IVec S1x256 1 := k1_pay12
  let v29 : IVec S1x256 1 := k1_pay13
  let v34 : IVec S1x256 1 := k1_pay14
  let v406_1 : FVec F S256x1 .f32 := st.1
  let v406_2 : FVec F S256x1 .f32 := st.2.1
  let v406_3 : FVec F S256x256 .f32 := st.2.2.1
  let v406_4 : FVec F S256x1 .f32 := st.2.2.2.1
  let v406_5 : FVec F S256x1 .f32 := st.2.2.2.2.1
  let v406_6 : FVec F S256x256 .f32 := st.2.2.2.2.2.1
  let v406_7 : FVec F S256x1 .f32 := st.2.2.2.2.2.2.1
  let v406_8 : FVec F S256x1 .f32 := st.2.2.2.2.2.2.2.1
  let v406_9 : FVec F S256x256 .f32 := st.2.2.2.2.2.2.2.2.1
  let v406_10 : FVec F S256x1 .f32 := st.2.2.2.2.2.2.2.2.2.1
  let v406_11 : FVec F S256x1 .f32 := st.2.2.2.2.2.2.2.2.2.2.1
  let v406_12 : FVec F S256x256 .f32 := st.2.2.2.2.2.2.2.2.2.2.2
  (k1_pay1 v19 v24 v29 v34 v406_3 v406_6 v406_9 v406_12)

/-- Whether any weight may still be above the smallest number. -/
def bAlive (st : Sb F) : BitVec 1 :=
  let arg12 : FVec F S256x1 .f32 := st.1
  let arg13 : FVec F S256x1 .f32 := st.2.1
  let arg14 : FVec F S256x256 .f32 := st.2.2.1
  let arg15 : FVec F S256x1 .f32 := st.2.2.2.1
  let arg16 : FVec F S256x1 .f32 := st.2.2.2.2.1
  let arg17 : FVec F S256x256 .f32 := st.2.2.2.2.2.1
  let arg18 : FVec F S256x1 .f32 := st.2.2.2.2.2.2.1
  let arg19 : FVec F S256x1 .f32 := st.2.2.2.2.2.2.2.1
  let arg20 : FVec F S256x256 .f32 := st.2.2.2.2.2.2.2.2.1
  let arg21 : FVec F S256x1 .f32 := st.2.2.2.2.2.2.2.2.2.1
  let arg22 : FVec F S256x1 .f32 := st.2.2.2.2.2.2.2.2.2.2.1
  let arg23 : FVec F S256x256 .f32 := st.2.2.2.2.2.2.2.2.2.2.2
  let cst_134 : F .f32 := Named.named κ "never" 0xC2D00000#32
  let v434 : BitVec 1 := Scalar.cmpf .ogt (k1_pay2 arg12) cst_134
  let cst_136 : F .f32 := Named.named κ "never" 0xC2D00000#32
  let v439 : BitVec 1 := Scalar.cmpf .ogt (k1_pay3 arg15) cst_136
  let v440 : BitVec 1 := Scalar.ori v434 v439
  let cst_138 : F .f32 := Named.named κ "never" 0xC2D00000#32
  let v445 : BitVec 1 := Scalar.cmpf .ogt (k1_pay4 arg18) cst_138
  let v446 : BitVec 1 := Scalar.ori v440 v445
  let cst_140 : F .f32 := Named.named κ "never" 0xC2D00000#32
  let v451 : BitVec 1 := Scalar.cmpf .ogt (k1_pay5 arg21) cst_140
  let v452 : BitVec 1 := Scalar.ori v446 v451
  v452

/-- One block of columns below the diagonal. -/
def bStep (cs : Cb F) (v433 : Vec F S256x256 .bf16) (v436 : Vec F S256x256 .bf16) (v689 : Vec F S256x256 .f32) (v695 : Vec F S256x256 .f32) (st : Sb F) : Sb F × FVec F S256x256 .f32 × FVec F S256x256 .f32 :=
  let v49 : FVec F S256x256 .bf16 := cs.1
  let v53 : FVec F S256x256 .bf16 := cs.2.1
  let v57 : FVec F S256x256 .bf16 := cs.2.2.1
  let v61 : FVec F S256x256 .bf16 := cs.2.2.2.1
  let v9 : FVec F S256x256 .bf16 := cs.2.2.2.2.1
  let v66 : FVec F S256x256 .bf16 := cs.2.2.2.2.2.1
  let v71 : FVec F S256x256 .bf16 := cs.2.2.2.2.2.2.1
  let v76 : FVec F S256x256 .bf16 := cs.2.2.2.2.2.2.2.1
  let v81 : FVec F S256x256 .bf16 := cs.2.2.2.2.2.2.2.2.1
  let v13 : FVec F S256x256 .bf16 := cs.2.2.2.2.2.2.2.2.2.1
  let v87 : FVec F S256x1 .f32 := cs.2.2.2.2.2.2.2.2.2.2.1
  let v93 : FVec F S256x1 .f32 := cs.2.2.2.2.2.2.2.2.2.2.2.1
  let v99 : FVec F S256x1 .f32 := cs.2.2.2.2.2.2.2.2.2.2.2.2.1
  let v105 : FVec F S256x1 .f32 := cs.2.2.2.2.2.2.2.2.2.2.2.2.2
  let arg12 : FVec F S256x1 .f32 := st.1
  let arg13 : FVec F S256x1 .f32 := st.2.1
  let arg14 : FVec F S256x256 .f32 := st.2.2.1
  let arg15 : FVec F S256x1 .f32 := st.2.2.2.1
  let arg16 : FVec F S256x1 .f32 := st.2.2.2.2.1
  let arg17 : FVec F S256x256 .f32 := st.2.2.2.2.2.1
  let arg18 : FVec F S256x1 .f32 := st.2.2.2.2.2.2.1
  let arg19 : FVec F S256x1 .f32 := st.2.2.2.2.2.2.2.1
  let arg20 : FVec F S256x256 .f32 := st.2.2.2.2.2.2.2.2.1
  let arg21 : FVec F S256x1 .f32 := st.2.2.2.2.2.2.2.2.2.1
  let arg22 : FVec F S256x1 .f32 := st.2.2.2.2.2.2.2.2.2.2.1
  let arg23 : FVec F S256x256 .f32 := st.2.2.2.2.2.2.2.2.2.2.2
  let v434 : FVec F S256x256 .bf16 := k1_pay96 v433
  let v437 : FVec F S256x256 .bf16 := k1_pay97 v436
  let v440 : FVec F S256x256 .f32 := k1_pay98 v49 v433
  let v443 : FVec F S256x256 .f32 := k1_pay99 v53 v433
  let v446 : FVec F S256x256 .f32 := k1_pay100 v57 v433
  let v449 : FVec F S256x256 .f32 := k1_pay101 v61 v433
  let v461 : FVec F S256x256 .f32 := k1_pay102 v49 v433
  let v463 : FVec F S256x256 .f32 := k1_pay103 v53 v433
  let v467 : FVec F S256x256 .f32 := k1_pay104 v53 v433
  let v468 : FVec F S256x256 .f32 := k1_pay105 (F := F)
  let cst_162 : FVec F S256x256 .f32 := constant S256x256 .f32 0x00000000#32
  let v473 : FVec F S256x256 .f32 := k1_pay106 v463 v467 v468
  let v485 : FVec F S256x256 .f32 := k1_pay107 v446
  let v497 : FVec F S256x256 .f32 := k1_pay108 v449
  let v502 : FVec F S256x256 .bf16 := k1_pay109 v463 v467 v468
  let v505 : FVec F S256x256 .bf16 := k1_pay110 v463 v467 v468
  let v506 : FVec F S256x256 .bf16 := k1_pay111 v446
  let v509 : FVec F S256x256 .bf16 := k1_pay112 v446
  let v510 : FVec F S256x256 .bf16 := k1_pay113 v449
  let v513 : FVec F S256x256 .bf16 := k1_pay114 v449
  let v516 : FVec F S256x256 .f32 := k1_pay115 v9 v461
  let v530 : FVec F S256x256 .f32 := k1_pay116 arg12 v440 v461 v516
  let v535 : FVec F S256x256 .f32 := k1_pay117 v9 arg15 v443 v473 v502 v505 cst_162
  let v540 : FVec F S256x256 .f32 := k1_pay118 v9 arg18 v446 v485 v506 v509
  let v545 : FVec F S256x256 .f32 := k1_pay119 v9 arg21 v449 v497 v510 v513
  let v550 : FVec F S256x256 .f32 := k1_pay120 v66 arg12 v437 v440 v461 v516
  let v551 : FVec F S256x256 .f32 := k1_pay121 v9 v71 arg15 v437 v443 v473 v502 v505 cst_162
  let v552 : FVec F S256x256 .f32 := k1_pay122 v9 v76 arg18 v437 v446 v485 v506 v509
  let v553 : FVec F S256x256 .f32 := k1_pay123 v9 v81 arg21 v437 v449 v497 v510 v513
  let v554 : FVec F S256x256 .bf16 := k1_pay124 v66 arg12 v437 v440 v461 v516
  let v557 : FVec F S256x256 .bf16 := k1_pay125 v66 arg12 v437 v440 v461 v516
  let v558 : FVec F S256x256 .bf16 := k1_pay126 v9 v71 arg15 v437 v443 v473 v502 v505 cst_162
  let v561 : FVec F S256x256 .bf16 := k1_pay127 v9 v71 arg15 v437 v443 v473 v502 v505 cst_162
  let v562 : FVec F S256x256 .bf16 := k1_pay128 v9 v76 arg18 v437 v446 v485 v506 v509
  let v565 : FVec F S256x256 .bf16 := k1_pay129 v9 v76 arg18 v437 v446 v485 v506 v509
  let v566 : FVec F S256x256 .bf16 := k1_pay130 v9 v81 arg21 v437 v449 v497 v510 v513
  let v567 : FVec F S256x256 .f32 := k1_pay131 v9 v81 arg21 v437 v449 v497 v510 v513
  let v578 : FVec F S256x256 .f32 := k1_pay132 v13 v562 v565
  let v581 : FVec F S256x256 .f32 := k1_pay133 v13 v553 v566 v567
  let v594 : FVec F S256x256 .bf16 := k1_pay134 v13 v87 arg13 v440 v461 v550 v554 v557
  let v607 : FVec F S256x256 .bf16 := k1_pay135 v13 v93 arg16 v443 v473 v551 v558 v561
  let v609 : FVec F S256x256 .f32 := k1_pay136 v446 v485
  let v612 : FVec F S256x256 .f32 := k1_pay137 v446 v485 v552
  let v614 : FVec F S256x256 .f32 := k1_pay138 v99 arg19
  let v620 : FVec F S256x256 .bf16 := k1_pay139 v578 v609 v612 v614
  let v633 : FVec F S256x256 .bf16 := k1_pay140 v105 arg22 v449 v497 v553 v581
  let v642 : FVec F S256x256 .f32 := k1_pay141 v49 v53 v57 v61 v105 arg22 v449 v497 v553 v578 v581 v594 v607 v609 v612 v614
  let v655 : FVec F S256x256 .f32 := k1_pay142 v66 v71 v76 v81 v530 v535 v540 v545
  let v658 : FVec F S256x1 .f32 := k1_pay143 arg12 v461
  let v659 : FVec F S256 .f32 := k1_pay144 v550
  let v693 : Vec F S256x256 .f32 := v689
  let v699 : Vec F S256x256 .f32 := v695
  let v661 : FVec F S256x1 .f32 := k1_pay145 arg13 v659
  let v663 : FVec F S256x256 .f32 := k1_pay146 arg14 v434 v594
  let v666 : FVec F S256x1 .f32 := k1_pay147 arg15 v473
  let v669 : FVec F S256x1 .f32 := k1_pay148 arg16 v551
  let v671 : FVec F S256x256 .f32 := k1_pay149 arg17 v434 v607
  let v674 : FVec F S256x1 .f32 := k1_pay150 arg18 v485
  let v677 : FVec F S256x1 .f32 := k1_pay151 arg19 v552
  let v679 : FVec F S256x256 .f32 := k1_pay152 arg20 v434 v620
  let v682 : FVec F S256x1 .f32 := k1_pay153 arg21 v497
  let v685 : FVec F S256x1 .f32 := k1_pay154 arg22 v553
  let v687 : FVec F S256x256 .f32 := k1_pay155 arg23 v434 v633
  let v697 : FVec F S256x256 .f32 := k1_pay157 v655 v695
  ((v658, v661, v663, v666, v669, v671, v674, v677, v679, v682, v685, v687), (k1_pay156 v642 v689), v697)

/-- The forward loop with `n` blocks to go. -/
def fLoop (cs : Cf F) (K V : Vec F S8192x256 .bf16) : ℕ → Sf F → BitVec 32 × Sf F
  | 0, st => (ctr 0, st)
  | n + 1, st => if fAlive st = 1#1 then fLoop cs K V n (fStep cs (blkAt K n) (blkAt V n) st) else (ctr (n + 1), st)

/-- The backward loop with `n` blocks to go, over the running gradients of the keys and the values. -/
def bLoop (cs : Cb F) (K V : Vec F S8192x256 .bf16) : ℕ → Sb F → Vec F S8192x256 .f32 → Vec F S8192x256 .f32 →
    (BitVec 32 × Sb F) × Vec F S8192x256 .f32 × Vec F S8192x256 .f32
  | 0, st, DK, DV => ((ctr 0, st), DK, DV)
  | n + 1, st, DK, DV =>
    if bAlive st = 1#1 then
      bLoop cs K V n (bStep cs (blkAt K n) (blkAt V n) (blkAt DK n) (blkAt DV n) st).1
        (putAt DK n (bStep cs (blkAt K n) (blkAt V n) (blkAt DK n) (blkAt DV n) st).2.1)
        (putAt DV n (bStep cs (blkAt K n) (blkAt V n) (blkAt DK n) (blkAt DV n) st).2.2)
    else ((ctr (n + 1), st), DK, DV)

end Cert.Kernel5Ideal.Attn
-- ==== Proof.AttnFwdRun.lean ====
/-
  The forward attention call's loop, run: the keys' and the values' blocks are read one after the other and the carried
  state ends as `fLoop` says.
-/
module

public import proofs.«01_k».proof.Proof.AttnDefs
public import Idealize.ShloMosaic.Lib.Tactic
public import Mathlib.Tactic.IntervalCases

@[expose] public section

set_option maxRecDepth 16384

noncomputable section

namespace Cert.Kernel5Ideal.Attn

open Cert.Kernel5Ideal Gen
open Idealize.ShloMosaic TcCoe Tactic
open Idealize.SL RA BI BIBase Laws ProofMode Sem
open Rounds
open sWPT (choose arbitrary assume consume produce)

variable {F : FTy → Type} [FloatOps F] [Named F]

local notation "𝕄" => MT nD τ sig Unit (Elt F) ℕ (UR sig nD τ) ℕ

/-- A core's whole buffer at contents `x`. -/
abbrev ow {S : Shape} {e : EltTy} (c : Dev nD) (a : Memref sig .tc .vmem S e) (x : Vec F S e) : sProp 𝕄 := owns (c : Thread nD τ) a fullShare x

/-- A loop's bound is its counter. -/
abbrev 𝒱₀ : Variants := Variants.nat

/-- The bound of a call with `n` blocks to go. -/
abbrev bnd (n : ℕ) : Option 𝒱₀.V := some n

/-! ## The counter -/

theorem ctr_sge0 : Scalar.cmpi .sge (ctr 0) 0#32 = 0#1 := by decide
theorem ctr_sge (n : ℕ) (h : n < 32) : Scalar.cmpi .sge (ctr (n + 1)) 0#32 = 1#1 := by
  interval_cases n <;> decide
theorem ctr_sub (n : ℕ) (h : n < 32) : Scalar.subi (ctr (n + 1)) 1#32 = ctr n := by
  interval_cases n <;> decide
theorem off2 (n : ℕ) (h : n < 32) : k0_off2 (ctr (n + 1)) = ![256 * n, 0] := by
  interval_cases n <;> decide
theorem chk (n : ℕ) (h : n < 32) : k0_chk1 (ctr (n + 1)) := by
  interval_cases n <;> decide

theorem and0 : ∀ b : BitVec 1, ¬ Scalar.andi 0#1 b = 1#1 := by decide

theorem and1 : ∀ b : BitVec 1, ¬ b = 1#1 → ¬ Scalar.andi 1#1 b = 1#1 := by decide

/-- A load of block `j` of the rows of a whole buffer. -/
theorem load_blk {sp : Space} {e : EltTy} {a : Memref sig .tc sp S8192x256 e} (ha : a.IsWhole) (X : Vec F S8192x256 e) (off : Fin 2 → ℕ)
    (inb : ∀ i, off i + S256x256.size i ≤ S8192x256.size i) (j : ℕ) (h : off = ![256 * j, 0]) :
    a.view.readAt (Elt F) (Rect.unit (s := S8192x256) off S256x256.size inb).toLoadRect (ha.unread X) = blkAt X j := by
  subst h
  funext y
  rw [ha.readAt_unread]
  refine congrArg X (funext fun i => Fin.ext ?_)
  have h0 := inb 0
  match i with
  | ⟨0, _⟩ =>
    have hy : (y 0).val < 256 := (y 0).isLt
    have h0' : 256 * j + 256 ≤ 8192 := h0
    show 256 * j + 1 * (y 0).val = (256 * j + (y 0).val) % 8192
    rw [Nat.mod_eq_of_lt (by omega)]; omega
  | ⟨1, _⟩ => show 0 + 1 * (y 1).val = (y 1).val; omega

/-- The record the forward loop is called with. -/
abbrev fArg (i : grid0.Coords) (arg3 : Memref sig .tc .vmem S8192x256 .bf16) (harg3 : arg3.IsWhole) (arg4 : Memref sig .tc .vmem S8192x256 .bf16)
    (harg4 : arg4.IsWhole) (cs : Cf F) (b : BitVec 32) (st : Sf F) : Cc0While1 F :=
  ⟨i, arg3, harg3, arg4, harg4, cs.1, cs.2.1, cs.2.2.1, cs.2.2.2.1, cs.2.2.2.2, b, st.1, st.2.1, st.2.2.1, st.2.2.2.1, st.2.2.2.2.1,
    st.2.2.2.2.2.1, st.2.2.2.2.2.2.1, st.2.2.2.2.2.2.2.1, st.2.2.2.2.2.2.2.2.1, st.2.2.2.2.2.2.2.2.2.1, st.2.2.2.2.2.2.2.2.2.2.1,
    st.2.2.2.2.2.2.2.2.2.2.2⟩

/-- The forward loop's specification: the two buffers are read and given back, the state ends as `fLoop`. -/
abbrev fSpec (c : Dev nD) (arg3 arg4 : Memref sig .tc .vmem S8192x256 .bf16) (cs : Cf F) (K V : Vec F S8192x256 .bf16) (n : ℕ) (st : Sf F) :
    sWPT 𝕄 (BitVec 32 × Sf F) :=
  consume iprop(ow c arg3 K ∗ ow c arg4 V) >>= fun _ =>
    produce iprop(ow c arg3 K ∗ ow c arg4 V) >>= fun _ => pure (fLoop cs K V n st)

theorem fLoop_zero (cs : Cf F) (K V : Vec F S8192x256 .bf16) (st : Sf F) : fLoop cs K V 0 st
    = (ctr 0, st.1, st.2.1, st.2.2.1, st.2.2.2.1, st.2.2.2.2.1, st.2.2.2.2.2.1, st.2.2.2.2.2.2.1, st.2.2.2.2.2.2.2.1, st.2.2.2.2.2.2.2.2.1,
        st.2.2.2.2.2.2.2.2.2.1, st.2.2.2.2.2.2.2.2.2.2.1, st.2.2.2.2.2.2.2.2.2.2.2) := rfl

theorem fLoop_dead (cs : Cf F) (K V : Vec F S8192x256 .bf16) (n : ℕ) (st : Sf F) (h : ¬ fAlive st = 1#1) : fLoop cs K V (n + 1) st
    = (ctr (n + 1), st.1, st.2.1, st.2.2.1, st.2.2.2.1, st.2.2.2.2.1, st.2.2.2.2.2.1, st.2.2.2.2.2.2.1, st.2.2.2.2.2.2.2.1, st.2.2.2.2.2.2.2.2.1,
        st.2.2.2.2.2.2.2.2.2.1, st.2.2.2.2.2.2.2.2.2.2.1, st.2.2.2.2.2.2.2.2.2.2.2) := if_neg h

theorem fLoop_succ (cs : Cf F) (K V : Vec F S8192x256 .bf16) (n : ℕ) (st : Sf F) (h : fAlive st = 1#1) :
    fLoop cs K V (n + 1) st = fLoop cs K V n (fStep cs (blkAt K n) (blkAt V n) st) := if_pos h

theorem fWhile (c : Dev nD) (i : grid0.Coords) (arg3 : Memref sig .tc .vmem S8192x256 .bf16) (harg3 : arg3.IsWhole) (arg4 : Memref sig .tc .vmem S8192x256 .bf16)
    (harg4 : arg4.IsWhole) (cs : Cf F) (K V : Vec F S8192x256 .bf16) (E : Set ℕ) : ∀ (n : ℕ), n ≤ 32 → ∀ (st : Sf F),
    fSpec c arg3 arg4 cs K V n st
      ≤ wp frame (wpE (defs₀ (F := F)) 𝒱₀ c (bnd n)) E (defs₀ (F := F) .tc 2 (fArg i arg3 harg3 arg4 harg4 cs (ctr n) st)) := by
  intro n
  induction n with
  | zero =>
    intro _ st Q
    simp only [spec_simps]
    show _ ⊢ wp frame _ E (cc0_while1 _ _ _ _ _ _ _ _ _ _ _ _ _ _ _ _ _ _ _ _ _ _ _) Q
    simp only [cc0_while1_eq_skeleton]; unfold cc0_while1_skel
    iintro ⟨⟨H3, H4⟩, Hk⟩
    have hc : ¬ Scalar.andi (Scalar.cmpi .sge (ctr 0) 0#32) (fAlive st) = 1#1 := by rw [ctr_sge0]; exact and0 _
    sl_exec (disch := sl_exact hc)
    sl_step
    rw [fLoop_zero]
    iapply Hk
    isplitl [H3]
    · iexact H3
    · iexact H4
  | succ n ih =>
    intro hn st Q
    simp only [spec_simps]
    show _ ⊢ wp frame _ E (cc0_while1 _ _ _ _ _ _ _ _ _ _ _ _ _ _ _ _ _ _ _ _ _ _ _) Q
    simp only [cc0_while1_eq_skeleton]; unfold cc0_while1_skel
    simp only [k0_part7_eq_skeleton, k0_part8_eq_skeleton, k0_part9_eq_skeleton]
    unfold ow owns
    iintro ⟨⟨⟨%f3, %hf3, H3⟩, ⟨%f4, %hf4, H4⟩⟩, Hk⟩
    obtain rfl := harg3.eq_unread hf3; obtain rfl := harg4.eq_unread hf4
    by_cases ha : fAlive st = 1#1
    · have hc : Scalar.andi (Scalar.cmpi .sge (ctr (n + 1)) 0#32) (fAlive st) = 1#1 := by rw [ctr_sge n (by omega), ha]; decide
      have hk := chk n (by omega)
      sl_exec (disch := first | sl_exact hc | sl_exact hk)
      have h := ih (by omega) (fStep cs (blkAt K n) (blkAt V n) st)
      rw [← load_blk harg3 K (k0_off2 (ctr (n + 1))) hk.2 n (off2 n (by omega)), ← load_blk harg4 V (k0_off2 (ctr (n + 1))) hk.2 n (off2 n (by omega)),
        ← ctr_sub n (by omega)] at h
      iapply (wp_call_spec 𝒱₀ (c : Thread nD τ) (bnd (n + 1)) E _ n (fun u hu => by cases hu; exact Nat.lt_succ_self n) h)
      rw [load_blk harg3 K (k0_off2 (ctr (n + 1))) hk.2 n (off2 n (by omega)), load_blk harg4 V (k0_off2 (ctr (n + 1))) hk.2 n (off2 n (by omega))]
      simp only [spec_simps]
      unfold ow owns
      isplitl [H3 H4]
      · isplitl [H3]
        · iexists _; isplitr; ipureintro; exact hf3; iexact H3
        · iexists _; isplitr; ipureintro; exact hf4; iexact H4
      iintro H
      sl_step
      rw [fLoop_succ cs K V n st ha]
      iapply Hk
      iexact H
    · have hc : ¬ Scalar.andi (Scalar.cmpi .sge (ctr (n + 1)) 0#32) (fAlive st) = 1#1 := by rw [ctr_sge n (by omega)]; exact and1 _ ha
      sl_exec (disch := sl_exact hc)
      sl_step
      rw [fLoop_dead cs K V n st ha]
      iapply Hk
      isplitl [H3]
      · iexists _; isplitr; ipureintro; exact hf3; iexact H3
      · iexists _; isplitr; ipureintro; exact hf4; iexact H4

/-! ## The forward call's body at one point -/

/-- A load of a whole buffer. -/
theorem load_all {sp : Space} {e : EltTy} {a : Memref sig .tc sp S256x256 e} (ha : a.IsWhole) (X : Vec F S256x256 e)
    (inb : ∀ i, (![0, 0] : Fin 2 → ℕ) i + S256x256.size i ≤ S256x256.size i) :
    a.view.readAt (Elt F) (Rect.unit (s := S256x256) ![0, 0] S256x256.size inb).toLoadRect (ha.unread X) = X := by
  funext y
  rw [ha.readAt_unread]
  refine congrArg X (funext fun i => Fin.ext ?_)
  match i with
  | ⟨0, _⟩ => show 0 + 1 * (y 0).val = (y 0).val; omega
  | ⟨1, _⟩ => show 0 + 1 * (y 1).val = (y 1).val; omega

theorem off1 (i : grid0.Coords) : k0_off1 i = ![256 * (i 1).val, 0] := by
  have h : (i 1).val < 32 := (i 1).isLt
  unfold k0_off1
  generalize (i 1).val = n at h ⊢
  interval_cases n <;> decide

/-- The state after the loop, at row block `n`. -/
abbrev fEnd (n : ℕ) (q : Vec F S256x256 .bf16) (K V : Vec F S8192x256 .bf16) : Sf F :=
  (fLoop (fPre q (blkAt K n) (blkAt V n)).1 K V n (fPre q (blkAt K n) (blkAt V n)).2).2

theorem fBody (c : Dev nD) (i : grid0.Coords) (arg2 : Memref sig .tc .vmem S256x256 .bf16) (harg2 : arg2.IsWhole)
    (arg3 : Memref sig .tc .vmem S8192x256 .bf16) (harg3 : arg3.IsWhole) (arg4 : Memref sig .tc .vmem S8192x256 .bf16) (harg4 : arg4.IsWhole)
    (arg5 : Memref sig .tc .vmem S256x256 .f32) (harg5 : arg5.IsWhole) (arg6 : Memref sig .tc .vmem S256x256 .f32) (harg6 : arg6.IsWhole)
    (q : Vec F S256x256 .bf16) (K V : Vec F S8192x256 .bf16) (E : Set ℕ) (Q : PUnit → sProp 𝕄) :
    iprop((ow c arg2 q ∗ ow c arg3 K ∗ ow c arg4 V
        ∗ (∃ x, ow c arg5 x) ∗ (∃ x, ow c arg6 x))
      ∗ ((ow c arg2 q ∗ ow c arg3 K ∗ ow c arg4 V
        ∗ ow c arg5 (fOut0 (fEnd (i 1).val q K V)) ∗ ow c arg6 (fOut1 (fEnd (i 1).val q K V)))
        -∗ Q ⟨⟩))
      ⊢ wp frame (wpE (defs₀ (F := F)) 𝒱₀ c none) E (cc0_attn_fwd i arg2 harg2 arg3 harg3 arg4 harg4 arg5 harg5 arg6 harg6) Q := by
  simp only [cc0_attn_fwd_eq_skeleton]; unfold cc0_attn_fwd_skel
  simp only [k0_part1_eq_skeleton, k0_part2_eq_skeleton, k0_part3_eq_skeleton, k0_part4_eq_skeleton, k0_part5_eq_skeleton, k0_part6_eq_skeleton]
  unfold ow owns
  iintro ⟨⟨⟨%f2, %hf2, H2⟩, ⟨%f3, %hf3, H3⟩, ⟨%f4, %hf4, H4⟩, ⟨%x5, ⟨%f5, %hf5, H5⟩⟩, ⟨%x6, ⟨%f6, %hf6, H6⟩⟩⟩, Hk⟩
  obtain rfl := harg2.eq_unread hf2; obtain rfl := harg3.eq_unread hf3; obtain rfl := harg4.eq_unread hf4
  sl_exec
  have hn : (i 1).val < 32 := (i 1).isLt
  have eK := load_blk harg3 K (k0_off1 i) (k0_off1_inb i) (i 1).val (off1 i)
  have eV := load_blk harg4 V (k0_off1 i) (k0_off1_inb i) (i 1).val (off1 i)
  have eq2 := load_all harg2 q inb_S256x256_S256x256_0_0
  have h := fun pr : Cf F × Sf F => fWhile (F := F) c i arg3 harg3 arg4 harg4 pr.1 K V E (i 1).val (by omega) pr.2
  have h := h (fPre (arg2.view.readAt (Elt F) (Rect.unit (s := S256x256) ![0, 0] S256x256.size inb_S256x256_S256x256_0_0).toLoadRect (harg2.unread q))
    (arg3.view.readAt (Elt F) (Rect.unit (s := S8192x256) (k0_off1 i) S256x256.size (k0_off1_inb i)).toLoadRect (harg3.unread K))
    (arg4.view.readAt (Elt F) (Rect.unit (s := S8192x256) (k0_off1 i) S256x256.size (k0_off1_inb i)).toLoadRect (harg4.unread V)))
  iapply (wp_call_spec 𝒱₀ (c : Thread nD τ) none E _ (i 1).val (fun u hu => nomatch hu) h)
  simp only [spec_simps]
  rw [eK, eV, eq2]
  unfold ow owns
  isplitl [H3 H4]
  · isplitl [H3]
    · iexists _; isplitr; ipureintro; exact hf3; iexact H3
    · iexists _; isplitr; ipureintro; exact hf4; iexact H4
  iintro ⟨⟨%g3, %hg3, H3⟩, ⟨%g4, %hg4, H4⟩⟩
  generalize hr : fLoop (fPre q (blkAt K (i 1).val) (blkAt V (i 1).val)).1 K V (i 1).val (fPre q (blkAt K (i 1).val) (blkAt V (i 1).val)).2 = r
  obtain ⟨b, s0, s1, s2, s3, s4, s5, s6, s7, s8, s9, s10, s11⟩ := r
  dsimp only
  sl_exec
  sl_step
  iapply Hk
  isplitl [H2]
  · iexists _; isplitr; ipureintro; exact hf2; iexact H2
  isplitl [H3]
  · iexists _; isplitr; ipureintro; exact hg3; iexact H3
  isplitl [H4]
  · iexists _; isplitr; ipureintro; exact hg4; iexact H4
  isplitl [H5]
  · iexists _; isplitr
    swap; iexact H5
    ipureintro
    rw [View.read_writes_full]; unfold fEnd; rw [hr]; rfl
  · iexists _; isplitr
    swap; iexact H6
    ipureintro
    rw [View.read_writes_full]; unfold fEnd; rw [hr]; rfl

end Cert.Kernel5Ideal.Attn
-- ==== Proof.AttnBwdRun.lean ====
/-
  The backward attention call's loop and body, run: the loop reads the keys' and the values' blocks one after the other
  and adds to the running gradients of the keys and the values; all ends as `bLoop` says.
-/
module

public import proofs.«01_k».proof.Proof.AttnFwdRun

@[expose] public section

set_option maxRecDepth 16384

noncomputable section

namespace Cert.Kernel5Ideal.Attn

open Cert.Kernel5Ideal Gen
open Idealize.ShloMosaic TcCoe Tactic
open Idealize.SL RA BI BIBase Laws ProofMode Sem
open Rounds
open sWPT (choose arbitrary assume consume produce)

variable {F : FTy → Type} [FloatOps F] [Named F]

local notation "𝕄" => MT nD τ sig Unit (Elt F) ℕ (UR sig nD τ) ℕ

/-! ## The offsets -/

theorem boff2 (n : ℕ) (h : n < 32) : k1_off2 (ctr (n + 1)) = ![256 * n, 0] := by
  interval_cases n <;> decide
theorem bchk (n : ℕ) (h : n < 32) : k1_chk1 (ctr (n + 1)) := by
  interval_cases n <;> decide
theorem boff1 (i : grid1.Coords) : k1_off1 i = ![256 * (i 1).val, 0] := by
  have h : (i 1).val < 32 := (i 1).isLt
  unfold k1_off1
  generalize (i 1).val = n at h ⊢
  interval_cases n <;> decide

/-- A load of block `j` of the rows. -/
theorem load_blk' {sp : Space} {e : EltTy} (a : Memref sig .tc sp S8192x256 e) (f : a.view.ty.Contents (Elt F)) (off : Fin 2 → ℕ)
    (inb : ∀ i, off i + S256x256.size i ≤ S8192x256.size i) (j : ℕ) (h : off = ![256 * j, 0]) :
    a.view.readAt (Elt F) (Rect.unit (s := S8192x256) off S256x256.size inb).toLoadRect f = blkAt (a.view.read (Elt F) f) j := by
  subst h
  funext y
  show a.view.read (Elt F) f _ = _
  refine congrArg (a.view.read (Elt F) f) (funext fun i => Fin.ext ?_)
  have h0 := inb 0
  match i with
  | ⟨0, _⟩ =>
    have hy : (y 0).val < 256 := (y 0).isLt
    have h0' : 256 * j + 256 ≤ 8192 := h0
    show 256 * j + 1 * (y 0).val = (256 * j + (y 0).val) % 8192
    rw [Nat.mod_eq_of_lt (by omega)]; omega
  | ⟨1, _⟩ => show 0 + 1 * (y 1).val = (y 1).val; omega

/-- A load of a whole block buffer. -/
theorem load_all' {sp : Space} {e : EltTy} (a : Memref sig .tc sp S256x256 e) (f : a.view.ty.Contents (Elt F))
    (inb : ∀ i, (![0, 0] : Fin 2 → ℕ) i + S256x256.size i ≤ S256x256.size i) :
    a.view.readAt (Elt F) (Rect.unit (s := S256x256) ![0, 0] S256x256.size inb).toLoadRect f = a.view.read (Elt F) f := by
  funext y
  show a.view.read (Elt F) f _ = _
  refine congrArg (a.view.read (Elt F) f) (funext fun i => Fin.ext ?_)
  match i with
  | ⟨0, _⟩ => show 0 + 1 * (y 0).val = (y 0).val; omega
  | ⟨1, _⟩ => show 0 + 1 * (y 1).val = (y 1).val; omega

/-! ## The backward loop -/

/-- The record the backward loop is called with. -/
abbrev bArg (i : grid1.Coords) (arg3 : Memref sig .tc .vmem S8192x256 .bf16) (harg3 : arg3.IsWhole) (arg4 : Memref sig .tc .vmem S8192x256 .bf16)
    (harg4 : arg4.IsWhole) (arg9 : Memref sig .tc .vmem S8192x256 .f32) (harg9 : arg9.IsWhole) (arg10 : Memref sig .tc .vmem S8192x256 .f32)
    (harg10 : arg10.IsWhole) (cs : Cb F) (b : BitVec 32) (st : Sb F) : Cc1While1 F :=
  ⟨i, arg3, harg3, arg4, harg4, cs.1, cs.2.1, cs.2.2.1, cs.2.2.2.1, cs.2.2.2.2.1, cs.2.2.2.2.2.1, cs.2.2.2.2.2.2.1, cs.2.2.2.2.2.2.2.1, cs.2.2.2.2.2.2.2.2.1, cs.2.2.2.2.2.2.2.2.2.1, cs.2.2.2.2.2.2.2.2.2.2.1, cs.2.2.2.2.2.2.2.2.2.2.2.1, cs.2.2.2.2.2.2.2.2.2.2.2.2.1, cs.2.2.2.2.2.2.2.2.2.2.2.2.2, arg9, harg9, arg10, harg10, b, st.1, st.2.1, st.2.2.1, st.2.2.2.1, st.2.2.2.2.1, st.2.2.2.2.2.1, st.2.2.2.2.2.2.1, st.2.2.2.2.2.2.2.1, st.2.2.2.2.2.2.2.2.1, st.2.2.2.2.2.2.2.2.2.1, st.2.2.2.2.2.2.2.2.2.2.1, st.2.2.2.2.2.2.2.2.2.2.2⟩

/-- The four buffers the backward loop holds. -/
abbrev bHeld (c : Dev nD) (arg3 arg4 : Memref sig .tc .vmem S8192x256 .bf16) (arg9 arg10 : Memref sig .tc .vmem S8192x256 .f32)
    (K V : Vec F S8192x256 .bf16) (DK DV : Vec F S8192x256 .f32) : sProp 𝕄 :=
  iprop(ow c arg3 K ∗ ow c arg4 V
    ∗ ow c arg9 DK ∗ ow c arg10 DV)

/-- The backward loop's specification: keys and values are read and given back, the two gradients and the state end as `bLoop`. -/
abbrev bSpec (c : Dev nD) (arg3 arg4 : Memref sig .tc .vmem S8192x256 .bf16) (arg9 arg10 : Memref sig .tc .vmem S8192x256 .f32) (cs : Cb F)
    (K V : Vec F S8192x256 .bf16) (n : ℕ) (st : Sb F) (DK DV : Vec F S8192x256 .f32) : sWPT 𝕄 (BitVec 32 × Sb F) :=
  consume (bHeld c arg3 arg4 arg9 arg10 K V DK DV) >>= fun _ =>
    produce (bHeld c arg3 arg4 arg9 arg10 K V (bLoop cs K V n st DK DV).2.1 (bLoop cs K V n st DK DV).2.2) >>= fun _ =>
      pure (bLoop cs K V n st DK DV).1

theorem bLoop_zero (cs : Cb F) (K V : Vec F S8192x256 .bf16) (st : Sb F) (DK DV : Vec F S8192x256 .f32) : bLoop cs K V 0 st DK DV
    = ((ctr 0, st.1, st.2.1, st.2.2.1, st.2.2.2.1, st.2.2.2.2.1, st.2.2.2.2.2.1, st.2.2.2.2.2.2.1, st.2.2.2.2.2.2.2.1, st.2.2.2.2.2.2.2.2.1, st.2.2.2.2.2.2.2.2.2.1, st.2.2.2.2.2.2.2.2.2.2.1, st.2.2.2.2.2.2.2.2.2.2.2), DK, DV) := rfl

theorem bLoop_dead (cs : Cb F) (K V : Vec F S8192x256 .bf16) (n : ℕ) (st : Sb F) (DK DV : Vec F S8192x256 .f32) (h : ¬ bAlive st = 1#1) :
    bLoop cs K V (n + 1) st DK DV = ((ctr (n + 1), st.1, st.2.1, st.2.2.1, st.2.2.2.1, st.2.2.2.2.1, st.2.2.2.2.2.1, st.2.2.2.2.2.2.1, st.2.2.2.2.2.2.2.1, st.2.2.2.2.2.2.2.2.1, st.2.2.2.2.2.2.2.2.2.1, st.2.2.2.2.2.2.2.2.2.2.1, st.2.2.2.2.2.2.2.2.2.2.2), DK, DV) := if_neg h

theorem bLoop_succ (cs : Cb F) (K V : Vec F S8192x256 .bf16) (n : ℕ) (st : Sb F) (DK DV : Vec F S8192x256 .f32) (h : bAlive st = 1#1) :
    bLoop cs K V (n + 1) st DK DV = bLoop cs K V n (bStep cs (blkAt K n) (blkAt V n) (blkAt DK n) (blkAt DV n) st).1
        (putAt DK n (bStep cs (blkAt K n) (blkAt V n) (blkAt DK n) (blkAt DV n) st).2.1)
        (putAt DV n (bStep cs (blkAt K n) (blkAt V n) (blkAt DK n) (blkAt DV n) st).2.2) := if_pos h

theorem bWhile (c : Dev nD) (i : grid1.Coords) (arg3 : Memref sig .tc .vmem S8192x256 .bf16) (harg3 : arg3.IsWhole) (arg4 : Memref sig .tc .vmem S8192x256 .bf16)
    (harg4 : arg4.IsWhole) (arg9 : Memref sig .tc .vmem S8192x256 .f32) (harg9 : arg9.IsWhole) (arg10 : Memref sig .tc .vmem S8192x256 .f32)
    (harg10 : arg10.IsWhole) (cs : Cb F) (K V : Vec F S8192x256 .bf16) (E : Set ℕ) : ∀ (n : ℕ), n ≤ 32 → ∀ (st : Sb F) (DK DV : Vec F S8192x256 .f32),
    bSpec c arg3 arg4 arg9 arg10 cs K V n st DK DV
      ≤ wp frame (wpE (defs₀ (F := F)) 𝒱₀ c (bnd n)) E (defs₀ (F := F) .tc 3 (bArg i arg3 harg3 arg4 harg4 arg9 harg9 arg10 harg10 cs (ctr n) st)) := by
  intro n
  induction n with
  | zero =>
    intro _ st DK DV Q
    simp only [spec_simps]
    show _ ⊢ wp frame _ E (cc1_while1 _ _ _ _ _ _ _ _ _ _ _ _ _ _ _ _ _ _ _ _ _ _ _ _ _ _ _ _ _ _ _ _ _ _ _ _) Q
    simp only [cc1_while1_eq_skeleton]; unfold cc1_while1_skel
    iintro ⟨H, Hk⟩
    have hc : ¬ Scalar.andi (Scalar.cmpi .sge (ctr 0) 0#32) (bAlive st) = 1#1 := by rw [ctr_sge0]; exact and0 _
    sl_exec (disch := sl_exact hc)
    sl_step
    rw [bLoop_zero]
    iapply Hk
    iexact H
  | succ n ih =>
    intro hn st DK DV Q
    simp only [spec_simps]
    show _ ⊢ wp frame _ E (cc1_while1 _ _ _ _ _ _ _ _ _ _ _ _ _ _ _ _ _ _ _ _ _ _ _ _ _ _ _ _ _ _ _ _ _ _ _ _) Q
    simp only [cc1_while1_eq_skeleton]; unfold cc1_while1_skel
    simp only [k1_part15_eq_skeleton]; unfold k1_part15_skel
    simp only [k1_part10_eq_skeleton, k1_part11_eq_skeleton, k1_part12_eq_skeleton, k1_part13_eq_skeleton, k1_part14_eq_skeleton]
    unfold bHeld ow owns
    iintro ⟨⟨⟨%f3, %hf3, H3⟩, ⟨%f4, %hf4, H4⟩, ⟨%f9, %hf9, H9⟩, ⟨%f10, %hf10, H10⟩⟩, Hk⟩
    by_cases ha : bAlive st = 1#1
    · have hc : Scalar.andi (Scalar.cmpi .sge (ctr (n + 1)) 0#32) (bAlive st) = 1#1 := by rw [ctr_sge n (by omega), ha]; decide
      have hk := bchk n (by omega)
      sl_exec (disch := first | sl_exact hc | sl_exact hk)
      have eK := load_blk' arg3 f3 (k1_off2 (ctr (n + 1))) (k1_off2_inb _ hk) n (boff2 n (by omega))
      have eV := load_blk' arg4 f4 (k1_off2 (ctr (n + 1))) (k1_off2_inb _ hk) n (boff2 n (by omega))
      have e9 := load_blk' arg9 f9 (k1_off2 (ctr (n + 1))) (k1_off2_inb _ hk) n (boff2 n (by omega))
      have e10 := load_blk' arg10 f10 (k1_off2 (ctr (n + 1))) (k1_off2_inb _ hk) n (boff2 n (by omega))
      rw [hf3] at eK; rw [hf4] at eV; rw [hf9] at e9; rw [hf10] at e10
      have h := fun st' => ih (by omega) st' (putAt DK n (bStep cs (blkAt K n) (blkAt V n) (blkAt DK n) (blkAt DV n) st).2.1)
        (putAt DV n (bStep cs (blkAt K n) (blkAt V n) (blkAt DK n) (blkAt DV n) st).2.2)
      rw [← ctr_sub n (by omega)] at h
      iapply (wp_call_spec 𝒱₀ (c : Thread nD τ) (bnd (n + 1)) E _ n (fun u hu => by cases hu; exact Nat.lt_succ_self n)
        (h (bStep cs (arg3.view.readAt (Elt F) (Rect.unit (s := S8192x256) (k1_off2 (ctr (n + 1))) S256x256.size (k1_off2_inb _ hk)).toLoadRect f3)
          (arg4.view.readAt (Elt F) (Rect.unit (s := S8192x256) (k1_off2 (ctr (n + 1))) S256x256.size (k1_off2_inb _ hk)).toLoadRect f4)
          (arg9.view.readAt (Elt F) (Rect.unit (s := S8192x256) (k1_off2 (ctr (n + 1))) S256x256.size (k1_off2_inb _ hk)).toLoadRect f9)
          (arg10.view.readAt (Elt F) (Rect.unit (s := S8192x256) (k1_off2 (ctr (n + 1))) S256x256.size (k1_off2_inb _ hk)).toLoadRect f10) st).1))
      rw [eK, eV, e9, e10]
      simp only [spec_simps]
      unfold bHeld ow owns
      isplitl [H3 H4 H9 H10]
      · isplitl [H3]
        · iexists _; isplitr; ipureintro; exact hf3; iexact H3
        isplitl [H4]
        · iexists _; isplitr; ipureintro; exact hf4; iexact H4
        isplitl [H9]
        · iexists _; isplitr
          swap; iexact H9
          ipureintro
          rw [View.read_writes_cons_put _ _ _ _ _ (boff2 n (by omega)), View.writes_nil, hf9, ← eK, ← eV]
          rfl
        · iexists _; isplitr
          swap; iexact H10
          ipureintro
          rw [View.read_writes_cons_put _ _ _ _ _ (boff2 n (by omega)), View.writes_nil, hf10, ← eK, ← eV]
          rfl
      iintro H
      sl_step
      rw [bLoop_succ cs K V n st DK DV ha]
      iapply Hk
      iexact H
    · have hc : ¬ Scalar.andi (Scalar.cmpi .sge (ctr (n + 1)) 0#32) (bAlive st) = 1#1 := by rw [ctr_sge n (by omega)]; exact and1 _ ha
      sl_exec (disch := sl_exact hc)
      sl_step
      rw [bLoop_dead cs K V n st DK DV ha]
      iapply Hk
      isplitl [H3]
      · iexists _; isplitr; ipureintro; exact hf3; iexact H3
      isplitl [H4]
      · iexists _; isplitr; ipureintro; exact hf4; iexact H4
      isplitl [H9]
      · iexists _; isplitr; ipureintro; exact hf9; iexact H9
      · iexists _; isplitr; ipureintro; exact hf10; iexact H10

/-! ## The backward call's body at one point -/

/-- The backward body before its loop, at row block `n`, over the running gradients `DK`, `DV`. -/
abbrev bPr (n : ℕ) (q : Vec F S256x256 .bf16) (o ol d : Vec F S256x256 .f32) (K V : Vec F S8192x256 .bf16) (DK DV : Vec F S8192x256 .f32) :=
  bPre q d o ol (blkAt K n) (blkAt V n) (blkAt DK n) (blkAt DV n)

/-- And after its loop. -/
abbrev bEnd (n : ℕ) (q : Vec F S256x256 .bf16) (o ol d : Vec F S256x256 .f32) (K V : Vec F S8192x256 .bf16) (DK DV : Vec F S8192x256 .f32) :
    (BitVec 32 × Sb F) × Vec F S8192x256 .f32 × Vec F S8192x256 .f32 :=
  bLoop (bPr n q o ol d K V DK DV).1 K V n (bPr n q o ol d K V DK DV).2.1 (putAt DK n (bPr n q o ol d K V DK DV).2.2.1)
    (putAt DV n (bPr n q o ol d K V DK DV).2.2.2)

theorem condA (n : ℕ) (h : n = 0) : Scalar.cmpi .ne (Scalar.extui (Scalar.cmpi .eq (BitVec.ofNat 32 n) 0#32)) (0#32 : BitVec 32) = 1#1 := by
  subst h; decide
theorem condB (n : ℕ) (h : n ≠ 0) (hn : n < 32) :
    ¬ Scalar.cmpi .ne (Scalar.extui (Scalar.cmpi .eq (BitVec.ofNat 32 n) 0#32)) (0#32 : BitVec 32) = 1#1 := by
  interval_cases n
  · exact absurd rfl h
  all_goals decide

/-- What the running gradients are at a point before its adds: cleared at row block 0. -/
abbrev clr (n : ℕ) (Z DK : Vec F S8192x256 .f32) : Vec F S8192x256 .f32 := if n = 0 then Z else DK

set_option maxHeartbeats 4000000 in
theorem bBody (c : Dev nD) (i : grid1.Coords) (arg2 : Memref sig .tc .vmem S256x256 .bf16) (harg2 : arg2.IsWhole)
    (arg3 : Memref sig .tc .vmem S8192x256 .bf16) (harg3 : arg3.IsWhole) (arg4 : Memref sig .tc .vmem S8192x256 .bf16) (harg4 : arg4.IsWhole)
    (arg5 : Memref sig .tc .vmem S256x256 .f32) (harg5 : arg5.IsWhole) (arg6 : Memref sig .tc .vmem S256x256 .f32) (harg6 : arg6.IsWhole)
    (arg7 : Memref sig .tc .vmem S256x256 .f32) (harg7 : arg7.IsWhole) (arg8 : Memref sig .tc .vmem S256x256 .f32) (harg8 : arg8.IsWhole)
    (arg9 : Memref sig .tc .vmem S8192x256 .f32) (harg9 : arg9.IsWhole) (arg10 : Memref sig .tc .vmem S8192x256 .f32) (harg10 : arg10.IsWhole)
    (q : Vec F S256x256 .bf16) (K V : Vec F S8192x256 .bf16) (o ol d : Vec F S256x256 .f32) (DK0 DV0 DK DV : Vec F S8192x256 .f32)
    (hDK : clr (i 1).val k1_pay6 DK0 = DK) (hDV : clr (i 1).val k1_pay7 DV0 = DV) (E : Set ℕ) (Q : PUnit → sProp 𝕄) :
    iprop((ow c arg2 q ∗ ow c arg3 K ∗ ow c arg4 V
        ∗ ow c arg5 o ∗ ow c arg6 ol ∗ ow c arg7 d
        ∗ (∃ x, ow c arg8 x) ∗ ow c arg9 DK0 ∗ ow c arg10 DV0)
      ∗ ((ow c arg2 q ∗ ow c arg3 K ∗ ow c arg4 V
        ∗ ow c arg5 o ∗ ow c arg6 ol ∗ ow c arg7 d
        ∗ ow c arg8 (bOut0 (bEnd (i 1).val q o ol d K V DK DV).1.2)
        ∗ ow c arg9 (bEnd (i 1).val q o ol d K V DK DV).2.1
        ∗ ow c arg10 (bEnd (i 1).val q o ol d K V DK DV).2.2)
        -∗ Q ⟨⟩))
      ⊢ wp frame (wpE (defs₀ (F := F)) 𝒱₀ c none) E
          (cc1_attn_bwd i arg2 harg2 arg3 harg3 arg4 harg4 arg5 harg5 arg6 harg6 arg7 harg7 arg8 harg8 arg9 harg9 arg10 harg10) Q := by
  simp only [cc1_attn_bwd_eq_skeleton]; unfold cc1_attn_bwd_skel
  simp only [k1_part1_eq_skeleton, k1_part2_eq_skeleton, k1_part3_eq_skeleton, k1_part4_eq_skeleton, k1_part5_eq_skeleton, k1_part6_eq_skeleton,
    k1_part7_eq_skeleton, k1_part8_eq_skeleton, k1_part9_eq_skeleton]
  unfold ow owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%x8, ⟨%f8, %hf8, H8⟩⟩,
    ⟨%f9, %hf9, H9⟩, ⟨%f10, %hf10, H10⟩⟩, Hk⟩
  have hn : (i 1).val < 32 := (i 1).isLt
  have e2 := (load_all' arg2 f2 inb_S256x256_S256x256_0_0).trans hf2
  have e5 := (load_all' arg5 f5 inb_S256x256_S256x256_0_0).trans hf5
  have e6 := (load_all' arg6 f6 inb_S256x256_S256x256_0_0).trans hf6
  have e7 := (load_all' arg7 f7 inb_S256x256_S256x256_0_0).trans hf7
  have eK := (load_blk' arg3 f3 (k1_off1 i) (k1_off1_inb i) (i 1).val (boff1 i)).trans (congrArg (fun z => blkAt z _) hf3)
  have eV := (load_blk' arg4 f4 (k1_off1 i) (k1_off1_inb i) (i 1).val (boff1 i)).trans (congrArg (fun z => blkAt z _) hf4)
  have h := fun (pr : Cb F × Sb F) => bWhile (F := F) c i arg3 harg3 arg4 harg4 arg9 harg9 arg10 harg10 pr.1 K V E (i 1).val (by omega) pr.2
    (putAt DK (i 1).val (bPr (i 1).val q o ol d K V DK DV).2.2.1) (putAt DV (i 1).val (bPr (i 1).val q o ol d K V DK DV).2.2.2)
  have h := h ((bPr (i 1).val q o ol d K V DK DV).1, (bPr (i 1).val q o ol d K V DK DV).2.1)
  by_cases hz : (i 1).val = 0
  on_goal 1 =>
    have hc := condA _ hz
    sl_exec (disch := sl_exact hc)
    have r9 : arg9.view.read (Elt F) (arg9.view.writes (Elt F) arg9.view.junk [⟨Rect.unit (s := S8192x256) ![0, 0] S8192x256.size inb_S8192x256_S8192x256_0_0, k1_pay6⟩]) = DK := (View.read_writes_full _ _ _ _ _).trans ((if_pos hz).symm.trans hDK)
    have e9 := (load_blk' arg9 (arg9.view.writes (Elt F) arg9.view.junk [⟨Rect.unit (s := S8192x256) ![0, 0] S8192x256.size inb_S8192x256_S8192x256_0_0, k1_pay6⟩]) (k1_off1 i) (k1_off1_inb i) (i 1).val (boff1 i)).trans (congrArg (fun z => blkAt z _) r9)
    have r10 : arg10.view.read (Elt F) (arg10.view.writes (Elt F) arg10.view.junk [⟨Rect.unit (s := S8192x256) ![0, 0] S8192x256.size inb_S8192x256_S8192x256_0_0, k1_pay7⟩]) = DV := (View.read_writes_full _ _ _ _ _).trans ((if_pos hz).symm.trans hDV)
    have e10 := (load_blk' arg10 (arg10.view.writes (Elt F) arg10.view.junk [⟨Rect.unit (s := S8192x256) ![0, 0] S8192x256.size inb_S8192x256_S8192x256_0_0, k1_pay7⟩]) (k1_off1 i) (k1_off1_inb i) (i 1).val (boff1 i)).trans (congrArg (fun z => blkAt z _) r10)
    ihave H9' : ow c arg9 (putAt DK (i 1).val (bPr (i 1).val q o ol d K V DK DV).2.2.1) $$ [H9]
    · unfold ow owns
      iexists _; isplitr
      swap; iexact H9
      ipureintro
      refine (View.read_writes_cons_put _ _ _ _ _ (boff1 i)).trans ?_
      refine (congrArg (fun z => VecWindow.put z _ _ _) r9).trans ?_
      unfold bPr; rw [← e9, ← e10]
      rfl
    ihave H10' : ow c arg10 (putAt DV (i 1).val (bPr (i 1).val q o ol d K V DK DV).2.2.2) $$ [H10]
    · unfold ow owns
      iexists _; isplitr
      swap; iexact H10
      ipureintro
      refine (View.read_writes_cons_put _ _ _ _ _ (boff1 i)).trans ?_
      refine (congrArg (fun z => VecWindow.put z _ _ _) r10).trans ?_
      unfold bPr; rw [← e9, ← e10]
      rfl
  on_goal 2 =>
    have hc := condB _ hz hn
    sl_exec (disch := sl_exact hc)
    have r9 : arg9.view.read (Elt F) f9 = DK := hf9.trans ((if_neg hz).symm.trans hDK)
    have e9 := (load_blk' arg9 f9 (k1_off1 i) (k1_off1_inb i) (i 1).val (boff1 i)).trans (congrArg (fun z => blkAt z _) r9)
    have r10 : arg10.view.read (Elt F) f10 = DV := hf10.trans ((if_neg hz).symm.trans hDV)
    have e10 := (load_blk' arg10 f10 (k1_off1 i) (k1_off1_inb i) (i 1).val (boff1 i)).trans (congrArg (fun z => blkAt z _) r10)
    ihave H9' : ow c arg9 (putAt DK (i 1).val (bPr (i 1).val q o ol d K V DK DV).2.2.1) $$ [H9]
    · unfold ow owns
      iexists _; isplitr
      swap; iexact H9
      ipureintro
      refine (View.read_writes_cons_put _ _ _ _ _ (boff1 i)).trans ?_
      rw [View.writes_nil, r9]
      unfold bPr; rw [← e9, ← e10]
      rfl
    ihave H10' : ow c arg10 (putAt DV (i 1).val (bPr (i 1).val q o ol d K V DK DV).2.2.2) $$ [H10]
    · unfold ow owns
      iexists _; isplitr
      swap; iexact H10
      ipureintro
      refine (View.read_writes_cons_put _ _ _ _ _ (boff1 i)).trans ?_
      rw [View.writes_nil, r10]
      unfold bPr; rw [← e9, ← e10]
      rfl
  all_goals
    iapply (wp_call_spec 𝒱₀ (c : Thread nD τ) none E _ (i 1).val (fun u hu => nomatch hu) h)
    dsimp only
    simp only [spec_simps]
    isplitl [H3 H4 H9' H10']
    · unfold bHeld
      isplitl [H3]
      · unfold ow owns; iexists _; isplitr; ipureintro; exact hf3; iexact H3
      isplitl [H4]
      · unfold ow owns; iexists _; isplitr; ipureintro; exact hf4; iexact H4
      isplitl [H9']
      · iexact H9'
      · iexact H10'
    unfold bHeld ow owns
    iintro ⟨⟨%g3, %hg3, H3⟩, ⟨%g4, %hg4, H4⟩, ⟨%g9, %hg9, H9⟩, ⟨%g10, %hg10, H10⟩⟩
    generalize hr : bLoop (bPre q d o ol (blkAt K (i 1).val) (blkAt V (i 1).val) (blkAt DK (i 1).val) (blkAt DV (i 1).val)).1 K V (i 1).val _ _ _ = r at hg9 hg10 ⊢
    obtain ⟨⟨b, s0, s1, s2, s3, s4, s5, s6, s7, s8, s9, s10, s11⟩, dk, dv⟩ := r
    dsimp only
    sl_exec
    sl_step
    iapply Hk
    isplitl [H2]
    · iexists _; isplitr; ipureintro; exact hf2; iexact H2
    isplitl [H3]
    · iexists _; isplitr; ipureintro; exact hg3; iexact H3
    isplitl [H4]
    · iexists _; isplitr; ipureintro; exact hg4; iexact H4
    isplitl [H5]
    · iexists _; isplitr; ipureintro; exact hf5; iexact H5
    isplitl [H6]
    · iexists _; isplitr; ipureintro; exact hf6; iexact H6
    isplitl [H7]
    · iexists _; isplitr; ipureintro; exact hf7; iexact H7
    isplitl [H8]
    · iexists _; isplitr
      swap; iexact H8
      ipureintro
      rw [View.read_writes_full]; unfold bEnd; rw [hr]; rfl
    isplitl [H9]
    · iexists _; isplitr
      swap; iexact H9
      ipureintro
      unfold bEnd; rw [hr]; exact hg9
    · iexists _; isplitr
      swap; iexact H10
      ipureintro
      unfold bEnd; rw [hr]; exact hg10

end Cert.Kernel5Ideal.Attn
-- ==== Proof.Printed.AttnDefs.lean ====
/-
  The printed program's attention calls as functions of their blocks: the named program's, the named constant read as its
  own pattern.
-/
module

public import proofs.«01_k».proof.Proof.AttnDefs
public import proofs.«01_k».proof.Proof.Gen.Kernel5.Skeleton
public import proofs.«01_k».proof.Proof.Gen.Kernel5.Regions
public import proofs.«01_k».proof.Proof.Gen.Kernel5.Points

@[expose] public section

noncomputable section

namespace Cert.Kernel5.Attn

open Idealize.ShloMosaic
export Cert.Kernel5Ideal.Attn (blkAt putAt ctr Cf Sf fPre fOut0 fOut1 fAlive fStep Cb Sb bPre bOut0 bAlive bStep fLoop bLoop)

/-- A named constant read as its own pattern. -/
@[reducible] def asPrinted (F : FTy → Type) [FloatOps F] : Named F where
  named _ _ {φ} bits := Scalar.ofBits φ bits

end Cert.Kernel5.Attn
-- ==== Proof.Printed.AttnFwdRun.lean ====
/-
  The forward attention call's loop, run: the keys' and the values' blocks are read one after the other and the carried
  state ends as `fLoop` says.
  The same steps as for the named program, over the program as printed: the two declare their loops' records separately.
-/
module

public import proofs.«01_k».proof.Proof.AttnFwdRun
public import proofs.«01_k».proof.Proof.Printed.AttnDefs

@[expose] public section

set_option maxRecDepth 16384

noncomputable section

namespace Cert.Kernel5.Attn

open Cert.Kernel5 Gen
open Idealize.ShloMosaic TcCoe Tactic
open Idealize.SL RA BI BIBase Laws ProofMode Sem
open Rounds
open sWPT (choose arbitrary assume consume produce)

export Cert.Kernel5Ideal.Attn (ctr_sge0 ctr_sge ctr_sub and0 and1 load_blk fLoop_zero fLoop_dead fLoop_succ load_all fEnd)

variable {F : FTy → Type} [FloatOps F]

local instance {F : FTy → Type} [FloatOps F] : Named F := asPrinted F

local notation "𝕄" => MT nD τ sig Unit (Elt F) ℕ (UR sig nD τ) ℕ

/-- A core's whole buffer at contents `x`. -/
abbrev ow {S : Shape} {e : EltTy} (c : Dev nD) (a : Memref sig .tc .vmem S e) (x : Vec F S e) : sProp 𝕄 := owns (c : Thread nD τ) a fullShare x

/-- A loop's bound is its counter. -/
abbrev 𝒱₀ : Variants := Variants.nat

/-- The bound of a call with `n` blocks to go. -/
abbrev bnd (n : ℕ) : Option 𝒱₀.V := some n

/-! ## The counter -/

theorem off2 (n : ℕ) (h : n < 32) : k0_off2 (ctr (n + 1)) = ![256 * n, 0] := by
  interval_cases n <;> decide
theorem chk (n : ℕ) (h : n < 32) : k0_chk1 (ctr (n + 1)) := by
  interval_cases n <;> decide

/-- The record the forward loop is called with. -/
abbrev fArg (i : grid0.Coords) (arg3 : Memref sig .tc .vmem S8192x256 .bf16) (harg3 : arg3.IsWhole) (arg4 : Memref sig .tc .vmem S8192x256 .bf16)
    (harg4 : arg4.IsWhole) (cs : Cf F) (b : BitVec 32) (st : Sf F) : Cc0While1 F :=
  ⟨i, arg3, harg3, arg4, harg4, cs.1, cs.2.1, cs.2.2.1, cs.2.2.2.1, cs.2.2.2.2, b, st.1, st.2.1, st.2.2.1, st.2.2.2.1, st.2.2.2.2.1,
    st.2.2.2.2.2.1, st.2.2.2.2.2.2.1, st.2.2.2.2.2.2.2.1, st.2.2.2.2.2.2.2.2.1, st.2.2.2.2.2.2.2.2.2.1, st.2.2.2.2.2.2.2.2.2.2.1,
    st.2.2.2.2.2.2.2.2.2.2.2⟩

/-- The forward loop's specification: the two buffers are read and given back, the state ends as `fLoop`. -/
abbrev fSpec (c : Dev nD) (arg3 arg4 : Memref sig .tc .vmem S8192x256 .bf16) (cs : Cf F) (K V : Vec F S8192x256 .bf16) (n : ℕ) (st : Sf F) :
    sWPT 𝕄 (BitVec 32 × Sf F) :=
  consume iprop(ow c arg3 K ∗ ow c arg4 V) >>= fun _ =>
    produce iprop(ow c arg3 K ∗ ow c arg4 V) >>= fun _ => pure (fLoop cs K V n st)

theorem fWhile (c : Dev nD) (i : grid0.Coords) (arg3 : Memref sig .tc .vmem S8192x256 .bf16) (harg3 : arg3.IsWhole) (arg4 : Memref sig .tc .vmem S8192x256 .bf16)
    (harg4 : arg4.IsWhole) (cs : Cf F) (K V : Vec F S8192x256 .bf16) (E : Set ℕ) : ∀ (n : ℕ), n ≤ 32 → ∀ (st : Sf F),
    fSpec c arg3 arg4 cs K V n st
      ≤ wp frame (wpE (defs₀ (F := F)) 𝒱₀ c (bnd n)) E (defs₀ (F := F) .tc 2 (fArg i arg3 harg3 arg4 harg4 cs (ctr n) st)) := by
  intro n
  induction n with
  | zero =>
    intro _ st Q
    simp only [spec_simps]
    show _ ⊢ wp frame _ E (cc0_while1 _ _ _ _ _ _ _ _ _ _ _ _ _ _ _ _ _ _ _ _ _ _ _) Q
    simp only [cc0_while1_eq_skeleton]; unfold cc0_while1_skel
    iintro ⟨⟨H3, H4⟩, Hk⟩
    have hc : ¬ Scalar.andi (Scalar.cmpi .sge (ctr 0) 0#32) (fAlive st) = 1#1 := by rw [ctr_sge0]; exact and0 _
    sl_exec (disch := sl_exact hc)
    sl_step
    rw [fLoop_zero]
    iapply Hk
    isplitl [H3]
    · iexact H3
    · iexact H4
  | succ n ih =>
    intro hn st Q
    simp only [spec_simps]
    show _ ⊢ wp frame _ E (cc0_while1 _ _ _ _ _ _ _ _ _ _ _ _ _ _ _ _ _ _ _ _ _ _ _) Q
    simp only [cc0_while1_eq_skeleton]; unfold cc0_while1_skel
    simp only [k0_part7_eq_skeleton, k0_part8_eq_skeleton, k0_part9_eq_skeleton]
    unfold ow owns
    iintro ⟨⟨⟨%f3, %hf3, H3⟩, ⟨%f4, %hf4, H4⟩⟩, Hk⟩
    obtain rfl := harg3.eq_unread hf3; obtain rfl := harg4.eq_unread hf4
    by_cases ha : fAlive st = 1#1
    · have hc : Scalar.andi (Scalar.cmpi .sge (ctr (n + 1)) 0#32) (fAlive st) = 1#1 := by rw [ctr_sge n (by omega), ha]; decide
      have hk := chk n (by omega)
      sl_exec (disch := first | sl_exact hc | sl_exact hk)
      have h := ih (by omega) (fStep cs (blkAt K n) (blkAt V n) st)
      rw [← load_blk harg3 K (k0_off2 (ctr (n + 1))) hk.2 n (off2 n (by omega)), ← load_blk harg4 V (k0_off2 (ctr (n + 1))) hk.2 n (off2 n (by omega)),
        ← ctr_sub n (by omega)] at h
      iapply (wp_call_spec 𝒱₀ (c : Thread nD τ) (bnd (n + 1)) E _ n (fun u hu => by cases hu; exact Nat.lt_succ_self n) h)
      rw [load_blk harg3 K (k0_off2 (ctr (n + 1))) hk.2 n (off2 n (by omega)), load_blk harg4 V (k0_off2 (ctr (n + 1))) hk.2 n (off2 n (by omega))]
      simp only [spec_simps]
      unfold ow owns
      isplitl [H3 H4]
      · isplitl [H3]
        · iexists _; isplitr; ipureintro; exact hf3; iexact H3
        · iexists _; isplitr; ipureintro; exact hf4; iexact H4
      iintro H
      sl_step
      rw [fLoop_succ cs K V n st ha]
      iapply Hk
      iexact H
    · have hc : ¬ Scalar.andi (Scalar.cmpi .sge (ctr (n + 1)) 0#32) (fAlive st) = 1#1 := by rw [ctr_sge n (by omega)]; exact and1 _ ha
      sl_exec (disch := sl_exact hc)
      sl_step
      rw [fLoop_dead cs K V n st ha]
      iapply Hk
      isplitl [H3]
      · iexists _; isplitr; ipureintro; exact hf3; iexact H3
      · iexists _; isplitr; ipureintro; exact hf4; iexact H4

/-! ## The forward call's body at one point -/

theorem off1 (i : grid0.Coords) : k0_off1 i = ![256 * (i 1).val, 0] := by
  have h : (i 1).val < 32 := (i 1).isLt
  unfold k0_off1
  generalize (i 1).val = n at h ⊢
  interval_cases n <;> decide

theorem fBody (c : Dev nD) (i : grid0.Coords) (arg2 : Memref sig .tc .vmem S256x256 .bf16) (harg2 : arg2.IsWhole)
    (arg3 : Memref sig .tc .vmem S8192x256 .bf16) (harg3 : arg3.IsWhole) (arg4 : Memref sig .tc .vmem S8192x256 .bf16) (harg4 : arg4.IsWhole)
    (arg5 : Memref sig .tc .vmem S256x256 .f32) (harg5 : arg5.IsWhole) (arg6 : Memref sig .tc .vmem S256x256 .f32) (harg6 : arg6.IsWhole)
    (q : Vec F S256x256 .bf16) (K V : Vec F S8192x256 .bf16) (E : Set ℕ) (Q : PUnit → sProp 𝕄) :
    iprop((ow c arg2 q ∗ ow c arg3 K ∗ ow c arg4 V
        ∗ (∃ x, ow c arg5 x) ∗ (∃ x, ow c arg6 x))
      ∗ ((ow c arg2 q ∗ ow c arg3 K ∗ ow c arg4 V
        ∗ ow c arg5 (fOut0 (fEnd (i 1).val q K V)) ∗ ow c arg6 (fOut1 (fEnd (i 1).val q K V)))
        -∗ Q ⟨⟩))
      ⊢ wp frame (wpE (defs₀ (F := F)) 𝒱₀ c none) E (cc0_attn_fwd i arg2 harg2 arg3 harg3 arg4 harg4 arg5 harg5 arg6 harg6) Q := by
  simp only [cc0_attn_fwd_eq_skeleton]; unfold cc0_attn_fwd_skel
  simp only [k0_part1_eq_skeleton, k0_part2_eq_skeleton, k0_part3_eq_skeleton, k0_part4_eq_skeleton, k0_part5_eq_skeleton, k0_part6_eq_skeleton]
  unfold ow owns
  iintro ⟨⟨⟨%f2, %hf2, H2⟩, ⟨%f3, %hf3, H3⟩, ⟨%f4, %hf4, H4⟩, ⟨%x5, ⟨%f5, %hf5, H5⟩⟩, ⟨%x6, ⟨%f6, %hf6, H6⟩⟩⟩, Hk⟩
  obtain rfl := harg2.eq_unread hf2; obtain rfl := harg3.eq_unread hf3; obtain rfl := harg4.eq_unread hf4
  sl_exec
  have hn : (i 1).val < 32 := (i 1).isLt
  have eK := load_blk harg3 K (k0_off1 i) (k0_off1_inb i) (i 1).val (off1 i)
  have eV := load_blk harg4 V (k0_off1 i) (k0_off1_inb i) (i 1).val (off1 i)
  have eq2 := load_all harg2 q inb_S256x256_S256x256_0_0
  have h := fun pr : Cf F × Sf F => fWhile (F := F) c i arg3 harg3 arg4 harg4 pr.1 K V E (i 1).val (by omega) pr.2
  have h := h (fPre (arg2.view.readAt (Elt F) (Rect.unit (s := S256x256) ![0, 0] S256x256.size inb_S256x256_S256x256_0_0).toLoadRect (harg2.unread q))
    (arg3.view.readAt (Elt F) (Rect.unit (s := S8192x256) (k0_off1 i) S256x256.size (k0_off1_inb i)).toLoadRect (harg3.unread K))
    (arg4.view.readAt (Elt F) (Rect.unit (s := S8192x256) (k0_off1 i) S256x256.size (k0_off1_inb i)).toLoadRect (harg4.unread V)))
  iapply (wp_call_spec 𝒱₀ (c : Thread nD τ) none E _ (i 1).val (fun u hu => nomatch hu) h)
  simp only [spec_simps]
  rw [eK, eV, eq2]
  unfold ow owns
  isplitl [H3 H4]
  · isplitl [H3]
    · iexists _; isplitr; ipureintro; exact hf3; iexact H3
    · iexists _; isplitr; ipureintro; exact hf4; iexact H4
  iintro ⟨⟨%g3, %hg3, H3⟩, ⟨%g4, %hg4, H4⟩⟩
  generalize hr : fLoop (fPre q (blkAt K (i 1).val) (blkAt V (i 1).val)).1 K V (i 1).val (fPre q (blkAt K (i 1).val) (blkAt V (i 1).val)).2 = r
  obtain ⟨b, s0, s1, s2, s3, s4, s5, s6, s7, s8, s9, s10, s11⟩ := r
  dsimp only
  sl_exec
  sl_step
  iapply Hk
  isplitl [H2]
  · iexists _; isplitr; ipureintro; exact hf2; iexact H2
  isplitl [H3]
  · iexists _; isplitr; ipureintro; exact hg3; iexact H3
  isplitl [H4]
  · iexists _; isplitr; ipureintro; exact hg4; iexact H4
  isplitl [H5]
  · iexists _; isplitr
    swap; iexact H5
    ipureintro
    rw [View.read_writes_full]; unfold fEnd; rw [hr]; rfl
  · iexists _; isplitr
    swap; iexact H6
    ipureintro
    rw [View.read_writes_full]; unfold fEnd; rw [hr]; rfl

end Cert.Kernel5.Attn
-- ==== Proof.Region.lean ====
/-
  A call whose body keeps nothing of its own, as a step of a program's run: the thread holds the core's buffers at some
  contents and leaves them with the call's arrays at what the call writes back. And the run of a program of such calls.
-/
module

public import Idealize.ShloMosaic.Lib.Pipeline.FrameBody
public import Idealize.ShloMosaic.Lib.Pipeline.RegionsLoop
public import Idealize.ShloMosaic.Lib.Pipeline.FrameSuffix

@[expose] public section

set_option maxRecDepth 16384

noncomputable section

namespace Cert.Proof.Region

open Idealize.ShloMosaic TcCoe Tactic
open Idealize.SL RA BI BIBase Laws ProofMode Sem
open Rounds
open Pipeline (Dat Cfg Window BodyObligation cellOf)

variable {nD : ℕ} {τ : Topo} {sig : RefSig} {F : FTy → Type} [FloatOps F]

local notation "𝕄" => MT nD τ sig Unit (Elt F) ℕ (UR sig nD τ) ℕ

section Contents

variable {Λ₀ : Labels} {cfg : Cfg sig Λ₀} {c : Dev nD} (d : Dat τ (Elt F) Unit ℕ (UR sig nD τ) ℕ cfg c) (V : Valuation τ sig (Elt F))

/-- The buffers after a call: its arrays at what it writes back, the rest untouched. -/
abbrev after : Valuation τ sig (Elt F) := Pipeline.withArrays cfg.spec c V fun w => d.arrAt w cfg.N

theorem after_arr (hinj : Function.Injective (Pipeline.arrRef cfg.spec)) (w : Fin cfg.W) :
    after d V (Proc.devRef .tc (Pipeline.arrRef cfg.spec w)) = d.arrAt w cfg.N :=
  Pipeline.withArrays_arr cfg.spec hinj c V (fun w => d.arrAt w cfg.N) w
/-- A buffer the call does not write is untouched. -/
theorem after_of (hinj : Function.Injective (Pipeline.arrRef cfg.spec)) (hA : ∀ w, d.A w = V (Proc.devRef .tc (Pipeline.arrRef cfg.spec w)))
    (r : Ref sig .tc) (h : ∀ w, Pipeline.arrRef cfg.spec w = r → (cfg.win w).isOut = false) :
    after d V (Proc.devRef .tc r) = V (Proc.devRef .tc r) := by
  by_cases hw : ∃ w, Pipeline.arrRef cfg.spec w = r
  · obtain ⟨w, rfl⟩ := hw
    exact (Pipeline.withArrays_arr cfg.spec hinj c _ _ w).trans ((d.arrAt_in w (h w rfl) _).trans (hA w))
  · exact Pipeline.withArrays_of_ne cfg.spec c _ _ r fun w e => hw ⟨w, e⟩

end Contents

section Run

variable {Λ₀ : Labels} {P : Type} [Fintype P] [DecidableEq P] (cfgs : P → Cfg sig Λ₀) (defs₀ : Defs nD τ sig (Elt F) Λ₀) (𝒱₀ : Variants)

abbrev pcs : P → Pipeline.PCfg sig Λ₀ (Elt F) := fun p => (cfgs p).toPCfg
abbrev adm : (p : P) → (pcs (F := F) cfgs p).Adm := fun p => (cfgs p).toPCfg_adm
abbrev L : GSem nD τ sig → Finset Unit := fun _ => ∅
abbrev lv : GSem nD τ sig → Unit → ℕ := fun _ _ => 0

/-- What rides beside the buffers. -/
abbrev R (c : Dev nD) : sProp 𝕄 := iprop((∃ r, prngReg c r) ∗ ∃ W, owes (c : Thread nD τ) (0 : CellTallies nD τ sig Unit) W)
/-- A core's buffers at contents `W`, and what rides beside them. -/
abbrev at' (W : Dev nD → Valuation τ sig (Elt F)) (c : Dev nD) : sProp 𝕄 :=
  iprop(StableHlo.held (c : Thread nD τ) (Pipeline.ucRefs τ sig) (W c) ∗ R c)

/-- A stretch of host operations. -/
abbrev host (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcs (F := F) cfgs) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (dats : (p : P) → (c : Dev nD) → Dat τ (Elt F) Unit ℕ (UR sig nD τ) ℕ (Pipeline.pin (pcs (F := F) cfgs) (adm cfgs) p) c)

set_option backward.isDefEq.respectTransparency.types false in
/-- A call over the thread's state. -/
def reg (p : P) (hl : Pipeline.LaunchFacts (nD := nD) (τ := τ) cfgs p) (V : Dev nD → Valuation τ sig (Elt F))
    (hA : ∀ c w, (dats p c).A w = V c (Proc.devRef .tc (Pipeline.arrRef (cfgs p).spec w))) (hq : ∀ c w, (dats p c).q w = fullShare)
    (howed : ∀ c t, (dats p c).owed t = 0) (hrec : ∀ c x, x ∈ (dats p c).recorded 0) (hΦ : ∀ c t, (dats p c).Φ t = Pipeline.ΦA (cfgs p).spec c)
    (hbody : ∀ c, BodyObligation (dats p c) defs₀ 𝒱₀ () Set.univ) :
    Pipeline.RegionSeg (pcs (F := F) cfgs) (adm cfgs) dats () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p howed
  pre := at' V
  post := at' fun c => after (dats p c) (V c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcs (F := F) cfgs) (adm cfgs) dats hl.win hl.arr_whole c
      ((dats p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (hrec c _)
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none, hΦ c]; unfold Pipeline.ΦA
    iintro ⟨Hr, Hp⟩
    isplitl [Hp]; · iexact Hp
    isplitr; · iempintro
    iexact Hr
  hexit c := by
    have hjoin := Pipeline.unscopedBufs_of_arrays (p := p) (pcs (F := F) cfgs) (adm cfgs) (Ix := Unit) (Name := ℕ) (U := UR sig nD τ) (Lvl := ℕ)
      hl.win hl.arr_whole c dats ((dats p c).share_full (hq c)) (fun b => V c b) (fun b => after (dats p c) (V c) b)
      ((dats p c).arrAt · (cfgs p).N) (fun w => (Pipeline.withArrays_arr (cfgs p).spec hl.win.arr_inj c (V c) (fun w => (dats p c).arrAt w (cfgs p).N) w).symm)
      (fun b hb => Pipeline.withArrays_of_ne (cfgs p).spec c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

/-- The last state, beside nothing owed. -/
abbrev Tₙ (W : Dev nD → Valuation τ sig (Elt F)) (c : Dev nD) : sProp 𝕄 :=
  iprop(StableHlo.held (c : Thread nD τ) (Pipeline.ucRefs τ sig) (W c) ∗ ∃ r, prngReg c r)
theorem last (W : Dev nD → Valuation τ sig (Elt F)) (c : Dev nD) :
    (at' W c : sProp 𝕄) ⊢ iprop(Tₙ W c ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in
/-- Every buffer ends at the last contents and every counter at zero. -/
theorem run (hinj : Function.Injective (cellOf (nD := nD) (τ := τ) cfgs)) (m : (ℓ : Loc nD τ sig) → Buf (Elt F) ℓ) (ρ : Dev nD → PrngReg)
    (main : Dev nD → Prog (TpuEff nD τ sig (Elt F) (Pipeline.Sig Λ₀ P fun p => (pcs (F := F) cfgs p).Adm) .tc) PUnit)
    (segs : List (Pipeline.Seg (pcs (F := F) cfgs) (adm cfgs) dats () defs₀ 𝒱₀ L lv)) (hmain : ∀ c, main c = Pipeline.Seg.run segs)
    (hnd : (Pipeline.Seg.pipes segs).Nodup) (W : Dev nD → Valuation τ sig (Elt F))
    (hch : Pipeline.Seg.Chains (at' fun c b => m (c, b)) segs fun c => iprop(Tₙ W c ∗ ∃ W, owes (c : Thread nD τ) (0 : CellTallies nD τ sig Unit) W))
    (hs : ∀ sm : SemLoc sig, sm.isScoped .tc = true) :
    θ_run (Pipeline.defs (pcs (F := F) cfgs) defs₀) (onTc (τ := τ) main) ⟨m, fun _ => 0, ρ⟩ (fun r => (∀ c : Dev nD,
      ∀ b ∈ Pipeline.ucRefs τ sig, r.2.mem (((c : Thread nD τ)).1, b) = W c b) ∧ r.2.sem = fun _ => 0) :=
  Pipeline.θ_run_regions_kit_sems (pcs (F := F) cfgs) (adm cfgs) dats () hinj emb₁ defs₀ 𝒱₀ L lv m ρ main segs
    (fun c Q => by rw [hmain c])
    hnd
    (O₀ := 0) (hL := fun _ _ => rfl) (G := fun _ => iprop(emp))
    (u₀ := initOf (Pipeline.cells cfgs hinj) (Pipeline.launchToks cfgs hinj))
    (hu₀ := by
      iintro Hu; imodintro
      isplitl [Hu]
      · iapply (show (ownU (initOf (Pipeline.cells cfgs hinj) (Pipeline.launchToks cfgs hinj)) : sProp 𝕄)
            ⊢ BI.own (emb₁ (initOf (Pipeline.cells cfgs hinj) (Pipeline.launchToks cfgs hinj))) from .rfl)
        iexact Hu
      iapply (show (BI.emp : sProp 𝕄) ⊢ bigSep Finset.univ (fun _ : Dev nD => (BI.emp : sProp 𝕄)) from by rw [BI.bigSep_emp_const])
      iempintro)
    (T₀ := at' fun c b => m (c, b)) (Tₙ := Tₙ W)
    (hch := hch)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W c b)
    (hfin := fun c s' => by
      iintro ⟨⟨Hh, -⟩, HSI⟩
      unfold StableHlo.held
      imodintro
      iapply (pointsTo_read_all (Pipeline.ucRefs τ sig) (fun b => (((c : Thread nD τ)).1, b)) (W c) s')
      isplitl [Hh] <;> iassumption)
    (hQ := fun s h hz => ⟨h, funext fun g => hz g (.inr (hs g.2))⟩)

end Run

end Cert.Proof.Region
-- ==== Proof.AttnHead.lean ====
/-
  One head's share of the two attention kernels: the block of scores, the logarithms of what a key lets through, the weights, and
  for the way back the gradients of the three; and that the kernels' four heads are four copies of it.
-/
module

public import proofs.«01_k».proof.Proof.AttnBwdRun

@[expose] public section

set_option maxRecDepth 16384

noncomputable section

namespace Cert.Kernel5Ideal.Attn

open Cert.Kernel5Ideal Gen
open Idealize.ShloMosaic TcCoe Idealize.SL.Sem

variable {F : FTy → Type} [FloatOps F] [Named F]

/-- A block as the kernel loads it. -/
abbrev sc {φ : FTy} (x : FVec F S256x256 φ) : FVec F S256x256 φ := shapeCast S256x256 x shapeCasts_S256x256_S256x256
/-- The block of zeros. -/
abbrev zero2 : FVec F S256x256 .f32 := broadcast S256x256 (Scalar.ofBits .f32 0x00000000#32)
/-- The column of zeros. -/
abbrev zero1 : FVec F S256x1 .f32 := broadcast S256x1 (Scalar.ofBits .f32 0x00000000#32)
/-- The products of the rows of `x` with the rows of `y`. -/
abbrev mmT (x y : FVec F S256x256 .bf16) : FVec F S256x256 .f32 :=
  matmul dot_S256x256_S256x256_S256x256_1_1_0_0_n_n none x y (constant S256x256 .f32 0x00000000#32)
/-- The product `x y`. -/
abbrev mm (x y : FVec F S256x256 .bf16) : FVec F S256x256 .f32 :=
  matmul dot_S256x256_S256x256_S256x256_1_0_0_1_n_n none x y (constant S256x256 .f32 0x00000000#32)
/-- The products of the columns of `x` with the columns of `y`. -/
abbrev tmm (x y : FVec F S256x256 .bf16) : FVec F S256x256 .f32 :=
  matmul dot_S256x256_S256x256_S256x256_0_0_1_1_n_n none x y (constant S256x256 .f32 0x00000000#32)
/-- The rounded part of a block. -/
abbrev hi (x : FVec F S256x256 .f32) : FVec F S256x256 .bf16 := truncf .bf16 x bitsLt_bf16_f32
/-- What rounding leaves over. -/
abbrev lo (x : FVec F S256x256 .f32) : FVec F S256x256 .bf16 :=
  truncf .bf16 (subf x (extf .f32 (hi x) bitsLt_bf16_f32)) bitsLt_bf16_f32
/-- A column spread over a block. -/
abbrev wide (c : FVec F S256x1 .f32) : FVec F S256x256 .f32 := broadcastTo S256x256 c broadcasts_S256x1_S256x256
/-- The sums of the rows of a block. -/
abbrev rowSum (x : FVec F S256x256 .f32) : FVec F S256x1 .f32 :=
  shapeCast S256x1 (multiReduction .add [1] S256 x 0x00000000#32 reduces_S256x256_S256 (.inl rfl) rfl) shapeCasts_S256_S256x1
/-- A block on the diagonal, kept below it. -/
abbrev low (x : FVec F S256x256 .f32) : FVec F S256x256 .f32 := select k0_pay15 x zero2
/-- The lanes of a head spread over a block. -/
abbrev lanes (m : IVec S1x256 1) : IVec S256x256 1 :=
  broadcastTo S256x256 (shapeCast S1x256 m shapeCasts_S1x256_S1x256) broadcasts_S1x256_S256x256

/-- The queries of a head. -/
def hq (m : IVec S1x256 1) (q : FVec F S256x256 .bf16) : FVec F S256x256 .bf16 :=
  select (lanes m) (sc q) (broadcast S256x256 (Scalar.ofBits .bf16 0x0000#16))
/-- The scores. -/
def hz (q k : FVec F S256x256 .bf16) : FVec F S256x256 .f32 :=
  mulf (mmT q (sc k)) (broadcast S256x256 (Scalar.ofBits .f32 0x3E000000#32))
/-- The logarithm of what a key lets through. -/
def hl (z : FVec F S256x256 .f32) : FVec F S256x256 .f32 :=
  subf zero2 (addf (maximumf z zero2) (log (addf (broadcast S256x256 (Scalar.ofBits .f32 0x3F800000#32)) (exp (subf zero2 (absf z))))))
/-- A block times a triangle of ones, in two parts. -/
def ht (x : FVec F S256x256 .f32) (l : FVec F S256x256 .bf16) : FVec F S256x256 .f32 := addf (mm (hi x) l) (mm (lo x) l)
/-- The weights. -/
def hw (z l t : FVec F S256x256 .f32) (c : FVec F S256x1 .f32) : FVec F S256x256 .f32 := exp (addf (addf (addf z l) t) (wide c))
/-- A running sum of rows. -/
def hc (c : FVec F S256x1 .f32) (x : FVec F S256x256 .f32) : FVec F S256x1 .f32 := addf c (rowSum x)
/-- A running product. -/
def ha (a : FVec F S256x256 .f32) (x y : FVec F S256x256 .bf16) : FVec F S256x256 .f32 := addf a (mm x (sc y))

/-- The gradient of the scores, from `g`, `z + l`, the row's total, the running sum and the block's sums. -/
def hd (g zl : FVec F S256x256 .f32) (tot r : FVec F S256x1 .f32) (fh : FVec F S256x256 .f32) : FVec F S256x256 .f32 :=
  subf (mulf g (subf (broadcast S256x256 (Scalar.ofBits .f32 0x3F800000#32)) (exp zl)))
    (mulf (exp zl) (subf (wide (subf tot r)) fh))
/-- An eighth of it. -/
def he (x : FVec F S256x256 .f32) : FVec F S256x256 .f32 := mulf x (broadcast S256x256 (Scalar.ofBits .f32 0x3E000000#32))

/-- A head's weights below the diagonal. -/
def hbw (later q k : FVec F S256x256 .bf16) (c : FVec F S256x1 .f32) : FVec F S256x256 .f32 :=
  hw (hz q k) (hl (hz q k)) (ht (hl (hz q k)) later) c
/-- A head's forward step below the diagonal. -/
def hStep (later q k v : FVec F S256x256 .bf16) (s : FVec F S256x1 .f32 × FVec F S256x256 .f32 × FVec F S256x256 .f32) :
    FVec F S256x1 .f32 × FVec F S256x256 .f32 × FVec F S256x256 .f32 :=
  (hc s.1 (hl (hz q k)), ha s.2.1 (hi (hbw later q k s.1)) v,
    ha s.2.2 (lo (hbw later q k s.1)) v)
/-- The weights on the diagonal. -/
def hbw0 (later q k : FVec F S256x256 .bf16) : FVec F S256x256 .f32 :=
  low (hw (hz q k) (low (hl (hz q k))) (ht (low (hl (hz q k))) later) zero1)
/-- A head's first forward step, on the diagonal. -/
def hFirst (later q k v : FVec F S256x256 .bf16) : FVec F S256x1 .f32 × FVec F S256x256 .f32 × FVec F S256x256 .f32 :=
  (hc zero1 (low (hl (hz q k))), ha zero2 (hi (hbw0 later q k)) v,
    ha zero2 (lo (hbw0 later q k)) v)

/-- The gradient of the weights' logarithms. -/
def hbg (later q k d v : FVec F S256x256 .bf16) (c : FVec F S256x1 .f32) : FVec F S256x256 .f32 := mulf (mmT d (sc v)) (hbw later q k c)
/-- An eighth of the gradient of the scores. -/
def hbd (later leq q k d v : FVec F S256x256 .bf16) (tot c r : FVec F S256x1 .f32) : FVec F S256x256 .f32 :=
  he (hd (hbg later q k d v c) (addf (hz q k) (hl (hz q k))) tot r (ht (hbg later q k d v c) leq))
/-- The gradient of their logarithms, on the diagonal. -/
def hbg0 (later q k d v : FVec F S256x256 .bf16) : FVec F S256x256 .f32 := mulf (mmT d (sc v)) (hbw0 later q k)
/-- An eighth of the gradient of the scores, on the diagonal. -/
def hbd0 (later leq q k d v : FVec F S256x256 .bf16) (tot : FVec F S256x1 .f32) : FVec F S256x256 .f32 :=
  he (low (hd (hbg0 later q k d v) (addf (hz q k) (low (hl (hz q k)))) tot zero1 (ht (hbg0 later q k d v) leq)))

/-- A head's backward step. -/
def hbStep (later leq q k d v : FVec F S256x256 .bf16) (tot : FVec F S256x1 .f32) (s : FVec F S256x1 .f32 × FVec F S256x1 .f32 × FVec F S256x256 .f32) :
    FVec F S256x1 .f32 × FVec F S256x1 .f32 × FVec F S256x256 .f32 :=
  (hc s.1 (hl (hz q k)), hc s.2.1 (hbg later q k d v s.1), ha s.2.2 (hi (hbd later leq q k d v tot s.1 s.2.1)) k)
/-- A head's first backward step, on the diagonal. -/
def hbFirst (later leq q k d v : FVec F S256x256 .bf16) (tot : FVec F S256x1 .f32) :
    FVec F S256x1 .f32 × FVec F S256x1 .f32 × FVec F S256x256 .f32 :=
  (hc zero1 (low (hl (hz q k))), hc zero1 (hbg0 later q k d v), ha zero2 (hi (hbd0 later leq q k d v tot)) k)

/-- Four products added up. -/
def four (x y z w : FVec F S256x256 .f32) : FVec F S256x256 .f32 := addf (addf (addf (addf zero2 x) y) z) w

/-- Head 0 of the forward state. -/
abbrev fS0 (st : Sf F) : FVec F S256x1 .f32 × FVec F S256x256 .f32 × FVec F S256x256 .f32 := (st.1, st.2.1, st.2.2.1)
theorem fStep_0 (cs : Cf F) (k v : Vec F S256x256 .bf16) (st : Sf F) : fS0 (fStep cs k v st) = hStep cs.2.2.2.2 cs.1 k v (fS0 st) := rfl
theorem fPre_0 (q k v : Vec F S256x256 .bf16) : fS0 (fPre q k v).2 = hFirst k0_pay16 (hq k0_pay17 q) k v := rfl

/-- Head 1 of the forward state. -/
abbrev fS1 (st : Sf F) : FVec F S256x1 .f32 × FVec F S256x256 .f32 × FVec F S256x256 .f32 := (st.2.2.2.1, st.2.2.2.2.1, st.2.2.2.2.2.1)
theorem fStep_1 (cs : Cf F) (k v : Vec F S256x256 .bf16) (st : Sf F) : fS1 (fStep cs k v st) = hStep cs.2.2.2.2 cs.2.1 k v (fS1 st) := rfl
theorem fPre_1 (q k v : Vec F S256x256 .bf16) : fS1 (fPre q k v).2 = hFirst k0_pay16 (hq k0_pay18 q) k v := rfl

/-- Head 2 of the forward state. -/
abbrev fS2 (st : Sf F) : FVec F S256x1 .f32 × FVec F S256x256 .f32 × FVec F S256x256 .f32 := (st.2.2.2.2.2.2.1, st.2.2.2.2.2.2.2.1, st.2.2.2.2.2.2.2.2.1)
theorem fStep_2 (cs : Cf F) (k v : Vec F S256x256 .bf16) (st : Sf F) : fS2 (fStep cs k v st) = hStep cs.2.2.2.2 cs.2.2.1 k v (fS2 st) := rfl
theorem fPre_2 (q k v : Vec F S256x256 .bf16) : fS2 (fPre q k v).2 = hFirst k0_pay16 (hq k0_pay19 q) k v := rfl

/-- Head 3 of the forward state. -/
abbrev fS3 (st : Sf F) : FVec F S256x1 .f32 × FVec F S256x256 .f32 × FVec F S256x256 .f32 := (st.2.2.2.2.2.2.2.2.2.1, st.2.2.2.2.2.2.2.2.2.2.1, st.2.2.2.2.2.2.2.2.2.2.2)
theorem fStep_3 (cs : Cf F) (k v : Vec F S256x256 .bf16) (st : Sf F) : fS3 (fStep cs k v st) = hStep cs.2.2.2.2 cs.2.2.2.1 k v (fS3 st) := rfl
theorem fPre_3 (q k v : Vec F S256x256 .bf16) : fS3 (fPre q k v).2 = hFirst k0_pay16 (hq k0_pay20 q) k v := rfl

theorem fOut0_eq (st : Sf F) : fOut0 st = four (select (lanes k0_pay17) (fS0 st).2.1 zero2) (select (lanes k0_pay18) (fS1 st).2.1 zero2)
    (select (lanes k0_pay19) (fS2 st).2.1 zero2) (select (lanes k0_pay20) (fS3 st).2.1 zero2) := rfl
theorem fOut1_eq (st : Sf F) : fOut1 st = four (select (lanes k0_pay17) (fS0 st).2.2 zero2) (select (lanes k0_pay18) (fS1 st).2.2 zero2)
    (select (lanes k0_pay19) (fS2 st).2.2 zero2) (select (lanes k0_pay20) (fS3 st).2.2 zero2) := rfl

/-- The gradient of a head's output. -/
def hdo (m : IVec S1x256 1) (d : FVec F S256x256 .f32) : FVec F S256x256 .bf16 := truncf .bf16 (select (lanes m) d zero2) bitsLt_bf16_f32
/-- A row's total. -/
def htot (m : IVec S1x256 1) (d o ol : FVec F S256x256 .f32) : FVec F S256x1 .f32 :=
  rowSum (select (lanes m) (mulf (extf .f32 (hi d) bitsLt_bf16_f32) (addf (sc o) (sc ol))) zero2)

/-- Head 0 of the backward state. -/
abbrev bS0 (st : Sb F) : FVec F S256x1 .f32 × FVec F S256x1 .f32 × FVec F S256x256 .f32 := (st.1, st.2.1, st.2.2.1)
theorem bStep_0 (cs : Cb F) (k v : Vec F S256x256 .bf16) (dk dv : Vec F S256x256 .f32) (st : Sb F) :
    bS0 (bStep cs k v dk dv st).1 = hbStep cs.2.2.2.2.1 cs.2.2.2.2.2.2.2.2.2.1 cs.1 k cs.2.2.2.2.2.1 v cs.2.2.2.2.2.2.2.2.2.2.1 (bS0 st) := rfl
theorem bPre_0 (q : Vec F S256x256 .bf16) (d o ol : Vec F S256x256 .f32) (k v : Vec F S256x256 .bf16) (dk dv : Vec F S256x256 .f32) :
    bS0 (bPre q d o ol k v dk dv).2.1 = hbFirst k1_pay9 k1_pay10 (hq k0_pay17 q) k (hdo k0_pay17 d) v (htot k0_pay17 d o ol) := rfl

/-- Head 1 of the backward state. -/
abbrev bS1 (st : Sb F) : FVec F S256x1 .f32 × FVec F S256x1 .f32 × FVec F S256x256 .f32 := (st.2.2.2.1, st.2.2.2.2.1, st.2.2.2.2.2.1)
theorem bStep_1 (cs : Cb F) (k v : Vec F S256x256 .bf16) (dk dv : Vec F S256x256 .f32) (st : Sb F) :
    bS1 (bStep cs k v dk dv st).1 = hbStep cs.2.2.2.2.1 cs.2.2.2.2.2.2.2.2.2.1 cs.2.1 k cs.2.2.2.2.2.2.1 v cs.2.2.2.2.2.2.2.2.2.2.2.1 (bS1 st) := rfl
theorem bPre_1 (q : Vec F S256x256 .bf16) (d o ol : Vec F S256x256 .f32) (k v : Vec F S256x256 .bf16) (dk dv : Vec F S256x256 .f32) :
    bS1 (bPre q d o ol k v dk dv).2.1 = hbFirst k1_pay9 k1_pay10 (hq k0_pay18 q) k (hdo k0_pay18 d) v (htot k0_pay18 d o ol) := rfl

/-- Head 2 of the backward state. -/
abbrev bS2 (st : Sb F) : FVec F S256x1 .f32 × FVec F S256x1 .f32 × FVec F S256x256 .f32 := (st.2.2.2.2.2.2.1, st.2.2.2.2.2.2.2.1, st.2.2.2.2.2.2.2.2.1)
theorem bStep_2 (cs : Cb F) (k v : Vec F S256x256 .bf16) (dk dv : Vec F S256x256 .f32) (st : Sb F) :
    bS2 (bStep cs k v dk dv st).1 = hbStep cs.2.2.2.2.1 cs.2.2.2.2.2.2.2.2.2.1 cs.2.2.1 k cs.2.2.2.2.2.2.2.1 v cs.2.2.2.2.2.2.2.2.2.2.2.2.1 (bS2 st) := rfl
theorem bPre_2 (q : Vec F S256x256 .bf16) (d o ol : Vec F S256x256 .f32) (k v : Vec F S256x256 .bf16) (dk dv : Vec F S256x256 .f32) :
    bS2 (bPre q d o ol k v dk dv).2.1 = hbFirst k1_pay9 k1_pay10 (hq k0_pay19 q) k (hdo k0_pay19 d) v (htot k0_pay19 d o ol) := rfl

/-- Head 3 of the backward state. -/
abbrev bS3 (st : Sb F) : FVec F S256x1 .f32 × FVec F S256x1 .f32 × FVec F S256x256 .f32 := (st.2.2.2.2.2.2.2.2.2.1, st.2.2.2.2.2.2.2.2.2.2.1, st.2.2.2.2.2.2.2.2.2.2.2)
theorem bStep_3 (cs : Cb F) (k v : Vec F S256x256 .bf16) (dk dv : Vec F S256x256 .f32) (st : Sb F) :
    bS3 (bStep cs k v dk dv st).1 = hbStep cs.2.2.2.2.1 cs.2.2.2.2.2.2.2.2.2.1 cs.2.2.2.1 k cs.2.2.2.2.2.2.2.2.1 v cs.2.2.2.2.2.2.2.2.2.2.2.2.2 (bS3 st) := rfl
theorem bPre_3 (q : Vec F S256x256 .bf16) (d o ol : Vec F S256x256 .f32) (k v : Vec F S256x256 .bf16) (dk dv : Vec F S256x256 .f32) :
    bS3 (bPre q d o ol k v dk dv).2.1 = hbFirst k1_pay9 k1_pay10 (hq k0_pay20 q) k (hdo k0_pay20 d) v (htot k0_pay20 d o ol) := rfl

theorem bOut0_eq (st : Sb F) : bOut0 st = four (select (lanes k0_pay17) (bS0 st).2.2 zero2) (select (lanes k0_pay18) (bS1 st).2.2 zero2) (select (lanes k0_pay19) (bS2 st).2.2 zero2) (select (lanes k0_pay20) (bS3 st).2.2 zero2) := rfl
theorem bStep_dk (cs : Cb F) (k v : Vec F S256x256 .bf16) (dk dv : Vec F S256x256 .f32) (st : Sb F) :
    (bStep cs k v dk dv st).2.1 = addf (sc dk) (four (tmm (hi (hbd cs.2.2.2.2.1 cs.2.2.2.2.2.2.2.2.2.1 cs.1 k cs.2.2.2.2.2.1 v cs.2.2.2.2.2.2.2.2.2.2.1 (bS0 st).1 (bS0 st).2.1)) cs.1) (tmm (hi (hbd cs.2.2.2.2.1 cs.2.2.2.2.2.2.2.2.2.1 cs.2.1 k cs.2.2.2.2.2.2.1 v cs.2.2.2.2.2.2.2.2.2.2.2.1 (bS1 st).1 (bS1 st).2.1)) cs.2.1) (tmm (hi (hbd cs.2.2.2.2.1 cs.2.2.2.2.2.2.2.2.2.1 cs.2.2.1 k cs.2.2.2.2.2.2.2.1 v cs.2.2.2.2.2.2.2.2.2.2.2.2.1 (bS2 st).1 (bS2 st).2.1)) cs.2.2.1) (tmm (hi (hbd cs.2.2.2.2.1 cs.2.2.2.2.2.2.2.2.2.1 cs.2.2.2.1 k cs.2.2.2.2.2.2.2.2.1 v cs.2.2.2.2.2.2.2.2.2.2.2.2.2 (bS3 st).1 (bS3 st).2.1)) cs.2.2.2.1)) := rfl
theorem bStep_dv (cs : Cb F) (k v : Vec F S256x256 .bf16) (dk dv : Vec F S256x256 .f32) (st : Sb F) :
    (bStep cs k v dk dv st).2.2 = addf (sc dv) (four (tmm (hi (hbw cs.2.2.2.2.1 cs.1 k (bS0 st).1)) cs.2.2.2.2.2.1) (tmm (hi (hbw cs.2.2.2.2.1 cs.2.1 k (bS1 st).1)) cs.2.2.2.2.2.2.1) (tmm (hi (hbw cs.2.2.2.2.1 cs.2.2.1 k (bS2 st).1)) cs.2.2.2.2.2.2.2.1) (tmm (hi (hbw cs.2.2.2.2.1 cs.2.2.2.1 k (bS3 st).1)) cs.2.2.2.2.2.2.2.2.1)) := rfl
theorem bPre_dk (q : Vec F S256x256 .bf16) (d o ol : Vec F S256x256 .f32) (k v : Vec F S256x256 .bf16) (dk dv : Vec F S256x256 .f32) :
    (bPre q d o ol k v dk dv).2.2.1 = addf (sc dk) (four (tmm (hi (hbd0 k1_pay9 k1_pay10 (hq k0_pay17 q) k (hdo k0_pay17 d) v (htot k0_pay17 d o ol))) (hq k0_pay17 q)) (tmm (hi (hbd0 k1_pay9 k1_pay10 (hq k0_pay18 q) k (hdo k0_pay18 d) v (htot k0_pay18 d o ol))) (hq k0_pay18 q)) (tmm (hi (hbd0 k1_pay9 k1_pay10 (hq k0_pay19 q) k (hdo k0_pay19 d) v (htot k0_pay19 d o ol))) (hq k0_pay19 q)) (tmm (hi (hbd0 k1_pay9 k1_pay10 (hq k0_pay20 q) k (hdo k0_pay20 d) v (htot k0_pay20 d o ol))) (hq k0_pay20 q))) := rfl
theorem bPre_dv (q : Vec F S256x256 .bf16) (d o ol : Vec F S256x256 .f32) (k v : Vec F S256x256 .bf16) (dk dv : Vec F S256x256 .f32) :
    (bPre q d o ol k v dk dv).2.2.2 = addf (sc dv) (four (tmm (hi (hbw0 k1_pay9 (hq k0_pay17 q) k)) (hdo k0_pay17 d)) (tmm (hi (hbw0 k1_pay9 (hq k0_pay18 q) k)) (hdo k0_pay18 d)) (tmm (hi (hbw0 k1_pay9 (hq k0_pay19 q) k)) (hdo k0_pay19 d)) (tmm (hi (hbw0 k1_pay9 (hq k0_pay20 q) k)) (hdo k0_pay20 d))) := rfl

theorem fPre_cs (q k v : Vec F S256x256 .bf16) : (fPre q k v).1 = (hq k0_pay17 q, hq k0_pay18 q, hq k0_pay19 q, hq k0_pay20 q, k0_pay16) := rfl
theorem bPre_cs (q : Vec F S256x256 .bf16) (d o ol : Vec F S256x256 .f32) (k v : Vec F S256x256 .bf16) (dk dv : Vec F S256x256 .f32) :
    (bPre q d o ol k v dk dv).1 = (hq k0_pay17 q, hq k0_pay18 q, hq k0_pay19 q, hq k0_pay20 q, k1_pay9, hdo k0_pay17 d, hdo k0_pay18 d, hdo k0_pay19 d, hdo k0_pay20 d, k1_pay10, htot k0_pay17 d o ol, htot k0_pay18 d o ol, htot k0_pay19 d o ol, htot k0_pay20 d o ol) := rfl

end Cert.Kernel5Ideal.Attn
-- ==== Proof.AttnReal.lean ====
/-
  One head's block operations on finite numbers: each gives the real number the formula says, and what rounding leaves over
  is nothing.
-/
module

public import proofs.«01_k».proof.Proof.AttnHead
public import proofs.«01_k».proof.Proof.Sums
public import Idealize.ShloMosaic.Lib.WordCmp

@[expose] public section

set_option maxRecDepth 16384

noncomputable section

namespace Cert.Kernel5Ideal.Attn

open Cert.Kernel5Ideal Gen
open Idealize.ShloMosaic TcCoe

/-- A block of real numbers. -/
def up {φ : FTy} (x : ℕ → ℕ → ℝ) : FVec Ideal S256x256 φ := fun y => ((x (y 0).val (y 1).val : ℝ) : EReal)
/-- A column of real numbers. -/
def up1 (x : ℕ → ℝ) : FVec Ideal S256x1 .f32 := fun y => ((x (y 0).val : ℝ) : EReal)

theorem coe_sum' {ι : Type} (s : Finset ι) (f : ι → ℝ) : ((∑ k ∈ s, f k : ℝ) : EReal) = ∑ k ∈ s, (f k : EReal) := by
  induction s using Finset.cons_induction with
  | empty => simp
  | cons i s hi ih => rw [Finset.sum_cons, Finset.sum_cons, EReal.coe_add, ih]
theorem coe_sum {n : ℕ} (f : ℕ → ℝ) : ∑ k : Fin n, ((f k.val : ℝ) : EReal) = ((∑ k ∈ Finset.range n, f k : ℝ) : EReal) := by
  rw [coe_sum', Finset.sum_range]

theorem toInt_small {n : ℕ} (h : n < 1000) : (BitVec.ofNat 32 n).toInt = n := by
  rw [BitVec.toInt_eq_toNat_of_lt (by rw [BitVec.toNat_ofNat, Nat.mod_eq_of_lt (by omega)]; omega), BitVec.toNat_ofNat, Nat.mod_eq_of_lt (by omega)]
theorem slt_small {a b : ℕ} (ha : a < 1000) (hb : b < 1000) :
    IntOp.cmpi .slt (BitVec.ofNat 32 a) (BitVec.ofNat 32 b) = if a < b then 1#1 else 0#1 := by
  rw [show IntOp.cmpi .slt (BitVec.ofNat 32 a) (BitVec.ofNat 32 b) = BitVec.ofBool (decide ((BitVec.ofNat 32 a).toInt < (BitVec.ofNat 32 b).toInt)) from rfl, toInt_small ha, toInt_small hb]; by_cases h : a < b <;> simp [h]
theorem sge_small {a b : ℕ} (ha : a < 1000) (hb : b < 1000) :
    IntOp.cmpi .sge (BitVec.ofNat 32 a) (BitVec.ofNat 32 b) = if b ≤ a then 1#1 else 0#1 := by
  rw [show IntOp.cmpi .sge (BitVec.ofNat 32 a) (BitVec.ofNat 32 b) = BitVec.ofBool (decide ((BitVec.ofNat 32 b).toInt ≤ (BitVec.ofNat 32 a).toInt)) from rfl, toInt_small ha, toInt_small hb]; by_cases h : b ≤ a <;> simp [h]
theorem sgt_small {a b : ℕ} (ha : a < 1000) (hb : b < 1000) :
    IntOp.cmpi .sgt (BitVec.ofNat 32 a) (BitVec.ofNat 32 b) = if b < a then 1#1 else 0#1 := by
  rw [show IntOp.cmpi .sgt (BitVec.ofNat 32 a) (BitVec.ofNat 32 b) = BitVec.ofBool (decide ((BitVec.ofNat 32 b).toInt < (BitVec.ofNat 32 a).toInt)) from rfl, toInt_small ha, toInt_small hb]; by_cases h : b < a <;> simp [h]

theorem rng_small {x a b : ℕ} (hx : x < 1000) (ha : a < 1000) (hb : b < 1000) :
    IntOp.andi (IntOp.cmpi .sge (BitVec.ofNat 32 x) (BitVec.ofNat 32 a)) (IntOp.cmpi .slt (BitVec.ofNat 32 x) (BitVec.ofNat 32 b))
      = if a ≤ x ∧ x < b then 1#1 else 0#1 := by
  rw [sge_small hx ha, slt_small hx hb]
  by_cases h0 : a ≤ x <;> by_cases h1 : x < b <;> simp only [h0, h1, if_true, if_false, and_self, and_true, true_and, and_false, false_and] <;> rfl

theorem ix_lt (i : S256x256.Idx) (a : Fin 2) : (i a).val < 256 := by
  match a with
  | ⟨0, _⟩ => exact (i 0).isLt
  | ⟨1, _⟩ => exact (i 1).isLt
theorem ix1_lt (i : S256x1.Idx) : (i 0).val < 256 := (i 0).isLt

theorem sc_up {φ : FTy} (x : ℕ → ℕ → ℝ) : sc (up (φ := φ) x) = up x := by
  funext y; pointwise
theorem mmT_up (x y : ℕ → ℕ → ℝ) : mmT (F := Ideal) (up x) (up y) = up fun a b => ∑ d ∈ Finset.range 256, x a d * y b d := by
  funext i; pointwise
  refine Eq.trans ?_ (coe_sum (n := 256) fun d => x (i 0).val d * y (i 1).val d)
  exact Finset.sum_congr rfl fun k _ => (EReal.coe_mul _ _).symm
theorem mm_up (x y : ℕ → ℕ → ℝ) : mm (F := Ideal) (up x) (up y) = up fun a b => ∑ d ∈ Finset.range 256, x a d * y d b := by
  funext i; pointwise
  refine Eq.trans ?_ (coe_sum (n := 256) fun d => x (i 0).val d * y d (i 1).val)
  exact Finset.sum_congr rfl fun k _ => (EReal.coe_mul _ _).symm
theorem tmm_up (x y : ℕ → ℕ → ℝ) : tmm (F := Ideal) (up x) (up y) = up fun a b => ∑ d ∈ Finset.range 256, x d a * y d b := by
  funext i; pointwise
  refine Eq.trans ?_ (coe_sum (n := 256) fun d => x d (i 0).val * y d (i 1).val)
  exact Finset.sum_congr rfl fun k _ => (EReal.coe_mul _ _).symm
theorem hi_up (x : ℕ → ℕ → ℝ) : hi (F := Ideal) (up x) = up x := rfl
theorem lo_up (x : ℕ → ℕ → ℝ) : lo (F := Ideal) (up x) = up fun _ _ => 0 := by
  funext i
  show ((x _ _ : ℝ) : EReal) - ((x _ _ : ℝ) : EReal) = ((0 : ℝ) : EReal)
  rw [← EReal.coe_sub, sub_self]
theorem wide_up (c : ℕ → ℝ) : wide (F := Ideal) (up1 c) = up fun a _ => c a := by
  funext i; pointwise; rfl
theorem rowSum_up (x : ℕ → ℕ → ℝ) : rowSum (F := Ideal) (up x) = up1 fun a => ∑ d ∈ Finset.range 256, x a d := by
  funext i; pointwise
  exact coe_sum (n := 256) fun d => x (i 0).val d
theorem zero2_up : zero2 (F := Ideal) = up fun _ _ => 0 := by
  funext i; pointwise; exact EReal.coe_zero.symm
theorem zero1_up : zero1 (F := Ideal) = up1 fun _ => 0 := by
  funext i; pointwise; exact EReal.coe_zero.symm
theorem add_up (x y : ℕ → ℕ → ℝ) : addf (F := Ideal) (s := S256x256) (φ := .f32) (up x) (up y) = up fun a b => x a b + y a b := rfl
theorem mul_up (x y : ℕ → ℕ → ℝ) : mulf (F := Ideal) (s := S256x256) (φ := .f32) (up x) (up y) = up fun a b => x a b * y a b := rfl
theorem sub_up (x y : ℕ → ℕ → ℝ) : subf (F := Ideal) (s := S256x256) (φ := .f32) (up x) (up y) = up fun a b => x a b - y a b := rfl
theorem add_up1 (x y : ℕ → ℝ) : addf (F := Ideal) (s := S256x1) (φ := .f32) (up1 x) (up1 y) = up1 fun a => x a + y a := rfl
theorem sub_up1 (x y : ℕ → ℝ) : subf (F := Ideal) (s := S256x1) (φ := .f32) (up1 x) (up1 y) = up1 fun a => x a - y a := rfl
theorem exp_up (x : ℕ → ℕ → ℝ) : exp (F := Ideal) (s := S256x256) (φ := .f32) (up x) = up fun a b => Real.exp (x a b) := rfl

/-- A block on the diagonal, kept below it. -/
def tri (x : ℕ → ℕ → ℝ) : ℕ → ℕ → ℝ := fun a b => if b < a then x a b else 0
theorem low_up (x : ℕ → ℕ → ℝ) : low (F := Ideal) (up x) = up (tri x) := by
  funext i
  unfold low k0_pay15
  pointwise
  rw [slt_small (by have := ix_lt i 1; omega) (by have := ix_lt i 0; omega)]
  unfold up tri
  split <;> rfl
theorem later_up : k0_pay16 (F := Ideal) = up (tri fun _ _ => 1) := by
  funext i
  unfold k0_pay16
  pointwise
  rw [sgt_small (by have := ix_lt i 0; omega) (by have := ix_lt i 1; omega)]
  unfold up tri
  split <;> simp [FloatOps.sitofp]
theorem later_up' : k1_pay9 (F := Ideal) = up (tri fun _ _ => 1) := later_up
theorem leq_up : k1_pay10 (F := Ideal) = up fun a b => if b ≤ a then 1 else 0 := by
  funext i
  unfold k1_pay10
  pointwise
  rw [sge_small (by have := ix_lt i 0; omega) (by have := ix_lt i 1; omega)]
  unfold up
  by_cases h : (i 1).val ≤ (i 0).val <;> simp [h, FloatOps.sitofp]

/-- The lanes of head `n`. -/
def msk (n : ℕ) (x : ℕ → ℕ → ℝ) : ℕ → ℕ → ℝ := fun a d => if d / 64 = n then x a d else 0
/-- The mask of head `n`. -/
def hm : Fin 4 → IVec S1x256 1 := ![k0_pay17, k0_pay18, k0_pay19, k0_pay20]
theorem lanes_eq (n : Fin 4) (i : S256x256.Idx) : lanes (hm n) i = if (i 1).val / 64 = n.val then 1#1 else 0#1 := by
  have h := ix_lt i 1
  fin_cases n
  · show lanes k0_pay17 i = _
    unfold lanes k0_pay17
    pointwise
    refine (rng_small (x := (i 1).val) (a := 0) (b := 64) (by omega) (by omega) (by omega)).trans (if_congr ?_ rfl rfl)
    show 0 ≤ (i 1).val ∧ (i 1).val < 64 ↔ (i 1).val / 64 = 0
    omega
  · show lanes k0_pay18 i = _
    unfold lanes k0_pay18
    pointwise
    refine (rng_small (x := (i 1).val) (a := 64) (b := 128) (by omega) (by omega) (by omega)).trans (if_congr ?_ rfl rfl)
    show 64 ≤ (i 1).val ∧ (i 1).val < 128 ↔ (i 1).val / 64 = 1
    omega
  · show lanes k0_pay19 i = _
    unfold lanes k0_pay19
    pointwise
    refine (rng_small (x := (i 1).val) (a := 128) (b := 192) (by omega) (by omega) (by omega)).trans (if_congr ?_ rfl rfl)
    show 128 ≤ (i 1).val ∧ (i 1).val < 192 ↔ (i 1).val / 64 = 2
    omega
  · show lanes k0_pay20 i = _
    unfold lanes k0_pay20
    pointwise
    refine (rng_small (x := (i 1).val) (a := 192) (b := 256) (by omega) (by omega) (by omega)).trans (if_congr ?_ rfl rfl)
    show 192 ≤ (i 1).val ∧ (i 1).val < 256 ↔ (i 1).val / 64 = 3
    omega
theorem sel_up (n : Fin 4) (x : ℕ → ℕ → ℝ) : select (lanes (hm n)) (up (φ := .f32) x) (zero2 (F := Ideal)) = up (φ := .f32) (msk n.val x) := by
  rw [zero2_up]
  funext i
  show Scalar.select (lanes (hm n) i) _ _ = _
  rw [lanes_eq]
  unfold up msk
  split <;> rfl
theorem hq_up (n : Fin 4) (x : ℕ → ℕ → ℝ) : hq (F := Ideal) (hm n) (up x) = up (msk n.val x) := by
  unfold hq
  rw [sc_up]
  have e : (broadcast S256x256 (Scalar.ofBits .bf16 0x0000#16) : FVec Ideal S256x256 .bf16) = up fun _ _ => 0 := by
    funext i; pointwise; exact EReal.coe_zero.symm
  rw [e]
  funext i
  show Scalar.select (lanes (hm n) i) _ _ = _
  rw [lanes_eq]
  unfold up msk
  split <;> rfl
theorem hdo_up (n : Fin 4) (x : ℕ → ℕ → ℝ) : hdo (F := Ideal) (hm n) (up x) = up (msk n.val x) := by
  unfold hdo; rw [sel_up]; rfl

/-- The logarithm of what a key of score `z` lets through. -/
def lkR (z : ℝ) : ℝ := -(max z 0 + Real.log (1 + Real.exp (-|z|)))
theorem hl_up (x : ℕ → ℕ → ℝ) : hl (F := Ideal) (up x) = up fun a b => lkR (x a b) := by
  funext i
  unfold hl
  pointwise
  unfold up
  show _ = ((lkR (x (i 0).val (i 1).val) : ℝ) : EReal)
  generalize x (i 0).val (i 1).val = r
  have ha : FloatOps.absf (F := Ideal) (φ := .f32) (r : EReal) = ((|r| : ℝ) : EReal) := by
    show max (r : EReal) (-(r : EReal)) = _
    rw [← EReal.coe_neg, ← EReal.coe_strictMono.monotone.map_max]; rfl
  rw [ha]
  have hm : max (r : EReal) 0 = ((max r 0 : ℝ) : EReal) := (EReal.coe_strictMono.monotone.map_max (a := r) (b := 0)).symm
  have hp : 0 < 1 + Real.exp (-|r|) := by positivity
  rw [hm, show (0 : EReal) = ((0 : ℝ) : EReal) from rfl, ← EReal.coe_sub, Ideal.exp_coe, show (1 : EReal) = ((1 : ℝ) : EReal) from rfl, ← EReal.coe_add, Ideal.log_coe,
    zero_sub, if_neg (not_le.mpr hp), ← EReal.coe_add, ← EReal.coe_sub, zero_sub]
  rfl
theorem hz_up (x y : ℕ → ℕ → ℝ) : hz (F := Ideal) (up x) (up y) = up fun a b => (∑ d ∈ Finset.range 256, x a d * y b d) * (1 / 8) := by
  unfold hz; rw [sc_up, mmT_up]
  funext i
  show _ * Ideal.ofBits .f32 0x3E000000#32 = _
  rw [Sums.c_eighth]; exact (EReal.coe_mul _ _).symm
theorem he_up (x : ℕ → ℕ → ℝ) : he (F := Ideal) (up x) = up fun a b => x a b * (1 / 8) := by
  unfold he
  funext i
  show _ * Ideal.ofBits .f32 0x3E000000#32 = _
  rw [Sums.c_eighth]; exact (EReal.coe_mul _ _).symm
theorem ht_up (x l : ℕ → ℕ → ℝ) : ht (F := Ideal) (up x) (up l) = up fun a b => ∑ d ∈ Finset.range 256, x a d * l d b := by
  unfold ht; rw [hi_up, lo_up, mm_up, mm_up, add_up]; simp
theorem hw_up (z l t : ℕ → ℕ → ℝ) (c : ℕ → ℝ) : hw (F := Ideal) (up z) (up l) (up t) (up1 c) = up fun a b => Real.exp (z a b + l a b + t a b + c a) := by
  unfold hw; rw [wide_up, add_up, add_up, add_up, exp_up]
theorem hc_up (c : ℕ → ℝ) (x : ℕ → ℕ → ℝ) : hc (F := Ideal) (up1 c) (up x) = up1 fun a => c a + ∑ d ∈ Finset.range 256, x a d := by
  unfold hc; rw [rowSum_up, add_up1]
theorem ha_up (c x y : ℕ → ℕ → ℝ) : ha (F := Ideal) (up c) (up x) (up y) = up fun a b => c a b + ∑ d ∈ Finset.range 256, x a d * y d b := by
  unfold ha; rw [sc_up, mm_up, add_up]
theorem hd_up (g zl : ℕ → ℕ → ℝ) (tot r : ℕ → ℝ) (fh : ℕ → ℕ → ℝ) : hd (F := Ideal) (up g) (up zl) (up1 tot) (up1 r) (up fh)
    = up fun a b => g a b * (1 - Real.exp (zl a b)) - Real.exp (zl a b) * (tot a - r a - fh a b) := by
  have e : (broadcast S256x256 (Scalar.ofBits .f32 0x3F800000#32) : FVec Ideal S256x256 .f32) = up fun _ _ => 1 := by
    funext i; pointwise; exact EReal.coe_one.symm
  unfold hd; rw [e, exp_up, sub_up1, wide_up, sub_up, sub_up, mul_up, mul_up, sub_up]
theorem htot_up (n : Fin 4) (d o : ℕ → ℕ → ℝ) : htot (F := Ideal) (hm n) (up d) (up o) (up fun _ _ => 0)
    = up1 fun a => ∑ x ∈ Finset.range 256, msk n.val (fun a b => d a b * o a b) a x := by
  unfold htot; rw [sc_up, sc_up, add_up, hi_up]
  have e : (extf .f32 (up (φ := .bf16) d : FVec Ideal S256x256 .bf16) bitsLt_bf16_f32 : FVec Ideal S256x256 .f32) = up d := rfl
  rw [e, mul_up, sel_up, rowSum_up]; simp
theorem four_up (x y z w : ℕ → ℕ → ℝ) : four (F := Ideal) (up x) (up y) (up z) (up w) = up fun a b => x a b + y a b + z a b + w a b := by
  unfold four; rw [zero2_up, add_up, add_up, add_up, add_up]; simp

end Cert.Kernel5Ideal.Attn
-- ==== Proof.AttnStep.lean ====
/-
  What one block of columns does to a head's running sums, as sums over the columns from there on.
-/
module

public import proofs.«01_k».proof.Proof.AttnReal
public import Mathlib.Algebra.BigOperators.Intervals

@[expose] public section

set_option maxRecDepth 16384

noncomputable section

namespace Cert.Kernel5Ideal.Attn

open Cert.Kernel5Ideal Gen
open Idealize.ShloMosaic TcCoe

theorem up_congr {φ : FTy} {x y : ℕ → ℕ → ℝ} (h : ∀ a < 256, ∀ b < 256, x a b = y a b) : up (φ := φ) x = up y :=
  funext fun i => congrArg (fun r : ℝ => (r : EReal)) (h _ (ix_lt i 0) _ (ix_lt i 1))
theorem up1_congr {x y : ℕ → ℝ} (h : ∀ a < 256, x a = y a) : up1 x = up1 y :=
  funext fun i => congrArg (fun r : ℝ => (r : EReal)) (h _ (ix1_lt i))

/-! The sums. -/

theorem sum_blk (f : ℕ → ℝ) (J : ℕ) : ∑ d ∈ Finset.range 256, f (256 * J + d) = ∑ u ∈ Finset.Ico (256 * J) (256 * J + 256), f u := by
  rw [Finset.sum_Ico_eq_sum_range]; simp
theorem sum_from {f : ℕ → ℝ} {a b c : ℕ} (h : a ≤ b) (h' : b ≤ c) :
    ∑ u ∈ Finset.Ico a c, f u = ∑ u ∈ Finset.Ico a b, f u + ∑ u ∈ Finset.Ico b c, f u := (Finset.sum_Ico_consecutive f h h').symm
theorem sum_leq (f : ℕ → ℝ) (J b : ℕ) (hb : b ≤ 256) :
    ∑ d ∈ Finset.range 256, f (256 * J + d) * (if b ≤ d then 1 else 0) = ∑ u ∈ Finset.Ico (256 * J + b) (256 * J + 256), f u := by
  have e : ∀ d, f (256 * J + d) * (if b ≤ d then 1 else 0) = (fun u => if 256 * J + b ≤ u then f u else 0) (256 * J + d) := by
    intro d
    by_cases h : b ≤ d <;> simp [h]
  rw [Finset.sum_congr rfl fun d _ => e d, sum_blk (fun u => if 256 * J + b ≤ u then f u else 0) J, sum_from (b := 256 * J + b) (by omega) (by omega),
    Finset.sum_eq_zero (s := Finset.Ico (256 * J) (256 * J + b)), zero_add]
  · exact Finset.sum_congr rfl fun u hu => if_pos (Finset.mem_Ico.mp hu).1
  · exact fun u hu => if_neg (by have := (Finset.mem_Ico.mp hu).2; omega)
theorem sum_tri (f : ℕ → ℝ) (J b : ℕ) (hb : b < 256) :
    ∑ d ∈ Finset.range 256, f (256 * J + d) * tri (fun _ _ => 1) d b = ∑ u ∈ Finset.Ico (256 * J + (b + 1)) (256 * J + 256), f u :=
  sum_leq f J (b + 1) (by omega)

/-! One head: the scores `z`, the queries `q`, the keys `k`, the values `v`, the gradient `d` of the outputs, all by position. -/

/-- The scores. -/
def zR (q k : ℕ → ℕ → ℝ) : ℕ → ℕ → ℝ := fun s t => (∑ d ∈ Finset.range 256, q s d * k t d) * (1 / 8)
/-- What a key lets through, of the keys before a position. -/
def lR (z : ℕ → ℕ → ℝ) : ℕ → ℕ → ℝ := fun s t => if t < s then lkR (z s t) else 0
/-- A row's sum from a position on. -/
def fromR (x : ℕ → ℕ → ℝ) : ℕ → ℕ → ℝ := fun s t => ∑ u ∈ Finset.Ico t 8192, x s u
/-- The weights. -/
def wR (z : ℕ → ℕ → ℝ) : ℕ → ℕ → ℝ := fun s t => if t < s then Real.exp (z s t + lkR (z s t) + fromR (lR z) s (t + 1)) else 0
/-- The gradients of the weights' logarithms. -/
def gR (z d v : ℕ → ℕ → ℝ) : ℕ → ℕ → ℝ := fun s t => (∑ e ∈ Finset.range 256, d s e * v t e) * wR z s t
/-- An eighth of the gradients of the scores, from the rows' totals. -/
def dR (z d v : ℕ → ℕ → ℝ) (tot : ℕ → ℝ) : ℕ → ℕ → ℝ := fun s t =>
  (if t < s then gR z d v s t * (1 - Real.exp (z s t + lkR (z s t))) - Real.exp (z s t + lkR (z s t)) * (tot s - fromR (gR z d v) s t) else 0) * (1 / 8)
/-- A row's weighted sum of the rows `v` from a position on. -/
def accR (w v : ℕ → ℕ → ℝ) (s t : ℕ) (e : ℕ) : ℝ := ∑ u ∈ Finset.Ico t 8192, w s u * v u e

/-- Rows from `256 i` on. -/
def sh (i : ℕ) (x : ℕ → ℕ → ℝ) : ℕ → ℕ → ℝ := fun a d => x (256 * i + a) d
/-- Rows from `256 i` and columns from `256 j` on. -/
def sh2 (i j : ℕ) (x : ℕ → ℕ → ℝ) : ℕ → ℕ → ℝ := fun a b => x (256 * i + a) (256 * j + b)

theorem t3 {α β γ : Type} {a a' : α} {b b' : β} {c c' : γ} (h : a = a') (h' : b = b') (h'' : c = c') : (a, b, c) = (a', b', c') := by
  rw [h, h', h'']

theorem hz_sh (q k : ℕ → ℕ → ℝ) (i j : ℕ) : hz (F := Ideal) (up (sh i q)) (up (sh j k)) = up (sh2 i j (zR q k)) := by rw [hz_up]; rfl
theorem dw_sh (d v : ℕ → ℕ → ℝ) (i j : ℕ) :
    mmT (F := Ideal) (up (sh i d)) (sc (up (sh j v))) = up (sh2 i j fun s t => ∑ e ∈ Finset.range 256, d s e * v t e) := by
  rw [sc_up, mmT_up]; rfl

theorem from_split (x : ℕ → ℕ → ℝ) (s J b : ℕ) (hb : b ≤ 256) (hJ : J < 32) :
    fromR x s (256 * J + b) = ∑ u ∈ Finset.Ico (256 * J + b) (256 * J + 256), x s u + fromR x s (256 * (J + 1)) := by
  unfold fromR
  rw [sum_from (b := 256 * J + 256) (by omega) (by omega)]; rfl
theorem from_blk (x : ℕ → ℕ → ℝ) (s J : ℕ) (hJ : J < 32) :
    fromR x s (256 * (J + 1)) + ∑ d ∈ Finset.range 256, x s (256 * J + d) = fromR x s (256 * J) := by
  rw [sum_blk, add_comm]; exact (from_split x s J 0 (by omega) hJ).symm
theorem from_zero (x : ℕ → ℕ → ℝ) (hx : ∀ s t, s ≤ t → x s t = 0) (s t : ℕ) (h : s ≤ t) : fromR x s t = 0 :=
  Finset.sum_eq_zero fun u hu => hx s u (by have := (Finset.mem_Ico.mp hu).1; omega)
theorem acc_blk (w v : ℕ → ℕ → ℝ) (s J e : ℕ) (hJ : J < 32) :
    accR w v s (256 * (J + 1)) e + ∑ d ∈ Finset.range 256, w s (256 * J + d) * v (256 * J + d) e = accR w v s (256 * J) e :=
  from_blk (fun s u => w s u * v u e) s J hJ
theorem acc_zero (w v : ℕ → ℕ → ℝ) (hw : ∀ s t, s ≤ t → w s t = 0) (s t e : ℕ) (h : s ≤ t) : accR w v s t e = 0 :=
  from_zero (fun s u => w s u * v u e) (fun s t h => by rw [hw s t h, zero_mul]) s t h
theorem lR_zero (z : ℕ → ℕ → ℝ) (s t : ℕ) (h : s ≤ t) : lR z s t = 0 := if_neg (by omega)
theorem wR_zero (z : ℕ → ℕ → ℝ) (s t : ℕ) (h : s ≤ t) : wR z s t = 0 := if_neg (by omega)
theorem gR_zero (z d v : ℕ → ℕ → ℝ) (s t : ℕ) (h : s ≤ t) : gR z d v s t = 0 := by unfold gR; rw [wR_zero z s t h, mul_zero]
theorem dR_zero (z d v : ℕ → ℕ → ℝ) (tot : ℕ → ℝ) (s t : ℕ) (h : s ≤ t) : dR z d v tot s t = 0 := by
  unfold dR; rw [if_neg (by omega), zero_mul]

section
variable (q k v d : ℕ → ℕ → ℝ) (tot : ℕ → ℝ) (i J : ℕ)

/-! Below the diagonal. -/

theorem hl_sh (h : J < i) : hl (F := Ideal) (hz (up (sh i q)) (up (sh J k))) = up (sh2 i J (lR (zR q k))) := by
  rw [hz_sh, hl_up]
  exact up_congr fun a ha b hb => (if_pos (by omega)).symm
theorem hbw_sh (h : J < i) (hi : i < 32) : hbw (F := Ideal) k0_pay16 (up (sh i q)) (up (sh J k)) (up1 fun a => fromR (lR (zR q k)) (256 * i + a) (256 * (J + 1)))
    = up (sh2 i J (wR (zR q k))) := by
  unfold hbw
  rw [hl_sh q k i J h, hz_sh, later_up, ht_up, hw_up]
  refine up_congr fun a ha b hb => ?_
  have e : ∑ u ∈ Finset.range 256, sh2 i J (lR (zR q k)) a u * tri (fun _ _ => 1) u b
      = ∑ u ∈ Finset.Ico (256 * J + (b + 1)) (256 * J + 256), lR (zR q k) (256 * i + a) u := sum_tri (fun u => lR (zR q k) (256 * i + a) u) J b hb
  show Real.exp (_ + lR (zR q k) (256 * i + a) (256 * J + b) + ∑ u ∈ Finset.range 256, sh2 i J (lR (zR q k)) a u * tri (fun _ _ => 1) u b + _) = wR (zR q k) (256 * i + a) (256 * J + b)
  unfold wR
  rw [if_pos (by omega), e, show 256 * J + b + 1 = 256 * J + (b + 1) from by omega, from_split _ _ J (b + 1) (by omega) (by omega)]
  unfold lR
  rw [if_pos (by omega), sh2]
  congr 1
  ring
theorem hbg_sh (h : J < i) (hi : i < 32) : hbg (F := Ideal) k0_pay16 (up (sh i q)) (up (sh J k)) (up (sh i d)) (up (sh J v))
      (up1 fun a => fromR (lR (zR q k)) (256 * i + a) (256 * (J + 1)))
    = up (sh2 i J (gR (zR q k) d v)) := by
  unfold hbg
  rw [hbw_sh q k i J h hi, dw_sh, mul_up]; rfl
theorem hbd_sh (h : J < i) (hi : i < 32) : hbd (F := Ideal) k0_pay16 k1_pay10 (up (sh i q)) (up (sh J k)) (up (sh i d)) (up (sh J v)) (up1 fun a => tot (256 * i + a))
      (up1 fun a => fromR (lR (zR q k)) (256 * i + a) (256 * (J + 1))) (up1 fun a => fromR (gR (zR q k) d v) (256 * i + a) (256 * (J + 1)))
    = up (sh2 i J (dR (zR q k) d v tot)) := by
  unfold hbd
  rw [hbg_sh q k v d i J h hi, hl_sh q k i J h, hz_sh, leq_up, ht_up, add_up, hd_up, he_up]
  refine up_congr fun a ha b hb => ?_
  have e : ∑ u ∈ Finset.range 256, sh2 i J (gR (zR q k) d v) a u * (if b ≤ u then 1 else 0)
      = ∑ u ∈ Finset.Ico (256 * J + b) (256 * J + 256), gR (zR q k) d v (256 * i + a) u := sum_leq (fun u => gR (zR q k) d v (256 * i + a) u) J b (by omega)
  simp only [e]
  have el : sh2 i J (lR (zR q k)) a b = lkR (zR q k (256 * i + a) (256 * J + b)) := if_pos (by omega)
  rw [el]
  unfold sh2 dR
  beta_reduce
  rw [if_pos (by omega), from_split _ _ J b (by omega) (by omega)]
  ring

/-! On the diagonal. -/

theorem low_sh : low (F := Ideal) (hl (hz (up (sh i q)) (up (sh i k)))) = up (sh2 i i (lR (zR q k))) := by
  rw [hz_sh, hl_up, low_up]
  refine up_congr fun a ha b hb => ?_
  unfold tri sh2 lR
  by_cases h : b < a
  · rw [if_pos h, if_pos (by omega)]
  · rw [if_neg h, if_neg (by omega)]
theorem hbw0_sh (hi : i < 32) : hbw0 (F := Ideal) k0_pay16 (up (sh i q)) (up (sh i k)) = up (sh2 i i (wR (zR q k))) := by
  unfold hbw0
  rw [low_sh q k i, hz_sh, later_up, ht_up, zero1_up, hw_up, low_up]
  refine up_congr fun a ha b hb => ?_
  have e : ∑ u ∈ Finset.range 256, sh2 i i (lR (zR q k)) a u * tri (fun _ _ => 1) u b
      = ∑ u ∈ Finset.Ico (256 * i + (b + 1)) (256 * i + 256), lR (zR q k) (256 * i + a) u := sum_tri (fun u => lR (zR q k) (256 * i + a) u) i b hb
  have hc : fromR (lR (zR q k)) (256 * i + a) (256 * (i + 1)) = 0 := from_zero _ (lR_zero _) _ _ (by omega)
  show (if b < a then Real.exp (sh2 i i (zR q k) a b + sh2 i i (lR (zR q k)) a b + ∑ u ∈ Finset.range 256, sh2 i i (lR (zR q k)) a u * tri (fun _ _ => 1) u b + 0) else 0)
    = if 256 * i + b < 256 * i + a then Real.exp (zR q k (256 * i + a) (256 * i + b) + lkR (zR q k (256 * i + a) (256 * i + b)) + fromR (lR (zR q k)) (256 * i + a) (256 * i + (b + 1))) else 0
  rw [e]
  by_cases h : b < a
  · rw [if_pos h, if_pos (by omega), from_split _ _ i (b + 1) (by omega) (by omega), hc,
      show sh2 i i (lR (zR q k)) a b = lkR (zR q k (256 * i + a) (256 * i + b)) from if_pos (by omega)]
    unfold sh2
    congr 1
    ring
  · rw [if_neg h, if_neg (by omega)]
theorem hbg0_sh (hi : i < 32) : hbg0 (F := Ideal) k0_pay16 (up (sh i q)) (up (sh i k)) (up (sh i d)) (up (sh i v)) = up (sh2 i i (gR (zR q k) d v)) := by
  unfold hbg0
  rw [hbw0_sh q k i hi, dw_sh, mul_up]; rfl
theorem hbd0_sh (hi : i < 32) : hbd0 (F := Ideal) k0_pay16 k1_pay10 (up (sh i q)) (up (sh i k)) (up (sh i d)) (up (sh i v)) (up1 fun a => tot (256 * i + a))
    = up (sh2 i i (dR (zR q k) d v tot)) := by
  unfold hbd0
  rw [hbg0_sh q k v d i hi, low_sh q k i, hz_sh, leq_up, ht_up, add_up, zero1_up, hd_up, low_up, he_up]
  refine up_congr fun a ha b hb => ?_
  have e : ∑ u ∈ Finset.range 256, sh2 i i (gR (zR q k) d v) a u * (if b ≤ u then 1 else 0)
      = ∑ u ∈ Finset.Ico (256 * i + b) (256 * i + 256), gR (zR q k) d v (256 * i + a) u := sum_leq (fun u => gR (zR q k) d v (256 * i + a) u) i b (by omega)
  have hc : fromR (gR (zR q k) d v) (256 * i + a) (256 * (i + 1)) = 0 := from_zero _ (gR_zero _ _ _) _ _ (by omega)
  unfold tri
  simp only [e]
  unfold dR
  by_cases h : b < a
  · have el : sh2 i i (lR (zR q k)) a b = lkR (zR q k (256 * i + a) (256 * i + b)) := if_pos (by omega)
    rw [if_pos h, el]
    unfold sh2
    beta_reduce
    rw [if_pos (by omega), from_split _ _ i b (by omega) (by omega), hc]
    ring
  · unfold sh2
    beta_reduce
    rw [if_neg h, if_neg (by omega)]

/-- A head's forward sums from a block of columns on. -/
def fSt : FVec Ideal S256x1 .f32 × FVec Ideal S256x256 .f32 × FVec Ideal S256x256 .f32 :=
  (up1 fun a => fromR (lR (zR q k)) (256 * i + a) (256 * J), up fun a e => accR (wR (zR q k)) v (256 * i + a) (256 * J) e, up fun _ _ => 0)
theorem hStep_sh (h : J < i) (hi : i < 32) : hStep k0_pay16 (up (sh i q)) (up (sh J k)) (up (sh J v)) (fSt q k v i (J + 1)) = fSt q k v i J := by
  unfold hStep fSt
  simp only [hbw_sh q k i J h hi, hl_sh q k i J h, hi_up, lo_up, hc_up, ha_up]
  refine t3 (up1_congr fun a ha => from_blk (lR (zR q k)) (256 * i + a) J (by omega)) (up_congr fun a ha b hb => acc_blk (wR (zR q k)) v (256 * i + a) J b (by omega)) ?_
  refine up_congr fun a ha b hb => ?_
  simp
theorem hFirst_sh (hi : i < 32) : hFirst k0_pay16 (up (sh i q)) (up (sh i k)) (up (sh i v)) = fSt q k v i i := by
  unfold hFirst fSt
  rw [hbw0_sh q k i hi, low_sh q k i, hi_up, lo_up, zero1_up, zero2_up, hc_up, ha_up, ha_up]
  refine t3 (up1_congr fun a ha => ?_) (up_congr fun a ha b hb => ?_) ?_
  · rw [← from_blk _ _ i (by omega), from_zero _ (lR_zero _) (256 * i + a) (256 * (i + 1)) (by omega)]; rfl
  · rw [← acc_blk _ _ _ i _ (by omega), acc_zero _ _ (wR_zero _) (256 * i + a) (256 * (i + 1)) _ (by omega)]; rfl
  · refine up_congr fun a ha b hb => ?_
    simp

/-- A head's backward sums from a block of columns on. -/
def bSt : FVec Ideal S256x1 .f32 × FVec Ideal S256x1 .f32 × FVec Ideal S256x256 .f32 :=
  (up1 fun a => fromR (lR (zR q k)) (256 * i + a) (256 * J), up1 fun a => fromR (gR (zR q k) d v) (256 * i + a) (256 * J),
    up fun a e => accR (dR (zR q k) d v tot) k (256 * i + a) (256 * J) e)
theorem hbStep_sh (h : J < i) (hi : i < 32) : hbStep k0_pay16 k1_pay10 (up (sh i q)) (up (sh J k)) (up (sh i d)) (up (sh J v)) (up1 fun a => tot (256 * i + a))
    (bSt q k v d tot i (J + 1)) = bSt q k v d tot i J := by
  unfold hbStep bSt
  simp only [hbd_sh q k v d tot i J h hi, hbg_sh q k v d i J h hi, hl_sh q k i J h, hi_up, hc_up, ha_up]
  exact t3 (up1_congr fun a ha => from_blk (lR (zR q k)) (256 * i + a) J (by omega)) (up1_congr fun a ha => from_blk (gR (zR q k) d v) (256 * i + a) J (by omega))
    (up_congr fun a ha b hb => acc_blk (dR (zR q k) d v tot) k (256 * i + a) J b (by omega))
theorem hbFirst_sh (hi : i < 32) : hbFirst k0_pay16 k1_pay10 (up (sh i q)) (up (sh i k)) (up (sh i d)) (up (sh i v)) (up1 fun a => tot (256 * i + a))
    = bSt q k v d tot i i := by
  unfold hbFirst bSt
  rw [hbd0_sh q k v d tot i hi, hbg0_sh q k v d i hi, low_sh q k i, hi_up, zero1_up, zero2_up, hc_up, hc_up, ha_up]
  refine t3 (up1_congr fun a ha => ?_) (up1_congr fun a ha => ?_) (up_congr fun a ha b hb => ?_)
  · rw [← from_blk _ _ i (by omega), from_zero _ (lR_zero _) (256 * i + a) (256 * (i + 1)) (by omega)]; rfl
  · rw [← from_blk _ _ i (by omega), from_zero _ (gR_zero _ _ _) (256 * i + a) (256 * (i + 1)) (by omega)]; rfl
  · rw [← acc_blk _ _ _ i _ (by omega), acc_zero _ _ (dR_zero _ _ _ _) (256 * i + a) (256 * (i + 1)) _ (by omega)]; rfl

end

end Cert.Kernel5Ideal.Attn
-- ==== Proof.AttnSum.lean ====
/-
  The two loops over the blocks of columns, run to their ends: the outputs and the queries' gradients of a block of rows, and
  what the block adds to the keys' and the values' gradients.
-/
module

public import proofs.«01_k».proof.Proof.AttnStep

@[expose] public section

set_option maxRecDepth 16384

noncomputable section

namespace Cert.Kernel5Ideal.Attn

open Cert.Kernel5Ideal Gen
open Idealize.ShloMosaic TcCoe

/-- 8192 rows of real numbers. -/
def upL {φ : FTy} (x : ℕ → ℕ → ℝ) : FVec Ideal S8192x256 φ := fun y => ((x (y 0).val (y 1).val : ℝ) : EReal)
theorem upL_congr {φ : FTy} {x y : ℕ → ℕ → ℝ} (h : ∀ a < 8192, ∀ b < 256, x a b = y a b) : upL (φ := φ) x = upL y :=
  funext fun i => congrArg (fun r : ℝ => (r : EReal)) (h _ (i 0).isLt _ (i 1).isLt)
theorem blk_up {φ : FTy} (x : ℕ → ℕ → ℝ) (j : ℕ) (hj : j < 32) : blkAt (upL (φ := φ) x) j = up (sh j x) := by
  funext y
  have h := ix_lt y 0
  show ((x ((256 * j + (y 0).val) % 8192) (y 1).val : ℝ) : EReal) = ((x (256 * j + (y 0).val) (y 1).val : ℝ) : EReal)
  rw [Nat.mod_eq_of_lt (by omega)]
/-- Block `j` of the rows of `x` replaced by `w`. -/
def putR (j : ℕ) (x w : ℕ → ℕ → ℝ) : ℕ → ℕ → ℝ := fun t e => if 256 * j ≤ t ∧ t < 256 * j + 256 then w (t - 256 * j) e else x t e
theorem put_up {φ : FTy} (x w : ℕ → ℕ → ℝ) (j : ℕ) : putAt (upL (φ := φ) x) j (up (φ := φ) w) = upL (φ := φ) (putR j x w) := by
  funext y
  have h1 : (y 1).val < 256 := (y 1).isLt
  unfold putAt VecWindow.put
  by_cases h : 256 * j ≤ (y 0).val ∧ (y 0).val < 256 * j + 256
  · have h' : ∀ a, (![256 * j, 0] : Fin 2 → ℕ) a ≤ (y a).val ∧ (y a).val < (![256 * j, 0] : Fin 2 → ℕ) a + S256x256.size a := by
      intro a
      match a with
      | ⟨0, _⟩ => exact h
      | ⟨1, _⟩ => exact ⟨Nat.zero_le _, by show (y 1).val < 0 + 256; omega⟩
    rw [dif_pos h']
    show ((w ((y 0).val - 256 * j) ((y 1).val - 0) : ℝ) : EReal) = ((putR j x w (y 0).val (y 1).val : ℝ) : EReal)
    rw [putR, if_pos h, Nat.sub_zero]
  · have h' : ¬ ∀ a, (![256 * j, 0] : Fin 2 → ℕ) a ≤ (y a).val ∧ (y a).val < (![256 * j, 0] : Fin 2 → ℕ) a + S256x256.size a :=
      fun hh => h (hh 0)
    rw [dif_neg h']
    show ((x (y 0).val (y 1).val : ℝ) : EReal) = ((putR j x w (y 0).val (y 1).val : ℝ) : EReal)
    rw [putR, if_neg h]

/-! The loops never stop early: the threshold stands for minus infinity, and the carried logarithms are finite. -/

theorem top_up (c : ℕ → ℝ) : Scalar.cmpf .ogt (k0_pay2 (F := Ideal) (up1 c)) (Named.named (F := Ideal) (φ := .f32) κ "never" 0xC2D00000#32) = 1#1 := by
  unfold k0_pay2
  pointwise
  have e : (Named.named (F := Ideal) (φ := .f32) κ "never" 0xC2D00000#32 : EReal) = ⊥ := rfl
  refine congrArg BitVec.ofBool (decide_eq_true ?_)
  rw [e, Finset.lt_fold_max]
  exact Or.inr ⟨((0 : Fin 256), (0 : Fin 1)), Finset.mem_univ _, EReal.bot_lt_coe _⟩
theorem or_one (x : BitVec 1) : Scalar.ori 1#1 x = 1#1 := by revert x; decide
theorem fAlive_up (c : ℕ → ℝ) (st : Sf Ideal) (h : (fS0 st).1 = up1 c) : fAlive st = 1#1 := by
  unfold fAlive
  rw [show st.1 = up1 c from h]
  dsimp only
  rw [top_up]
  simp only [or_one]
theorem bAlive_up (c : ℕ → ℝ) (st : Sb Ideal) (h : (bS0 st).1 = up1 c) : bAlive st = 1#1 := by
  unfold bAlive
  rw [show st.1 = up1 c from h]
  dsimp only
  rw [show k1_pay2 (F := Ideal) (up1 c) = k0_pay2 (up1 c) from rfl, top_up]
  simp only [or_one]

/-! Forward. -/

section
variable (Q K V : ℕ → ℕ → ℝ) (i : ℕ)

/-- The forward state with the columns from block `J` on done. -/
def FInv (J : ℕ) (st : Sf Ideal) : Prop :=
  fS0 st = fSt (msk 0 Q) K V i J ∧ fS1 st = fSt (msk 1 Q) K V i J ∧ fS2 st = fSt (msk 2 Q) K V i J ∧ fS3 st = fSt (msk 3 Q) K V i J
/-- What stays fixed over a block of rows. -/
def fCs : Cf Ideal := (up (sh i (msk 0 Q)), up (sh i (msk 1 Q)), up (sh i (msk 2 Q)), up (sh i (msk 3 Q)), k0_pay16)

theorem fStep_inv (hi : i < 32) (J : ℕ) (hJ : J < i) (st : Sf Ideal) (h : FInv Q K V i (J + 1) st) :
    FInv Q K V i J (fStep (fCs Q i) (blkAt (upL (φ := .bf16) K) J) (blkAt (upL (φ := .bf16) V) J) st) := by
  rw [blk_up K J (by omega), blk_up V J (by omega)]
  refine ⟨?_, ?_, ?_, ?_⟩
  · rw [fStep_0, h.1]; exact hStep_sh (msk 0 Q) K V i J hJ hi
  · rw [fStep_1, h.2.1]; exact hStep_sh (msk 1 Q) K V i J hJ hi
  · rw [fStep_2, h.2.2.1]; exact hStep_sh (msk 2 Q) K V i J hJ hi
  · rw [fStep_3, h.2.2.2]; exact hStep_sh (msk 3 Q) K V i J hJ hi

theorem fLoop_inv (hi : i < 32) (J : ℕ) (hJ : J ≤ i) (st : Sf Ideal) (h : FInv Q K V i J st) : FInv Q K V i 0 (fLoop (fCs Q i) (upL (φ := .bf16) K) (upL (φ := .bf16) V) J st).2 := by
  induction J generalizing st with
  | zero => exact h
  | succ J ih =>
    rw [fLoop_succ _ _ _ _ _ (fAlive_up (fun a => fromR (lR (zR (msk 0 Q) K)) (256 * i + a) (256 * (J + 1))) st (congrArg Prod.fst h.1))]
    exact ih (by omega) _ (fStep_inv Q K V i hi J (by omega) st h)
theorem fPre_cs' (k v : Vec Ideal S256x256 .bf16) : (fPre (F := Ideal) (up (φ := .bf16) (sh i Q)) k v).1 = fCs Q i := by
  rw [fPre_cs, show hq (F := Ideal) k0_pay17 (up (φ := .bf16) (sh i Q)) = up (sh i (msk 0 Q)) from hq_up 0 _, show hq (F := Ideal) k0_pay18 (up (φ := .bf16) (sh i Q)) = up (sh i (msk 1 Q)) from hq_up 1 _, show hq (F := Ideal) k0_pay19 (up (φ := .bf16) (sh i Q)) = up (sh i (msk 2 Q)) from hq_up 2 _, show hq (F := Ideal) k0_pay20 (up (φ := .bf16) (sh i Q)) = up (sh i (msk 3 Q)) from hq_up 3 _]
  rfl
theorem fPre_inv (hi : i < 32) : FInv Q K V i i (fPre (F := Ideal) (up (φ := .bf16) (sh i Q)) (blkAt (upL (φ := .bf16) K) i) (blkAt (upL (φ := .bf16) V) i)).2 := by
  rw [blk_up K i hi, blk_up V i hi]
  refine ⟨?_, ?_, ?_, ?_⟩
  · rw [fPre_0, show hq (F := Ideal) k0_pay17 (up (φ := .bf16) (sh i Q)) = up (sh i (msk 0 Q)) from hq_up 0 _]; exact hFirst_sh (msk 0 Q) K V i hi
  · rw [fPre_1, show hq (F := Ideal) k0_pay18 (up (φ := .bf16) (sh i Q)) = up (sh i (msk 1 Q)) from hq_up 1 _]; exact hFirst_sh (msk 1 Q) K V i hi
  · rw [fPre_2, show hq (F := Ideal) k0_pay19 (up (φ := .bf16) (sh i Q)) = up (sh i (msk 2 Q)) from hq_up 2 _]; exact hFirst_sh (msk 2 Q) K V i hi
  · rw [fPre_3, show hq (F := Ideal) k0_pay20 (up (φ := .bf16) (sh i Q)) = up (sh i (msk 3 Q)) from hq_up 3 _]; exact hFirst_sh (msk 3 Q) K V i hi

theorem fEnd_inv (hi : i < 32) : FInv Q K V i 0 (fEnd (F := Ideal) i (up (φ := .bf16) (sh i Q)) (upL (φ := .bf16) K) (upL (φ := .bf16) V)) := by
  unfold fEnd
  rw [fPre_cs']
  exact fLoop_inv Q K V i hi i le_rfl _ (fPre_inv Q K V i hi)

/-- The output, lane by lane of its head. -/
def oR : ℕ → ℕ → ℝ := fun s e => accR (wR (zR (msk (e / 64) Q) K)) V s 0 e
theorem msk_four (f : ℕ → ℕ → ℕ → ℝ) (a e : ℕ) (he : e < 256) :
    msk 0 (f 0) a e + msk 1 (f 1) a e + msk 2 (f 2) a e + msk 3 (f 3) a e = f (e / 64) a e := by
  unfold msk
  have h : e / 64 = 0 ∨ e / 64 = 1 ∨ e / 64 = 2 ∨ e / 64 = 3 := by omega
  rcases h with h | h | h | h <;> rw [h] <;> simp
theorem fOut0_up (hi : i < 32) : fOut0 (fEnd (F := Ideal) i (up (φ := .bf16) (sh i Q)) (upL (φ := .bf16) K) (upL (φ := .bf16) V)) = up (sh i (oR Q K V)) := by
  obtain ⟨h0, h1, h2, h3⟩ := fEnd_inv Q K V i hi
  rw [fOut0_eq, h0, h1, h2, h3]
  unfold fSt
  dsimp only
  rw [show k0_pay17 = hm 0 from rfl, show k0_pay18 = hm 1 from rfl, show k0_pay19 = hm 2 from rfl, show k0_pay20 = hm 3 from rfl,
    sel_up, sel_up, sel_up, sel_up, four_up]
  refine up_congr fun a ha e he => ?_
  exact msk_four (fun n a e => accR (wR (zR (msk n Q) K)) V (256 * i + a) (256 * 0) e) a e he
theorem fOut1_up (hi : i < 32) : fOut1 (fEnd (F := Ideal) i (up (φ := .bf16) (sh i Q)) (upL (φ := .bf16) K) (upL (φ := .bf16) V)) = up fun _ _ => 0 := by
  obtain ⟨h0, h1, h2, h3⟩ := fEnd_inv Q K V i hi
  rw [fOut1_eq, h0, h1, h2, h3]
  unfold fSt
  dsimp only
  rw [show k0_pay17 = hm 0 from rfl, show k0_pay18 = hm 1 from rfl, show k0_pay19 = hm 2 from rfl, show k0_pay20 = hm 3 from rfl,
    sel_up, sel_up, sel_up, sel_up, four_up]
  refine up_congr fun a ha e he => ?_
  exact msk_four (fun _ _ _ => 0) a e he
end

/-! Sums over the rows, block by block. -/

/-- The rows before block `i`, and of block `i` what the columns from block `J` on have got. -/
def cumR (X : ℕ → ℕ → ℕ → ℝ) (i J : ℕ) : ℕ → ℕ → ℝ := fun t e =>
  ∑ s ∈ Finset.range (256 * i), X s t e + if 256 * J ≤ t then ∑ s ∈ Finset.Ico (256 * i) (256 * i + 256), X s t e else 0
/-- The rows before block `i`. -/
def preR (X : ℕ → ℕ → ℕ → ℝ) (i : ℕ) : ℕ → ℕ → ℝ := fun t e => ∑ s ∈ Finset.range (256 * i), X s t e
theorem cum_first (X : ℕ → ℕ → ℕ → ℝ) (hX : ∀ s t e, s ≤ t → X s t e = 0) (i : ℕ) : preR X i = cumR X i (i + 1) := by
  funext t e
  unfold preR cumR
  by_cases h : 256 * (i + 1) ≤ t
  · rw [if_pos h, Finset.sum_eq_zero (s := Finset.Ico _ _), add_zero]
    exact fun s hs => hX s t e (by have := (Finset.mem_Ico.mp hs).2; omega)
  · rw [if_neg h, add_zero]
theorem cum_last (X : ℕ → ℕ → ℕ → ℝ) (i : ℕ) : cumR X i 0 = preR X (i + 1) := by
  funext t e
  unfold preR cumR
  rw [if_pos (by omega), Finset.range_eq_Ico, Finset.range_eq_Ico, Finset.sum_Ico_consecutive _ (by omega) (by omega)]
  rfl
theorem cum_step (X : ℕ → ℕ → ℕ → ℝ) (i J : ℕ) (hJ : J < 32) :
    putAt (upL (φ := .f32) (cumR X i (J + 1))) J (addf (F := Ideal) (s := S256x256) (φ := .f32) (sc (blkAt (upL (φ := .f32) (cumR X i (J + 1))) J))
      (up fun b e => ∑ d ∈ Finset.range 256, X (256 * i + d) (256 * J + b) e)) = upL (φ := .f32) (cumR X i J) := by
  rw [blk_up _ J hJ, sc_up, add_up, put_up]
  refine upL_congr fun t ht e he => ?_
  unfold putR
  by_cases h : 256 * J ≤ t ∧ t < 256 * J + 256
  · rw [if_pos h]
    have et : 256 * J + (t - 256 * J) = t := by omega
    unfold sh cumR
    beta_reduce
    rw [et, if_neg (by omega), if_pos h.1, add_zero, sum_blk (fun s => X s t e) i]
  · rw [if_neg h]
    unfold cumR
    by_cases h1 : 256 * (J + 1) ≤ t
    · rw [if_pos h1, if_pos (by omega)]
    · rw [if_neg h1, if_neg (by omega)]

/-! Backward. -/

section
variable (Q K V D O : ℕ → ℕ → ℝ) (i : ℕ)

/-- A row's total of head `n`. -/
def totR (n : ℕ) : ℕ → ℝ := fun s => ∑ x ∈ Finset.range 256, msk n (fun a b => D a b * O a b) s x
/-- Head `n`'s gradient of the scores. -/
def dhR (n : ℕ) : ℕ → ℕ → ℝ := dR (zR (msk n Q) K) (msk n D) V (totR D O n)
/-- Head `n`'s weights. -/
def whR (n : ℕ) : ℕ → ℕ → ℝ := wR (zR (msk n Q) K)
/-- What row `s` adds to the keys' gradient. -/
def kAdd : ℕ → ℕ → ℕ → ℝ := fun s t e => dhR Q K V D O 0 s t * msk 0 Q s e + dhR Q K V D O 1 s t * msk 1 Q s e + dhR Q K V D O 2 s t * msk 2 Q s e + dhR Q K V D O 3 s t * msk 3 Q s e
/-- What row `s` adds to the values' gradient. -/
def vAdd : ℕ → ℕ → ℕ → ℝ := fun s t e => whR Q K 0 s t * msk 0 D s e + whR Q K 1 s t * msk 1 D s e + whR Q K 2 s t * msk 2 D s e + whR Q K 3 s t * msk 3 D s e
theorem kAdd_zero (s t e : ℕ) (h : s ≤ t) : kAdd Q K V D O s t e = 0 := by
  unfold kAdd dhR; simp [dR_zero _ _ _ _ s t h]
theorem vAdd_zero (s t e : ℕ) (h : s ≤ t) : vAdd Q K D s t e = 0 := by
  unfold vAdd whR; simp [wR_zero _ s t h]

/-- The backward state with the columns from block `J` on done. -/
def BInv (J : ℕ) (st : Sb Ideal) : Prop :=
  bS0 st = bSt (msk 0 Q) K V (msk 0 D) (totR D O 0) i J ∧ bS1 st = bSt (msk 1 Q) K V (msk 1 D) (totR D O 1) i J ∧ bS2 st = bSt (msk 2 Q) K V (msk 2 D) (totR D O 2) i J ∧ bS3 st = bSt (msk 3 Q) K V (msk 3 D) (totR D O 3) i J
/-- What stays fixed over a block of rows. -/
def bCs : Cb Ideal := (up (sh i (msk 0 Q)), up (sh i (msk 1 Q)), up (sh i (msk 2 Q)), up (sh i (msk 3 Q)), k1_pay9, up (sh i (msk 0 D)), up (sh i (msk 1 D)), up (sh i (msk 2 D)), up (sh i (msk 3 D)), k1_pay10, up1 (fun a => totR D O 0 (256 * i + a)), up1 (fun a => totR D O 1 (256 * i + a)), up1 (fun a => totR D O 2 (256 * i + a)), up1 (fun a => totR D O 3 (256 * i + a)))

theorem sum_four (f g : ℕ → ℕ → ℕ → ℝ) (b e : ℕ) : (∑ d ∈ Finset.range 256, f 0 d b * g 0 d e) + (∑ d ∈ Finset.range 256, f 1 d b * g 1 d e) + (∑ d ∈ Finset.range 256, f 2 d b * g 2 d e) + (∑ d ∈ Finset.range 256, f 3 d b * g 3 d e) = ∑ d ∈ Finset.range 256, (f 0 d b * g 0 d e + f 1 d b * g 1 d e + f 2 d b * g 2 d e + f 3 d b * g 3 d e) := by
  rw [Finset.sum_add_distrib, Finset.sum_add_distrib, Finset.sum_add_distrib]

theorem bStep_inv (hi : i < 32) (J : ℕ) (hJ : J < i) (st : Sb Ideal) (dk dv : Vec Ideal S256x256 .f32) (h : BInv Q K V D O i (J + 1) st) :
    BInv Q K V D O i J (bStep (bCs Q D O i) (blkAt (upL (φ := .bf16) K) J) (blkAt (upL (φ := .bf16) V) J) dk dv st).1 := by
  rw [blk_up K J (by omega), blk_up V J (by omega)]
  refine ⟨?_, ?_, ?_, ?_⟩
  · rw [bStep_0, h.1]; exact hbStep_sh (msk 0 Q) K V (msk 0 D) (totR D O 0) i J hJ hi
  · rw [bStep_1, h.2.1]; exact hbStep_sh (msk 1 Q) K V (msk 1 D) (totR D O 1) i J hJ hi
  · rw [bStep_2, h.2.2.1]; exact hbStep_sh (msk 2 Q) K V (msk 2 D) (totR D O 2) i J hJ hi
  · rw [bStep_3, h.2.2.2]; exact hbStep_sh (msk 3 Q) K V (msk 3 D) (totR D O 3) i J hJ hi

theorem bStep_dk_up (hi : i < 32) (J : ℕ) (hJ : J < i) (st : Sb Ideal) (dk dv : Vec Ideal S256x256 .f32) (h : BInv Q K V D O i (J + 1) st) :
    (bStep (bCs Q D O i) (blkAt (upL (φ := .bf16) K) J) (blkAt (upL (φ := .bf16) V) J) dk dv st).2.1
      = addf (F := Ideal) (s := S256x256) (φ := .f32) (sc dk) (up fun b e => ∑ d ∈ Finset.range 256, kAdd Q K V D O (256 * i + d) (256 * J + b) e) := by
  obtain ⟨h0, h1, h2, h3⟩ := h
  rw [blk_up K J (by omega), blk_up V J (by omega), bStep_dk, h0, h1, h2, h3]
  refine congrArg (addf (F := Ideal) (s := S256x256) (φ := .f32) (sc dk)) ?_
  unfold bSt bCs
  dsimp only
  rw [show k1_pay9 (F := Ideal) = k0_pay16 from rfl,
    hbd_sh (msk 0 Q) K V (msk 0 D) (totR D O 0) i J hJ hi,
    hbd_sh (msk 1 Q) K V (msk 1 D) (totR D O 1) i J hJ hi,
    hbd_sh (msk 2 Q) K V (msk 2 D) (totR D O 2) i J hJ hi,
    hbd_sh (msk 3 Q) K V (msk 3 D) (totR D O 3) i J hJ hi,
    hi_up, hi_up, hi_up, hi_up, tmm_up, tmm_up, tmm_up, tmm_up, four_up]
  refine up_congr fun b hb e he => ?_
  exact sum_four (fun n d b => dhR Q K V D O n (256 * i + d) (256 * J + b)) (fun n d e => msk n Q (256 * i + d) e) b e
theorem bStep_dv_up (hi : i < 32) (J : ℕ) (hJ : J < i) (st : Sb Ideal) (dk dv : Vec Ideal S256x256 .f32) (h : BInv Q K V D O i (J + 1) st) :
    (bStep (bCs Q D O i) (blkAt (upL (φ := .bf16) K) J) (blkAt (upL (φ := .bf16) V) J) dk dv st).2.2
      = addf (F := Ideal) (s := S256x256) (φ := .f32) (sc dv) (up fun b e => ∑ d ∈ Finset.range 256, vAdd Q K D (256 * i + d) (256 * J + b) e) := by
  obtain ⟨h0, h1, h2, h3⟩ := h
  rw [blk_up K J (by omega), blk_up V J (by omega), bStep_dv, h0, h1, h2, h3]
  refine congrArg (addf (F := Ideal) (s := S256x256) (φ := .f32) (sc dv)) ?_
  unfold bSt bCs
  dsimp only
  rw [show k1_pay9 (F := Ideal) = k0_pay16 from rfl,
    hbw_sh (msk 0 Q) K i J hJ hi,
    hbw_sh (msk 1 Q) K i J hJ hi,
    hbw_sh (msk 2 Q) K i J hJ hi,
    hbw_sh (msk 3 Q) K i J hJ hi,
    hi_up, hi_up, hi_up, hi_up, tmm_up, tmm_up, tmm_up, tmm_up, four_up]
  refine up_congr fun b hb e he => ?_
  exact sum_four (fun n d b => whR Q K n (256 * i + d) (256 * J + b)) (fun n d e => msk n D (256 * i + d) e) b e
theorem bLoop_inv (hi : i < 32) (J : ℕ) (hJ : J ≤ i) (st : Sb Ideal) (h : BInv Q K V D O i J st) :
    BInv Q K V D O i 0 (bLoop (bCs Q D O i) (upL (φ := .bf16) K) (upL (φ := .bf16) V) J st (upL (φ := .f32) (cumR (kAdd Q K V D O) i J)) (upL (φ := .f32) (cumR (vAdd Q K D) i J))).1.2
    ∧ (bLoop (bCs Q D O i) (upL (φ := .bf16) K) (upL (φ := .bf16) V) J st (upL (φ := .f32) (cumR (kAdd Q K V D O) i J)) (upL (φ := .f32) (cumR (vAdd Q K D) i J))).2.1 = upL (φ := .f32) (cumR (kAdd Q K V D O) i 0)
    ∧ (bLoop (bCs Q D O i) (upL (φ := .bf16) K) (upL (φ := .bf16) V) J st (upL (φ := .f32) (cumR (kAdd Q K V D O) i J)) (upL (φ := .f32) (cumR (vAdd Q K D) i J))).2.2 = upL (φ := .f32) (cumR (vAdd Q K D) i 0) := by
  induction J generalizing st with
  | zero => exact ⟨h, rfl, rfl⟩
  | succ J ih =>
    rw [bLoop_succ _ _ _ _ _ _ _ (bAlive_up (fun a => fromR (lR (zR (msk 0 Q) K)) (256 * i + a) (256 * (J + 1))) st (congrArg Prod.fst h.1)), bStep_dk_up Q K V D O i hi J (by omega) st _ _ h,
      bStep_dv_up Q K V D O i hi J (by omega) st _ _ h, cum_step _ i J (by omega), cum_step _ i J (by omega)]
    exact ih (by omega) _ (bStep_inv Q K V D O i hi J (by omega) st _ _ h)

/-- The block before the loop. -/
abbrev pre0 (dk dv : Vec Ideal S256x256 .f32) : Cb Ideal × Sb Ideal × FVec Ideal S256x256 .f32 × FVec Ideal S256x256 .f32 :=
  bPre (F := Ideal) (up (φ := .bf16) (sh i Q)) (up (φ := .f32) (sh i D)) (up (φ := .f32) (sh i O)) (up (φ := .f32) fun _ _ => 0)
    (up (φ := .bf16) (sh i K)) (up (φ := .bf16) (sh i V)) dk dv
theorem pre_cs (dk dv : Vec Ideal S256x256 .f32) : (pre0 Q K V D O i dk dv).1 = bCs Q D O i := by
  unfold pre0
  rw [bPre_cs,
    show hq (F := Ideal) k0_pay17 (up (φ := .bf16) (sh i Q)) = up (sh i (msk 0 Q)) from hq_up 0 _, show hdo (F := Ideal) k0_pay17 (up (φ := .f32) (sh i D)) = up (sh i (msk 0 D)) from hdo_up 0 _,
    show htot (F := Ideal) k0_pay17 (up (φ := .f32) (sh i D)) (up (φ := .f32) (sh i O)) (up fun _ _ => 0) = up1 (fun a => totR D O 0 (256 * i + a)) from htot_up 0 _ _,
    show hq (F := Ideal) k0_pay18 (up (φ := .bf16) (sh i Q)) = up (sh i (msk 1 Q)) from hq_up 1 _, show hdo (F := Ideal) k0_pay18 (up (φ := .f32) (sh i D)) = up (sh i (msk 1 D)) from hdo_up 1 _,
    show htot (F := Ideal) k0_pay18 (up (φ := .f32) (sh i D)) (up (φ := .f32) (sh i O)) (up fun _ _ => 0) = up1 (fun a => totR D O 1 (256 * i + a)) from htot_up 1 _ _,
    show hq (F := Ideal) k0_pay19 (up (φ := .bf16) (sh i Q)) = up (sh i (msk 2 Q)) from hq_up 2 _, show hdo (F := Ideal) k0_pay19 (up (φ := .f32) (sh i D)) = up (sh i (msk 2 D)) from hdo_up 2 _,
    show htot (F := Ideal) k0_pay19 (up (φ := .f32) (sh i D)) (up (φ := .f32) (sh i O)) (up fun _ _ => 0) = up1 (fun a => totR D O 2 (256 * i + a)) from htot_up 2 _ _,
    show hq (F := Ideal) k0_pay20 (up (φ := .bf16) (sh i Q)) = up (sh i (msk 3 Q)) from hq_up 3 _, show hdo (F := Ideal) k0_pay20 (up (φ := .f32) (sh i D)) = up (sh i (msk 3 D)) from hdo_up 3 _,
    show htot (F := Ideal) k0_pay20 (up (φ := .f32) (sh i D)) (up (φ := .f32) (sh i O)) (up fun _ _ => 0) = up1 (fun a => totR D O 3 (256 * i + a)) from htot_up 3 _ _]
  rfl
theorem pre_inv (hi : i < 32) (dk dv : Vec Ideal S256x256 .f32) : BInv Q K V D O i i (pre0 Q K V D O i dk dv).2.1 := by
  unfold pre0
  refine ⟨?_, ?_, ?_, ?_⟩
  · rw [bPre_0, show hq (F := Ideal) k0_pay17 (up (φ := .bf16) (sh i Q)) = up (sh i (msk 0 Q)) from hq_up 0 _, show hdo (F := Ideal) k0_pay17 (up (φ := .f32) (sh i D)) = up (sh i (msk 0 D)) from hdo_up 0 _,
      show htot (F := Ideal) k0_pay17 (up (φ := .f32) (sh i D)) (up (φ := .f32) (sh i O)) (up fun _ _ => 0) = up1 (fun a => totR D O 0 (256 * i + a)) from htot_up 0 _ _]
    exact hbFirst_sh (msk 0 Q) K V (msk 0 D) (totR D O 0) i hi
  · rw [bPre_1, show hq (F := Ideal) k0_pay18 (up (φ := .bf16) (sh i Q)) = up (sh i (msk 1 Q)) from hq_up 1 _, show hdo (F := Ideal) k0_pay18 (up (φ := .f32) (sh i D)) = up (sh i (msk 1 D)) from hdo_up 1 _,
      show htot (F := Ideal) k0_pay18 (up (φ := .f32) (sh i D)) (up (φ := .f32) (sh i O)) (up fun _ _ => 0) = up1 (fun a => totR D O 1 (256 * i + a)) from htot_up 1 _ _]
    exact hbFirst_sh (msk 1 Q) K V (msk 1 D) (totR D O 1) i hi
  · rw [bPre_2, show hq (F := Ideal) k0_pay19 (up (φ := .bf16) (sh i Q)) = up (sh i (msk 2 Q)) from hq_up 2 _, show hdo (F := Ideal) k0_pay19 (up (φ := .f32) (sh i D)) = up (sh i (msk 2 D)) from hdo_up 2 _,
      show htot (F := Ideal) k0_pay19 (up (φ := .f32) (sh i D)) (up (φ := .f32) (sh i O)) (up fun _ _ => 0) = up1 (fun a => totR D O 2 (256 * i + a)) from htot_up 2 _ _]
    exact hbFirst_sh (msk 2 Q) K V (msk 2 D) (totR D O 2) i hi
  · rw [bPre_3, show hq (F := Ideal) k0_pay20 (up (φ := .bf16) (sh i Q)) = up (sh i (msk 3 Q)) from hq_up 3 _, show hdo (F := Ideal) k0_pay20 (up (φ := .f32) (sh i D)) = up (sh i (msk 3 D)) from hdo_up 3 _,
      show htot (F := Ideal) k0_pay20 (up (φ := .f32) (sh i D)) (up (φ := .f32) (sh i O)) (up fun _ _ => 0) = up1 (fun a => totR D O 3 (256 * i + a)) from htot_up 3 _ _]
    exact hbFirst_sh (msk 3 Q) K V (msk 3 D) (totR D O 3) i hi

theorem pre_dk (hi : i < 32) (dk dv : Vec Ideal S256x256 .f32) : (pre0 Q K V D O i dk dv).2.2.1
      = addf (F := Ideal) (s := S256x256) (φ := .f32) (sc dk) (up fun b e => ∑ d ∈ Finset.range 256, kAdd Q K V D O (256 * i + d) (256 * i + b) e) := by
  unfold pre0
  rw [bPre_dk]
  refine congrArg (addf (F := Ideal) (s := S256x256) (φ := .f32) (sc dk)) ?_
  rw [show hq (F := Ideal) k0_pay17 (up (φ := .bf16) (sh i Q)) = up (sh i (msk 0 Q)) from hq_up 0 _, show hdo (F := Ideal) k0_pay17 (up (φ := .f32) (sh i D)) = up (sh i (msk 0 D)) from hdo_up 0 _,
    show htot (F := Ideal) k0_pay17 (up (φ := .f32) (sh i D)) (up (φ := .f32) (sh i O)) (up fun _ _ => 0) = up1 (fun a => totR D O 0 (256 * i + a)) from htot_up 0 _ _,
    show hq (F := Ideal) k0_pay18 (up (φ := .bf16) (sh i Q)) = up (sh i (msk 1 Q)) from hq_up 1 _, show hdo (F := Ideal) k0_pay18 (up (φ := .f32) (sh i D)) = up (sh i (msk 1 D)) from hdo_up 1 _,
    show htot (F := Ideal) k0_pay18 (up (φ := .f32) (sh i D)) (up (φ := .f32) (sh i O)) (up fun _ _ => 0) = up1 (fun a => totR D O 1 (256 * i + a)) from htot_up 1 _ _,
    show hq (F := Ideal) k0_pay19 (up (φ := .bf16) (sh i Q)) = up (sh i (msk 2 Q)) from hq_up 2 _, show hdo (F := Ideal) k0_pay19 (up (φ := .f32) (sh i D)) = up (sh i (msk 2 D)) from hdo_up 2 _,
    show htot (F := Ideal) k0_pay19 (up (φ := .f32) (sh i D)) (up (φ := .f32) (sh i O)) (up fun _ _ => 0) = up1 (fun a => totR D O 2 (256 * i + a)) from htot_up 2 _ _,
    show hq (F := Ideal) k0_pay20 (up (φ := .bf16) (sh i Q)) = up (sh i (msk 3 Q)) from hq_up 3 _, show hdo (F := Ideal) k0_pay20 (up (φ := .f32) (sh i D)) = up (sh i (msk 3 D)) from hdo_up 3 _,
    show htot (F := Ideal) k0_pay20 (up (φ := .f32) (sh i D)) (up (φ := .f32) (sh i O)) (up fun _ _ => 0) = up1 (fun a => totR D O 3 (256 * i + a)) from htot_up 3 _ _,
    show k1_pay9 (F := Ideal) = k0_pay16 from rfl,
    hbd0_sh (msk 0 Q) K V (msk 0 D) (totR D O 0) i hi, hbd0_sh (msk 1 Q) K V (msk 1 D) (totR D O 1) i hi, hbd0_sh (msk 2 Q) K V (msk 2 D) (totR D O 2) i hi, hbd0_sh (msk 3 Q) K V (msk 3 D) (totR D O 3) i hi,
    hi_up, hi_up, hi_up, hi_up, tmm_up, tmm_up, tmm_up, tmm_up, four_up]
  refine up_congr fun b hb e he => ?_
  exact sum_four (fun n d b => dhR Q K V D O n (256 * i + d) (256 * i + b)) (fun n d e => msk n Q (256 * i + d) e) b e
theorem pre_dv (hi : i < 32) (dk dv : Vec Ideal S256x256 .f32) : (pre0 Q K V D O i dk dv).2.2.2
      = addf (F := Ideal) (s := S256x256) (φ := .f32) (sc dv) (up fun b e => ∑ d ∈ Finset.range 256, vAdd Q K D (256 * i + d) (256 * i + b) e) := by
  unfold pre0
  rw [bPre_dv]
  refine congrArg (addf (F := Ideal) (s := S256x256) (φ := .f32) (sc dv)) ?_
  rw [show hq (F := Ideal) k0_pay17 (up (φ := .bf16) (sh i Q)) = up (sh i (msk 0 Q)) from hq_up 0 _, show hdo (F := Ideal) k0_pay17 (up (φ := .f32) (sh i D)) = up (sh i (msk 0 D)) from hdo_up 0 _,
    show hq (F := Ideal) k0_pay18 (up (φ := .bf16) (sh i Q)) = up (sh i (msk 1 Q)) from hq_up 1 _, show hdo (F := Ideal) k0_pay18 (up (φ := .f32) (sh i D)) = up (sh i (msk 1 D)) from hdo_up 1 _,
    show hq (F := Ideal) k0_pay19 (up (φ := .bf16) (sh i Q)) = up (sh i (msk 2 Q)) from hq_up 2 _, show hdo (F := Ideal) k0_pay19 (up (φ := .f32) (sh i D)) = up (sh i (msk 2 D)) from hdo_up 2 _,
    show hq (F := Ideal) k0_pay20 (up (φ := .bf16) (sh i Q)) = up (sh i (msk 3 Q)) from hq_up 3 _, show hdo (F := Ideal) k0_pay20 (up (φ := .f32) (sh i D)) = up (sh i (msk 3 D)) from hdo_up 3 _,
    show k1_pay9 (F := Ideal) = k0_pay16 from rfl,
    hbw0_sh (msk 0 Q) K i hi, hbw0_sh (msk 1 Q) K i hi, hbw0_sh (msk 2 Q) K i hi, hbw0_sh (msk 3 Q) K i hi,
    hi_up, hi_up, hi_up, hi_up, tmm_up, tmm_up, tmm_up, tmm_up, four_up]
  refine up_congr fun b hb e he => ?_
  exact sum_four (fun n d b => whR Q K n (256 * i + d) (256 * i + b)) (fun n d e => msk n D (256 * i + d) e) b e

/-- The block of rows done, after the blocks before it. -/
abbrev bAll : (BitVec 32 × Sb Ideal) × Vec Ideal S8192x256 .f32 × Vec Ideal S8192x256 .f32 :=
  bEnd (F := Ideal) i (up (φ := .bf16) (sh i Q)) (up (φ := .f32) (sh i O)) (up (φ := .f32) fun _ _ => 0) (up (φ := .f32) (sh i D)) (upL (φ := .bf16) K)
    (upL (φ := .bf16) V) (upL (φ := .f32) (preR (kAdd Q K V D O) i)) (upL (φ := .f32) (preR (vAdd Q K D) i))
theorem bAll_inv (hi : i < 32) : BInv Q K V D O i 0 (bAll Q K V D O i).1.2
    ∧ (bAll Q K V D O i).2.1 = upL (φ := .f32) (preR (kAdd Q K V D O) (i + 1)) ∧ (bAll Q K V D O i).2.2 = upL (φ := .f32) (preR (vAdd Q K D) (i + 1)) := by
  unfold bAll bEnd bPr
  rw [blk_up K i hi, blk_up V i hi, cum_first _ (kAdd_zero Q K V D O) i, cum_first _ (vAdd_zero Q K D) i]
  have e1 := pre_dk Q K V D O i hi (blkAt (upL (φ := .f32) (cumR (kAdd Q K V D O) i (i + 1))) i) (blkAt (upL (φ := .f32) (cumR (vAdd Q K D) i (i + 1))) i)
  have e2 := pre_dv Q K V D O i hi (blkAt (upL (φ := .f32) (cumR (kAdd Q K V D O) i (i + 1))) i) (blkAt (upL (φ := .f32) (cumR (vAdd Q K D) i (i + 1))) i)
  have e3 := pre_cs Q K V D O i (blkAt (upL (φ := .f32) (cumR (kAdd Q K V D O) i (i + 1))) i) (blkAt (upL (φ := .f32) (cumR (vAdd Q K D) i (i + 1))) i)
  have e4 := pre_inv Q K V D O i hi (blkAt (upL (φ := .f32) (cumR (kAdd Q K V D O) i (i + 1))) i) (blkAt (upL (φ := .f32) (cumR (vAdd Q K D) i (i + 1))) i)
  unfold pre0 at e1 e2 e3 e4
  rw [e1, e2, e3, cum_step _ i i hi, cum_step _ i i hi, ← cum_last, ← cum_last]
  exact bLoop_inv Q K V D O i hi i le_rfl _ e4
/-- The queries' gradient. -/
def dqR : ℕ → ℕ → ℝ := fun s e => accR (dhR Q K V D O (e / 64)) K s 0 e
theorem bOut0_up (hi : i < 32) : bOut0 (bAll Q K V D O i).1.2 = up (sh i (dqR Q K V D O)) := by
  obtain ⟨h0, h1, h2, h3⟩ := (bAll_inv Q K V D O i hi).1
  rw [bOut0_eq, h0, h1, h2, h3]
  unfold bSt
  dsimp only
  rw [show k0_pay17 = hm 0 from rfl, show k0_pay18 = hm 1 from rfl, show k0_pay19 = hm 2 from rfl, show k0_pay20 = hm 3 from rfl,
    sel_up, sel_up, sel_up, sel_up, four_up]
  refine up_congr fun a ha e he => ?_
  exact msk_four (fun n a e => accR (dhR Q K V D O n) K (256 * i + a) (256 * 0) e) a e he
end

end Cert.Kernel5Ideal.Attn
-- ==== Proof.AttnDat.lean ====
/-
  The two attention calls' contents at every grid point, and that their bodies leave them. The grid of either call is
  4 head groups of 32 row blocks; the keys' and values' gradients of the second stay in place over a head group's row
  blocks and are cleared at its first.
-/
module

public import proofs.«01_k».proof.Proof.AttnBwdRun
public import Idealize.ShloMosaic.Lib.Pipeline.TableIdle
public import Idealize.ShloMosaic.Lib.Pipeline.RegionsLoop
public import Idealize.ShloMosaic.Lib.Pipeline.FrameSuffix
public import Idealize.ShloMosaic.Lib.Ring

@[expose] public section

set_option maxRecDepth 16384

noncomputable section

namespace Cert.Kernel5Ideal.Attn

open Cert.Kernel5Ideal Gen
open Idealize.ShloMosaic TcCoe Tactic
open Idealize.SL RA BI BIBase Laws ProofMode Sem
open Rounds
open Pipeline (Dat Cfg Window BodyObligation cellOf)

variable {F : FTy → Type} [FloatOps F] [Named F]

local notation "𝕄" => MT nD τ sig Unit (Elt F) ℕ (UR sig nD τ) ℕ

section Regions

-- the buffers' contents as a call finds them
variable (V : (c : Dev nD) → (b : Ref sig .tc) → Buf (Elt F) ((c : Thread nD τ).loc b))

/-- Window `w`'s block of call 0's array at point `t`. -/
def iblk0 (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V c (Pipeline.arrRef spec0 w))

theorem row0 (t : Fin grid0.N) : (grid0.coords t 1).val = t.val % 32 := by
  have e : (grid0.coords t 1).val = t.val / 1 % 32 := Pipeline.Grid.coords_val t 1 (by decide) rfl
  rw [e, Nat.div_one]

/-- The state the first call's loop ends in at point `t`. -/
def leaves0 (c : Dev nD) (t : Fin (cfg0 (F := F)).N) : Sf F := fEnd (t.val % 32) (iblk0 V c 0 t) (iblk0 V c 1 t) (iblk0 V c 2 t)

/-- Call 0's proof data. -/
def dat0 (c : Dev nD) : Dat τ (Elt F) Unit ℕ (UR sig nD τ) ℕ (cfg0 (F := F)) c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => fOut0 (leaves0 V c t)
    | ⟨4, _⟩ => fOut1 (leaves0 V c t)
  Φ _ := Pipeline.ΦA spec0 c
  q _ := fullShare
  owed _ := 0

theorem A_eq0 (c : Dev nD) (w : Fin (cfg0 (F := F)).W) : (dat0 V c).A w = V c (Pipeline.arrRef spec0 w) := by
  dsimp only [dat0]
theorem after0_0 (c : Dev nD) (t : Fin (cfg0 (F := F)).N) : (dat0 V c).after 0 t = iblk0 V c 0 t := by dsimp only [dat0]; rfl
theorem after0_1 (c : Dev nD) (t : Fin (cfg0 (F := F)).N) : (dat0 V c).after 1 t = iblk0 V c 1 t := by dsimp only [dat0]; rfl
theorem after0_2 (c : Dev nD) (t : Fin (cfg0 (F := F)).N) : (dat0 V c).after 2 t = iblk0 V c 2 t := by dsimp only [dat0]; rfl
theorem after0_3 (c : Dev nD) (t : Fin (cfg0 (F := F)).N) : (dat0 V c).after 3 t = fOut0 (leaves0 V c t) := by dsimp only [dat0]; rfl
theorem after0_4 (c : Dev nD) (t : Fin (cfg0 (F := F)).N) : (dat0 V c).after 4 t = fOut1 (leaves0 V c t) := by dsimp only [dat0]; rfl
theorem before0_0 (c : Dev nD) (t : Fin (cfg0 (F := F)).N) (d) : (dat0 V c).before 0 t d = iblk0 V c 0 t :=
  Dat.before_in_eq_fetched (dat0 V c) 0 rfl (fun _ => rfl) (fun _ _ _ => rfl) (fun _ => rfl) t d
theorem before0_1 (c : Dev nD) (t : Fin (cfg0 (F := F)).N) (d) : (dat0 V c).before 1 t d = iblk0 V c 1 t :=
  Dat.before_in_eq_fetched (dat0 V c) 1 rfl (fun _ => rfl) (fun _ _ _ => rfl) (fun _ => rfl) t d
theorem before0_2 (c : Dev nD) (t : Fin (cfg0 (F := F)).N) (d) : (dat0 V c).before 2 t d = iblk0 V c 2 t :=
  Dat.before_in_eq_fetched (dat0 V c) 2 rfl (fun _ => rfl) (fun _ _ _ => rfl) (fun _ => rfl) t d

/-- What the body is called with at point `t`, and what it returns. -/
def bodyPre0 (c : Dev nD) (t : Fin (cfg0 (F := F)).N) : sProp 𝕄 :=
  iprop((dat0 V c).Φ t.castSucc ∗ (dat0 V c).owesAt () t.castSucc
    ∗ (∃ d, ow c (st0_0 t) ((dat0 V c).before 0 t d))
    ∗ (∃ d, ow c (st0_1 t) ((dat0 V c).before 1 t d))
    ∗ (∃ d, ow c (st0_2 t) ((dat0 V c).before 2 t d))
    ∗ (∃ d, ow c (st0_3 t) ((dat0 V c).before 3 t d))
    ∗ (∃ d, ow c (st0_4 t) ((dat0 V c).before 4 t d)))
def bodyPost0 (c : Dev nD) (t : Fin (cfg0 (F := F)).N) : sProp 𝕄 :=
  iprop((dat0 V c).Φ t.succ ∗ (dat0 V c).owesAt () t.succ
    ∗ ow c (st0_0 t) ((dat0 V c).after 0 t)
    ∗ ow c (st0_1 t) ((dat0 V c).after 1 t)
    ∗ ow c (st0_2 t) ((dat0 V c).after 2 t)
    ∗ ow c (st0_3 t) ((dat0 V c).after 3 t)
    ∗ ow c (st0_4 t) ((dat0 V c).after 4 t))

theorem body_ok0 (c : Dev nD) (t : Fin (cfg0 (F := F)).N) :
    bodyPre0 V c t ⊢ wp frame (wpE (defs₀ (F := F)) 𝒱₀ c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  unfold leaves0; rw [← row0 t]
  iintro ⟨HΦ, Ho, ⟨%d0, H0⟩, ⟨%d1, H1⟩, ⟨%d2, H2⟩, ⟨%d3, H3⟩, ⟨%d4, H4⟩⟩
  iapply (fBody c (grid0.coords t) _ _ _ _ _ _ _ _ _ _ (iblk0 V c 0 t) (iblk0 V c 1 t) (iblk0 V c 2 t) Set.univ _)
  isplitl [H0 H1 H2 H3 H4]
  · isplitl [H0]; iexact H0; isplitl [H1]; iexact H1; isplitl [H2]; iexact H2; isplitl [H3]; iexists _; iexact H3; iexists _; iexact H4
  iintro Hr
  isplitl [HΦ]; · iexact HΦ
  isplitl [Ho]; · iexact Ho
  iexact Hr

theorem row_defs0 (t : Fin (cfg0 (F := F)).N) : defs₀ (F := F) .tc (cfg0 (F := F)).body ((cfg0 (F := F)).bodyArgs t ((cfg0 (F := F)).slots t)) = bodyAt0 t := by
  unfold defs₀; rw [Defs.onTc_tc]
theorem obligation0 (c : Dev nD) : BodyObligation (dat0 (F := F) V c) (defs₀ (F := F)) 𝒱₀ () Set.univ := fun t => by
  rw [bigSep_W0, bigSep_W0, row_defs0]
  exact triple_restated (body_ok0 V c t) rfl .rfl fun _ => .rfl

/-- Window `w`'s block of call 1's array at point `t`. -/
def iblk1 (c : Dev nD) (w : Fin (cfg1 (F := F)).W) (t : Fin (cfg1 (F := F)).N) :
    (((cfg1 (F := F)).win w).xblock ((cfg1 (F := F)).grid.coords t)).Idx → Elt F ((cfg1 (F := F)).win w).elt :=
  (((cfg1 (F := F)).win w).blk t).view.read (Elt F) (V c (Pipeline.arrRef spec1 w))

/-- Whether the keys' and the values' gradients hold nothing of the head group yet: at its first row block. -/
def freshTab : ℕ → Bool := fun n => n % 32 == 0
theorem fresh_7 (t : Fin (cfg1 (F := F)).N) : (cfg1 (F := F)).fresh 7 t.val = freshTab t.val :=
  Pipeline.Cfg.fresh_tab (cfg1 (F := F)) 7 freshTab rfl (fun t => by
    have h := flush1_7 (F := F) t
    have hi : (cfg1 (F := F)).idle 7 ((cfg1 (F := F)).grid.coords t) = false := rfl
    rw [hi, Bool.false_and, Bool.or_false, Bool.eq_iff_iff, h]
    unfold freshTab; rw [beq_iff_eq]; omega) t.val (Nat.le_of_lt t.isLt)
theorem fresh_8 (t : Fin (cfg1 (F := F)).N) : (cfg1 (F := F)).fresh 8 t.val = freshTab t.val :=
  Pipeline.Cfg.fresh_tab (cfg1 (F := F)) 8 freshTab rfl (fun t => by
    have h := flush1_8 (F := F) t
    have hi : (cfg1 (F := F)).idle 8 ((cfg1 (F := F)).grid.coords t) = false := rfl
    rw [hi, Bool.false_and, Bool.or_false, Bool.eq_iff_iff, h]
    unfold freshTab; rw [beq_iff_eq]; omega) t.val (Nat.le_of_lt t.isLt)

/-- The row block of point `t`. -/
theorem row1 (t : Fin grid1.N) : (grid1.coords t 1).val = t.val % 32 := by
  have e : (grid1.coords t 1).val = t.val / 1 % 32 := Pipeline.Grid.coords_val t 1 (by decide) rfl
  rw [e, Nat.div_one]

/-- What the second call's body leaves at point `t`, the gradients of the keys and values at `DK` and `DV` before it. -/
def leaves1 (c : Dev nD) (t : Fin (cfg1 (F := F)).N) (DK DV : Vec F S8192x256 .f32) : (BitVec 32 × Sb F) × Vec F S8192x256 .f32 × Vec F S8192x256 .f32 :=
  bEnd (t.val % 32) (iblk1 V c 0 t) (iblk1 V c 3 t) (iblk1 V c 4 t) (iblk1 V c 5 t) (iblk1 V c 1 t) (iblk1 V c 2 t)
    (clr (t.val % 32) k1_pay6 DK) (clr (t.val % 32) k1_pay7 DV)

/-- The same, from the first point on. -/
def outs1 (c : Dev nD) : (n : ℕ) → n < (cfg1 (F := F)).N → (BitVec 32 × Sb F) × Vec F S8192x256 .f32 × Vec F S8192x256 .f32
  | 0, hn => leaves1 V c ⟨0, hn⟩ k1_pay6 k1_pay7
  | n + 1, hn => leaves1 V c ⟨n + 1, hn⟩ (outs1 c n (Nat.lt_of_succ_lt hn)).2.1 (outs1 c n (Nat.lt_of_succ_lt hn)).2.2

/-- Where a head group starts, what was there before does not matter. -/
theorem outs1_first (c : Dev nD) (t : Fin (cfg1 (F := F)).N) (h : t.val % 32 = 0) (DK DV : Vec F S8192x256 .f32) :
    outs1 V c t.val t.isLt = leaves1 V c t DK DV := by
  obtain ⟨n, hn⟩ := t
  have hz : ∀ Z A B : Vec F S8192x256 .f32, clr (n % 32) Z A = clr (n % 32) Z B := fun Z A B => (if_pos h).trans (if_pos h).symm
  cases n with
  | zero => unfold outs1 leaves1; rw [hz k1_pay6 k1_pay6 DK, hz k1_pay7 k1_pay7 DV]
  | succ n => unfold outs1 leaves1; rw [hz k1_pay6 _ DK, hz k1_pay7 _ DV]
/-- Elsewhere it is what the point before left. -/
theorem outs1_next (c : Dev nD) (t : Fin (cfg1 (F := F)).N) (h : ¬ t.val % 32 = 0) :
    outs1 V c t.val t.isLt = leaves1 V c t (outs1 V c (t.val - 1) (Nat.lt_of_le_of_lt (Nat.sub_le _ _) t.isLt)).2.1
      (outs1 V c (t.val - 1) (Nat.lt_of_le_of_lt (Nat.sub_le _ _) t.isLt)).2.2 := by
  obtain ⟨n, hn⟩ := t
  cases n with
  | zero => exact absurd (Nat.zero_mod _) h
  | succ n => rfl

/-- Call 1's proof data. -/
def dat1 (c : Dev nD) : Dat τ (Elt F) Unit ℕ (UR sig nD τ) ℕ (cfg1 (F := F)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => bOut0 (outs1 V c t.val t.isLt).1.2
    | ⟨7, _⟩ => (outs1 V c t.val t.isLt).2.1
    | ⟨8, _⟩ => (outs1 V c t.val t.isLt).2.2
  Φ _ := Pipeline.ΦA spec1 c
  q _ := fullShare
  owed _ := 0

theorem A_eq1 (c : Dev nD) (w : Fin (cfg1 (F := F)).W) : (dat1 V c).A w = V c (Pipeline.arrRef spec1 w) := by
  dsimp only [dat1]
theorem after1_0 (c : Dev nD) (t : Fin (cfg1 (F := F)).N) : (dat1 V c).after 0 t = iblk1 V c 0 t := by dsimp only [dat1]; rfl
theorem after1_1 (c : Dev nD) (t : Fin (cfg1 (F := F)).N) : (dat1 V c).after 1 t = iblk1 V c 1 t := by dsimp only [dat1]; rfl
theorem after1_2 (c : Dev nD) (t : Fin (cfg1 (F := F)).N) : (dat1 V c).after 2 t = iblk1 V c 2 t := by dsimp only [dat1]; rfl
theorem after1_3 (c : Dev nD) (t : Fin (cfg1 (F := F)).N) : (dat1 V c).after 3 t = iblk1 V c 3 t := by dsimp only [dat1]; rfl
theorem after1_4 (c : Dev nD) (t : Fin (cfg1 (F := F)).N) : (dat1 V c).after 4 t = iblk1 V c 4 t := by dsimp only [dat1]; rfl
theorem after1_5 (c : Dev nD) (t : Fin (cfg1 (F := F)).N) : (dat1 V c).after 5 t = iblk1 V c 5 t := by dsimp only [dat1]; rfl
theorem after1_6 (c : Dev nD) (t : Fin (cfg1 (F := F)).N) : (dat1 V c).after 6 t = bOut0 (outs1 V c t.val t.isLt).1.2 := by dsimp only [dat1]; rfl
theorem after1_7 (c : Dev nD) (t : Fin (cfg1 (F := F)).N) : (dat1 V c).after 7 t = (outs1 V c t.val t.isLt).2.1 := by dsimp only [dat1]; rfl
theorem after1_8 (c : Dev nD) (t : Fin (cfg1 (F := F)).N) : (dat1 V c).after 8 t = (outs1 V c t.val t.isLt).2.2 := by dsimp only [dat1]; rfl
theorem before1_0 (c : Dev nD) (t : Fin (cfg1 (F := F)).N) (d) : (dat1 V c).before 0 t d = iblk1 V c 0 t :=
  Dat.before_in_eq_fetched (dat1 V c) 0 rfl (fun _ => rfl) (fun _ _ _ => rfl) (fun _ => rfl) t d
theorem before1_1 (c : Dev nD) (t : Fin (cfg1 (F := F)).N) (d) : (dat1 V c).before 1 t d = iblk1 V c 1 t :=
  Dat.before_in_eq_fetched (dat1 V c) 1 rfl (fun _ => rfl) (fun _ _ _ => rfl) (fun _ => rfl) t d
theorem before1_2 (c : Dev nD) (t : Fin (cfg1 (F := F)).N) (d) : (dat1 V c).before 2 t d = iblk1 V c 2 t :=
  Dat.before_in_eq_fetched (dat1 V c) 2 rfl (fun _ => rfl) (fun _ _ _ => rfl) (fun _ => rfl) t d
theorem before1_3 (c : Dev nD) (t : Fin (cfg1 (F := F)).N) (d) : (dat1 V c).before 3 t d = iblk1 V c 3 t :=
  Dat.before_in_eq_fetched (dat1 V c) 3 rfl (fun _ => rfl) (fun _ _ _ => rfl) (fun _ => rfl) t d
theorem before1_4 (c : Dev nD) (t : Fin (cfg1 (F := F)).N) (d) : (dat1 V c).before 4 t d = iblk1 V c 4 t :=
  Dat.before_in_eq_fetched (dat1 V c) 4 rfl (fun _ => rfl) (fun _ _ _ => rfl) (fun _ => rfl) t d
theorem before1_5 (c : Dev nD) (t : Fin (cfg1 (F := F)).N) (d) : (dat1 V c).before 5 t d = iblk1 V c 5 t :=
  Dat.before_in_eq_fetched (dat1 V c) 5 rfl (fun _ => rfl) (fun _ _ _ => rfl) (fun _ => rfl) t d
theorem carry_7 (c : Dev nD) : ∀ (t : Fin (cfg1 (F := F)).N) (_ : t.val ≠ 0), (cfg1 (F := F)).idle 7 (grid1.coords t) = true → (cfg1 (F := F)).fresh 7 t.val = false →
    (dat1 V c).after 7 t = (dat1 V c).after 7 ⟨t.val - 1, by omega⟩ := fun t _ hi _ => absurd (hi.symm.trans rfl : true = false) (by decide)
theorem before1_7 (c : Dev nD) (t : Fin (cfg1 (F := F)).N) (h : ¬ t.val % 32 = 0) (d) :
    (dat1 V c).before 7 t d = (outs1 V c (t.val - 1) (Nat.lt_of_le_of_lt (Nat.sub_le _ _) t.isLt)).2.1 := by
  rw [Dat.before_out_traj _ 7 rfl (fun _ _ => rfl) (carry_7 V c) t.val t rfl d,
    if_neg (by rw [fresh_7 t]; unfold freshTab; rw [beq_iff_eq]; exact h)]
  dsimp only [dat1]; rfl
theorem carry_8 (c : Dev nD) : ∀ (t : Fin (cfg1 (F := F)).N) (_ : t.val ≠ 0), (cfg1 (F := F)).idle 8 (grid1.coords t) = true → (cfg1 (F := F)).fresh 8 t.val = false →
    (dat1 V c).after 8 t = (dat1 V c).after 8 ⟨t.val - 1, by omega⟩ := fun t _ hi _ => absurd (hi.symm.trans rfl : true = false) (by decide)
theorem before1_8 (c : Dev nD) (t : Fin (cfg1 (F := F)).N) (h : ¬ t.val % 32 = 0) (d) :
    (dat1 V c).before 8 t d = (outs1 V c (t.val - 1) (Nat.lt_of_le_of_lt (Nat.sub_le _ _) t.isLt)).2.2 := by
  rw [Dat.before_out_traj _ 8 rfl (fun _ _ => rfl) (carry_8 V c) t.val t rfl d,
    if_neg (by rw [fresh_8 t]; unfold freshTab; rw [beq_iff_eq]; exact h)]
  dsimp only [dat1]; rfl

/-- What the body is called with at point `t`, and what it returns. -/
def bodyPre1 (c : Dev nD) (t : Fin (cfg1 (F := F)).N) : sProp 𝕄 :=
  iprop((dat1 V c).Φ t.castSucc ∗ (dat1 V c).owesAt () t.castSucc
    ∗ (∃ d, ow c (st1_0 t) ((dat1 V c).before 0 t d))
    ∗ (∃ d, ow c (st1_1 t) ((dat1 V c).before 1 t d))
    ∗ (∃ d, ow c (st1_2 t) ((dat1 V c).before 2 t d))
    ∗ (∃ d, ow c (st1_3 t) ((dat1 V c).before 3 t d))
    ∗ (∃ d, ow c (st1_4 t) ((dat1 V c).before 4 t d))
    ∗ (∃ d, ow c (st1_5 t) ((dat1 V c).before 5 t d))
    ∗ (∃ d, ow c (st1_6 t) ((dat1 V c).before 6 t d))
    ∗ (∃ d, ow c (st1_7 t) ((dat1 V c).before 7 t d))
    ∗ (∃ d, ow c (st1_8 t) ((dat1 V c).before 8 t d)))
def bodyPost1 (c : Dev nD) (t : Fin (cfg1 (F := F)).N) : sProp 𝕄 :=
  iprop((dat1 V c).Φ t.succ ∗ (dat1 V c).owesAt () t.succ
    ∗ ow c (st1_0 t) ((dat1 V c).after 0 t)
    ∗ ow c (st1_1 t) ((dat1 V c).after 1 t)
    ∗ ow c (st1_2 t) ((dat1 V c).after 2 t)
    ∗ ow c (st1_3 t) ((dat1 V c).after 3 t)
    ∗ ow c (st1_4 t) ((dat1 V c).after 4 t)
    ∗ ow c (st1_5 t) ((dat1 V c).after 5 t)
    ∗ ow c (st1_6 t) ((dat1 V c).after 6 t)
    ∗ ow c (st1_7 t) ((dat1 V c).after 7 t)
    ∗ ow c (st1_8 t) ((dat1 V c).after 8 t))

theorem body_ok1 (c : Dev nD) (t : Fin (cfg1 (F := F)).N) :
    bodyPre1 V c t ⊢ wp frame (wpE (defs₀ (F := F)) 𝒱₀ c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  by_cases h : t.val % 32 = 0
  · rw [outs1_first V c t h k1_pay6 k1_pay7]
    unfold leaves1; rw [← row1 t]
    have hr : (grid1.coords t 1).val = 0 := (row1 t).trans h
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (bBody c (grid1.coords t) _ _ _ _ _ _ _ _ _ _ _ _ _ _ _ _ _ _ (iblk1 V c 0 t) (iblk1 V c 1 t) (iblk1 V c 2 t) (iblk1 V c 3 t) (iblk1 V c 4 t) (iblk1 V c 5 t)
      ((dat1 V c).before 7 t d7) ((dat1 V c).before 8 t d8) _ _ ((if_pos hr).trans (if_pos hr).symm) ((if_pos hr).trans (if_pos hr).symm) Set.univ _)
    isplitl [H0 H1 H2 H3 H4 H5 H6 H7 H8]
    · isplitl [H0]; iexact H0; isplitl [H1]; iexact H1; isplitl [H2]; iexact H2; isplitl [H3]; iexact H3; isplitl [H4]; iexact H4; isplitl [H5]; iexact H5; isplitl [H6]; iexists _; iexact H6; isplitl [H7]; iexact H7; iexact H8
    iintro Hr
    isplitl [HΦ]; · iexact HΦ
    isplitl [Ho]; · iexact Ho
    iexact Hr
  · simp only [before1_7 V c t h, before1_8 V c t h]
    rw [outs1_next V c t h]
    unfold leaves1; rw [← row1 t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (bBody c (grid1.coords t) _ _ _ _ _ _ _ _ _ _ _ _ _ _ _ _ _ _ (iblk1 V c 0 t) (iblk1 V c 1 t) (iblk1 V c 2 t) (iblk1 V c 3 t) (iblk1 V c 4 t) (iblk1 V c 5 t)
      (outs1 V c (t.val - 1) (Nat.lt_of_le_of_lt (Nat.sub_le _ _) t.isLt)).2.1 (outs1 V c (t.val - 1) (Nat.lt_of_le_of_lt (Nat.sub_le _ _) t.isLt)).2.2 _ _ rfl rfl Set.univ _)
    isplitl [H0 H1 H2 H3 H4 H5 H6 H7 H8]
    · isplitl [H0]; iexact H0; isplitl [H1]; iexact H1; isplitl [H2]; iexact H2; isplitl [H3]; iexact H3; isplitl [H4]; iexact H4; isplitl [H5]; iexact H5; isplitl [H6]; iexists _; iexact H6; isplitl [H7]; iexact H7; iexact H8
    iintro Hr
    isplitl [HΦ]; · iexact HΦ
    isplitl [Ho]; · iexact Ho
    iexact Hr

theorem row_defs1 (t : Fin (cfg1 (F := F)).N) : defs₀ (F := F) .tc (cfg1 (F := F)).body ((cfg1 (F := F)).bodyArgs t ((cfg1 (F := F)).slots t)) = bodyAt1 t := by
  unfold defs₀; rw [Defs.onTc_tc]
theorem obligation1 (c : Dev nD) : BodyObligation (dat1 (F := F) V c) (defs₀ (F := F)) 𝒱₀ () Set.univ := fun t => by
  rw [bigSep_W1, bigSep_W1, row_defs1]
  exact triple_restated (body_ok1 V c t) rfl .rfl fun _ => .rfl

end Regions

end Cert.Kernel5Ideal.Attn
-- ==== Proof.AttnFrame.lean ====
/-
  The attention program's run: the host's casts, the forward call, the backward call. Every buffer ends at the last
  boundary's contents; the arguments end as launched.
-/
module

public import proofs.«01_k».proof.Proof.AttnDat
public import proofs.«01_k».proof.Proof.Region

@[expose] public section

set_option maxRecDepth 16384

noncomputable section

namespace Cert.Kernel5Ideal.Attn

open Cert.Kernel5Ideal Gen
open Cert.Proof
open Idealize.ShloMosaic TcCoe Tactic
open Idealize.SL RA BI BIBase Laws ProofMode Sem
open Rounds
open Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3]

theorem host_fresh : (hostOps0 : List (HloOp τ sig (Elt F))).Forall fun op => op.fresh = ∅ := by
  simp only [List.Forall]; repeat' constructor
abbrev hostW : List (Ref sig .tc) := [main_v0, main_v1, main_v2]
theorem host_writes : (hostOps0 : List (HloOp τ sig (Elt F))).Forall fun op => op.writes ⊆ (hostW.map (Proc.devRef (τ := τ) .tc)).toFinset :=
  StableHlo.forall_writes_sub_of_map rfl

/-! ## The contents at the boundaries -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostW) : W1 m ρ c (Proc.devRef .tc r) = W0 m ρ c (Proc.devRef .tc r) :=
  StableHlo.after_of_writes_sub hostOps0 _ host_writes h
theorem W1_args (c : Dev nD) : ∀ a ∈ argRefs, W1 m ρ c (Proc.devRef .tc a) = m ((c : Thread nD τ).loc a) :=
  fun a ha => W1_of m ρ c a ((ListAll.forall_mem_of_all_decide (by decide +kernel) : ∀ a ∈ argRefs, a ∉ hostW) a ha)

/-- After call 0. -/
def W2 (c : Dev nD) : Valuation τ sig (Elt F) := Region.after (dat0 (V1 m ρ) c) (W1 m ρ c)
abbrev V2 : (c : Dev nD) → (b : Ref sig .tc) → Buf (Elt F) ((c : Thread nD τ).loc b) := fun c b => W2 m ρ c b
theorem W2_of (c : Dev nD) (r : Ref sig .tc) (h : ∀ w : Fin (cfg0 (F := F)).W, Pipeline.arrRef spec0 w = r → ((cfg0 (F := F)).win w).isOut = false) :
    W2 m ρ c (Proc.devRef .tc r) = W1 m ρ c (Proc.devRef .tc r) :=
  Region.after_of _ _ (launch0 (F := F)).win.arr_inj (A_eq0 (V1 m ρ) c) r h
theorem W2_args (c : Dev nD) : ∀ a ∈ argRefs, W2 m ρ c (Proc.devRef .tc a) = m ((c : Thread nD τ).loc a) :=
  fun a ha => (W2_of m ρ c a ((ListAll.forall_mem_of_all_decide (by decide +kernel) :
    ∀ a ∈ argRefs, ∀ w : Fin 5, Pipeline.arrRef spec0 w = a → (win0 w).isOut = false) a ha)).trans (W1_args m ρ c a ha)
theorem arr_after0 (c : Dev nD) (w : Fin (cfg0 (F := F)).W) : (dat0 (V1 m ρ) c).arrAt w (cfg0 (F := F)).N = V2 m ρ c (Pipeline.arrRef spec0 w) :=
  (Region.after_arr (dat0 (V1 m ρ) c) (W1 m ρ c) (launch0 (F := F)).win.arr_inj w).symm

/-- After call 1. -/
def W3 (c : Dev nD) : Valuation τ sig (Elt F) := Region.after (dat1 (V2 m ρ) c) (W2 m ρ c)
abbrev V3 : (c : Dev nD) → (b : Ref sig .tc) → Buf (Elt F) ((c : Thread nD τ).loc b) := fun c b => W3 m ρ c b
theorem W3_of (c : Dev nD) (r : Ref sig .tc) (h : ∀ w : Fin (cfg1 (F := F)).W, Pipeline.arrRef spec1 w = r → ((cfg1 (F := F)).win w).isOut = false) :
    W3 m ρ c (Proc.devRef .tc r) = W2 m ρ c (Proc.devRef .tc r) :=
  Region.after_of _ _ (launch1 (F := F)).win.arr_inj (A_eq1 (V2 m ρ) c) r h
theorem W3_args (c : Dev nD) : ∀ a ∈ argRefs, W3 m ρ c (Proc.devRef .tc a) = m ((c : Thread nD τ).loc a) :=
  fun a ha => (W3_of m ρ c a ((ListAll.forall_mem_of_all_decide (by decide +kernel) :
    ∀ a ∈ argRefs, ∀ w : Fin 9, Pipeline.arrRef spec1 w = a → (win1 w).isOut = false) a ha)).trans (W2_args m ρ c a ha)
theorem arr_after1 (c : Dev nD) (w : Fin (cfg1 (F := F)).W) : (dat1 (V2 m ρ) c).arrAt w (cfg1 (F := F)).N = V3 m ρ c (Pipeline.arrRef spec1 w) :=
  (Region.after_arr (dat1 (V2 m ρ) c) (W2 m ρ c) (launch1 (F := F)).win.arr_inj w).symm

/-! ## The calls in their order, and the run -/

def pdats : (p : Fin 2) → (c : Dev nD) → Dat τ (Elt F) Unit ℕ (UR sig nD τ) ℕ (Pipeline.pin (Region.pcs (F := F) (cfgs (F := F))) (Region.adm (cfgs (F := F))) p) c
  | ⟨0, _⟩ => fun c => dat0 (V1 m ρ) c
  | ⟨1, _⟩ => fun c => dat1 (V2 m ρ) c
def reg0 : Pipeline.RegionSeg (Region.pcs (F := F) (cfgs (F := F))) (Region.adm (cfgs (F := F))) (pdats m ρ) () defs₀ 𝒱₀ Region.L Region.lv 0 :=
  Region.reg (cfgs (F := F)) defs₀ 𝒱₀ (pdats m ρ) 0 launch0 (W1 m ρ) (fun c => A_eq0 (V1 m ρ) c) (fun _ _ => rfl) (fun _ _ => rfl) (fun _ _ => trivial)
    (fun _ _ => rfl) fun c => obligation0 (V1 m ρ) c
def reg1 : Pipeline.RegionSeg (Region.pcs (F := F) (cfgs (F := F))) (Region.adm (cfgs (F := F))) (pdats m ρ) () defs₀ 𝒱₀ Region.L Region.lv 1 :=
  Region.reg (cfgs (F := F)) defs₀ 𝒱₀ (pdats m ρ) 1 launch1 (W2 m ρ) (fun c => A_eq1 (V2 m ρ) c) (fun _ _ => rfl) (fun _ _ => rfl) (fun _ _ => trivial)
    (fun _ _ => rfl) fun c => obligation1 (V2 m ρ) c
abbrev segs : List (Pipeline.Seg (Region.pcs (F := F) (cfgs (F := F))) (Region.adm (cfgs (F := F))) (pdats m ρ) () defs₀ 𝒱₀ Region.L Region.lv) :=
  [ .host (Region.host (cfgs (F := F)) defs₀ 𝒱₀ hostOps0 hostOps0_sub host_fresh (W0 m ρ)), .region (reg0 m ρ), .region (reg1 m ρ) ]
theorem main_run (c : Dev nD) : main (F := F) c = Pipeline.Seg.run (segs m ρ) := (main_chain c).trans (by chain_rfl)

/-- Every buffer ends at the last boundary's contents and every counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W3 m ρ c b) ∧ r.2.sem = fun _ => 0) :=
  Region.run (cfgs (F := F)) defs₀ 𝒱₀ (pdats m ρ) cellOf_inj m ρ main (segs m ρ) (main_run m ρ)
    (by simp only [segs, Pipeline.Seg.pipes_host, Pipeline.Seg.pipes_region, Pipeline.Seg.pipes_nil]; decide)
    (W3 m ρ) ⟨fun _ => .rfl, fun _ => .rfl, fun _ => .rfl, Region.last (W3 m ρ)⟩ (by decide)

theorem frame : θ_run defs (onTc (τ := τ) (main (F := F))) ⟨m, fun _ => 0, ρ⟩ (fun r => (∀ c : Dev nD, ∀ a ∈ argRefs,
      r.2.mem ((c : Thread nD τ).loc a) = m ((c : Thread nD τ).loc a)) ∧ r.2.sem = fun _ => 0) :=
  (θ_run defs _ _).mono (fun r h => ⟨fun c a ha => (h.1 c _ (Region.mem_uc a
    ((by decide : ∀ a ∈ argRefs, ¬ (Proc.devRef .tc a : DevRef τ sig).isScoped) a ha))).trans (W3_args m ρ c a ha), h.2⟩) (run_all m ρ)

end Cert.Kernel5Ideal.Attn
-- ==== Proof.AttnArr.lean ====
/-
  The two attention calls' arrays: where the arguments hold real numbers, the forward call's outputs and the backward call's
  gradients are the real sums of the loops' ends, head group by head group.
-/
module

public import proofs.«01_k».proof.Proof.AttnSum
public import proofs.«01_k».proof.Proof.AttnFrame
public import Idealize.ShloMosaic.Lib.Pipeline.ValueKit

@[expose] public section

set_option maxRecDepth 16384

noncomputable section

namespace Cert.Kernel5Ideal.Attn

open Cert.Kernel5Ideal Gen
open Idealize.ShloMosaic TcCoe Tactic
open Idealize.SL.Sem
open Pipeline (Dat Cfg Window)

/-- 8192 rows of 1024 real numbers. -/
def upA {φ : FTy} (x : ℕ → ℕ → ℝ) : FVec Ideal S8192x1024 φ := fun y => ((x (y 0).val (y 1).val : ℝ) : EReal)
/-- The lanes of head group `h`. -/
def grp (h : ℕ) (x : ℕ → ℕ → ℝ) : ℕ → ℕ → ℝ := fun s e => x s (256 * h + e)
/-- The head groups side by side. -/
def ung (x : ℕ → ℕ → ℕ → ℝ) : ℕ → ℕ → ℝ := fun s e => x (e / 256) s (e % 256)
theorem grp_ung (h : ℕ) (x : ℕ → ℕ → ℕ → ℝ) (s e : ℕ) (he : e < 256) : grp h (ung x) s e = x h s e := by
  unfold grp ung
  rw [show (256 * h + e) / 256 = h by omega, show (256 * h + e) % 256 = e by omega]

/-- What the forward call computes. -/
def oAll (Q K V : ℕ → ℕ → ℝ) (h : ℕ) : ℕ → ℕ → ℝ := oR (grp h Q) (grp h K) (grp h V)
/-- The queries', the keys' and the values' gradients of head group `h`. -/
def dqAll (Q K V D : ℕ → ℕ → ℝ) (h : ℕ) : ℕ → ℕ → ℝ := dqR (grp h Q) (grp h K) (grp h V) (grp h D) (oAll Q K V h)
def dkAll (Q K V D : ℕ → ℕ → ℝ) (h : ℕ) : ℕ → ℕ → ℝ := preR (kAdd (grp h Q) (grp h K) (grp h V) (grp h D) (oAll Q K V h)) 32
def dvAll (Q K D : ℕ → ℕ → ℝ) (h : ℕ) : ℕ → ℕ → ℝ := preR (vAdd (grp h Q) (grp h K) (grp h D)) 32

/-- A tile of an array of real numbers. -/
theorem up_at {φ : FTy} (x : ℕ → ℕ → ℝ) {a h p q : ℕ} (e : p = a ∧ q = h) (emb : S256x256.Idx → S8192x1024.Idx)
    (e0 : ∀ j, (emb j 0).val = p * 256 + 1 * (j 0).val) (e1 : ∀ j, (emb j 1).val = q * 256 + 1 * (j 1).val) :
    (fun j => upA (φ := φ) x (emb j)) = up (sh a (grp h x)) := by
  funext j
  show ((x (emb j 0).val (emb j 1).val : ℝ) : EReal) = ((x _ (256 * h + (j 1).val) : ℝ) : EReal)
  rw [e0, e1, e.1, e.2, Nat.one_mul, Nat.one_mul, Nat.mul_comm _ 256, Nat.mul_comm _ 256]
/-- A head group's lanes of it. -/
theorem upL_at {φ : FTy} (x : ℕ → ℕ → ℝ) {h p q : ℕ} (e : p = 0 ∧ q = h) (emb : S8192x256.Idx → S8192x1024.Idx)
    (e0 : ∀ j, (emb j 0).val = p * 8192 + 1 * (j 0).val) (e1 : ∀ j, (emb j 1).val = q * 256 + 1 * (j 1).val) :
    (fun j => upA (φ := φ) x (emb j)) = upL (grp h x) := by
  funext j
  show ((x (emb j 0).val (emb j 1).val : ℝ) : EReal) = ((x (j 0).val (256 * h + (j 1).val) : ℝ) : EReal)
  rw [e0, e1, e.1, e.2, Nat.one_mul, Nat.one_mul, Nat.mul_comm _ 256, Nat.zero_mul, Nat.zero_add]

/-! ## Call 0's windows -/
theorem ix0_0 (t : Fin grid0.N) : win0_0.index t 0 = t.val % 32 ∧ win0_0.index t 1 = t.val / 32 := by
  revert t; decide +kernel
theorem read0_0 (x : ℕ → ℕ → ℝ) (t : Fin (cfg0 (F := Ideal)).N) :
    (((cfg0 (F := Ideal)).win 0).blk t).view.read (Elt Ideal) (upA (φ := .bf16) x : Vec Ideal S8192x1024 .bf16) = (up (φ := .bf16) (sh (t.val % 32) (grp (t.val / 32) x)) : Vec Ideal S256x256 .bf16) :=
  up_at x (ix0_0 t) (((cfg0 (F := Ideal)).win 0).blk t).view.emb (fun _ => rfl) fun _ => rfl
theorem ix0_1 (t : Fin grid0.N) : win0_1.index t 0 = 0 ∧ win0_1.index t 1 = t.val / 32 := by
  revert t; decide +kernel
theorem read0_1 (x : ℕ → ℕ → ℝ) (t : Fin (cfg0 (F := Ideal)).N) :
    (((cfg0 (F := Ideal)).win 1).blk t).view.read (Elt Ideal) (upA (φ := .bf16) x : Vec Ideal S8192x1024 .bf16) = (upL (φ := .bf16) (grp (t.val / 32) x) : Vec Ideal S8192x256 .bf16) :=
  upL_at x (ix0_1 t) (((cfg0 (F := Ideal)).win 1).blk t).view.emb (fun _ => rfl) fun _ => rfl
theorem ix0_2 (t : Fin grid0.N) : win0_2.index t 0 = 0 ∧ win0_2.index t 1 = t.val / 32 := by
  revert t; decide +kernel
theorem read0_2 (x : ℕ → ℕ → ℝ) (t : Fin (cfg0 (F := Ideal)).N) :
    (((cfg0 (F := Ideal)).win 2).blk t).view.read (Elt Ideal) (upA (φ := .bf16) x : Vec Ideal S8192x1024 .bf16) = (upL (φ := .bf16) (grp (t.val / 32) x) : Vec Ideal S8192x256 .bf16) :=
  upL_at x (ix0_2 t) (((cfg0 (F := Ideal)).win 2).blk t).view.emb (fun _ => rfl) fun _ => rfl
theorem ix0_3 (t : Fin grid0.N) : win0_3.index t 0 = t.val % 32 ∧ win0_3.index t 1 = t.val / 32 := by
  revert t; decide +kernel
theorem read0_3 (x : ℕ → ℕ → ℝ) (t : Fin (cfg0 (F := Ideal)).N) :
    (((cfg0 (F := Ideal)).win 3).blk t).view.read (Elt Ideal) (upA (φ := .f32) x : Vec Ideal S8192x1024 .f32) = (up (φ := .f32) (sh (t.val % 32) (grp (t.val / 32) x)) : Vec Ideal S256x256 .f32) :=
  up_at x (ix0_3 t) (((cfg0 (F := Ideal)).win 3).blk t).view.emb (fun _ => rfl) fun _ => rfl
theorem ix0_4 (t : Fin grid0.N) : win0_4.index t 0 = t.val % 32 ∧ win0_4.index t 1 = t.val / 32 := by
  revert t; decide +kernel
theorem read0_4 (x : ℕ → ℕ → ℝ) (t : Fin (cfg0 (F := Ideal)).N) :
    (((cfg0 (F := Ideal)).win 4).blk t).view.read (Elt Ideal) (upA (φ := .f32) x : Vec Ideal S8192x1024 .f32) = (up (φ := .f32) (sh (t.val % 32) (grp (t.val / 32) x)) : Vec Ideal S256x256 .f32) :=
  up_at x (ix0_4 t) (((cfg0 (F := Ideal)).win 4).blk t).view.emb (fun _ => rfl) fun _ => rfl

/-! ## Call 1's windows -/
theorem ix1_0 (t : Fin grid1.N) : win1_0.index t 0 = t.val % 32 ∧ win1_0.index t 1 = t.val / 32 := by
  revert t; decide +kernel
theorem read1_0 (x : ℕ → ℕ → ℝ) (t : Fin (cfg1 (F := Ideal)).N) :
    (((cfg1 (F := Ideal)).win 0).blk t).view.read (Elt Ideal) (upA (φ := .bf16) x : Vec Ideal S8192x1024 .bf16) = (up (φ := .bf16) (sh (t.val % 32) (grp (t.val / 32) x)) : Vec Ideal S256x256 .bf16) :=
  up_at x (ix1_0 t) (((cfg1 (F := Ideal)).win 0).blk t).view.emb (fun _ => rfl) fun _ => rfl
theorem ix1_1 (t : Fin grid1.N) : win1_1.index t 0 = 0 ∧ win1_1.index t 1 = t.val / 32 := by
  revert t; decide +kernel
theorem read1_1 (x : ℕ → ℕ → ℝ) (t : Fin (cfg1 (F := Ideal)).N) :
    (((cfg1 (F := Ideal)).win 1).blk t).view.read (Elt Ideal) (upA (φ := .bf16) x : Vec Ideal S8192x1024 .bf16) = (upL (φ := .bf16) (grp (t.val / 32) x) : Vec Ideal S8192x256 .bf16) :=
  upL_at x (ix1_1 t) (((cfg1 (F := Ideal)).win 1).blk t).view.emb (fun _ => rfl) fun _ => rfl
theorem ix1_2 (t : Fin grid1.N) : win1_2.index t 0 = 0 ∧ win1_2.index t 1 = t.val / 32 := by
  revert t; decide +kernel
theorem read1_2 (x : ℕ → ℕ → ℝ) (t : Fin (cfg1 (F := Ideal)).N) :
    (((cfg1 (F := Ideal)).win 2).blk t).view.read (Elt Ideal) (upA (φ := .bf16) x : Vec Ideal S8192x1024 .bf16) = (upL (φ := .bf16) (grp (t.val / 32) x) : Vec Ideal S8192x256 .bf16) :=
  upL_at x (ix1_2 t) (((cfg1 (F := Ideal)).win 2).blk t).view.emb (fun _ => rfl) fun _ => rfl
theorem ix1_3 (t : Fin grid1.N) : win1_3.index t 0 = t.val % 32 ∧ win1_3.index t 1 = t.val / 32 := by
  revert t; decide +kernel
theorem read1_3 (x : ℕ → ℕ → ℝ) (t : Fin (cfg1 (F := Ideal)).N) :
    (((cfg1 (F := Ideal)).win 3).blk t).view.read (Elt Ideal) (upA (φ := .f32) x : Vec Ideal S8192x1024 .f32) = (up (φ := .f32) (sh (t.val % 32) (grp (t.val / 32) x)) : Vec Ideal S256x256 .f32) :=
  up_at x (ix1_3 t) (((cfg1 (F := Ideal)).win 3).blk t).view.emb (fun _ => rfl) fun _ => rfl
theorem ix1_4 (t : Fin grid1.N) : win1_4.index t 0 = t.val % 32 ∧ win1_4.index t 1 = t.val / 32 := by
  revert t; decide +kernel
theorem read1_4 (x : ℕ → ℕ → ℝ) (t : Fin (cfg1 (F := Ideal)).N) :
    (((cfg1 (F := Ideal)).win 4).blk t).view.read (Elt Ideal) (upA (φ := .f32) x : Vec Ideal S8192x1024 .f32) = (up (φ := .f32) (sh (t.val % 32) (grp (t.val / 32) x)) : Vec Ideal S256x256 .f32) :=
  up_at x (ix1_4 t) (((cfg1 (F := Ideal)).win 4).blk t).view.emb (fun _ => rfl) fun _ => rfl
theorem ix1_5 (t : Fin grid1.N) : win1_5.index t 0 = t.val % 32 ∧ win1_5.index t 1 = t.val / 32 := by
  revert t; decide +kernel
theorem read1_5 (x : ℕ → ℕ → ℝ) (t : Fin (cfg1 (F := Ideal)).N) :
    (((cfg1 (F := Ideal)).win 5).blk t).view.read (Elt Ideal) (upA (φ := .f32) x : Vec Ideal S8192x1024 .f32) = (up (φ := .f32) (sh (t.val % 32) (grp (t.val / 32) x)) : Vec Ideal S256x256 .f32) :=
  up_at x (ix1_5 t) (((cfg1 (F := Ideal)).win 5).blk t).view.emb (fun _ => rfl) fun _ => rfl
theorem ix1_6 (t : Fin grid1.N) : win1_6.index t 0 = t.val % 32 ∧ win1_6.index t 1 = t.val / 32 := by
  revert t; decide +kernel
theorem read1_6 (x : ℕ → ℕ → ℝ) (t : Fin (cfg1 (F := Ideal)).N) :
    (((cfg1 (F := Ideal)).win 6).blk t).view.read (Elt Ideal) (upA (φ := .f32) x : Vec Ideal S8192x1024 .f32) = (up (φ := .f32) (sh (t.val % 32) (grp (t.val / 32) x)) : Vec Ideal S256x256 .f32) :=
  up_at x (ix1_6 t) (((cfg1 (F := Ideal)).win 6).blk t).view.emb (fun _ => rfl) fun _ => rfl
theorem ix1_7 (t : Fin grid1.N) : win1_7.index t 0 = 0 ∧ win1_7.index t 1 = t.val / 32 := by
  revert t; decide +kernel
theorem read1_7 (x : ℕ → ℕ → ℝ) (t : Fin (cfg1 (F := Ideal)).N) :
    (((cfg1 (F := Ideal)).win 7).blk t).view.read (Elt Ideal) (upA (φ := .f32) x : Vec Ideal S8192x1024 .f32) = (upL (φ := .f32) (grp (t.val / 32) x) : Vec Ideal S8192x256 .f32) :=
  upL_at x (ix1_7 t) (((cfg1 (F := Ideal)).win 7).blk t).view.emb (fun _ => rfl) fun _ => rfl
theorem ix1_8 (t : Fin grid1.N) : win1_8.index t 0 = 0 ∧ win1_8.index t 1 = t.val / 32 := by
  revert t; decide +kernel
theorem read1_8 (x : ℕ → ℕ → ℝ) (t : Fin (cfg1 (F := Ideal)).N) :
    (((cfg1 (F := Ideal)).win 8).blk t).view.read (Elt Ideal) (upA (φ := .f32) x : Vec Ideal S8192x1024 .f32) = (upL (φ := .f32) (grp (t.val / 32) x) : Vec Ideal S8192x256 .f32) :=
  upL_at x (ix1_8 t) (((cfg1 (F := Ideal)).win 8).blk t).view.emb (fun _ => rfl) fun _ => rfl

section Values

variable (V : (c : Dev nD) → (b : Ref sig .tc) → Buf (Elt Ideal) ((c : Thread nD τ).loc b)) (c : Dev nD) (Q K X D : ℕ → ℕ → ℝ)
variable (hQ : (V c main_v0 : Vec Ideal S8192x1024 .bf16) = upA (φ := .bf16) Q) (hK : (V c main_v1 : Vec Ideal S8192x1024 .bf16) = upA (φ := .bf16) K)
variable (hV : (V c main_v2 : Vec Ideal S8192x1024 .bf16) = upA (φ := .bf16) X)

theorem clr_zero (x : ℕ → ℕ → ℝ) (X : ℕ → ℕ → ℕ → ℝ) : clr (F := Ideal) 0 (k1_pay6 (F := Ideal)) (upL (φ := .f32) x) = upL (φ := .f32) (preR X 0) := by
  unfold clr
  rw [if_pos rfl]
  funext i
  show Ideal.ofBits .f32 0x00000000#32 = ((preR X 0 (i 0).val (i 1).val : ℝ) : EReal)
  unfold preR
  rw [Ideal.ofBits_zero_f32]
  simp

theorem up_sh_ung {φ : FTy} (i h : ℕ) (x : ℕ → ℕ → ℕ → ℝ) : up (φ := φ) (sh i (grp h (ung x))) = up (sh i (x h)) :=
  up_congr fun a _ b hb => grp_ung h x _ b hb
theorem upL_ung {φ : FTy} (h : ℕ) (x : ℕ → ℕ → ℕ → ℝ) : upL (φ := φ) (grp h (ung x)) = upL (x h) :=
  upL_congr fun a _ b hb => grp_ung h x _ b hb

section First
include hQ hK hV

theorem leaves0_eq (t : Fin (cfg0 (F := Ideal)).N) : leaves0 V c t =
    fEnd (t.val % 32) (up (φ := .bf16) (sh (t.val % 32) (grp (t.val / 32) Q))) (upL (φ := .bf16) (grp (t.val / 32) K)) (upL (φ := .bf16) (grp (t.val / 32) X)) := by
  have e0 : iblk0 V c 0 t = _ := (congrArg _ hQ).trans (read0_0 Q t)
  have e1 : iblk0 V c 1 t = _ := (congrArg _ hK).trans (read0_1 K t)
  have e2 : iblk0 V c 2 t = _ := (congrArg _ hV).trans (read0_2 X t)
  unfold leaves0
  rw [e0, e1, e2]

/-- The forward call's output. -/
theorem final0_3 : (dat0 V c).arrAt 3 (cfg0 (F := Ideal)).N = (upA (φ := .f32) (ung (oAll Q K X)) : Vec Ideal S8192x1024 .f32) := by
  refine (dat0 V c).arrAt_eq_of_cover 3 (upA (φ := .f32) (ung (oAll Q K X)) : Vec Ideal S8192x1024 .f32) (fun t _ => ?_) ((by decide +kernel : ((cfg0 (F := Ideal)).win 3).Covers).cover _ (Memref.isWhole_whole _))
  rw [read0_3]
  show ((cfg0 (F := Ideal)).win 3).cut (grid0.coords t) ((dat0 V c).after 3 t) = _
  rw [after0_3, leaves0_eq V c Q K X hQ hK hV, fOut0_up _ _ _ _ (Nat.mod_lt _ (by decide)), up_sh_ung]
  rfl
/-- Its second output, nought. -/
theorem final0_4 : (dat0 V c).arrAt 4 (cfg0 (F := Ideal)).N = (upA (φ := .f32) (fun _ _ => 0) : Vec Ideal S8192x1024 .f32) := by
  refine (dat0 V c).arrAt_eq_of_cover 4 (upA (φ := .f32) (fun _ _ => 0) : Vec Ideal S8192x1024 .f32) (fun t _ => ?_) ((by decide +kernel : ((cfg0 (F := Ideal)).win 4).Covers).cover _ (Memref.isWhole_whole _))
  rw [read0_4]
  show ((cfg0 (F := Ideal)).win 4).cut (grid0.coords t) ((dat0 V c).after 4 t) = _
  rw [after0_4, leaves0_eq V c Q K X hQ hK hV, fOut1_up _ _ _ _ (Nat.mod_lt _ (by decide))]
  rfl
end First

variable (hO : (V c main_v3_0 : Vec Ideal S8192x1024 .f32) = upA (φ := .f32) (ung (oAll Q K X))) (hL : (V c main_v3_1 : Vec Ideal S8192x1024 .f32) = upA (φ := .f32) (fun _ _ => 0))
variable (hD : (V c main_arg3 : Vec Ideal S8192x1024 .f32) = upA (φ := .f32) D)

section Second
include hQ hK hV hO hL hD

theorem leaves1_eq (t : Fin (cfg1 (F := Ideal)).N) (A B : ℕ → ℕ → ℝ)
    (hA : clr (F := Ideal) (t.val % 32) (k1_pay6 (F := Ideal)) (upL (φ := .f32) A) = upL (φ := .f32) (preR (kAdd (grp (t.val / 32) Q) (grp (t.val / 32) K) (grp (t.val / 32) X) (grp (t.val / 32) D) (oAll Q K X (t.val / 32))) (t.val % 32)))
    (hB : clr (F := Ideal) (t.val % 32) (k1_pay7 (F := Ideal)) (upL (φ := .f32) B) = upL (φ := .f32) (preR (vAdd (grp (t.val / 32) Q) (grp (t.val / 32) K) (grp (t.val / 32) D)) (t.val % 32))) :
    leaves1 V c t (upL (φ := .f32) A) (upL (φ := .f32) B) = bAll (grp (t.val / 32) Q) (grp (t.val / 32) K) (grp (t.val / 32) X) (grp (t.val / 32) D) (oAll Q K X (t.val / 32)) (t.val % 32) := by
  have e0 : iblk1 V c 0 t = _ := (congrArg _ hQ).trans (read1_0 Q t)
  have e1 : iblk1 V c 1 t = _ := (congrArg _ hK).trans (read1_1 K t)
  have e2 : iblk1 V c 2 t = _ := (congrArg _ hV).trans (read1_2 X t)
  have e3 : iblk1 V c 3 t = _ := ((congrArg _ hO).trans (read1_3 _ t)).trans (up_sh_ung _ _ _)
  have e4 : iblk1 V c 4 t = _ := (congrArg _ hL).trans (read1_4 _ t)
  have e5 : iblk1 V c 5 t = _ := (congrArg _ hD).trans (read1_5 D t)
  unfold leaves1
  rw [e0, e1, e2, e3, e4, e5, hA, hB]
  rfl

/-- After head group `h`'s row block `i`: the rows so far. -/
theorem outs1_eq : ∀ (n : ℕ) (hn : n < (cfg1 (F := Ideal)).N), outs1 V c n hn =
    bAll (grp (n / 32) Q) (grp (n / 32) K) (grp (n / 32) X) (grp (n / 32) D) (oAll Q K X (n / 32)) (n % 32)
  | 0, hn => by
    rw [outs1_first V c ⟨0, hn⟩ rfl (upL (φ := .f32) fun _ _ => 0) (upL (φ := .f32) fun _ _ => 0)]
    exact leaves1_eq V c Q K X D hQ hK hV hO hL hD ⟨0, hn⟩ _ _ (clr_zero _ _) (clr_zero _ _)
  | n + 1, hn => by
    by_cases h : (n + 1) % 32 = 0
    · rw [outs1_first V c ⟨n + 1, hn⟩ h (upL (φ := .f32) fun _ _ => 0) (upL (φ := .f32) fun _ _ => 0)]
      refine leaves1_eq V c Q K X D hQ hK hV hO hL hD ⟨n + 1, hn⟩ _ _ ?_ ?_
      · show clr (F := Ideal) ((n + 1) % 32) _ _ = upL (preR _ ((n + 1) % 32)); rw [h]; exact clr_zero _ _
      · show clr (F := Ideal) ((n + 1) % 32) _ _ = upL (preR _ ((n + 1) % 32)); rw [h]; exact clr_zero _ _
    · have e := outs1_next V c ⟨n + 1, hn⟩ h
      have ih := outs1_eq n (Nat.lt_of_succ_lt hn)
      have b := bAll_inv (grp (n / 32) Q) (grp (n / 32) K) (grp (n / 32) X) (grp (n / 32) D) (oAll Q K X (n / 32)) (n % 32) (Nat.mod_lt _ (by decide))
      have hd : (n + 1) / 32 = n / 32 := by omega
      have hm : (n + 1) % 32 = n % 32 + 1 := by omega
      refine e.trans ?_
      show leaves1 V c ⟨n + 1, hn⟩ (outs1 V c n _).2.1 (outs1 V c n _).2.2 = _
      rw [ih, b.2.1, b.2.2]
      refine leaves1_eq V c Q K X D hQ hK hV hO hL hD ⟨n + 1, hn⟩ _ _ ?_ ?_
      · show clr (F := Ideal) ((n + 1) % 32) _ _ = upL (preR (kAdd (grp ((n + 1) / 32) Q) (grp ((n + 1) / 32) K) (grp ((n + 1) / 32) X) (grp ((n + 1) / 32) D) (oAll Q K X ((n + 1) / 32))) ((n + 1) % 32))
        rw [hd, hm]; exact if_neg (by omega)
      · show clr (F := Ideal) ((n + 1) % 32) _ _ = upL (preR (vAdd (grp ((n + 1) / 32) Q) (grp ((n + 1) / 32) K) (grp ((n + 1) / 32) D)) ((n + 1) % 32))
        rw [hd, hm]; exact if_neg (by omega)

/-- The queries' gradient. -/
theorem final1_6 : (dat1 V c).arrAt 6 (cfg1 (F := Ideal)).N = (upA (φ := .f32) (ung (dqAll Q K X D)) : Vec Ideal S8192x1024 .f32) := by
  refine (dat1 V c).arrAt_eq_of_cover 6 (upA (φ := .f32) (ung (dqAll Q K X D)) : Vec Ideal S8192x1024 .f32) (fun t _ => ?_) ((by decide +kernel : ((cfg1 (F := Ideal)).win 6).Covers).cover _ (Memref.isWhole_whole _))
  rw [read1_6]
  show ((cfg1 (F := Ideal)).win 6).cut (grid1.coords t) ((dat1 V c).after 6 t) = _
  rw [after1_6, outs1_eq V c Q K X D hQ hK hV hO hL hD, bOut0_up _ _ _ _ _ _ (Nat.mod_lt _ (by decide)), up_sh_ung]
  rfl
/-- The keys' gradient. -/
theorem final1_7 : (dat1 V c).arrAt 7 (cfg1 (F := Ideal)).N = (upA (φ := .f32) (ung (dkAll Q K X D)) : Vec Ideal S8192x1024 .f32) := by
  refine (dat1 V c).arrAt_eq_of_cover 7 (upA (φ := .f32) (ung (dkAll Q K X D)) : Vec Ideal S8192x1024 .f32) (fun t hf => ?_) ((by decide +kernel : ((cfg1 (F := Ideal)).win 7).Covers).cover _ (Memref.isWhole_whole _))
  have h := (flush1_7 t).mp hf
  rw [read1_7]
  show ((cfg1 (F := Ideal)).win 7).cut (grid1.coords t) ((dat1 V c).after 7 t) = _
  rw [after1_7, outs1_eq V c Q K X D hQ hK hV hO hL hD, (bAll_inv _ _ _ _ _ _ (Nat.mod_lt _ (by decide))).2.1, upL_ung, h]
  rfl
/-- The values' gradient. -/
theorem final1_8 : (dat1 V c).arrAt 8 (cfg1 (F := Ideal)).N = (upA (φ := .f32) (ung (dvAll Q K D)) : Vec Ideal S8192x1024 .f32) := by
  refine (dat1 V c).arrAt_eq_of_cover 8 (upA (φ := .f32) (ung (dvAll Q K D)) : Vec Ideal S8192x1024 .f32) (fun t hf => ?_) ((by decide +kernel : ((cfg1 (F := Ideal)).win 8).Covers).cover _ (Memref.isWhole_whole _))
  have h := (flush1_8 t).mp hf
  rw [read1_8]
  show ((cfg1 (F := Ideal)).win 8).cut (grid1.coords t) ((dat1 V c).after 8 t) = _
  rw [after1_8, outs1_eq V c Q K X D hQ hK hV hO hL hD, (bAll_inv _ _ _ _ _ _ (Nat.mod_lt _ (by decide))).2.2, upL_ung, h]
  rfl
end Second
end Values

end Cert.Kernel5Ideal.Attn
-- ==== Proof.AttnRef.lean ====
/-
  The reference's gradient of the attention, its arguments real numbers: every operation of the derivative read as the real
  formula it is.
-/
module

public import proofs.«01_k».proof.Proof.Sums
public import proofs.«01_k».proof.Proof.Gen.Reference5Ideal.Run

@[expose] public section

set_option maxRecDepth 16384

noncomputable section

namespace Cert.Reference5Ideal.Attn

open Cert.Reference5Ideal Gen
open Idealize.ShloMosaic TcCoe

/-- Real numbers by row and column. -/
def upA (x : ℕ → ℕ → ℝ) : Vec Ideal S8192x1024 .f32 := fun y => ((x (y 0).val (y 1).val : ℝ) : EReal)
/-- Real numbers by head, row and lane. -/
def upH (x : ℕ → ℕ → ℕ → ℝ) : FVec Ideal S16x8192x64 .f32 := fun y => ((x (y 0).val (y 1).val (y 2).val : ℝ) : EReal)
/-- Real numbers by head, row and column. -/
def up3 (x : ℕ → ℕ → ℕ → ℝ) : FVec Ideal S16x8192x8192 .f32 := fun y => ((x (y 0).val (y 1).val (y 2).val : ℝ) : EReal)
/-- Real numbers by head, lane and row. -/
def upT (x : ℕ → ℕ → ℕ → ℝ) : FVec Ideal S16x64x8192 .f32 := fun y => ((x (y 0).val (y 1).val (y 2).val : ℝ) : EReal)

theorem coe_sum' {ι : Type} (s : Finset ι) (f : ι → ℝ) : ((∑ k ∈ s, f k : ℝ) : EReal) = ∑ k ∈ s, (f k : EReal) := by
  induction s using Finset.cons_induction with
  | empty => simp
  | cons a s ha ih => rw [Finset.sum_cons, Finset.sum_cons, EReal.coe_add, ih]
theorem coe_sum {n : ℕ} (f : ℕ → ℝ) : ∑ k : Fin n, ((f k.val : ℝ) : EReal) = ((∑ k ∈ Finset.range n, f k : ℝ) : EReal) := by
  rw [coe_sum', Finset.sum_range]

/-! ## Layout -/

theorem split_up (x : ℕ → ℕ → ℝ) : (transpose S16x8192x64 [1, 0, 2] (shapeCast S8192x16x64 (upA x) shapeCasts_S8192x1024_S8192x16x64) transposes_S8192x16x64_S16x8192x64_1_0_2 : FVec Ideal S16x8192x64 .f32)
    = upH fun h s d => x s (64 * h + d) := by
  funext i
  idx_vars i
  pointwise
  show ((x i1.val (i0.val * 64 + i2.val) : ℝ) : EReal) = ((x i1.val (64 * i0.val + i2.val) : ℝ) : EReal)
  rw [Nat.mul_comm]
theorem join_up (x : ℕ → ℕ → ℕ → ℝ) : shapeCast S8192x1024 (transpose S8192x16x64 [1, 0, 2] (upH x) transposes_S16x8192x64_S8192x16x64_1_0_2) shapeCasts_S8192x16x64_S8192x1024
    = upA fun s e => x (e / 64) s (e % 64) := by
  funext i
  idx_vars i
  pointwise
  rfl
theorem flip_up (x : ℕ → ℕ → ℕ → ℝ) : (transpose S16x8192x64 [0, 2, 1] (upT x) transposes_S16x64x8192_S16x8192x64_0_2_1 : FVec Ideal S16x8192x64 .f32) = upH fun h s d => x h d s := by
  funext i
  idx_vars i
  pointwise
  rfl

/-! ## Products -/

theorem dotA_up (x y : ℕ → ℕ → ℕ → ℝ) : Host.dotGeneral (F := Ideal) dot_S16x8192x64_S16x8192x64_S16x8192x8192_2_2_1_1_0_0 none (upH x) (upH y)
    = up3 fun h s t => ∑ d ∈ Finset.range 64, x h s d * y h t d := by
  funext i
  idx_vars i
  pointwise
  refine Eq.trans ?_ (coe_sum (n := 64) fun d => x i0.val i1.val d * y i0.val i2.val d)
  exact Finset.sum_congr rfl fun k _ => (EReal.coe_mul _ _).symm
theorem dotB_up (x y : ℕ → ℕ → ℕ → ℝ) : Host.dotGeneral (F := Ideal) dot_S16x8192x8192_S16x8192x64_S16x8192x64_2_1_1_2_0_0 none (up3 x) (upH y)
    = upH fun h s d => ∑ t ∈ Finset.range 8192, x h s t * y h t d := by
  funext i
  idx_vars i
  pointwise
  refine Eq.trans ?_ (coe_sum (n := 8192) fun t => x i0.val i1.val t * y i0.val t i2.val)
  exact Finset.sum_congr rfl fun k _ => (EReal.coe_mul _ _).symm
theorem dotC_up (x y : ℕ → ℕ → ℕ → ℝ) : Host.dotGeneral (F := Ideal) dot_S16x8192x8192_S16x8192x64_S16x8192x64_1_1_2_2_0_0 none (up3 x) (upH y)
    = upH fun h t d => ∑ s ∈ Finset.range 8192, x h s t * y h s d := by
  funext i
  idx_vars i
  pointwise
  refine Eq.trans ?_ (coe_sum (n := 8192) fun s => x i0.val s i1.val * y i0.val s i2.val)
  exact Finset.sum_congr rfl fun k _ => (EReal.coe_mul _ _).symm
theorem dotD_up (x y : ℕ → ℕ → ℕ → ℝ) : Host.dotGeneral (F := Ideal) dot_S16x8192x64_S16x8192x8192_S16x64x8192_1_1_2_2_0_0 none (upH x) (up3 y)
    = upT fun h d t => ∑ s ∈ Finset.range 8192, x h s d * y h s t := by
  funext i
  idx_vars i
  pointwise
  refine Eq.trans ?_ (coe_sum (n := 8192) fun s => x i0.val s i1.val * y i0.val s i2.val)
  exact Finset.sum_congr rfl fun k _ => (EReal.coe_mul _ _).symm

/-! ## Operations at an entry -/

theorem eighth_up : broadcastInDim S16x8192x8192 ![] bcast_S_S16x8192x8192 (constant (F := Ideal) S_ .f32 0x3E000000#32) = up3 fun _ _ _ => 1 / 8 := by
  funext i
  show Ideal.ofBits .f32 0x3E000000#32 = _
  rw [Sums.c_eighth]; rfl
theorem zero_up : broadcastInDim S16x8192x8192 ![] bcast_S_S16x8192x8192 (constant (F := Ideal) S_ .f32 0x00000000#32) = up3 fun _ _ _ => 0 := by
  funext i
  show Ideal.ofBits .f32 0x00000000#32 = _
  rw [Ideal.ofBits_zero_f32]; rfl
theorem add_up (x y : ℕ → ℕ → ℕ → ℝ) : addf (F := Ideal) (s := S16x8192x8192) (φ := .f32) (up3 x) (up3 y) = up3 fun h s t => x h s t + y h s t := rfl
theorem mul_up (x y : ℕ → ℕ → ℕ → ℝ) : mulf (F := Ideal) (s := S16x8192x8192) (φ := .f32) (up3 x) (up3 y) = up3 fun h s t => x h s t * y h s t := rfl
theorem sub_up (x y : ℕ → ℕ → ℕ → ℝ) : subf (F := Ideal) (s := S16x8192x8192) (φ := .f32) (up3 x) (up3 y) = up3 fun h s t => x h s t - y h s t := rfl
theorem neg_up (x : ℕ → ℕ → ℕ → ℝ) : Host.negf (F := Ideal) (s := S16x8192x8192) (φ := .f32) (up3 x) = up3 fun h s t => -x h s t := rfl
theorem exp_up (x : ℕ → ℕ → ℕ → ℝ) : Host.exp (F := Ideal) (s := S16x8192x8192) (φ := .f32) (up3 x) = up3 fun h s t => Real.exp (x h s t) := rfl
theorem abs_up (x : ℕ → ℕ → ℕ → ℝ) : Host.absf (F := Ideal) (s := S16x8192x8192) (φ := .f32) (up3 x) = up3 fun h s t => |x h s t| := by
  funext i
  show max ((_ : ℝ) : EReal) (-((_ : ℝ) : EReal)) = _
  rw [← EReal.coe_neg, ← EReal.coe_strictMono.monotone.map_max]; rfl
theorem max_up (x y : ℕ → ℕ → ℕ → ℝ) : maximumf (F := Ideal) (s := S16x8192x8192) (φ := .f32) (up3 x) (up3 y) = up3 fun h s t => max (x h s t) (y h s t) :=
  funext fun _ => (EReal.coe_strictMono.monotone.map_max).symm
theorem log1p_up (x : ℕ → ℕ → ℕ → ℝ) : Host.log1p (F := Ideal) (s := S16x8192x8192) (φ := .f32) (up3 fun h s t => Real.exp (x h s t)) = up3 fun h s t => Real.log (1 + Real.exp (x h s t)) := by
  funext i
  show Ideal.log (1 + ((Real.exp _ : ℝ) : EReal)) = ((Real.log (1 + Real.exp _) : ℝ) : EReal)
  rw [show (1 : EReal) = ((1 : ℝ) : EReal) from rfl, ← EReal.coe_add, Ideal.log_coe, if_neg (not_le.mpr (by positivity))]
theorem nan_up (x : ℕ → ℕ → ℕ → ℝ) (a b : FVec Ideal S16x8192x8192 .f32) : select (cmpf (F := Ideal) (s := S16x8192x8192) (φ := .f32) .une (up3 x) (up3 x)) a b = b := by
  funext i
  show (if Ideal.cmp .une (up3 x i) (up3 x i) = 1#1 then a i else b i) = b i
  rw [if_neg]
  show ¬BitVec.ofBool (decide (up3 x i ≠ up3 x i)) = 1#1
  simp
theorem inf_up (x : ℕ → ℕ → ℕ → ℝ) (a b : FVec Ideal S16x8192x8192 .f32) : select (cmpf (F := Ideal) (s := S16x8192x8192) (φ := .f32) .oeq (up3 x)
    (broadcastInDim S16x8192x8192 ![] bcast_S_S16x8192x8192 (constant (F := Ideal) S_ .f32 0x7F800000#32))) a b = b := by
  funext i
  show (if Ideal.cmp .oeq (up3 x i) (Ideal.ofBits .f32 0x7F800000#32) = 1#1 then a i else b i) = b i
  rw [Sums.c_inf, if_neg]
  show ¬BitVec.ofBool (decide (((x (i 0).val (i 1).val (i 2).val : ℝ) : EReal) = ⊤)) = 1#1
  simp
/-- The mask: the columns before the row. -/
abbrev mask : IVec S16x8192x8192 1 := broadcastInDim S16x8192x8192 ![1, 2] bcast_S8192x8192_S16x8192x8192_1_2 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))
theorem mask_up (x y : ℕ → ℕ → ℕ → ℝ) : select mask (up3 x) (up3 y) = up3 fun h s t => if t < s then x h s t else y h s t := by
  funext i
  idx_vars i
  show (if IntOp.cmpi .slt (BitVec.ofNat 32 i2.val) (BitVec.ofNat 32 i1.val) = 1#1 then ((x i0 i1 i2 : ℝ) : EReal) else ((y i0 i1 i2 : ℝ) : EReal)) = (((if i2.val < i1.val then x i0 i1 i2 else y i0 i1 i2 : ℝ)) : EReal)
  have h1 := i1.isLt
  have h2 := i2.isLt
  have e : ∀ n, n < 8192 → (BitVec.ofNat 32 n).toInt = n := fun n hn => by
    rw [BitVec.toInt_eq_toNat_of_lt (by rw [BitVec.toNat_ofNat, Nat.mod_eq_of_lt (by omega)]; omega), BitVec.toNat_ofNat, Nat.mod_eq_of_lt (by omega)]
  rw [show IntOp.cmpi .slt (BitVec.ofNat 32 i2.val) (BitVec.ofNat 32 i1.val) = BitVec.ofBool (decide ((BitVec.ofNat 32 i2.val).toInt < (BitVec.ofNat 32 i1.val).toInt)) from rfl, e _ h1, e _ h2]
  by_cases h : i2.val < i1.val <;> simp [h]

/-! ## Running sums -/

theorem foldl_sum {n : ℕ} (f : Fin n → EReal) (v : EReal) : (List.finRange n).foldl (fun r k => r + f k) v = v + ∑ k, f k := by
  rw [Fin.sum_univ_def]
  generalize List.finRange n = l
  induction l generalizing v with
  | nil => simp
  | cons a l ih => rw [List.foldl_cons, ih, List.map_cons, List.sum_cons, add_assoc]

/-- A running sum from nought: the sum over the window of what lies inside. -/
theorem win_sum {s t u : Shape} (w st lo hi : Fin s.rank → ℕ) (x : FVec Ideal s .f32) (h : s.ReduceWindows w st lo hi t) (hu : 0 < u.numel) (j : t.Idx) :
    Host.reduceWindowAdd (F := Ideal) (φ := .f32) w st lo hi x (fun _ : u.Idx => (0 : EReal)) h hu j
      = ∑ p : (⟨s.rank, w⟩ : Shape).Idx, (if hin : ∀ a, lo a ≤ (j (a.cast h.1.symm)).val * st a + (p a).val ∧ (j (a.cast h.1.symm)).val * st a + (p a).val - lo a < s.size a
          then x (fun a => ⟨(j (a.cast h.1.symm)).val * st a + (p a).val - lo a, (hin a).2⟩) else (0 : EReal)) := by
  rw [← Equiv.sum_comp (⟨s.rank, w⟩ : Shape).rowMajor.symm]
  refine (foldl_sum _ 0).trans ?_
  rw [zero_add]
  exact Finset.sum_congr rfl fun k _ => dite_congr rfl (fun _ => rfl) fun _ => rfl
theorem sum_w (f : (⟨3, ![1, 1, 8192]⟩ : Shape).Idx → EReal) : ∑ p, f p = ∑ k : Fin 8192, f (ix3 0 0 k) := by
  refine (Fintype.sum_bijective (fun k : Fin 8192 => (ix3 0 0 k : (⟨3, ![1, 1, 8192]⟩ : Shape).Idx)) ⟨fun a b h => ?_, fun i => ⟨i 2, ?_⟩⟩ _ _ fun k => rfl).symm
  · exact congrFun h 2
  · funext a
    match a with
    | ⟨0, _⟩ => exact Subsingleton.elim (α := Fin 1) _ _
    | ⟨1, _⟩ => exact Subsingleton.elim (α := Fin 1) _ _
    | ⟨2, _⟩ => rfl

theorem bcs : (broadcastInDim S_ ![] bcast_S_S_ (constant (F := Ideal) S_ .f32 0x00000000#32) : FVec Ideal S_ .f32) = fun _ => 0 := by
  funext i
  exact Ideal.ofBits_zero_f32

theorem tail_up (x : ℕ → ℕ → ℕ → ℝ) : Host.reduceWindowAdd (F := Ideal) (φ := .f32) ![1, 1, 8192] ![1, 1, 1] ![0, 0, 0] ![0, 0, 8191] (up3 x)
    (broadcastInDim S_ ![] bcast_S_S_ (constant (F := Ideal) S_ .f32 0x00000000#32)) reduceWindows_S16x8192x8192_S16x8192x8192_w1s1p0_0_w1s1p0_0_w8192s1p0_8191 h_S_
    = up3 fun h s t => ∑ u ∈ Finset.Ico t 8192, x h s u := by
  rw [bcs]
  funext i
  idx_vars i
  have h0 := i0.isLt
  have h1 := i1.isLt
  have h2 := i2.isLt
  refine (win_sum _ _ _ _ _ _ _ _).trans ?_
  refine (sum_w _).trans ?_
  refine Eq.trans ?_ (b := ∑ k : Fin 8192, (((if i2.val + k.val < 8192 then x i0.val i1.val (i2.val + k.val) else 0 : ℝ)) : EReal)) ?_
  · refine Finset.sum_congr rfl fun k _ => ?_
    have hk := k.isLt
    by_cases hc : i2.val + k.val < 8192
    · rw [dif_pos (fun a => ?_), if_pos hc]
      · show ((x (i0.val * 1 + 0 - 0) (i1.val * 1 + 0 - 0) (i2.val * 1 + k.val - 0) : ℝ) : EReal) = _
        simp only [Nat.mul_one, Nat.add_zero, Nat.sub_zero]
      · match a with
        | ⟨0, _⟩ => show 0 ≤ i0.val * 1 + 0 ∧ i0.val * 1 + 0 - 0 < 16; omega
        | ⟨1, _⟩ => show 0 ≤ i1.val * 1 + 0 ∧ i1.val * 1 + 0 - 0 < 8192; omega
        | ⟨2, _⟩ => show 0 ≤ i2.val * 1 + k.val ∧ i2.val * 1 + k.val - 0 < 8192; omega
    · rw [dif_neg (fun h => hc ?_), if_neg hc]
      · rfl
      · have h' : 0 ≤ i2.val * 1 + k.val ∧ i2.val * 1 + k.val - 0 < 8192 := h (2 : Fin 3)
        omega
  · rw [coe_sum (n := 8192) fun k => if i2.val + k < 8192 then x i0.val i1.val (i2.val + k) else 0]
    show _ = ((∑ u ∈ Finset.Ico i2.val 8192, x i0.val i1.val u : ℝ) : EReal)
    congr 1
    rw [Finset.sum_ite, Finset.sum_const_zero, add_zero, Finset.sum_Ico_eq_sum_range]
    refine Finset.sum_congr ?_ fun _ _ => rfl
    ext k
    simp only [Finset.mem_filter, Finset.mem_range]
    omega
theorem head_up (x : ℕ → ℕ → ℕ → ℝ) : Host.reduceWindowAdd (F := Ideal) (φ := .f32) ![1, 1, 8192] ![1, 1, 1] ![0, 0, 8191] ![0, 0, 0] (up3 x)
    (broadcastInDim S_ ![] bcast_S_S_ (constant (F := Ideal) S_ .f32 0x00000000#32)) reduceWindows_S16x8192x8192_S16x8192x8192_w1s1p0_0_w1s1p0_0_w8192s1p8191_0 h_S_
    = up3 fun h s t => ∑ u ∈ Finset.range (t + 1), x h s u := by
  rw [bcs]
  funext i
  idx_vars i
  have h0 := i0.isLt
  have h1 := i1.isLt
  have h2 := i2.isLt
  refine (win_sum _ _ _ _ _ _ _ _).trans ?_
  refine (sum_w _).trans ?_
  refine Eq.trans ?_ (b := ∑ k : Fin 8192, (((if 8191 ≤ i2.val + k.val then x i0.val i1.val (i2.val + k.val - 8191) else 0 : ℝ)) : EReal)) ?_
  · refine Finset.sum_congr rfl fun k _ => ?_
    have hk := k.isLt
    by_cases hc : 8191 ≤ i2.val + k.val
    · rw [dif_pos (fun a => ?_), if_pos hc]
      · show ((x (i0.val * 1 + 0 - 0) (i1.val * 1 + 0 - 0) (i2.val * 1 + k.val - 8191) : ℝ) : EReal) = _
        simp only [Nat.mul_one, Nat.add_zero, Nat.sub_zero]
      · match a with
        | ⟨0, _⟩ => show 0 ≤ i0.val * 1 + 0 ∧ i0.val * 1 + 0 - 0 < 16; omega
        | ⟨1, _⟩ => show 0 ≤ i1.val * 1 + 0 ∧ i1.val * 1 + 0 - 0 < 8192; omega
        | ⟨2, _⟩ => show 8191 ≤ i2.val * 1 + k.val ∧ i2.val * 1 + k.val - 8191 < 8192; omega
    · rw [dif_neg (fun h => hc ?_), if_neg hc]
      · rfl
      · have h' : 8191 ≤ i2.val * 1 + k.val ∧ i2.val * 1 + k.val - 8191 < 8192 := h (2 : Fin 3)
        omega
  · rw [coe_sum (n := 8192) fun k => if 8191 ≤ i2.val + k then x i0.val i1.val (i2.val + k - 8191) else 0]
    show _ = ((∑ u ∈ Finset.range (i2.val + 1), x i0.val i1.val u : ℝ) : EReal)
    congr 1
    rw [Finset.sum_ite, Finset.sum_const_zero, add_zero]
    refine Finset.sum_bij' (fun k _ => i2.val + k - 8191) (fun u _ => u + 8191 - i2.val) ?_ ?_ ?_ ?_ fun _ _ => rfl
    all_goals intro k hk
    all_goals simp only [Finset.mem_filter, Finset.mem_range] at hk ⊢
    all_goals omega

/-! ## The results -/

abbrev V3 : Type := FVec Ideal S16x8192x8192 .f32
abbrev VA : Type := Vec Ideal S8192x1024 .f32
/-- One number everywhere. -/
def bc (w : BitVec 32) : V3 := broadcastInDim S16x8192x8192 ![] bcast_S_S16x8192x8192 (constant (F := Ideal) S_ .f32 w)
def split (x : VA) : FVec Ideal S16x8192x64 .f32 := transpose S16x8192x64 [1, 0, 2] (shapeCast S8192x16x64 x shapeCasts_S8192x1024_S8192x16x64) transposes_S8192x16x64_S16x8192x64_1_0_2
def join (x : FVec Ideal S16x8192x64 .f32) : VA := shapeCast S8192x1024 (transpose S8192x16x64 [1, 0, 2] x transposes_S16x8192x64_S8192x16x64_1_0_2) shapeCasts_S8192x16x64_S8192x1024
def neg (x : V3) : V3 := Host.negf x
/-- The softplus of the logistic's logarithm, and its derivative. -/
def sp (x : V3) : V3 := select (cmpf .une (subf x (bc 0x00000000#32)) (subf x (bc 0x00000000#32))) (addf x (bc 0x00000000#32))
  (addf (maximumf x (bc 0x00000000#32)) (Host.log1p (Host.exp (Host.negf (Host.absf (subf x (bc 0x00000000#32)))))))
def spd (x : V3) : V3 := Host.exp (subf (select (cmpf .oeq x (bc 0x7F800000#32)) (bc 0x00000000#32) x) (select (cmpf .oeq (sp x) (bc 0x7F800000#32)) (bc 0x00000000#32) (sp x)))
/-- What the columns before a row hold, and nought elsewhere. -/
def only (x : V3) : V3 := select mask x (bc 0x00000000#32)
def onlyI (x : V3) : V3 := select mask x (broadcastInDim S16x8192x8192 ![] bcast_S_S16x8192x8192 (id (constant (F := Ideal) S_ .f32 0x00000000#32)))
def tail (x : V3) : V3 := Host.reduceWindowAdd ![1, 1, 8192] ![1, 1, 1] ![0, 0, 0] ![0, 0, 8191] x
    (broadcastInDim S_ ![] bcast_S_S_ (constant (F := Ideal) S_ .f32 0x00000000#32)) reduceWindows_S16x8192x8192_S16x8192x8192_w1s1p0_0_w1s1p0_0_w8192s1p0_8191 h_S_
def head (x : V3) : V3 := Host.reduceWindowAdd ![1, 1, 8192] ![1, 1, 1] ![0, 0, 8191] ![0, 0, 0] x
    (broadcastInDim S_ ![] bcast_S_S_ (constant (F := Ideal) S_ .f32 0x00000000#32)) reduceWindows_S16x8192x8192_S16x8192x8192_w1s1p0_0_w1s1p0_0_w8192s1p8191_0 h_S_
def scores (q k : VA) : V3 := mulf (Host.dotGeneral dot_S16x8192x64_S16x8192x64_S16x8192x8192_2_2_1_1_0_0 none (split q) (split k)) (bc 0x3E000000#32)
/-- The logarithms that are kept, and the exponential of the scores' with theirs. -/
def keep (z : V3) : V3 := onlyI (neg (sp (neg (neg z))))
def wts (z : V3) : V3 := Host.exp (addf (neg (sp (neg z))) (subf (tail (keep z)) (keep z)))
/-- The weights' gradient times the weights. -/
def gw (z : V3) (d v : VA) : V3 := mulf (only (Host.dotGeneral dot_S16x8192x64_S16x8192x64_S16x8192x8192_2_2_1_1_0_0 none (split d) (split v))) (wts z)
/-- The scores' gradient. -/
def dz (z g : V3) : V3 := mulf (addf (neg (mulf (neg g) (spd (neg z)))) (neg (neg (mulf (neg (only (addf (neg g) (head g)))) (spd (neg (neg z))))))) (bc 0x3E000000#32)

/-! ## The results as real formulas -/

/-- The softplus. -/
def spR (x : ℝ) : ℝ := max x 0 + Real.log (1 + Real.exp (-|x|))
def zH (Q K : ℕ → ℕ → ℝ) (h s t : ℕ) : ℝ := (∑ d ∈ Finset.range 64, Q s (64 * h + d) * K t (64 * h + d)) * (1 / 8)
def kH (z : ℕ → ℕ → ℕ → ℝ) (h s t : ℕ) : ℝ := if t < s then -spR (- -z h s t) else 0
def wH (z : ℕ → ℕ → ℕ → ℝ) (h s t : ℕ) : ℝ := Real.exp (-spR (-z h s t) + (∑ u ∈ Finset.Ico t 8192, kH z h s u - kH z h s t))
def oH (z : ℕ → ℕ → ℕ → ℝ) (h s t : ℕ) : ℝ := if t < s then wH z h s t else 0
def gH (z : ℕ → ℕ → ℕ → ℝ) (D V : ℕ → ℕ → ℝ) (h s t : ℕ) : ℝ := (if t < s then ∑ d ∈ Finset.range 64, D s (64 * h + d) * V t (64 * h + d) else 0) * wH z h s t
def dH (z g : ℕ → ℕ → ℕ → ℝ) (h s t : ℕ) : ℝ :=
  (-(-g h s t * Real.exp (-z h s t - spR (-z h s t))) + - -(-(if t < s then -g h s t + ∑ u ∈ Finset.range (t + 1), g h s u else 0) * Real.exp (- -z h s t - spR (- -z h s t)))) * (1 / 8)

theorem bc_zero : bc 0x00000000#32 = up3 fun _ _ _ => 0 := zero_up
theorem bc_eighth : bc 0x3E000000#32 = up3 fun _ _ _ => 1 / 8 := eighth_up
theorem split_of (x : ℕ → ℕ → ℝ) : split (upA x) = upH fun h s d => x s (64 * h + d) := split_up x
theorem join_of (x : ℕ → ℕ → ℕ → ℝ) : join (upH x) = upA fun s e => x (e / 64) s (e % 64) := join_up x
theorem neg_of (x : ℕ → ℕ → ℕ → ℝ) : neg (up3 x) = up3 fun h s t => -x h s t := neg_up x
theorem sp_of (x : ℕ → ℕ → ℕ → ℝ) : sp (up3 x) = up3 fun h s t => spR (x h s t) := by
  unfold sp
  rw [bc_zero, sub_up, nan_up, max_up, abs_up, neg_up, exp_up, log1p_up, add_up]
  simp only [sub_zero, spR]
theorem spd_of (x : ℕ → ℕ → ℕ → ℝ) : spd (up3 x) = up3 fun h s t => Real.exp (x h s t - spR (x h s t)) := by
  unfold spd bc
  rw [inf_up, sp_of, inf_up, sub_up, exp_up]
theorem only_of (x : ℕ → ℕ → ℕ → ℝ) : only (up3 x) = up3 fun h s t => if t < s then x h s t else 0 := by
  unfold only
  rw [bc_zero, mask_up]
theorem onlyI_of (x : ℕ → ℕ → ℕ → ℝ) : onlyI (up3 x) = up3 fun h s t => if t < s then x h s t else 0 := only_of x
theorem tail_of (x : ℕ → ℕ → ℕ → ℝ) : tail (up3 x) = up3 fun h s t => ∑ u ∈ Finset.Ico t 8192, x h s u := tail_up x
theorem head_of (x : ℕ → ℕ → ℕ → ℝ) : head (up3 x) = up3 fun h s t => ∑ u ∈ Finset.range (t + 1), x h s u := head_up x
theorem scores_of (Q K : ℕ → ℕ → ℝ) : scores (upA Q) (upA K) = up3 (zH Q K) := by
  unfold scores
  rw [split_of, split_of, dotA_up, bc_eighth, mul_up]
  rfl
theorem keep_of (z : ℕ → ℕ → ℕ → ℝ) : keep (up3 z) = up3 (kH z) := by
  unfold keep
  rw [neg_of, neg_of, sp_of, neg_of, onlyI_of]
  rfl
theorem wts_of (z : ℕ → ℕ → ℕ → ℝ) : wts (up3 z) = up3 (wH z) := by
  unfold wts
  rw [neg_of, sp_of, neg_of, keep_of, tail_of, sub_up, add_up, exp_up]
  rfl
theorem gw_of (z : ℕ → ℕ → ℕ → ℝ) (D V : ℕ → ℕ → ℝ) : gw (up3 z) (upA D) (upA V) = up3 (gH z D V) := by
  unfold gw
  rw [split_of, split_of, dotA_up, only_of, wts_of, mul_up]
  rfl
theorem dz_of (z g : ℕ → ℕ → ℕ → ℝ) : dz (up3 z) (up3 g) = up3 (dH z g) := by
  unfold dz
  rw [neg_of, neg_of, neg_of, spd_of, spd_of, head_of, add_up, only_of, mul_up, neg_of, neg_of, mul_up, neg_of, neg_of, add_up, bc_eighth, mul_up]
  rfl

section
variable (m : (ℓ : Loc nD τ sig) → Buf (Elt Ideal) ℓ) (c : Dev nD)

theorem outO_eq : Value.res_main_v27 m c = join (Host.dotGeneral (F := Ideal) (φ₁ := .f32) (φ₂ := .f32) dot_S16x8192x8192_S16x8192x64_S16x8192x64_2_1_1_2_0_0 none
    (onlyI (wts (scores (m ((c.tc : Thread nD τ).loc main_arg0)) (m ((c.tc : Thread nD τ).loc main_arg1))))) (split (m ((c.tc : Thread nD τ).loc main_arg2)))) := by
  unfold Value.res_main_v27 join wts keep onlyI tail sp neg scores split bc
  rfl
theorem out0_eq : Value.res_main_v52 m c = join (Host.dotGeneral (F := Ideal) (φ₁ := .f32) (φ₂ := .f32) dot_S16x8192x8192_S16x8192x64_S16x8192x64_2_1_1_2_0_0 none
    (dz (scores (m ((c.tc : Thread nD τ).loc main_arg0)) (m ((c.tc : Thread nD τ).loc main_arg1))) (gw (scores (m ((c.tc : Thread nD τ).loc main_arg0)) (m ((c.tc : Thread nD τ).loc main_arg1))) (m ((c.tc : Thread nD τ).loc main_arg3)) (m ((c.tc : Thread nD τ).loc main_arg2))))
    (split (m ((c.tc : Thread nD τ).loc main_arg1)))) := by
  unfold Value.res_main_v52 join dz gw wts keep onlyI only tail head spd sp neg scores split bc
  rfl
theorem out1_eq : Value.res_main_v50 m c = join (Host.dotGeneral (F := Ideal) (φ₁ := .f32) (φ₂ := .f32) dot_S16x8192x8192_S16x8192x64_S16x8192x64_1_1_2_2_0_0 none
    (dz (scores (m ((c.tc : Thread nD τ).loc main_arg0)) (m ((c.tc : Thread nD τ).loc main_arg1))) (gw (scores (m ((c.tc : Thread nD τ).loc main_arg0)) (m ((c.tc : Thread nD τ).loc main_arg1))) (m ((c.tc : Thread nD τ).loc main_arg3)) (m ((c.tc : Thread nD τ).loc main_arg2))))
    (split (m ((c.tc : Thread nD τ).loc main_arg0)))) := by
  unfold Value.res_main_v50 join dz gw wts keep onlyI only tail head spd sp neg scores split bc
  rfl
theorem out2_eq : Value.res_main_v48 m c = join (transpose S16x8192x64 [0, 2, 1] (Host.dotGeneral (F := Ideal) (φ₁ := .f32) (φ₂ := .f32) dot_S16x8192x64_S16x8192x8192_S16x64x8192_1_1_2_2_0_0 none
    (split (m ((c.tc : Thread nD τ).loc main_arg3))) (onlyI (wts (scores (m ((c.tc : Thread nD τ).loc main_arg0)) (m ((c.tc : Thread nD τ).loc main_arg1)))))) transposes_S16x64x8192_S16x8192x64_0_2_1) := by
  unfold Value.res_main_v48 join wts keep onlyI tail sp neg scores split bc
  rfl

variable (Q K X D : ℕ → ℕ → ℝ) (hQ : (m ((c.tc : Thread nD τ).loc main_arg0) : VA) = upA Q) (hK : (m ((c.tc : Thread nD τ).loc main_arg1) : VA) = upA K)
  (hX : (m ((c.tc : Thread nD τ).loc main_arg2) : VA) = upA X) (hD : (m ((c.tc : Thread nD τ).loc main_arg3) : VA) = upA D)

include hQ hK hX in
theorem outO_of : Value.res_main_v27 m c = upA fun s e => ∑ t ∈ Finset.range 8192, oH (zH Q K) (e / 64) s t * X t (64 * (e / 64) + e % 64) := by
  refine (outO_eq m c).trans ?_
  rw [hQ, hK, hX, scores_of, wts_of, onlyI_of, split_of, dotB_up, join_of]
  rfl
include hQ hK hX hD in
theorem out0_of : Value.res_main_v52 m c = upA fun s e => ∑ t ∈ Finset.range 8192, dH (zH Q K) (gH (zH Q K) D X) (e / 64) s t * K t (64 * (e / 64) + e % 64) := by
  refine (out0_eq m c).trans ?_
  rw [hQ, hK, hX, hD, scores_of, gw_of, dz_of, split_of, dotB_up, join_of]
include hQ hK hX hD in
theorem out1_of : Value.res_main_v50 m c = upA fun s e => ∑ t ∈ Finset.range 8192, dH (zH Q K) (gH (zH Q K) D X) (e / 64) t s * Q t (64 * (e / 64) + e % 64) := by
  refine (out1_eq m c).trans ?_
  rw [hQ, hK, hX, hD, scores_of, gw_of, dz_of, split_of, dotC_up, join_of]
include hQ hK hD in
theorem out2_of : Value.res_main_v48 m c = upA fun s e => ∑ t ∈ Finset.range 8192, D t (64 * (e / 64) + e % 64) * oH (zH Q K) (e / 64) t s := by
  refine (out2_eq m c).trans ?_
  rw [hQ, hK, hD, scores_of, wts_of, onlyI_of, split_of, dotD_up, flip_up, join_of]
  rfl
end

end Cert.Reference5Ideal.Attn
-- ==== Proof.AttnMath.lean ====
/-
  The attention's gradient, as real numbers: what the kernel computes, head group by head group with running sums from the right,
  is what the reference's derivative says.
-/
module

public import proofs.«01_k».proof.Proof.AttnArr
public import proofs.«01_k».proof.Proof.AttnRef

@[expose] public section

set_option maxRecDepth 16384

noncomputable section

namespace Cert.AttnMath

open Cert.Kernel5Ideal.Attn (zR lR lkR fromR wR gR dR accR msk grp ung oR totR dhR whR kAdd vAdd dqR oAll dqAll dkAll dvAll preR msk_four)
open Cert.Reference5Ideal.Attn (spR zH kH wH oH gH dH)

/-! ## The softplus -/

theorem spR_log (x : ℝ) : spR x = Real.log (1 + Real.exp x) := by
  unfold spR
  rcases le_total 0 x with h | h
  · rw [max_eq_left h, abs_of_nonneg h]
    have e : 1 + Real.exp x = Real.exp x * (1 + Real.exp (-x)) := by rw [mul_add, ← Real.exp_add]; simp [add_comm]
    rw [e, Real.log_mul (Real.exp_ne_zero _) (by positivity), Real.log_exp]
  · rw [max_eq_right h, abs_of_nonpos h, neg_neg, zero_add]
theorem spR_neg (x : ℝ) : -spR (-x) = x + lkR x := by
  show _ = x + -spR x
  rw [spR_log, spR_log]
  have e : 1 + Real.exp x = Real.exp x * (1 + Real.exp (-x)) := by rw [mul_add, ← Real.exp_add]; simp [add_comm]
  rw [e, Real.log_mul (Real.exp_ne_zero _) (by positivity), Real.log_exp]
  ring
theorem sig (x : ℝ) : Real.exp (x - spR x) = Real.exp (x + lkR x) := rfl
theorem sig_neg (x : ℝ) : Real.exp (-x - spR (-x)) = 1 - Real.exp (x + lkR x) := by
  rw [← sig, spR_log, spR_log, Real.exp_sub, Real.exp_sub, Real.exp_log (by positivity), Real.exp_log (by positivity), Real.exp_neg]
  have := Real.exp_pos x
  field_simp
  ring

/-! ## One head -/

theorem sum_msk (n : ℕ) (hn : n < 4) (f : ℕ → ℝ) : ∑ d ∈ Finset.range 256, (if d / 64 = n then f d else 0) = ∑ d ∈ Finset.range 64, f (64 * n + d) := by
  rw [Finset.sum_ite, Finset.sum_const_zero, add_zero]
  refine Finset.sum_bij' (fun k _ => k - 64 * n) (fun u _ => 64 * n + u) ?_ ?_ ?_ ?_ ?_
  all_goals intro k hk
  all_goals simp only [Finset.mem_filter, Finset.mem_range] at hk ⊢
  all_goals try omega
  rw [show 64 * n + (k - 64 * n) = k by omega]
theorem dot_msk (n : ℕ) (hn : n < 4) (G : ℕ) (Q K : ℕ → ℕ → ℝ) (s t : ℕ) : ∑ d ∈ Finset.range 256, msk n (grp G Q) s d * grp G K t d
    = ∑ d ∈ Finset.range 64, Q s (64 * (4 * G + n) + d) * K t (64 * (4 * G + n) + d) := by
  unfold msk grp
  simp only [ite_mul, zero_mul]
  rw [sum_msk n hn]
  exact Finset.sum_congr rfl fun d _ => by rw [show 256 * G + (64 * n + d) = 64 * (4 * G + n) + d by omega]

section
variable (Q K V D : ℕ → ℕ → ℝ) (G n : ℕ) (hn : n < 4)
include hn

theorem z_eq : zR (msk n (grp G Q)) (grp G K) = zH Q K (4 * G + n) := by
  funext s t
  unfold zR zH
  rw [dot_msk n hn]
theorem k_eq (s t : ℕ) : kH (zH Q K) (4 * G + n) s t = lR (zR (msk n (grp G Q)) (grp G K)) s t := by
  rw [z_eq Q K G n hn]
  unfold kH lR
  rw [neg_neg]
  rfl
theorem w_eq (s t : ℕ) (ht : t < s) (hs : s < 8192) : wH (zH Q K) (4 * G + n) s t = wR (zR (msk n (grp G Q)) (grp G K)) s t := by
  unfold wH wR fromR
  rw [if_pos ht, Finset.sum_eq_sum_Ico_succ_bot (by omega : t < 8192), add_sub_cancel_left, spR_neg]
  rw [Finset.sum_congr rfl fun u _ => k_eq Q K G n hn s u, z_eq Q K G n hn]
theorem o_eq (s t : ℕ) (hs : s < 8192) : oH (zH Q K) (4 * G + n) s t = whR (grp G Q) (grp G K) n s t := by
  unfold oH whR
  by_cases h : t < s
  · rw [if_pos h, w_eq Q K G n hn s t h hs]
  · rw [if_neg h]; unfold wR; rw [if_neg h]
theorem g_eq (s t : ℕ) (hs : s < 8192) : gH (zH Q K) D V (4 * G + n) s t = gR (zR (msk n (grp G Q)) (grp G K)) (msk n (grp G D)) (grp G V) s t := by
  unfold gH gR
  by_cases h : t < s
  · rw [if_pos h, w_eq Q K G n hn s t h hs, dot_msk n hn]
  · rw [if_neg h]; unfold wR; rw [if_neg h, zero_mul, mul_zero]
theorem tot_eq (s : ℕ) : totR (grp G D) (oAll Q K V G) n s = ∑ u ∈ Finset.range 8192, gR (zR (msk n (grp G Q)) (grp G K)) (msk n (grp G D)) (grp G V) s u := by
  unfold totR
  have e : ∀ x, msk n (fun a b => grp G D a b * oAll Q K V G a b) s x
      = ∑ u ∈ Finset.range 8192, msk n (grp G D) s x * grp G V u x * wR (zR (msk n (grp G Q)) (grp G K)) s u := fun x => by
    unfold oAll oR accR
    by_cases h : x / 64 = n
    · unfold msk
      beta_reduce
      rw [if_pos h, h, Finset.mul_sum, Finset.range_eq_Ico]
      refine Finset.sum_congr rfl fun u _ => ?_
      rw [if_pos rfl]
      ring
    · unfold msk
      beta_reduce
      rw [if_neg h]
      symm
      exact Finset.sum_eq_zero fun u _ => by rw [if_neg h]; ring
  rw [Finset.sum_congr rfl fun x _ => e x, Finset.sum_comm]
  refine Finset.sum_congr rfl fun u _ => ?_
  unfold gR
  rw [Finset.sum_mul]
theorem d_eq (s t : ℕ) (hs : s < 8192) : dH (zH Q K) (gH (zH Q K) D V) (4 * G + n) s t
    = dhR (grp G Q) (grp G K) (grp G V) (grp G D) (oAll Q K V G) n s t := by
  unfold dH dhR dR
  congr 1
  rw [Finset.sum_congr rfl fun u _ => g_eq Q K V D G n hn s u hs, g_eq Q K V D G n hn s t hs, tot_eq Q K V D G n hn, sig_neg, neg_neg (zH Q K (4 * G + n) s t), sig, z_eq Q K G n hn]
  by_cases h : t < s
  · rw [if_pos h, if_pos h, Finset.sum_range_succ]
    have e : ∑ u ∈ Finset.range 8192, gR (zH Q K (4 * G + n)) (msk n (grp G D)) (grp G V) s u
        = ∑ u ∈ Finset.range t, gR (zH Q K (4 * G + n)) (msk n (grp G D)) (grp G V) s u + fromR (gR (zH Q K (4 * G + n)) (msk n (grp G D)) (grp G V)) s t := by
      unfold fromR
      rw [Finset.range_eq_Ico, Finset.range_eq_Ico, Finset.sum_Ico_consecutive _ (Nat.zero_le t) (by omega)]
    rw [e]
    ring
  · rw [if_neg h, if_neg h]
    have e : gR (zH Q K (4 * G + n)) (msk n (grp G D)) (grp G V) s t = 0 := by unfold gR wR; rw [if_neg h, mul_zero]
    rw [e]
    ring
end

/-! ## All heads -/

variable (Q K V D : ℕ → ℕ → ℝ) (s e : ℕ) (hs : s < 8192)

theorem hd : e / 64 = 4 * (e / 256) + e % 256 / 64 := by omega
theorem col : 64 * (e / 64) + e % 64 = e := by omega
theorem col' : 256 * (e / 256) + e % 256 = e := by omega
theorem four : e % 256 / 64 < 4 := by omega

include hs in
theorem out_eq : ung (oAll Q K V) s e = ∑ t ∈ Finset.range 8192, oH (zH Q K) (e / 64) s t * V t (64 * (e / 64) + e % 64) := by
  unfold ung oAll oR accR
  rw [Finset.range_eq_Ico]
  refine Finset.sum_congr rfl fun t _ => ?_
  have h := o_eq Q K (e / 256) _ (four e) s t hs
  unfold whR at h
  rw [← hd] at h
  rw [h, col]
  unfold grp
  rw [col']
include hs in
theorem dq_eq : ung (dqAll Q K V D) s e = ∑ t ∈ Finset.range 8192, dH (zH Q K) (gH (zH Q K) D V) (e / 64) s t * K t (64 * (e / 64) + e % 64) := by
  unfold ung dqAll dqR accR
  rw [Finset.range_eq_Ico]
  refine Finset.sum_congr rfl fun t _ => ?_
  rw [← d_eq Q K V D (e / 256) _ (four e) s t hs, ← hd, col]
  unfold grp
  rw [col']
theorem kAdd_eq (G : ℕ) (t a : ℕ) (ha : a < 256) (O : ℕ → ℕ → ℝ) : kAdd (grp G Q) (grp G K) (grp G V) (grp G D) O s t a
    = dhR (grp G Q) (grp G K) (grp G V) (grp G D) O (a / 64) s t * grp G Q s a := by
  have h := msk_four (fun n x y => dhR (grp G Q) (grp G K) (grp G V) (grp G D) O n s t * grp G Q x y) s a ha
  rw [← h]
  unfold kAdd msk
  simp only [mul_ite, mul_zero]
theorem vAdd_eq (G : ℕ) (t a : ℕ) (ha : a < 256) : vAdd (grp G Q) (grp G K) (grp G D) s t a = whR (grp G Q) (grp G K) (a / 64) s t * grp G D s a := by
  have h := msk_four (fun n x y => whR (grp G Q) (grp G K) n s t * grp G D x y) s a ha
  rw [← h]
  unfold vAdd msk
  simp only [mul_ite, mul_zero]
theorem dk_eq : ung (dkAll Q K V D) s e = ∑ t ∈ Finset.range 8192, dH (zH Q K) (gH (zH Q K) D V) (e / 64) t s * Q t (64 * (e / 64) + e % 64) := by
  unfold ung dkAll preR
  refine Finset.sum_congr rfl fun t ht => ?_
  rw [kAdd_eq _ _ _ _ _ _ _ _ (by omega), ← d_eq Q K V D (e / 256) _ (four e) t s (Finset.mem_range.mp ht), ← hd, col]
  unfold grp
  rw [col']
theorem dv_eq : ung (dvAll Q K D) s e = ∑ t ∈ Finset.range 8192, D t (64 * (e / 64) + e % 64) * oH (zH Q K) (e / 64) t s := by
  unfold ung dvAll preR
  refine Finset.sum_congr rfl fun t ht => ?_
  rw [vAdd_eq _ _ _ _ _ _ _ (by omega), ← o_eq Q K (e / 256) _ (four e) t s (Finset.mem_range.mp ht), ← hd, col, mul_comm]
  unfold grp
  rw [col']

end Cert.AttnMath
-- ==== Proof.AttnClaims.lean ====
/-
  The attention's claim: the kernel's output and gradients of the queries, the keys and the values are the reference's, whenever the four
  arguments are finite.
-/
module

public import proofs.«01_k».proof.Proof.AttnMath
public import proofs.«01_k».proof.Proof.Gen.Pre_all_finite
public import proofs.«01_k».proof.Defs

@[expose] public section

set_option maxRecDepth 16384

noncomputable section

namespace Cert.Proof.Attn

open Idealize.ShloMosaic TcCoe Idealize.SL.Sem
open Cert.Kernel5Ideal Gen Attn

/-! ## Finite arguments are real numbers -/

/-- The real numbers of an array. -/
def toR (x : Vec Ideal S8192x1024 .f32) (s e : ℕ) : ℝ := if h : s < 8192 ∧ e < 1024 then EReal.toReal (x (ix2 ⟨s, h.1⟩ ⟨e, h.2⟩)) else 0
theorem toR_at (x : Vec Ideal S8192x1024 .f32) (a : Fin 8192) (b : Fin 1024) : toR x a.val b.val = EReal.toReal (x (ix2 a b)) :=
  dif_pos (⟨a.isLt, b.isLt⟩ : a.val < 8192 ∧ b.val < 1024)
theorem real_of (x : Vec Ideal S8192x1024 .f32)
    (hx : cmpf (F := Ideal) (s := S8192x1024) (φ := .f32) .olt (Host.absf (F := Ideal) (s := S8192x1024) (φ := .f32) x)
      (broadcastInDim S8192x1024 ![] Cert.Pre_all_finite.Gen.facts.bcast_S_S8192x1024 (constant (F := Ideal) Cert.Pre_all_finite.S_ .f32 0x7F800000#32)) = fun _ => 1#1) :
    ∃ X : ℕ → ℕ → ℝ, x = upA (φ := .f32) X := by
  refine ⟨toR x, ?_⟩
  funext y
  idx_vars y
  have h : Ideal.cmp .olt (max (x (ix2 y0 y1) : EReal) (-(x (ix2 y0 y1) : EReal))) (Ideal.ofBits .f32 0x7F800000#32) = 1#1 := congrFun hx (ix2 y0 y1)
  rw [Sums.c_inf] at h
  have h' : max (x (ix2 y0 y1) : EReal) (-(x (ix2 y0 y1) : EReal)) < ⊤ := by
    by_contra hc
    rw [show Ideal.cmp .olt (max (x (ix2 y0 y1) : EReal) (-(x (ix2 y0 y1) : EReal))) ⊤ = BitVec.ofBool (decide (max (x (ix2 y0 y1) : EReal) (-(x (ix2 y0 y1) : EReal)) < ⊤)) from rfl,
      decide_eq_false hc] at h
    exact absurd h (by decide)
  obtain ⟨h1, h2⟩ := max_lt_iff.mp h'
  have hb : (x (ix2 y0 y1) : EReal) ≠ ⊥ := fun e => by rw [e] at h2; simp at h2
  exact (EReal.coe_toReal h1.ne hb).symm.trans (congrArg (fun r : ℝ => (r : EReal)) (toR_at x y0 y1).symm)

/-! ## The kernel's results -/

section
variable (m : (ℓ : Loc nD τ sig) → Buf (Elt Ideal) ℓ) (ρ : Dev nD → PrngReg) (c : Dev nD) (Q K X D : ℕ → ℕ → ℝ)

theorem cast_q (h : (m ((c.tc : Thread nD τ).loc main_arg0) : Vec Ideal S8192x1024 .f32) = upA (φ := .f32) Q) :
    (V1 m ρ c main_v0 : Vec Ideal S8192x1024 .bf16) = upA (φ := .bf16) Q := by
  refine Eq.trans ?_ h
  show (StableHlo.after hostOps0 (W0 m ρ c) (Proc.devRef .tc main_v0) : S8192x1024.Idx → EReal) = _
  after_results_simp <;> rfl
theorem cast_k (h : (m ((c.tc : Thread nD τ).loc main_arg1) : Vec Ideal S8192x1024 .f32) = upA (φ := .f32) K) :
    (V1 m ρ c main_v1 : Vec Ideal S8192x1024 .bf16) = upA (φ := .bf16) K := by
  refine Eq.trans ?_ h
  show (StableHlo.after hostOps0 (W0 m ρ c) (Proc.devRef .tc main_v1) : S8192x1024.Idx → EReal) = _
  after_results_simp <;> rfl
theorem cast_v (h : (m ((c.tc : Thread nD τ).loc main_arg2) : Vec Ideal S8192x1024 .f32) = upA (φ := .f32) X) :
    (V1 m ρ c main_v2 : Vec Ideal S8192x1024 .bf16) = upA (φ := .bf16) X := by
  refine Eq.trans ?_ h
  show (StableHlo.after hostOps0 (W0 m ρ c) (Proc.devRef .tc main_v2) : S8192x1024.Idx → EReal) = _
  after_results_simp <;> rfl

variable (hq : (m ((c.tc : Thread nD τ).loc main_arg0) : Vec Ideal S8192x1024 .f32) = upA (φ := .f32) Q)
  (hk : (m ((c.tc : Thread nD τ).loc main_arg1) : Vec Ideal S8192x1024 .f32) = upA (φ := .f32) K)
  (hv : (m ((c.tc : Thread nD τ).loc main_arg2) : Vec Ideal S8192x1024 .f32) = upA (φ := .f32) X)
  (hd : (m ((c.tc : Thread nD τ).loc main_arg3) : Vec Ideal S8192x1024 .f32) = upA (φ := .f32) D)
include hq hk hv
theorem o_of : (V2 m ρ c main_v3_0 : Vec Ideal S8192x1024 .f32) = upA (φ := .f32) (ung (oAll Q K X)) :=
  (arr_after0 m ρ c 3).symm.trans (final0_3 (V1 m ρ) c Q K X (cast_q m ρ c Q hq) (cast_k m ρ c K hk) (cast_v m ρ c X hv))
theorem ol_of : (V2 m ρ c main_v3_1 : Vec Ideal S8192x1024 .f32) = upA (φ := .f32) (fun _ _ => 0) :=
  (arr_after0 m ρ c 4).symm.trans (final0_4 (V1 m ρ) c Q K X (cast_q m ρ c Q hq) (cast_k m ρ c K hk) (cast_v m ρ c X hv))
omit hk hv in
theorem v0_of : (V2 m ρ c main_v0 : Vec Ideal S8192x1024 .bf16) = upA (φ := .bf16) Q :=
  (W2_of m ρ c main_v0 (by decide +kernel)).trans (cast_q m ρ c Q hq)
omit hq hv in
theorem v1_of : (V2 m ρ c main_v1 : Vec Ideal S8192x1024 .bf16) = upA (φ := .bf16) K :=
  (W2_of m ρ c main_v1 (by decide +kernel)).trans (cast_k m ρ c K hk)
omit hq hk in
theorem v2_of : (V2 m ρ c main_v2 : Vec Ideal S8192x1024 .bf16) = upA (φ := .bf16) X :=
  (W2_of m ρ c main_v2 (by decide +kernel)).trans (cast_v m ρ c X hv)
include hd in
omit hq hk hv in
theorem do_of : (V2 m ρ c main_arg3 : Vec Ideal S8192x1024 .f32) = upA (φ := .f32) D := (W2_args m ρ c main_arg3 (by decide)).trans hd
include hd
theorem dq_of : (V3 m ρ c main_v4_0 : Vec Ideal S8192x1024 .f32) = upA (φ := .f32) (ung (dqAll Q K X D)) :=
  (arr_after1 m ρ c 6).symm.trans (final1_6 (V2 m ρ) c Q K X D (v0_of m ρ c Q hq) (v1_of m ρ c K hk) (v2_of m ρ c X hv) (o_of m ρ c Q K X hq hk hv)
    (ol_of m ρ c Q K X hq hk hv) (do_of m ρ c D hd))
theorem dk_of : (V3 m ρ c main_v4_1 : Vec Ideal S8192x1024 .f32) = upA (φ := .f32) (ung (dkAll Q K X D)) :=
  (arr_after1 m ρ c 7).symm.trans (final1_7 (V2 m ρ) c Q K X D (v0_of m ρ c Q hq) (v1_of m ρ c K hk) (v2_of m ρ c X hv) (o_of m ρ c Q K X hq hk hv)
    (ol_of m ρ c Q K X hq hk hv) (do_of m ρ c D hd))
theorem dv_of : (V3 m ρ c main_v4_2 : Vec Ideal S8192x1024 .f32) = upA (φ := .f32) (ung (dvAll Q K D)) :=
  (arr_after1 m ρ c 8).symm.trans (final1_8 (V2 m ρ) c Q K X D (v0_of m ρ c Q hq) (v1_of m ρ c K hk) (v2_of m ρ c X hv) (o_of m ρ c Q K X hq hk hv)
    (ol_of m ρ c Q K X hq hk hv) (do_of m ρ c D hd))
end

/-- Two tables of real numbers alike at every row and column of the array. -/
theorem up_congr (x y : ℕ → ℕ → ℝ) (h : ∀ s e, s < 8192 → x s e = y s e) : (Cert.Reference5Ideal.Attn.upA y : Vec Ideal S8192x1024 .f32) = upA (φ := .f32) x :=
  funext fun i => congrArg (fun r : ℝ => (r : EReal)) (h _ _ (i 0).isLt).symm

theorem o_kept (m : (ℓ : Loc nD τ sig) → Buf (Elt Ideal) ℓ) (ρ : Dev nD → PrngReg) (c : Dev nD) : V3 m ρ c main_v3_0 = V2 m ρ c main_v3_0 :=
  W3_of m ρ c main_v3_0 (by decide +kernel)

theorem algebraic : Cert.algebraic_Kernel5Ideal_Reference5Ideal_pre_all_finite := by
  intro m ρ m' ρ' hpre hagree
  refine ⟨fun c => V2 m ρ c main_v3_0, fun c => V3 m ρ c main_v4_0, fun c => V3 m ρ c main_v4_1, fun c => V3 m ρ c main_v4_2, ?_, ?_⟩
  · refine (θ_run defs _ _).mono (fun r h c => ?_) (run_all (F := Ideal) m ρ)
    exact ⟨(h.1 c _ (Region.mem_uc main_v3_0 (by decide))).trans (o_kept m ρ c), h.1 c _ (Region.mem_uc main_v4_0 (by decide)), h.1 c _ (Region.mem_uc main_v4_1 (by decide)), h.1 c _ (Region.mem_uc main_v4_2 (by decide)),
      (h.1 c _ (Region.mem_uc main_arg0 (by decide))).trans (W3_args m ρ c main_arg0 (by decide)),
      (h.1 c _ (Region.mem_uc main_arg1 (by decide))).trans (W3_args m ρ c main_arg1 (by decide)),
      (h.1 c _ (Region.mem_uc main_arg2 (by decide))).trans (W3_args m ρ c main_arg2 (by decide)),
      (h.1 c _ (Region.mem_uc main_arg3 (by decide))).trans (W3_args m ρ c main_arg3 (by decide))⟩
  refine (θ_run Cert.Reference5Ideal.defs _ _).mono (fun r h c => ?_) (Cert.Reference5Ideal.Value.run (F := Ideal) m' ρ')
  obtain ⟨ho, h0, h1, h2, h3⟩ := h c
  obtain ⟨a0, a1, a2, a3⟩ := hagree c
  obtain ⟨p0, p1, p2, p3⟩ := hpre c
  obtain ⟨Q, hq⟩ := real_of _ p0
  obtain ⟨K, hk⟩ := real_of _ p1
  obtain ⟨X, hv⟩ := real_of _ p2
  obtain ⟨D, hd⟩ := real_of _ p3
  clear hagree hpre
  refine ⟨ho.trans ?_, h0.trans ?_, h1.trans ?_, h2.trans ?_, h3⟩
  · exact (Cert.Reference5Ideal.Attn.outO_of m' c Q K X (a0.trans hq) (a1.trans hk) (a2.trans hv)).trans
      ((up_congr _ _ fun s e hs => AttnMath.out_eq Q K X s e hs).trans (o_of m ρ c Q K X hq hk hv).symm)
  · exact (Cert.Reference5Ideal.Attn.out0_of m' c Q K X D (a0.trans hq) (a1.trans hk) (a2.trans hv) (a3.trans hd)).trans
      ((up_congr _ _ fun s e hs => AttnMath.dq_eq Q K X D s e hs).trans (dq_of m ρ c Q K X D hq hk hv hd).symm)
  · exact (Cert.Reference5Ideal.Attn.out1_of m' c Q K X D (a0.trans hq) (a1.trans hk) (a2.trans hv) (a3.trans hd)).trans
      ((up_congr _ _ fun s e _ => AttnMath.dk_eq Q K X D s e).trans (dk_of m ρ c Q K X D hq hk hv hd).symm)
  · exact (Cert.Reference5Ideal.Attn.out2_of m' c Q K D (a0.trans hq) (a1.trans hk) (a3.trans hd)).trans
      ((up_congr _ _ fun s e _ => AttnMath.dv_eq Q K D s e).trans (dv_of m ρ c Q K X D hq hk hv hd).symm)

end Cert.Proof.Attn
-- ==== Proof.BoutRun.lean ====
/-
  What each call of the second gate's program leaves in its blocks: every output whole, and the sums over the rows block by block.
-/
module

public import proofs.«01_k».proof.Proof.Calls
public import proofs.«01_k».proof.Proof.Gen.Kernel6Ideal.Skeleton
public import proofs.«01_k».proof.Proof.Gen.Kernel6Ideal.Launch
public import proofs.«01_k».proof.Proof.Gen.Kernel6Ideal.Points
public import Idealize.ShloMosaic.Lib.Pipeline.TableIdle
public import Idealize.ShloMosaic.Lib.Pipeline.RegionsLoop
public import Idealize.ShloMosaic.Lib.Pipeline.FrameSuffix
public import Idealize.ShloMosaic.Lib.VecWindow

@[expose] public section

set_option maxRecDepth 16384

noncomputable section

namespace Cert.Kernel6Ideal.Bout

open Cert.Kernel6Ideal Gen Cert.Proof.Calls
open Idealize.ShloMosaic TcCoe Tactic
open Idealize.SL RA BI BIBase Laws ProofMode Sem
open Rounds
open Pipeline (Dat Cfg Window BodyObligation cellOf)

variable {F : FTy → Type} [FloatOps F]

local notation "𝕄" => MT nD τ sig Unit (Elt F) ℕ (UR sig nD τ) ℕ

abbrev 𝒱₀ : Variants := Variants.nat
/-- A core's whole buffer at contents `x`. -/
abbrev ow {S : Shape} {e : EltTy} (c : Dev nD) (a : Memref sig .tc .vmem S e) (x : Vec F S e) : sProp 𝕄 := owns (c : Thread nD τ) a fullShare x

/-! ## Call 0 -/

/-- What call 0 leaves in its output 5 from its blocks. -/
abbrev o0_5 (x1 x2 x3 : Vec F S512x1024 .f32) (x4 : Vec F S1x1024 .f32) (x5 : Vec F S1024x1024 .bf16) : Vec F S512x1024 .bf16 :=
  (k0_pay1 x1 x2)
/-- What call 0 leaves in its output 6 from its blocks. -/
abbrev o0_6 (x1 x2 x3 : Vec F S512x1024 .f32) (x4 : Vec F S1x1024 .f32) (x5 : Vec F S1024x1024 .bf16) : Vec F S512x1024 .f32 :=
  (k0_pay2 x1 x2 x5)
/-- What call 0 leaves in its output 7 from its blocks. -/
abbrev o0_7 (x1 x2 x3 : Vec F S512x1024 .f32) (x4 : Vec F S1x1024 .f32) (x5 : Vec F S1024x1024 .bf16) : Vec F S512x1024 .f32 :=
  (k0_pay3 x1 x2 x3 x4 x5)
set_option maxHeartbeats 4000000 in
theorem body0 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S512x1024 .f32) (harg8 : arg8.IsWhole)
    (x1 x2 x3 : Vec F S512x1024 .f32) (x4 : Vec F S1x1024 .f32) (x5 : Vec F S1024x1024 .bf16)   (E : Set ℕ) (Q : PUnit → sProp 𝕄) :
    iprop((ow c arg1 x1 ∗ ow c arg2 x2 ∗ ow c arg3 x3 ∗ ow c arg4 x4 ∗ ow c arg5 x5 ∗ (∃ x, ow c arg6 x) ∗ (∃ x, ow c arg7 x) ∗ (∃ x, ow c arg8 x))
      ∗ ((ow c arg1 x1 ∗ ow c arg2 x2 ∗ ow c arg3 x3 ∗ ow c arg4 x4 ∗ ow c arg5 x5 ∗ ow c arg6 (o0_5 x1 x2 x3 x4 x5) ∗ ow c arg7 (o0_6 x1 x2 x3 x4 x5) ∗ ow c arg8 (o0_7 x1 x2 x3 x4 x5)) -∗ Q ⟨⟩))
      ⊢ wp frame (wpE (defs₀ (F := F)) 𝒱₀ c none) E (cc0_b_gate_out_norm i arg1 harg1 arg2 harg2 arg3 harg3 arg4 harg4 arg5 harg5 arg6 harg6 arg7 harg7 arg8 harg8) Q := by
  simp only [cc0_b_gate_out_norm_eq_skeleton]; unfold cc0_b_gate_out_norm_skel
  simp only [k0_part1_eq_skeleton]
  unfold ow owns
  iintro ⟨⟨⟨%f1, %hf1, H1⟩, ⟨%f2, %hf2, H2⟩, ⟨%f3, %hf3, H3⟩, ⟨%f4, %hf4, H4⟩, ⟨%f5, %hf5, H5⟩, ⟨%x6, ⟨%f6, %hf6, H6⟩⟩, ⟨%x7, ⟨%f7, %hf7, H7⟩⟩, ⟨%x8, ⟨%f8, %hf8, H8⟩⟩⟩, Hk⟩
  have e1 := (load_whole arg1 f1 ![0, 0] off2 inb_S512x1024_S512x1024_0_0).trans hf1
  have e2 := (load_whole arg2 f2 ![0, 0] off2 inb_S512x1024_S512x1024_0_0).trans hf2
  have e3 := (load_whole arg3 f3 ![0, 0] off2 inb_S512x1024_S512x1024_0_0).trans hf3
  have e4 := (load_whole arg4 f4 ![0, 0] off2 inb_S1x1024_S1x1024_0_0).trans hf4
  have e5 := (load_whole arg5 f5 ![0, 0] off2 inb_S1024x1024_S1024x1024_0_0).trans hf5
  sl_exec
  simp only [wp_ret]
  imodintro
  iapply Hk
  isplitl [H1]; rotate_left; isplitl [H2]; rotate_left; isplitl [H3]; rotate_left; isplitl [H4]; rotate_left; isplitl [H5]; rotate_left; isplitl [H6]; rotate_left; isplitl [H7]; rotate_left
  all_goals iexists _; isplitr; swap; iassumption; ipureintro; first | with_reducible assumption | exact (View.read_writes_full _ _ _ _ _).trans (by subst e1 e2 e3 e4 e5; rfl)

/-! ## Call 1 -/

/-- What call 1 leaves in its output 6 from its blocks. -/
abbrev o1_6 (x1 x2 x3 x4 : Vec F S512x1024 .f32) (x5 : Vec F S1x1024 .f32) (x6 : Vec F S1024x1024 .bf16) : Vec F S512x1024 .bf16 :=
  (k1_pay10 (k1_pay2 x1) (k1_pay8 x1 x2 x5) (k1_pay9 x1 x2 x5))
/-- What call 1 leaves in its output 7 from its blocks. -/
abbrev o1_7 (x1 x2 x3 x4 : Vec F S512x1024 .f32) (x5 : Vec F S1x1024 .f32) (x6 : Vec F S1024x1024 .bf16) : Vec F S512x1024 .f32 :=
  (k1_pay15 (k1_pay2 x1) x4 (k1_pay3 x6) (k1_pay8 x1 x2 x5) (k1_pay9 x1 x2 x5))
/-- What call 1 leaves in its output 8 from its blocks. -/
abbrev o1_8 (x1 x2 x3 x4 : Vec F S512x1024 .f32) (x5 : Vec F S1x1024 .f32) (x6 : Vec F S1024x1024 .bf16) : Vec F S512x1024 .bf16 :=
  (k1_pay16 (k1_pay2 x1) x3 x4 (k1_pay3 x6) (k1_pay8 x1 x2 x5) (k1_pay9 x1 x2 x5))
/-- What call 1 starts its sum 9 at, and what it makes of the sum `x10` later. -/
abbrev o1_9A (x1 x2 x3 x4 : Vec F S512x1024 .f32) (x5 : Vec F S1x1024 .f32) (x6 : Vec F S1024x1024 .bf16) : Vec F S1x1024 .f32 :=
  (k1_pay6 x1 x2)
abbrev o1_9B (x1 x2 x3 x4 : Vec F S512x1024 .f32) (x5 : Vec F S1x1024 .f32) (x6 : Vec F S1024x1024 .bf16) (x10 : Vec F S1x1024 .f32) : Vec F S1x1024 .f32 :=
  (k1_pay1 (k1_pay6 x1 x2) x10)
theorem c1_1 : ∀ t : Fin grid1.N, k1_cond1 (grid1.coords t) = 1#1 ↔ t.val = 0 := by decide +kernel
theorem c1_2 : ∀ t : Fin grid1.N, k1_cond2 (grid1.coords t) = 1#1 ↔ ¬ t.val = 0 := by decide +kernel
set_option maxHeartbeats 4000000 in
theorem body1A (c : Dev nD) (i : grid1.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S1x1024 .f32) (harg10 : arg10.IsWhole)
    (x1 x2 x3 x4 : Vec F S512x1024 .f32) (x5 : Vec F S1x1024 .f32) (x6 : Vec F S1024x1024 .bf16)  (h1 : k1_cond1 i = 1#1) (h2 : ¬ k1_cond2 i = 1#1) (E : Set ℕ) (Q : PUnit → sProp 𝕄) :
    iprop((ow c arg1 x1 ∗ ow c arg2 x2 ∗ ow c arg3 x3 ∗ ow c arg4 x4 ∗ ow c arg5 x5 ∗ ow c arg6 x6 ∗ (∃ x, ow c arg7 x) ∗ (∃ x, ow c arg8 x) ∗ (∃ x, ow c arg9 x) ∗ (∃ x, ow c arg10 x))
      ∗ ((ow c arg1 x1 ∗ ow c arg2 x2 ∗ ow c arg3 x3 ∗ ow c arg4 x4 ∗ ow c arg5 x5 ∗ ow c arg6 x6 ∗ ow c arg7 (o1_6 x1 x2 x3 x4 x5 x6) ∗ ow c arg8 (o1_7 x1 x2 x3 x4 x5 x6) ∗ ow c arg9 (o1_8 x1 x2 x3 x4 x5 x6) ∗ ow c arg10 (o1_9A x1 x2 x3 x4 x5 x6)) -∗ Q ⟨⟩))
      ⊢ wp frame (wpE (defs₀ (F := F)) 𝒱₀ c none) E (cc1_b_out_bwd i arg1 harg1 arg2 harg2 arg3 harg3 arg4 harg4 arg5 harg5 arg6 harg6 arg7 harg7 arg8 harg8 arg9 harg9 arg10 harg10) Q := by
  simp only [cc1_b_out_bwd_eq_skeleton]; unfold cc1_b_out_bwd_skel
  simp only [k1_part1_eq_skeleton, k1_part2_eq_skeleton]
  unfold ow owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%x7, ⟨%f7, %hf7, H7⟩⟩, ⟨%x8, ⟨%f8, %hf8, H8⟩⟩, ⟨%x9, ⟨%f9, %hf9, H9⟩⟩, ⟨%x10, ⟨%f10, %hf10, H10⟩⟩⟩, Hk⟩
  have e1 := (load_whole arg1 f1 ![0, 0] off2 inb_S512x1024_S512x1024_0_0).trans hf1
  have e2 := (load_whole arg2 f2 ![0, 0] off2 inb_S512x1024_S512x1024_0_0).trans hf2
  have e3 := (load_whole arg3 f3 ![0, 0] off2 inb_S512x1024_S512x1024_0_0).trans hf3
  have e4 := (load_whole arg4 f4 ![0, 0] off2 inb_S512x1024_S512x1024_0_0).trans hf4
  have e5 := (load_whole arg5 f5 ![0, 0] off2 inb_S1x1024_S1x1024_0_0).trans hf5
  have e6 := (load_whole arg6 f6 ![0, 0] off2 inb_S1024x1024_S1024x1024_0_0).trans hf6
  sl_exec (disch := first | sl_exact h1 | sl_exact h2)
  simp only [wp_ret]
  imodintro
  iapply Hk
  isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [H9]; rotate_left
  all_goals iexists _; isplitr; swap; iassumption; ipureintro; first | with_reducible assumption | exact (View.read_writes_full _ _ _ _ _).trans (by subst e1 e2 e3 e4 e5 e6; rfl)

set_option maxHeartbeats 4000000 in
theorem body1B (c : Dev nD) (i : grid1.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S1x1024 .f32) (harg10 : arg10.IsWhole)
    (x1 x2 x3 x4 : Vec F S512x1024 .f32) (x5 : Vec F S1x1024 .f32) (x6 : Vec F S1024x1024 .bf16) (x10 : Vec F S1x1024 .f32) (h2 : k1_cond2 i = 1#1) (h1 : ¬ k1_cond1 i = 1#1) (E : Set ℕ) (Q : PUnit → sProp 𝕄) :
    iprop((ow c arg1 x1 ∗ ow c arg2 x2 ∗ ow c arg3 x3 ∗ ow c arg4 x4 ∗ ow c arg5 x5 ∗ ow c arg6 x6 ∗ (∃ x, ow c arg7 x) ∗ (∃ x, ow c arg8 x) ∗ (∃ x, ow c arg9 x) ∗ ow c arg10 x10)
      ∗ ((ow c arg1 x1 ∗ ow c arg2 x2 ∗ ow c arg3 x3 ∗ ow c arg4 x4 ∗ ow c arg5 x5 ∗ ow c arg6 x6 ∗ ow c arg7 (o1_6 x1 x2 x3 x4 x5 x6) ∗ ow c arg8 (o1_7 x1 x2 x3 x4 x5 x6) ∗ ow c arg9 (o1_8 x1 x2 x3 x4 x5 x6) ∗ ow c arg10 (o1_9B x1 x2 x3 x4 x5 x6 x10)) -∗ Q ⟨⟩))
      ⊢ wp frame (wpE (defs₀ (F := F)) 𝒱₀ c none) E (cc1_b_out_bwd i arg1 harg1 arg2 harg2 arg3 harg3 arg4 harg4 arg5 harg5 arg6 harg6 arg7 harg7 arg8 harg8 arg9 harg9 arg10 harg10) Q := by
  simp only [cc1_b_out_bwd_eq_skeleton]; unfold cc1_b_out_bwd_skel
  simp only [k1_part1_eq_skeleton, k1_part2_eq_skeleton]
  unfold ow owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%x7, ⟨%f7, %hf7, H7⟩⟩, ⟨%x8, ⟨%f8, %hf8, H8⟩⟩, ⟨%x9, ⟨%f9, %hf9, H9⟩⟩, ⟨%f10, %hf10, H10⟩⟩, Hk⟩
  have e1 := (load_whole arg1 f1 ![0, 0] off2 inb_S512x1024_S512x1024_0_0).trans hf1
  have e2 := (load_whole arg2 f2 ![0, 0] off2 inb_S512x1024_S512x1024_0_0).trans hf2
  have e3 := (load_whole arg3 f3 ![0, 0] off2 inb_S512x1024_S512x1024_0_0).trans hf3
  have e4 := (load_whole arg4 f4 ![0, 0] off2 inb_S512x1024_S512x1024_0_0).trans hf4
  have e5 := (load_whole arg5 f5 ![0, 0] off2 inb_S1x1024_S1x1024_0_0).trans hf5
  have e6 := (load_whole arg6 f6 ![0, 0] off2 inb_S1024x1024_S1024x1024_0_0).trans hf6
  have e10 := (load_whole arg10 f10 ![0, 0] off2 inb_S1x1024_S1x1024_0_0).trans hf10
  sl_exec (disch := first | sl_exact h1 | sl_exact h2)
  simp only [wp_ret]
  imodintro
  iapply Hk
  isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [H9]; rotate_left
  all_goals iexists _; isplitr; swap; iassumption; ipureintro; first | with_reducible assumption | exact (View.read_writes_full _ _ _ _ _).trans (by subst e1 e2 e3 e4 e5 e6 e10; rfl)

end Cert.Kernel6Ideal.Bout
-- ==== Proof.BoutDat.lean ====
/-
  The contents of every buffer of the calls of the second gate's program, point by point, and that the calls' bodies leave them.
-/
module

public import proofs.«01_k».proof.Proof.BoutRun

@[expose] public section

set_option maxRecDepth 16384

noncomputable section

namespace Cert.Kernel6Ideal.Bout

open Cert.Kernel6Ideal Gen Cert.Proof.Calls
open Idealize.ShloMosaic TcCoe Tactic
open Idealize.SL RA BI BIBase Laws ProofMode Sem
open Rounds
open Pipeline (Dat Cfg Window BodyObligation cellOf)

variable {F : FTy → Type} [FloatOps F]

local notation "𝕄" => MT nD τ sig Unit (Elt F) ℕ (UR sig nD τ) ℕ

section Regions

-- the buffers' contents as a call finds them
variable (V : (c : Dev nD) → (b : Ref sig .tc) → Buf (Elt F) ((c : Thread nD τ).loc b))

/-- Window `w`'s block of call 0's array at point `t`. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- Call 0's proof data. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => o0_5 (iblk0 V c 0 t) (iblk0 V c 1 t) (iblk0 V c 2 t) (iblk0 V c 3 t) (iblk0 V c 4 t)
    | ⟨6, _⟩ => o0_6 (iblk0 V c 0 t) (iblk0 V c 1 t) (iblk0 V c 2 t) (iblk0 V c 3 t) (iblk0 V c 4 t)
    | ⟨7, _⟩ => o0_7 (iblk0 V c 0 t) (iblk0 V c 1 t) (iblk0 V c 2 t) (iblk0 V c 3 t) (iblk0 V c 4 t)
  Φ _ := Pipeline.ΦA spec0 c
  q _ := fullShare
  owed _ := 0
theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = o0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = o0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = o0_7 (iblk0 V c 0 t) (iblk0 V c 1 t) (iblk0 V c 2 t) (iblk0 V c 3 t) (iblk0 V c 4 t) := by dsimp only [dat0]
theorem before0_0 (c : Dev nD) (t : Fin cfg0.N) (d) : (dat0 V c).before 0 t d = iblk0 V c 0 t :=
  Dat.before_in_eq_fetched (dat0 V c) 0 rfl (fun _ => rfl) (fun _ _ _ => rfl) (fun _ => rfl) t d
theorem before0_1 (c : Dev nD) (t : Fin cfg0.N) (d) : (dat0 V c).before 1 t d = iblk0 V c 1 t :=
  Dat.before_in_eq_fetched (dat0 V c) 1 rfl (fun _ => rfl) (fun _ _ _ => rfl) (fun _ => rfl) t d
theorem before0_2 (c : Dev nD) (t : Fin cfg0.N) (d) : (dat0 V c).before 2 t d = iblk0 V c 2 t :=
  Dat.before_in_eq_fetched (dat0 V c) 2 rfl (fun _ => rfl) (fun _ _ _ => rfl) (fun _ => rfl) t d
theorem before0_3 (c : Dev nD) (t : Fin cfg0.N) (d) : (dat0 V c).before 3 t d = iblk0 V c 3 t :=
  Dat.before_in_eq_fetched (dat0 V c) 3 rfl (fun _ => rfl) (fun _ _ _ => rfl) (fun _ => rfl) t d
theorem before0_4 (c : Dev nD) (t : Fin cfg0.N) (d) : (dat0 V c).before 4 t d = iblk0 V c 4 t :=
  Dat.before_in_eq_fetched (dat0 V c) 4 rfl (fun _ => rfl) (fun _ _ _ => rfl) (fun _ => rfl) t d

/-- What the body is called with at point `t`, and what it returns. -/
def bodyPre0 (c : Dev nD) (t : Fin cfg0.N) : sProp 𝕄 :=
  iprop((dat0 V c).Φ t.castSucc ∗ (dat0 V c).owesAt () t.castSucc
    ∗ (∃ d, ow c (st0_0 t) ((dat0 V c).before 0 t d))
    ∗ (∃ d, ow c (st0_1 t) ((dat0 V c).before 1 t d))
    ∗ (∃ d, ow c (st0_2 t) ((dat0 V c).before 2 t d))
    ∗ (∃ d, ow c (st0_3 t) ((dat0 V c).before 3 t d))
    ∗ (∃ d, ow c (st0_4 t) ((dat0 V c).before 4 t d))
    ∗ (∃ d, ow c (st0_5 t) ((dat0 V c).before 5 t d))
    ∗ (∃ d, ow c (st0_6 t) ((dat0 V c).before 6 t d))
    ∗ (∃ d, ow c (st0_7 t) ((dat0 V c).before 7 t d)))
def bodyPost0 (c : Dev nD) (t : Fin cfg0.N) : sProp 𝕄 :=
  iprop((dat0 V c).Φ t.succ ∗ (dat0 V c).owesAt () t.succ
    ∗ ow c (st0_0 t) ((dat0 V c).after 0 t)
    ∗ ow c (st0_1 t) ((dat0 V c).after 1 t)
    ∗ ow c (st0_2 t) ((dat0 V c).after 2 t)
    ∗ ow c (st0_3 t) ((dat0 V c).after 3 t)
    ∗ ow c (st0_4 t) ((dat0 V c).after 4 t)
    ∗ ow c (st0_5 t) ((dat0 V c).after 5 t)
    ∗ ow c (st0_6 t) ((dat0 V c).after 6 t)
    ∗ ow c (st0_7 t) ((dat0 V c).after 7 t))

theorem body_ok0 (c : Dev nD) (t : Fin cfg0.N) :
    bodyPre0 V c t ⊢ wp frame (wpE (defs₀ (F := F)) 𝒱₀ c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body0 c (grid0.coords t) _ _ _ _ _ _ _ _ _ _ _ _ _ _ _ _ (iblk0 V c 0 t) (iblk0 V c 1 t) (iblk0 V c 2 t) (iblk0 V c 3 t) (iblk0 V c 4 t)
     Set.univ _)
  isplitl [H0 H1 H2 H3 H4 H5 H6 H7]
  · isplitl [H0]; rotate_left; isplitl [H1]; rotate_left; isplitl [H2]; rotate_left; isplitl [H3]; rotate_left; isplitl [H4]; rotate_left; isplitl [H5]; rotate_left; isplitl [H6]; rotate_left
    all_goals first | iassumption | (iexists _; iassumption)
  iintro Hr
  isplitl [HΦ]; · iexact HΦ
  isplitl [Ho]; · iexact Ho
  iexact Hr

theorem row_defs0 (t : Fin cfg0.N) : defs₀ (F := F) .tc cfg0.body (cfg0.bodyArgs t (cfg0.slots t)) = bodyAt0 t := by
  unfold defs₀; rw [Defs.onTc_tc]
theorem obligation0 (c : Dev nD) : BodyObligation (dat0 (F := F) V c) (defs₀ (F := F)) 𝒱₀ () Set.univ := fun t => by
  rw [bigSep_W0, bigSep_W0, row_defs0]
  exact triple_restated (body_ok0 V c t) rfl .rfl fun _ => .rfl

/-- Window `w`'s block of call 1's array at point `t`. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The sums of call 1 after point `n`. -/
def sums1 (c : Dev nD) : (n : ℕ) → n < cfg1.N → Vec F S1x1024 .f32
  | 0, hn => o1_9A (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩)
  | n + 1, hn => o1_9B (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (sums1 c n (Nat.lt_of_succ_lt hn))
theorem sums1_first (c : Dev nD) (t : Fin cfg1.N) (h : t.val = 0) :
    sums1 V c t.val t.isLt = o1_9A (iblk1 V c 0 t) (iblk1 V c 1 t) (iblk1 V c 2 t) (iblk1 V c 3 t) (iblk1 V c 4 t) (iblk1 V c 5 t) := by
  obtain ⟨n, hn⟩ := t; obtain rfl : n = 0 := h; rfl
theorem sums1_next (c : Dev nD) (t : Fin cfg1.N) (h : ¬ t.val = 0) :
    sums1 V c t.val t.isLt = o1_9B (iblk1 V c 0 t) (iblk1 V c 1 t) (iblk1 V c 2 t) (iblk1 V c 3 t) (iblk1 V c 4 t) (iblk1 V c 5 t) (sums1 V c (t.val - 1) (Nat.lt_of_le_of_lt (Nat.sub_le _ _) t.isLt)) := by
  obtain ⟨n, hn⟩ := t
  cases n with
  | zero => exact absurd rfl h
  | succ n => rfl

/-- Call 1's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => o1_6 (iblk1 V c 0 t) (iblk1 V c 1 t) (iblk1 V c 2 t) (iblk1 V c 3 t) (iblk1 V c 4 t) (iblk1 V c 5 t)
    | ⟨7, _⟩ => o1_7 (iblk1 V c 0 t) (iblk1 V c 1 t) (iblk1 V c 2 t) (iblk1 V c 3 t) (iblk1 V c 4 t) (iblk1 V c 5 t)
    | ⟨8, _⟩ => o1_8 (iblk1 V c 0 t) (iblk1 V c 1 t) (iblk1 V c 2 t) (iblk1 V c 3 t) (iblk1 V c 4 t) (iblk1 V c 5 t)
    | ⟨9, _⟩ => (sums1 V c t.val t.isLt)
  Φ _ := Pipeline.ΦA spec1 c
  q _ := fullShare
  owed _ := 0
theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = o1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = o1_7 (iblk1 V c 0 t) (iblk1 V c 1 t) (iblk1 V c 2 t) (iblk1 V c 3 t) (iblk1 V c 4 t) (iblk1 V c 5 t) := by dsimp only [dat1]
theorem after1_8 (c : Dev nD) (t : Fin cfg1.N) : (dat1 V c).after 8 t = o1_8 (iblk1 V c 0 t) (iblk1 V c 1 t) (iblk1 V c 2 t) (iblk1 V c 3 t) (iblk1 V c 4 t) (iblk1 V c 5 t) := by dsimp only [dat1]
theorem after1_9 (c : Dev nD) (t : Fin cfg1.N) : (dat1 V c).after 9 t = (sums1 V c t.val t.isLt) := by dsimp only [dat1]
theorem before1_0 (c : Dev nD) (t : Fin cfg1.N) (d) : (dat1 V c).before 0 t d = iblk1 V c 0 t :=
  Dat.before_in_eq_fetched (dat1 V c) 0 rfl (fun _ => rfl) (fun _ _ _ => rfl) (fun _ => rfl) t d
theorem before1_1 (c : Dev nD) (t : Fin cfg1.N) (d) : (dat1 V c).before 1 t d = iblk1 V c 1 t :=
  Dat.before_in_eq_fetched (dat1 V c) 1 rfl (fun _ => rfl) (fun _ _ _ => rfl) (fun _ => rfl) t d
theorem before1_2 (c : Dev nD) (t : Fin cfg1.N) (d) : (dat1 V c).before 2 t d = iblk1 V c 2 t :=
  Dat.before_in_eq_fetched (dat1 V c) 2 rfl (fun _ => rfl) (fun _ _ _ => rfl) (fun _ => rfl) t d
theorem before1_3 (c : Dev nD) (t : Fin cfg1.N) (d) : (dat1 V c).before 3 t d = iblk1 V c 3 t :=
  Dat.before_in_eq_fetched (dat1 V c) 3 rfl (fun _ => rfl) (fun _ _ _ => rfl) (fun _ => rfl) t d
theorem before1_4 (c : Dev nD) (t : Fin cfg1.N) (d) : (dat1 V c).before 4 t d = iblk1 V c 4 t :=
  Dat.before_in_eq_fetched (dat1 V c) 4 rfl (fun _ => rfl) (fun _ _ _ => rfl) (fun _ => rfl) t d
theorem before1_5 (c : Dev nD) (t : Fin cfg1.N) (d) : (dat1 V c).before 5 t d = iblk1 V c 5 t :=
  Dat.before_in_eq_fetched (dat1 V c) 5 rfl (fun _ => rfl) (fun _ _ _ => rfl) (fun _ => rfl) t d

/-- A sum holds nothing of this call before its first point only. -/
def fresh1 : ℕ → Bool := fun n => n % 16 == 0
theorem live1_9 : ∀ t : Fin cfg1.N, cfg1.idle 9 (grid1.coords t) = false := by decide +kernel
theorem fresh1_9 (t : Fin cfg1.N) : cfg1.fresh 9 t.val = fresh1 t.val :=
  Pipeline.Cfg.fresh_tab cfg1 9 fresh1 rfl (fun t => by
    have h := flush1_9 t
    have hi : cfg1.idle 9 (cfg1.grid.coords t) = false := live1_9 t
    rw [hi, Bool.false_and, Bool.or_false, Bool.eq_iff_iff, h]
    unfold fresh1; rw [beq_iff_eq]; omega) t.val (Nat.le_of_lt t.isLt)
theorem before1_9 (c : Dev nD) (t : Fin cfg1.N) (h : ¬ t.val = 0) (d) :
    (dat1 V c).before 9 t d = (sums1 V c (t.val - 1) (Nat.lt_of_le_of_lt (Nat.sub_le _ _) t.isLt)) := by
  have ht : t.val < 16 := Nat.lt_of_lt_of_eq t.isLt N_1
  rw [Dat.before_out_traj _ 9 rfl (fun _ _ => rfl) (fun t _ hi _ => absurd (hi.symm.trans (live1_9 t)) (by decide)) t.val t rfl d,
    if_neg (by rw [fresh1_9 t]; unfold fresh1; rw [beq_iff_eq]; omega)]
  dsimp only [dat1]

/-- What the body is called with at point `t`, and what it returns. -/
def bodyPre1 (c : Dev nD) (t : Fin cfg1.N) : sProp 𝕄 :=
  iprop((dat1 V c).Φ t.castSucc ∗ (dat1 V c).owesAt () t.castSucc
    ∗ (∃ d, ow c (st1_0 t) ((dat1 V c).before 0 t d))
    ∗ (∃ d, ow c (st1_1 t) ((dat1 V c).before 1 t d))
    ∗ (∃ d, ow c (st1_2 t) ((dat1 V c).before 2 t d))
    ∗ (∃ d, ow c (st1_3 t) ((dat1 V c).before 3 t d))
    ∗ (∃ d, ow c (st1_4 t) ((dat1 V c).before 4 t d))
    ∗ (∃ d, ow c (st1_5 t) ((dat1 V c).before 5 t d))
    ∗ (∃ d, ow c (st1_6 t) ((dat1 V c).before 6 t d))
    ∗ (∃ d, ow c (st1_7 t) ((dat1 V c).before 7 t d))
    ∗ (∃ d, ow c (st1_8 t) ((dat1 V c).before 8 t d))
    ∗ (∃ d, ow c (st1_9 t) ((dat1 V c).before 9 t d)))
def bodyPost1 (c : Dev nD) (t : Fin cfg1.N) : sProp 𝕄 :=
  iprop((dat1 V c).Φ t.succ ∗ (dat1 V c).owesAt () t.succ
    ∗ ow c (st1_0 t) ((dat1 V c).after 0 t)
    ∗ ow c (st1_1 t) ((dat1 V c).after 1 t)
    ∗ ow c (st1_2 t) ((dat1 V c).after 2 t)
    ∗ ow c (st1_3 t) ((dat1 V c).after 3 t)
    ∗ ow c (st1_4 t) ((dat1 V c).after 4 t)
    ∗ ow c (st1_5 t) ((dat1 V c).after 5 t)
    ∗ ow c (st1_6 t) ((dat1 V c).after 6 t)
    ∗ ow c (st1_7 t) ((dat1 V c).after 7 t)
    ∗ ow c (st1_8 t) ((dat1 V c).after 8 t)
    ∗ (dat1 V c).leavesExact 9 t)

theorem body_ok1 (c : Dev nD) (t : Fin cfg1.N) :
    bodyPre1 V c t ⊢ wp frame (wpE (defs₀ (F := F)) 𝒱₀ c none) Set.univ (bodyAt1 t) (fun _ => bodyPost1 V c t) := by
  unfold bodyPre1 bodyPost1 bodyAt1
  rw [show (dat1 V c).leavesExact 9 t = ow c (st1_9 t) ((dat1 V c).after 9 t) from by
    unfold Dat.leavesExact; rw [live1_9 t]]
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  by_cases h : t.val = 0
  · rw [sums1_first V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body1A c (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t)
      ((c1_1 t).mpr h) (fun e => (c1_2 t).mp e h) Set.univ _)
    isplitl [H0 H1 H2 H3 H4 H5 H6 H7 H8 H9]
    · isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left
      all_goals first | iassumption | (iexists _; iassumption)
    iintro Hr
    isplitl [HΦ]; · iexact HΦ
    isplitl [Ho]; · iexact Ho
    iexact Hr
  · simp only [before1_9 V c t h]
    rw [sums1_next V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body1B c (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) _
      ((c1_2 t).mpr h) (fun e => h ((c1_1 t).mp e)) Set.univ _)
    isplitl [H0 H1 H2 H3 H4 H5 H6 H7 H8 H9]
    · isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left
      all_goals first | iassumption | (iexists _; iassumption)
    iintro Hr
    isplitl [HΦ]; · iexact HΦ
    isplitl [Ho]; · iexact Ho
    iexact Hr

theorem row_defs1 (t : Fin cfg1.N) : defs₀ (F := F) .tc cfg1.body (cfg1.bodyArgs t (cfg1.slots t)) = bodyAt1 t := by
  unfold defs₀; rw [Defs.onTc_tc]
theorem obligation1 (c : Dev nD) : BodyObligation (dat1 (F := F) V c) (defs₀ (F := F)) 𝒱₀ () Set.univ := fun t => by
  rw [bigSep_W1, bigSep_W1, row_defs1]
  exact triple_restated (body_ok1 V c t) rfl .rfl fun _ => .rfl

end Regions

end Cert.Kernel6Ideal.Bout
-- ==== Proof.BoutFrame.lean ====
/-
  The run of the second gate's program: the host's casts, then the calls one by one. Every buffer ends at the last boundary's
  contents; the arguments end as launched.
-/
module

public import proofs.«01_k».proof.Proof.BoutDat
public import proofs.«01_k».proof.Proof.Region

@[expose] public section

set_option maxRecDepth 16384

noncomputable section

namespace Cert.Kernel6Ideal.Bout

open Cert.Kernel6Ideal Gen Cert.Proof.Calls
open Cert.Proof
open Idealize.ShloMosaic TcCoe Tactic
open Idealize.SL RA BI BIBase Laws ProofMode Sem
open Rounds
open Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5]

theorem host_fresh : (hostOps0 : List (HloOp τ sig (Elt F))).Forall fun op => op.fresh = ∅ := by
  simp only [List.Forall]; repeat' constructor
abbrev hostW : List (Ref sig .tc) := [main_v0]
theorem host_writes : (hostOps0 : List (HloOp τ sig (Elt F))).Forall fun op => op.writes ⊆ (hostW.map (Proc.devRef (τ := τ) .tc)).toFinset :=
  StableHlo.forall_writes_sub_of_map rfl

/-! ## The contents at the boundaries -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostW) : W1 m ρ c (Proc.devRef .tc r) = W0 m ρ c (Proc.devRef .tc r) :=
  StableHlo.after_of_writes_sub hostOps0 _ host_writes h
theorem W1_args (c : Dev nD) : ∀ a ∈ argRefs, W1 m ρ c (Proc.devRef .tc a) = m ((c : Thread nD τ).loc a) :=
  fun a ha => W1_of m ρ c a ((ListAll.forall_mem_of_all_decide (by decide +kernel) : ∀ a ∈ argRefs, a ∉ hostW) a ha)

/-- After call 0. -/
def W2 (c : Dev nD) : Valuation τ sig (Elt F) := Region.after (dat0 (V1 m ρ) c) (W1 m ρ c)
abbrev V2 : (c : Dev nD) → (b : Ref sig .tc) → Buf (Elt F) ((c : Thread nD τ).loc b) := fun c b => W2 m ρ c b
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) :=
  Region.after_of _ _ launch0.win.arr_inj (A_eq0 (V1 m ρ) c) r h
theorem W2_args (c : Dev nD) : ∀ a ∈ argRefs, W2 m ρ c (Proc.devRef .tc a) = m ((c : Thread nD τ).loc a) :=
  fun a ha => (W2_of m ρ c a ((ListAll.forall_mem_of_all_decide (by decide +kernel) :
    ∀ a ∈ argRefs, ∀ w : Fin 8, Pipeline.arrRef spec0 w = a → (win0 w).isOut = false) a ha)).trans (W1_args m ρ c a ha)
theorem arr_after0 (c : Dev nD) (w : Fin cfg0.W) : (dat0 (V1 m ρ) c).arrAt w cfg0.N = V2 m ρ c (Pipeline.arrRef spec0 w) :=
  (Region.after_arr (dat0 (V1 m ρ) c) (W1 m ρ c) launch0.win.arr_inj w).symm

/-- After call 1. -/
def W3 (c : Dev nD) : Valuation τ sig (Elt F) := Region.after (dat1 (V2 m ρ) c) (W2 m ρ c)
abbrev V3 : (c : Dev nD) → (b : Ref sig .tc) → Buf (Elt F) ((c : Thread nD τ).loc b) := fun c b => W3 m ρ c b
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) :=
  Region.after_of _ _ launch1.win.arr_inj (A_eq1 (V2 m ρ) c) r h
theorem W3_args (c : Dev nD) : ∀ a ∈ argRefs, W3 m ρ c (Proc.devRef .tc a) = m ((c : Thread nD τ).loc a) :=
  fun a ha => (W3_of m ρ c a ((ListAll.forall_mem_of_all_decide (by decide +kernel) :
    ∀ a ∈ argRefs, ∀ w : Fin 10, Pipeline.arrRef spec1 w = a → (win1 w).isOut = false) a ha)).trans (W2_args m ρ c a ha)
theorem arr_after1 (c : Dev nD) (w : Fin cfg1.W) : (dat1 (V2 m ρ) c).arrAt w cfg1.N = V3 m ρ c (Pipeline.arrRef spec1 w) :=
  (Region.after_arr (dat1 (V2 m ρ) c) (W2 m ρ c) launch1.win.arr_inj w).symm

/-! ## The calls in their order, and the run -/

def pdats : (p : Fin 2) → (c : Dev nD) → Dat τ (Elt F) Unit ℕ (UR sig nD τ) ℕ (Pipeline.pin (Region.pcs (F := F) cfgs) (Region.adm cfgs) p) c
  | ⟨0, _⟩ => fun c => dat0 (V1 m ρ) c
  | ⟨1, _⟩ => fun c => dat1 (V2 m ρ) c
def reg0 : Pipeline.RegionSeg (Region.pcs (F := F) cfgs) (Region.adm cfgs) (pdats m ρ) () defs₀ 𝒱₀ Region.L Region.lv 0 :=
  Region.reg cfgs defs₀ 𝒱₀ (pdats m ρ) 0 launch0 (W1 m ρ) (fun c => A_eq0 (V1 m ρ) c) (fun _ _ => rfl) (fun _ _ => rfl) (fun _ _ => trivial)
    (fun _ _ => rfl) fun c => obligation0 (V1 m ρ) c
def reg1 : Pipeline.RegionSeg (Region.pcs (F := F) cfgs) (Region.adm cfgs) (pdats m ρ) () defs₀ 𝒱₀ Region.L Region.lv 1 :=
  Region.reg cfgs defs₀ 𝒱₀ (pdats m ρ) 1 launch1 (W2 m ρ) (fun c => A_eq1 (V2 m ρ) c) (fun _ _ => rfl) (fun _ _ => rfl) (fun _ _ => trivial)
    (fun _ _ => rfl) fun c => obligation1 (V2 m ρ) c
abbrev segs : List (Pipeline.Seg (Region.pcs (F := F) cfgs) (Region.adm cfgs) (pdats m ρ) () defs₀ 𝒱₀ Region.L Region.lv) :=
  [ .host (Region.host cfgs defs₀ 𝒱₀ hostOps0 hostOps0_sub host_fresh (W0 m ρ)), .region (reg0 m ρ), .region (reg1 m ρ) ]
theorem main_run (c : Dev nD) : main (F := F) c = Pipeline.Seg.run (segs m ρ) := (main_chain c).trans (by chain_rfl)

/-- Every buffer ends at the last boundary's contents and every counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W3 m ρ c b) ∧ r.2.sem = fun _ => 0) :=
  Region.run cfgs defs₀ 𝒱₀ (pdats m ρ) cellOf_inj m ρ main (segs m ρ) (main_run m ρ)
    (by simp only [segs, Pipeline.Seg.pipes_host, Pipeline.Seg.pipes_region, Pipeline.Seg.pipes_nil]; decide)
    (W3 m ρ) ⟨fun _ => .rfl, fun _ => .rfl, fun _ => .rfl, Region.last (W3 m ρ)⟩ (by decide)

theorem frame : θ_run defs (onTc (τ := τ) (main (F := F))) ⟨m, fun _ => 0, ρ⟩ (fun r => (∀ c : Dev nD, ∀ a ∈ argRefs,
      r.2.mem ((c : Thread nD τ).loc a) = m ((c : Thread nD τ).loc a)) ∧ r.2.sem = fun _ => 0) :=
  (θ_run defs _ _).mono (fun r h => ⟨fun c a ha => (h.1 c _ (Region.mem_uc a
    ((by decide : ∀ a ∈ argRefs, ¬ (Proc.devRef .tc a : DevRef τ sig).isScoped) a ha))).trans (W3_args m ρ c a ha), h.2⟩) (run_all m ρ)

end Cert.Kernel6Ideal.Bout
-- ==== Proof.BoutPrinted.lean ====
/-
  The printed program of the second gate's program is the Ideal-named one over the bits, so its frame is the same frame.
-/
module

public import proofs.«01_k».proof.Proof.BoutFrame
public import proofs.«01_k».proof.Proof.Gen.Kernel6.Launch

@[expose] public section

set_option maxHeartbeats 4000000

namespace Cert.Kernel6.Bout

open Idealize.ShloMosaic TcCoe Idealize.SL.Sem

theorem main_eq : Cert.Kernel6.main (F := Bits) = Cert.Kernel6Ideal.main (F := Bits) := rfl

theorem defs₀_eq : Cert.Kernel6.defs₀ (F := Bits) = Cert.Kernel6Ideal.defs₀ (F := Bits) := by
  unfold Cert.Kernel6.defs₀ Cert.Kernel6Ideal.defs₀
  exact congrArg _ (funext fun | 0 => rfl | 1 => rfl)

theorem defs_eq : Cert.Kernel6.defs (F := Bits) = Cert.Kernel6Ideal.defs (F := Bits) := by
  unfold Cert.Kernel6.defs Cert.Kernel6Ideal.defs
  rw [defs₀_eq]
  rfl

open Cert.Kernel6 in
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD, ∀ a ∈ Cert.Kernel6Ideal.Bout.argRefs,
      r.2.mem ((c : Thread nD τ).loc a) = m ((c : Thread nD τ).loc a)) ∧ r.2.sem = fun _ => 0) := by
  rw [defs_eq, main_eq]
  exact Cert.Kernel6Ideal.Bout.frame (F := Bits) m ρ

end Cert.Kernel6.Bout

end
-- ==== Proof.BoutBlocks.lean ====
/-
  The arrays the calls of the second gate's program read and leave, block of rows by block of rows.
-/
module

public import proofs.«01_k».proof.Proof.BoutFrame
public import Idealize.ShloMosaic.Lib.Pipeline.ValueKit

@[expose] public section

set_option maxRecDepth 16384

noncomputable section

namespace Cert.Kernel6Ideal.Bout

open Cert.Kernel6Ideal Gen Cert.Proof.Calls
open Idealize.ShloMosaic TcCoe Idealize.SL.Sem
open Pipeline (Dat)

variable (V : (c : Dev nD) → (b : Ref sig .tc) → Buf (Elt Ideal) ((c : Thread nD τ).loc b)) (c : Dev nD)

/-! ## Call 0: 16 blocks of 512 rows -/

theorem ix0 : ∀ t : Fin cfg0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = 0 ∧ win0_3.index t 1 = 0) ∧ (win0_4.index t 0 = 0 ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) := by decide +kernel
theorem blk0_0 (t : Fin cfg0.N) : (iblk0 V c 0 t : Vec Ideal S512x1024 .f32) = rows (n := 16) (b := 512) (T := 8192) (D := 1024) rfl t (V c main_arg0) :=
  rows_of (D := 1024) rfl t (V c main_arg0) ((cfg0.win 0).blk t).view.emb (ix0 t).1.1 (ix0 t).1.2 (fun _ => rfl) fun _ => rfl
theorem blk0_1 (t : Fin cfg0.N) : (iblk0 V c 1 t : Vec Ideal S512x1024 .f32) = rows (n := 16) (b := 512) (T := 8192) (D := 1024) rfl t (V c main_arg1) :=
  rows_of (D := 1024) rfl t (V c main_arg1) ((cfg0.win 1).blk t).view.emb (ix0 t).2.1.1 (ix0 t).2.1.2 (fun _ => rfl) fun _ => rfl
theorem blk0_2 (t : Fin cfg0.N) : (iblk0 V c 2 t : Vec Ideal S512x1024 .f32) = rows (n := 16) (b := 512) (T := 8192) (D := 1024) rfl t (V c main_arg2) :=
  rows_of (D := 1024) rfl t (V c main_arg2) ((cfg0.win 2).blk t).view.emb (ix0 t).2.2.1.1 (ix0 t).2.2.1.2 (fun _ => rfl) fun _ => rfl
theorem blk0_3 (t : Fin cfg0.N) : (iblk0 V c 3 t : Vec Ideal S1x1024 .f32) = V c main_arg3 :=
  whole_of (V c main_arg3) ((cfg0.win 3).blk t).view.emb (ix0 t).2.2.2.1.1 (ix0 t).2.2.2.1.2 (fun _ => rfl) fun _ => rfl
theorem blk0_4 (t : Fin cfg0.N) : (iblk0 V c 4 t : Vec Ideal S1024x1024 .bf16) = V c main_v0 :=
  whole_of (V c main_v0) ((cfg0.win 4).blk t).view.emb (ix0 t).2.2.2.2.1.1 (ix0 t).2.2.2.2.1.2 (fun _ => rfl) fun _ => rfl
theorem arr0_5 (G : Vec Ideal S8192x1024 .bf16) (h : ∀ t : Fin cfg0.N, (dat0 V c).after 5 t = rows (n := 16) (b := 512) (D := 1024) rfl t G) :
    (dat0 V c).arrAt 5 cfg0.N = G :=
  (dat0 V c).arrAt_eq_of_cover 5 G (fun t _ => (h t).trans (rows_of (D := 1024) rfl t G ((cfg0.win 5).blk t).view.emb (ix0 t).2.2.2.2.2.1.1 (ix0 t).2.2.2.2.2.1.2 (fun _ => rfl) fun _ => rfl).symm)
    ((by decide +kernel : (cfg0.win 5).Covers).cover _ (Memref.isWhole_whole _))
theorem arr0_6 (G : Vec Ideal S8192x1024 .f32) (h : ∀ t : Fin cfg0.N, (dat0 V c).after 6 t = rows (n := 16) (b := 512) (D := 1024) rfl t G) :
    (dat0 V c).arrAt 6 cfg0.N = G :=
  (dat0 V c).arrAt_eq_of_cover 6 G (fun t _ => (h t).trans (rows_of (D := 1024) rfl t G ((cfg0.win 6).blk t).view.emb (ix0 t).2.2.2.2.2.2.1.1 (ix0 t).2.2.2.2.2.2.1.2 (fun _ => rfl) fun _ => rfl).symm)
    ((by decide +kernel : (cfg0.win 6).Covers).cover _ (Memref.isWhole_whole _))
theorem arr0_7 (G : Vec Ideal S8192x1024 .f32) (h : ∀ t : Fin cfg0.N, (dat0 V c).after 7 t = rows (n := 16) (b := 512) (D := 1024) rfl t G) :
    (dat0 V c).arrAt 7 cfg0.N = G :=
  (dat0 V c).arrAt_eq_of_cover 7 G (fun t _ => (h t).trans (rows_of (D := 1024) rfl t G ((cfg0.win 7).blk t).view.emb (ix0 t).2.2.2.2.2.2.2.1 (ix0 t).2.2.2.2.2.2.2.2 (fun _ => rfl) fun _ => rfl).symm)
    ((by decide +kernel : (cfg0.win 7).Covers).cover _ (Memref.isWhole_whole _))

/-! ## Call 1: 16 blocks of 512 rows -/

theorem ix1 : ∀ t : Fin cfg1.N, (win1_0.index t 0 = t.val ∧ win1_0.index t 1 = 0) ∧ (win1_1.index t 0 = t.val ∧ win1_1.index t 1 = 0) ∧ (win1_2.index t 0 = t.val ∧ win1_2.index t 1 = 0) ∧ (win1_3.index t 0 = t.val ∧ win1_3.index t 1 = 0) ∧ (win1_4.index t 0 = 0 ∧ win1_4.index t 1 = 0) ∧ (win1_5.index t 0 = 0 ∧ win1_5.index t 1 = 0) ∧ (win1_6.index t 0 = t.val ∧ win1_6.index t 1 = 0) ∧ (win1_7.index t 0 = t.val ∧ win1_7.index t 1 = 0) ∧ (win1_8.index t 0 = t.val ∧ win1_8.index t 1 = 0) ∧ (win1_9.index t 0 = 0 ∧ win1_9.index t 1 = 0) := by decide +kernel
/-- The last point. -/
abbrev last1 : Fin cfg1.N := ⟨15, by show _ < grid1.N; rw [N_1]; decide⟩
theorem blk1_0 (t : Fin cfg1.N) : (iblk1 V c 0 t : Vec Ideal S512x1024 .f32) = rows (n := 16) (b := 512) (T := 8192) (D := 1024) rfl t (V c main_v1_1) :=
  rows_of (D := 1024) rfl t (V c main_v1_1) ((cfg1.win 0).blk t).view.emb (ix1 t).1.1 (ix1 t).1.2 (fun _ => rfl) fun _ => rfl
theorem blk1_1 (t : Fin cfg1.N) : (iblk1 V c 1 t : Vec Ideal S512x1024 .f32) = rows (n := 16) (b := 512) (T := 8192) (D := 1024) rfl t (V c main_arg5) :=
  rows_of (D := 1024) rfl t (V c main_arg5) ((cfg1.win 1).blk t).view.emb (ix1 t).2.1.1 (ix1 t).2.1.2 (fun _ => rfl) fun _ => rfl
theorem blk1_2 (t : Fin cfg1.N) : (iblk1 V c 2 t : Vec Ideal S512x1024 .f32) = rows (n := 16) (b := 512) (T := 8192) (D := 1024) rfl t (V c main_arg0) :=
  rows_of (D := 1024) rfl t (V c main_arg0) ((cfg1.win 2).blk t).view.emb (ix1 t).2.2.1.1 (ix1 t).2.2.1.2 (fun _ => rfl) fun _ => rfl
theorem blk1_3 (t : Fin cfg1.N) : (iblk1 V c 3 t : Vec Ideal S512x1024 .f32) = rows (n := 16) (b := 512) (T := 8192) (D := 1024) rfl t (V c main_arg1) :=
  rows_of (D := 1024) rfl t (V c main_arg1) ((cfg1.win 3).blk t).view.emb (ix1 t).2.2.2.1.1 (ix1 t).2.2.2.1.2 (fun _ => rfl) fun _ => rfl
theorem blk1_4 (t : Fin cfg1.N) : (iblk1 V c 4 t : Vec Ideal S1x1024 .f32) = V c main_arg3 :=
  whole_of (V c main_arg3) ((cfg1.win 4).blk t).view.emb (ix1 t).2.2.2.2.1.1 (ix1 t).2.2.2.2.1.2 (fun _ => rfl) fun _ => rfl
theorem blk1_5 (t : Fin cfg1.N) : (iblk1 V c 5 t : Vec Ideal S1024x1024 .bf16) = V c main_v0 :=
  whole_of (V c main_v0) ((cfg1.win 5).blk t).view.emb (ix1 t).2.2.2.2.2.1.1 (ix1 t).2.2.2.2.2.1.2 (fun _ => rfl) fun _ => rfl
theorem arr1_6 (G : Vec Ideal S8192x1024 .bf16) (h : ∀ t : Fin cfg1.N, (dat1 V c).after 6 t = rows (n := 16) (b := 512) (D := 1024) rfl t G) :
    (dat1 V c).arrAt 6 cfg1.N = G :=
  (dat1 V c).arrAt_eq_of_cover 6 G (fun t _ => (h t).trans (rows_of (D := 1024) rfl t G ((cfg1.win 6).blk t).view.emb (ix1 t).2.2.2.2.2.2.1.1 (ix1 t).2.2.2.2.2.2.1.2 (fun _ => rfl) fun _ => rfl).symm)
    ((by decide +kernel : (cfg1.win 6).Covers).cover _ (Memref.isWhole_whole _))
theorem arr1_7 (G : Vec Ideal S8192x1024 .f32) (h : ∀ t : Fin cfg1.N, (dat1 V c).after 7 t = rows (n := 16) (b := 512) (D := 1024) rfl t G) :
    (dat1 V c).arrAt 7 cfg1.N = G :=
  (dat1 V c).arrAt_eq_of_cover 7 G (fun t _ => (h t).trans (rows_of (D := 1024) rfl t G ((cfg1.win 7).blk t).view.emb (ix1 t).2.2.2.2.2.2.2.1.1 (ix1 t).2.2.2.2.2.2.2.1.2 (fun _ => rfl) fun _ => rfl).symm)
    ((by decide +kernel : (cfg1.win 7).Covers).cover _ (Memref.isWhole_whole _))
theorem arr1_8 (G : Vec Ideal S8192x1024 .bf16) (h : ∀ t : Fin cfg1.N, (dat1 V c).after 8 t = rows (n := 16) (b := 512) (D := 1024) rfl t G) :
    (dat1 V c).arrAt 8 cfg1.N = G :=
  (dat1 V c).arrAt_eq_of_cover 8 G (fun t _ => (h t).trans (rows_of (D := 1024) rfl t G ((cfg1.win 8).blk t).view.emb (ix1 t).2.2.2.2.2.2.2.2.1.1 (ix1 t).2.2.2.2.2.2.2.2.1.2 (fun _ => rfl) fun _ => rfl).symm)
    ((by decide +kernel : (cfg1.win 8).Covers).cover _ (Memref.isWhole_whole _))
theorem arr1_9 (G : Vec Ideal S1x1024 .f32) (h : (dat1 V c).after 9 last1 = G) : (dat1 V c).arrAt 9 cfg1.N = G := by
  funext i
  exact ((dat1 V c).arrAt_emb_eq_after_last 9 last1 (by decide +kernel) i).trans (congrFun h i)

end Cert.Kernel6Ideal.Bout
-- ==== Proof.Gates.lean ====
/-
  The two gates' vocabulary: the logistic, the products, the norms and their gradients, entry by entry; and the slope of the
  logistic over the extended reals, in the two spellings the programs use.
-/
module

public import proofs.«01_k».proof.Proof.NormDefs
public import proofs.«01_k».proof.Proof.Calls

@[expose] public section

set_option maxRecDepth 16384

noncomputable section

namespace Cert.Proof.Gates

open Idealize.ShloMosaic

/-- The logistic, as the kernel spells it. -/
abbrev sg (x : EReal) : EReal := Ideal.div 1 (1 + Ideal.exp (0 - x))
/-- The gated rows. -/
abbrev GR (o gb : Vec Ideal ⟨2, ![8192, 1024]⟩ .f32) : Vec Ideal ⟨2, ![8192, 1024]⟩ .bf16 := fun i => o i * (gb i * sg (gb i))
/-- Their product with the weights. -/
abbrev YR (y : Vec Ideal ⟨2, ![8192, 1024]⟩ .bf16) (w : Vec Ideal ⟨2, ![1024, 1024]⟩ .bf16) : Vec Ideal ⟨2, ![8192, 1024]⟩ .f32 :=
  fun i => ∑ k : Fin 1024, y (ix2 (i 0) k) * w (ix2 k (i 1))
/-- The normed product added to what came around the layer. -/
abbrev XR (y x : Vec Ideal ⟨2, ![8192, 1024]⟩ .f32) (g : Vec Ideal ⟨2, ![1, 1024]⟩ .f32) : Vec Ideal ⟨2, ![8192, 1024]⟩ .f32 :=
  fun i => x i + y i * Norm.rs (fun k => y (ix2 (i 0) k)) * g (ix2 0 (i 1))
/-- The gradient of the product. -/
abbrev DY (y h : Vec Ideal ⟨2, ![8192, 1024]⟩ .f32) (g : Vec Ideal ⟨2, ![1, 1024]⟩ .f32) : Vec Ideal ⟨2, ![8192, 1024]⟩ .bf16 :=
  fun i => Norm.dx (fun k => y (ix2 (i 0) k)) (fun k => g (ix2 0 k)) (fun k => h (ix2 (i 0) k)) (i 1)
/-- The gradient of the gated rows. -/
abbrev DR (y h : Vec Ideal ⟨2, ![8192, 1024]⟩ .f32) (g : Vec Ideal ⟨2, ![1, 1024]⟩ .f32) (w : Vec Ideal ⟨2, ![1024, 1024]⟩ .bf16) : Vec Ideal ⟨2, ![8192, 1024]⟩ .f32 :=
  fun i => ∑ k : Fin 1024, DY y h g (ix2 (i 0) k) * w (ix2 (i 1) k)
/-- The gradient of the first factor of the gated rows. -/
abbrev DO (d gb : Vec Ideal ⟨2, ![8192, 1024]⟩ .f32) : Vec Ideal ⟨2, ![8192, 1024]⟩ .f32 := fun i => d i * (gb i * sg (gb i))
/-- The gradient of the gate's input. -/
abbrev DG (d o gb : Vec Ideal ⟨2, ![8192, 1024]⟩ .f32) : Vec Ideal ⟨2, ![8192, 1024]⟩ .bf16 := fun i =>
  o i * d i * sg (gb i) + (0 - (0 - gb i * (o i * d i) * Ideal.div 1 ((1 + Ideal.exp (0 - gb i)) * (1 + Ideal.exp (0 - gb i)))) * Ideal.exp (0 - gb i))

/-- What a point adds to the gradient of the norm's scale. -/
abbrev part (y h : Vec Ideal ⟨2, ![8192, 1024]⟩ .f32) (t : Fin 16) : Vec Ideal ⟨2, ![1, 1024]⟩ .f32 := fun i =>
  ∑ r : Fin 512, Norm.dg (fun k => y (ix2 (Calls.row (T := 8192) rfl t r) k)) (fun k => h (ix2 (Calls.row (T := 8192) rfl t r) k)) (i 1)

/-- The logistic's slope `σ(x) (1 - σ(x))` is `e / (1 + e)²` with `e = exp (-x)`, at the infinities too. -/
theorem slope (x : EReal) : Ideal.div 1 (1 + Ideal.exp (-x)) * (1 - Ideal.div 1 (1 + Ideal.exp (-x)))
    = Ideal.div 1 ((1 + Ideal.exp (-x)) * (1 + Ideal.exp (-x))) * Ideal.exp (-x) := by
  induction x using EReal.rec with
  | bot =>
    rw [EReal.neg_bot, Ideal.exp_top, EReal.add_top_of_ne_bot (by decide), EReal.top_mul_top]
    have h : Ideal.div 1 ⊤ = 0 := by unfold Ideal.div; simp
    rw [h, zero_mul, zero_mul]
  | top =>
    rw [EReal.neg_top, Ideal.exp_bot, add_zero, mul_one, mul_zero]
    have h : Ideal.div 1 1 = 1 := by
      rw [show (1 : EReal) = ((1 : ℝ) : EReal) from rfl, Ideal.div_coe one_ne_zero, ← EReal.coe_mul]; norm_num
    rw [h, one_mul]
    exact EReal.sub_self (by decide) (by decide)
  | coe r =>
    have hp : (0 : ℝ) < 1 + Real.exp (-r) := by have := Real.exp_pos (-r); linarith
    rw [← EReal.coe_neg, Ideal.exp_coe, show (1 : EReal) = ((1 : ℝ) : EReal) from rfl, ← EReal.coe_add, ← EReal.coe_mul,
      Ideal.div_coe hp.ne', Ideal.div_coe (mul_pos hp hp).ne']
    simp only [← EReal.coe_mul, ← EReal.coe_sub]
    refine congrArg (fun a : ℝ => (a : EReal)) ?_
    field_simp
    ring

/-- The gradient of the gate's input from its gradient `o · t`. -/
theorem gate (x o t : EReal) : o * t * Ideal.div 1 (1 + Ideal.exp (-x)) + x * (o * t) * (Ideal.div 1 (1 + Ideal.exp (-x)) * (1 - Ideal.div 1 (1 + Ideal.exp (-x))))
    = o * t * Ideal.div 1 (1 + Ideal.exp (-x))
      + -(-(x * (o * t) * Ideal.div 1 ((1 + Ideal.exp (-x)) * (1 + Ideal.exp (-x)))) * Ideal.exp (-x)) := by
  rw [slope, EReal.neg_mul, neg_neg, mul_assoc (x * (o * t))]

end Cert.Proof.Gates
-- ==== Proof.BoutValue.lean ====
/-
  What the second gate's calls leave: the gated rows, their product and the normed sum of the forward call; and the gradients
  of the product, of both gated inputs and of the norm's scale of the gradient call.
-/
module

public import proofs.«01_k».proof.Proof.BoutBlocks
public import proofs.«01_k».proof.Proof.Gates

@[expose] public section

set_option maxRecDepth 16384

noncomputable section

namespace Cert.Kernel6Ideal.Bout

open Cert.Kernel6Ideal Gen Cert.Proof.Calls Cert.Proof Gates
open Idealize.ShloMosaic TcCoe Idealize.SL.Sem
open Pipeline (Dat)

variable (V : (c : Dev nD) → (b : Ref sig .tc) → Buf (Elt Ideal) ((c : Thread nD τ).loc b)) (c : Dev nD)

theorem end0_5 : (dat0 V c).arrAt 5 cfg0.N = GR (V c main_arg0) (V c main_arg1) :=
  arr0_5 V c _ fun t => by
    rw [after0_5, blk0_0, blk0_1]
    funext j
    idx_vars j
    pointwise [k0_pay1] <;> rfl
theorem end0_6 : (dat0 V c).arrAt 6 cfg0.N = YR (GR (V c main_arg0) (V c main_arg1)) (V c main_v0) :=
  arr0_6 V c _ fun t => by
    rw [after0_6, blk0_0, blk0_1, blk0_4]
    funext j
    idx_vars j
    pointwise [k0_pay1, k0_pay2] <;> rfl
theorem end0_7 : (dat0 V c).arrAt 7 cfg0.N = XR (YR (GR (V c main_arg0) (V c main_arg1)) (V c main_v0)) (V c main_arg2) (V c main_arg3) :=
  arr0_7 V c _ fun t => by
    rw [after0_7, blk0_0, blk0_1, blk0_2, blk0_3, blk0_4]
    funext j
    idx_vars j
    pointwise [k0_pay1, k0_pay2, k0_pay3] <;> rfl

theorem end1_6 : (dat1 V c).arrAt 6 cfg1.N = DY (V c main_v1_1) (V c main_arg5) (V c main_arg3) :=
  arr1_6 V c _ fun t => by
    rw [after1_6, blk1_0, blk1_1, blk1_4]
    funext j
    idx_vars j
    pointwise [k1_pay10, k1_pay2, k1_pay8, k1_pay9, k1_pay7, k1_pay5, k1_pay4] <;> rfl
theorem end1_7 : (dat1 V c).arrAt 7 cfg1.N =
    DO (DR (V c main_v1_1) (V c main_arg5) (V c main_arg3) (V c main_v0)) (V c main_arg1) :=
  arr1_7 V c _ fun t => by
    rw [after1_7, blk1_0, blk1_1, blk1_3, blk1_4, blk1_5]
    funext j
    idx_vars j
    pointwise [k1_pay15, k1_pay14, k1_pay13, k1_pay12, k1_pay11, k1_pay3, k1_pay10, k1_pay2, k1_pay8, k1_pay9, k1_pay7, k1_pay5, k1_pay4] <;> rfl
theorem end1_8 : (dat1 V c).arrAt 8 cfg1.N =
    DG (DR (V c main_v1_1) (V c main_arg5) (V c main_arg3) (V c main_v0)) (V c main_arg0) (V c main_arg1) :=
  arr1_8 V c _ fun t => by
    rw [after1_8, blk1_0, blk1_1, blk1_2, blk1_3, blk1_4, blk1_5]
    funext j
    idx_vars j
    pointwise [k1_pay16, k1_pay14, k1_pay13, k1_pay12, k1_pay11, k1_pay3, k1_pay10, k1_pay2, k1_pay8, k1_pay9, k1_pay7, k1_pay5, k1_pay4] <;> rfl

theorem part_val (t : Fin cfg1.N) : (k1_pay6 (iblk1 V c 0 t) (iblk1 V c 1 t) : Vec Ideal S1x1024 .f32) = part (V c main_v1_1) (V c main_arg5) t := by
  rw [blk1_0, blk1_1]
  funext j
  idx_vars j
  pointwise [k1_pay6, k1_pay2, k1_pay5, k1_pay4] <;> rfl
theorem end1_9 : (dat1 V c).arrAt 9 cfg1.N = fun i => ∑ t : Fin 16, part (V c main_v1_1) (V c main_arg5) t i :=
  arr1_9 V c _ (by
    rw [after1_9]
    exact sum_points (sums1 V c) (fun t => part (V c main_v1_1) (V c main_arg5) t) (fun h => part_val V c ⟨0, h⟩) (fun n h => by
      rw [← part_val V c ⟨n + 1, h⟩]
      show k1_pay1 _ _ = _
      unfold k1_pay1
      rw [shapeCast_self]
      rfl) 15 last1.isLt)

end Cert.Kernel6Ideal.Bout
-- ==== Proof.BoutClaims.lean ====
/-
  The claim of the second gate's calls: their six results are the reference's, index by index over the extended reals.
-/
module

public import proofs.«01_k».proof.Defs
public import proofs.«01_k».proof.Proof.BoutValue
public import proofs.«01_k».proof.Proof.Gen.Reference6Ideal.Run

@[expose] public section

set_option maxRecDepth 16384

noncomputable section

namespace Cert.Proof.Bout

open Idealize.ShloMosaic TcCoe Idealize.SL.Sem
open Cert.Kernel6Ideal Gen Bout Cert.Proof.Gates

/-! ## The kernel's results -/

section
variable (m : (ℓ : Loc nD τ sig) → Buf (Elt Ideal) ℓ) (ρ : Dev nD → PrngReg) (c : Dev nD)

abbrev y5 (o gb : Vec Ideal S8192x1024 .f32) (w : Vec Ideal S1024x1024 .f32) : Vec Ideal S8192x1024 .f32 := YR (GR o gb) w

theorem v1 (a : Ref sig .tc) (h : a ∈ argRefs) : V1 m ρ c a = m ((c.tc : Thread nD τ).loc a) := W1_args m ρ c a h
theorem v2 (a : Ref sig .tc) (h : a ∈ argRefs) : V2 m ρ c a = m ((c.tc : Thread nD τ).loc a) := W2_args m ρ c a h
theorem cast_w : (V1 m ρ c main_v0 : Vec Ideal S1024x1024 .bf16) = (m ((c.tc : Thread nD τ).loc main_arg4) : Vec Ideal S1024x1024 .f32) := by
  show (StableHlo.after hostOps0 (W0 m ρ c) (Proc.devRef .tc main_v0) : S1024x1024.Idx → EReal) = _
  after_results_simp <;> rfl
theorem y_of : (V2 m ρ c main_v1_1 : Vec Ideal S8192x1024 .f32)
    = y5 (m ((c.tc : Thread nD τ).loc main_arg0)) (m ((c.tc : Thread nD τ).loc main_arg1)) (m ((c.tc : Thread nD τ).loc main_arg4)) := by
  refine (arr_after0 m ρ c 6).symm.trans ((end0_6 (V1 m ρ) c).trans ?_)
  rw [v1 m ρ c main_arg0 (by decide), v1 m ρ c main_arg1 (by decide), cast_w]
theorem w_of : (V2 m ρ c main_v0 : Vec Ideal S1024x1024 .bf16) = (m ((c.tc : Thread nD τ).loc main_arg4) : Vec Ideal S1024x1024 .f32) :=
  (W2_of m ρ c main_v0 (by decide +kernel)).trans (cast_w m ρ c)
theorem r0 : V3 m ρ c main_v1_0 = GR (m ((c.tc : Thread nD τ).loc main_arg0)) (m ((c.tc : Thread nD τ).loc main_arg1)) := by
  refine (W3_of m ρ c main_v1_0 (by decide +kernel)).trans ((arr_after0 m ρ c 5).symm.trans ((end0_5 (V1 m ρ) c).trans ?_))
  rw [v1 m ρ c main_arg0 (by decide), v1 m ρ c main_arg1 (by decide)]
theorem r1 : V3 m ρ c main_v1_2 = XR (y5 (m ((c.tc : Thread nD τ).loc main_arg0)) (m ((c.tc : Thread nD τ).loc main_arg1)) (m ((c.tc : Thread nD τ).loc main_arg4)))
    (m ((c.tc : Thread nD τ).loc main_arg2)) (m ((c.tc : Thread nD τ).loc main_arg3)) := by
  refine (W3_of m ρ c main_v1_2 (by decide +kernel)).trans ((arr_after0 m ρ c 7).symm.trans ((end0_7 (V1 m ρ) c).trans ?_))
  rw [v1 m ρ c main_arg0 (by decide), v1 m ρ c main_arg1 (by decide), v1 m ρ c main_arg2 (by decide),
    v1 m ρ c main_arg3 (by decide), cast_w]
theorem r2 : V3 m ρ c main_v2_0 = DY (y5 (m ((c.tc : Thread nD τ).loc main_arg0)) (m ((c.tc : Thread nD τ).loc main_arg1)) (m ((c.tc : Thread nD τ).loc main_arg4)))
    (m ((c.tc : Thread nD τ).loc main_arg5)) (m ((c.tc : Thread nD τ).loc main_arg3)) := by
  refine (arr_after1 m ρ c 6).symm.trans ((end1_6 (V2 m ρ) c).trans ?_)
  rw [y_of, v2 m ρ c main_arg5 (by decide), v2 m ρ c main_arg3 (by decide)]
theorem r3 : V3 m ρ c main_v2_1 = DO (DR (y5 (m ((c.tc : Thread nD τ).loc main_arg0)) (m ((c.tc : Thread nD τ).loc main_arg1)) (m ((c.tc : Thread nD τ).loc main_arg4)))
    (m ((c.tc : Thread nD τ).loc main_arg5)) (m ((c.tc : Thread nD τ).loc main_arg3)) (m ((c.tc : Thread nD τ).loc main_arg4))) (m ((c.tc : Thread nD τ).loc main_arg1)) := by
  refine (arr_after1 m ρ c 7).symm.trans ((end1_7 (V2 m ρ) c).trans ?_)
  rw [y_of, w_of, v2 m ρ c main_arg5 (by decide), v2 m ρ c main_arg3 (by decide), v2 m ρ c main_arg1 (by decide)]
theorem r4 : V3 m ρ c main_v2_2 = DG (DR (y5 (m ((c.tc : Thread nD τ).loc main_arg0)) (m ((c.tc : Thread nD τ).loc main_arg1)) (m ((c.tc : Thread nD τ).loc main_arg4)))
    (m ((c.tc : Thread nD τ).loc main_arg5)) (m ((c.tc : Thread nD τ).loc main_arg3)) (m ((c.tc : Thread nD τ).loc main_arg4)))
    (m ((c.tc : Thread nD τ).loc main_arg0)) (m ((c.tc : Thread nD τ).loc main_arg1)) := by
  refine (arr_after1 m ρ c 8).symm.trans ((end1_8 (V2 m ρ) c).trans ?_)
  rw [y_of, w_of, v2 m ρ c main_arg5 (by decide), v2 m ρ c main_arg3 (by decide), v2 m ρ c main_arg1 (by decide), v2 m ρ c main_arg0 (by decide)]
theorem r5 : V3 m ρ c main_v2_3 = fun i => ∑ t : Fin 16, part (y5 (m ((c.tc : Thread nD τ).loc main_arg0)) (m ((c.tc : Thread nD τ).loc main_arg1))
    (m ((c.tc : Thread nD τ).loc main_arg4))) (m ((c.tc : Thread nD τ).loc main_arg5)) t i := by
  refine (arr_after1 m ρ c 9).symm.trans ((end1_9 (V2 m ρ) c).trans ?_)
  rw [y_of, v2 m ρ c main_arg5 (by decide)]
end

set_option maxHeartbeats 2000000 in
theorem algebraic : Cert.algebraic_Kernel6Ideal_Reference6Ideal := by
  intro m ρ m' ρ' _ hagree
  refine ⟨fun c => V3 m ρ c main_v1_0, fun c => V3 m ρ c main_v1_2, fun c => V3 m ρ c main_v2_0, fun c => V3 m ρ c main_v2_1,
    fun c => V3 m ρ c main_v2_2, fun c => V3 m ρ c main_v2_3, ?_, ?_⟩
  · refine (θ_run defs _ _).mono (fun r h c => ?_) (run_all (F := Ideal) m ρ)
    have hk : ∀ a ∈ argRefs, r.2.mem ((c.tc : Thread nD τ).loc a) = m ((c.tc : Thread nD τ).loc a) := fun a ha =>
      (h.1 c _ (Region.mem_uc a ((by decide : ∀ a ∈ argRefs, ¬ (Proc.devRef .tc a : DevRef τ sig).isScoped) a ha))).trans (W3_args m ρ c a ha)
    exact ⟨h.1 c _ (Region.mem_uc main_v1_0 (by decide)), h.1 c _ (Region.mem_uc main_v1_2 (by decide)), h.1 c _ (Region.mem_uc main_v2_0 (by decide)),
      h.1 c _ (Region.mem_uc main_v2_1 (by decide)), h.1 c _ (Region.mem_uc main_v2_2 (by decide)), h.1 c _ (Region.mem_uc main_v2_3 (by decide)),
      hk _ (by decide), hk _ (by decide), hk _ (by decide), hk _ (by decide), hk _ (by decide), hk _ (by decide)⟩
  refine (θ_run Cert.Reference6Ideal.defs _ _).mono (fun r h c => ?_) (Cert.Reference6Ideal.Value.run (F := Ideal) m' ρ')
  obtain ⟨h0, h1, h2, h3, h4, h5, hk⟩ := h c
  obtain ⟨a0, a1, a2, a3, a4, a5⟩ := hagree c
  clear hagree
  refine ⟨h0.trans ?_, h1.trans ?_, h2.trans ?_, h3.trans ?_, h4.trans ?_, h5.trans ?_, hk⟩ <;> clear h h0 h1 h2 h3 h4 h5 hk
  · refine Eq.trans ?_ (r0 m ρ c).symm
    rw [a0, a1]
    funext j
    idx_vars j
    pointwise
    simp only [y5, GR, YR, XR, DY, DR, DO, DG, part, sg, zero_sub, ix2_0, ix2_1]
  · refine Eq.trans ?_ (r1 m ρ c).symm
    rw [a0, a1, a2, a3, a4]
    funext j
    idx_vars j
    pointwise
    simp only [y5, GR, YR, XR, DY, DR, DO, DG, part, sg, zero_sub, ix2_0, ix2_1]
  · refine Eq.trans ?_ (r2 m ρ c).symm
    unfold Cert.Reference6Ideal.Value.res_main_v91
    rw [a0, a1, a3, a4, a5]
    funext j
    idx_vars j
    pointwise
    simp only [y5, GR, YR, XR, DY, DR, DO, DG, part, sg, zero_sub, ix2_0, ix2_1]
  · refine Eq.trans ?_ (r3 m ρ c).symm
    unfold Cert.Reference6Ideal.Value.res_main_v73
    rw [a0, a1, a3, a4, a5]
    funext j
    idx_vars j
    pointwise
    simp only [y5, GR, YR, XR, DY, DR, DO, DG, part, sg, zero_sub, ix2_0, ix2_1]
  · refine Eq.trans ?_ (r4 m ρ c).symm
    unfold Cert.Reference6Ideal.Value.res_main_v92
    rw [a0, a1, a3, a4, a5]
    funext j
    idx_vars j
    pointwise
    simp only [y5, GR, YR, XR, DY, DR, DO, DG, part, sg, zero_sub, ix2_0, ix2_1]
    exact Gates.gate _ _ _
  · refine Eq.trans ?_ (r5 m ρ c).symm
    rw [a0, a1, a4, a5]
    funext j
    idx_vars j
    pointwise
    rw [Sums.sum_blocks (n := 16) (b := 512) (by norm_num) _ (fun s r => by omega)]
    simp only [y5, GR, YR, XR, DY, DR, DO, DG, part, sg, zero_sub, ix2_0, ix2_1]

end Cert.Proof.Bout
-- ==== Proof.TailRun.lean ====
/-
  What each call of the first gate's program leaves in its blocks: every output whole, and the sums over the rows block by block.
-/
module

public import proofs.«01_k».proof.Proof.Calls
public import proofs.«01_k».proof.Proof.Gen.Kernel7Ideal.Skeleton
public import proofs.«01_k».proof.Proof.Gen.Kernel7Ideal.Launch
public import proofs.«01_k».proof.Proof.Gen.Kernel7Ideal.Points
public import Idealize.ShloMosaic.Lib.Pipeline.TableIdle
public import Idealize.ShloMosaic.Lib.Pipeline.RegionsLoop
public import Idealize.ShloMosaic.Lib.Pipeline.FrameSuffix
public import Idealize.ShloMosaic.Lib.VecWindow

@[expose] public section

set_option maxRecDepth 16384

noncomputable section

namespace Cert.Kernel7Ideal.Tail

open Cert.Kernel7Ideal Gen Cert.Proof.Calls
open Idealize.ShloMosaic TcCoe Tactic
open Idealize.SL RA BI BIBase Laws ProofMode Sem
open Rounds
open Pipeline (Dat Cfg Window BodyObligation cellOf)

variable {F : FTy → Type} [FloatOps F]

local notation "𝕄" => MT nD τ sig Unit (Elt F) ℕ (UR sig nD τ) ℕ

abbrev 𝒱₀ : Variants := Variants.nat
/-- A core's whole buffer at contents `x`. -/
abbrev ow {S : Shape} {e : EltTy} (c : Dev nD) (a : Memref sig .tc .vmem S e) (x : Vec F S e) : sProp 𝕄 := owns (c : Thread nD τ) a fullShare x

/-! ## Call 0 -/

/-- What call 0 leaves in its output 4 from its blocks. -/
abbrev o0_4 (x1 x2 : Vec F S512x1024 .f32) (x3 : Vec F S1x1024 .f32) (x4 : Vec F S1024x1024 .bf16) : Vec F S512x1024 .bf16 :=
  (k0_pay1 x1 x2 x3)
/-- What call 0 leaves in its output 5 from its blocks. -/
abbrev o0_5 (x1 x2 : Vec F S512x1024 .f32) (x3 : Vec F S1x1024 .f32) (x4 : Vec F S1024x1024 .bf16) : Vec F S512x1024 .f32 :=
  (k0_pay2 x1 x2 x3 x4)
set_option maxHeartbeats 4000000 in
theorem body0 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S512x1024 .f32) (harg6 : arg6.IsWhole)
    (x1 x2 : Vec F S512x1024 .f32) (x3 : Vec F S1x1024 .f32) (x4 : Vec F S1024x1024 .bf16)   (E : Set ℕ) (Q : PUnit → sProp 𝕄) :
    iprop((ow c arg1 x1 ∗ ow c arg2 x2 ∗ ow c arg3 x3 ∗ ow c arg4 x4 ∗ (∃ x, ow c arg5 x) ∗ (∃ x, ow c arg6 x))
      ∗ ((ow c arg1 x1 ∗ ow c arg2 x2 ∗ ow c arg3 x3 ∗ ow c arg4 x4 ∗ ow c arg5 (o0_4 x1 x2 x3 x4) ∗ ow c arg6 (o0_5 x1 x2 x3 x4)) -∗ Q ⟨⟩))
      ⊢ wp frame (wpE (defs₀ (F := F)) 𝒱₀ c none) E (cc0_a_gelu_glu i arg1 harg1 arg2 harg2 arg3 harg3 arg4 harg4 arg5 harg5 arg6 harg6) Q := by
  simp only [cc0_a_gelu_glu_eq_skeleton]; unfold cc0_a_gelu_glu_skel
  unfold ow owns
  iintro ⟨⟨⟨%f1, %hf1, H1⟩, ⟨%f2, %hf2, H2⟩, ⟨%f3, %hf3, H3⟩, ⟨%f4, %hf4, H4⟩, ⟨%x5, ⟨%f5, %hf5, H5⟩⟩, ⟨%x6, ⟨%f6, %hf6, H6⟩⟩⟩, Hk⟩
  have e1 := (load_whole arg1 f1 ![0, 0] off2 inb_S512x1024_S512x1024_0_0).trans hf1
  have e2 := (load_whole arg2 f2 ![0, 0] off2 inb_S512x1024_S512x1024_0_0).trans hf2
  have e3 := (load_whole arg3 f3 ![0, 0] off2 inb_S1x1024_S1x1024_0_0).trans hf3
  have e4 := (load_whole arg4 f4 ![0, 0] off2 inb_S1024x1024_S1024x1024_0_0).trans hf4
  sl_exec
  simp only [wp_ret]
  imodintro
  iapply Hk
  isplitl [H1]; rotate_left; isplitl [H2]; rotate_left; isplitl [H3]; rotate_left; isplitl [H4]; rotate_left; isplitl [H5]; rotate_left
  all_goals iexists _; isplitr; swap; iassumption; ipureintro; first | with_reducible assumption | exact (View.read_writes_full _ _ _ _ _).trans (by subst e1 e2 e3 e4; rfl)

/-! ## Call 1 -/

/-- What call 1 leaves in its output 9 from its blocks. -/
abbrev o1_9 (x1 x2 x3 x4 x5 : Vec F S256x1024 .f32) (x6 x7 x8 : Vec F S1x1024 .f32) (x9 : Vec F S1024x1024 .bf16) : Vec F S256x1024 .bf16 :=
  (k1_pay1 x4 (k1_pay5 x1 x2 x6) (k1_pay6 x3 x7) (Scalar.ofBits .f32 0x3F800000#32))
/-- What call 1 leaves in its output 10 from its blocks. -/
abbrev o1_10 (x1 x2 x3 x4 x5 : Vec F S256x1024 .f32) (x6 x7 x8 : Vec F S1x1024 .f32) (x9 : Vec F S1024x1024 .bf16) : Vec F S256x1024 .f32 :=
  (k1_pay2 x4 (k1_pay4 x9) (k1_pay5 x1 x2 x6) (k1_pay6 x3 x7) (Scalar.ofBits .f32 0x3F800000#32))
/-- What call 1 leaves in its output 11 from its blocks. -/
abbrev o1_11 (x1 x2 x3 x4 x5 : Vec F S256x1024 .f32) (x6 x7 x8 : Vec F S1x1024 .f32) (x9 : Vec F S1024x1024 .bf16) : Vec F S256x1024 .f32 :=
  (k1_pay3 x4 x5 x8 (k1_pay4 x9) (k1_pay5 x1 x2 x6) (k1_pay6 x3 x7) (Scalar.ofBits .f32 0x3F800000#32))
set_option maxHeartbeats 4000000 in
theorem body1 (c : Dev nD) (i : grid1.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S256x1024 .f32) (harg12 : arg12.IsWhole)
    (x1 x2 x3 x4 x5 : Vec F S256x1024 .f32) (x6 x7 x8 : Vec F S1x1024 .f32) (x9 : Vec F S1024x1024 .bf16)   (E : Set ℕ) (Q : PUnit → sProp 𝕄) :
    iprop((ow c arg1 x1 ∗ ow c arg2 x2 ∗ ow c arg3 x3 ∗ ow c arg4 x4 ∗ ow c arg5 x5 ∗ ow c arg6 x6 ∗ ow c arg7 x7 ∗ ow c arg8 x8 ∗ ow c arg9 x9 ∗ (∃ x, ow c arg10 x) ∗ (∃ x, ow c arg11 x) ∗ (∃ x, ow c arg12 x))
      ∗ ((ow c arg1 x1 ∗ ow c arg2 x2 ∗ ow c arg3 x3 ∗ ow c arg4 x4 ∗ ow c arg5 x5 ∗ ow c arg6 x6 ∗ ow c arg7 x7 ∗ ow c arg8 x8 ∗ ow c arg9 x9 ∗ ow c arg10 (o1_9 x1 x2 x3 x4 x5 x6 x7 x8 x9) ∗ ow c arg11 (o1_10 x1 x2 x3 x4 x5 x6 x7 x8 x9) ∗ ow c arg12 (o1_11 x1 x2 x3 x4 x5 x6 x7 x8 x9)) -∗ Q ⟨⟩))
      ⊢ wp frame (wpE (defs₀ (F := F)) 𝒱₀ c none) E (cc1_a_gate_out_norm i arg1 harg1 arg2 harg2 arg3 harg3 arg4 harg4 arg5 harg5 arg6 harg6 arg7 harg7 arg8 harg8 arg9 harg9 arg10 harg10 arg11 harg11 arg12 harg12) Q := by
  simp only [cc1_a_gate_out_norm_eq_skeleton]; unfold cc1_a_gate_out_norm_skel
  simp only [k1_part1_eq_skeleton]
  unfold ow owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%x10, ⟨%f10, %hf10, H10⟩⟩, ⟨%x11, ⟨%f11, %hf11, H11⟩⟩, ⟨%x12, ⟨%f12, %hf12, H12⟩⟩⟩, Hk⟩
  have e1 := (load_whole arg1 f1 ![0, 0] off2 inb_S256x1024_S256x1024_0_0).trans hf1
  have e2 := (load_whole arg2 f2 ![0, 0] off2 inb_S256x1024_S256x1024_0_0).trans hf2
  have e3 := (load_whole arg3 f3 ![0, 0] off2 inb_S256x1024_S256x1024_0_0).trans hf3
  have e4 := (load_whole arg4 f4 ![0, 0] off2 inb_S256x1024_S256x1024_0_0).trans hf4
  have e5 := (load_whole arg5 f5 ![0, 0] off2 inb_S256x1024_S256x1024_0_0).trans hf5
  have e6 := (load_whole arg6 f6 ![0, 0] off2 inb_S1x1024_S1x1024_0_0).trans hf6
  have e7 := (load_whole arg7 f7 ![0, 0] off2 inb_S1x1024_S1x1024_0_0).trans hf7
  have e8 := (load_whole arg8 f8 ![0, 0] off2 inb_S1x1024_S1x1024_0_0).trans hf8
  have e9 := (load_whole arg9 f9 ![0, 0] off2 inb_S1024x1024_S1024x1024_0_0).trans hf9
  sl_exec
  simp only [wp_ret]
  imodintro
  iapply Hk
  isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [H9]; rotate_left; isplitl [H10]; rotate_left; isplitl [H11]; rotate_left
  all_goals iexists _; isplitr; swap; iassumption; ipureintro; first | with_reducible assumption | exact (View.read_writes_full _ _ _ _ _).trans (by subst e1 e2 e3 e4 e5 e6 e7 e8 e9; rfl)

/-! ## Call 2 -/

/-- What call 2 leaves in its output 4 from its blocks. -/
abbrev o2_4 (x1 x2 : Vec F S512x1024 .f32) (x3 : Vec F S1x1024 .f32) (x4 : Vec F S1024x1024 .bf16) : Vec F S512x1024 .f32 :=
  (k2_pay7 x1 x2 x3 x4)
/-- What call 2 leaves in its output 5 from its blocks. -/
abbrev o2_5 (x1 x2 : Vec F S512x1024 .f32) (x3 : Vec F S1x1024 .f32) (x4 : Vec F S1024x1024 .bf16) : Vec F S512x1024 .bf16 :=
  (k2_pay6 x1 x2 x3)
/-- What call 2 starts its sum 6 at, and what it makes of the sum `x7` later. -/
abbrev o2_6A (x1 x2 : Vec F S512x1024 .f32) (x3 : Vec F S1x1024 .f32) (x4 : Vec F S1024x1024 .bf16) : Vec F S1x1024 .f32 :=
  (k2_pay5 x1 x2)
abbrev o2_6B (x1 x2 : Vec F S512x1024 .f32) (x3 : Vec F S1x1024 .f32) (x4 : Vec F S1024x1024 .bf16) (x7 : Vec F S1x1024 .f32) : Vec F S1x1024 .f32 :=
  (k2_pay1 (k2_pay5 x1 x2) x7)
theorem c2_1 : ∀ t : Fin grid2.N, k2_cond1 (grid2.coords t) = 1#1 ↔ t.val = 0 := by decide +kernel
theorem c2_2 : ∀ t : Fin grid2.N, k2_cond2 (grid2.coords t) = 1#1 ↔ ¬ t.val = 0 := by decide +kernel
set_option maxHeartbeats 4000000 in
theorem body2A (c : Dev nD) (i : grid2.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole)
    (x1 x2 : Vec F S512x1024 .f32) (x3 : Vec F S1x1024 .f32) (x4 : Vec F S1024x1024 .bf16)  (h1 : k2_cond1 i = 1#1) (h2 : ¬ k2_cond2 i = 1#1) (E : Set ℕ) (Q : PUnit → sProp 𝕄) :
    iprop((ow c arg1 x1 ∗ ow c arg2 x2 ∗ ow c arg3 x3 ∗ ow c arg4 x4 ∗ (∃ x, ow c arg5 x) ∗ (∃ x, ow c arg6 x) ∗ (∃ x, ow c arg7 x))
      ∗ ((ow c arg1 x1 ∗ ow c arg2 x2 ∗ ow c arg3 x3 ∗ ow c arg4 x4 ∗ ow c arg5 (o2_4 x1 x2 x3 x4) ∗ ow c arg6 (o2_5 x1 x2 x3 x4) ∗ ow c arg7 (o2_6A x1 x2 x3 x4)) -∗ Q ⟨⟩))
      ⊢ wp frame (wpE (defs₀ (F := F)) 𝒱₀ c none) E (cc2_a_norm_post_bwd i arg1 harg1 arg2 harg2 arg3 harg3 arg4 harg4 arg5 harg5 arg6 harg6 arg7 harg7) Q := by
  simp only [cc2_a_norm_post_bwd_eq_skeleton]; unfold cc2_a_norm_post_bwd_skel
  simp only [k2_part1_eq_skeleton]
  unfold ow owns
  iintro ⟨⟨⟨%f1, %hf1, H1⟩, ⟨%f2, %hf2, H2⟩, ⟨%f3, %hf3, H3⟩, ⟨%f4, %hf4, H4⟩, ⟨%x5, ⟨%f5, %hf5, H5⟩⟩, ⟨%x6, ⟨%f6, %hf6, H6⟩⟩, ⟨%x7, ⟨%f7, %hf7, H7⟩⟩⟩, Hk⟩
  have e1 := (load_whole arg1 f1 ![0, 0] off2 inb_S512x1024_S512x1024_0_0).trans hf1
  have e2 := (load_whole arg2 f2 ![0, 0] off2 inb_S512x1024_S512x1024_0_0).trans hf2
  have e3 := (load_whole arg3 f3 ![0, 0] off2 inb_S1x1024_S1x1024_0_0).trans hf3
  have e4 := (load_whole arg4 f4 ![0, 0] off2 inb_S1024x1024_S1024x1024_0_0).trans hf4
  sl_exec (disch := first | sl_exact h1 | sl_exact h2)
  simp only [wp_ret]
  imodintro
  iapply Hk
  isplitl [H1]; rotate_left; isplitl [H2]; rotate_left; isplitl [H3]; rotate_left; isplitl [H4]; rotate_left; isplitl [H5]; rotate_left; isplitl [H6]; rotate_left
  all_goals iexists _; isplitr; swap; iassumption; ipureintro; first | with_reducible assumption | exact (View.read_writes_full _ _ _ _ _).trans (by subst e1 e2 e3 e4; rfl)

set_option maxHeartbeats 4000000 in
theorem body2B (c : Dev nD) (i : grid2.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole)
    (x1 x2 : Vec F S512x1024 .f32) (x3 : Vec F S1x1024 .f32) (x4 : Vec F S1024x1024 .bf16) (x7 : Vec F S1x1024 .f32) (h2 : k2_cond2 i = 1#1) (h1 : ¬ k2_cond1 i = 1#1) (E : Set ℕ) (Q : PUnit → sProp 𝕄) :
    iprop((ow c arg1 x1 ∗ ow c arg2 x2 ∗ ow c arg3 x3 ∗ ow c arg4 x4 ∗ (∃ x, ow c arg5 x) ∗ (∃ x, ow c arg6 x) ∗ ow c arg7 x7)
      ∗ ((ow c arg1 x1 ∗ ow c arg2 x2 ∗ ow c arg3 x3 ∗ ow c arg4 x4 ∗ ow c arg5 (o2_4 x1 x2 x3 x4) ∗ ow c arg6 (o2_5 x1 x2 x3 x4) ∗ ow c arg7 (o2_6B x1 x2 x3 x4 x7)) -∗ Q ⟨⟩))
      ⊢ wp frame (wpE (defs₀ (F := F)) 𝒱₀ c none) E (cc2_a_norm_post_bwd i arg1 harg1 arg2 harg2 arg3 harg3 arg4 harg4 arg5 harg5 arg6 harg6 arg7 harg7) Q := by
  simp only [cc2_a_norm_post_bwd_eq_skeleton]; unfold cc2_a_norm_post_bwd_skel
  simp only [k2_part1_eq_skeleton]
  unfold ow owns
  iintro ⟨⟨⟨%f1, %hf1, H1⟩, ⟨%f2, %hf2, H2⟩, ⟨%f3, %hf3, H3⟩, ⟨%f4, %hf4, H4⟩, ⟨%x5, ⟨%f5, %hf5, H5⟩⟩, ⟨%x6, ⟨%f6, %hf6, H6⟩⟩, ⟨%f7, %hf7, H7⟩⟩, Hk⟩
  have e1 := (load_whole arg1 f1 ![0, 0] off2 inb_S512x1024_S512x1024_0_0).trans hf1
  have e2 := (load_whole arg2 f2 ![0, 0] off2 inb_S512x1024_S512x1024_0_0).trans hf2
  have e3 := (load_whole arg3 f3 ![0, 0] off2 inb_S1x1024_S1x1024_0_0).trans hf3
  have e4 := (load_whole arg4 f4 ![0, 0] off2 inb_S1024x1024_S1024x1024_0_0).trans hf4
  have e7 := (load_whole arg7 f7 ![0, 0] off2 inb_S1x1024_S1x1024_0_0).trans hf7
  sl_exec (disch := first | sl_exact h1 | sl_exact h2)
  simp only [wp_ret]
  imodintro
  iapply Hk
  isplitl [H1]; rotate_left; isplitl [H2]; rotate_left; isplitl [H3]; rotate_left; isplitl [H4]; rotate_left; isplitl [H5]; rotate_left; isplitl [H6]; rotate_left
  all_goals iexists _; isplitr; swap; iassumption; ipureintro; first | with_reducible assumption | exact (View.read_writes_full _ _ _ _ _).trans (by subst e1 e2 e3 e4 e7; rfl)

/-! ## Call 3 -/

/-- What call 3 leaves in its output 8 from its blocks. -/
abbrev o3_8 (x1 x2 x3 x4 x5 : Vec F S256x1024 .f32) (x6 x7 : Vec F S1x1024 .f32) (x8 : Vec F S1024x1024 .bf16) : Vec F S256x1024 .bf16 :=
  (k3_pay24 x4 (k3_pay2 x5) (k3_pay11 x1 x2 x6) (k3_pay12 x3 x7))
/-- What call 3 leaves in its output 9 from its blocks. -/
abbrev o3_9 (x1 x2 x3 x4 x5 : Vec F S256x1024 .f32) (x6 x7 : Vec F S1x1024 .f32) (x8 : Vec F S1024x1024 .bf16) : Vec F S256x1024 .bf16 :=
  (k3_pay28 (k3_pay20 x4 (k3_pay2 x5) (k3_pay11 x1 x2 x6) (k3_pay12 x3 x7)))
/-- What call 3 leaves in its output 10 from its blocks. -/
abbrev o3_10 (x1 x2 x3 x4 x5 : Vec F S256x1024 .f32) (x6 x7 : Vec F S1x1024 .f32) (x8 : Vec F S1024x1024 .bf16) : Vec F S256x1024 .f32 :=
  (k3_pay25 (k3_pay3 x8) (k3_pay4 x1 x2 x6) (k3_pay5 x1 x2 x6) (k3_pay6 x1 x2 x6) (k3_pay7 x1 x2 x6) (k3_pay9 x1 x2 x6) (k3_pay10 x1 x2 x6) (k3_pay21 x4 (k3_pay2 x5) (k3_pay12 x3 x7)) (k3_pay24 x4 (k3_pay2 x5) (k3_pay11 x1 x2 x6) (k3_pay12 x3 x7)))
/-- What call 3 leaves in its output 11 from its blocks. -/
abbrev o3_11 (x1 x2 x3 x4 x5 : Vec F S256x1024 .f32) (x6 x7 : Vec F S1x1024 .f32) (x8 : Vec F S1024x1024 .bf16) : Vec F S256x1024 .f32 :=
  (k3_pay26 x6 (k3_pay3 x8) (k3_pay4 x1 x2 x6) (k3_pay5 x1 x2 x6) (k3_pay6 x1 x2 x6) (k3_pay7 x1 x2 x6) (k3_pay9 x1 x2 x6) (k3_pay10 x1 x2 x6) (k3_pay21 x4 (k3_pay2 x5) (k3_pay12 x3 x7)) (k3_pay24 x4 (k3_pay2 x5) (k3_pay11 x1 x2 x6) (k3_pay12 x3 x7)))
/-- What call 3 starts its sum 12 at, and what it makes of the sum `x13` later. -/
abbrev o3_12A (x1 x2 x3 x4 x5 : Vec F S256x1024 .f32) (x6 x7 : Vec F S1x1024 .f32) (x8 : Vec F S1024x1024 .bf16) : Vec F S1x1024 .f32 :=
  (k3_pay23 x4 (k3_pay2 x5) (k3_pay11 x1 x2 x6) (k3_pay12 x3 x7))
abbrev o3_12B (x1 x2 x3 x4 x5 : Vec F S256x1024 .f32) (x6 x7 : Vec F S1x1024 .f32) (x8 : Vec F S1024x1024 .bf16) (x13 : Vec F S1x1024 .f32) : Vec F S1x1024 .f32 :=
  (k3_pay29 (k3_pay23 x4 (k3_pay2 x5) (k3_pay11 x1 x2 x6) (k3_pay12 x3 x7)) x13)
/-- What call 3 starts its sum 13 at, and what it makes of the sum `x14` later. -/
abbrev o3_13A (x1 x2 x3 x4 x5 : Vec F S256x1024 .f32) (x6 x7 : Vec F S1x1024 .f32) (x8 : Vec F S1024x1024 .bf16) : Vec F S1x1024 .f32 :=
  (k3_pay27 x2 (k3_pay3 x8) (k3_pay4 x1 x2 x6) (k3_pay5 x1 x2 x6) (k3_pay6 x1 x2 x6) (k3_pay7 x1 x2 x6) (k3_pay9 x1 x2 x6) (k3_pay10 x1 x2 x6) (k3_pay21 x4 (k3_pay2 x5) (k3_pay12 x3 x7)) (k3_pay24 x4 (k3_pay2 x5) (k3_pay11 x1 x2 x6) (k3_pay12 x3 x7)))
abbrev o3_13B (x1 x2 x3 x4 x5 : Vec F S256x1024 .f32) (x6 x7 : Vec F S1x1024 .f32) (x8 : Vec F S1024x1024 .bf16) (x14 : Vec F S1x1024 .f32) : Vec F S1x1024 .f32 :=
  (k3_pay1 (k3_pay27 x2 (k3_pay3 x8) (k3_pay4 x1 x2 x6) (k3_pay5 x1 x2 x6) (k3_pay6 x1 x2 x6) (k3_pay7 x1 x2 x6) (k3_pay9 x1 x2 x6) (k3_pay10 x1 x2 x6) (k3_pay21 x4 (k3_pay2 x5) (k3_pay12 x3 x7)) (k3_pay24 x4 (k3_pay2 x5) (k3_pay11 x1 x2 x6) (k3_pay12 x3 x7))) x14)
theorem c3_1 : ∀ t : Fin grid3.N, k3_cond1 (grid3.coords t) = 1#1 ↔ t.val = 0 := by decide +kernel
theorem c3_3 : ∀ t : Fin grid3.N, k3_cond3 (grid3.coords t) = 1#1 ↔ t.val = 0 := by decide +kernel
theorem c3_2 : ∀ t : Fin grid3.N, k3_cond2 (grid3.coords t) = 1#1 ↔ ¬ t.val = 0 := by decide +kernel
theorem c3_4 : ∀ t : Fin grid3.N, k3_cond4 (grid3.coords t) = 1#1 ↔ ¬ t.val = 0 := by decide +kernel
set_option maxHeartbeats 4000000 in
theorem body3A (c : Dev nD) (i : grid3.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S1x1024 .f32) (harg13 : arg13.IsWhole) (arg14 : Memref sig .tc .vmem S1x1024 .f32) (harg14 : arg14.IsWhole)
    (x1 x2 x3 x4 x5 : Vec F S256x1024 .f32) (x6 x7 : Vec F S1x1024 .f32) (x8 : Vec F S1024x1024 .bf16)  (h1 : k3_cond1 i = 1#1) (h3 : k3_cond3 i = 1#1) (h2 : ¬ k3_cond2 i = 1#1) (h4 : ¬ k3_cond4 i = 1#1) (E : Set ℕ) (Q : PUnit → sProp 𝕄) :
    iprop((ow c arg1 x1 ∗ ow c arg2 x2 ∗ ow c arg3 x3 ∗ ow c arg4 x4 ∗ ow c arg5 x5 ∗ ow c arg6 x6 ∗ ow c arg7 x7 ∗ ow c arg8 x8 ∗ (∃ x, ow c arg9 x) ∗ (∃ x, ow c arg10 x) ∗ (∃ x, ow c arg11 x) ∗ (∃ x, ow c arg12 x) ∗ (∃ x, ow c arg13 x) ∗ (∃ x, ow c arg14 x))
      ∗ ((ow c arg1 x1 ∗ ow c arg2 x2 ∗ ow c arg3 x3 ∗ ow c arg4 x4 ∗ ow c arg5 x5 ∗ ow c arg6 x6 ∗ ow c arg7 x7 ∗ ow c arg8 x8 ∗ ow c arg9 (o3_8 x1 x2 x3 x4 x5 x6 x7 x8) ∗ ow c arg10 (o3_9 x1 x2 x3 x4 x5 x6 x7 x8) ∗ ow c arg11 (o3_10 x1 x2 x3 x4 x5 x6 x7 x8) ∗ ow c arg12 (o3_11 x1 x2 x3 x4 x5 x6 x7 x8) ∗ ow c arg13 (o3_12A x1 x2 x3 x4 x5 x6 x7 x8) ∗ ow c arg14 (o3_13A x1 x2 x3 x4 x5 x6 x7 x8)) -∗ Q ⟨⟩))
      ⊢ wp frame (wpE (defs₀ (F := F)) 𝒱₀ c none) E (cc3_a_gate_bwd i arg1 harg1 arg2 harg2 arg3 harg3 arg4 harg4 arg5 harg5 arg6 harg6 arg7 harg7 arg8 harg8 arg9 harg9 arg10 harg10 arg11 harg11 arg12 harg12 arg13 harg13 arg14 harg14) Q := by
  simp only [cc3_a_gate_bwd_eq_skeleton]; unfold cc3_a_gate_bwd_skel
  simp only [k3_part1_eq_skeleton, k3_part2_eq_skeleton, k3_part3_eq_skeleton]
  unfold ow owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%x9, ⟨%f9, %hf9, H9⟩⟩, ⟨%x10, ⟨%f10, %hf10, H10⟩⟩, ⟨%x11, ⟨%f11, %hf11, H11⟩⟩, ⟨%x12, ⟨%f12, %hf12, H12⟩⟩, ⟨%x13, ⟨%f13, %hf13, H13⟩⟩, ⟨%x14, ⟨%f14, %hf14, H14⟩⟩⟩, Hk⟩
  have e1 := (load_whole arg1 f1 ![0, 0] off2 inb_S256x1024_S256x1024_0_0).trans hf1
  have e2 := (load_whole arg2 f2 ![0, 0] off2 inb_S256x1024_S256x1024_0_0).trans hf2
  have e3 := (load_whole arg3 f3 ![0, 0] off2 inb_S256x1024_S256x1024_0_0).trans hf3
  have e4 := (load_whole arg4 f4 ![0, 0] off2 inb_S256x1024_S256x1024_0_0).trans hf4
  have e5 := (load_whole arg5 f5 ![0, 0] off2 inb_S256x1024_S256x1024_0_0).trans hf5
  have e6 := (load_whole arg6 f6 ![0, 0] off2 inb_S1x1024_S1x1024_0_0).trans hf6
  have e7 := (load_whole arg7 f7 ![0, 0] off2 inb_S1x1024_S1x1024_0_0).trans hf7
  have e8 := (load_whole arg8 f8 ![0, 0] off2 inb_S1024x1024_S1024x1024_0_0).trans hf8
  sl_exec (disch := first | sl_exact h1 | sl_exact h2 | sl_exact h3 | sl_exact h4)
  simp only [wp_ret]
  imodintro
  iapply Hk
  isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [H9]; rotate_left; isplitl [H10]; rotate_left; isplitl [H11]; rotate_left; isplitl [H12]; rotate_left; isplitl [H13]; rotate_left
  all_goals iexists _; isplitr; swap; iassumption; ipureintro; first | with_reducible assumption | exact (View.read_writes_full _ _ _ _ _).trans (by subst e1 e2 e3 e4 e5 e6 e7 e8; rfl)

set_option maxHeartbeats 4000000 in
theorem body3B (c : Dev nD) (i : grid3.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S1x1024 .f32) (harg13 : arg13.IsWhole) (arg14 : Memref sig .tc .vmem S1x1024 .f32) (harg14 : arg14.IsWhole)
    (x1 x2 x3 x4 x5 : Vec F S256x1024 .f32) (x6 x7 : Vec F S1x1024 .f32) (x8 : Vec F S1024x1024 .bf16) (x13 x14 : Vec F S1x1024 .f32) (h2 : k3_cond2 i = 1#1) (h4 : k3_cond4 i = 1#1) (h1 : ¬ k3_cond1 i = 1#1) (h3 : ¬ k3_cond3 i = 1#1) (E : Set ℕ) (Q : PUnit → sProp 𝕄) :
    iprop((ow c arg1 x1 ∗ ow c arg2 x2 ∗ ow c arg3 x3 ∗ ow c arg4 x4 ∗ ow c arg5 x5 ∗ ow c arg6 x6 ∗ ow c arg7 x7 ∗ ow c arg8 x8 ∗ (∃ x, ow c arg9 x) ∗ (∃ x, ow c arg10 x) ∗ (∃ x, ow c arg11 x) ∗ (∃ x, ow c arg12 x) ∗ ow c arg13 x13 ∗ ow c arg14 x14)
      ∗ ((ow c arg1 x1 ∗ ow c arg2 x2 ∗ ow c arg3 x3 ∗ ow c arg4 x4 ∗ ow c arg5 x5 ∗ ow c arg6 x6 ∗ ow c arg7 x7 ∗ ow c arg8 x8 ∗ ow c arg9 (o3_8 x1 x2 x3 x4 x5 x6 x7 x8) ∗ ow c arg10 (o3_9 x1 x2 x3 x4 x5 x6 x7 x8) ∗ ow c arg11 (o3_10 x1 x2 x3 x4 x5 x6 x7 x8) ∗ ow c arg12 (o3_11 x1 x2 x3 x4 x5 x6 x7 x8) ∗ ow c arg13 (o3_12B x1 x2 x3 x4 x5 x6 x7 x8 x13) ∗ ow c arg14 (o3_13B x1 x2 x3 x4 x5 x6 x7 x8 x14)) -∗ Q ⟨⟩))
      ⊢ wp frame (wpE (defs₀ (F := F)) 𝒱₀ c none) E (cc3_a_gate_bwd i arg1 harg1 arg2 harg2 arg3 harg3 arg4 harg4 arg5 harg5 arg6 harg6 arg7 harg7 arg8 harg8 arg9 harg9 arg10 harg10 arg11 harg11 arg12 harg12 arg13 harg13 arg14 harg14) Q := by
  simp only [cc3_a_gate_bwd_eq_skeleton]; unfold cc3_a_gate_bwd_skel
  simp only [k3_part1_eq_skeleton, k3_part2_eq_skeleton, k3_part3_eq_skeleton]
  unfold ow owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%x9, ⟨%f9, %hf9, H9⟩⟩, ⟨%x10, ⟨%f10, %hf10, H10⟩⟩, ⟨%x11, ⟨%f11, %hf11, H11⟩⟩, ⟨%x12, ⟨%f12, %hf12, H12⟩⟩, ⟨%f13, %hf13, H13⟩, ⟨%f14, %hf14, H14⟩⟩, Hk⟩
  have e1 := (load_whole arg1 f1 ![0, 0] off2 inb_S256x1024_S256x1024_0_0).trans hf1
  have e2 := (load_whole arg2 f2 ![0, 0] off2 inb_S256x1024_S256x1024_0_0).trans hf2
  have e3 := (load_whole arg3 f3 ![0, 0] off2 inb_S256x1024_S256x1024_0_0).trans hf3
  have e4 := (load_whole arg4 f4 ![0, 0] off2 inb_S256x1024_S256x1024_0_0).trans hf4
  have e5 := (load_whole arg5 f5 ![0, 0] off2 inb_S256x1024_S256x1024_0_0).trans hf5
  have e6 := (load_whole arg6 f6 ![0, 0] off2 inb_S1x1024_S1x1024_0_0).trans hf6
  have e7 := (load_whole arg7 f7 ![0, 0] off2 inb_S1x1024_S1x1024_0_0).trans hf7
  have e8 := (load_whole arg8 f8 ![0, 0] off2 inb_S1024x1024_S1024x1024_0_0).trans hf8
  have e13 := (load_whole arg13 f13 ![0, 0] off2 inb_S1x1024_S1x1024_0_0).trans hf13
  have e14 := (load_whole arg14 f14 ![0, 0] off2 inb_S1x1024_S1x1024_0_0).trans hf14
  sl_exec (disch := first | sl_exact h1 | sl_exact h2 | sl_exact h3 | sl_exact h4)
  simp only [wp_ret]
  imodintro
  iapply Hk
  isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [H9]; rotate_left; isplitl [H10]; rotate_left; isplitl [H11]; rotate_left; isplitl [H12]; rotate_left; isplitl [H13]; rotate_left
  all_goals iexists _; isplitr; swap; iassumption; ipureintro; first | with_reducible assumption | exact (View.read_writes_full _ _ _ _ _).trans (by subst e1 e2 e3 e4 e5 e6 e7 e8 e13 e14; rfl)

end Cert.Kernel7Ideal.Tail
-- ==== Proof.TailDat.lean ====
/-
  The contents of every buffer of the calls of the first gate's program, point by point, and that the calls' bodies leave them.
-/
module

public import proofs.«01_k».proof.Proof.TailRun

@[expose] public section

set_option maxRecDepth 16384

noncomputable section

namespace Cert.Kernel7Ideal.Tail

open Cert.Kernel7Ideal Gen Cert.Proof.Calls
open Idealize.ShloMosaic TcCoe Tactic
open Idealize.SL RA BI BIBase Laws ProofMode Sem
open Rounds
open Pipeline (Dat Cfg Window BodyObligation cellOf)

variable {F : FTy → Type} [FloatOps F]

local notation "𝕄" => MT nD τ sig Unit (Elt F) ℕ (UR sig nD τ) ℕ

section Regions

-- the buffers' contents as a call finds them
variable (V : (c : Dev nD) → (b : Ref sig .tc) → Buf (Elt F) ((c : Thread nD τ).loc b))

/-- Window `w`'s block of call 0's array at point `t`. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- Call 0's proof data. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => o0_4 (iblk0 V c 0 t) (iblk0 V c 1 t) (iblk0 V c 2 t) (iblk0 V c 3 t)
    | ⟨5, _⟩ => o0_5 (iblk0 V c 0 t) (iblk0 V c 1 t) (iblk0 V c 2 t) (iblk0 V c 3 t)
  Φ _ := Pipeline.ΦA spec0 c
  q _ := fullShare
  owed _ := 0
theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = o0_4 (iblk0 V c 0 t) (iblk0 V c 1 t) (iblk0 V c 2 t) (iblk0 V c 3 t) := by dsimp only [dat0]
theorem after0_5 (c : Dev nD) (t : Fin cfg0.N) : (dat0 V c).after 5 t = o0_5 (iblk0 V c 0 t) (iblk0 V c 1 t) (iblk0 V c 2 t) (iblk0 V c 3 t) := by dsimp only [dat0]
theorem before0_0 (c : Dev nD) (t : Fin cfg0.N) (d) : (dat0 V c).before 0 t d = iblk0 V c 0 t :=
  Dat.before_in_eq_fetched (dat0 V c) 0 rfl (fun _ => rfl) (fun _ _ _ => rfl) (fun _ => rfl) t d
theorem before0_1 (c : Dev nD) (t : Fin cfg0.N) (d) : (dat0 V c).before 1 t d = iblk0 V c 1 t :=
  Dat.before_in_eq_fetched (dat0 V c) 1 rfl (fun _ => rfl) (fun _ _ _ => rfl) (fun _ => rfl) t d
theorem before0_2 (c : Dev nD) (t : Fin cfg0.N) (d) : (dat0 V c).before 2 t d = iblk0 V c 2 t :=
  Dat.before_in_eq_fetched (dat0 V c) 2 rfl (fun _ => rfl) (fun _ _ _ => rfl) (fun _ => rfl) t d
theorem before0_3 (c : Dev nD) (t : Fin cfg0.N) (d) : (dat0 V c).before 3 t d = iblk0 V c 3 t :=
  Dat.before_in_eq_fetched (dat0 V c) 3 rfl (fun _ => rfl) (fun _ _ _ => rfl) (fun _ => rfl) t d

/-- What the body is called with at point `t`, and what it returns. -/
def bodyPre0 (c : Dev nD) (t : Fin cfg0.N) : sProp 𝕄 :=
  iprop((dat0 V c).Φ t.castSucc ∗ (dat0 V c).owesAt () t.castSucc
    ∗ (∃ d, ow c (st0_0 t) ((dat0 V c).before 0 t d))
    ∗ (∃ d, ow c (st0_1 t) ((dat0 V c).before 1 t d))
    ∗ (∃ d, ow c (st0_2 t) ((dat0 V c).before 2 t d))
    ∗ (∃ d, ow c (st0_3 t) ((dat0 V c).before 3 t d))
    ∗ (∃ d, ow c (st0_4 t) ((dat0 V c).before 4 t d))
    ∗ (∃ d, ow c (st0_5 t) ((dat0 V c).before 5 t d)))
def bodyPost0 (c : Dev nD) (t : Fin cfg0.N) : sProp 𝕄 :=
  iprop((dat0 V c).Φ t.succ ∗ (dat0 V c).owesAt () t.succ
    ∗ ow c (st0_0 t) ((dat0 V c).after 0 t)
    ∗ ow c (st0_1 t) ((dat0 V c).after 1 t)
    ∗ ow c (st0_2 t) ((dat0 V c).after 2 t)
    ∗ ow c (st0_3 t) ((dat0 V c).after 3 t)
    ∗ ow c (st0_4 t) ((dat0 V c).after 4 t)
    ∗ ow c (st0_5 t) ((dat0 V c).after 5 t))

theorem body_ok0 (c : Dev nD) (t : Fin cfg0.N) :
    bodyPre0 V c t ⊢ wp frame (wpE (defs₀ (F := F)) 𝒱₀ c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (body0 c (grid0.coords t) _ _ _ _ _ _ _ _ _ _ _ _ (iblk0 V c 0 t) (iblk0 V c 1 t) (iblk0 V c 2 t) (iblk0 V c 3 t)
     Set.univ _)
  isplitl [H0 H1 H2 H3 H4 H5]
  · isplitl [H0]; rotate_left; isplitl [H1]; rotate_left; isplitl [H2]; rotate_left; isplitl [H3]; rotate_left; isplitl [H4]; rotate_left
    all_goals first | iassumption | (iexists _; iassumption)
  iintro Hr
  isplitl [HΦ]; · iexact HΦ
  isplitl [Ho]; · iexact Ho
  iexact Hr

theorem row_defs0 (t : Fin cfg0.N) : defs₀ (F := F) .tc cfg0.body (cfg0.bodyArgs t (cfg0.slots t)) = bodyAt0 t := by
  unfold defs₀; rw [Defs.onTc_tc]
theorem obligation0 (c : Dev nD) : BodyObligation (dat0 (F := F) V c) (defs₀ (F := F)) 𝒱₀ () Set.univ := fun t => by
  rw [bigSep_W0, bigSep_W0, row_defs0]
  exact triple_restated (body_ok0 V c t) rfl .rfl fun _ => .rfl

/-- Window `w`'s block of call 1's array at point `t`. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- Call 1's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => o1_9 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨10, _⟩ => o1_10 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨11, _⟩ => o1_11 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0
theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = o1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_10 (c : Dev nD) (t : Fin cfg1.N) : (dat1 V c).after 10 t = o1_10 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_11 (c : Dev nD) (t : Fin cfg1.N) : (dat1 V c).after 11 t = o1_11 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem before1_0 (c : Dev nD) (t : Fin cfg1.N) (d) : (dat1 V c).before 0 t d = iblk1 V c 0 t :=
  Dat.before_in_eq_fetched (dat1 V c) 0 rfl (fun _ => rfl) (fun _ _ _ => rfl) (fun _ => rfl) t d
theorem before1_1 (c : Dev nD) (t : Fin cfg1.N) (d) : (dat1 V c).before 1 t d = iblk1 V c 1 t :=
  Dat.before_in_eq_fetched (dat1 V c) 1 rfl (fun _ => rfl) (fun _ _ _ => rfl) (fun _ => rfl) t d
theorem before1_2 (c : Dev nD) (t : Fin cfg1.N) (d) : (dat1 V c).before 2 t d = iblk1 V c 2 t :=
  Dat.before_in_eq_fetched (dat1 V c) 2 rfl (fun _ => rfl) (fun _ _ _ => rfl) (fun _ => rfl) t d
theorem before1_3 (c : Dev nD) (t : Fin cfg1.N) (d) : (dat1 V c).before 3 t d = iblk1 V c 3 t :=
  Dat.before_in_eq_fetched (dat1 V c) 3 rfl (fun _ => rfl) (fun _ _ _ => rfl) (fun _ => rfl) t d
theorem before1_4 (c : Dev nD) (t : Fin cfg1.N) (d) : (dat1 V c).before 4 t d = iblk1 V c 4 t :=
  Dat.before_in_eq_fetched (dat1 V c) 4 rfl (fun _ => rfl) (fun _ _ _ => rfl) (fun _ => rfl) t d
theorem before1_5 (c : Dev nD) (t : Fin cfg1.N) (d) : (dat1 V c).before 5 t d = iblk1 V c 5 t :=
  Dat.before_in_eq_fetched (dat1 V c) 5 rfl (fun _ => rfl) (fun _ _ _ => rfl) (fun _ => rfl) t d
theorem before1_6 (c : Dev nD) (t : Fin cfg1.N) (d) : (dat1 V c).before 6 t d = iblk1 V c 6 t :=
  Dat.before_in_eq_fetched (dat1 V c) 6 rfl (fun _ => rfl) (fun _ _ _ => rfl) (fun _ => rfl) t d
theorem before1_7 (c : Dev nD) (t : Fin cfg1.N) (d) : (dat1 V c).before 7 t d = iblk1 V c 7 t :=
  Dat.before_in_eq_fetched (dat1 V c) 7 rfl (fun _ => rfl) (fun _ _ _ => rfl) (fun _ => rfl) t d
theorem before1_8 (c : Dev nD) (t : Fin cfg1.N) (d) : (dat1 V c).before 8 t d = iblk1 V c 8 t :=
  Dat.before_in_eq_fetched (dat1 V c) 8 rfl (fun _ => rfl) (fun _ _ _ => rfl) (fun _ => rfl) t d

/-- What the body is called with at point `t`, and what it returns. -/
def bodyPre1 (c : Dev nD) (t : Fin cfg1.N) : sProp 𝕄 :=
  iprop((dat1 V c).Φ t.castSucc ∗ (dat1 V c).owesAt () t.castSucc
    ∗ (∃ d, ow c (st1_0 t) ((dat1 V c).before 0 t d))
    ∗ (∃ d, ow c (st1_1 t) ((dat1 V c).before 1 t d))
    ∗ (∃ d, ow c (st1_2 t) ((dat1 V c).before 2 t d))
    ∗ (∃ d, ow c (st1_3 t) ((dat1 V c).before 3 t d))
    ∗ (∃ d, ow c (st1_4 t) ((dat1 V c).before 4 t d))
    ∗ (∃ d, ow c (st1_5 t) ((dat1 V c).before 5 t d))
    ∗ (∃ d, ow c (st1_6 t) ((dat1 V c).before 6 t d))
    ∗ (∃ d, ow c (st1_7 t) ((dat1 V c).before 7 t d))
    ∗ (∃ d, ow c (st1_8 t) ((dat1 V c).before 8 t d))
    ∗ (∃ d, ow c (st1_9 t) ((dat1 V c).before 9 t d))
    ∗ (∃ d, ow c (st1_10 t) ((dat1 V c).before 10 t d))
    ∗ (∃ d, ow c (st1_11 t) ((dat1 V c).before 11 t d)))
def bodyPost1 (c : Dev nD) (t : Fin cfg1.N) : sProp 𝕄 :=
  iprop((dat1 V c).Φ t.succ ∗ (dat1 V c).owesAt () t.succ
    ∗ ow c (st1_0 t) ((dat1 V c).after 0 t)
    ∗ ow c (st1_1 t) ((dat1 V c).after 1 t)
    ∗ ow c (st1_2 t) ((dat1 V c).after 2 t)
    ∗ ow c (st1_3 t) ((dat1 V c).after 3 t)
    ∗ ow c (st1_4 t) ((dat1 V c).after 4 t)
    ∗ ow c (st1_5 t) ((dat1 V c).after 5 t)
    ∗ ow c (st1_6 t) ((dat1 V c).after 6 t)
    ∗ ow c (st1_7 t) ((dat1 V c).after 7 t)
    ∗ ow c (st1_8 t) ((dat1 V c).after 8 t)
    ∗ ow c (st1_9 t) ((dat1 V c).after 9 t)
    ∗ ow c (st1_10 t) ((dat1 V c).after 10 t)
    ∗ ow c (st1_11 t) ((dat1 V c).after 11 t))

theorem body_ok1 (c : Dev nD) (t : Fin cfg1.N) :
    bodyPre1 V c t ⊢ wp frame (wpE (defs₀ (F := F)) 𝒱₀ c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body1 c (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t)
     Set.univ _)
  isplitl [H0 H1 H2 H3 H4 H5 H6 H7 H8 H9 H10 H11]
  · isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [H9]; rotate_left; isplitl [H10]; rotate_left
    all_goals first | iassumption | (iexists _; iassumption)
  iintro Hr
  isplitl [HΦ]; · iexact HΦ
  isplitl [Ho]; · iexact Ho
  iexact Hr

theorem row_defs1 (t : Fin cfg1.N) : defs₀ (F := F) .tc cfg1.body (cfg1.bodyArgs t (cfg1.slots t)) = bodyAt1 t := by
  unfold defs₀; rw [Defs.onTc_tc]
theorem obligation1 (c : Dev nD) : BodyObligation (dat1 (F := F) V c) (defs₀ (F := F)) 𝒱₀ () Set.univ := fun t => by
  rw [bigSep_W1, bigSep_W1, row_defs1]
  exact triple_restated (body_ok1 V c t) rfl .rfl fun _ => .rfl

/-- Window `w`'s block of call 2's array at point `t`. -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The sums of call 2 after point `n`. -/
def sums2 (c : Dev nD) : (n : ℕ) → n < cfg2.N → Vec F S1x1024 .f32
  | 0, hn => o2_6A (iblk2 V c 0 ⟨0, hn⟩) (iblk2 V c 1 ⟨0, hn⟩) (iblk2 V c 2 ⟨0, hn⟩) (iblk2 V c 3 ⟨0, hn⟩)
  | n + 1, hn => o2_6B (iblk2 V c 0 ⟨n + 1, hn⟩) (iblk2 V c 1 ⟨n + 1, hn⟩) (iblk2 V c 2 ⟨n + 1, hn⟩) (iblk2 V c 3 ⟨n + 1, hn⟩) (sums2 c n (Nat.lt_of_succ_lt hn))
theorem sums2_first (c : Dev nD) (t : Fin cfg2.N) (h : t.val = 0) :
    sums2 V c t.val t.isLt = o2_6A (iblk2 V c 0 t) (iblk2 V c 1 t) (iblk2 V c 2 t) (iblk2 V c 3 t) := by
  obtain ⟨n, hn⟩ := t; obtain rfl : n = 0 := h; rfl
theorem sums2_next (c : Dev nD) (t : Fin cfg2.N) (h : ¬ t.val = 0) :
    sums2 V c t.val t.isLt = o2_6B (iblk2 V c 0 t) (iblk2 V c 1 t) (iblk2 V c 2 t) (iblk2 V c 3 t) (sums2 V c (t.val - 1) (Nat.lt_of_le_of_lt (Nat.sub_le _ _) t.isLt)) := by
  obtain ⟨n, hn⟩ := t
  cases n with
  | zero => exact absurd rfl h
  | succ n => rfl

/-- Call 2's proof data. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => o2_4 (iblk2 V c 0 t) (iblk2 V c 1 t) (iblk2 V c 2 t) (iblk2 V c 3 t)
    | ⟨5, _⟩ => o2_5 (iblk2 V c 0 t) (iblk2 V c 1 t) (iblk2 V c 2 t) (iblk2 V c 3 t)
    | ⟨6, _⟩ => (sums2 V c t.val t.isLt)
  Φ _ := Pipeline.ΦA spec2 c
  q _ := fullShare
  owed _ := 0
theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = o2_4 (iblk2 V c 0 t) (iblk2 V c 1 t) (iblk2 V c 2 t) (iblk2 V c 3 t) := by dsimp only [dat2]
theorem after2_5 (c : Dev nD) (t : Fin cfg2.N) : (dat2 V c).after 5 t = o2_5 (iblk2 V c 0 t) (iblk2 V c 1 t) (iblk2 V c 2 t) (iblk2 V c 3 t) := by dsimp only [dat2]
theorem after2_6 (c : Dev nD) (t : Fin cfg2.N) : (dat2 V c).after 6 t = (sums2 V c t.val t.isLt) := by dsimp only [dat2]
theorem before2_0 (c : Dev nD) (t : Fin cfg2.N) (d) : (dat2 V c).before 0 t d = iblk2 V c 0 t :=
  Dat.before_in_eq_fetched (dat2 V c) 0 rfl (fun _ => rfl) (fun _ _ _ => rfl) (fun _ => rfl) t d
theorem before2_1 (c : Dev nD) (t : Fin cfg2.N) (d) : (dat2 V c).before 1 t d = iblk2 V c 1 t :=
  Dat.before_in_eq_fetched (dat2 V c) 1 rfl (fun _ => rfl) (fun _ _ _ => rfl) (fun _ => rfl) t d
theorem before2_2 (c : Dev nD) (t : Fin cfg2.N) (d) : (dat2 V c).before 2 t d = iblk2 V c 2 t :=
  Dat.before_in_eq_fetched (dat2 V c) 2 rfl (fun _ => rfl) (fun _ _ _ => rfl) (fun _ => rfl) t d
theorem before2_3 (c : Dev nD) (t : Fin cfg2.N) (d) : (dat2 V c).before 3 t d = iblk2 V c 3 t :=
  Dat.before_in_eq_fetched (dat2 V c) 3 rfl (fun _ => rfl) (fun _ _ _ => rfl) (fun _ => rfl) t d

/-- A sum holds nothing of this call before its first point only. -/
def fresh2 : ℕ → Bool := fun n => n % 16 == 0
theorem live2_6 : ∀ t : Fin cfg2.N, cfg2.idle 6 (grid2.coords t) = false := by decide +kernel
theorem fresh2_6 (t : Fin cfg2.N) : cfg2.fresh 6 t.val = fresh2 t.val :=
  Pipeline.Cfg.fresh_tab cfg2 6 fresh2 rfl (fun t => by
    have h := flush2_6 t
    have hi : cfg2.idle 6 (cfg2.grid.coords t) = false := live2_6 t
    rw [hi, Bool.false_and, Bool.or_false, Bool.eq_iff_iff, h]
    unfold fresh2; rw [beq_iff_eq]; omega) t.val (Nat.le_of_lt t.isLt)
theorem before2_6 (c : Dev nD) (t : Fin cfg2.N) (h : ¬ t.val = 0) (d) :
    (dat2 V c).before 6 t d = (sums2 V c (t.val - 1) (Nat.lt_of_le_of_lt (Nat.sub_le _ _) t.isLt)) := by
  have ht : t.val < 16 := Nat.lt_of_lt_of_eq t.isLt N_2
  rw [Dat.before_out_traj _ 6 rfl (fun _ _ => rfl) (fun t _ hi _ => absurd (hi.symm.trans (live2_6 t)) (by decide)) t.val t rfl d,
    if_neg (by rw [fresh2_6 t]; unfold fresh2; rw [beq_iff_eq]; omega)]
  dsimp only [dat2]

/-- What the body is called with at point `t`, and what it returns. -/
def bodyPre2 (c : Dev nD) (t : Fin cfg2.N) : sProp 𝕄 :=
  iprop((dat2 V c).Φ t.castSucc ∗ (dat2 V c).owesAt () t.castSucc
    ∗ (∃ d, ow c (st2_0 t) ((dat2 V c).before 0 t d))
    ∗ (∃ d, ow c (st2_1 t) ((dat2 V c).before 1 t d))
    ∗ (∃ d, ow c (st2_2 t) ((dat2 V c).before 2 t d))
    ∗ (∃ d, ow c (st2_3 t) ((dat2 V c).before 3 t d))
    ∗ (∃ d, ow c (st2_4 t) ((dat2 V c).before 4 t d))
    ∗ (∃ d, ow c (st2_5 t) ((dat2 V c).before 5 t d))
    ∗ (∃ d, ow c (st2_6 t) ((dat2 V c).before 6 t d)))
def bodyPost2 (c : Dev nD) (t : Fin cfg2.N) : sProp 𝕄 :=
  iprop((dat2 V c).Φ t.succ ∗ (dat2 V c).owesAt () t.succ
    ∗ ow c (st2_0 t) ((dat2 V c).after 0 t)
    ∗ ow c (st2_1 t) ((dat2 V c).after 1 t)
    ∗ ow c (st2_2 t) ((dat2 V c).after 2 t)
    ∗ ow c (st2_3 t) ((dat2 V c).after 3 t)
    ∗ ow c (st2_4 t) ((dat2 V c).after 4 t)
    ∗ ow c (st2_5 t) ((dat2 V c).after 5 t)
    ∗ (dat2 V c).leavesExact 6 t)

theorem body_ok2 (c : Dev nD) (t : Fin cfg2.N) :
    bodyPre2 V c t ⊢ wp frame (wpE (defs₀ (F := F)) 𝒱₀ c none) Set.univ (bodyAt2 t) (fun _ => bodyPost2 V c t) := by
  unfold bodyPre2 bodyPost2 bodyAt2
  rw [show (dat2 V c).leavesExact 6 t = ow c (st2_6 t) ((dat2 V c).after 6 t) from by
    unfold Dat.leavesExact; rw [live2_6 t]]
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  by_cases h : t.val = 0
  · rw [sums2_first V c t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body2A c (grid2.coords t) _ _ _ _ _ _ _ _ _ _ _ _ _ _ (iblk2 V c 0 t) (iblk2 V c 1 t) (iblk2 V c 2 t) (iblk2 V c 3 t)
      ((c2_1 t).mpr h) (fun e => (c2_2 t).mp e h) Set.univ _)
    isplitl [H0 H1 H2 H3 H4 H5 H6]
    · isplitl [H0]; rotate_left; isplitl [H1]; rotate_left; isplitl [H2]; rotate_left; isplitl [H3]; rotate_left; isplitl [H4]; rotate_left; isplitl [H5]; rotate_left
      all_goals first | iassumption | (iexists _; iassumption)
    iintro Hr
    isplitl [HΦ]; · iexact HΦ
    isplitl [Ho]; · iexact Ho
    iexact Hr
  · simp only [before2_6 V c t h]
    rw [sums2_next V c t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body2B c (grid2.coords t) _ _ _ _ _ _ _ _ _ _ _ _ _ _ (iblk2 V c 0 t) (iblk2 V c 1 t) (iblk2 V c 2 t) (iblk2 V c 3 t) _
      ((c2_2 t).mpr h) (fun e => h ((c2_1 t).mp e)) Set.univ _)
    isplitl [H0 H1 H2 H3 H4 H5 H6]
    · isplitl [H0]; rotate_left; isplitl [H1]; rotate_left; isplitl [H2]; rotate_left; isplitl [H3]; rotate_left; isplitl [H4]; rotate_left; isplitl [H5]; rotate_left
      all_goals first | iassumption | (iexists _; iassumption)
    iintro Hr
    isplitl [HΦ]; · iexact HΦ
    isplitl [Ho]; · iexact Ho
    iexact Hr

theorem row_defs2 (t : Fin cfg2.N) : defs₀ (F := F) .tc cfg2.body (cfg2.bodyArgs t (cfg2.slots t)) = bodyAt2 t := by
  unfold defs₀; rw [Defs.onTc_tc]
theorem obligation2 (c : Dev nD) : BodyObligation (dat2 (F := F) V c) (defs₀ (F := F)) 𝒱₀ () Set.univ := fun t => by
  rw [bigSep_W2, bigSep_W2, row_defs2]
  exact triple_restated (body_ok2 V c t) rfl .rfl fun _ => .rfl

/-- Window `w`'s block of call 3's array at point `t`. -/
def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- The sums of call 3 after point `n`. -/
def sums3 (c : Dev nD) : (n : ℕ) → n < cfg3.N → Vec F S1x1024 .f32 × Vec F S1x1024 .f32
  | 0, hn => (o3_12A (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩), o3_13A (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩))
  | n + 1, hn => (o3_12B (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (sums3 c n (Nat.lt_of_succ_lt hn)).1, o3_13B (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (sums3 c n (Nat.lt_of_succ_lt hn)).2)
theorem sums3_first (c : Dev nD) (t : Fin cfg3.N) (h : t.val = 0) :
    sums3 V c t.val t.isLt = (o3_12A (iblk3 V c 0 t) (iblk3 V c 1 t) (iblk3 V c 2 t) (iblk3 V c 3 t) (iblk3 V c 4 t) (iblk3 V c 5 t) (iblk3 V c 6 t) (iblk3 V c 7 t), o3_13A (iblk3 V c 0 t) (iblk3 V c 1 t) (iblk3 V c 2 t) (iblk3 V c 3 t) (iblk3 V c 4 t) (iblk3 V c 5 t) (iblk3 V c 6 t) (iblk3 V c 7 t)) := by
  obtain ⟨n, hn⟩ := t; obtain rfl : n = 0 := h; rfl
theorem sums3_next (c : Dev nD) (t : Fin cfg3.N) (h : ¬ t.val = 0) :
    sums3 V c t.val t.isLt = (o3_12B (iblk3 V c 0 t) (iblk3 V c 1 t) (iblk3 V c 2 t) (iblk3 V c 3 t) (iblk3 V c 4 t) (iblk3 V c 5 t) (iblk3 V c 6 t) (iblk3 V c 7 t) (sums3 V c (t.val - 1) (Nat.lt_of_le_of_lt (Nat.sub_le _ _) t.isLt)).1, o3_13B (iblk3 V c 0 t) (iblk3 V c 1 t) (iblk3 V c 2 t) (iblk3 V c 3 t) (iblk3 V c 4 t) (iblk3 V c 5 t) (iblk3 V c 6 t) (iblk3 V c 7 t) (sums3 V c (t.val - 1) (Nat.lt_of_le_of_lt (Nat.sub_le _ _) t.isLt)).2) := by
  obtain ⟨n, hn⟩ := t
  cases n with
  | zero => exact absurd rfl h
  | succ n => rfl

/-- Call 3's proof data. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => o3_8 (iblk3 V c 0 t) (iblk3 V c 1 t) (iblk3 V c 2 t) (iblk3 V c 3 t) (iblk3 V c 4 t) (iblk3 V c 5 t) (iblk3 V c 6 t) (iblk3 V c 7 t)
    | ⟨9, _⟩ => o3_9 (iblk3 V c 0 t) (iblk3 V c 1 t) (iblk3 V c 2 t) (iblk3 V c 3 t) (iblk3 V c 4 t) (iblk3 V c 5 t) (iblk3 V c 6 t) (iblk3 V c 7 t)
    | ⟨10, _⟩ => o3_10 (iblk3 V c 0 t) (iblk3 V c 1 t) (iblk3 V c 2 t) (iblk3 V c 3 t) (iblk3 V c 4 t) (iblk3 V c 5 t) (iblk3 V c 6 t) (iblk3 V c 7 t)
    | ⟨11, _⟩ => o3_11 (iblk3 V c 0 t) (iblk3 V c 1 t) (iblk3 V c 2 t) (iblk3 V c 3 t) (iblk3 V c 4 t) (iblk3 V c 5 t) (iblk3 V c 6 t) (iblk3 V c 7 t)
    | ⟨12, _⟩ => (sums3 V c t.val t.isLt).1
    | ⟨13, _⟩ => (sums3 V c t.val t.isLt).2
  Φ _ := Pipeline.ΦA spec3 c
  q _ := fullShare
  owed _ := 0
theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = o3_8 (iblk3 V c 0 t) (iblk3 V c 1 t) (iblk3 V c 2 t) (iblk3 V c 3 t) (iblk3 V c 4 t) (iblk3 V c 5 t) (iblk3 V c 6 t) (iblk3 V c 7 t) := by dsimp only [dat3]
theorem after3_9 (c : Dev nD) (t : Fin cfg3.N) : (dat3 V c).after 9 t = o3_9 (iblk3 V c 0 t) (iblk3 V c 1 t) (iblk3 V c 2 t) (iblk3 V c 3 t) (iblk3 V c 4 t) (iblk3 V c 5 t) (iblk3 V c 6 t) (iblk3 V c 7 t) := by dsimp only [dat3]
theorem after3_10 (c : Dev nD) (t : Fin cfg3.N) : (dat3 V c).after 10 t = o3_10 (iblk3 V c 0 t) (iblk3 V c 1 t) (iblk3 V c 2 t) (iblk3 V c 3 t) (iblk3 V c 4 t) (iblk3 V c 5 t) (iblk3 V c 6 t) (iblk3 V c 7 t) := by dsimp only [dat3]
theorem after3_11 (c : Dev nD) (t : Fin cfg3.N) : (dat3 V c).after 11 t = o3_11 (iblk3 V c 0 t) (iblk3 V c 1 t) (iblk3 V c 2 t) (iblk3 V c 3 t) (iblk3 V c 4 t) (iblk3 V c 5 t) (iblk3 V c 6 t) (iblk3 V c 7 t) := by dsimp only [dat3]
theorem after3_12 (c : Dev nD) (t : Fin cfg3.N) : (dat3 V c).after 12 t = (sums3 V c t.val t.isLt).1 := by dsimp only [dat3]
theorem after3_13 (c : Dev nD) (t : Fin cfg3.N) : (dat3 V c).after 13 t = (sums3 V c t.val t.isLt).2 := by dsimp only [dat3]
theorem before3_0 (c : Dev nD) (t : Fin cfg3.N) (d) : (dat3 V c).before 0 t d = iblk3 V c 0 t :=
  Dat.before_in_eq_fetched (dat3 V c) 0 rfl (fun _ => rfl) (fun _ _ _ => rfl) (fun _ => rfl) t d
theorem before3_1 (c : Dev nD) (t : Fin cfg3.N) (d) : (dat3 V c).before 1 t d = iblk3 V c 1 t :=
  Dat.before_in_eq_fetched (dat3 V c) 1 rfl (fun _ => rfl) (fun _ _ _ => rfl) (fun _ => rfl) t d
theorem before3_2 (c : Dev nD) (t : Fin cfg3.N) (d) : (dat3 V c).before 2 t d = iblk3 V c 2 t :=
  Dat.before_in_eq_fetched (dat3 V c) 2 rfl (fun _ => rfl) (fun _ _ _ => rfl) (fun _ => rfl) t d
theorem before3_3 (c : Dev nD) (t : Fin cfg3.N) (d) : (dat3 V c).before 3 t d = iblk3 V c 3 t :=
  Dat.before_in_eq_fetched (dat3 V c) 3 rfl (fun _ => rfl) (fun _ _ _ => rfl) (fun _ => rfl) t d
theorem before3_4 (c : Dev nD) (t : Fin cfg3.N) (d) : (dat3 V c).before 4 t d = iblk3 V c 4 t :=
  Dat.before_in_eq_fetched (dat3 V c) 4 rfl (fun _ => rfl) (fun _ _ _ => rfl) (fun _ => rfl) t d
theorem before3_5 (c : Dev nD) (t : Fin cfg3.N) (d) : (dat3 V c).before 5 t d = iblk3 V c 5 t :=
  Dat.before_in_eq_fetched (dat3 V c) 5 rfl (fun _ => rfl) (fun _ _ _ => rfl) (fun _ => rfl) t d
theorem before3_6 (c : Dev nD) (t : Fin cfg3.N) (d) : (dat3 V c).before 6 t d = iblk3 V c 6 t :=
  Dat.before_in_eq_fetched (dat3 V c) 6 rfl (fun _ => rfl) (fun _ _ _ => rfl) (fun _ => rfl) t d
theorem before3_7 (c : Dev nD) (t : Fin cfg3.N) (d) : (dat3 V c).before 7 t d = iblk3 V c 7 t :=
  Dat.before_in_eq_fetched (dat3 V c) 7 rfl (fun _ => rfl) (fun _ _ _ => rfl) (fun _ => rfl) t d

/-- A sum holds nothing of this call before its first point only. -/
def fresh3 : ℕ → Bool := fun n => n % 32 == 0
theorem live3_12 : ∀ t : Fin cfg3.N, cfg3.idle 12 (grid3.coords t) = false := by decide +kernel
theorem fresh3_12 (t : Fin cfg3.N) : cfg3.fresh 12 t.val = fresh3 t.val :=
  Pipeline.Cfg.fresh_tab cfg3 12 fresh3 rfl (fun t => by
    have h := flush3_12 t
    have hi : cfg3.idle 12 (cfg3.grid.coords t) = false := live3_12 t
    rw [hi, Bool.false_and, Bool.or_false, Bool.eq_iff_iff, h]
    unfold fresh3; rw [beq_iff_eq]; omega) t.val (Nat.le_of_lt t.isLt)
theorem before3_12 (c : Dev nD) (t : Fin cfg3.N) (h : ¬ t.val = 0) (d) :
    (dat3 V c).before 12 t d = (sums3 V c (t.val - 1) (Nat.lt_of_le_of_lt (Nat.sub_le _ _) t.isLt)).1 := by
  have ht : t.val < 32 := Nat.lt_of_lt_of_eq t.isLt N_3
  rw [Dat.before_out_traj _ 12 rfl (fun _ _ => rfl) (fun t _ hi _ => absurd (hi.symm.trans (live3_12 t)) (by decide)) t.val t rfl d,
    if_neg (by rw [fresh3_12 t]; unfold fresh3; rw [beq_iff_eq]; omega)]
  dsimp only [dat3]
theorem live3_13 : ∀ t : Fin cfg3.N, cfg3.idle 13 (grid3.coords t) = false := by decide +kernel
theorem fresh3_13 (t : Fin cfg3.N) : cfg3.fresh 13 t.val = fresh3 t.val :=
  Pipeline.Cfg.fresh_tab cfg3 13 fresh3 rfl (fun t => by
    have h := flush3_13 t
    have hi : cfg3.idle 13 (cfg3.grid.coords t) = false := live3_13 t
    rw [hi, Bool.false_and, Bool.or_false, Bool.eq_iff_iff, h]
    unfold fresh3; rw [beq_iff_eq]; omega) t.val (Nat.le_of_lt t.isLt)
theorem before3_13 (c : Dev nD) (t : Fin cfg3.N) (h : ¬ t.val = 0) (d) :
    (dat3 V c).before 13 t d = (sums3 V c (t.val - 1) (Nat.lt_of_le_of_lt (Nat.sub_le _ _) t.isLt)).2 := by
  have ht : t.val < 32 := Nat.lt_of_lt_of_eq t.isLt N_3
  rw [Dat.before_out_traj _ 13 rfl (fun _ _ => rfl) (fun t _ hi _ => absurd (hi.symm.trans (live3_13 t)) (by decide)) t.val t rfl d,
    if_neg (by rw [fresh3_13 t]; unfold fresh3; rw [beq_iff_eq]; omega)]
  dsimp only [dat3]

/-- What the body is called with at point `t`, and what it returns. -/
def bodyPre3 (c : Dev nD) (t : Fin cfg3.N) : sProp 𝕄 :=
  iprop((dat3 V c).Φ t.castSucc ∗ (dat3 V c).owesAt () t.castSucc
    ∗ (∃ d, ow c (st3_0 t) ((dat3 V c).before 0 t d))
    ∗ (∃ d, ow c (st3_1 t) ((dat3 V c).before 1 t d))
    ∗ (∃ d, ow c (st3_2 t) ((dat3 V c).before 2 t d))
    ∗ (∃ d, ow c (st3_3 t) ((dat3 V c).before 3 t d))
    ∗ (∃ d, ow c (st3_4 t) ((dat3 V c).before 4 t d))
    ∗ (∃ d, ow c (st3_5 t) ((dat3 V c).before 5 t d))
    ∗ (∃ d, ow c (st3_6 t) ((dat3 V c).before 6 t d))
    ∗ (∃ d, ow c (st3_7 t) ((dat3 V c).before 7 t d))
    ∗ (∃ d, ow c (st3_8 t) ((dat3 V c).before 8 t d))
    ∗ (∃ d, ow c (st3_9 t) ((dat3 V c).before 9 t d))
    ∗ (∃ d, ow c (st3_10 t) ((dat3 V c).before 10 t d))
    ∗ (∃ d, ow c (st3_11 t) ((dat3 V c).before 11 t d))
    ∗ (∃ d, ow c (st3_12 t) ((dat3 V c).before 12 t d))
    ∗ (∃ d, ow c (st3_13 t) ((dat3 V c).before 13 t d)))
def bodyPost3 (c : Dev nD) (t : Fin cfg3.N) : sProp 𝕄 :=
  iprop((dat3 V c).Φ t.succ ∗ (dat3 V c).owesAt () t.succ
    ∗ ow c (st3_0 t) ((dat3 V c).after 0 t)
    ∗ ow c (st3_1 t) ((dat3 V c).after 1 t)
    ∗ ow c (st3_2 t) ((dat3 V c).after 2 t)
    ∗ ow c (st3_3 t) ((dat3 V c).after 3 t)
    ∗ ow c (st3_4 t) ((dat3 V c).after 4 t)
    ∗ ow c (st3_5 t) ((dat3 V c).after 5 t)
    ∗ ow c (st3_6 t) ((dat3 V c).after 6 t)
    ∗ ow c (st3_7 t) ((dat3 V c).after 7 t)
    ∗ ow c (st3_8 t) ((dat3 V c).after 8 t)
    ∗ ow c (st3_9 t) ((dat3 V c).after 9 t)
    ∗ ow c (st3_10 t) ((dat3 V c).after 10 t)
    ∗ ow c (st3_11 t) ((dat3 V c).after 11 t)
    ∗ (dat3 V c).leavesExact 12 t
    ∗ (dat3 V c).leavesExact 13 t)

theorem body_ok3 (c : Dev nD) (t : Fin cfg3.N) :
    bodyPre3 V c t ⊢ wp frame (wpE (defs₀ (F := F)) 𝒱₀ c none) Set.univ (bodyAt3 t) (fun _ => bodyPost3 V c t) := by
  unfold bodyPre3 bodyPost3 bodyAt3
  rw [show (dat3 V c).leavesExact 12 t = ow c (st3_12 t) ((dat3 V c).after 12 t) from by
    unfold Dat.leavesExact; rw [live3_12 t]]
  rw [show (dat3 V c).leavesExact 13 t = ow c (st3_13 t) ((dat3 V c).after 13 t) from by
    unfold Dat.leavesExact; rw [live3_13 t]]
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13]
  by_cases h : t.val = 0
  · rw [sums3_first V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (body3A c (grid3.coords t) _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t)
      ((c3_1 t).mpr h) ((c3_3 t).mpr h) (fun e => (c3_2 t).mp e h) (fun e => (c3_4 t).mp e h) Set.univ _)
    isplitl [H0 H1 H2 H3 H4 H5 H6 H7 H8 H9 H10 H11 H12 H13]
    · isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [H9]; rotate_left; isplitl [H10]; rotate_left; isplitl [H11]; rotate_left; isplitl [H12]; rotate_left
      all_goals first | iassumption | (iexists _; iassumption)
    iintro Hr
    isplitl [HΦ]; · iexact HΦ
    isplitl [Ho]; · iexact Ho
    iexact Hr
  · simp only [before3_12 V c t h, before3_13 V c t h]
    rw [sums3_next V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (body3B c (grid3.coords t) _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t)
      (sums3 V c (t.val - 1) (Nat.lt_of_le_of_lt (Nat.sub_le _ _) t.isLt)).1 (sums3 V c (t.val - 1) (Nat.lt_of_le_of_lt (Nat.sub_le _ _) t.isLt)).2
      ((c3_2 t).mpr h) ((c3_4 t).mpr h) (fun e => h ((c3_1 t).mp e)) (fun e => h ((c3_3 t).mp e)) Set.univ _)
    isplitl [H0 H1 H2 H3 H4 H5 H6 H7 H8 H9 H10 H11 H12 H13]
    · isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [H9]; rotate_left; isplitl [H10]; rotate_left; isplitl [H11]; rotate_left; isplitl [H12]; rotate_left
      all_goals first | iassumption | (iexists _; iassumption)
    iintro Hr
    isplitl [HΦ]; · iexact HΦ
    isplitl [Ho]; · iexact Ho
    iexact Hr

theorem row_defs3 (t : Fin cfg3.N) : defs₀ (F := F) .tc cfg3.body (cfg3.bodyArgs t (cfg3.slots t)) = bodyAt3 t := by
  unfold defs₀; rw [Defs.onTc_tc]
theorem obligation3 (c : Dev nD) : BodyObligation (dat3 (F := F) V c) (defs₀ (F := F)) 𝒱₀ () Set.univ := fun t => by
  rw [bigSep_W3, bigSep_W3, row_defs3]
  exact triple_restated (body_ok3 V c t) rfl .rfl fun _ => .rfl

end Regions

end Cert.Kernel7Ideal.Tail
-- ==== Proof.TailFrame.lean ====
/-
  The run of the first gate's program: the host's casts, then the calls one by one. Every buffer ends at the last boundary's
  contents; the arguments end as launched.
-/
module

public import proofs.«01_k».proof.Proof.TailDat
public import proofs.«01_k».proof.Proof.Region

@[expose] public section

set_option maxRecDepth 16384

noncomputable section

namespace Cert.Kernel7Ideal.Tail

open Cert.Kernel7Ideal Gen Cert.Proof.Calls
open Cert.Proof
open Idealize.ShloMosaic TcCoe Tactic
open Idealize.SL RA BI BIBase Laws ProofMode Sem
open Rounds
open Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9]

theorem host_fresh : (hostOps0 : List (HloOp τ sig (Elt F))).Forall fun op => op.fresh = ∅ := by
  simp only [List.Forall]; repeat' constructor
abbrev hostW : List (Ref sig .tc) := [main_v0, main_v1]
theorem host_writes : (hostOps0 : List (HloOp τ sig (Elt F))).Forall fun op => op.writes ⊆ (hostW.map (Proc.devRef (τ := τ) .tc)).toFinset :=
  StableHlo.forall_writes_sub_of_map rfl

/-! ## The contents at the boundaries -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostW) : W1 m ρ c (Proc.devRef .tc r) = W0 m ρ c (Proc.devRef .tc r) :=
  StableHlo.after_of_writes_sub hostOps0 _ host_writes h
theorem W1_args (c : Dev nD) : ∀ a ∈ argRefs, W1 m ρ c (Proc.devRef .tc a) = m ((c : Thread nD τ).loc a) :=
  fun a ha => W1_of m ρ c a ((ListAll.forall_mem_of_all_decide (by decide +kernel) : ∀ a ∈ argRefs, a ∉ hostW) a ha)

/-- After call 0. -/
def W2 (c : Dev nD) : Valuation τ sig (Elt F) := Region.after (dat0 (V1 m ρ) c) (W1 m ρ c)
abbrev V2 : (c : Dev nD) → (b : Ref sig .tc) → Buf (Elt F) ((c : Thread nD τ).loc b) := fun c b => W2 m ρ c b
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) :=
  Region.after_of _ _ launch0.win.arr_inj (A_eq0 (V1 m ρ) c) r h
theorem W2_args (c : Dev nD) : ∀ a ∈ argRefs, W2 m ρ c (Proc.devRef .tc a) = m ((c : Thread nD τ).loc a) :=
  fun a ha => (W2_of m ρ c a ((ListAll.forall_mem_of_all_decide (by decide +kernel) :
    ∀ a ∈ argRefs, ∀ w : Fin 6, Pipeline.arrRef spec0 w = a → (win0 w).isOut = false) a ha)).trans (W1_args m ρ c a ha)
theorem arr_after0 (c : Dev nD) (w : Fin cfg0.W) : (dat0 (V1 m ρ) c).arrAt w cfg0.N = V2 m ρ c (Pipeline.arrRef spec0 w) :=
  (Region.after_arr (dat0 (V1 m ρ) c) (W1 m ρ c) launch0.win.arr_inj w).symm

/-- After call 1. -/
def W3 (c : Dev nD) : Valuation τ sig (Elt F) := Region.after (dat1 (V2 m ρ) c) (W2 m ρ c)
abbrev V3 : (c : Dev nD) → (b : Ref sig .tc) → Buf (Elt F) ((c : Thread nD τ).loc b) := fun c b => W3 m ρ c b
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) :=
  Region.after_of _ _ launch1.win.arr_inj (A_eq1 (V2 m ρ) c) r h
theorem W3_args (c : Dev nD) : ∀ a ∈ argRefs, W3 m ρ c (Proc.devRef .tc a) = m ((c : Thread nD τ).loc a) :=
  fun a ha => (W3_of m ρ c a ((ListAll.forall_mem_of_all_decide (by decide +kernel) :
    ∀ a ∈ argRefs, ∀ w : Fin 12, Pipeline.arrRef spec1 w = a → (win1 w).isOut = false) a ha)).trans (W2_args m ρ c a ha)
theorem arr_after1 (c : Dev nD) (w : Fin cfg1.W) : (dat1 (V2 m ρ) c).arrAt w cfg1.N = V3 m ρ c (Pipeline.arrRef spec1 w) :=
  (Region.after_arr (dat1 (V2 m ρ) c) (W2 m ρ c) launch1.win.arr_inj w).symm

/-- After call 2. -/
def W4 (c : Dev nD) : Valuation τ sig (Elt F) := Region.after (dat2 (V3 m ρ) c) (W3 m ρ c)
abbrev V4 : (c : Dev nD) → (b : Ref sig .tc) → Buf (Elt F) ((c : Thread nD τ).loc b) := fun c b => W4 m ρ c b
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) :=
  Region.after_of _ _ launch2.win.arr_inj (A_eq2 (V3 m ρ) c) r h
theorem W4_args (c : Dev nD) : ∀ a ∈ argRefs, W4 m ρ c (Proc.devRef .tc a) = m ((c : Thread nD τ).loc a) :=
  fun a ha => (W4_of m ρ c a ((ListAll.forall_mem_of_all_decide (by decide +kernel) :
    ∀ a ∈ argRefs, ∀ w : Fin 7, Pipeline.arrRef spec2 w = a → (win2 w).isOut = false) a ha)).trans (W3_args m ρ c a ha)
theorem arr_after2 (c : Dev nD) (w : Fin cfg2.W) : (dat2 (V3 m ρ) c).arrAt w cfg2.N = V4 m ρ c (Pipeline.arrRef spec2 w) :=
  (Region.after_arr (dat2 (V3 m ρ) c) (W3 m ρ c) launch2.win.arr_inj w).symm

/-- After call 3. -/
def W5 (c : Dev nD) : Valuation τ sig (Elt F) := Region.after (dat3 (V4 m ρ) c) (W4 m ρ c)
abbrev V5 : (c : Dev nD) → (b : Ref sig .tc) → Buf (Elt F) ((c : Thread nD τ).loc b) := fun c b => W5 m ρ c b
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) :=
  Region.after_of _ _ launch3.win.arr_inj (A_eq3 (V4 m ρ) c) r h
theorem W5_args (c : Dev nD) : ∀ a ∈ argRefs, W5 m ρ c (Proc.devRef .tc a) = m ((c : Thread nD τ).loc a) :=
  fun a ha => (W5_of m ρ c a ((ListAll.forall_mem_of_all_decide (by decide +kernel) :
    ∀ a ∈ argRefs, ∀ w : Fin 14, Pipeline.arrRef spec3 w = a → (win3 w).isOut = false) a ha)).trans (W4_args m ρ c a ha)
theorem arr_after3 (c : Dev nD) (w : Fin cfg3.W) : (dat3 (V4 m ρ) c).arrAt w cfg3.N = V5 m ρ c (Pipeline.arrRef spec3 w) :=
  (Region.after_arr (dat3 (V4 m ρ) c) (W4 m ρ c) launch3.win.arr_inj w).symm

/-! ## The calls in their order, and the run -/

def pdats : (p : Fin 4) → (c : Dev nD) → Dat τ (Elt F) Unit ℕ (UR sig nD τ) ℕ (Pipeline.pin (Region.pcs (F := F) cfgs) (Region.adm cfgs) p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
def reg0 : Pipeline.RegionSeg (Region.pcs (F := F) cfgs) (Region.adm cfgs) (pdats m ρ) () defs₀ 𝒱₀ Region.L Region.lv 0 :=
  Region.reg cfgs defs₀ 𝒱₀ (pdats m ρ) 0 launch0 (W1 m ρ) (fun c => A_eq0 (V1 m ρ) c) (fun _ _ => rfl) (fun _ _ => rfl) (fun _ _ => trivial)
    (fun _ _ => rfl) fun c => obligation0 (V1 m ρ) c
def reg1 : Pipeline.RegionSeg (Region.pcs (F := F) cfgs) (Region.adm cfgs) (pdats m ρ) () defs₀ 𝒱₀ Region.L Region.lv 1 :=
  Region.reg cfgs defs₀ 𝒱₀ (pdats m ρ) 1 launch1 (W2 m ρ) (fun c => A_eq1 (V2 m ρ) c) (fun _ _ => rfl) (fun _ _ => rfl) (fun _ _ => trivial)
    (fun _ _ => rfl) fun c => obligation1 (V2 m ρ) c
def reg2 : Pipeline.RegionSeg (Region.pcs (F := F) cfgs) (Region.adm cfgs) (pdats m ρ) () defs₀ 𝒱₀ Region.L Region.lv 2 :=
  Region.reg cfgs defs₀ 𝒱₀ (pdats m ρ) 2 launch2 (W3 m ρ) (fun c => A_eq2 (V3 m ρ) c) (fun _ _ => rfl) (fun _ _ => rfl) (fun _ _ => trivial)
    (fun _ _ => rfl) fun c => obligation2 (V3 m ρ) c
def reg3 : Pipeline.RegionSeg (Region.pcs (F := F) cfgs) (Region.adm cfgs) (pdats m ρ) () defs₀ 𝒱₀ Region.L Region.lv 3 :=
  Region.reg cfgs defs₀ 𝒱₀ (pdats m ρ) 3 launch3 (W4 m ρ) (fun c => A_eq3 (V4 m ρ) c) (fun _ _ => rfl) (fun _ _ => rfl) (fun _ _ => trivial)
    (fun _ _ => rfl) fun c => obligation3 (V4 m ρ) c
abbrev segs : List (Pipeline.Seg (Region.pcs (F := F) cfgs) (Region.adm cfgs) (pdats m ρ) () defs₀ 𝒱₀ Region.L Region.lv) :=
  [ .host (Region.host cfgs defs₀ 𝒱₀ hostOps0 hostOps0_sub host_fresh (W0 m ρ)), .region (reg0 m ρ), .region (reg1 m ρ), .region (reg2 m ρ), .region (reg3 m ρ) ]
theorem main_run (c : Dev nD) : main (F := F) c = Pipeline.Seg.run (segs m ρ) := (main_chain c).trans (by chain_rfl)

/-- Every buffer ends at the last boundary's contents and every counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Region.run cfgs defs₀ 𝒱₀ (pdats m ρ) cellOf_inj m ρ main (segs m ρ) (main_run m ρ)
    (by simp only [segs, Pipeline.Seg.pipes_host, Pipeline.Seg.pipes_region, Pipeline.Seg.pipes_nil]; decide)
    (W5 m ρ) ⟨fun _ => .rfl, fun _ => .rfl, fun _ => .rfl, fun _ => .rfl, fun _ => .rfl, Region.last (W5 m ρ)⟩ (by decide)

theorem frame : θ_run defs (onTc (τ := τ) (main (F := F))) ⟨m, fun _ => 0, ρ⟩ (fun r => (∀ c : Dev nD, ∀ a ∈ argRefs,
      r.2.mem ((c : Thread nD τ).loc a) = m ((c : Thread nD τ).loc a)) ∧ r.2.sem = fun _ => 0) :=
  (θ_run defs _ _).mono (fun r h => ⟨fun c a ha => (h.1 c _ (Region.mem_uc a
    ((by decide : ∀ a ∈ argRefs, ¬ (Proc.devRef .tc a : DevRef τ sig).isScoped) a ha))).trans (W5_args m ρ c a ha), h.2⟩) (run_all m ρ)

end Cert.Kernel7Ideal.Tail
-- ==== Proof.TailPrinted.lean ====
/-
  The printed program of the first gate's program is the Ideal-named one over the bits, so its frame is the same frame.
-/
module

public import proofs.«01_k».proof.Proof.TailFrame
public import proofs.«01_k».proof.Proof.Gen.Kernel7.Launch

@[expose] public section

set_option maxHeartbeats 4000000

namespace Cert.Kernel7.Tail

open Idealize.ShloMosaic TcCoe Idealize.SL.Sem

theorem main_eq : Cert.Kernel7.main (F := Bits) = Cert.Kernel7Ideal.main (F := Bits) := rfl

theorem defs₀_eq : Cert.Kernel7.defs₀ (F := Bits) = Cert.Kernel7Ideal.defs₀ (F := Bits) := by
  unfold Cert.Kernel7.defs₀ Cert.Kernel7Ideal.defs₀
  exact congrArg _ (funext fun | 0 => rfl | 1 => rfl | 2 => rfl | 3 => rfl)

theorem defs_eq : Cert.Kernel7.defs (F := Bits) = Cert.Kernel7Ideal.defs (F := Bits) := by
  unfold Cert.Kernel7.defs Cert.Kernel7Ideal.defs
  rw [defs₀_eq]
  rfl

open Cert.Kernel7 in
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD, ∀ a ∈ Cert.Kernel7Ideal.Tail.argRefs,
      r.2.mem ((c : Thread nD τ).loc a) = m ((c : Thread nD τ).loc a)) ∧ r.2.sem = fun _ => 0) := by
  rw [defs_eq, main_eq]
  exact Cert.Kernel7Ideal.Tail.frame (F := Bits) m ρ

end Cert.Kernel7.Tail

end
-- ==== Proof.TailBlocks.lean ====
/-
  The arrays the calls of the first gate's program read and leave, block of rows by block of rows.
-/
module

public import proofs.«01_k».proof.Proof.TailFrame
public import Idealize.ShloMosaic.Lib.Pipeline.ValueKit

@[expose] public section

set_option maxRecDepth 16384

noncomputable section

namespace Cert.Kernel7Ideal.Tail

open Cert.Kernel7Ideal Gen Cert.Proof.Calls
open Idealize.ShloMosaic TcCoe Idealize.SL.Sem
open Pipeline (Dat)

variable (V : (c : Dev nD) → (b : Ref sig .tc) → Buf (Elt Ideal) ((c : Thread nD τ).loc b)) (c : Dev nD)

/-! ## Call 0: 16 blocks of 512 rows -/

theorem pos0 : ∀ t : Fin cfg0.N, (win0_0.index t 0 = t.val ∧ win0_0.index t 1 = 0) ∧ (win0_1.index t 0 = t.val ∧ win0_1.index t 1 = 0) ∧ (win0_2.index t 0 = 0 ∧ win0_2.index t 1 = 0) ∧ (win0_3.index t 0 = 0 ∧ win0_3.index t 1 = 0) ∧ (win0_4.index t 0 = t.val ∧ win0_4.index t 1 = 0) ∧ (win0_5.index t 0 = t.val ∧ win0_5.index t 1 = 0) := by decide +kernel
theorem blk0_0 (t : Fin cfg0.N) : (iblk0 V c 0 t : Vec Ideal S512x1024 .f32) = rows (n := 16) (b := 512) (T := 8192) (D := 1024) rfl t (V c main_arg0) :=
  rows_of (D := 1024) rfl t (V c main_arg0) ((cfg0.win 0).blk t).view.emb (pos0 t).1.1 (pos0 t).1.2 (fun _ => rfl) fun _ => rfl
theorem blk0_1 (t : Fin cfg0.N) : (iblk0 V c 1 t : Vec Ideal S512x1024 .f32) = rows (n := 16) (b := 512) (T := 8192) (D := 1024) rfl t (V c main_arg1) :=
  rows_of (D := 1024) rfl t (V c main_arg1) ((cfg0.win 1).blk t).view.emb (pos0 t).2.1.1 (pos0 t).2.1.2 (fun _ => rfl) fun _ => rfl
theorem blk0_2 (t : Fin cfg0.N) : (iblk0 V c 2 t : Vec Ideal S1x1024 .f32) = V c main_arg4 :=
  whole_of (V c main_arg4) ((cfg0.win 2).blk t).view.emb (pos0 t).2.2.1.1 (pos0 t).2.2.1.2 (fun _ => rfl) fun _ => rfl
theorem blk0_3 (t : Fin cfg0.N) : (iblk0 V c 3 t : Vec Ideal S1024x1024 .bf16) = V c main_v0 :=
  whole_of (V c main_v0) ((cfg0.win 3).blk t).view.emb (pos0 t).2.2.2.1.1 (pos0 t).2.2.2.1.2 (fun _ => rfl) fun _ => rfl
theorem arr0_4 (G : Vec Ideal S8192x1024 .bf16) (h : ∀ t : Fin cfg0.N, (dat0 V c).after 4 t = rows (n := 16) (b := 512) (D := 1024) rfl t G) :
    (dat0 V c).arrAt 4 cfg0.N = G :=
  (dat0 V c).arrAt_eq_of_cover 4 G (fun t _ => (h t).trans (rows_of (D := 1024) rfl t G ((cfg0.win 4).blk t).view.emb (pos0 t).2.2.2.2.1.1 (pos0 t).2.2.2.2.1.2 (fun _ => rfl) fun _ => rfl).symm)
    ((by decide +kernel : (cfg0.win 4).Covers).cover _ (Memref.isWhole_whole _))
theorem arr0_5 (G : Vec Ideal S8192x1024 .f32) (h : ∀ t : Fin cfg0.N, (dat0 V c).after 5 t = rows (n := 16) (b := 512) (D := 1024) rfl t G) :
    (dat0 V c).arrAt 5 cfg0.N = G :=
  (dat0 V c).arrAt_eq_of_cover 5 G (fun t _ => (h t).trans (rows_of (D := 1024) rfl t G ((cfg0.win 5).blk t).view.emb (pos0 t).2.2.2.2.2.1 (pos0 t).2.2.2.2.2.2 (fun _ => rfl) fun _ => rfl).symm)
    ((by decide +kernel : (cfg0.win 5).Covers).cover _ (Memref.isWhole_whole _))

/-! ## Call 1: 32 blocks of 256 rows -/

theorem pos1 : ∀ t : Fin cfg1.N, (win1_0.index t 0 = t.val ∧ win1_0.index t 1 = 0) ∧ (win1_1.index t 0 = t.val ∧ win1_1.index t 1 = 0) ∧ (win1_2.index t 0 = t.val ∧ win1_2.index t 1 = 0) ∧ (win1_3.index t 0 = t.val ∧ win1_3.index t 1 = 0) ∧ (win1_4.index t 0 = t.val ∧ win1_4.index t 1 = 0) ∧ (win1_5.index t 0 = 0 ∧ win1_5.index t 1 = 0) ∧ (win1_6.index t 0 = 0 ∧ win1_6.index t 1 = 0) ∧ (win1_7.index t 0 = 0 ∧ win1_7.index t 1 = 0) ∧ (win1_8.index t 0 = 0 ∧ win1_8.index t 1 = 0) ∧ (win1_9.index t 0 = t.val ∧ win1_9.index t 1 = 0) ∧ (win1_10.index t 0 = t.val ∧ win1_10.index t 1 = 0) ∧ (win1_11.index t 0 = t.val ∧ win1_11.index t 1 = 0) := by decide +kernel
theorem blk1_0 (t : Fin cfg1.N) : (iblk1 V c 0 t : Vec Ideal S256x1024 .f32) = rows (n := 32) (b := 256) (T := 8192) (D := 1024) rfl t (V c main_arg0) :=
  rows_of (D := 1024) rfl t (V c main_arg0) ((cfg1.win 0).blk t).view.emb (pos1 t).1.1 (pos1 t).1.2 (fun _ => rfl) fun _ => rfl
theorem blk1_1 (t : Fin cfg1.N) : (iblk1 V c 1 t : Vec Ideal S256x1024 .f32) = rows (n := 32) (b := 256) (T := 8192) (D := 1024) rfl t (V c main_arg1) :=
  rows_of (D := 1024) rfl t (V c main_arg1) ((cfg1.win 1).blk t).view.emb (pos1 t).2.1.1 (pos1 t).2.1.2 (fun _ => rfl) fun _ => rfl
theorem blk1_2 (t : Fin cfg1.N) : (iblk1 V c 2 t : Vec Ideal S256x1024 .f32) = rows (n := 32) (b := 256) (T := 8192) (D := 1024) rfl t (V c main_v2_1) :=
  rows_of (D := 1024) rfl t (V c main_v2_1) ((cfg1.win 2).blk t).view.emb (pos1 t).2.2.1.1 (pos1 t).2.2.1.2 (fun _ => rfl) fun _ => rfl
theorem blk1_3 (t : Fin cfg1.N) : (iblk1 V c 3 t : Vec Ideal S256x1024 .f32) = rows (n := 32) (b := 256) (T := 8192) (D := 1024) rfl t (V c main_arg2) :=
  rows_of (D := 1024) rfl t (V c main_arg2) ((cfg1.win 3).blk t).view.emb (pos1 t).2.2.2.1.1 (pos1 t).2.2.2.1.2 (fun _ => rfl) fun _ => rfl
theorem blk1_4 (t : Fin cfg1.N) : (iblk1 V c 4 t : Vec Ideal S256x1024 .f32) = rows (n := 32) (b := 256) (T := 8192) (D := 1024) rfl t (V c main_arg3) :=
  rows_of (D := 1024) rfl t (V c main_arg3) ((cfg1.win 4).blk t).view.emb (pos1 t).2.2.2.2.1.1 (pos1 t).2.2.2.2.1.2 (fun _ => rfl) fun _ => rfl
theorem blk1_5 (t : Fin cfg1.N) : (iblk1 V c 5 t : Vec Ideal S1x1024 .f32) = V c main_arg4 :=
  whole_of (V c main_arg4) ((cfg1.win 5).blk t).view.emb (pos1 t).2.2.2.2.2.1.1 (pos1 t).2.2.2.2.2.1.2 (fun _ => rfl) fun _ => rfl
theorem blk1_6 (t : Fin cfg1.N) : (iblk1 V c 6 t : Vec Ideal S1x1024 .f32) = V c main_arg5 :=
  whole_of (V c main_arg5) ((cfg1.win 6).blk t).view.emb (pos1 t).2.2.2.2.2.2.1.1 (pos1 t).2.2.2.2.2.2.1.2 (fun _ => rfl) fun _ => rfl
theorem blk1_7 (t : Fin cfg1.N) : (iblk1 V c 7 t : Vec Ideal S1x1024 .f32) = V c main_arg6 :=
  whole_of (V c main_arg6) ((cfg1.win 7).blk t).view.emb (pos1 t).2.2.2.2.2.2.2.1.1 (pos1 t).2.2.2.2.2.2.2.1.2 (fun _ => rfl) fun _ => rfl
theorem blk1_8 (t : Fin cfg1.N) : (iblk1 V c 8 t : Vec Ideal S1024x1024 .bf16) = V c main_v1 :=
  whole_of (V c main_v1) ((cfg1.win 8).blk t).view.emb (pos1 t).2.2.2.2.2.2.2.2.1.1 (pos1 t).2.2.2.2.2.2.2.2.1.2 (fun _ => rfl) fun _ => rfl
theorem arr1_9 (G : Vec Ideal S8192x1024 .bf16) (h : ∀ t : Fin cfg1.N, (dat1 V c).after 9 t = rows (n := 32) (b := 256) (D := 1024) rfl t G) :
    (dat1 V c).arrAt 9 cfg1.N = G :=
  (dat1 V c).arrAt_eq_of_cover 9 G (fun t _ => (h t).trans (rows_of (D := 1024) rfl t G ((cfg1.win 9).blk t).view.emb (pos1 t).2.2.2.2.2.2.2.2.2.1.1 (pos1 t).2.2.2.2.2.2.2.2.2.1.2 (fun _ => rfl) fun _ => rfl).symm)
    ((by decide +kernel : (cfg1.win 9).Covers).cover _ (Memref.isWhole_whole _))
theorem arr1_10 (G : Vec Ideal S8192x1024 .f32) (h : ∀ t : Fin cfg1.N, (dat1 V c).after 10 t = rows (n := 32) (b := 256) (D := 1024) rfl t G) :
    (dat1 V c).arrAt 10 cfg1.N = G :=
  (dat1 V c).arrAt_eq_of_cover 10 G (fun t _ => (h t).trans (rows_of (D := 1024) rfl t G ((cfg1.win 10).blk t).view.emb (pos1 t).2.2.2.2.2.2.2.2.2.2.1.1 (pos1 t).2.2.2.2.2.2.2.2.2.2.1.2 (fun _ => rfl) fun _ => rfl).symm)
    ((by decide +kernel : (cfg1.win 10).Covers).cover _ (Memref.isWhole_whole _))
theorem arr1_11 (G : Vec Ideal S8192x1024 .f32) (h : ∀ t : Fin cfg1.N, (dat1 V c).after 11 t = rows (n := 32) (b := 256) (D := 1024) rfl t G) :
    (dat1 V c).arrAt 11 cfg1.N = G :=
  (dat1 V c).arrAt_eq_of_cover 11 G (fun t _ => (h t).trans (rows_of (D := 1024) rfl t G ((cfg1.win 11).blk t).view.emb (pos1 t).2.2.2.2.2.2.2.2.2.2.2.1 (pos1 t).2.2.2.2.2.2.2.2.2.2.2.2 (fun _ => rfl) fun _ => rfl).symm)
    ((by decide +kernel : (cfg1.win 11).Covers).cover _ (Memref.isWhole_whole _))

/-! ## Call 2: 16 blocks of 512 rows -/

theorem pos2 : ∀ t : Fin cfg2.N, (win2_0.index t 0 = t.val ∧ win2_0.index t 1 = 0) ∧ (win2_1.index t 0 = t.val ∧ win2_1.index t 1 = 0) ∧ (win2_2.index t 0 = 0 ∧ win2_2.index t 1 = 0) ∧ (win2_3.index t 0 = 0 ∧ win2_3.index t 1 = 0) ∧ (win2_4.index t 0 = t.val ∧ win2_4.index t 1 = 0) ∧ (win2_5.index t 0 = t.val ∧ win2_5.index t 1 = 0) ∧ (win2_6.index t 0 = 0 ∧ win2_6.index t 1 = 0) := by decide +kernel
/-- The last point. -/
abbrev last2 : Fin cfg2.N := ⟨15, by show _ < grid2.N; rw [N_2]; decide⟩
theorem blk2_0 (t : Fin cfg2.N) : (iblk2 V c 0 t : Vec Ideal S512x1024 .f32) = rows (n := 16) (b := 512) (T := 8192) (D := 1024) rfl t (V c main_v3_1) :=
  rows_of (D := 1024) rfl t (V c main_v3_1) ((cfg2.win 0).blk t).view.emb (pos2 t).1.1 (pos2 t).1.2 (fun _ => rfl) fun _ => rfl
theorem blk2_1 (t : Fin cfg2.N) : (iblk2 V c 1 t : Vec Ideal S512x1024 .f32) = rows (n := 16) (b := 512) (T := 8192) (D := 1024) rfl t (V c main_arg9) :=
  rows_of (D := 1024) rfl t (V c main_arg9) ((cfg2.win 1).blk t).view.emb (pos2 t).2.1.1 (pos2 t).2.1.2 (fun _ => rfl) fun _ => rfl
theorem blk2_2 (t : Fin cfg2.N) : (iblk2 V c 2 t : Vec Ideal S1x1024 .f32) = V c main_arg6 :=
  whole_of (V c main_arg6) ((cfg2.win 2).blk t).view.emb (pos2 t).2.2.1.1 (pos2 t).2.2.1.2 (fun _ => rfl) fun _ => rfl
theorem blk2_3 (t : Fin cfg2.N) : (iblk2 V c 3 t : Vec Ideal S1024x1024 .bf16) = V c main_v1 :=
  whole_of (V c main_v1) ((cfg2.win 3).blk t).view.emb (pos2 t).2.2.2.1.1 (pos2 t).2.2.2.1.2 (fun _ => rfl) fun _ => rfl
theorem arr2_4 (G : Vec Ideal S8192x1024 .f32) (h : ∀ t : Fin cfg2.N, (dat2 V c).after 4 t = rows (n := 16) (b := 512) (D := 1024) rfl t G) :
    (dat2 V c).arrAt 4 cfg2.N = G :=
  (dat2 V c).arrAt_eq_of_cover 4 G (fun t _ => (h t).trans (rows_of (D := 1024) rfl t G ((cfg2.win 4).blk t).view.emb (pos2 t).2.2.2.2.1.1 (pos2 t).2.2.2.2.1.2 (fun _ => rfl) fun _ => rfl).symm)
    ((by decide +kernel : (cfg2.win 4).Covers).cover _ (Memref.isWhole_whole _))
theorem arr2_5 (G : Vec Ideal S8192x1024 .bf16) (h : ∀ t : Fin cfg2.N, (dat2 V c).after 5 t = rows (n := 16) (b := 512) (D := 1024) rfl t G) :
    (dat2 V c).arrAt 5 cfg2.N = G :=
  (dat2 V c).arrAt_eq_of_cover 5 G (fun t _ => (h t).trans (rows_of (D := 1024) rfl t G ((cfg2.win 5).blk t).view.emb (pos2 t).2.2.2.2.2.1.1 (pos2 t).2.2.2.2.2.1.2 (fun _ => rfl) fun _ => rfl).symm)
    ((by decide +kernel : (cfg2.win 5).Covers).cover _ (Memref.isWhole_whole _))
theorem arr2_6 (G : Vec Ideal S1x1024 .f32) (h : (dat2 V c).after 6 last2 = G) : (dat2 V c).arrAt 6 cfg2.N = G := by
  funext i
  exact ((dat2 V c).arrAt_emb_eq_after_last 6 last2 (by decide +kernel) i).trans (congrFun h i)

/-! ## Call 3: 32 blocks of 256 rows -/

theorem pos3 : ∀ t : Fin cfg3.N, (win3_0.index t 0 = t.val ∧ win3_0.index t 1 = 0) ∧ (win3_1.index t 0 = t.val ∧ win3_1.index t 1 = 0) ∧ (win3_2.index t 0 = t.val ∧ win3_2.index t 1 = 0) ∧ (win3_3.index t 0 = t.val ∧ win3_3.index t 1 = 0) ∧ (win3_4.index t 0 = t.val ∧ win3_4.index t 1 = 0) ∧ (win3_5.index t 0 = 0 ∧ win3_5.index t 1 = 0) ∧ (win3_6.index t 0 = 0 ∧ win3_6.index t 1 = 0) ∧ (win3_7.index t 0 = 0 ∧ win3_7.index t 1 = 0) ∧ (win3_8.index t 0 = t.val ∧ win3_8.index t 1 = 0) ∧ (win3_9.index t 0 = t.val ∧ win3_9.index t 1 = 0) ∧ (win3_10.index t 0 = t.val ∧ win3_10.index t 1 = 0) ∧ (win3_11.index t 0 = t.val ∧ win3_11.index t 1 = 0) ∧ (win3_12.index t 0 = 0 ∧ win3_12.index t 1 = 0) ∧ (win3_13.index t 0 = 0 ∧ win3_13.index t 1 = 0) := by decide +kernel
/-- The last point. -/
abbrev last3 : Fin cfg3.N := ⟨31, by show _ < grid3.N; rw [N_3]; decide⟩
theorem blk3_0 (t : Fin cfg3.N) : (iblk3 V c 0 t : Vec Ideal S256x1024 .f32) = rows (n := 32) (b := 256) (T := 8192) (D := 1024) rfl t (V c main_arg0) :=
  rows_of (D := 1024) rfl t (V c main_arg0) ((cfg3.win 0).blk t).view.emb (pos3 t).1.1 (pos3 t).1.2 (fun _ => rfl) fun _ => rfl
theorem blk3_1 (t : Fin cfg3.N) : (iblk3 V c 1 t : Vec Ideal S256x1024 .f32) = rows (n := 32) (b := 256) (T := 8192) (D := 1024) rfl t (V c main_arg1) :=
  rows_of (D := 1024) rfl t (V c main_arg1) ((cfg3.win 1).blk t).view.emb (pos3 t).2.1.1 (pos3 t).2.1.2 (fun _ => rfl) fun _ => rfl
theorem blk3_2 (t : Fin cfg3.N) : (iblk3 V c 2 t : Vec Ideal S256x1024 .f32) = rows (n := 32) (b := 256) (T := 8192) (D := 1024) rfl t (V c main_v2_1) :=
  rows_of (D := 1024) rfl t (V c main_v2_1) ((cfg3.win 2).blk t).view.emb (pos3 t).2.2.1.1 (pos3 t).2.2.1.2 (fun _ => rfl) fun _ => rfl
theorem blk3_3 (t : Fin cfg3.N) : (iblk3 V c 3 t : Vec Ideal S256x1024 .f32) = rows (n := 32) (b := 256) (T := 8192) (D := 1024) rfl t (V c main_arg2) :=
  rows_of (D := 1024) rfl t (V c main_arg2) ((cfg3.win 3).blk t).view.emb (pos3 t).2.2.2.1.1 (pos3 t).2.2.2.1.2 (fun _ => rfl) fun _ => rfl
theorem blk3_4 (t : Fin cfg3.N) : (iblk3 V c 4 t : Vec Ideal S256x1024 .f32) = rows (n := 32) (b := 256) (T := 8192) (D := 1024) rfl t (V c main_v4_0) :=
  rows_of (D := 1024) rfl t (V c main_v4_0) ((cfg3.win 4).blk t).view.emb (pos3 t).2.2.2.2.1.1 (pos3 t).2.2.2.2.1.2 (fun _ => rfl) fun _ => rfl
theorem blk3_5 (t : Fin cfg3.N) : (iblk3 V c 5 t : Vec Ideal S1x1024 .f32) = V c main_arg4 :=
  whole_of (V c main_arg4) ((cfg3.win 5).blk t).view.emb (pos3 t).2.2.2.2.2.1.1 (pos3 t).2.2.2.2.2.1.2 (fun _ => rfl) fun _ => rfl
theorem blk3_6 (t : Fin cfg3.N) : (iblk3 V c 6 t : Vec Ideal S1x1024 .f32) = V c main_arg5 :=
  whole_of (V c main_arg5) ((cfg3.win 6).blk t).view.emb (pos3 t).2.2.2.2.2.2.1.1 (pos3 t).2.2.2.2.2.2.1.2 (fun _ => rfl) fun _ => rfl
theorem blk3_7 (t : Fin cfg3.N) : (iblk3 V c 7 t : Vec Ideal S1024x1024 .bf16) = V c main_v0 :=
  whole_of (V c main_v0) ((cfg3.win 7).blk t).view.emb (pos3 t).2.2.2.2.2.2.2.1.1 (pos3 t).2.2.2.2.2.2.2.1.2 (fun _ => rfl) fun _ => rfl
theorem arr3_8 (G : Vec Ideal S8192x1024 .bf16) (h : ∀ t : Fin cfg3.N, (dat3 V c).after 8 t = rows (n := 32) (b := 256) (D := 1024) rfl t G) :
    (dat3 V c).arrAt 8 cfg3.N = G :=
  (dat3 V c).arrAt_eq_of_cover 8 G (fun t _ => (h t).trans (rows_of (D := 1024) rfl t G ((cfg3.win 8).blk t).view.emb (pos3 t).2.2.2.2.2.2.2.2.1.1 (pos3 t).2.2.2.2.2.2.2.2.1.2 (fun _ => rfl) fun _ => rfl).symm)
    ((by decide +kernel : (cfg3.win 8).Covers).cover _ (Memref.isWhole_whole _))
theorem arr3_9 (G : Vec Ideal S8192x1024 .bf16) (h : ∀ t : Fin cfg3.N, (dat3 V c).after 9 t = rows (n := 32) (b := 256) (D := 1024) rfl t G) :
    (dat3 V c).arrAt 9 cfg3.N = G :=
  (dat3 V c).arrAt_eq_of_cover 9 G (fun t _ => (h t).trans (rows_of (D := 1024) rfl t G ((cfg3.win 9).blk t).view.emb (pos3 t).2.2.2.2.2.2.2.2.2.1.1 (pos3 t).2.2.2.2.2.2.2.2.2.1.2 (fun _ => rfl) fun _ => rfl).symm)
    ((by decide +kernel : (cfg3.win 9).Covers).cover _ (Memref.isWhole_whole _))
theorem arr3_10 (G : Vec Ideal S8192x1024 .f32) (h : ∀ t : Fin cfg3.N, (dat3 V c).after 10 t = rows (n := 32) (b := 256) (D := 1024) rfl t G) :
    (dat3 V c).arrAt 10 cfg3.N = G :=
  (dat3 V c).arrAt_eq_of_cover 10 G (fun t _ => (h t).trans (rows_of (D := 1024) rfl t G ((cfg3.win 10).blk t).view.emb (pos3 t).2.2.2.2.2.2.2.2.2.2.1.1 (pos3 t).2.2.2.2.2.2.2.2.2.2.1.2 (fun _ => rfl) fun _ => rfl).symm)
    ((by decide +kernel : (cfg3.win 10).Covers).cover _ (Memref.isWhole_whole _))
theorem arr3_11 (G : Vec Ideal S8192x1024 .f32) (h : ∀ t : Fin cfg3.N, (dat3 V c).after 11 t = rows (n := 32) (b := 256) (D := 1024) rfl t G) :
    (dat3 V c).arrAt 11 cfg3.N = G :=
  (dat3 V c).arrAt_eq_of_cover 11 G (fun t _ => (h t).trans (rows_of (D := 1024) rfl t G ((cfg3.win 11).blk t).view.emb (pos3 t).2.2.2.2.2.2.2.2.2.2.2.1.1 (pos3 t).2.2.2.2.2.2.2.2.2.2.2.1.2 (fun _ => rfl) fun _ => rfl).symm)
    ((by decide +kernel : (cfg3.win 11).Covers).cover _ (Memref.isWhole_whole _))
theorem arr3_12 (G : Vec Ideal S1x1024 .f32) (h : (dat3 V c).after 12 last3 = G) : (dat3 V c).arrAt 12 cfg3.N = G := by
  funext i
  exact ((dat3 V c).arrAt_emb_eq_after_last 12 last3 (by decide +kernel) i).trans (congrFun h i)
theorem arr3_13 (G : Vec Ideal S1x1024 .f32) (h : (dat3 V c).after 13 last3 = G) : (dat3 V c).arrAt 13 cfg3.N = G := by
  funext i
  exact ((dat3 V c).arrAt_emb_eq_after_last 13 last3 (by decide +kernel) i).trans (congrFun h i)

end Cert.Kernel7Ideal.Tail
-- ==== Proof.TailValue.lean ====
/-
  What the first gate's calls leave: the activation, its product, the gated rows, their product and the normed sum of the two
  forward calls; and the gradients the two gradient calls make of the layer's cotangent.
-/
module

public import proofs.«01_k».proof.Proof.TailBlocks
public import proofs.«01_k».proof.Proof.Gates

@[expose] public section

set_option maxRecDepth 16384

noncomputable section

namespace Cert.Kernel7Ideal.Tail

open Cert.Kernel7Ideal Gen Cert.Proof.Calls Cert.Proof Gates
open Idealize.ShloMosaic TcCoe Idealize.SL.Sem
open Pipeline (Dat)

/-- The tangent inside the activation, the activation, and the activation's gradient at cotangent `t`, as the kernel spells them. -/
abbrev th (x : EReal) : EReal :=
  Ideal.tanh (Ideal.ofBits .f32 0x3F4C422A#32 * (x + Ideal.ofBits .f32 0x3D372713#32 * x * x * x))
abbrev gl (x : EReal) : EReal := Ideal.ofBits .f32 0x3F000000#32 * x * (1 + th x)
abbrev dw (x t : EReal) : EReal :=
  Ideal.ofBits .f32 0x3F4C422A#32 * (Ideal.ofBits .f32 0x3F000000#32 * x * t * ((1 + th x) * (1 - th x)))
abbrev dgl (x t : EReal) : EReal :=
  dw x t + Ideal.ofBits .f32 0x3D372713#32 * x * x * dw x t + Ideal.ofBits .f32 0x3D372713#32 * x * (dw x t * x)
    + Ideal.ofBits .f32 0x3D372713#32 * (dw x t * x * x) + Ideal.ofBits .f32 0x3F000000#32 * (t * (1 + th x))

/-- The activation's input and the activation. -/
abbrev PRE (ys u : Vec Ideal S8192x1024 .f32) (d : Vec Ideal S1x1024 .f32) : Vec Ideal S8192x1024 .f32 :=
  fun i => ys i + d (ix2 0 (i 1)) * u i
abbrev AC (ys u : Vec Ideal S8192x1024 .f32) (d : Vec Ideal S1x1024 .f32) : Vec Ideal S8192x1024 .bf16 := fun i => gl (PRE ys u d i)
/-- The activation gated by its own product, and gated again. -/
abbrev G1 (a s : Vec Ideal S8192x1024 .f32) (b : Vec Ideal S1x1024 .f32) : Vec Ideal S8192x1024 .f32 := fun i => a i * sg (s i + b (ix2 0 (i 1)))
abbrev Y3 (a s ga : Vec Ideal S8192x1024 .f32) (b : Vec Ideal S1x1024 .f32) : Vec Ideal S8192x1024 .bf16 := fun i => G1 a s b i * (ga i * sg (ga i))
/-- The gradient of the gate's product. -/
abbrev DS (a s ga dy : Vec Ideal S8192x1024 .f32) (b : Vec Ideal S1x1024 .f32) : Vec Ideal S8192x1024 .f32 := fun i =>
  0 - (0 - a i * (dy i * (ga i * sg (ga i)))
    * Ideal.div 1 ((1 + Ideal.exp (0 - (s i + b (ix2 0 (i 1))))) * (1 + Ideal.exp (0 - (s i + b (ix2 0 (i 1)))))))
    * Ideal.exp (0 - (s i + b (ix2 0 (i 1))))
/-- The gradient of the second gate's input. -/
abbrev DGA (a s ga dy : Vec Ideal S8192x1024 .f32) (b : Vec Ideal S1x1024 .f32) : Vec Ideal S8192x1024 .bf16 := DG dy (G1 a s b) ga
/-- The gradient of the activation. -/
abbrev DA (a s ga dy : Vec Ideal S8192x1024 .f32) (b : Vec Ideal S1x1024 .f32) (w : Vec Ideal S1024x1024 .bf16) : Vec Ideal S8192x1024 .f32 := fun i =>
  dy i * (ga i * sg (ga i)) * sg (s i + b (ix2 0 (i 1))) + ∑ k : Fin 1024, DS a s ga dy b (ix2 (i 0) k) * w (ix2 (i 1) k)
/-- The gradient of the activation's input, and of its second summand. -/
abbrev DP (p t : Vec Ideal S8192x1024 .f32) : Vec Ideal S8192x1024 .f32 := fun i => dgl (p i) (t i)
abbrev DU (p t : Vec Ideal S8192x1024 .f32) (d : Vec Ideal S1x1024 .f32) : Vec Ideal S8192x1024 .f32 := fun i => d (ix2 0 (i 1)) * DP p t i
/-- What a point adds to the gradient of the gate's bias, and to that of the activation's scale. -/
abbrev partB (ds : Vec Ideal S8192x1024 .f32) (t : Fin 32) : Vec Ideal S1x1024 .f32 := fun i =>
  ∑ r : Fin 256, ds (ix2 (row (T := 8192) rfl t r) (i 1))
abbrev partD (dp u : Vec Ideal S8192x1024 .f32) (t : Fin 32) : Vec Ideal S1x1024 .f32 := fun i =>
  ∑ r : Fin 256, dp (ix2 (row (T := 8192) rfl t r) (i 1)) * u (ix2 (row (T := 8192) rfl t r) (i 1))

variable (V : (c : Dev nD) → (b : Ref sig .tc) → Buf (Elt Ideal) ((c : Thread nD τ).loc b)) (c : Dev nD)

theorem end0_4 : (dat0 V c).arrAt 4 cfg0.N = AC (V c main_arg0) (V c main_arg1) (V c main_arg4) :=
  arr0_4 V c _ fun t => by
    rw [after0_4, blk0_0, blk0_1, blk0_2]
    funext j
    idx_vars j
    pointwise [k0_pay1] <;> rfl
theorem end0_5 : (dat0 V c).arrAt 5 cfg0.N = YR (AC (V c main_arg0) (V c main_arg1) (V c main_arg4)) (V c main_v0) :=
  arr0_5 V c _ fun t => by
    rw [after0_5, blk0_0, blk0_1, blk0_2, blk0_3]
    funext j
    idx_vars j
    pointwise [k0_pay1, k0_pay2] <;> rfl

abbrev y3 : Vec Ideal S8192x1024 .bf16 := Y3 (AC (V c main_arg0) (V c main_arg1) (V c main_arg4)) (V c main_v2_1) (V c main_arg2) (V c main_arg5)
theorem end1_9 : (dat1 V c).arrAt 9 cfg1.N = y3 V c :=
  arr1_9 V c _ fun t => by
    rw [after1_9, blk1_0, blk1_1, blk1_2, blk1_3, blk1_5, blk1_6]
    funext j
    idx_vars j
    pointwise [k1_pay1, k1_pay5, k1_pay6] <;> rfl
theorem end1_10 : (dat1 V c).arrAt 10 cfg1.N = YR (y3 V c) (V c main_v1) :=
  arr1_10 V c _ fun t => by
    rw [after1_10, blk1_0, blk1_1, blk1_2, blk1_3, blk1_5, blk1_6, blk1_8]
    funext j
    idx_vars j
    pointwise [k1_pay1, k1_pay2, k1_pay4, k1_pay5, k1_pay6] <;> rfl
theorem end1_11 : (dat1 V c).arrAt 11 cfg1.N = XR (YR (y3 V c) (V c main_v1)) (V c main_arg3) (V c main_arg6) :=
  arr1_11 V c _ fun t => by
    rw [after1_11, blk1_0, blk1_1, blk1_2, blk1_3, blk1_4, blk1_5, blk1_6, blk1_7, blk1_8]
    funext j
    idx_vars j
    pointwise [k1_pay1, k1_pay2, k1_pay3, k1_pay4, k1_pay5, k1_pay6] <;> rfl

theorem end2_4 : (dat2 V c).arrAt 4 cfg2.N = DR (V c main_v3_1) (V c main_arg9) (V c main_arg6) (V c main_v1) :=
  arr2_4 V c _ fun t => by
    rw [after2_4, blk2_0, blk2_1, blk2_2, blk2_3]
    funext j
    idx_vars j
    pointwise [k2_pay7, k2_pay6, k2_pay4, k2_pay3, k2_pay2] <;> rfl
theorem end2_5 : (dat2 V c).arrAt 5 cfg2.N = DY (V c main_v3_1) (V c main_arg9) (V c main_arg6) :=
  arr2_5 V c _ fun t => by
    rw [after2_5, blk2_0, blk2_1, blk2_2]
    funext j
    idx_vars j
    pointwise [k2_pay6, k2_pay4, k2_pay3, k2_pay2] <;> rfl
theorem part_val (t : Fin cfg2.N) : (k2_pay5 (iblk2 V c 0 t) (iblk2 V c 1 t) : Vec Ideal S1x1024 .f32) = part (V c main_v3_1) (V c main_arg9) t := by
  rw [blk2_0, blk2_1]
  funext j
  idx_vars j
  pointwise [k2_pay5, k2_pay4, k2_pay3, k2_pay2] <;> rfl
theorem end2_6 : (dat2 V c).arrAt 6 cfg2.N = fun i => ∑ t : Fin 16, part (V c main_v3_1) (V c main_arg9) t i :=
  arr2_6 V c _ (by
    rw [after2_6]
    exact sum_points (sums2 V c) (fun t => part (V c main_v3_1) (V c main_arg9) t) (fun h => part_val V c ⟨0, h⟩) (fun n h => by
      rw [← part_val V c ⟨n + 1, h⟩]
      show k2_pay1 _ _ = _
      unfold k2_pay1
      rw [shapeCast_self]
      rfl) 15 last2.isLt)

abbrev ac : Vec Ideal S8192x1024 .f32 := AC (V c main_arg0) (V c main_arg1) (V c main_arg4)
abbrev ds : Vec Ideal S8192x1024 .f32 := DS (ac V c) (V c main_v2_1) (V c main_arg2) (V c main_v4_0) (V c main_arg5)
abbrev da : Vec Ideal S8192x1024 .f32 := DA (ac V c) (V c main_v2_1) (V c main_arg2) (V c main_v4_0) (V c main_arg5) (V c main_v0)
abbrev dp : Vec Ideal S8192x1024 .f32 := DP (PRE (V c main_arg0) (V c main_arg1) (V c main_arg4)) (da V c)
theorem end3_8 : (dat3 V c).arrAt 8 cfg3.N = ds V c :=
  arr3_8 V c _ fun t => by
    rw [after3_8, blk3_0, blk3_1, blk3_2, blk3_3, blk3_4, blk3_5, blk3_6]
    funext j
    idx_vars j
    pointwise [k3_pay24, k3_pay22, k3_pay19, k3_pay18, k3_pay17, k3_pay16, k3_pay14, k3_pay13, k3_pay2, k3_pay12, k3_pay11, k3_pay10, k3_pay8, k3_pay7, k3_pay6,
      k3_pay5, k3_pay4] <;> rfl
theorem end3_9 : (dat3 V c).arrAt 9 cfg3.N = DGA (ac V c) (V c main_v2_1) (V c main_arg2) (V c main_v4_0) (V c main_arg5) :=
  arr3_9 V c _ fun t => by
    rw [after3_9, blk3_0, blk3_1, blk3_2, blk3_3, blk3_4, blk3_5, blk3_6]
    funext j
    idx_vars j
    pointwise [k3_pay28, k3_pay20, k3_pay18, k3_pay17, k3_pay16, k3_pay15, k3_pay14, k3_pay13, k3_pay2, k3_pay12, k3_pay11, k3_pay10, k3_pay8, k3_pay7, k3_pay6,
      k3_pay5, k3_pay4] <;> rfl
theorem end3_10 : (dat3 V c).arrAt 10 cfg3.N = dp V c :=
  arr3_10 V c _ fun t => by
    rw [after3_10, blk3_0, blk3_1, blk3_2, blk3_3, blk3_4, blk3_5, blk3_6, blk3_7]
    funext j
    idx_vars j
    pointwise [k3_pay25, k3_pay24, k3_pay22, k3_pay21, k3_pay20, k3_pay19, k3_pay18, k3_pay17, k3_pay16, k3_pay15, k3_pay14, k3_pay13, k3_pay12, k3_pay11, k3_pay10,
      k3_pay9, k3_pay8, k3_pay7, k3_pay6, k3_pay5, k3_pay4, k3_pay3, k3_pay2] <;> rfl
theorem end3_11 : (dat3 V c).arrAt 11 cfg3.N = DU (PRE (V c main_arg0) (V c main_arg1) (V c main_arg4)) (da V c) (V c main_arg4) :=
  arr3_11 V c _ fun t => by
    rw [after3_11, blk3_0, blk3_1, blk3_2, blk3_3, blk3_4, blk3_5, blk3_6, blk3_7]
    funext j
    idx_vars j
    pointwise [k3_pay26, k3_pay25, k3_pay24, k3_pay22, k3_pay21, k3_pay20, k3_pay19, k3_pay18, k3_pay17, k3_pay16, k3_pay15, k3_pay14, k3_pay13, k3_pay12, k3_pay11, k3_pay10,
      k3_pay9, k3_pay8, k3_pay7, k3_pay6, k3_pay5, k3_pay4, k3_pay3, k3_pay2] <;> rfl
theorem partB_val (t : Fin cfg3.N) : (o3_12A (iblk3 V c 0 t) (iblk3 V c 1 t) (iblk3 V c 2 t) (iblk3 V c 3 t) (iblk3 V c 4 t) (iblk3 V c 5 t)
    (iblk3 V c 6 t) (iblk3 V c 7 t) : Vec Ideal S1x1024 .f32) = partB (ds V c) t := by
  rw [blk3_0, blk3_1, blk3_2, blk3_3, blk3_4, blk3_5, blk3_6]
  funext j
  idx_vars j
  pointwise [k3_pay23, k3_pay24, k3_pay22, k3_pay21, k3_pay20, k3_pay19, k3_pay18, k3_pay17, k3_pay16, k3_pay15, k3_pay14, k3_pay13, k3_pay12, k3_pay11, k3_pay10,
      k3_pay9, k3_pay8, k3_pay7, k3_pay6, k3_pay5, k3_pay4, k3_pay3, k3_pay2] <;> rfl
theorem partD_val (t : Fin cfg3.N) : (o3_13A (iblk3 V c 0 t) (iblk3 V c 1 t) (iblk3 V c 2 t) (iblk3 V c 3 t) (iblk3 V c 4 t) (iblk3 V c 5 t)
    (iblk3 V c 6 t) (iblk3 V c 7 t) : Vec Ideal S1x1024 .f32) = partD (dp V c) (V c main_arg1) t := by
  rw [blk3_0, blk3_1, blk3_2, blk3_3, blk3_4, blk3_5, blk3_6, blk3_7]
  funext j
  idx_vars j
  pointwise [k3_pay27, k3_pay25, k3_pay24, k3_pay22, k3_pay21, k3_pay20, k3_pay19, k3_pay18, k3_pay17, k3_pay16, k3_pay15, k3_pay14, k3_pay13, k3_pay12, k3_pay11, k3_pay10,
      k3_pay9, k3_pay8, k3_pay7, k3_pay6, k3_pay5, k3_pay4, k3_pay3, k3_pay2] <;> rfl
theorem end3_12 : (dat3 V c).arrAt 12 cfg3.N = fun i => ∑ t : Fin 32, partB (ds V c) t i :=
  arr3_12 V c _ (by
    rw [after3_12]
    exact sum_points (fun n hn => (sums3 V c n hn).1) (fun t => partB (ds V c) t) (fun h => partB_val V c ⟨0, h⟩) (fun n h => by
      rw [← partB_val V c ⟨n + 1, h⟩]
      show k3_pay29 _ _ = _
      unfold k3_pay29
      rw [shapeCast_self]
      rfl) 31 last3.isLt)
theorem end3_13 : (dat3 V c).arrAt 13 cfg3.N = fun i => ∑ t : Fin 32, partD (dp V c) (V c main_arg1) t i :=
  arr3_13 V c _ (by
    rw [after3_13]
    exact sum_points (fun n hn => (sums3 V c n hn).2) (fun t => partD (dp V c) (V c main_arg1) t) (fun h => partD_val V c ⟨0, h⟩) (fun n h => by
      rw [← partD_val V c ⟨n + 1, h⟩]
      show k3_pay1 _ _ = _
      unfold k3_pay1
      rw [shapeCast_self]
      rfl) 31 last3.isLt)

end Cert.Kernel7Ideal.Tail
-- ==== Proof.TailRef.lean ====
/-
  The reference of the first gate's calls, stage by stage: each stage of the forward lines and of their derivative is the
  kernel's formula of the reference's own arguments.
-/
module

public import proofs.«01_k».proof.Proof.TailValue
public import proofs.«01_k».proof.Proof.Gen.Reference7Ideal.Run

@[expose] public section

set_option maxRecDepth 16384

noncomputable section

namespace Cert.Reference7Ideal.Tail

open Idealize.ShloMosaic TcCoe Idealize.SL.Sem
open Cert.Reference7Ideal Value Cert.Proof Gates
open Cert.Kernel7Ideal.Tail (PRE AC Y3 G1 DS DGA DA DP DU th gl dw dgl)

variable (V : Valuation τ sig (Elt Ideal))

abbrev at' (a : Ref sig .tc) := V (Proc.devRef .tc a)
abbrev rp : Vec Ideal S8192x1024 .f32 := PRE (at' V main_arg0) (at' V main_arg1) (at' V main_arg4)
abbrev ra : Vec Ideal S8192x1024 .f32 := AC (at' V main_arg0) (at' V main_arg1) (at' V main_arg4)
abbrev rs : Vec Ideal S8192x1024 .f32 := YR (ra V) (at' V main_arg7)
abbrev ry : Vec Ideal S8192x1024 .f32 := Y3 (ra V) (rs V) (at' V main_arg2) (at' V main_arg5)
abbrev rq : Vec Ideal S8192x1024 .f32 := YR (ry V) (at' V main_arg8)
abbrev rd : Vec Ideal S8192x1024 .f32 := DR (rq V) (at' V main_arg9) (at' V main_arg6) (at' V main_arg8)
abbrev rds : Vec Ideal S8192x1024 .f32 := DS (ra V) (rs V) (at' V main_arg2) (rd V) (at' V main_arg5)
abbrev rda : Vec Ideal S8192x1024 .f32 := DA (ra V) (rs V) (at' V main_arg2) (rd V) (at' V main_arg5) (at' V main_arg7)
abbrev rdp : Vec Ideal S8192x1024 .f32 := DP (rp V) (rda V)

theorem p_of : res_main_v2 V = rp V := by
  unfold res_main_v2
  funext j
  idx_vars j
  pointwise
  rfl
theorem gelu (x : EReal) : x * (Ideal.ofBits .f32 0x3F000000#32 * (1 + Ideal.tanh (Ideal.ofBits .f32 0x3F4C422A#32 *
    (x + Ideal.ofBits .f32 0x3D372713#32 * (x * x * x))))) = gl x := by
  unfold gl th
  simp only [mul_assoc, mul_left_comm]
theorem a_of : res_main_v15 V = ra V := by
  unfold res_main_v15
  rw [p_of]
  funext j
  idx_vars j
  pointwise
  exact gelu _
theorem s_of : res_main_v16 V = rs V := by
  unfold res_main_v16
  rw [a_of]
  funext j
  idx_vars j
  pointwise
  rfl
theorem y_of : res_main_v27 V = ry V := by
  unfold res_main_v27
  rw [a_of, s_of]
  funext j
  idx_vars j
  pointwise
  simp only [ry, Y3, G1, sg, zero_sub, ix2_0, ix2_1]
theorem q_of : res_main_v28 V = rq V := by
  unfold res_main_v28
  rw [y_of]
  funext j
  idx_vars j
  pointwise
  rfl
theorem q_of' : res_main_v63 V = rq V := by
  unfold res_main_v63
  rw [y_of]
  funext j
  idx_vars j
  pointwise
  rfl
theorem d_of : res_main_v95 V = rd V := by
  unfold res_main_v95 res_main_v90 res_main_v71 res_main_v70 res_main_v80
  rw [q_of']
  funext j
  idx_vars j
  pointwise
  rfl
theorem p_of' : res_main_v115 V = rp V := by
  unfold res_main_v115
  funext j
  idx_vars j
  pointwise
  rfl
theorem a_of' : res_main_v136 V = ra V := by
  unfold res_main_v136 res_main_v135 res_main_v126
  rw [p_of']
  funext j
  idx_vars j
  pointwise
  exact gelu _
theorem flip (a b e : EReal) : a * (b * e) = 0 - (0 - a * b) * e := by rw [zero_sub, zero_sub, EReal.neg_mul, neg_neg, mul_assoc]
theorem ds_of : res_main_v157 V = rds V := by
  unfold res_main_v157 res_main_v153 res_main_v145 res_main_v150_0 res_main_v150_2
  rw [a_of', d_of]
  funext j
  idx_vars j
  pointwise
  rw [slope]
  refine (flip _ _ _).trans ?_
  simp only [rds, DS, sg, zero_sub, ix2_0, ix2_1]
  rfl
theorem da_of : res_main_v161 V = rda V := by
  unfold res_main_v161 res_main_v153 res_main_v145 res_main_v150_0 res_main_v150_2
  rw [a_of', d_of, ds_of]
  funext j
  idx_vars j
  pointwise
  simp only [rda, DA, sg, zero_sub, ix2_0, ix2_1]
  rfl
theorem dgelu (x t : EReal) : t * (Ideal.ofBits .f32 0x3F000000#32 * (1 + th x)) + dw x t
    + Ideal.ofBits .f32 0x3D372713#32 * dw x t * (Ideal.ofBits .f32 0x40400000#32 * (x * x)) = dgl x t := by
  have h : ∀ a : EReal, a * Ideal.ofBits .f32 0x40400000#32 = a + a + a := fun a => by
    rw [Sums.c_three, show ((3 : ℝ) : EReal) = ((2 : ℝ) : EReal) + ((1 : ℝ) : EReal) by rw [← EReal.coe_add]; norm_num,
      EReal.left_distrib_of_nonneg (by norm_num) (by norm_num), show ((2 : ℝ) : EReal) = ((1 : ℝ) : EReal) + ((1 : ℝ) : EReal) by
        rw [← EReal.coe_add]; norm_num, EReal.left_distrib_of_nonneg (by norm_num) (by norm_num), EReal.coe_one, mul_one]
  unfold dgl
  generalize dw x t = w
  rw [show Ideal.ofBits .f32 0x3D372713#32 * w * (Ideal.ofBits .f32 0x40400000#32 * (x * x))
    = Ideal.ofBits .f32 0x3D372713#32 * x * x * w * Ideal.ofBits .f32 0x40400000#32 by ac_rfl, h,
    show Ideal.ofBits .f32 0x3D372713#32 * x * (w * x) = Ideal.ofBits .f32 0x3D372713#32 * x * x * w by ac_rfl,
    show Ideal.ofBits .f32 0x3D372713#32 * (w * x * x) = Ideal.ofBits .f32 0x3D372713#32 * x * x * w by ac_rfl,
    mul_left_comm t]
  generalize Ideal.ofBits .f32 0x3D372713#32 * x * x * w = p
  generalize Ideal.ofBits .f32 0x3F000000#32 * (t * (1 + th x)) = q
  ac_rfl
theorem dp_of : res_main_v173 V = rdp V := by
  unfold res_main_v173 res_main_v168 res_main_v135 res_main_v126
  rw [p_of', da_of]
  funext j
  idx_vars j
  pointwise
  refine Eq.trans ?_ (dgelu _ _)
  simp only [dw, th, mul_assoc]

end Cert.Reference7Ideal.Tail
-- ==== Proof.TailClaims.lean ====
/-
  The claim of the first gate's calls: their twelve results are the reference's, index by index over the extended reals.
-/
module

public import proofs.«01_k».proof.Defs
public import proofs.«01_k».proof.Proof.TailRef

@[expose] public section

set_option maxRecDepth 16384

noncomputable section

namespace Cert.Proof.Tail

open Idealize.ShloMosaic TcCoe Idealize.SL.Sem
open Cert.Kernel7Ideal Gen Tail Cert.Proof.Gates
open Cert.Reference7Ideal.Tail
open Idealize.ShloMosaic.StableHlo (launchContents)

/-! ## The kernel's results -/

section
variable (m : (ℓ : Loc nD τ sig) → Buf (Elt Ideal) ℓ) (ρ : Dev nD → PrngReg) (c : Dev nD)

abbrev ar (a : Ref sig .tc) : Buf (Elt Ideal) ((c.tc : Thread nD τ).loc a) := m ((c.tc : Thread nD τ).loc a)
/-- The activation's input, the activation, its product, the gated rows, their product, and the gradients, of the arguments. -/
abbrev kp : Vec Ideal S8192x1024 .f32 := PRE (ar m c main_arg0) (ar m c main_arg1) (ar m c main_arg4)
abbrev ka : Vec Ideal S8192x1024 .f32 := AC (ar m c main_arg0) (ar m c main_arg1) (ar m c main_arg4)
abbrev ks : Vec Ideal S8192x1024 .f32 := YR (ka m c) (ar m c main_arg7)
abbrev ky : Vec Ideal S8192x1024 .bf16 := Y3 (ka m c) (ks m c) (ar m c main_arg2) (ar m c main_arg5)
abbrev kq : Vec Ideal S8192x1024 .f32 := YR (ky m c) (ar m c main_arg8)
abbrev kd : Vec Ideal S8192x1024 .f32 := DR (kq m c) (ar m c main_arg9) (ar m c main_arg6) (ar m c main_arg8)
abbrev kds : Vec Ideal S8192x1024 .f32 := DS (ka m c) (ks m c) (ar m c main_arg2) (kd m c) (ar m c main_arg5)
abbrev kda : Vec Ideal S8192x1024 .f32 := DA (ka m c) (ks m c) (ar m c main_arg2) (kd m c) (ar m c main_arg5) (ar m c main_arg7)
abbrev kdp : Vec Ideal S8192x1024 .f32 := DP (kp m c) (kda m c)

theorem v1 (a : Ref sig .tc) (h : a ∈ argRefs) : V1 m ρ c a = ar m c a := W1_args m ρ c a h
theorem v2 (a : Ref sig .tc) (h : a ∈ argRefs) : V2 m ρ c a = ar m c a := W2_args m ρ c a h
theorem v3 (a : Ref sig .tc) (h : a ∈ argRefs) : V3 m ρ c a = ar m c a := W3_args m ρ c a h
theorem v4 (a : Ref sig .tc) (h : a ∈ argRefs) : V4 m ρ c a = ar m c a := W4_args m ρ c a h
theorem cast_g : (V1 m ρ c main_v0 : Vec Ideal S1024x1024 .bf16) = (ar m c main_arg7 : Vec Ideal S1024x1024 .f32) := by
  show (StableHlo.after hostOps0 (W0 m ρ c) (Proc.devRef .tc main_v0) : S1024x1024.Idx → EReal) = _
  after_results_simp <;> rfl
theorem cast_o : (V1 m ρ c main_v1 : Vec Ideal S1024x1024 .bf16) = (ar m c main_arg8 : Vec Ideal S1024x1024 .f32) := by
  show (StableHlo.after hostOps0 (W0 m ρ c) (Proc.devRef .tc main_v1) : S1024x1024.Idx → EReal) = _
  after_results_simp <;> rfl
theorem o2 : (V2 m ρ c main_v1 : Vec Ideal S1024x1024 .bf16) = (ar m c main_arg8 : Vec Ideal S1024x1024 .f32) :=
  (W2_of m ρ c main_v1 (by decide +kernel)).trans (cast_o m ρ c)
theorem o3 : (V3 m ρ c main_v1 : Vec Ideal S1024x1024 .bf16) = (ar m c main_arg8 : Vec Ideal S1024x1024 .f32) :=
  (W3_of m ρ c main_v1 (by decide +kernel)).trans (o2 m ρ c)
theorem g4 : (V4 m ρ c main_v0 : Vec Ideal S1024x1024 .bf16) = (ar m c main_arg7 : Vec Ideal S1024x1024 .f32) :=
  (W4_of m ρ c main_v0 (by decide +kernel)).trans ((W3_of m ρ c main_v0 (by decide +kernel)).trans ((W2_of m ρ c main_v0 (by decide +kernel)).trans (cast_g m ρ c)))
theorem s2 : V2 m ρ c main_v2_1 = ks m c := by
  refine (arr_after0 m ρ c 5).symm.trans ((end0_5 (V1 m ρ) c).trans ?_)
  rw [v1 m ρ c main_arg0 (by decide), v1 m ρ c main_arg1 (by decide), v1 m ρ c main_arg4 (by decide), cast_g]
theorem s4 : V4 m ρ c main_v2_1 = ks m c :=
  (W4_of m ρ c main_v2_1 (by decide +kernel)).trans ((W3_of m ρ c main_v2_1 (by decide +kernel)).trans (s2 m ρ c))
theorem q3 : V3 m ρ c main_v3_1 = kq m c := by
  refine (arr_after1 m ρ c 10).symm.trans ((end1_10 (V2 m ρ) c).trans ?_)
  rw [y3, s2, o2, v2 m ρ c main_arg0 (by decide), v2 m ρ c main_arg1 (by decide), v2 m ρ c main_arg2 (by decide), v2 m ρ c main_arg4 (by decide), v2 m ρ c main_arg5 (by decide)]
theorem d4 : V4 m ρ c main_v4_0 = kd m c := by
  refine (arr_after2 m ρ c 4).symm.trans ((end2_4 (V3 m ρ) c).trans ?_)
  rw [q3, o3, v3 m ρ c main_arg6 (by decide), v3 m ρ c main_arg9 (by decide)]
theorem r0 : V5 m ρ c main_v2_0 = ka m c := by
  refine (W5_of m ρ c main_v2_0 (by decide +kernel)).trans ((W4_of m ρ c main_v2_0 (by decide +kernel)).trans ((W3_of m ρ c main_v2_0 (by decide +kernel)).trans ((arr_after0 m ρ c 4).symm.trans ((end0_4 (V1 m ρ) c).trans ?_))))
  rw [v1 m ρ c main_arg0 (by decide), v1 m ρ c main_arg1 (by decide), v1 m ρ c main_arg4 (by decide)]
theorem r1 : V5 m ρ c main_v3_0 = ky m c := by
  refine (W5_of m ρ c main_v3_0 (by decide +kernel)).trans ((W4_of m ρ c main_v3_0 (by decide +kernel)).trans ((arr_after1 m ρ c 9).symm.trans ((end1_9 (V2 m ρ) c).trans ?_)))
  rw [y3, s2, v2 m ρ c main_arg0 (by decide), v2 m ρ c main_arg1 (by decide), v2 m ρ c main_arg2 (by decide), v2 m ρ c main_arg4 (by decide), v2 m ρ c main_arg5 (by decide)]
theorem r2 : V5 m ρ c main_v3_2 = XR (kq m c) (ar m c main_arg3) (ar m c main_arg6) := by
  refine (W5_of m ρ c main_v3_2 (by decide +kernel)).trans ((W4_of m ρ c main_v3_2 (by decide +kernel)).trans ((arr_after1 m ρ c 11).symm.trans ((end1_11 (V2 m ρ) c).trans ?_)))
  rw [y3, s2, o2, v2 m ρ c main_arg0 (by decide), v2 m ρ c main_arg1 (by decide), v2 m ρ c main_arg2 (by decide), v2 m ρ c main_arg3 (by decide), v2 m ρ c main_arg4 (by decide), v2 m ρ c main_arg5 (by decide), v2 m ρ c main_arg6 (by decide)]
theorem r3 : V5 m ρ c main_v4_0 = kd m c := (W5_of m ρ c main_v4_0 (by decide +kernel)).trans (d4 m ρ c)
theorem r4 : V5 m ρ c main_v4_1 = DY (kq m c) (ar m c main_arg9) (ar m c main_arg6) := by
  refine (W5_of m ρ c main_v4_1 (by decide +kernel)).trans ((arr_after2 m ρ c 5).symm.trans ((end2_5 (V3 m ρ) c).trans ?_))
  rw [q3, v3 m ρ c main_arg6 (by decide), v3 m ρ c main_arg9 (by decide)]
theorem r5 : V5 m ρ c main_v4_2 = fun i => ∑ t : Fin 16, part (kq m c) (ar m c main_arg9) t i := by
  refine (W5_of m ρ c main_v4_2 (by decide +kernel)).trans ((arr_after2 m ρ c 6).symm.trans ((end2_6 (V3 m ρ) c).trans ?_))
  rw [q3, v3 m ρ c main_arg9 (by decide)]
theorem r6 : V5 m ρ c main_v5_0 = kds m c := by
  refine (arr_after3 m ρ c 8).symm.trans ((end3_8 (V4 m ρ) c).trans ?_)
  rw [ds, ac, s4, d4, v4 m ρ c main_arg0 (by decide), v4 m ρ c main_arg1 (by decide), v4 m ρ c main_arg2 (by decide), v4 m ρ c main_arg4 (by decide), v4 m ρ c main_arg5 (by decide)]
theorem r7 : V5 m ρ c main_v5_1 = DGA (ka m c) (ks m c) (ar m c main_arg2) (kd m c) (ar m c main_arg5) := by
  refine (arr_after3 m ρ c 9).symm.trans ((end3_9 (V4 m ρ) c).trans ?_)
  rw [ac, s4, d4, v4 m ρ c main_arg0 (by decide), v4 m ρ c main_arg1 (by decide), v4 m ρ c main_arg2 (by decide), v4 m ρ c main_arg4 (by decide), v4 m ρ c main_arg5 (by decide)]
theorem r8 : V5 m ρ c main_v5_2 = kdp m c := by
  refine (arr_after3 m ρ c 10).symm.trans ((end3_10 (V4 m ρ) c).trans ?_)
  rw [dp, da, ac, s4, d4, g4, v4 m ρ c main_arg0 (by decide), v4 m ρ c main_arg1 (by decide), v4 m ρ c main_arg2 (by decide), v4 m ρ c main_arg4 (by decide), v4 m ρ c main_arg5 (by decide)]
theorem r9 : V5 m ρ c main_v5_3 = DU (kp m c) (kda m c) (ar m c main_arg4) := by
  refine (arr_after3 m ρ c 11).symm.trans ((end3_11 (V4 m ρ) c).trans ?_)
  rw [da, ac, s4, d4, g4, v4 m ρ c main_arg0 (by decide), v4 m ρ c main_arg1 (by decide), v4 m ρ c main_arg2 (by decide), v4 m ρ c main_arg4 (by decide), v4 m ρ c main_arg5 (by decide)]
theorem r10 : V5 m ρ c main_v5_4 = fun i => ∑ t : Fin 32, partB (kds m c) t i := by
  refine (arr_after3 m ρ c 12).symm.trans ((end3_12 (V4 m ρ) c).trans ?_)
  rw [ds, ac, s4, d4, v4 m ρ c main_arg0 (by decide), v4 m ρ c main_arg1 (by decide), v4 m ρ c main_arg2 (by decide), v4 m ρ c main_arg4 (by decide), v4 m ρ c main_arg5 (by decide)]
theorem r11 : V5 m ρ c main_v5_5 = fun i => ∑ t : Fin 32, partD (kdp m c) (ar m c main_arg1) t i := by
  refine (arr_after3 m ρ c 13).symm.trans ((end3_13 (V4 m ρ) c).trans ?_)
  rw [dp, da, ac, s4, d4, g4, v4 m ρ c main_arg0 (by decide), v4 m ρ c main_arg1 (by decide), v4 m ρ c main_arg2 (by decide), v4 m ρ c main_arg4 (by decide), v4 m ρ c main_arg5 (by decide)]
end

set_option maxHeartbeats 4000000 in
theorem algebraic : Cert.algebraic_Kernel7Ideal_Reference7Ideal := by
  intro m ρ m' ρ' _ hagree
  refine ⟨fun c => V5 m ρ c main_v2_0, fun c => V5 m ρ c main_v3_0, fun c => V5 m ρ c main_v3_2, fun c => V5 m ρ c main_v4_0, fun c => V5 m ρ c main_v4_1, fun c => V5 m ρ c main_v4_2, fun c => V5 m ρ c main_v5_0, fun c => V5 m ρ c main_v5_1, fun c => V5 m ρ c main_v5_2, fun c => V5 m ρ c main_v5_3, fun c => V5 m ρ c main_v5_4, fun c => V5 m ρ c main_v5_5, ?_, ?_⟩
  · refine (θ_run defs _ _).mono (fun r h c => ?_) (run_all (F := Ideal) m ρ)
    have hk : ∀ a ∈ argRefs, r.2.mem ((c.tc : Thread nD τ).loc a) = m ((c.tc : Thread nD τ).loc a) := fun a ha =>
      (h.1 c _ (Region.mem_uc a ((by decide : ∀ a ∈ argRefs, ¬ (Proc.devRef .tc a : DevRef τ sig).isScoped) a ha))).trans (W5_args m ρ c a ha)
    exact ⟨h.1 c _ (Region.mem_uc main_v2_0 (by decide)), h.1 c _ (Region.mem_uc main_v3_0 (by decide)), h.1 c _ (Region.mem_uc main_v3_2 (by decide)), h.1 c _ (Region.mem_uc main_v4_0 (by decide)), h.1 c _ (Region.mem_uc main_v4_1 (by decide)), h.1 c _ (Region.mem_uc main_v4_2 (by decide)), h.1 c _ (Region.mem_uc main_v5_0 (by decide)), h.1 c _ (Region.mem_uc main_v5_1 (by decide)), h.1 c _ (Region.mem_uc main_v5_2 (by decide)), h.1 c _ (Region.mem_uc main_v5_3 (by decide)), h.1 c _ (Region.mem_uc main_v5_4 (by decide)), h.1 c _ (Region.mem_uc main_v5_5 (by decide)),
      hk main_arg0 (by decide), hk main_arg1 (by decide), hk main_arg2 (by decide), hk main_arg3 (by decide), hk main_arg4 (by decide), hk main_arg5 (by decide), hk main_arg6 (by decide), hk main_arg7 (by decide), hk main_arg8 (by decide), hk main_arg9 (by decide)⟩
  refine (θ_run Cert.Reference7Ideal.defs _ _).mono (fun r h c => ?_) (Cert.Reference7Ideal.Value.run (F := Ideal) m' ρ')
  obtain ⟨h0, h1, h2, h3, h4, h5, h6, h7, h8, h9, h10, h11, hk⟩ := h c
  obtain ⟨a0, a1, a2, a3, a4, a5, a6, a7, a8, a9⟩ := hagree c
  clear hagree
  have e0 : launchContents m' c (Proc.devRef .tc Cert.Reference7Ideal.main_arg0) = ar m c main_arg0 := a0
  have e1 : launchContents m' c (Proc.devRef .tc Cert.Reference7Ideal.main_arg1) = ar m c main_arg1 := a1
  have e2 : launchContents m' c (Proc.devRef .tc Cert.Reference7Ideal.main_arg2) = ar m c main_arg2 := a2
  have e3 : launchContents m' c (Proc.devRef .tc Cert.Reference7Ideal.main_arg3) = ar m c main_arg3 := a3
  have e4 : launchContents m' c (Proc.devRef .tc Cert.Reference7Ideal.main_arg4) = ar m c main_arg4 := a4
  have e5 : launchContents m' c (Proc.devRef .tc Cert.Reference7Ideal.main_arg5) = ar m c main_arg5 := a5
  have e6 : launchContents m' c (Proc.devRef .tc Cert.Reference7Ideal.main_arg6) = ar m c main_arg6 := a6
  have e7 : launchContents m' c (Proc.devRef .tc Cert.Reference7Ideal.main_arg7) = ar m c main_arg7 := a7
  have e8 : launchContents m' c (Proc.devRef .tc Cert.Reference7Ideal.main_arg8) = ar m c main_arg8 := a8
  have e9 : launchContents m' c (Proc.devRef .tc Cert.Reference7Ideal.main_arg9) = ar m c main_arg9 := a9
  have ea : ra (launchContents m' c) = ka m c := by unfold ra at'; rw [e0, e1, e4]
  have es : rs (launchContents m' c) = ks m c := by unfold rs at'; rw [ea, e7]
  have ey : ry (launchContents m' c) = ky m c := by unfold ry at'; rw [ea, es, e2, e5]
  have eq : rq (launchContents m' c) = kq m c := by unfold rq at'; rw [ey, e8]
  have ed : rd (launchContents m' c) = kd m c := by unfold rd at'; rw [eq, e6, e8, e9]
  have eds : rds (launchContents m' c) = kds m c := by unfold rds at'; rw [ea, es, ed, e2, e5]
  have eda : rda (launchContents m' c) = kda m c := by unfold rda at'; rw [ea, es, ed, e2, e5, e7]
  have edp : rdp (launchContents m' c) = kdp m c := by unfold rdp rp at'; rw [eda, e0, e1, e4]
  refine ⟨h0.trans ?_, h1.trans ?_, h2.trans ?_, h3.trans ?_, h4.trans ?_, h5.trans ?_, h6.trans ?_, h7.trans ?_, h8.trans ?_, h9.trans ?_, h10.trans ?_, h11.trans ?_, hk⟩ <;> clear h hk h0 h1 h2 h3 h4 h5 h6 h7 h8 h9 h10 h11
  · exact (a_of _).trans (ea.trans (r0 m ρ c).symm)
  · exact (y_of _).trans (ey.trans (r1 m ρ c).symm)
  · refine Eq.trans ?_ (r2 m ρ c).symm
    rw [q_of, eq, e3, e6]
    funext j
    idx_vars j
    pointwise
    rfl
  · exact (d_of _).trans (ed.trans (r3 m ρ c).symm)
  · refine Eq.trans ?_ (r4 m ρ c).symm
    unfold Cert.Reference7Ideal.Value.res_main_v58 Cert.Reference7Ideal.Value.res_main_v48 Cert.Reference7Ideal.Value.res_main_v36
      Cert.Reference7Ideal.Value.res_main_v35
    rw [q_of, eq, e6, e9]
    funext j
    idx_vars j
    pointwise
    rfl
  · refine Eq.trans ?_ (r5 m ρ c).symm
    unfold Cert.Reference7Ideal.Value.res_main_v41 Cert.Reference7Ideal.Value.res_main_v36 Cert.Reference7Ideal.Value.res_main_v35
    rw [q_of, eq, e9]
    funext j
    idx_vars j
    pointwise
    rw [Sums.sum_blocks (n := 16) (b := 512) (by norm_num) _ (fun s r => by omega)]
    rfl
  · exact (ds_of _).trans (eds.trans (r6 m ρ c).symm)
  · refine Eq.trans ?_ (r7 m ρ c).symm
    unfold Cert.Reference7Ideal.Value.res_main_v152 Cert.Reference7Ideal.Value.res_main_v149 Cert.Reference7Ideal.Value.res_main_v150_2
      Cert.Reference7Ideal.Value.res_main_v145
    rw [a_of', ea, d_of, ed, e2, e5, e7]
    funext j
    idx_vars j
    pointwise
    refine (Gates.gate _ _ _).trans ?_
    simp only [DGA, DG, G1, sg, zero_sub, ix2_0, ix2_1]
    rfl
  · exact (dp_of _).trans (edp.trans (r8 m ρ c).symm)
  · refine Eq.trans ?_ (r9 m ρ c).symm
    rw [dp_of, edp, e4]
    funext j
    idx_vars j
    pointwise
    rfl
  · refine Eq.trans ?_ (r10 m ρ c).symm
    rw [ds_of, eds]
    funext j
    idx_vars j
    pointwise
    rw [Sums.sum_blocks (n := 32) (b := 256) (by norm_num) _ (fun s r => by omega)]
    rfl
  · refine Eq.trans ?_ (r11 m ρ c).symm
    rw [dp_of, edp, e1]
    funext j
    idx_vars j
    pointwise
    rw [Sums.sum_blocks (n := 32) (b := 256) (by norm_num) _ (fun s r => by omega)]
    rfl

end Cert.Proof.Tail
-- ==== Proof.AinFwd.lean ====
/-
  What the first layer's norm and projection call leaves: the normed rows, and their two projections.
-/
module

public import proofs.«01_k».proof.Defs
public import proofs.«01_k».proof.Proof.Gen.Kernel8Ideal.Value
public import Idealize.ShloMosaic.Lib.Pipeline.ValueKit
public import proofs.«01_k».proof.Proof.NormDefs
public import proofs.«01_k».proof.Proof.Calls

@[expose] public section

set_option maxRecDepth 16384

noncomputable section

namespace Cert.Kernel8Ideal.Ain

open Cert.Kernel8Ideal Gen Cert.Proof.Calls
open Idealize.ShloMosaic TcCoe Idealize.SL.Sem
open Pipeline (Dat)

variable (m : (ℓ : Loc nD τ sig) → Buf (Elt Ideal) ℓ) (c : Dev nD)

theorem hz : (![0, 0] : Fin 2 → Nat) = fun _ => 0 := funext fun a => by fin_cases a <;> rfl
theorem hz3 : (![0, 0, 0] : Fin 3 → Nat) = fun _ => 0 := funext fun a => by fin_cases a <;> rfl

theorem pos : ∀ t : Fin cfg0.N, (win0_0.index t 0 = t.val ∧ win0_0.index t 1 = 0) ∧ (win0_1.index t 0 = 0 ∧ win0_1.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) := by decide +kernel
theorem pos3 : ∀ t : Fin cfg0.N, win0_2.index t = fun _ => 0 := by decide +kernel
theorem blk_0 (t : Fin cfg0.N) : (iblk m c 0 t : Vec Ideal S512x1024 .f32) = rows (n := 16) (b := 512) (T := 8192) (D := 1024) rfl t (V m c main_arg0) :=
  rows_of (D := 1024) rfl t (V m c main_arg0) ((cfg0.win 0).blk t).view.emb (pos t).1.1 (pos t).1.2 (fun _ => rfl) fun _ => rfl
theorem blk_1 (t : Fin cfg0.N) : (iblk m c 1 t : Vec Ideal S1x1024 .f32) = V m c main_arg1 :=
  whole_of (V m c main_arg1) ((cfg0.win 1).blk t).view.emb (pos t).2.1.1 (pos t).2.1.2 (fun _ => rfl) fun _ => rfl
theorem blk_2 (t : Fin cfg0.N) : (iblk m c 2 t : Vec Ideal S8x1024x256 .bf16) = V m c main_v2 :=
  Memref.read_access_unit_zero (Elt Ideal) main_v2 (by rw [pos3 t]; exact funext fun a => Nat.zero_mul _) (fun a => by rw [pos3 t]; simp) _

theorem arr_3 (G : Vec Ideal S8192x1024 .bf16) (h : ∀ t : Fin cfg0.N, (dats m 0 c).after 3 t = rows (n := 16) (b := 512) (D := 1024) rfl t G) :
    (dats m 0 c).arrAt 3 cfg0.N = G :=
  (dats m 0 c).arrAt_eq_of_cover 3 G (fun t _ => (h t).trans (rows_of (D := 1024) rfl t G ((cfg0.win 3).blk t).view.emb (pos t).2.2.1.1 (pos t).2.2.1.2 (fun _ => rfl) fun _ => rfl).symm)
    ((by decide +kernel : (cfg0.win 3).Covers).cover _ (Memref.isWhole_whole _))
theorem arr_4 (G : Vec Ideal S8192x1024 .f32) (h : ∀ t : Fin cfg0.N, (dats m 0 c).after 4 t = rows (n := 16) (b := 512) (D := 1024) rfl t G) :
    (dats m 0 c).arrAt 4 cfg0.N = G :=
  (dats m 0 c).arrAt_eq_of_cover 4 G (fun t _ => (h t).trans (rows_of (D := 1024) rfl t G ((cfg0.win 4).blk t).view.emb (pos t).2.2.2.1.1 (pos t).2.2.2.1.2 (fun _ => rfl) fun _ => rfl).symm)
    ((by decide +kernel : (cfg0.win 4).Covers).cover _ (Memref.isWhole_whole _))
theorem arr_5 (G : Vec Ideal S8192x1024 .f32) (h : ∀ t : Fin cfg0.N, (dats m 0 c).after 5 t = rows (n := 16) (b := 512) (D := 1024) rfl t G) :
    (dats m 0 c).arrAt 5 cfg0.N = G :=
  (dats m 0 c).arrAt_eq_of_cover 5 G (fun t _ => (h t).trans (rows_of (D := 1024) rfl t G ((cfg0.win 5).blk t).view.emb (pos t).2.2.2.2.1 (pos t).2.2.2.2.2 (fun _ => rfl) fun _ => rfl).symm)
    ((by decide +kernel : (cfg0.win 5).Covers).cover _ (Memref.isWhole_whole _))

open Cert.Proof (Norm.H Norm.PJ Norm.pj_ite)

theorem final_3 : (dats m 0 c).arrAt 3 cfg0.N = Norm.H (V m c main_arg0) (V m c main_arg1) :=
  arr_3 m c _ fun t => by
    rw [after0_3]
    unfold_out out0_3
    rw [View.canon_unit_zero hz]
    simp only [View.ld_unit_zero (S := S512x1024) hz, View.ld_unit_zero (S := S1x1024) hz]
    rw [blk_0, blk_1]
    funext j
    idx_vars j
    pointwise [k0_pay3] <;> rfl

theorem final_4 : (dats m 0 c).arrAt 4 cfg0.N = Norm.PJ (V m c main_arg0) (V m c main_arg1) (V m c main_v2) 0 :=
  arr_4 m c _ fun t => by
    rw [after0_4]
    unfold_out out0_4
    rw [View.canon_unit_zero hz]
    simp only [View.ld_unit_zero (S := S512x1024) hz, View.ld_unit_zero (S := S1x1024) hz, View.ld_unit_zero (S := S8x1024x256) hz3]
    rw [blk_0, blk_1, blk_2]
    funext j
    idx_vars j
    pointwise [k0_pay4, k0_pay2, k0_pay3]
    exact Norm.pj_ite _ (fun j k q => V m c main_v2 (ix3 ⟨4 * 0 + j.val, by omega⟩ k q)) j1

theorem final_5 : (dats m 0 c).arrAt 5 cfg0.N = Norm.PJ (V m c main_arg0) (V m c main_arg1) (V m c main_v2) 1 :=
  arr_5 m c _ fun t => by
    rw [after0_5]
    unfold_out out0_5
    rw [View.canon_unit_zero hz]
    simp only [View.ld_unit_zero (S := S512x1024) hz, View.ld_unit_zero (S := S1x1024) hz, View.ld_unit_zero (S := S8x1024x256) hz3]
    rw [blk_0, blk_1, blk_2]
    funext j
    idx_vars j
    pointwise [k0_pay1, k0_pay2, k0_pay3, k0_pay5, k0_pay6, k0_pay7, k0_pay8, k0_pay9]
    exact Norm.pj_ite _ (fun j k q => V m c main_v2 (ix3 ⟨4 * 1 + j.val, by omega⟩ k q)) j1

end Cert.Kernel8Ideal.Ain
-- ==== Proof.AinFwdClaims.lean ====
/-
  The claim of the first layer's norm and projection call: its three results are the reference's, index by index over the
  extended reals.
-/
module

public import proofs.«01_k».proof.Proof.AinFwd
public import proofs.«01_k».proof.Proof.Gen.Reference8Ideal.Run

@[expose] public section

set_option maxRecDepth 16384

noncomputable section

namespace Cert.Proof.AinFwd

open Idealize.ShloMosaic TcCoe Idealize.SL.Sem
open Cert.Kernel8Ideal Gen Ain

variable (m : (ℓ : Loc nD τ sig) → Buf (Elt Ideal) ℓ) (ρ : Dev nD → PrngReg)

theorem w_blocks (c : Dev nD) (j : Fin 8) (d : Fin 1024) (k : Fin 256) : (V m c main_v2 : S8x1024x256.Idx → EReal) (ix3 j d k)
    = (m ((c : Thread nD τ).loc main_arg2) : S1024x2048.Idx → EReal) (ix2 d ⟨j.val * 256 + k.val, by omega⟩) := by
  show (StableHlo.after hostOps0 (fun b => m (c, b)) (Proc.devRef .tc main_v2) : S8x1024x256.Idx → EReal) (ix3 j d k) = _
  after_results_simp
  pointwise

/-- Half `b` of the weights' columns, as the call's four blocks. -/
theorem half (c : Dev nD) (h : Fin 1024 → EReal) (b : Fin 2) (d : Fin 1024) :
    ∑ k, h k * (m ((c : Thread nD τ).loc main_arg2) : S1024x2048.Idx → EReal) (ix2 k ⟨1024 * b.val + d.val, by omega⟩)
      = Norm.pj h (fun j k q => V m c main_v2 (ix3 ⟨4 * b.val + j.val, by omega⟩ k q)) d :=
  Norm.pj_cols h _ (fun k q => (m ((c : Thread nD τ).loc main_arg2) : S1024x2048.Idx → EReal) (ix2 k q)) ⟨1024 * b.val, by omega⟩
    (fun j k q => (w_blocks m c _ k q).trans (congrArg (fun q => (m ((c : Thread nD τ).loc main_arg2) : S1024x2048.Idx → EReal) (ix2 k q))
      (Fin.ext (by dsimp only; omega)))) d

theorem algebraic : Cert.algebraic_Kernel8Ideal_Reference8Ideal := by
  intro m ρ m' ρ' _ hagree
  refine ⟨_, _, _, Cert.Kernel8Ideal.Value.run_blocks m ρ, ?_⟩
  refine (θ_run Cert.Reference8Ideal.defs _ _).mono (fun r h c => ?_) (Cert.Reference8Ideal.Value.run (F := Ideal) m' ρ')
  obtain ⟨h0, h1, h2, h3⟩ := h c
  obtain ⟨a0, a1, a2⟩ := hagree c
  clear hagree
  refine ⟨h0.trans ?_, h1.trans ?_, h2.trans ?_, h3⟩
  · rw [final_3, a0, a1, V_main_arg0, V_main_arg1]
    funext j
    idx_vars j
    pointwise
    rfl
  · rw [final_4, a0, a1, a2]
    funext j
    idx_vars j
    refine Eq.trans ?_ (half m c _ 0 j1)
    rw [V_main_arg0, V_main_arg1]
    pointwise
  · rw [final_5, a0, a1, a2]
    funext j
    idx_vars j
    refine Eq.trans ?_ (half m c _ 1 j1)
    rw [V_main_arg0, V_main_arg1]
    pointwise

end Cert.Proof.AinFwd
-- ==== Proof.BinFwd.lean ====
/-
  What the second layer's call of two norms and their projections leaves: the rows normed with either scale, and two
  projections of each.
-/
module

public import proofs.«01_k».proof.Defs
public import proofs.«01_k».proof.Proof.Gen.Kernel9Ideal.Value
public import Idealize.ShloMosaic.Lib.Pipeline.ValueKit
public import proofs.«01_k».proof.Proof.NormDefs
public import proofs.«01_k».proof.Proof.Calls

@[expose] public section

set_option maxRecDepth 16384

noncomputable section

namespace Cert.Kernel9Ideal.Bin

open Cert.Kernel9Ideal Gen Cert.Proof.Calls
open Idealize.ShloMosaic TcCoe Idealize.SL.Sem
open Pipeline (Dat)

variable (m : (ℓ : Loc nD τ sig) → Buf (Elt Ideal) ℓ) (c : Dev nD)

theorem hz : (![0, 0] : Fin 2 → Nat) = fun _ => 0 := funext fun a => by fin_cases a <;> rfl
theorem hz3 : (![0, 0, 0] : Fin 3 → Nat) = fun _ => 0 := funext fun a => by fin_cases a <;> rfl

theorem pos : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) := by decide +kernel
theorem pos3 : ∀ t : Fin cfg0.N, win0_3.index t = (fun _ => 0) ∧ win0_4.index t = fun _ => 0 := by decide +kernel
theorem blk_0 (t : Fin cfg0.N) : (iblk m c 0 t : Vec Ideal S512x1024 .f32) = rows (n := 16) (b := 512) (T := 8192) (D := 1024) rfl t (V m c main_arg0) :=
  rows_of (D := 1024) rfl t (V m c main_arg0) ((cfg0.win 0).blk t).view.emb (pos t).1.1 (pos t).1.2 (fun _ => rfl) fun _ => rfl
theorem blk_1 (t : Fin cfg0.N) : (iblk m c 1 t : Vec Ideal S1x1024 .f32) = V m c main_arg1 :=
  whole_of (V m c main_arg1) ((cfg0.win 1).blk t).view.emb (pos t).2.1.1 (pos t).2.1.2 (fun _ => rfl) fun _ => rfl
theorem blk_2 (t : Fin cfg0.N) : (iblk m c 2 t : Vec Ideal S1x1024 .f32) = V m c main_arg2 :=
  whole_of (V m c main_arg2) ((cfg0.win 2).blk t).view.emb (pos t).2.2.1 (pos t).2.2.2 (fun _ => rfl) fun _ => rfl
theorem blk_3 (t : Fin cfg0.N) : (iblk m c 3 t : Vec Ideal S8x1024x256 .bf16) = V m c main_v2 :=
  Memref.read_access_unit_zero (Elt Ideal) main_v2 (by rw [(pos3 t).1]; exact funext fun a => Nat.zero_mul _) (fun a => by rw [(pos3 t).1]; simp) _
theorem blk_4 (t : Fin cfg0.N) : (iblk m c 4 t : Vec Ideal S8x1024x256 .bf16) = V m c main_v5 :=
  Memref.read_access_unit_zero (Elt Ideal) main_v5 (by rw [(pos3 t).2]; exact funext fun a => Nat.zero_mul _) (fun a => by rw [(pos3 t).2]; simp) _

theorem pos_5 : ∀ t : Fin cfg0.N, win0_5.index t 0 = t.val ∧ win0_5.index t 1 = 0 := by decide +kernel
theorem arr_5 (G : Vec Ideal S8192x1024 .bf16) (h : ∀ t : Fin cfg0.N, (dats m 0 c).after 5 t = rows (n := 16) (b := 512) (D := 1024) rfl t G) :
    (dats m 0 c).arrAt 5 cfg0.N = G :=
  (dats m 0 c).arrAt_eq_of_cover 5 G (fun t _ => (h t).trans (rows_of (D := 1024) rfl t G ((cfg0.win 5).blk t).view.emb (pos_5 t).1 (pos_5 t).2 (fun _ => rfl) fun _ => rfl).symm)
    ((by decide +kernel : (cfg0.win 5).Covers).cover _ (Memref.isWhole_whole _))
theorem pos_6 : ∀ t : Fin cfg0.N, win0_6.index t 0 = t.val ∧ win0_6.index t 1 = 0 := by decide +kernel
theorem arr_6 (G : Vec Ideal S8192x1024 .bf16) (h : ∀ t : Fin cfg0.N, (dats m 0 c).after 6 t = rows (n := 16) (b := 512) (D := 1024) rfl t G) :
    (dats m 0 c).arrAt 6 cfg0.N = G :=
  (dats m 0 c).arrAt_eq_of_cover 6 G (fun t _ => (h t).trans (rows_of (D := 1024) rfl t G ((cfg0.win 6).blk t).view.emb (pos_6 t).1 (pos_6 t).2 (fun _ => rfl) fun _ => rfl).symm)
    ((by decide +kernel : (cfg0.win 6).Covers).cover _ (Memref.isWhole_whole _))
theorem pos_7 : ∀ t : Fin cfg0.N, win0_7.index t 0 = t.val ∧ win0_7.index t 1 = 0 := by decide +kernel
theorem arr_7 (G : Vec Ideal S8192x1024 .bf16) (h : ∀ t : Fin cfg0.N, (dats m 0 c).after 7 t = rows (n := 16) (b := 512) (D := 1024) rfl t G) :
    (dats m 0 c).arrAt 7 cfg0.N = G :=
  (dats m 0 c).arrAt_eq_of_cover 7 G (fun t _ => (h t).trans (rows_of (D := 1024) rfl t G ((cfg0.win 7).blk t).view.emb (pos_7 t).1 (pos_7 t).2 (fun _ => rfl) fun _ => rfl).symm)
    ((by decide +kernel : (cfg0.win 7).Covers).cover _ (Memref.isWhole_whole _))
theorem pos_8 : ∀ t : Fin cfg0.N, win0_8.index t 0 = t.val ∧ win0_8.index t 1 = 0 := by decide +kernel
theorem arr_8 (G : Vec Ideal S8192x1024 .bf16) (h : ∀ t : Fin cfg0.N, (dats m 0 c).after 8 t = rows (n := 16) (b := 512) (D := 1024) rfl t G) :
    (dats m 0 c).arrAt 8 cfg0.N = G :=
  (dats m 0 c).arrAt_eq_of_cover 8 G (fun t _ => (h t).trans (rows_of (D := 1024) rfl t G ((cfg0.win 8).blk t).view.emb (pos_8 t).1 (pos_8 t).2 (fun _ => rfl) fun _ => rfl).symm)
    ((by decide +kernel : (cfg0.win 8).Covers).cover _ (Memref.isWhole_whole _))
theorem pos_9 : ∀ t : Fin cfg0.N, win0_9.index t 0 = t.val ∧ win0_9.index t 1 = 0 := by decide +kernel
theorem arr_9 (G : Vec Ideal S8192x1024 .bf16) (h : ∀ t : Fin cfg0.N, (dats m 0 c).after 9 t = rows (n := 16) (b := 512) (D := 1024) rfl t G) :
    (dats m 0 c).arrAt 9 cfg0.N = G :=
  (dats m 0 c).arrAt_eq_of_cover 9 G (fun t _ => (h t).trans (rows_of (D := 1024) rfl t G ((cfg0.win 9).blk t).view.emb (pos_9 t).1 (pos_9 t).2 (fun _ => rfl) fun _ => rfl).symm)
    ((by decide +kernel : (cfg0.win 9).Covers).cover _ (Memref.isWhole_whole _))
theorem pos_10 : ∀ t : Fin cfg0.N, win0_10.index t 0 = t.val ∧ win0_10.index t 1 = 0 := by decide +kernel
theorem arr_10 (G : Vec Ideal S8192x1024 .f32) (h : ∀ t : Fin cfg0.N, (dats m 0 c).after 10 t = rows (n := 16) (b := 512) (D := 1024) rfl t G) :
    (dats m 0 c).arrAt 10 cfg0.N = G :=
  (dats m 0 c).arrAt_eq_of_cover 10 G (fun t _ => (h t).trans (rows_of (D := 1024) rfl t G ((cfg0.win 10).blk t).view.emb (pos_10 t).1 (pos_10 t).2 (fun _ => rfl) fun _ => rfl).symm)
    ((by decide +kernel : (cfg0.win 10).Covers).cover _ (Memref.isWhole_whole _))

open Cert.Proof (Norm.H Norm.PJ Norm.pj_ite)

theorem final_5 : (dats m 0 c).arrAt 5 cfg0.N = Norm.H (V m c main_arg0) (V m c main_arg1) :=
  arr_5 m c _ fun t => by
    rw [after0_5]
    unfold_out out0_5
    rw [View.canon_unit_zero hz]
    simp only [View.ld_unit_zero (S := S512x1024) hz, View.ld_unit_zero (S := S1x1024) hz]
    rw [blk_0, blk_1]
    funext j
    idx_vars j
    pointwise [k0_pay7] <;> rfl

theorem final_6 : (dats m 0 c).arrAt 6 cfg0.N = Norm.H (V m c main_arg0) (V m c main_arg2) :=
  arr_6 m c _ fun t => by
    rw [after0_6]
    unfold_out out0_6
    rw [View.canon_unit_zero hz]
    simp only [View.ld_unit_zero (S := S512x1024) hz, View.ld_unit_zero (S := S1x1024) hz]
    rw [blk_0, blk_2]
    funext j
    idx_vars j
    pointwise [k0_pay8] <;> rfl

theorem final_7 : (dats m 0 c).arrAt 7 cfg0.N = Norm.PJ (V m c main_arg0) (V m c main_arg1) (V m c main_v2) 0 :=
  arr_7 m c _ fun t => by
    rw [after0_7]
    unfold_out out0_7
    rw [View.canon_unit_zero hz]
    simp only [View.ld_unit_zero (S := S512x1024) hz, View.ld_unit_zero (S := S1x1024) hz, View.ld_unit_zero (S := S8x1024x256) hz3]
    rw [blk_0, blk_1, blk_3]
    funext j
    idx_vars j
    pointwise [k0_pay2, k0_pay12, k0_pay9, k0_pay10, k0_pay11, k0_pay5, k0_pay7]
    exact Norm.pj_ite _ (fun j k q => V m c main_v2 (ix3 ⟨4 * 0 + j.val, by omega⟩ k q)) j1

theorem final_8 : (dats m 0 c).arrAt 8 cfg0.N = Norm.PJ (V m c main_arg0) (V m c main_arg1) (V m c main_v2) 1 :=
  arr_8 m c _ fun t => by
    rw [after0_8]
    unfold_out out0_8
    rw [View.canon_unit_zero hz]
    simp only [View.ld_unit_zero (S := S512x1024) hz, View.ld_unit_zero (S := S1x1024) hz, View.ld_unit_zero (S := S8x1024x256) hz3]
    rw [blk_0, blk_1, blk_3]
    funext j
    idx_vars j
    pointwise [k0_pay3, k0_pay13, k0_pay5, k0_pay7]
    exact Norm.pj_ite _ (fun j k q => V m c main_v2 (ix3 ⟨4 * 1 + j.val, by omega⟩ k q)) j1

theorem final_9 : (dats m 0 c).arrAt 9 cfg0.N = Norm.PJ (V m c main_arg0) (V m c main_arg2) (V m c main_v5) 0 :=
  arr_9 m c _ fun t => by
    rw [after0_9]
    unfold_out out0_9
    rw [View.canon_unit_zero hz]
    simp only [View.ld_unit_zero (S := S512x1024) hz, View.ld_unit_zero (S := S1x1024) hz, View.ld_unit_zero (S := S8x1024x256) hz3]
    rw [blk_0, blk_2, blk_4]
    funext j
    idx_vars j
    pointwise [k0_pay4, k0_pay14, k0_pay6, k0_pay8]
    exact Norm.pj_ite _ (fun j k q => V m c main_v5 (ix3 ⟨4 * 0 + j.val, by omega⟩ k q)) j1

theorem final_10 : (dats m 0 c).arrAt 10 cfg0.N = Norm.PJ (V m c main_arg0) (V m c main_arg2) (V m c main_v5) 1 :=
  arr_10 m c _ fun t => by
    rw [after0_10]
    unfold_out out0_10
    rw [View.canon_unit_zero hz]
    simp only [View.ld_unit_zero (S := S512x1024) hz, View.ld_unit_zero (S := S1x1024) hz, View.ld_unit_zero (S := S8x1024x256) hz3]
    rw [blk_0, blk_2, blk_4]
    funext j
    idx_vars j
    pointwise [k0_pay1, k0_pay16, k0_pay17, k0_pay18, k0_pay19, k0_pay15, k0_pay6, k0_pay8]
    exact Norm.pj_ite _ (fun j k q => V m c main_v5 (ix3 ⟨4 * 1 + j.val, by omega⟩ k q)) j1

end Cert.Kernel9Ideal.Bin
-- ==== Proof.BinFwdClaims.lean ====
/-
  The claim of the second layer's call of two norms and their projections: its six results are the reference's, index by index over the
  extended reals.
-/
module

public import proofs.«01_k».proof.Proof.BinFwd
public import proofs.«01_k».proof.Proof.Gen.Reference9Ideal.Run

@[expose] public section

set_option maxRecDepth 16384

noncomputable section

namespace Cert.Proof.BinFwd

open Idealize.ShloMosaic TcCoe Idealize.SL.Sem
open Cert.Kernel9Ideal Gen Bin

variable (m : (ℓ : Loc nD τ sig) → Buf (Elt Ideal) ℓ) (ρ : Dev nD → PrngReg)

theorem wkv_blocks (c : Dev nD) (j : Fin 8) (d : Fin 1024) (k : Fin 256) : (V m c main_v2 : S8x1024x256.Idx → EReal) (ix3 j d k)
    = (m ((c : Thread nD τ).loc main_arg3) : S1024x2048.Idx → EReal) (ix2 d ⟨j.val * 256 + k.val, by omega⟩) := by
  show (StableHlo.after hostOps0 (fun b => m (c, b)) (Proc.devRef .tc main_v2) : S8x1024x256.Idx → EReal) (ix3 j d k) = _
  after_results_simp
  pointwise

/-- Half `b` of the weights' columns, as the call's four blocks. -/
theorem wkv_half (c : Dev nD) (h : Fin 1024 → EReal) (b : Fin 2) (d : Fin 1024) :
    ∑ k, h k * (m ((c : Thread nD τ).loc main_arg3) : S1024x2048.Idx → EReal) (ix2 k ⟨1024 * b.val + d.val, by omega⟩)
      = Norm.pj h (fun j k q => V m c main_v2 (ix3 ⟨4 * b.val + j.val, by omega⟩ k q)) d :=
  Norm.pj_cols h _ (fun k q => (m ((c : Thread nD τ).loc main_arg3) : S1024x2048.Idx → EReal) (ix2 k q)) ⟨1024 * b.val, by omega⟩
    (fun j k q => (wkv_blocks m c _ k q).trans (congrArg (fun q => (m ((c : Thread nD τ).loc main_arg3) : S1024x2048.Idx → EReal) (ix2 k q))
      (Fin.ext (by dsimp only; omega)))) d

theorem win_blocks (c : Dev nD) (j : Fin 8) (d : Fin 1024) (k : Fin 256) : (V m c main_v5 : S8x1024x256.Idx → EReal) (ix3 j d k)
    = (m ((c : Thread nD τ).loc main_arg4) : S1024x2048.Idx → EReal) (ix2 d ⟨j.val * 256 + k.val, by omega⟩) := by
  show (StableHlo.after hostOps0 (fun b => m (c, b)) (Proc.devRef .tc main_v5) : S8x1024x256.Idx → EReal) (ix3 j d k) = _
  after_results_simp
  pointwise

/-- Half `b` of the weights' columns, as the call's four blocks. -/
theorem win_half (c : Dev nD) (h : Fin 1024 → EReal) (b : Fin 2) (d : Fin 1024) :
    ∑ k, h k * (m ((c : Thread nD τ).loc main_arg4) : S1024x2048.Idx → EReal) (ix2 k ⟨1024 * b.val + d.val, by omega⟩)
      = Norm.pj h (fun j k q => V m c main_v5 (ix3 ⟨4 * b.val + j.val, by omega⟩ k q)) d :=
  Norm.pj_cols h _ (fun k q => (m ((c : Thread nD τ).loc main_arg4) : S1024x2048.Idx → EReal) (ix2 k q)) ⟨1024 * b.val, by omega⟩
    (fun j k q => (win_blocks m c _ k q).trans (congrArg (fun q => (m ((c : Thread nD τ).loc main_arg4) : S1024x2048.Idx → EReal) (ix2 k q))
      (Fin.ext (by dsimp only; omega)))) d

theorem algebraic : Cert.algebraic_Kernel9Ideal_Reference9Ideal := by
  intro m ρ m' ρ' _ hagree
  refine ⟨_, _, _, _, _, _, Cert.Kernel9Ideal.Value.run_blocks m ρ, ?_⟩
  refine (θ_run Cert.Reference9Ideal.defs _ _).mono (fun r h c => ?_) (Cert.Reference9Ideal.Value.run (F := Ideal) m' ρ')
  obtain ⟨h0, h1, h2, h3, h4, h5, h6⟩ := h c
  obtain ⟨a0, a1, a2, a3, a4⟩ := hagree c
  clear hagree
  refine ⟨h0.trans ?_, h1.trans ?_, h2.trans ?_, h3.trans ?_, h4.trans ?_, h5.trans ?_, h6⟩
  · rw [final_5, a0, a1, V_main_arg0, V_main_arg1]
    funext j
    idx_vars j
    pointwise
    rfl
  · rw [final_6, a0, a2, V_main_arg0, V_main_arg2]
    funext j
    idx_vars j
    pointwise
    rfl
  · rw [final_7, a0, a1, a3]
    funext j
    idx_vars j
    refine Eq.trans ?_ (wkv_half m c _ 0 j1)
    rw [V_main_arg0, V_main_arg1]
    pointwise
  · rw [final_8, a0, a1, a3]
    funext j
    idx_vars j
    refine Eq.trans ?_ (wkv_half m c _ 1 j1)
    rw [V_main_arg0, V_main_arg1]
    pointwise
  · rw [final_9, a0, a2, a4]
    funext j
    idx_vars j
    refine Eq.trans ?_ (win_half m c _ 0 j1)
    rw [V_main_arg0, V_main_arg2]
    pointwise
  · rw [final_10, a0, a2, a4]
    funext j
    idx_vars j
    refine Eq.trans ?_ (win_half m c _ 1 j1)
    rw [V_main_arg0, V_main_arg2]
    pointwise

end Cert.Proof.BinFwd
-- ==== Proof.Loose.lean ====
/-
  A body whose contents nobody names: it loads, stores and loops, and every buffer it is handed it gives back at some
  contents.
-/
module

public import Idealize.ShloMosaic.Lib.Pipeline.FrameBody
public import Idealize.ShloMosaic.Lib.Pipeline.RegionsLoop
public import Idealize.ShloMosaic.Lib.Pipeline.FrameSuffix

@[expose] public section

noncomputable section

namespace Cert.Proof.Loose

open Idealize.ShloMosaic TcCoe
open Idealize.SL RA BI BIBase Laws ProofMode Sem
open Rounds

variable {nD : ℕ} {τ : Topo} {sig : RefSig} {Val : EltTy → Type} {Λ : Labels} (defs : Defs nD τ sig Val Λ) (𝒱 : Variants) (c : Dev nD)

local notation "𝕄" => MT nD τ sig Unit Val ℕ (UR sig nD τ) ℕ

/-- A buffer at some contents. -/
abbrev some {sp : Space} {S : Shape} {e : EltTy} (m : Memref sig .tc sp S e) : sProp 𝕄 := iprop(∃ X, owns (c : Thread nD τ) m fullShare X)

/-- What is held has the buffer in it, at some contents, and takes it back at any. -/
def Has (O : sProp 𝕄) {sp : Space} {S : Shape} {e : EltTy} (m : Memref sig .tc sp S e) : Prop := O ⊢ iprop(some c m ∗ (some c m -∗ O))

variable {c}

theorem Has.left {A B : sProp 𝕄} {sp : Space} {S : Shape} {e : EltTy} {m : Memref sig .tc sp S e} (h : Has c A m) : Has c iprop(A ∗ B) m := by
  unfold Has at *; iintro ⟨HA, HB⟩
  ihave H := h $$ HA
  icases H with ⟨H, K⟩
  isplitl [H]; · iexact H
  iintro H; isplitl [H K]; · iapply K; iexact H
  iexact HB

theorem Has.right {A B : sProp 𝕄} {sp : Space} {S : Shape} {e : EltTy} {m : Memref sig .tc sp S e} (h : Has c B m) : Has c iprop(A ∗ B) m := by
  unfold Has at *; iintro ⟨HA, HB⟩
  ihave H := h $$ HB
  icases H with ⟨H, K⟩
  isplitl [H]; · iexact H
  iintro H; isplitl [HA]; · iexact HA
  iapply K; iexact H

/-- A program that gives back what it holds. -/
def Ok (O : sProp 𝕄) {α : Type} (p : Prog (TpuEff nD τ sig Val Λ .tc) α) : Prop :=
  O ⊢ wp frame (wpE defs 𝒱 (c : Thread nD τ) none) Set.univ p fun _ => O

variable {defs 𝒱}
variable {α β : Type}

theorem Ok.pure {O : sProp 𝕄} (a : α) : Ok defs 𝒱 (c := c) O (Pure.pure a : Prog (TpuEff nD τ sig Val Λ .tc) α) := by
  show O ⊢ wp frame (wpE defs 𝒱 (c : Thread nD τ) none) Set.univ (Prog.ret a) fun _ => O
  iintro H
  rw [wp_ret]; imodintro; iexact H

theorem Ok.bind {O : sProp 𝕄} {p : Prog (TpuEff nD τ sig Val Λ .tc) α} {k : α → Prog (TpuEff nD τ sig Val Λ .tc) β} (hp : Ok defs 𝒱 (c := c) O p)
    (hk : ∀ a, Ok defs 𝒱 (c := c) O (k a)) : Ok defs 𝒱 (c := c) O (p >>= k) := by
  unfold Ok at *
  rw [wp_bind]
  iintro H
  iapply (wp_wand_r frame _ Set.univ)
  isplitl [H]; · iapply hp; iexact H
  iintro %a H; iapply (hk a); iexact H

theorem Ok.load {O : sProp 𝕄} {sp : CoreSpace} {S : Shape} {e : EltTy} {m : Memref sig .tc sp S e} {r : LoadRect S} {hl : m.view.LoadsAt r} (h : Has c O m) :
    Ok defs 𝒱 (c := c) O (Prog.lift (.load m r hl) : Prog (TpuEff nD τ sig Val Λ .tc) _) := by
  unfold Ok Has some owns at *
  show O ⊢ wp frame (wpE defs 𝒱 (c : Thread nD τ) none) Set.univ (Prog.op (TpuEff.load m r hl) Prog.ret) fun _ => O
  iintro H
  ihave H := h $$ H
  icases H with ⟨⟨%X, %f, %hf, H⟩, K⟩
  iapply (wp_load 𝒱 (c : Thread nD τ) none Set.univ (m.view.setOn_subset_set _)) $$ H
  iintro H
  rw [wp_ret]; imodintro
  iapply K
  iexists X; iexists f; isplitr; · ipureintro; exact hf
  iexact H

theorem Ok.store {O : sProp 𝕄} {sp : CoreSpace} {S : Shape} {e : EltTy} {m : Memref sig .tc sp S e} {r : Rect S} {w : r.shape.Idx → Val e} {Mk : Finset r.shape.Idx}
    {hx : (m.access r).Stores Mk} {hm : Mk = Finset.univ ∨ ∀ a, r.stride a = 1} (h : Has c O m) :
    Ok defs 𝒱 (c := c) O (Prog.lift (.store m r w Mk hx hm) : Prog (TpuEff nD τ sig Val Λ .tc) _) := by
  unfold Ok Has some owns at *
  show O ⊢ wp frame (wpE defs 𝒱 (c : Thread nD τ) none) Set.univ (Prog.op (TpuEff.store m r w Mk hx hm) Prog.ret) fun _ => O
  iintro H
  ihave H := h $$ H
  icases H with ⟨⟨%X, %f, %hf, H⟩, K⟩
  iapply (wp_store 𝒱 (c : Thread nD τ) none Set.univ (f := f) (S := m.view.set) ((m.view.slice r).setOn_subset_set Mk |>.trans (by rw [View.set_slice]; exact m.view.setOn_subset_set _))) $$ H
  iintro H
  rw [wp_ret]; imodintro
  iapply K
  iexists _; iexists ((m.access r).write Val f w Mk); isplitr; · ipureintro; rfl
  iexact H

theorem Ok.loop {O : sProp 𝕄} {w : ℕ} {σ : Type} {l : Scf.Loop w} {hok : l.OK} {init : σ} {body : Fin l.trips → σ → Prog (TpuEff nD τ sig Val Λ .tc) σ}
    (h : ∀ k a, Ok defs 𝒱 (c := c) O (body k a)) : Ok defs 𝒱 (c := c) O (Scf.Loop.for l hok init body) := by
  unfold Ok at *
  have h' := Scf.wp_for frame (wpE defs 𝒱 (c : Thread nD τ) none) Set.univ l.lb l.ub l.st hok init body (fun _ _ => O) h (Q := fun _ => O)
  iintro H
  iapply h'
  isplitl [H]; · iexact H
  iintro %a H; iexact H

theorem Has.mem {I : Type} [DecidableEq I] {s : Finset I} {f : I → sProp 𝕄} {i : I} {sp : Space} {S : Shape} {e : EltTy} {m : Memref sig .tc sp S e}
    (hi : i ∈ s) (h : f i = some c m) : Has c (bigSep s f) m := by
  unfold Has
  rw [show bigSep s f = iprop(some c m ∗ bigSep (s.erase i) f) from by rw [bigSep_erase hi, h]; rfl]
  iintro ⟨H, K⟩; isplitl [H]; · iexact H
  iintro H; isplitl [H] <;> iassumption

/-! ## A program of one call between host operations -/

open Pipeline (Cfg RDat ΦA arrRef)

variable {Λ₀ : Labels} {cfg : Cfg sig Λ₀} {defs₀ : Defs nD τ sig Val Λ₀} {𝒱₀ : Variants}

/-- What a body is handed at a point: its scratch and every window's buffer. -/
abbrev hands (cfg : Cfg sig Λ₀) (c : Dev nD) (t : Fin cfg.N) : sProp 𝕄 :=
  iprop(ΦA cfg.spec c ∗ bigSep Finset.univ fun w => some c ((cfg.win w).stage (cfg.slots t w)))

theorem Has.scratch {t : Fin cfg.N} (b : Ref sig .tc) (h : b.isScoped = true) (hb : ∀ w, Pipeline.stageRef cfg.spec w ≠ b) :
    Has c (hands (τ := τ) (Val := Val) cfg c t) (Memref.whole b) :=
  .left (by
    unfold ΦA Pipeline.scopedRest
    refine .left (.mem (i := b) (Finset.mem_sdiff.mpr ⟨Finset.mem_filter.mpr ⟨Finset.mem_univ b, h⟩, fun hm => ?_⟩) ?_)
    · obtain ⟨w, -, e⟩ := Finset.mem_image.mp hm; exact hb w e
    simp only [some, owns_whole])
theorem Has.stage {t : Fin cfg.N} (w : Fin cfg.W) : Has c (hands (τ := τ) (Val := Val) cfg c t) ((cfg.win w).stage (cfg.slots t w)) :=
  .right (.mem (Finset.mem_univ w) rfl)

/-- The call's arrays at entry; of what it leaves nothing is said. -/
def rdat (cfg : Cfg sig Λ₀) (V : (c : Dev nD) → (b : Ref sig .tc) → Buf Val ((c : Thread nD τ).loc b)) (c : Dev nD) :
    RDat τ Val Unit ℕ (UR sig nD τ) ℕ cfg c where
  A w := V c (arrRef cfg.spec w)
  after _ _ _ _ := True
  Φ _ := ΦA cfg.spec c
  q _ := fullShare
  owed _ := 0

theorem obligation (V : (c : Dev nD) → (b : Ref sig .tc) → Buf Val ((c : Thread nD τ).loc b)) (c : Dev nD)
    (h : ∀ t, Ok defs₀ 𝒱₀ (c := c) (hands cfg c t) (defs₀ .tc cfg.body (cfg.bodyArgs t (cfg.slots t)))) :
    (rdat cfg V c).BodyObligation defs₀ 𝒱₀ () Set.univ := by
  intro t Y _
  have hY : (bigSep Finset.univ fun w => owns (c : Thread nD τ) ((cfg.win w).stage (cfg.slots t w)) fullShare (Y w) : sProp 𝕄)
      ⊢ bigSep Finset.univ fun w => some c ((cfg.win w).stage (cfg.slots t w)) :=
    bigSep_mono fun w _ => by
      show owns (c : Thread nD τ) ((cfg.win w).stage (cfg.slots t w)) fullShare (Y w) ⊢ some c ((cfg.win w).stage (cfg.slots t w))
      iintro H; iexists _; iexact H
  have hX : (bigSep Finset.univ fun w => some c ((cfg.win w).stage (cfg.slots t w)) : sProp 𝕄)
      ⊢ bigSep Finset.univ fun w => iprop(∃ X, ⌜(rdat cfg V c).after w t (Y w) X⌝ ∗ owns (c : Thread nD τ) ((cfg.win w).stage (cfg.slots t w)) fullShare X) :=
    bigSep_mono fun w _ => by
      show some c ((cfg.win w).stage (cfg.slots t w)) ⊢ iprop(∃ X, ⌜True⌝ ∗ owns (c : Thread nD τ) ((cfg.win w).stage (cfg.slots t w)) fullShare X)
      iintro ⟨%X, H⟩; iexists X; isplitr; · ipureintro; trivial
      iexact H
  show iprop(ΦA cfg.spec c ∗ (rdat cfg V c).owesAt () t.castSucc ∗ _) ⊢ wp _ _ _ _ fun _ => iprop(ΦA cfg.spec c ∗ (rdat cfg V c).owesAt () t.castSucc ∗ _)
  iintro ⟨HP, HO, HW⟩
  iapply (wp_wand_r frame _ Set.univ)
  isplitl [HP HW]
  · iapply (show (hands cfg c t : sProp 𝕄) ⊢ _ from h t); isplitl [HP]; · iexact HP
    iapply hY; iexact HW
  iintro %_ ⟨HP, HW⟩
  isplitl [HP]; · iexact HP
  isplitl [HO]; · iexact HO
  iapply hX; iexact HW

/-- Every argument ends as launched and every counter at zero. -/
theorem run [∀ e, Nonempty (Val e)] {P : Type} [Fintype P] [DecidableEq P] (cfgs : P → Cfg sig Λ₀) (p : P)
    (kit : Pipeline.LaunchFacts (nD := nD) (τ := τ) cfgs p) (m : (ℓ : Loc nD τ sig) → Buf Val ℓ) (ρ : Dev nD → PrngReg)
    (main : Dev nD → Prog (TpuEff nD τ sig Val (Pipeline.Sig Λ₀ P fun p => ((cfgs p).toPCfg (Val := Val)).Adm) .tc) PUnit)
    (pre : List (HloOp τ sig Val)) (post : List (List (HloOp τ sig Val)))
    (hmain : ∀ c, main c = Pipeline.chain ([pre].map StableHlo.seq ++ [Prog.lift (.customCall (Pipeline.entry p) ())] ++ post.map StableHlo.seq))
    (hsub : pre.Forall fun op => op.bufs ⊆ StableHlo.tcRefs τ sig) (hfresh : pre.Forall fun op => op.fresh = ∅)
    (psub : ∀ ops ∈ post, ops.Forall fun op => op.bufs ⊆ StableHlo.tcRefs τ sig) (pfresh : ∀ ops ∈ post, ops.Forall fun op => op.fresh = ∅)
    (pkeep : ∀ w, ∀ ops ∈ post, ops.Forall fun op => Proc.devRef (τ := τ) .tc (arrRef (cfgs p).spec w) ∉ op.writes)
    (A : List (Ref sig .tc)) (hpre : ∀ a ∈ A, pre.Forall fun op => Proc.devRef (τ := τ) .tc a ∉ op.writes)
    (hpost : ∀ a ∈ A, ∀ ops ∈ post, ops.Forall fun op => Proc.devRef (τ := τ) .tc a ∉ op.writes)
    (hA : ∀ a ∈ A, a.isScoped = false ∧ ∀ w, arrRef (cfgs p).spec w = a → ((cfgs p).win w).isOut = false)
    (h : ∀ c t, Ok defs₀ 𝒱₀ (c := c) (hands (cfgs p) c t) (defs₀ .tc (cfgs p).body ((cfgs p).bodyArgs t ((cfgs p).slots t)))) :
    θ_run (Pipeline.defs (fun q => (cfgs q).toPCfg (Val := Val)) defs₀) (onTc (τ := τ) main) ⟨m, fun _ => 0, ρ⟩ (fun r => (∀ c : Dev nD, ∀ a ∈ A,
      r.2.mem ((c : Thread nD τ).loc a) = m ((c : Thread nD τ).loc a)) ∧ r.2.sem = fun _ => 0) := by
  let V₀ : Dev nD → Valuation τ sig Val := fun c => StableHlo.after [pre].flatten fun b => m (c, b)
  have hV : ∀ c, ∀ a ∈ A, V₀ c (Proc.devRef .tc a) = m ((c : Thread nD τ).loc a) := fun c a ha => by
    show StableHlo.after [pre].flatten (fun b => m (c, b)) (Proc.devRef .tc a) = _
    rw [List.flatten_cons, List.flatten_nil, List.append_nil]
    exact StableHlo.after_of_forall_not_mem _ _ (List.forall_iff_forall_mem.mp (hpre a ha))
  let T : Finset (Ref sig .tc) := by classical exact Finset.univ.filter fun b => ∃ ops ∈ post, ∃ op ∈ ops, Proc.devRef (τ := τ) .tc b ∈ op.writes
  refine Pipeline.RDat.θ_run_frame_around_T cfgs p kit defs₀ 𝒱₀ (rdat (cfgs p) fun c b => V₀ c (Proc.devRef .tc b)) T m ρ main
    (fun c => obligation _ c (h c)) (fun c w => by unfold Pipeline.RDat.share; split <;> rfl) (fun _ _ => rfl) V₀ post
    (fun ops ho op h => by
      rw [Pipeline.tailRefs_none (cfgs p).spec kit.win.arr_unscoped]
      exact Pipeline.sub_ucRefs op (List.forall_iff_forall_mem.mp (psub ops ho) op h))
    (fun ops ho => List.forall_iff_forall_mem.mp (pfresh ops ho)) (fun ops ho op h w => List.forall_iff_forall_mem.mp (pkeep w ops ho) op h)
    (fun ops ho op h b hb => Finset.mem_filter.mpr ⟨Finset.mem_univ b, ops, ho, op, h, hb⟩)
    (Pipeline.hmain_around cfgs p defs₀ 𝒱₀ m main [pre] post (by simp only [List.Forall]; exact hsub) (by simp only [List.Forall]; exact hfresh) hmain)
    (fun _ _ => rfl) (fun _ _ => rfl) _ fun r h => ⟨fun c a ha => ?_, h.2⟩
  obtain ⟨hs, hin⟩ := hA a ha
  have hT : a ∉ T := fun h => by
    obtain ⟨-, ops, ho, op, h, hb⟩ := Finset.mem_filter.mp h
    exact List.forall_iff_forall_mem.mp (hpost a ha ops ho) op h hb
  by_cases hw : ∃ w, arrRef (cfgs p).spec w = a
  · obtain ⟨w, rfl⟩ := hw
    exact (h.1.arr_in c w (hin w rfl)).trans (hV c _ ha)
  · exact ((h.1 c).2 a (Finset.mem_sdiff.mpr ⟨Pipeline.mem_restRefs_of a hs fun w e => hw ⟨w, e⟩, hT⟩)).trans (hV c a ha)

end Cert.Proof.Loose

end
-- ==== Proof.ScanBwdFrame.lean ====
/-
  The gradient call of the recurrence, run: every buffer it is handed it gives back.
-/
module

public import proofs.«01_k».proof.Proof.Loose
public import proofs.«01_k».proof.Proof.Gen.Kernel10.Skeleton
public import proofs.«01_k».proof.Proof.Gen.Kernel10.Launch
public import proofs.«01_k».proof.Proof.Gen.Kernel10.Points

@[expose] public section

set_option maxRecDepth 65536

noncomputable section

namespace Cert.Kernel10.ScanBwd

open Cert.Kernel10 Gen Cert.Proof Loose
open Idealize.ShloMosaic TcCoe
open Idealize.SL RA BI BIBase Laws ProofMode Sem
open Rounds

variable {F : FTy → Type} [FloatOps F]

local notation "𝕄" => MT nD τ sig Unit (Elt F) ℕ (UR sig nD τ) ℕ

set_option maxHeartbeats 0 in
theorem body_ok (c : Dev nD) (t : Fin cfg0.N) (O : sProp 𝕄) (h0 : Has c O (st0_0 t)) (h1 : Has c O (st0_1 t)) (h2 : Has c O (st0_2 t)) (h3 : Has c O (st0_3 t)) (h4 : Has c O (st0_4 t)) (h5 : Has c O (st0_5 t)) (h6 : Has c O (st0_6 t)) (h7 : Has c O (st0_7 t)) (h8 : Has c O (st0_8 t)) (h9 : Has c O (st0_9 t)) (h10 : Has c O (st0_10 t)) (h11 : Has c O (st0_11 t)) (h12 : Has c O (st0_12 t)) (s0 : Has c O (Memref.whole cc0_scratch0)) (s1 : Has c O (Memref.whole cc0_scratch1)) (s2 : Has c O (Memref.whole cc0_scratch2)) :
    Ok (defs₀ (F := F)) Variants.none (c := c) O (bodyAt0 t) := by
  unfold bodyAt0
  rw [cc0_s5_bwd_eq_skeleton]; unfold cc0_s5_bwd_skel
  repeat' with_reducible first
    | exact Ok.pure _
    | exact Ok.load (by assumption)
    | exact Ok.store (by assumption)
    | refine Ok.bind ?_ fun _ => ?_
    | refine Ok.loop fun _ _ => ?_
    | (unfold k0_t1_body; dsimp only)
    | (unfold k0_t2_body; dsimp only)
    | rw [k0_part1_eq_skeleton, k0_part1_skel]
    | rw [k0_part2_eq_skeleton, k0_part2_skel]
    | rw [k0_part3_eq_skeleton, k0_part3_skel]
    | rw [k0_part4_eq_skeleton, k0_part4_skel]
    | rw [k0_part5_eq_skeleton, k0_part5_skel]
    | rw [k0_part6_eq_skeleton, k0_part6_skel]
    | rw [k0_part7_eq_skeleton, k0_part7_skel]
    | rw [k0_part8_eq_skeleton, k0_part8_skel]
    | rw [k0_part9_eq_skeleton, k0_part9_skel]
    | rw [k0_part10_eq_skeleton, k0_part10_skel]
    | rw [k0_part11_eq_skeleton, k0_part11_skel]
    | rw [k0_part12_eq_skeleton, k0_part12_skel]
    | rw [k0_part13_eq_skeleton, k0_part13_skel]
    | rw [k0_part14_eq_skeleton, k0_part14_skel]
    | rw [k0_part15_eq_skeleton, k0_part15_skel]
    | rw [k0_part16_eq_skeleton, k0_part16_skel]
    | rw [k0_part17_eq_skeleton, k0_part17_skel]
    | rw [k0_part18_eq_skeleton, k0_part18_skel]
    | rw [k0_part19_eq_skeleton, k0_part19_skel]
    | rw [k0_part20_eq_skeleton, k0_part20_skel]
    | rw [k0_part21_eq_skeleton, k0_part21_skel]
    | rw [k0_part22_eq_skeleton, k0_part22_skel]
    | rw [k0_part23_eq_skeleton, k0_part23_skel]
    | rw [k0_part24_eq_skeleton, k0_part24_skel]
    | rw [k0_part25_eq_skeleton, k0_part25_skel]
    | rw [k0_part26_eq_skeleton, k0_part26_skel]
    | rw [k0_part27_eq_skeleton, k0_part27_skel]
    | rw [k0_part28_eq_skeleton, k0_part28_skel]
    | rw [k0_part29_eq_skeleton, k0_part29_skel]
    | rw [k0_part30_eq_skeleton, k0_part30_skel]
    | rw [k0_part31_eq_skeleton, k0_part31_skel]
    | rw [k0_part32_eq_skeleton, k0_part32_skel]
    | rw [k0_part33_eq_skeleton, k0_part33_skel]
    | rw [k0_part34_eq_skeleton, k0_part34_skel]
    | rw [k0_part35_eq_skeleton, k0_part35_skel]
    | rw [k0_part36_eq_skeleton, k0_part36_skel]
    | rw [k0_part37_eq_skeleton, k0_part37_skel]
    | rw [k0_part38_eq_skeleton, k0_part38_skel]
    | rw [k0_part39_eq_skeleton, k0_part39_skel]
    | rw [k0_part40_eq_skeleton, k0_part40_skel]
    | rw [k0_part41_eq_skeleton, k0_part41_skel]
    | rw [k0_part42_eq_skeleton, k0_part42_skel]
    | rw [k0_part43_eq_skeleton, k0_part43_skel]
    | rw [k0_part44_eq_skeleton, k0_part44_skel]
    | rw [k0_part45_eq_skeleton, k0_part45_skel]
    | rw [k0_part46_eq_skeleton, k0_part46_skel]
    | rw [k0_part47_eq_skeleton, k0_part47_skel]
    | rw [k0_part48_eq_skeleton, k0_part48_skel]
    | rw [k0_part49_eq_skeleton, k0_part49_skel]
    | rw [k0_part50_eq_skeleton, k0_part50_skel]
    | (dsimp only)
    | split

theorem host_fresh : (hostOps0 : List (HloOp τ sig (Elt F))).Forall fun op => op.fresh = ∅ := by
  simp only [List.Forall]; repeat' constructor
theorem defs₀_row (t : Fin cfg0.N) : defs₀ (F := F) .tc cfg0.body (cfg0.bodyArgs t (cfg0.slots t)) = bodyAt0 t := by
  unfold defs₀; rw [Defs.onTc_tc]

abbrev argRefs : List (Ref sig .tc) := [main_arg0, main_arg1, main_arg2, main_arg3, main_arg4, main_arg5, main_arg6, main_arg7, main_arg8]
set_option maxHeartbeats 0 in
theorem host_args : ∀ a ∈ argRefs, (hostOps0 : List (HloOp τ sig (Elt F))).Forall fun op => Proc.devRef (τ := τ) .tc a ∉ op.writes := by
  simp only [List.Forall, StableHlo.nullary_writes, StableHlo.unary_writes, StableHlo.binary_writes, StableHlo.reshape_writes, StableHlo.nary_writes,
    Finset.mem_singleton]
  intro a ha
  fin_cases ha
  all_goals (repeat' apply And.intro) <;> exact StableHlo.devRef_ne_of_ne (by decide)

theorem post_fresh : (hostOps1 : List (HloOp τ sig (Elt F))).Forall fun op => op.fresh = ∅ := by
  simp only [List.Forall]; repeat' constructor
set_option maxHeartbeats 0 in
theorem post_args : ∀ a ∈ argRefs, (hostOps1 : List (HloOp τ sig (Elt F))).Forall fun op => Proc.devRef (τ := τ) .tc a ∉ op.writes := by
  simp only [List.Forall, StableHlo.nullary_writes, StableHlo.unary_writes, StableHlo.binary_writes, StableHlo.reshape_writes, StableHlo.nary_writes,
    Finset.mem_singleton]
  intro a ha
  fin_cases ha
  all_goals (repeat' apply And.intro) <;> exact StableHlo.devRef_ne_of_ne (by decide)
set_option maxHeartbeats 0 in
theorem post_keeps : ∀ w : Fin 13, (hostOps1 : List (HloOp τ sig (Elt F))).Forall fun op => Proc.devRef (τ := τ) .tc (Pipeline.arrRef spec0 w) ∉ op.writes := by
  simp only [List.Forall, StableHlo.nullary_writes, StableHlo.unary_writes, StableHlo.binary_writes, StableHlo.reshape_writes, StableHlo.nary_writes,
    Finset.mem_singleton]
  intro w
  fin_cases w
  all_goals (repeat' apply And.intro) <;> exact StableHlo.devRef_ne_of_ne (by decide)

variable (m : (ℓ : Loc nD τ sig) → Buf (Elt F) ℓ) (ρ : Dev nD → PrngReg)

theorem frame : θ_run defs (onTc (τ := τ) (main (F := F))) ⟨m, fun _ => 0, ρ⟩ (fun r => (∀ c : Dev nD, ∀ a ∈ argRefs,
      r.2.mem ((c : Thread nD τ).loc a) = m ((c : Thread nD τ).loc a)) ∧ r.2.sem = fun _ => 0) :=
  run (𝒱₀ := Variants.none) cfgs 0 launch0 m ρ main hostOps0 [hostOps1] main_chain hostOps0_sub host_fresh
    (List.forall_mem_singleton.mpr hostOps1_sub) (List.forall_mem_singleton.mpr post_fresh) (fun w => List.forall_mem_singleton.mpr (post_keeps w)) argRefs host_args
    (fun a h => List.forall_mem_singleton.mpr (post_args a h)) (by decide) fun c t => by
      show Ok defs₀ Variants.none (hands cfg0 c t) (defs₀ .tc cfg0.body (cfg0.bodyArgs t (cfg0.slots t)))
      rw [defs₀_row]
      exact body_ok c t _ (.stage 0) (.stage 1) (.stage 2) (.stage 3) (.stage 4) (.stage 5) (.stage 6) (.stage 7) (.stage 8) (.stage 9) (.stage 10) (.stage 11) (.stage 12)
        (.scratch _ (by decide) (by decide)) (.scratch _ (by decide) (by decide)) (.scratch _ (by decide) (by decide))

end Cert.Kernel10.ScanBwd

end
-- ==== Proof.ScanFrame.lean ====
/-
  The forward call of the recurrence, run: every buffer it is handed it gives back.
-/
module

public import proofs.«01_k».proof.Proof.Loose
public import proofs.«01_k».proof.Proof.Gen.Kernel11.Skeleton
public import proofs.«01_k».proof.Proof.Gen.Kernel11.Launch
public import proofs.«01_k».proof.Proof.Gen.Kernel11.Points

@[expose] public section

set_option maxRecDepth 65536

noncomputable section

namespace Cert.Kernel11.Scan

open Cert.Kernel11 Gen Cert.Proof Loose
open Idealize.ShloMosaic TcCoe
open Idealize.SL RA BI BIBase Laws ProofMode Sem
open Rounds

variable {F : FTy → Type} [FloatOps F]

local notation "𝕄" => MT nD τ sig Unit (Elt F) ℕ (UR sig nD τ) ℕ

set_option maxHeartbeats 0 in
theorem body_ok (c : Dev nD) (t : Fin cfg0.N) (O : sProp 𝕄) (h0 : Has c O (st0_0 t)) (h1 : Has c O (st0_1 t)) (h2 : Has c O (st0_2 t)) (h3 : Has c O (st0_3 t)) (h4 : Has c O (st0_4 t)) (h5 : Has c O (st0_5 t)) (h6 : Has c O (st0_6 t)) (s0 : Has c O (Memref.whole cc0_scratch0)) (s1 : Has c O (Memref.whole cc0_scratch1)) :
    Ok (defs₀ (F := F)) Variants.none (c := c) O (bodyAt0 t) := by
  unfold bodyAt0
  rw [cc0_s5_fwd_eq_skeleton]; unfold cc0_s5_fwd_skel
  repeat' with_reducible first
    | exact Ok.pure _
    | exact Ok.load (by assumption)
    | exact Ok.store (by assumption)
    | refine Ok.bind ?_ fun _ => ?_
    | refine Ok.loop fun _ _ => ?_
    | (unfold k0_t1_body; dsimp only)
    | rw [k0_part1_eq_skeleton, k0_part1_skel]
    | rw [k0_part2_eq_skeleton, k0_part2_skel]
    | rw [k0_part3_eq_skeleton, k0_part3_skel]
    | rw [k0_part4_eq_skeleton, k0_part4_skel]
    | rw [k0_part5_eq_skeleton, k0_part5_skel]
    | rw [k0_part6_eq_skeleton, k0_part6_skel]
    | rw [k0_part7_eq_skeleton, k0_part7_skel]
    | rw [k0_part8_eq_skeleton, k0_part8_skel]
    | rw [k0_part9_eq_skeleton, k0_part9_skel]
    | rw [k0_part10_eq_skeleton, k0_part10_skel]
    | rw [k0_part11_eq_skeleton, k0_part11_skel]
    | rw [k0_part12_eq_skeleton, k0_part12_skel]
    | rw [k0_part13_eq_skeleton, k0_part13_skel]
    | rw [k0_part14_eq_skeleton, k0_part14_skel]
    | rw [k0_part15_eq_skeleton, k0_part15_skel]
    | rw [k0_part16_eq_skeleton, k0_part16_skel]
    | rw [k0_part17_eq_skeleton, k0_part17_skel]
    | rw [k0_part18_eq_skeleton, k0_part18_skel]
    | rw [k0_part19_eq_skeleton, k0_part19_skel]
    | rw [k0_part20_eq_skeleton, k0_part20_skel]
    | rw [k0_part21_eq_skeleton, k0_part21_skel]
    | (dsimp only)
    | split

theorem host_fresh : (hostOps0 : List (HloOp τ sig (Elt F))).Forall fun op => op.fresh = ∅ := by
  simp only [List.Forall]; repeat' constructor
theorem defs₀_row (t : Fin cfg0.N) : defs₀ (F := F) .tc cfg0.body (cfg0.bodyArgs t (cfg0.slots t)) = bodyAt0 t := by
  unfold defs₀; rw [Defs.onTc_tc]

abbrev argRefs : List (Ref sig .tc) := [main_arg0, main_arg1, main_arg2, main_arg3, main_arg4, main_arg5, main_arg6]
set_option maxHeartbeats 0 in
theorem host_args : ∀ a ∈ argRefs, (hostOps0 : List (HloOp τ sig (Elt F))).Forall fun op => Proc.devRef (τ := τ) .tc a ∉ op.writes := by
  simp only [List.Forall, StableHlo.nullary_writes, StableHlo.unary_writes, StableHlo.binary_writes, StableHlo.reshape_writes, StableHlo.nary_writes,
    Finset.mem_singleton]
  intro a ha
  fin_cases ha
  all_goals (repeat' apply And.intro) <;> exact StableHlo.devRef_ne_of_ne (by decide)

variable (m : (ℓ : Loc nD τ sig) → Buf (Elt F) ℓ) (ρ : Dev nD → PrngReg)

theorem frame : θ_run defs (onTc (τ := τ) (main (F := F))) ⟨m, fun _ => 0, ρ⟩ (fun r => (∀ c : Dev nD, ∀ a ∈ argRefs,
      r.2.mem ((c : Thread nD τ).loc a) = m ((c : Thread nD τ).loc a)) ∧ r.2.sem = fun _ => 0) :=
  run (𝒱₀ := Variants.none) cfgs 0 launch0 m ρ main hostOps0 [] main_chain hostOps0_sub host_fresh (by simp)
    (by simp) (by simp) argRefs host_args (by simp) (by decide) fun c t => by
      show Ok defs₀ Variants.none (hands cfg0 c t) (defs₀ .tc cfg0.body (cfg0.bodyArgs t (cfg0.slots t)))
      rw [defs₀_row]
      exact body_ok c t _ (.stage 0) (.stage 1) (.stage 2) (.stage 3) (.stage 4) (.stage 5) (.stage 6)
        (.scratch _ (by decide) (by decide)) (.scratch _ (by decide) (by decide))

end Cert.Kernel11.Scan

end
-- ==== Proof.lean ====
/-
  The proof of `Cert.Claim`: the frames, and the values from the modules under Proof/, put together.
-/
module

public import proofs.«01_k».proof.Proof.PleClaims
public import proofs.«01_k».proof.Proof.Gen.Kernel2.Frame
public import proofs.«01_k».proof.Proof.LossClaims
public import proofs.«01_k».proof.Proof.Gen.Kernel3.Frame
public import proofs.«01_k».proof.Proof.AinClaims
public import proofs.«01_k».proof.Proof.Gen.Kernel4.Frame
public import proofs.«01_k».proof.Proof.BinClaims
public import proofs.«01_k».proof.Proof.Printed.AttnFrame
public import proofs.«01_k».proof.Proof.AttnClaims
public import proofs.«01_k».proof.Proof.Gen.Kernel6.Skeleton
public import proofs.«01_k».proof.Proof.Gen.Kernel6.Points
public import proofs.«01_k».proof.Proof.BoutPrinted
public import proofs.«01_k».proof.Proof.BoutClaims
public import proofs.«01_k».proof.Proof.Gen.Kernel7.Skeleton
public import proofs.«01_k».proof.Proof.Gen.Kernel7.Points
public import proofs.«01_k».proof.Proof.TailPrinted
public import proofs.«01_k».proof.Proof.TailClaims
public import proofs.«01_k».proof.Proof.Gen.Kernel8.Frame
public import proofs.«01_k».proof.Proof.AinFwdClaims
public import proofs.«01_k».proof.Proof.Gen.Kernel9.Frame
public import proofs.«01_k».proof.Proof.BinFwdClaims
public import proofs.«01_k».proof.Proof.ScanBwdFrame
public import proofs.«01_k».proof.Proof.ScanFrame

@[expose] public section

noncomputable section

namespace Cert.Proof

open Idealize.ShloMosaic TcCoe Idealize.SL.Sem

/-- A frame said of a list of arguments, said of each of them in turn. -/
theorem byName {nD : ℕ} {τ : Topo} {sig : RefSig} {Val : EltTy → Type} {Λ : Labels} {defs : Defs nD τ sig Val Λ}
    {p : (c : Thread nD τ) → Prog (TpuEff nD τ sig Val Λ c.2) PUnit} {s : MemSt nD τ sig Val} {l : List (Ref sig .tc)}
    {m : (ℓ : Loc nD τ sig) → Buf Val ℓ} (h : θ_run defs p s (fun r => (∀ c : Dev nD, ∀ a ∈ l,
      r.2.mem ((c : Thread nD τ).loc a) = m ((c : Thread nD τ).loc a)) ∧ r.2.sem = fun _ => 0)) :
    θ_run defs p s (fun r => (∀ c : Dev nD, l.Forall fun a =>
      r.2.mem ((c : Thread nD τ).loc a) = m ((c : Thread nD τ).loc a)) ∧ r.2.sem = fun _ => 0) :=
  (θ_run defs p s).mono (fun _ h => ⟨fun c => List.forall_iff_forall_mem.2 (h.1 c), h.2⟩) h

/-! The references' frames: each host run read at the arguments; a reference declares no semaphore. -/

theorem frame_r : quiescent_ReferenceIdeal := fun m ρ _ =>
  (θ_run ReferenceIdeal.defs _ _).mono (fun r h => ⟨fun c => (h c).2.2.2.2, sem_eq_zero_of_no_sems (by decide) r.2⟩)
    (ReferenceIdeal.Value.run (F := Ideal) m ρ)

theorem frame_r2 : quiescent_Reference2Ideal := fun m ρ _ =>
  (θ_run Reference2Ideal.defs _ _).mono (fun r h => ⟨fun c => (h c).2.2.2.2, sem_eq_zero_of_no_sems (by decide) r.2⟩)
    (Reference2Ideal.Value.run (F := Ideal) m ρ)

theorem frame_r3 : quiescent_Reference3Ideal := fun m ρ _ =>
  (θ_run Reference3Ideal.defs _ _).mono (fun r h => ⟨fun c => (h c).2.2, sem_eq_zero_of_no_sems (by decide) r.2⟩)
    (Reference3Ideal.Value.run (F := Ideal) m ρ)

theorem frame_r4 : quiescent_Reference4Ideal := fun m ρ _ =>
  (θ_run Reference4Ideal.defs _ _).mono (fun r h => ⟨fun c => (h c).2.2.2, sem_eq_zero_of_no_sems (by decide) r.2⟩)
    (Reference4Ideal.Value.run (F := Ideal) m ρ)

theorem frame_r5 : quiescent_Reference5Ideal := fun m ρ _ =>
  (θ_run Reference5Ideal.defs _ _).mono (fun r h => ⟨fun c => (h c).2.2.2.2, sem_eq_zero_of_no_sems (by decide) r.2⟩)
    (Reference5Ideal.Value.run (F := Ideal) m ρ)

theorem frame_r6 : quiescent_Reference6Ideal := fun m ρ _ =>
  (θ_run Reference6Ideal.defs _ _).mono (fun r h => ⟨fun c => (h c).2.2.2.2.2.2, sem_eq_zero_of_no_sems (by decide) r.2⟩)
    (Reference6Ideal.Value.run (F := Ideal) m ρ)

theorem frame_r7 : quiescent_Reference7Ideal := fun m ρ _ =>
  (θ_run Reference7Ideal.defs _ _).mono (fun r h => ⟨fun c => (h c).2.2.2.2.2.2.2.2.2.2.2.2, sem_eq_zero_of_no_sems (by decide) r.2⟩)
    (Reference7Ideal.Value.run (F := Ideal) m ρ)

theorem frame_r8 : quiescent_Reference8Ideal := fun m ρ _ =>
  (θ_run Reference8Ideal.defs _ _).mono (fun r h => ⟨fun c => (h c).2.2.2, sem_eq_zero_of_no_sems (by decide) r.2⟩)
    (Reference8Ideal.Value.run (F := Ideal) m ρ)

theorem frame_r9 : quiescent_Reference9Ideal := fun m ρ _ =>
  (θ_run Reference9Ideal.defs _ _).mono (fun r h => ⟨fun c => (h c).2.2.2.2.2.2, sem_eq_zero_of_no_sems (by decide) r.2⟩)
    (Reference9Ideal.Value.run (F := Ideal) m ρ)

theorem claim : Cert.Claim := ⟨Kernel.Gen.facts, KernelIdeal.Gen.facts, ReferenceIdeal.Gen.facts, Kernel2.Gen.facts, Kernel2Ideal.Gen.facts, Reference2Ideal.Gen.facts, Kernel3.Gen.facts, Kernel3Ideal.Gen.facts, Reference3Ideal.Gen.facts, Kernel4.Gen.facts, Kernel4Ideal.Gen.facts, Reference4Ideal.Gen.facts, Kernel5.Gen.facts, Kernel5Ideal.Gen.facts, Reference5Ideal.Gen.facts, Kernel6.Gen.facts, Kernel6Ideal.Gen.facts, Reference6Ideal.Gen.facts, Kernel7.Gen.facts, Kernel7Ideal.Gen.facts, Reference7Ideal.Gen.facts, Kernel8.Gen.facts, Kernel8Ideal.Gen.facts, Reference8Ideal.Gen.facts, Kernel9.Gen.facts, Kernel9Ideal.Gen.facts, Reference9Ideal.Gen.facts, Kernel10.Gen.facts, Kernel11.Gen.facts, Pre_all_finite.Gen.facts,
  fun m ρ _ => Kernel.Gen.frame m ρ,
  fun m ρ _ => KernelIdeal.Gen.frame m ρ,
  frame_r,
  fun m ρ _ => Kernel2.Gen.frame m ρ,
  fun m ρ _ => Kernel2Ideal.Gen.frame m ρ,
  frame_r2,
  fun m ρ _ => Kernel3.Gen.frame m ρ,
  fun m ρ _ => Kernel3Ideal.Gen.frame m ρ,
  frame_r3,
  fun m ρ _ => Kernel4.Gen.frame m ρ,
  fun m ρ _ => Kernel4Ideal.Gen.frame m ρ,
  frame_r4,
  fun m ρ _ => (byName (Kernel5.Attn.frame m ρ) :),
  fun m ρ _ => (byName (Kernel5Ideal.Attn.frame m ρ) :),
  fun m ρ _ => (byName (Kernel5Ideal.Attn.frame m ρ) :),
  frame_r5,
  fun m ρ _ => frame_r5 m ρ trivial,
  fun m ρ _ => (byName (Kernel6.Bout.frame m ρ) :),
  fun m ρ _ => (byName (Kernel6Ideal.Bout.frame m ρ) :),
  frame_r6,
  fun m ρ _ => (byName (Kernel7.Tail.frame m ρ) :),
  fun m ρ _ => (byName (Kernel7Ideal.Tail.frame m ρ) :),
  frame_r7,
  fun m ρ _ => Kernel8.Gen.frame m ρ,
  fun m ρ _ => Kernel8Ideal.Gen.frame m ρ,
  frame_r8,
  fun m ρ _ => Kernel9.Gen.frame m ρ,
  fun m ρ _ => Kernel9Ideal.Gen.frame m ρ,
  frame_r9,
  fun m ρ _ => (byName (Kernel10.ScanBwd.frame m ρ) :),
  fun m ρ _ => (byName (Kernel11.Scan.frame m ρ) :),
  trivial,
  Ple.algebraic,
  trivial,
  Loss.algebraic,
  trivial,
  Ain.algebraic,
  trivial,
  Bin.algebraic,
  IdealRules.named_const.statement _ _ _ _ _ rfl,
  Attn.algebraic,
  trivial,
  Bout.algebraic,
  trivial,
  Tail.algebraic,
  trivial,
  AinFwd.algebraic,
  trivial,
  BinFwd.algebraic⟩

end Cert.Proof

end
